-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_AQkvFwd (m : (ℓ : Loc Cert.AQkvFwd.nD Cert.AQkvFwd.τ Cert.AQkvFwd.sig) → Buf (Elt Bits) ℓ) : Prop :=
  True

def Pre_AQkvFwdIdeal (m : (ℓ : Loc Cert.AQkvFwdIdeal.nD Cert.AQkvFwdIdeal.τ Cert.AQkvFwdIdeal.sig) → Buf (Elt Ideal) ℓ) : Prop :=
  True

def Pre_AQkvFwdRefIdeal (m : (ℓ : Loc Cert.AQkvFwdRefIdeal.nD Cert.AQkvFwdRefIdeal.τ Cert.AQkvFwdRefIdeal.sig) → Buf (Elt Ideal) ℓ) : Prop :=
  True

def Pre_AWoFwd (m : (ℓ : Loc Cert.AWoFwd.nD Cert.AWoFwd.τ Cert.AWoFwd.sig) → Buf (Elt Bits) ℓ) : Prop :=
  True

def Pre_AWoFwdIdeal (m : (ℓ : Loc Cert.AWoFwdIdeal.nD Cert.AWoFwdIdeal.τ Cert.AWoFwdIdeal.sig) → Buf (Elt Ideal) ℓ) : Prop :=
  True

def Pre_AWoFwdRefIdeal (m : (ℓ : Loc Cert.AWoFwdRefIdeal.nD Cert.AWoFwdRefIdeal.τ Cert.AWoFwdRefIdeal.sig) → Buf (Elt Ideal) ℓ) : Prop :=
  True

def Pre_AWoDx (m : (ℓ : Loc Cert.AWoDx.nD Cert.AWoDx.τ Cert.AWoDx.sig) → Buf (Elt Bits) ℓ) : Prop :=
  True

def Pre_AWoDxIdeal (m : (ℓ : Loc Cert.AWoDxIdeal.nD Cert.AWoDxIdeal.τ Cert.AWoDxIdeal.sig) → Buf (Elt Ideal) ℓ) : Prop :=
  True

def Pre_AWoDxRefIdeal (m : (ℓ : Loc Cert.AWoDxRefIdeal.nD Cert.AWoDxRefIdeal.τ Cert.AWoDxRefIdeal.sig) → Buf (Elt Ideal) ℓ) : Prop :=
  True

def Pre_AWoDw (m : (ℓ : Loc Cert.AWoDw.nD Cert.AWoDw.τ Cert.AWoDw.sig) → Buf (Elt Bits) ℓ) : Prop :=
  True

def Pre_AWoDwIdeal (m : (ℓ : Loc Cert.AWoDwIdeal.nD Cert.AWoDwIdeal.τ Cert.AWoDwIdeal.sig) → Buf (Elt Ideal) ℓ) : Prop :=
  True

def Pre_AWoDwRefIdeal (m : (ℓ : Loc Cert.AWoDwRefIdeal.nD Cert.AWoDwRefIdeal.τ Cert.AWoDwRefIdeal.sig) → Buf (Elt Ideal) ℓ) : Prop :=
  True

def Pre_AQkvDx (m : (ℓ : Loc Cert.AQkvDx.nD Cert.AQkvDx.τ Cert.AQkvDx.sig) → Buf (Elt Bits) ℓ) : Prop :=
  True

def Pre_AQkvDxIdeal (m : (ℓ : Loc Cert.AQkvDxIdeal.nD Cert.AQkvDxIdeal.τ Cert.AQkvDxIdeal.sig) → Buf (Elt Ideal) ℓ) : Prop :=
  True

def Pre_AQkvDxRefIdeal (m : (ℓ : Loc Cert.AQkvDxRefIdeal.nD Cert.AQkvDxRefIdeal.τ Cert.AQkvDxRefIdeal.sig) → Buf (Elt Ideal) ℓ) : Prop :=
  True

def Pre_AQkvDw (m : (ℓ : Loc Cert.AQkvDw.nD Cert.AQkvDw.τ Cert.AQkvDw.sig) → Buf (Elt Bits) ℓ) : Prop :=
  True

def Pre_AQkvDwIdeal (m : (ℓ : Loc Cert.AQkvDwIdeal.nD Cert.AQkvDwIdeal.τ Cert.AQkvDwIdeal.sig) → Buf (Elt Ideal) ℓ) : Prop :=
  True

def Pre_AQkvDwRefIdeal (m : (ℓ : Loc Cert.AQkvDwRefIdeal.nD Cert.AQkvDwRefIdeal.τ Cert.AQkvDwRefIdeal.sig) → Buf (Elt Ideal) ℓ) : Prop :=
  True

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdRefIdeal (m : (ℓ : Loc Cert.KvFwdRefIdeal.nD Cert.KvFwdRefIdeal.τ Cert.KvFwdRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_BQFwd (m : (ℓ : Loc Cert.BQFwd.nD Cert.BQFwd.τ Cert.BQFwd.sig) → Buf (Elt Bits) ℓ) : Prop :=
  True

def Pre_BQFwdIdeal (m : (ℓ : Loc Cert.BQFwdIdeal.nD Cert.BQFwdIdeal.τ Cert.BQFwdIdeal.sig) → Buf (Elt Ideal) ℓ) : Prop :=
  True

def Pre_BQFwdRefIdeal (m : (ℓ : Loc Cert.BQFwdRefIdeal.nD Cert.BQFwdRefIdeal.τ Cert.BQFwdRefIdeal.sig) → Buf (Elt Ideal) ℓ) : Prop :=
  True

def Pre_BQDx (m : (ℓ : Loc Cert.BQDx.nD Cert.BQDx.τ Cert.BQDx.sig) → Buf (Elt Bits) ℓ) : Prop :=
  True

def Pre_BQDxIdeal (m : (ℓ : Loc Cert.BQDxIdeal.nD Cert.BQDxIdeal.τ Cert.BQDxIdeal.sig) → Buf (Elt Ideal) ℓ) : Prop :=
  True

def Pre_BQDxRefIdeal (m : (ℓ : Loc Cert.BQDxRefIdeal.nD Cert.BQDxRefIdeal.τ Cert.BQDxRefIdeal.sig) → Buf (Elt Ideal) ℓ) : Prop :=
  True

def Pre_BWoFwd (m : (ℓ : Loc Cert.BWoFwd.nD Cert.BWoFwd.τ Cert.BWoFwd.sig) → Buf (Elt Bits) ℓ) : Prop :=
  True

def Pre_BWoFwdIdeal (m : (ℓ : Loc Cert.BWoFwdIdeal.nD Cert.BWoFwdIdeal.τ Cert.BWoFwdIdeal.sig) → Buf (Elt Ideal) ℓ) : Prop :=
  True

def Pre_BWoFwdRefIdeal (m : (ℓ : Loc Cert.BWoFwdRefIdeal.nD Cert.BWoFwdRefIdeal.τ Cert.BWoFwdRefIdeal.sig) → Buf (Elt Ideal) ℓ) : Prop :=
  True

def Pre_AdamwANorm (m : (ℓ : Loc Cert.AdamwANorm.nD Cert.AdamwANorm.τ Cert.AdamwANorm.sig) → Buf (Elt Bits) ℓ) : Prop :=
  True

def Pre_AdamwANormIdeal (m : (ℓ : Loc Cert.AdamwANormIdeal.nD Cert.AdamwANormIdeal.τ Cert.AdamwANormIdeal.sig) → Buf (Elt Ideal) ℓ) : Prop :=
  True

def Pre_AdamwANormRefIdeal (m : (ℓ : Loc Cert.AdamwANormRefIdeal.nD Cert.AdamwANormRefIdeal.τ Cert.AdamwANormRefIdeal.sig) → Buf (Elt Ideal) ℓ) : Prop :=
  True

def Pre_AdamwBW [hPre_chip_b_w : Cert.Pre_chip_b_w.Facts] (m : (ℓ : Loc Cert.AdamwBW.nD Cert.AdamwBW.τ Cert.AdamwBW.sig) → Buf (Elt Bits) ℓ) : Prop :=
  ∀ c : Dev Cert.AdamwBW.nD,
    (Cert.Pre_chip_b_w.fn (F := Bits) (m ((c.tc : Thread Cert.AdamwBW.nD Cert.AdamwBW.τ).loc Cert.AdamwBW.main_arg0)) (m ((c.tc : Thread Cert.AdamwBW.nD Cert.AdamwBW.τ).loc Cert.AdamwBW.main_arg1)) (m ((c.tc : Thread Cert.AdamwBW.nD Cert.AdamwBW.τ).loc Cert.AdamwBW.main_arg2)) (m ((c.tc : Thread Cert.AdamwBW.nD Cert.AdamwBW.τ).loc Cert.AdamwBW.main_arg3)) (m ((c.tc : Thread Cert.AdamwBW.nD Cert.AdamwBW.τ).loc Cert.AdamwBW.main_arg4)) (m ((c.tc : Thread Cert.AdamwBW.nD Cert.AdamwBW.τ).loc Cert.AdamwBW.main_arg5))) = (fun _ => 1#1)

def Pre_AdamwBWIdeal [hPre_chip_b_w : Cert.Pre_chip_b_w.Facts] (m : (ℓ : Loc Cert.AdamwBWIdeal.nD Cert.AdamwBWIdeal.τ Cert.AdamwBWIdeal.sig) → Buf (Elt Ideal) ℓ) : Prop :=
  ∀ c : Dev Cert.AdamwBWIdeal.nD,
    (Cert.Pre_chip_b_w.fn (F := Ideal) (m ((c.tc : Thread Cert.AdamwBWIdeal.nD Cert.AdamwBWIdeal.τ).loc Cert.AdamwBWIdeal.main_arg0)) (m ((c.tc : Thread Cert.AdamwBWIdeal.nD Cert.AdamwBWIdeal.τ).loc Cert.AdamwBWIdeal.main_arg1)) (m ((c.tc : Thread Cert.AdamwBWIdeal.nD Cert.AdamwBWIdeal.τ).loc Cert.AdamwBWIdeal.main_arg2)) (m ((c.tc : Thread Cert.AdamwBWIdeal.nD Cert.AdamwBWIdeal.τ).loc Cert.AdamwBWIdeal.main_arg3)) (m ((c.tc : Thread Cert.AdamwBWIdeal.nD Cert.AdamwBWIdeal.τ).loc Cert.AdamwBWIdeal.main_arg4)) (m ((c.tc : Thread Cert.AdamwBWIdeal.nD Cert.AdamwBWIdeal.τ).loc Cert.AdamwBWIdeal.main_arg5))) = (fun _ => 1#1)

def Pre_AdamwBWRefIdeal (m : (ℓ : Loc Cert.AdamwBWRefIdeal.nD Cert.AdamwBWRefIdeal.τ Cert.AdamwBWRefIdeal.sig) → Buf (Elt Ideal) ℓ) : Prop :=
  True

def Pre_AdamwBWRefIdeal_chip_b_w [hPre_chip_b_w : Cert.Pre_chip_b_w.Facts] (m : (ℓ : Loc Cert.AdamwBWRefIdeal.nD Cert.AdamwBWRefIdeal.τ Cert.AdamwBWRefIdeal.sig) → Buf (Elt Ideal) ℓ) : Prop :=
  ∀ c : Dev Cert.AdamwBWRefIdeal.nD,
    (Cert.Pre_chip_b_w.fn (F := Ideal) (m ((c.tc : Thread Cert.AdamwBWRefIdeal.nD Cert.AdamwBWRefIdeal.τ).loc Cert.AdamwBWRefIdeal.main_arg0)) (m ((c.tc : Thread Cert.AdamwBWRefIdeal.nD Cert.AdamwBWRefIdeal.τ).loc Cert.AdamwBWRefIdeal.main_arg1)) (m ((c.tc : Thread Cert.AdamwBWRefIdeal.nD Cert.AdamwBWRefIdeal.τ).loc Cert.AdamwBWRefIdeal.main_arg2)) (m ((c.tc : Thread Cert.AdamwBWRefIdeal.nD Cert.AdamwBWRefIdeal.τ).loc Cert.AdamwBWRefIdeal.main_arg3)) (m ((c.tc : Thread Cert.AdamwBWRefIdeal.nD Cert.AdamwBWRefIdeal.τ).loc Cert.AdamwBWRefIdeal.main_arg4)) (m ((c.tc : Thread Cert.AdamwBWRefIdeal.nD Cert.AdamwBWRefIdeal.τ).loc Cert.AdamwBWRefIdeal.main_arg5))) = (fun _ => 1#1)

def Pre_AdamwKv [hPre_chip_w_kv : Cert.Pre_chip_w_kv.Facts] (m : (ℓ : Loc Cert.AdamwKv.nD Cert.AdamwKv.τ Cert.AdamwKv.sig) → Buf (Elt Bits) ℓ) : Prop :=
  ∀ c : Dev Cert.AdamwKv.nD,
    (Cert.Pre_chip_w_kv.fn (F := Bits) (m ((c.tc : Thread Cert.AdamwKv.nD Cert.AdamwKv.τ).loc Cert.AdamwKv.main_arg0)) (m ((c.tc : Thread Cert.AdamwKv.nD Cert.AdamwKv.τ).loc Cert.AdamwKv.main_arg1)) (m ((c.tc : Thread Cert.AdamwKv.nD Cert.AdamwKv.τ).loc Cert.AdamwKv.main_arg2)) (m ((c.tc : Thread Cert.AdamwKv.nD Cert.AdamwKv.τ).loc Cert.AdamwKv.main_arg3)) (m ((c.tc : Thread Cert.AdamwKv.nD Cert.AdamwKv.τ).loc Cert.AdamwKv.main_arg4)) (m ((c.tc : Thread Cert.AdamwKv.nD Cert.AdamwKv.τ).loc Cert.AdamwKv.main_arg5))) = (fun _ => 1#1)

def Pre_AdamwKvIdeal [hPre_chip_w_kv : Cert.Pre_chip_w_kv.Facts] (m : (ℓ : Loc Cert.AdamwKvIdeal.nD Cert.AdamwKvIdeal.τ Cert.AdamwKvIdeal.sig) → Buf (Elt Ideal) ℓ) : Prop :=
  ∀ c : Dev Cert.AdamwKvIdeal.nD,
    (Cert.Pre_chip_w_kv.fn (F := Ideal) (m ((c.tc : Thread Cert.AdamwKvIdeal.nD Cert.AdamwKvIdeal.τ).loc Cert.AdamwKvIdeal.main_arg0)) (m ((c.tc : Thread Cert.AdamwKvIdeal.nD Cert.AdamwKvIdeal.τ).loc Cert.AdamwKvIdeal.main_arg1)) (m ((c.tc : Thread Cert.AdamwKvIdeal.nD Cert.AdamwKvIdeal.τ).loc Cert.AdamwKvIdeal.main_arg2)) (m ((c.tc : Thread Cert.AdamwKvIdeal.nD Cert.AdamwKvIdeal.τ).loc Cert.AdamwKvIdeal.main_arg3)) (m ((c.tc : Thread Cert.AdamwKvIdeal.nD Cert.AdamwKvIdeal.τ).loc Cert.AdamwKvIdeal.main_arg4)) (m ((c.tc : Thread Cert.AdamwKvIdeal.nD Cert.AdamwKvIdeal.τ).loc Cert.AdamwKvIdeal.main_arg5))) = (fun _ => 1#1)

def Pre_AdamwKvRefIdeal (m : (ℓ : Loc Cert.AdamwKvRefIdeal.nD Cert.AdamwKvRefIdeal.τ Cert.AdamwKvRefIdeal.sig) → Buf (Elt Ideal) ℓ) : Prop :=
  True

def Pre_AdamwKvRefIdeal_chip_w_kv [hPre_chip_w_kv : Cert.Pre_chip_w_kv.Facts] (m : (ℓ : Loc Cert.AdamwKvRefIdeal.nD Cert.AdamwKvRefIdeal.τ Cert.AdamwKvRefIdeal.sig) → Buf (Elt Ideal) ℓ) : Prop :=
  ∀ c : Dev Cert.AdamwKvRefIdeal.nD,
    (Cert.Pre_chip_w_kv.fn (F := Ideal) (m ((c.tc : Thread Cert.AdamwKvRefIdeal.nD Cert.AdamwKvRefIdeal.τ).loc Cert.AdamwKvRefIdeal.main_arg0)) (m ((c.tc : Thread Cert.AdamwKvRefIdeal.nD Cert.AdamwKvRefIdeal.τ).loc Cert.AdamwKvRefIdeal.main_arg1)) (m ((c.tc : Thread Cert.AdamwKvRefIdeal.nD Cert.AdamwKvRefIdeal.τ).loc Cert.AdamwKvRefIdeal.main_arg2)) (m ((c.tc : Thread Cert.AdamwKvRefIdeal.nD Cert.AdamwKvRefIdeal.τ).loc Cert.AdamwKvRefIdeal.main_arg3)) (m ((c.tc : Thread Cert.AdamwKvRefIdeal.nD Cert.AdamwKvRefIdeal.τ).loc Cert.AdamwKvRefIdeal.main_arg4)) (m ((c.tc : Thread Cert.AdamwKvRefIdeal.nD Cert.AdamwKvRefIdeal.τ).loc Cert.AdamwKvRefIdeal.main_arg5))) = (fun _ => 1#1)

def Pre_AdamwUp [hPre_chip_mlp_up : Cert.Pre_chip_mlp_up.Facts] (m : (ℓ : Loc Cert.AdamwUp.nD Cert.AdamwUp.τ Cert.AdamwUp.sig) → Buf (Elt Bits) ℓ) : Prop :=
  ∀ c : Dev Cert.AdamwUp.nD,
    (Cert.Pre_chip_mlp_up.fn (F := Bits) (m ((c.tc : Thread Cert.AdamwUp.nD Cert.AdamwUp.τ).loc Cert.AdamwUp.main_arg0)) (m ((c.tc : Thread Cert.AdamwUp.nD Cert.AdamwUp.τ).loc Cert.AdamwUp.main_arg1)) (m ((c.tc : Thread Cert.AdamwUp.nD Cert.AdamwUp.τ).loc Cert.AdamwUp.main_arg2)) (m ((c.tc : Thread Cert.AdamwUp.nD Cert.AdamwUp.τ).loc Cert.AdamwUp.main_arg3)) (m ((c.tc : Thread Cert.AdamwUp.nD Cert.AdamwUp.τ).loc Cert.AdamwUp.main_arg4)) (m ((c.tc : Thread Cert.AdamwUp.nD Cert.AdamwUp.τ).loc Cert.AdamwUp.main_arg5)) (m ((c.tc : Thread Cert.AdamwUp.nD Cert.AdamwUp.τ).loc Cert.AdamwUp.main_arg6)) (m ((c.tc : Thread Cert.AdamwUp.nD Cert.AdamwUp.τ).loc Cert.AdamwUp.main_arg7)) (m ((c.tc : Thread Cert.AdamwUp.nD Cert.AdamwUp.τ).loc Cert.AdamwUp.main_arg8)) (m ((c.tc : Thread Cert.AdamwUp.nD Cert.AdamwUp.τ).loc Cert.AdamwUp.main_arg9))) = (fun _ => 1#1)

def Pre_AdamwUpIdeal [hPre_chip_mlp_up : Cert.Pre_chip_mlp_up.Facts] (m : (ℓ : Loc Cert.AdamwUpIdeal.nD Cert.AdamwUpIdeal.τ Cert.AdamwUpIdeal.sig) → Buf (Elt Ideal) ℓ) : Prop :=
  ∀ c : Dev Cert.AdamwUpIdeal.nD,
    (Cert.Pre_chip_mlp_up.fn (F := Ideal) (m ((c.tc : Thread Cert.AdamwUpIdeal.nD Cert.AdamwUpIdeal.τ).loc Cert.AdamwUpIdeal.main_arg0)) (m ((c.tc : Thread Cert.AdamwUpIdeal.nD Cert.AdamwUpIdeal.τ).loc Cert.AdamwUpIdeal.main_arg1)) (m ((c.tc : Thread Cert.AdamwUpIdeal.nD Cert.AdamwUpIdeal.τ).loc Cert.AdamwUpIdeal.main_arg2)) (m ((c.tc : Thread Cert.AdamwUpIdeal.nD Cert.AdamwUpIdeal.τ).loc Cert.AdamwUpIdeal.main_arg3)) (m ((c.tc : Thread Cert.AdamwUpIdeal.nD Cert.AdamwUpIdeal.τ).loc Cert.AdamwUpIdeal.main_arg4)) (m ((c.tc : Thread Cert.AdamwUpIdeal.nD Cert.AdamwUpIdeal.τ).loc Cert.AdamwUpIdeal.main_arg5)) (m ((c.tc : Thread Cert.AdamwUpIdeal.nD Cert.AdamwUpIdeal.τ).loc Cert.AdamwUpIdeal.main_arg6)) (m ((c.tc : Thread Cert.AdamwUpIdeal.nD Cert.AdamwUpIdeal.τ).loc Cert.AdamwUpIdeal.main_arg7)) (m ((c.tc : Thread Cert.AdamwUpIdeal.nD Cert.AdamwUpIdeal.τ).loc Cert.AdamwUpIdeal.main_arg8)) (m ((c.tc : Thread Cert.AdamwUpIdeal.nD Cert.AdamwUpIdeal.τ).loc Cert.AdamwUpIdeal.main_arg9))) = (fun _ => 1#1)

def Pre_AdamwUpRefIdeal (m : (ℓ : Loc Cert.AdamwUpRefIdeal.nD Cert.AdamwUpRefIdeal.τ Cert.AdamwUpRefIdeal.sig) → Buf (Elt Ideal) ℓ) : Prop :=
  True

def Pre_AdamwUpRefIdeal_chip_mlp_up [hPre_chip_mlp_up : Cert.Pre_chip_mlp_up.Facts] (m : (ℓ : Loc Cert.AdamwUpRefIdeal.nD Cert.AdamwUpRefIdeal.τ Cert.AdamwUpRefIdeal.sig) → Buf (Elt Ideal) ℓ) : Prop :=
  ∀ c : Dev Cert.AdamwUpRefIdeal.nD,
    (Cert.Pre_chip_mlp_up.fn (F := Ideal) (m ((c.tc : Thread Cert.AdamwUpRefIdeal.nD Cert.AdamwUpRefIdeal.τ).loc Cert.AdamwUpRefIdeal.main_arg0)) (m ((c.tc : Thread Cert.AdamwUpRefIdeal.nD Cert.AdamwUpRefIdeal.τ).loc Cert.AdamwUpRefIdeal.main_arg1)) (m ((c.tc : Thread Cert.AdamwUpRefIdeal.nD Cert.AdamwUpRefIdeal.τ).loc Cert.AdamwUpRefIdeal.main_arg2)) (m ((c.tc : Thread Cert.AdamwUpRefIdeal.nD Cert.AdamwUpRefIdeal.τ).loc Cert.AdamwUpRefIdeal.main_arg3)) (m ((c.tc : Thread Cert.AdamwUpRefIdeal.nD Cert.AdamwUpRefIdeal.τ).loc Cert.AdamwUpRefIdeal.main_arg4)) (m ((c.tc : Thread Cert.AdamwUpRefIdeal.nD Cert.AdamwUpRefIdeal.τ).loc Cert.AdamwUpRefIdeal.main_arg5)) (m ((c.tc : Thread Cert.AdamwUpRefIdeal.nD Cert.AdamwUpRefIdeal.τ).loc Cert.AdamwUpRefIdeal.main_arg6)) (m ((c.tc : Thread Cert.AdamwUpRefIdeal.nD Cert.AdamwUpRefIdeal.τ).loc Cert.AdamwUpRefIdeal.main_arg7)) (m ((c.tc : Thread Cert.AdamwUpRefIdeal.nD Cert.AdamwUpRefIdeal.τ).loc Cert.AdamwUpRefIdeal.main_arg8)) (m ((c.tc : Thread Cert.AdamwUpRefIdeal.nD Cert.AdamwUpRefIdeal.τ).loc Cert.AdamwUpRefIdeal.main_arg9))) = (fun _ => 1#1)

def Pre_AdamwDown [hPre_chip_mlp_down : Cert.Pre_chip_mlp_down.Facts] (m : (ℓ : Loc Cert.AdamwDown.nD Cert.AdamwDown.τ Cert.AdamwDown.sig) → Buf (Elt Bits) ℓ) : Prop :=
  ∀ c : Dev Cert.AdamwDown.nD,
    (Cert.Pre_chip_mlp_down.fn (F := Bits) (m ((c.tc : Thread Cert.AdamwDown.nD Cert.AdamwDown.τ).loc Cert.AdamwDown.main_arg0)) (m ((c.tc : Thread Cert.AdamwDown.nD Cert.AdamwDown.τ).loc Cert.AdamwDown.main_arg1)) (m ((c.tc : Thread Cert.AdamwDown.nD Cert.AdamwDown.τ).loc Cert.AdamwDown.main_arg2)) (m ((c.tc : Thread Cert.AdamwDown.nD Cert.AdamwDown.τ).loc Cert.AdamwDown.main_arg3)) (m ((c.tc : Thread Cert.AdamwDown.nD Cert.AdamwDown.τ).loc Cert.AdamwDown.main_arg4)) (m ((c.tc : Thread Cert.AdamwDown.nD Cert.AdamwDown.τ).loc Cert.AdamwDown.main_arg5)) (m ((c.tc : Thread Cert.AdamwDown.nD Cert.AdamwDown.τ).loc Cert.AdamwDown.main_arg6)) (m ((c.tc : Thread Cert.AdamwDown.nD Cert.AdamwDown.τ).loc Cert.AdamwDown.main_arg7)) (m ((c.tc : Thread Cert.AdamwDown.nD Cert.AdamwDown.τ).loc Cert.AdamwDown.main_arg8)) (m ((c.tc : Thread Cert.AdamwDown.nD Cert.AdamwDown.τ).loc Cert.AdamwDown.main_arg9))) = (fun _ => 1#1)

def Pre_AdamwDownIdeal [hPre_chip_mlp_down : Cert.Pre_chip_mlp_down.Facts] (m : (ℓ : Loc Cert.AdamwDownIdeal.nD Cert.AdamwDownIdeal.τ Cert.AdamwDownIdeal.sig) → Buf (Elt Ideal) ℓ) : Prop :=
  ∀ c : Dev Cert.AdamwDownIdeal.nD,
    (Cert.Pre_chip_mlp_down.fn (F := Ideal) (m ((c.tc : Thread Cert.AdamwDownIdeal.nD Cert.AdamwDownIdeal.τ).loc Cert.AdamwDownIdeal.main_arg0)) (m ((c.tc : Thread Cert.AdamwDownIdeal.nD Cert.AdamwDownIdeal.τ).loc Cert.AdamwDownIdeal.main_arg1)) (m ((c.tc : Thread Cert.AdamwDownIdeal.nD Cert.AdamwDownIdeal.τ).loc Cert.AdamwDownIdeal.main_arg2)) (m ((c.tc : Thread Cert.AdamwDownIdeal.nD Cert.AdamwDownIdeal.τ).loc Cert.AdamwDownIdeal.main_arg3)) (m ((c.tc : Thread Cert.AdamwDownIdeal.nD Cert.AdamwDownIdeal.τ).loc Cert.AdamwDownIdeal.main_arg4)) (m ((c.tc : Thread Cert.AdamwDownIdeal.nD Cert.AdamwDownIdeal.τ).loc Cert.AdamwDownIdeal.main_arg5)) (m ((c.tc : Thread Cert.AdamwDownIdeal.nD Cert.AdamwDownIdeal.τ).loc Cert.AdamwDownIdeal.main_arg6)) (m ((c.tc : Thread Cert.AdamwDownIdeal.nD Cert.AdamwDownIdeal.τ).loc Cert.AdamwDownIdeal.main_arg7)) (m ((c.tc : Thread Cert.AdamwDownIdeal.nD Cert.AdamwDownIdeal.τ).loc Cert.AdamwDownIdeal.main_arg8)) (m ((c.tc : Thread Cert.AdamwDownIdeal.nD Cert.AdamwDownIdeal.τ).loc Cert.AdamwDownIdeal.main_arg9))) = (fun _ => 1#1)

def Pre_AdamwDownRefIdeal (m : (ℓ : Loc Cert.AdamwDownRefIdeal.nD Cert.AdamwDownRefIdeal.τ Cert.AdamwDownRefIdeal.sig) → Buf (Elt Ideal) ℓ) : Prop :=
  True

def Pre_AdamwDownRefIdeal_chip_mlp_down [hPre_chip_mlp_down : Cert.Pre_chip_mlp_down.Facts] (m : (ℓ : Loc Cert.AdamwDownRefIdeal.nD Cert.AdamwDownRefIdeal.τ Cert.AdamwDownRefIdeal.sig) → Buf (Elt Ideal) ℓ) : Prop :=
  ∀ c : Dev Cert.AdamwDownRefIdeal.nD,
    (Cert.Pre_chip_mlp_down.fn (F := Ideal) (m ((c.tc : Thread Cert.AdamwDownRefIdeal.nD Cert.AdamwDownRefIdeal.τ).loc Cert.AdamwDownRefIdeal.main_arg0)) (m ((c.tc : Thread Cert.AdamwDownRefIdeal.nD Cert.AdamwDownRefIdeal.τ).loc Cert.AdamwDownRefIdeal.main_arg1)) (m ((c.tc : Thread Cert.AdamwDownRefIdeal.nD Cert.AdamwDownRefIdeal.τ).loc Cert.AdamwDownRefIdeal.main_arg2)) (m ((c.tc : Thread Cert.AdamwDownRefIdeal.nD Cert.AdamwDownRefIdeal.τ).loc Cert.AdamwDownRefIdeal.main_arg3)) (m ((c.tc : Thread Cert.AdamwDownRefIdeal.nD Cert.AdamwDownRefIdeal.τ).loc Cert.AdamwDownRefIdeal.main_arg4)) (m ((c.tc : Thread Cert.AdamwDownRefIdeal.nD Cert.AdamwDownRefIdeal.τ).loc Cert.AdamwDownRefIdeal.main_arg5)) (m ((c.tc : Thread Cert.AdamwDownRefIdeal.nD Cert.AdamwDownRefIdeal.τ).loc Cert.AdamwDownRefIdeal.main_arg6)) (m ((c.tc : Thread Cert.AdamwDownRefIdeal.nD Cert.AdamwDownRefIdeal.τ).loc Cert.AdamwDownRefIdeal.main_arg7)) (m ((c.tc : Thread Cert.AdamwDownRefIdeal.nD Cert.AdamwDownRefIdeal.τ).loc Cert.AdamwDownRefIdeal.main_arg8)) (m ((c.tc : Thread Cert.AdamwDownRefIdeal.nD Cert.AdamwDownRefIdeal.τ).loc Cert.AdamwDownRefIdeal.main_arg9))) = (fun _ => 1#1)

def Pre_AdamwAWo [hPre_chip_a_wo : Cert.Pre_chip_a_wo.Facts] (m : (ℓ : Loc Cert.AdamwAWo.nD Cert.AdamwAWo.τ Cert.AdamwAWo.sig) → Buf (Elt Bits) ℓ) : Prop :=
  ∀ c : Dev Cert.AdamwAWo.nD,
    (Cert.Pre_chip_a_wo.fn (F := Bits) (m ((c.tc : Thread Cert.AdamwAWo.nD Cert.AdamwAWo.τ).loc Cert.AdamwAWo.main_arg0)) (m ((c.tc : Thread Cert.AdamwAWo.nD Cert.AdamwAWo.τ).loc Cert.AdamwAWo.main_arg1)) (m ((c.tc : Thread Cert.AdamwAWo.nD Cert.AdamwAWo.τ).loc Cert.AdamwAWo.main_arg2)) (m ((c.tc : Thread Cert.AdamwAWo.nD Cert.AdamwAWo.τ).loc Cert.AdamwAWo.main_arg3)) (m ((c.tc : Thread Cert.AdamwAWo.nD Cert.AdamwAWo.τ).loc Cert.AdamwAWo.main_arg4)) (m ((c.tc : Thread Cert.AdamwAWo.nD Cert.AdamwAWo.τ).loc Cert.AdamwAWo.main_arg5)) (m ((c.tc : Thread Cert.AdamwAWo.nD Cert.AdamwAWo.τ).loc Cert.AdamwAWo.main_arg6)) (m ((c.tc : Thread Cert.AdamwAWo.nD Cert.AdamwAWo.τ).loc Cert.AdamwAWo.main_arg7)) (m ((c.tc : Thread Cert.AdamwAWo.nD Cert.AdamwAWo.τ).loc Cert.AdamwAWo.main_arg8)) (m ((c.tc : Thread Cert.AdamwAWo.nD Cert.AdamwAWo.τ).loc Cert.AdamwAWo.main_arg9))) = (fun _ => 1#1)

def Pre_AdamwAWoIdeal [hPre_chip_a_wo : Cert.Pre_chip_a_wo.Facts] (m : (ℓ : Loc Cert.AdamwAWoIdeal.nD Cert.AdamwAWoIdeal.τ Cert.AdamwAWoIdeal.sig) → Buf (Elt Ideal) ℓ) : Prop :=
  ∀ c : Dev Cert.AdamwAWoIdeal.nD,
    (Cert.Pre_chip_a_wo.fn (F := Ideal) (m ((c.tc : Thread Cert.AdamwAWoIdeal.nD Cert.AdamwAWoIdeal.τ).loc Cert.AdamwAWoIdeal.main_arg0)) (m ((c.tc : Thread Cert.AdamwAWoIdeal.nD Cert.AdamwAWoIdeal.τ).loc Cert.AdamwAWoIdeal.main_arg1)) (m ((c.tc : Thread Cert.AdamwAWoIdeal.nD Cert.AdamwAWoIdeal.τ).loc Cert.AdamwAWoIdeal.main_arg2)) (m ((c.tc : Thread Cert.AdamwAWoIdeal.nD Cert.AdamwAWoIdeal.τ).loc Cert.AdamwAWoIdeal.main_arg3)) (m ((c.tc : Thread Cert.AdamwAWoIdeal.nD Cert.AdamwAWoIdeal.τ).loc Cert.AdamwAWoIdeal.main_arg4)) (m ((c.tc : Thread Cert.AdamwAWoIdeal.nD Cert.AdamwAWoIdeal.τ).loc Cert.AdamwAWoIdeal.main_arg5)) (m ((c.tc : Thread Cert.AdamwAWoIdeal.nD Cert.AdamwAWoIdeal.τ).loc Cert.AdamwAWoIdeal.main_arg6)) (m ((c.tc : Thread Cert.AdamwAWoIdeal.nD Cert.AdamwAWoIdeal.τ).loc Cert.AdamwAWoIdeal.main_arg7)) (m ((c.tc : Thread Cert.AdamwAWoIdeal.nD Cert.AdamwAWoIdeal.τ).loc Cert.AdamwAWoIdeal.main_arg8)) (m ((c.tc : Thread Cert.AdamwAWoIdeal.nD Cert.AdamwAWoIdeal.τ).loc Cert.AdamwAWoIdeal.main_arg9))) = (fun _ => 1#1)

def Pre_AdamwAWoRefIdeal (m : (ℓ : Loc Cert.AdamwAWoRefIdeal.nD Cert.AdamwAWoRefIdeal.τ Cert.AdamwAWoRefIdeal.sig) → Buf (Elt Ideal) ℓ) : Prop :=
  True

def Pre_AdamwAWoRefIdeal_chip_a_wo [hPre_chip_a_wo : Cert.Pre_chip_a_wo.Facts] (m : (ℓ : Loc Cert.AdamwAWoRefIdeal.nD Cert.AdamwAWoRefIdeal.τ Cert.AdamwAWoRefIdeal.sig) → Buf (Elt Ideal) ℓ) : Prop :=
  ∀ c : Dev Cert.AdamwAWoRefIdeal.nD,
    (Cert.Pre_chip_a_wo.fn (F := Ideal) (m ((c.tc : Thread Cert.AdamwAWoRefIdeal.nD Cert.AdamwAWoRefIdeal.τ).loc Cert.AdamwAWoRefIdeal.main_arg0)) (m ((c.tc : Thread Cert.AdamwAWoRefIdeal.nD Cert.AdamwAWoRefIdeal.τ).loc Cert.AdamwAWoRefIdeal.main_arg1)) (m ((c.tc : Thread Cert.AdamwAWoRefIdeal.nD Cert.AdamwAWoRefIdeal.τ).loc Cert.AdamwAWoRefIdeal.main_arg2)) (m ((c.tc : Thread Cert.AdamwAWoRefIdeal.nD Cert.AdamwAWoRefIdeal.τ).loc Cert.AdamwAWoRefIdeal.main_arg3)) (m ((c.tc : Thread Cert.AdamwAWoRefIdeal.nD Cert.AdamwAWoRefIdeal.τ).loc Cert.AdamwAWoRefIdeal.main_arg4)) (m ((c.tc : Thread Cert.AdamwAWoRefIdeal.nD Cert.AdamwAWoRefIdeal.τ).loc Cert.AdamwAWoRefIdeal.main_arg5)) (m ((c.tc : Thread Cert.AdamwAWoRefIdeal.nD Cert.AdamwAWoRefIdeal.τ).loc Cert.AdamwAWoRefIdeal.main_arg6)) (m ((c.tc : Thread Cert.AdamwAWoRefIdeal.nD Cert.AdamwAWoRefIdeal.τ).loc Cert.AdamwAWoRefIdeal.main_arg7)) (m ((c.tc : Thread Cert.AdamwAWoRefIdeal.nD Cert.AdamwAWoRefIdeal.τ).loc Cert.AdamwAWoRefIdeal.main_arg8)) (m ((c.tc : Thread Cert.AdamwAWoRefIdeal.nD Cert.AdamwAWoRefIdeal.τ).loc Cert.AdamwAWoRefIdeal.main_arg9))) = (fun _ => 1#1)

def Pre_AdamwQkv [hPre_chip_a_wqkv : Cert.Pre_chip_a_wqkv.Facts] (m : (ℓ : Loc Cert.AdamwQkv.nD Cert.AdamwQkv.τ Cert.AdamwQkv.sig) → Buf (Elt Bits) ℓ) : Prop :=
  ∀ c : Dev Cert.AdamwQkv.nD,
    (Cert.Pre_chip_a_wqkv.fn (F := Bits) (m ((c.tc : Thread Cert.AdamwQkv.nD Cert.AdamwQkv.τ).loc Cert.AdamwQkv.main_arg0)) (m ((c.tc : Thread Cert.AdamwQkv.nD Cert.AdamwQkv.τ).loc Cert.AdamwQkv.main_arg1)) (m ((c.tc : Thread Cert.AdamwQkv.nD Cert.AdamwQkv.τ).loc Cert.AdamwQkv.main_arg2)) (m ((c.tc : Thread Cert.AdamwQkv.nD Cert.AdamwQkv.τ).loc Cert.AdamwQkv.main_arg3)) (m ((c.tc : Thread Cert.AdamwQkv.nD Cert.AdamwQkv.τ).loc Cert.AdamwQkv.main_arg4)) (m ((c.tc : Thread Cert.AdamwQkv.nD Cert.AdamwQkv.τ).loc Cert.AdamwQkv.main_arg5)) (m ((c.tc : Thread Cert.AdamwQkv.nD Cert.AdamwQkv.τ).loc Cert.AdamwQkv.main_arg6)) (m ((c.tc : Thread Cert.AdamwQkv.nD Cert.AdamwQkv.τ).loc Cert.AdamwQkv.main_arg7)) (m ((c.tc : Thread Cert.AdamwQkv.nD Cert.AdamwQkv.τ).loc Cert.AdamwQkv.main_arg8)) (m ((c.tc : Thread Cert.AdamwQkv.nD Cert.AdamwQkv.τ).loc Cert.AdamwQkv.main_arg9))) = (fun _ => 1#1)

def Pre_AdamwQkvIdeal [hPre_chip_a_wqkv : Cert.Pre_chip_a_wqkv.Facts] (m : (ℓ : Loc Cert.AdamwQkvIdeal.nD Cert.AdamwQkvIdeal.τ Cert.AdamwQkvIdeal.sig) → Buf (Elt Ideal) ℓ) : Prop :=
  ∀ c : Dev Cert.AdamwQkvIdeal.nD,
    (Cert.Pre_chip_a_wqkv.fn (F := Ideal) (m ((c.tc : Thread Cert.AdamwQkvIdeal.nD Cert.AdamwQkvIdeal.τ).loc Cert.AdamwQkvIdeal.main_arg0)) (m ((c.tc : Thread Cert.AdamwQkvIdeal.nD Cert.AdamwQkvIdeal.τ).loc Cert.AdamwQkvIdeal.main_arg1)) (m ((c.tc : Thread Cert.AdamwQkvIdeal.nD Cert.AdamwQkvIdeal.τ).loc Cert.AdamwQkvIdeal.main_arg2)) (m ((c.tc : Thread Cert.AdamwQkvIdeal.nD Cert.AdamwQkvIdeal.τ).loc Cert.AdamwQkvIdeal.main_arg3)) (m ((c.tc : Thread Cert.AdamwQkvIdeal.nD Cert.AdamwQkvIdeal.τ).loc Cert.AdamwQkvIdeal.main_arg4)) (m ((c.tc : Thread Cert.AdamwQkvIdeal.nD Cert.AdamwQkvIdeal.τ).loc Cert.AdamwQkvIdeal.main_arg5)) (m ((c.tc : Thread Cert.AdamwQkvIdeal.nD Cert.AdamwQkvIdeal.τ).loc Cert.AdamwQkvIdeal.main_arg6)) (m ((c.tc : Thread Cert.AdamwQkvIdeal.nD Cert.AdamwQkvIdeal.τ).loc Cert.AdamwQkvIdeal.main_arg7)) (m ((c.tc : Thread Cert.AdamwQkvIdeal.nD Cert.AdamwQkvIdeal.τ).loc Cert.AdamwQkvIdeal.main_arg8)) (m ((c.tc : Thread Cert.AdamwQkvIdeal.nD Cert.AdamwQkvIdeal.τ).loc Cert.AdamwQkvIdeal.main_arg9))) = (fun _ => 1#1)

def Pre_AdamwQkvRefIdeal (m : (ℓ : Loc Cert.AdamwQkvRefIdeal.nD Cert.AdamwQkvRefIdeal.τ Cert.AdamwQkvRefIdeal.sig) → Buf (Elt Ideal) ℓ) : Prop :=
  True

def Pre_AdamwQkvRefIdeal_chip_a_wqkv [hPre_chip_a_wqkv : Cert.Pre_chip_a_wqkv.Facts] (m : (ℓ : Loc Cert.AdamwQkvRefIdeal.nD Cert.AdamwQkvRefIdeal.τ Cert.AdamwQkvRefIdeal.sig) → Buf (Elt Ideal) ℓ) : Prop :=
  ∀ c : Dev Cert.AdamwQkvRefIdeal.nD,
    (Cert.Pre_chip_a_wqkv.fn (F := Ideal) (m ((c.tc : Thread Cert.AdamwQkvRefIdeal.nD Cert.AdamwQkvRefIdeal.τ).loc Cert.AdamwQkvRefIdeal.main_arg0)) (m ((c.tc : Thread Cert.AdamwQkvRefIdeal.nD Cert.AdamwQkvRefIdeal.τ).loc Cert.AdamwQkvRefIdeal.main_arg1)) (m ((c.tc : Thread Cert.AdamwQkvRefIdeal.nD Cert.AdamwQkvRefIdeal.τ).loc Cert.AdamwQkvRefIdeal.main_arg2)) (m ((c.tc : Thread Cert.AdamwQkvRefIdeal.nD Cert.AdamwQkvRefIdeal.τ).loc Cert.AdamwQkvRefIdeal.main_arg3)) (m ((c.tc : Thread Cert.AdamwQkvRefIdeal.nD Cert.AdamwQkvRefIdeal.τ).loc Cert.AdamwQkvRefIdeal.main_arg4)) (m ((c.tc : Thread Cert.AdamwQkvRefIdeal.nD Cert.AdamwQkvRefIdeal.τ).loc Cert.AdamwQkvRefIdeal.main_arg5)) (m ((c.tc : Thread Cert.AdamwQkvRefIdeal.nD Cert.AdamwQkvRefIdeal.τ).loc Cert.AdamwQkvRefIdeal.main_arg6)) (m ((c.tc : Thread Cert.AdamwQkvRefIdeal.nD Cert.AdamwQkvRefIdeal.τ).loc Cert.AdamwQkvRefIdeal.main_arg7)) (m ((c.tc : Thread Cert.AdamwQkvRefIdeal.nD Cert.AdamwQkvRefIdeal.τ).loc Cert.AdamwQkvRefIdeal.main_arg8)) (m ((c.tc : Thread Cert.AdamwQkvRefIdeal.nD Cert.AdamwQkvRefIdeal.τ).loc Cert.AdamwQkvRefIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_AQkvFwd [hAQkvFwd : Cert.AQkvFwd.Facts] : Prop :=
  ∀ (m : (ℓ : Loc Cert.AQkvFwd.nD Cert.AQkvFwd.τ Cert.AQkvFwd.sig) → Buf (Elt Bits) ℓ) (g : Dev Cert.AQkvFwd.nD → PrngReg), Pre_AQkvFwd m →
    θ_run (Cert.AQkvFwd.defs (F := Bits)) (onTc (τ := Cert.AQkvFwd.τ) (Cert.AQkvFwd.main (F := Bits))) ⟨m, fun _ => 0, g⟩ (fun r => (∀ c : Dev Cert.AQkvFwd.nD,
      r.2.mem ((c.tc : Thread Cert.AQkvFwd.nD Cert.AQkvFwd.τ).loc Cert.AQkvFwd.main_arg0) = m ((c.tc : Thread Cert.AQkvFwd.nD Cert.AQkvFwd.τ).loc Cert.AQkvFwd.main_arg0)
      ∧ r.2.mem ((c.tc : Thread Cert.AQkvFwd.nD Cert.AQkvFwd.τ).loc Cert.AQkvFwd.main_arg1) = m ((c.tc : Thread Cert.AQkvFwd.nD Cert.AQkvFwd.τ).loc Cert.AQkvFwd.main_arg1))
      ∧ r.2.sem = fun _ => 0)

def quiescent_AQkvFwdIdeal [hAQkvFwdIdeal : Cert.AQkvFwdIdeal.Facts] : Prop :=
  ∀ (m : (ℓ : Loc Cert.AQkvFwdIdeal.nD Cert.AQkvFwdIdeal.τ Cert.AQkvFwdIdeal.sig) → Buf (Elt Ideal) ℓ) (g : Dev Cert.AQkvFwdIdeal.nD → PrngReg), Pre_AQkvFwdIdeal m →
    θ_run (Cert.AQkvFwdIdeal.defs (F := Ideal)) (onTc (τ := Cert.AQkvFwdIdeal.τ) (Cert.AQkvFwdIdeal.main (F := Ideal))) ⟨m, fun _ => 0, g⟩ (fun r => (∀ c : Dev Cert.AQkvFwdIdeal.nD,
      r.2.mem ((c.tc : Thread Cert.AQkvFwdIdeal.nD Cert.AQkvFwdIdeal.τ).loc Cert.AQkvFwdIdeal.main_arg0) = m ((c.tc : Thread Cert.AQkvFwdIdeal.nD Cert.AQkvFwdIdeal.τ).loc Cert.AQkvFwdIdeal.main_arg0)
      ∧ r.2.mem ((c.tc : Thread Cert.AQkvFwdIdeal.nD Cert.AQkvFwdIdeal.τ).loc Cert.AQkvFwdIdeal.main_arg1) = m ((c.tc : Thread Cert.AQkvFwdIdeal.nD Cert.AQkvFwdIdeal.τ).loc Cert.AQkvFwdIdeal.main_arg1))
      ∧ r.2.sem = fun _ => 0)

def quiescent_AQkvFwdRefIdeal [hAQkvFwdRefIdeal : Cert.AQkvFwdRefIdeal.Facts] : Prop :=
  ∀ (m : (ℓ : Loc Cert.AQkvFwdRefIdeal.nD Cert.AQkvFwdRefIdeal.τ Cert.AQkvFwdRefIdeal.sig) → Buf (Elt Ideal) ℓ) (g : Dev Cert.AQkvFwdRefIdeal.nD → PrngReg), Pre_AQkvFwdRefIdeal m →
    θ_run (Cert.AQkvFwdRefIdeal.defs (F := Ideal)) (onTc (τ := Cert.AQkvFwdRefIdeal.τ) (Cert.AQkvFwdRefIdeal.main (F := Ideal))) ⟨m, fun _ => 0, g⟩ (fun r => (∀ c : Dev Cert.AQkvFwdRefIdeal.nD,
      r.2.mem ((c.tc : Thread Cert.AQkvFwdRefIdeal.nD Cert.AQkvFwdRefIdeal.τ).loc Cert.AQkvFwdRefIdeal.main_arg0) = m ((c.tc : Thread Cert.AQkvFwdRefIdeal.nD Cert.AQkvFwdRefIdeal.τ).loc Cert.AQkvFwdRefIdeal.main_arg0)
      ∧ r.2.mem ((c.tc : Thread Cert.AQkvFwdRefIdeal.nD Cert.AQkvFwdRefIdeal.τ).loc Cert.AQkvFwdRefIdeal.main_arg1) = m ((c.tc : Thread Cert.AQkvFwdRefIdeal.nD Cert.AQkvFwdRefIdeal.τ).loc Cert.AQkvFwdRefIdeal.main_arg1))
      ∧ r.2.sem = fun _ => 0)

def quiescent_AWoFwd [hAWoFwd : Cert.AWoFwd.Facts] : Prop :=
  ∀ (m : (ℓ : Loc Cert.AWoFwd.nD Cert.AWoFwd.τ Cert.AWoFwd.sig) → Buf (Elt Bits) ℓ) (g : Dev Cert.AWoFwd.nD → PrngReg), Pre_AWoFwd m →
    θ_run (Cert.AWoFwd.defs (F := Bits)) (onTc (τ := Cert.AWoFwd.τ) (Cert.AWoFwd.main (F := Bits))) ⟨m, fun _ => 0, g⟩ (fun r => (∀ c : Dev Cert.AWoFwd.nD,
      r.2.mem ((c.tc : Thread Cert.AWoFwd.nD Cert.AWoFwd.τ).loc Cert.AWoFwd.main_arg0) = m ((c.tc : Thread Cert.AWoFwd.nD Cert.AWoFwd.τ).loc Cert.AWoFwd.main_arg0)
      ∧ r.2.mem ((c.tc : Thread Cert.AWoFwd.nD Cert.AWoFwd.τ).loc Cert.AWoFwd.main_arg1) = m ((c.tc : Thread Cert.AWoFwd.nD Cert.AWoFwd.τ).loc Cert.AWoFwd.main_arg1)
      ∧ r.2.mem ((c.tc : Thread Cert.AWoFwd.nD Cert.AWoFwd.τ).loc Cert.AWoFwd.main_arg2) = m ((c.tc : Thread Cert.AWoFwd.nD Cert.AWoFwd.τ).loc Cert.AWoFwd.main_arg2)
      ∧ r.2.mem ((c.tc : Thread Cert.AWoFwd.nD Cert.AWoFwd.τ).loc Cert.AWoFwd.main_arg3) = m ((c.tc : Thread Cert.AWoFwd.nD Cert.AWoFwd.τ).loc Cert.AWoFwd.main_arg3))
      ∧ r.2.sem = fun _ => 0)

def quiescent_AWoFwdIdeal [hAWoFwdIdeal : Cert.AWoFwdIdeal.Facts] : Prop :=
  ∀ (m : (ℓ : Loc Cert.AWoFwdIdeal.nD Cert.AWoFwdIdeal.τ Cert.AWoFwdIdeal.sig) → Buf (Elt Ideal) ℓ) (g : Dev Cert.AWoFwdIdeal.nD → PrngReg), Pre_AWoFwdIdeal m →
    θ_run (Cert.AWoFwdIdeal.defs (F := Ideal)) (onTc (τ := Cert.AWoFwdIdeal.τ) (Cert.AWoFwdIdeal.main (F := Ideal))) ⟨m, fun _ => 0, g⟩ (fun r => (∀ c : Dev Cert.AWoFwdIdeal.nD,
      r.2.mem ((c.tc : Thread Cert.AWoFwdIdeal.nD Cert.AWoFwdIdeal.τ).loc Cert.AWoFwdIdeal.main_arg0) = m ((c.tc : Thread Cert.AWoFwdIdeal.nD Cert.AWoFwdIdeal.τ).loc Cert.AWoFwdIdeal.main_arg0)
      ∧ r.2.mem ((c.tc : Thread Cert.AWoFwdIdeal.nD Cert.AWoFwdIdeal.τ).loc Cert.AWoFwdIdeal.main_arg1) = m ((c.tc : Thread Cert.AWoFwdIdeal.nD Cert.AWoFwdIdeal.τ).loc Cert.AWoFwdIdeal.main_arg1)
      ∧ r.2.mem ((c.tc : Thread Cert.AWoFwdIdeal.nD Cert.AWoFwdIdeal.τ).loc Cert.AWoFwdIdeal.main_arg2) = m ((c.tc : Thread Cert.AWoFwdIdeal.nD Cert.AWoFwdIdeal.τ).loc Cert.AWoFwdIdeal.main_arg2)
      ∧ r.2.mem ((c.tc : Thread Cert.AWoFwdIdeal.nD Cert.AWoFwdIdeal.τ).loc Cert.AWoFwdIdeal.main_arg3) = m ((c.tc : Thread Cert.AWoFwdIdeal.nD Cert.AWoFwdIdeal.τ).loc Cert.AWoFwdIdeal.main_arg3))
      ∧ r.2.sem = fun _ => 0)

def quiescent_AWoFwdRefIdeal [hAWoFwdRefIdeal : Cert.AWoFwdRefIdeal.Facts] : Prop :=
  ∀ (m : (ℓ : Loc Cert.AWoFwdRefIdeal.nD Cert.AWoFwdRefIdeal.τ Cert.AWoFwdRefIdeal.sig) → Buf (Elt Ideal) ℓ) (g : Dev Cert.AWoFwdRefIdeal.nD → PrngReg), Pre_AWoFwdRefIdeal m →
    θ_run (Cert.AWoFwdRefIdeal.defs (F := Ideal)) (onTc (τ := Cert.AWoFwdRefIdeal.τ) (Cert.AWoFwdRefIdeal.main (F := Ideal))) ⟨m, fun _ => 0, g⟩ (fun r => (∀ c : Dev Cert.AWoFwdRefIdeal.nD,
      r.2.mem ((c.tc : Thread Cert.AWoFwdRefIdeal.nD Cert.AWoFwdRefIdeal.τ).loc Cert.AWoFwdRefIdeal.main_arg0) = m ((c.tc : Thread Cert.AWoFwdRefIdeal.nD Cert.AWoFwdRefIdeal.τ).loc Cert.AWoFwdRefIdeal.main_arg0)
      ∧ r.2.mem ((c.tc : Thread Cert.AWoFwdRefIdeal.nD Cert.AWoFwdRefIdeal.τ).loc Cert.AWoFwdRefIdeal.main_arg1) = m ((c.tc : Thread Cert.AWoFwdRefIdeal.nD Cert.AWoFwdRefIdeal.τ).loc Cert.AWoFwdRefIdeal.main_arg1)
      ∧ r.2.mem ((c.tc : Thread Cert.AWoFwdRefIdeal.nD Cert.AWoFwdRefIdeal.τ).loc Cert.AWoFwdRefIdeal.main_arg2) = m ((c.tc : Thread Cert.AWoFwdRefIdeal.nD Cert.AWoFwdRefIdeal.τ).loc Cert.AWoFwdRefIdeal.main_arg2)
      ∧ r.2.mem ((c.tc : Thread Cert.AWoFwdRefIdeal.nD Cert.AWoFwdRefIdeal.τ).loc Cert.AWoFwdRefIdeal.main_arg3) = m ((c.tc : Thread Cert.AWoFwdRefIdeal.nD Cert.AWoFwdRefIdeal.τ).loc Cert.AWoFwdRefIdeal.main_arg3))
      ∧ r.2.sem = fun _ => 0)

def quiescent_AWoDx [hAWoDx : Cert.AWoDx.Facts] : Prop :=
  ∀ (m : (ℓ : Loc Cert.AWoDx.nD Cert.AWoDx.τ Cert.AWoDx.sig) → Buf (Elt Bits) ℓ) (g : Dev Cert.AWoDx.nD → PrngReg), Pre_AWoDx m →
    θ_run (Cert.AWoDx.defs (F := Bits)) (onTc (τ := Cert.AWoDx.τ) (Cert.AWoDx.main (F := Bits))) ⟨m, fun _ => 0, g⟩ (fun r => (∀ c : Dev Cert.AWoDx.nD,
      r.2.mem ((c.tc : Thread Cert.AWoDx.nD Cert.AWoDx.τ).loc Cert.AWoDx.main_arg0) = m ((c.tc : Thread Cert.AWoDx.nD Cert.AWoDx.τ).loc Cert.AWoDx.main_arg0)
      ∧ r.2.mem ((c.tc : Thread Cert.AWoDx.nD Cert.AWoDx.τ).loc Cert.AWoDx.main_arg1) = m ((c.tc : Thread Cert.AWoDx.nD Cert.AWoDx.τ).loc Cert.AWoDx.main_arg1))
      ∧ r.2.sem = fun _ => 0)

def quiescent_AWoDxIdeal [hAWoDxIdeal : Cert.AWoDxIdeal.Facts] : Prop :=
  ∀ (m : (ℓ : Loc Cert.AWoDxIdeal.nD Cert.AWoDxIdeal.τ Cert.AWoDxIdeal.sig) → Buf (Elt Ideal) ℓ) (g : Dev Cert.AWoDxIdeal.nD → PrngReg), Pre_AWoDxIdeal m →
    θ_run (Cert.AWoDxIdeal.defs (F := Ideal)) (onTc (τ := Cert.AWoDxIdeal.τ) (Cert.AWoDxIdeal.main (F := Ideal))) ⟨m, fun _ => 0, g⟩ (fun r => (∀ c : Dev Cert.AWoDxIdeal.nD,
      r.2.mem ((c.tc : Thread Cert.AWoDxIdeal.nD Cert.AWoDxIdeal.τ).loc Cert.AWoDxIdeal.main_arg0) = m ((c.tc : Thread Cert.AWoDxIdeal.nD Cert.AWoDxIdeal.τ).loc Cert.AWoDxIdeal.main_arg0)
      ∧ r.2.mem ((c.tc : Thread Cert.AWoDxIdeal.nD Cert.AWoDxIdeal.τ).loc Cert.AWoDxIdeal.main_arg1) = m ((c.tc : Thread Cert.AWoDxIdeal.nD Cert.AWoDxIdeal.τ).loc Cert.AWoDxIdeal.main_arg1))
      ∧ r.2.sem = fun _ => 0)

def quiescent_AWoDxRefIdeal [hAWoDxRefIdeal : Cert.AWoDxRefIdeal.Facts] : Prop :=
  ∀ (m : (ℓ : Loc Cert.AWoDxRefIdeal.nD Cert.AWoDxRefIdeal.τ Cert.AWoDxRefIdeal.sig) → Buf (Elt Ideal) ℓ) (g : Dev Cert.AWoDxRefIdeal.nD → PrngReg), Pre_AWoDxRefIdeal m →
    θ_run (Cert.AWoDxRefIdeal.defs (F := Ideal)) (onTc (τ := Cert.AWoDxRefIdeal.τ) (Cert.AWoDxRefIdeal.main (F := Ideal))) ⟨m, fun _ => 0, g⟩ (fun r => (∀ c : Dev Cert.AWoDxRefIdeal.nD,
      r.2.mem ((c.tc : Thread Cert.AWoDxRefIdeal.nD Cert.AWoDxRefIdeal.τ).loc Cert.AWoDxRefIdeal.main_arg0) = m ((c.tc : Thread Cert.AWoDxRefIdeal.nD Cert.AWoDxRefIdeal.τ).loc Cert.AWoDxRefIdeal.main_arg0)
      ∧ r.2.mem ((c.tc : Thread Cert.AWoDxRefIdeal.nD Cert.AWoDxRefIdeal.τ).loc Cert.AWoDxRefIdeal.main_arg1) = m ((c.tc : Thread Cert.AWoDxRefIdeal.nD Cert.AWoDxRefIdeal.τ).loc Cert.AWoDxRefIdeal.main_arg1))
      ∧ r.2.sem = fun _ => 0)

def quiescent_AWoDw [hAWoDw : Cert.AWoDw.Facts] : Prop :=
  ∀ (m : (ℓ : Loc Cert.AWoDw.nD Cert.AWoDw.τ Cert.AWoDw.sig) → Buf (Elt Bits) ℓ) (g : Dev Cert.AWoDw.nD → PrngReg), Pre_AWoDw m →
    θ_run (Cert.AWoDw.defs (F := Bits)) (onTc (τ := Cert.AWoDw.τ) (Cert.AWoDw.main (F := Bits))) ⟨m, fun _ => 0, g⟩ (fun r => (∀ c : Dev Cert.AWoDw.nD,
      r.2.mem ((c.tc : Thread Cert.AWoDw.nD Cert.AWoDw.τ).loc Cert.AWoDw.main_arg0) = m ((c.tc : Thread Cert.AWoDw.nD Cert.AWoDw.τ).loc Cert.AWoDw.main_arg0)
      ∧ r.2.mem ((c.tc : Thread Cert.AWoDw.nD Cert.AWoDw.τ).loc Cert.AWoDw.main_arg1) = m ((c.tc : Thread Cert.AWoDw.nD Cert.AWoDw.τ).loc Cert.AWoDw.main_arg1))
      ∧ r.2.sem = fun _ => 0)

def quiescent_AWoDwIdeal [hAWoDwIdeal : Cert.AWoDwIdeal.Facts] : Prop :=
  ∀ (m : (ℓ : Loc Cert.AWoDwIdeal.nD Cert.AWoDwIdeal.τ Cert.AWoDwIdeal.sig) → Buf (Elt Ideal) ℓ) (g : Dev Cert.AWoDwIdeal.nD → PrngReg), Pre_AWoDwIdeal m →
    θ_run (Cert.AWoDwIdeal.defs (F := Ideal)) (onTc (τ := Cert.AWoDwIdeal.τ) (Cert.AWoDwIdeal.main (F := Ideal))) ⟨m, fun _ => 0, g⟩ (fun r => (∀ c : Dev Cert.AWoDwIdeal.nD,
      r.2.mem ((c.tc : Thread Cert.AWoDwIdeal.nD Cert.AWoDwIdeal.τ).loc Cert.AWoDwIdeal.main_arg0) = m ((c.tc : Thread Cert.AWoDwIdeal.nD Cert.AWoDwIdeal.τ).loc Cert.AWoDwIdeal.main_arg0)
      ∧ r.2.mem ((c.tc : Thread Cert.AWoDwIdeal.nD Cert.AWoDwIdeal.τ).loc Cert.AWoDwIdeal.main_arg1) = m ((c.tc : Thread Cert.AWoDwIdeal.nD Cert.AWoDwIdeal.τ).loc Cert.AWoDwIdeal.main_arg1))
      ∧ r.2.sem = fun _ => 0)

def quiescent_AWoDwRefIdeal [hAWoDwRefIdeal : Cert.AWoDwRefIdeal.Facts] : Prop :=
  ∀ (m : (ℓ : Loc Cert.AWoDwRefIdeal.nD Cert.AWoDwRefIdeal.τ Cert.AWoDwRefIdeal.sig) → Buf (Elt Ideal) ℓ) (g : Dev Cert.AWoDwRefIdeal.nD → PrngReg), Pre_AWoDwRefIdeal m →
    θ_run (Cert.AWoDwRefIdeal.defs (F := Ideal)) (onTc (τ := Cert.AWoDwRefIdeal.τ) (Cert.AWoDwRefIdeal.main (F := Ideal))) ⟨m, fun _ => 0, g⟩ (fun r => (∀ c : Dev Cert.AWoDwRefIdeal.nD,
      r.2.mem ((c.tc : Thread Cert.AWoDwRefIdeal.nD Cert.AWoDwRefIdeal.τ).loc Cert.AWoDwRefIdeal.main_arg0) = m ((c.tc : Thread Cert.AWoDwRefIdeal.nD Cert.AWoDwRefIdeal.τ).loc Cert.AWoDwRefIdeal.main_arg0)
      ∧ r.2.mem ((c.tc : Thread Cert.AWoDwRefIdeal.nD Cert.AWoDwRefIdeal.τ).loc Cert.AWoDwRefIdeal.main_arg1) = m ((c.tc : Thread Cert.AWoDwRefIdeal.nD Cert.AWoDwRefIdeal.τ).loc Cert.AWoDwRefIdeal.main_arg1))
      ∧ r.2.sem = fun _ => 0)

def quiescent_AQkvDx [hAQkvDx : Cert.AQkvDx.Facts] : Prop :=
  ∀ (m : (ℓ : Loc Cert.AQkvDx.nD Cert.AQkvDx.τ Cert.AQkvDx.sig) → Buf (Elt Bits) ℓ) (g : Dev Cert.AQkvDx.nD → PrngReg), Pre_AQkvDx m →
    θ_run (Cert.AQkvDx.defs (F := Bits)) (onTc (τ := Cert.AQkvDx.τ) (Cert.AQkvDx.main (F := Bits))) ⟨m, fun _ => 0, g⟩ (fun r => (∀ c : Dev Cert.AQkvDx.nD,
      r.2.mem ((c.tc : Thread Cert.AQkvDx.nD Cert.AQkvDx.τ).loc Cert.AQkvDx.main_arg0) = m ((c.tc : Thread Cert.AQkvDx.nD Cert.AQkvDx.τ).loc Cert.AQkvDx.main_arg0)
      ∧ r.2.mem ((c.tc : Thread Cert.AQkvDx.nD Cert.AQkvDx.τ).loc Cert.AQkvDx.main_arg1) = m ((c.tc : Thread Cert.AQkvDx.nD Cert.AQkvDx.τ).loc Cert.AQkvDx.main_arg1)
      ∧ r.2.mem ((c.tc : Thread Cert.AQkvDx.nD Cert.AQkvDx.τ).loc Cert.AQkvDx.main_arg2) = m ((c.tc : Thread Cert.AQkvDx.nD Cert.AQkvDx.τ).loc Cert.AQkvDx.main_arg2)
      ∧ r.2.mem ((c.tc : Thread Cert.AQkvDx.nD Cert.AQkvDx.τ).loc Cert.AQkvDx.main_arg3) = m ((c.tc : Thread Cert.AQkvDx.nD Cert.AQkvDx.τ).loc Cert.AQkvDx.main_arg3)
      ∧ r.2.mem ((c.tc : Thread Cert.AQkvDx.nD Cert.AQkvDx.τ).loc Cert.AQkvDx.main_arg4) = m ((c.tc : Thread Cert.AQkvDx.nD Cert.AQkvDx.τ).loc Cert.AQkvDx.main_arg4))
      ∧ r.2.sem = fun _ => 0)

def quiescent_AQkvDxIdeal [hAQkvDxIdeal : Cert.AQkvDxIdeal.Facts] : Prop :=
  ∀ (m : (ℓ : Loc Cert.AQkvDxIdeal.nD Cert.AQkvDxIdeal.τ Cert.AQkvDxIdeal.sig) → Buf (Elt Ideal) ℓ) (g : Dev Cert.AQkvDxIdeal.nD → PrngReg), Pre_AQkvDxIdeal m →
    θ_run (Cert.AQkvDxIdeal.defs (F := Ideal)) (onTc (τ := Cert.AQkvDxIdeal.τ) (Cert.AQkvDxIdeal.main (F := Ideal))) ⟨m, fun _ => 0, g⟩ (fun r => (∀ c : Dev Cert.AQkvDxIdeal.nD,
      r.2.mem ((c.tc : Thread Cert.AQkvDxIdeal.nD Cert.AQkvDxIdeal.τ).loc Cert.AQkvDxIdeal.main_arg0) = m ((c.tc : Thread Cert.AQkvDxIdeal.nD Cert.AQkvDxIdeal.τ).loc Cert.AQkvDxIdeal.main_arg0)
      ∧ r.2.mem ((c.tc : Thread Cert.AQkvDxIdeal.nD Cert.AQkvDxIdeal.τ).loc Cert.AQkvDxIdeal.main_arg1) = m ((c.tc : Thread Cert.AQkvDxIdeal.nD Cert.AQkvDxIdeal.τ).loc Cert.AQkvDxIdeal.main_arg1)
      ∧ r.2.mem ((c.tc : Thread Cert.AQkvDxIdeal.nD Cert.AQkvDxIdeal.τ).loc Cert.AQkvDxIdeal.main_arg2) = m ((c.tc : Thread Cert.AQkvDxIdeal.nD Cert.AQkvDxIdeal.τ).loc Cert.AQkvDxIdeal.main_arg2)
      ∧ r.2.mem ((c.tc : Thread Cert.AQkvDxIdeal.nD Cert.AQkvDxIdeal.τ).loc Cert.AQkvDxIdeal.main_arg3) = m ((c.tc : Thread Cert.AQkvDxIdeal.nD Cert.AQkvDxIdeal.τ).loc Cert.AQkvDxIdeal.main_arg3)
      ∧ r.2.mem ((c.tc : Thread Cert.AQkvDxIdeal.nD Cert.AQkvDxIdeal.τ).loc Cert.AQkvDxIdeal.main_arg4) = m ((c.tc : Thread Cert.AQkvDxIdeal.nD Cert.AQkvDxIdeal.τ).loc Cert.AQkvDxIdeal.main_arg4))
      ∧ r.2.sem = fun _ => 0)

def quiescent_AQkvDxRefIdeal [hAQkvDxRefIdeal : Cert.AQkvDxRefIdeal.Facts] : Prop :=
  ∀ (m : (ℓ : Loc Cert.AQkvDxRefIdeal.nD Cert.AQkvDxRefIdeal.τ Cert.AQkvDxRefIdeal.sig) → Buf (Elt Ideal) ℓ) (g : Dev Cert.AQkvDxRefIdeal.nD → PrngReg), Pre_AQkvDxRefIdeal m →
    θ_run (Cert.AQkvDxRefIdeal.defs (F := Ideal)) (onTc (τ := Cert.AQkvDxRefIdeal.τ) (Cert.AQkvDxRefIdeal.main (F := Ideal))) ⟨m, fun _ => 0, g⟩ (fun r => (∀ c : Dev Cert.AQkvDxRefIdeal.nD,
      r.2.mem ((c.tc : Thread Cert.AQkvDxRefIdeal.nD Cert.AQkvDxRefIdeal.τ).loc Cert.AQkvDxRefIdeal.main_arg0) = m ((c.tc : Thread Cert.AQkvDxRefIdeal.nD Cert.AQkvDxRefIdeal.τ).loc Cert.AQkvDxRefIdeal.main_arg0)
      ∧ r.2.mem ((c.tc : Thread Cert.AQkvDxRefIdeal.nD Cert.AQkvDxRefIdeal.τ).loc Cert.AQkvDxRefIdeal.main_arg1) = m ((c.tc : Thread Cert.AQkvDxRefIdeal.nD Cert.AQkvDxRefIdeal.τ).loc Cert.AQkvDxRefIdeal.main_arg1)
      ∧ r.2.mem ((c.tc : Thread Cert.AQkvDxRefIdeal.nD Cert.AQkvDxRefIdeal.τ).loc Cert.AQkvDxRefIdeal.main_arg2) = m ((c.tc : Thread Cert.AQkvDxRefIdeal.nD Cert.AQkvDxRefIdeal.τ).loc Cert.AQkvDxRefIdeal.main_arg2)
      ∧ r.2.mem ((c.tc : Thread Cert.AQkvDxRefIdeal.nD Cert.AQkvDxRefIdeal.τ).loc Cert.AQkvDxRefIdeal.main_arg3) = m ((c.tc : Thread Cert.AQkvDxRefIdeal.nD Cert.AQkvDxRefIdeal.τ).loc Cert.AQkvDxRefIdeal.main_arg3)
      ∧ r.2.mem ((c.tc : Thread Cert.AQkvDxRefIdeal.nD Cert.AQkvDxRefIdeal.τ).loc Cert.AQkvDxRefIdeal.main_arg4) = m ((c.tc : Thread Cert.AQkvDxRefIdeal.nD Cert.AQkvDxRefIdeal.τ).loc Cert.AQkvDxRefIdeal.main_arg4))
      ∧ r.2.sem = fun _ => 0)

def quiescent_AQkvDw [hAQkvDw : Cert.AQkvDw.Facts] : Prop :=
  ∀ (m : (ℓ : Loc Cert.AQkvDw.nD Cert.AQkvDw.τ Cert.AQkvDw.sig) → Buf (Elt Bits) ℓ) (g : Dev Cert.AQkvDw.nD → PrngReg), Pre_AQkvDw m →
    θ_run (Cert.AQkvDw.defs (F := Bits)) (onTc (τ := Cert.AQkvDw.τ) (Cert.AQkvDw.main (F := Bits))) ⟨m, fun _ => 0, g⟩ (fun r => (∀ c : Dev Cert.AQkvDw.nD,
      r.2.mem ((c.tc : Thread Cert.AQkvDw.nD Cert.AQkvDw.τ).loc Cert.AQkvDw.main_arg0) = m ((c.tc : Thread Cert.AQkvDw.nD Cert.AQkvDw.τ).loc Cert.AQkvDw.main_arg0)
      ∧ r.2.mem ((c.tc : Thread Cert.AQkvDw.nD Cert.AQkvDw.τ).loc Cert.AQkvDw.main_arg1) = m ((c.tc : Thread Cert.AQkvDw.nD Cert.AQkvDw.τ).loc Cert.AQkvDw.main_arg1))
      ∧ r.2.sem = fun _ => 0)

def quiescent_AQkvDwIdeal [hAQkvDwIdeal : Cert.AQkvDwIdeal.Facts] : Prop :=
  ∀ (m : (ℓ : Loc Cert.AQkvDwIdeal.nD Cert.AQkvDwIdeal.τ Cert.AQkvDwIdeal.sig) → Buf (Elt Ideal) ℓ) (g : Dev Cert.AQkvDwIdeal.nD → PrngReg), Pre_AQkvDwIdeal m →
    θ_run (Cert.AQkvDwIdeal.defs (F := Ideal)) (onTc (τ := Cert.AQkvDwIdeal.τ) (Cert.AQkvDwIdeal.main (F := Ideal))) ⟨m, fun _ => 0, g⟩ (fun r => (∀ c : Dev Cert.AQkvDwIdeal.nD,
      r.2.mem ((c.tc : Thread Cert.AQkvDwIdeal.nD Cert.AQkvDwIdeal.τ).loc Cert.AQkvDwIdeal.main_arg0) = m ((c.tc : Thread Cert.AQkvDwIdeal.nD Cert.AQkvDwIdeal.τ).loc Cert.AQkvDwIdeal.main_arg0)
      ∧ r.2.mem ((c.tc : Thread Cert.AQkvDwIdeal.nD Cert.AQkvDwIdeal.τ).loc Cert.AQkvDwIdeal.main_arg1) = m ((c.tc : Thread Cert.AQkvDwIdeal.nD Cert.AQkvDwIdeal.τ).loc Cert.AQkvDwIdeal.main_arg1))
      ∧ r.2.sem = fun _ => 0)

def quiescent_AQkvDwRefIdeal [hAQkvDwRefIdeal : Cert.AQkvDwRefIdeal.Facts] : Prop :=
  ∀ (m : (ℓ : Loc Cert.AQkvDwRefIdeal.nD Cert.AQkvDwRefIdeal.τ Cert.AQkvDwRefIdeal.sig) → Buf (Elt Ideal) ℓ) (g : Dev Cert.AQkvDwRefIdeal.nD → PrngReg), Pre_AQkvDwRefIdeal m →
    θ_run (Cert.AQkvDwRefIdeal.defs (F := Ideal)) (onTc (τ := Cert.AQkvDwRefIdeal.τ) (Cert.AQkvDwRefIdeal.main (F := Ideal))) ⟨m, fun _ => 0, g⟩ (fun r => (∀ c : Dev Cert.AQkvDwRefIdeal.nD,
      r.2.mem ((c.tc : Thread Cert.AQkvDwRefIdeal.nD Cert.AQkvDwRefIdeal.τ).loc Cert.AQkvDwRefIdeal.main_arg0) = m ((c.tc : Thread Cert.AQkvDwRefIdeal.nD Cert.AQkvDwRefIdeal.τ).loc Cert.AQkvDwRefIdeal.main_arg0)
      ∧ r.2.mem ((c.tc : Thread Cert.AQkvDwRefIdeal.nD Cert.AQkvDwRefIdeal.τ).loc Cert.AQkvDwRefIdeal.main_arg1) = m ((c.tc : Thread Cert.AQkvDwRefIdeal.nD Cert.AQkvDwRefIdeal.τ).loc Cert.AQkvDwRefIdeal.main_arg1))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1)
      ∧ r.2.mem ((c.tc : Thread Cert.KvFwd.nD Cert.KvFwd.τ).loc Cert.KvFwd.main_arg2) = m ((c.tc : Thread Cert.KvFwd.nD Cert.KvFwd.τ).loc Cert.KvFwd.main_arg2))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
      ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1)
      ∧ r.2.mem ((c.tc : Thread Cert.KvFwdRefIdeal.nD Cert.KvFwdRefIdeal.τ).loc Cert.KvFwdRefIdeal.main_arg2) = m ((c.tc : Thread Cert.KvFwdRefIdeal.nD Cert.KvFwdRefIdeal.τ).loc Cert.KvFwdRefIdeal.main_arg2))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2)
      ∧ r.2.mem ((c.tc : Thread Cert.KvDx.nD Cert.KvDx.τ).loc Cert.KvDx.main_arg3) = m ((c.tc : Thread Cert.KvDx.nD Cert.KvDx.τ).loc Cert.KvDx.main_arg3)
      ∧ r.2.mem ((c.tc : Thread Cert.KvDx.nD Cert.KvDx.τ).loc Cert.KvDx.main_arg4) = m ((c.tc : Thread Cert.KvDx.nD Cert.KvDx.τ).loc Cert.KvDx.main_arg4))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
      ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2)
      ∧ r.2.mem ((c.tc : Thread Cert.KvDxRefIdeal.nD Cert.KvDxRefIdeal.τ).loc Cert.KvDxRefIdeal.main_arg3) = m ((c.tc : Thread Cert.KvDxRefIdeal.nD Cert.KvDxRefIdeal.τ).loc Cert.KvDxRefIdeal.main_arg3)
      ∧ r.2.mem ((c.tc : Thread Cert.KvDxRefIdeal.nD Cert.KvDxRefIdeal.τ).loc Cert.KvDxRefIdeal.main_arg4) = m ((c.tc : Thread Cert.KvDxRefIdeal.nD Cert.KvDxRefIdeal.τ).loc Cert.KvDxRefIdeal.main_arg4))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_BQFwd [hBQFwd : Cert.BQFwd.Facts] : Prop :=
  ∀ (m : (ℓ : Loc Cert.BQFwd.nD Cert.BQFwd.τ Cert.BQFwd.sig) → Buf (Elt Bits) ℓ) (g : Dev Cert.BQFwd.nD → PrngReg), Pre_BQFwd m →
    θ_run (Cert.BQFwd.defs (F := Bits)) (onTc (τ := Cert.BQFwd.τ) (Cert.BQFwd.main (F := Bits))) ⟨m, fun _ => 0, g⟩ (fun r => (∀ c : Dev Cert.BQFwd.nD,
      r.2.mem ((c.tc : Thread Cert.BQFwd.nD Cert.BQFwd.τ).loc Cert.BQFwd.main_arg0) = m ((c.tc : Thread Cert.BQFwd.nD Cert.BQFwd.τ).loc Cert.BQFwd.main_arg0)
      ∧ r.2.mem ((c.tc : Thread Cert.BQFwd.nD Cert.BQFwd.τ).loc Cert.BQFwd.main_arg1) = m ((c.tc : Thread Cert.BQFwd.nD Cert.BQFwd.τ).loc Cert.BQFwd.main_arg1)
      ∧ r.2.mem ((c.tc : Thread Cert.BQFwd.nD Cert.BQFwd.τ).loc Cert.BQFwd.main_arg2) = m ((c.tc : Thread Cert.BQFwd.nD Cert.BQFwd.τ).loc Cert.BQFwd.main_arg2))
      ∧ r.2.sem = fun _ => 0)

def quiescent_BQFwdIdeal [hBQFwdIdeal : Cert.BQFwdIdeal.Facts] : Prop :=
  ∀ (m : (ℓ : Loc Cert.BQFwdIdeal.nD Cert.BQFwdIdeal.τ Cert.BQFwdIdeal.sig) → Buf (Elt Ideal) ℓ) (g : Dev Cert.BQFwdIdeal.nD → PrngReg), Pre_BQFwdIdeal m →
    θ_run (Cert.BQFwdIdeal.defs (F := Ideal)) (onTc (τ := Cert.BQFwdIdeal.τ) (Cert.BQFwdIdeal.main (F := Ideal))) ⟨m, fun _ => 0, g⟩ (fun r => (∀ c : Dev Cert.BQFwdIdeal.nD,
      r.2.mem ((c.tc : Thread Cert.BQFwdIdeal.nD Cert.BQFwdIdeal.τ).loc Cert.BQFwdIdeal.main_arg0) = m ((c.tc : Thread Cert.BQFwdIdeal.nD Cert.BQFwdIdeal.τ).loc Cert.BQFwdIdeal.main_arg0)
      ∧ r.2.mem ((c.tc : Thread Cert.BQFwdIdeal.nD Cert.BQFwdIdeal.τ).loc Cert.BQFwdIdeal.main_arg1) = m ((c.tc : Thread Cert.BQFwdIdeal.nD Cert.BQFwdIdeal.τ).loc Cert.BQFwdIdeal.main_arg1)
      ∧ r.2.mem ((c.tc : Thread Cert.BQFwdIdeal.nD Cert.BQFwdIdeal.τ).loc Cert.BQFwdIdeal.main_arg2) = m ((c.tc : Thread Cert.BQFwdIdeal.nD Cert.BQFwdIdeal.τ).loc Cert.BQFwdIdeal.main_arg2))
      ∧ r.2.sem = fun _ => 0)

def quiescent_BQFwdRefIdeal [hBQFwdRefIdeal : Cert.BQFwdRefIdeal.Facts] : Prop :=
  ∀ (m : (ℓ : Loc Cert.BQFwdRefIdeal.nD Cert.BQFwdRefIdeal.τ Cert.BQFwdRefIdeal.sig) → Buf (Elt Ideal) ℓ) (g : Dev Cert.BQFwdRefIdeal.nD → PrngReg), Pre_BQFwdRefIdeal m →
    θ_run (Cert.BQFwdRefIdeal.defs (F := Ideal)) (onTc (τ := Cert.BQFwdRefIdeal.τ) (Cert.BQFwdRefIdeal.main (F := Ideal))) ⟨m, fun _ => 0, g⟩ (fun r => (∀ c : Dev Cert.BQFwdRefIdeal.nD,
      r.2.mem ((c.tc : Thread Cert.BQFwdRefIdeal.nD Cert.BQFwdRefIdeal.τ).loc Cert.BQFwdRefIdeal.main_arg0) = m ((c.tc : Thread Cert.BQFwdRefIdeal.nD Cert.BQFwdRefIdeal.τ).loc Cert.BQFwdRefIdeal.main_arg0)
      ∧ r.2.mem ((c.tc : Thread Cert.BQFwdRefIdeal.nD Cert.BQFwdRefIdeal.τ).loc Cert.BQFwdRefIdeal.main_arg1) = m ((c.tc : Thread Cert.BQFwdRefIdeal.nD Cert.BQFwdRefIdeal.τ).loc Cert.BQFwdRefIdeal.main_arg1)
      ∧ r.2.mem ((c.tc : Thread Cert.BQFwdRefIdeal.nD Cert.BQFwdRefIdeal.τ).loc Cert.BQFwdRefIdeal.main_arg2) = m ((c.tc : Thread Cert.BQFwdRefIdeal.nD Cert.BQFwdRefIdeal.τ).loc Cert.BQFwdRefIdeal.main_arg2))
      ∧ r.2.sem = fun _ => 0)

def quiescent_BQDx [hBQDx : Cert.BQDx.Facts] : Prop :=
  ∀ (m : (ℓ : Loc Cert.BQDx.nD Cert.BQDx.τ Cert.BQDx.sig) → Buf (Elt Bits) ℓ) (g : Dev Cert.BQDx.nD → PrngReg), Pre_BQDx m →
    θ_run (Cert.BQDx.defs (F := Bits)) (onTc (τ := Cert.BQDx.τ) (Cert.BQDx.main (F := Bits))) ⟨m, fun _ => 0, g⟩ (fun r => (∀ c : Dev Cert.BQDx.nD,
      r.2.mem ((c.tc : Thread Cert.BQDx.nD Cert.BQDx.τ).loc Cert.BQDx.main_arg0) = m ((c.tc : Thread Cert.BQDx.nD Cert.BQDx.τ).loc Cert.BQDx.main_arg0)
      ∧ r.2.mem ((c.tc : Thread Cert.BQDx.nD Cert.BQDx.τ).loc Cert.BQDx.main_arg1) = m ((c.tc : Thread Cert.BQDx.nD Cert.BQDx.τ).loc Cert.BQDx.main_arg1)
      ∧ r.2.mem ((c.tc : Thread Cert.BQDx.nD Cert.BQDx.τ).loc Cert.BQDx.main_arg2) = m ((c.tc : Thread Cert.BQDx.nD Cert.BQDx.τ).loc Cert.BQDx.main_arg2)
      ∧ r.2.mem ((c.tc : Thread Cert.BQDx.nD Cert.BQDx.τ).loc Cert.BQDx.main_arg3) = m ((c.tc : Thread Cert.BQDx.nD Cert.BQDx.τ).loc Cert.BQDx.main_arg3)
      ∧ r.2.mem ((c.tc : Thread Cert.BQDx.nD Cert.BQDx.τ).loc Cert.BQDx.main_arg4) = m ((c.tc : Thread Cert.BQDx.nD Cert.BQDx.τ).loc Cert.BQDx.main_arg4))
      ∧ r.2.sem = fun _ => 0)

def quiescent_BQDxIdeal [hBQDxIdeal : Cert.BQDxIdeal.Facts] : Prop :=
  ∀ (m : (ℓ : Loc Cert.BQDxIdeal.nD Cert.BQDxIdeal.τ Cert.BQDxIdeal.sig) → Buf (Elt Ideal) ℓ) (g : Dev Cert.BQDxIdeal.nD → PrngReg), Pre_BQDxIdeal m →
    θ_run (Cert.BQDxIdeal.defs (F := Ideal)) (onTc (τ := Cert.BQDxIdeal.τ) (Cert.BQDxIdeal.main (F := Ideal))) ⟨m, fun _ => 0, g⟩ (fun r => (∀ c : Dev Cert.BQDxIdeal.nD,
      r.2.mem ((c.tc : Thread Cert.BQDxIdeal.nD Cert.BQDxIdeal.τ).loc Cert.BQDxIdeal.main_arg0) = m ((c.tc : Thread Cert.BQDxIdeal.nD Cert.BQDxIdeal.τ).loc Cert.BQDxIdeal.main_arg0)
      ∧ r.2.mem ((c.tc : Thread Cert.BQDxIdeal.nD Cert.BQDxIdeal.τ).loc Cert.BQDxIdeal.main_arg1) = m ((c.tc : Thread Cert.BQDxIdeal.nD Cert.BQDxIdeal.τ).loc Cert.BQDxIdeal.main_arg1)
      ∧ r.2.mem ((c.tc : Thread Cert.BQDxIdeal.nD Cert.BQDxIdeal.τ).loc Cert.BQDxIdeal.main_arg2) = m ((c.tc : Thread Cert.BQDxIdeal.nD Cert.BQDxIdeal.τ).loc Cert.BQDxIdeal.main_arg2)
      ∧ r.2.mem ((c.tc : Thread Cert.BQDxIdeal.nD Cert.BQDxIdeal.τ).loc Cert.BQDxIdeal.main_arg3) = m ((c.tc : Thread Cert.BQDxIdeal.nD Cert.BQDxIdeal.τ).loc Cert.BQDxIdeal.main_arg3)
      ∧ r.2.mem ((c.tc : Thread Cert.BQDxIdeal.nD Cert.BQDxIdeal.τ).loc Cert.BQDxIdeal.main_arg4) = m ((c.tc : Thread Cert.BQDxIdeal.nD Cert.BQDxIdeal.τ).loc Cert.BQDxIdeal.main_arg4))
      ∧ r.2.sem = fun _ => 0)

def quiescent_BQDxRefIdeal [hBQDxRefIdeal : Cert.BQDxRefIdeal.Facts] : Prop :=
  ∀ (m : (ℓ : Loc Cert.BQDxRefIdeal.nD Cert.BQDxRefIdeal.τ Cert.BQDxRefIdeal.sig) → Buf (Elt Ideal) ℓ) (g : Dev Cert.BQDxRefIdeal.nD → PrngReg), Pre_BQDxRefIdeal m →
    θ_run (Cert.BQDxRefIdeal.defs (F := Ideal)) (onTc (τ := Cert.BQDxRefIdeal.τ) (Cert.BQDxRefIdeal.main (F := Ideal))) ⟨m, fun _ => 0, g⟩ (fun r => (∀ c : Dev Cert.BQDxRefIdeal.nD,
      r.2.mem ((c.tc : Thread Cert.BQDxRefIdeal.nD Cert.BQDxRefIdeal.τ).loc Cert.BQDxRefIdeal.main_arg0) = m ((c.tc : Thread Cert.BQDxRefIdeal.nD Cert.BQDxRefIdeal.τ).loc Cert.BQDxRefIdeal.main_arg0)
      ∧ r.2.mem ((c.tc : Thread Cert.BQDxRefIdeal.nD Cert.BQDxRefIdeal.τ).loc Cert.BQDxRefIdeal.main_arg1) = m ((c.tc : Thread Cert.BQDxRefIdeal.nD Cert.BQDxRefIdeal.τ).loc Cert.BQDxRefIdeal.main_arg1)
      ∧ r.2.mem ((c.tc : Thread Cert.BQDxRefIdeal.nD Cert.BQDxRefIdeal.τ).loc Cert.BQDxRefIdeal.main_arg2) = m ((c.tc : Thread Cert.BQDxRefIdeal.nD Cert.BQDxRefIdeal.τ).loc Cert.BQDxRefIdeal.main_arg2)
      ∧ r.2.mem ((c.tc : Thread Cert.BQDxRefIdeal.nD Cert.BQDxRefIdeal.τ).loc Cert.BQDxRefIdeal.main_arg3) = m ((c.tc : Thread Cert.BQDxRefIdeal.nD Cert.BQDxRefIdeal.τ).loc Cert.BQDxRefIdeal.main_arg3)
      ∧ r.2.mem ((c.tc : Thread Cert.BQDxRefIdeal.nD Cert.BQDxRefIdeal.τ).loc Cert.BQDxRefIdeal.main_arg4) = m ((c.tc : Thread Cert.BQDxRefIdeal.nD Cert.BQDxRefIdeal.τ).loc Cert.BQDxRefIdeal.main_arg4))
      ∧ r.2.sem = fun _ => 0)

def quiescent_BWoFwd [hBWoFwd : Cert.BWoFwd.Facts] : Prop :=
  ∀ (m : (ℓ : Loc Cert.BWoFwd.nD Cert.BWoFwd.τ Cert.BWoFwd.sig) → Buf (Elt Bits) ℓ) (g : Dev Cert.BWoFwd.nD → PrngReg), Pre_BWoFwd m →
    θ_run (Cert.BWoFwd.defs (F := Bits)) (onTc (τ := Cert.BWoFwd.τ) (Cert.BWoFwd.main (F := Bits))) ⟨m, fun _ => 0, g⟩ (fun r => (∀ c : Dev Cert.BWoFwd.nD,
      r.2.mem ((c.tc : Thread Cert.BWoFwd.nD Cert.BWoFwd.τ).loc Cert.BWoFwd.main_arg0) = m ((c.tc : Thread Cert.BWoFwd.nD Cert.BWoFwd.τ).loc Cert.BWoFwd.main_arg0)
      ∧ r.2.mem ((c.tc : Thread Cert.BWoFwd.nD Cert.BWoFwd.τ).loc Cert.BWoFwd.main_arg1) = m ((c.tc : Thread Cert.BWoFwd.nD Cert.BWoFwd.τ).loc Cert.BWoFwd.main_arg1)
      ∧ r.2.mem ((c.tc : Thread Cert.BWoFwd.nD Cert.BWoFwd.τ).loc Cert.BWoFwd.main_arg2) = m ((c.tc : Thread Cert.BWoFwd.nD Cert.BWoFwd.τ).loc Cert.BWoFwd.main_arg2)
      ∧ r.2.mem ((c.tc : Thread Cert.BWoFwd.nD Cert.BWoFwd.τ).loc Cert.BWoFwd.main_arg3) = m ((c.tc : Thread Cert.BWoFwd.nD Cert.BWoFwd.τ).loc Cert.BWoFwd.main_arg3)
      ∧ r.2.mem ((c.tc : Thread Cert.BWoFwd.nD Cert.BWoFwd.τ).loc Cert.BWoFwd.main_arg4) = m ((c.tc : Thread Cert.BWoFwd.nD Cert.BWoFwd.τ).loc Cert.BWoFwd.main_arg4))
      ∧ r.2.sem = fun _ => 0)

def quiescent_BWoFwdIdeal [hBWoFwdIdeal : Cert.BWoFwdIdeal.Facts] : Prop :=
  ∀ (m : (ℓ : Loc Cert.BWoFwdIdeal.nD Cert.BWoFwdIdeal.τ Cert.BWoFwdIdeal.sig) → Buf (Elt Ideal) ℓ) (g : Dev Cert.BWoFwdIdeal.nD → PrngReg), Pre_BWoFwdIdeal m →
    θ_run (Cert.BWoFwdIdeal.defs (F := Ideal)) (onTc (τ := Cert.BWoFwdIdeal.τ) (Cert.BWoFwdIdeal.main (F := Ideal))) ⟨m, fun _ => 0, g⟩ (fun r => (∀ c : Dev Cert.BWoFwdIdeal.nD,
      r.2.mem ((c.tc : Thread Cert.BWoFwdIdeal.nD Cert.BWoFwdIdeal.τ).loc Cert.BWoFwdIdeal.main_arg0) = m ((c.tc : Thread Cert.BWoFwdIdeal.nD Cert.BWoFwdIdeal.τ).loc Cert.BWoFwdIdeal.main_arg0)
      ∧ r.2.mem ((c.tc : Thread Cert.BWoFwdIdeal.nD Cert.BWoFwdIdeal.τ).loc Cert.BWoFwdIdeal.main_arg1) = m ((c.tc : Thread Cert.BWoFwdIdeal.nD Cert.BWoFwdIdeal.τ).loc Cert.BWoFwdIdeal.main_arg1)
      ∧ r.2.mem ((c.tc : Thread Cert.BWoFwdIdeal.nD Cert.BWoFwdIdeal.τ).loc Cert.BWoFwdIdeal.main_arg2) = m ((c.tc : Thread Cert.BWoFwdIdeal.nD Cert.BWoFwdIdeal.τ).loc Cert.BWoFwdIdeal.main_arg2)
      ∧ r.2.mem ((c.tc : Thread Cert.BWoFwdIdeal.nD Cert.BWoFwdIdeal.τ).loc Cert.BWoFwdIdeal.main_arg3) = m ((c.tc : Thread Cert.BWoFwdIdeal.nD Cert.BWoFwdIdeal.τ).loc Cert.BWoFwdIdeal.main_arg3)
      ∧ r.2.mem ((c.tc : Thread Cert.BWoFwdIdeal.nD Cert.BWoFwdIdeal.τ).loc Cert.BWoFwdIdeal.main_arg4) = m ((c.tc : Thread Cert.BWoFwdIdeal.nD Cert.BWoFwdIdeal.τ).loc Cert.BWoFwdIdeal.main_arg4))
      ∧ r.2.sem = fun _ => 0)

def quiescent_BWoFwdRefIdeal [hBWoFwdRefIdeal : Cert.BWoFwdRefIdeal.Facts] : Prop :=
  ∀ (m : (ℓ : Loc Cert.BWoFwdRefIdeal.nD Cert.BWoFwdRefIdeal.τ Cert.BWoFwdRefIdeal.sig) → Buf (Elt Ideal) ℓ) (g : Dev Cert.BWoFwdRefIdeal.nD → PrngReg), Pre_BWoFwdRefIdeal m →
    θ_run (Cert.BWoFwdRefIdeal.defs (F := Ideal)) (onTc (τ := Cert.BWoFwdRefIdeal.τ) (Cert.BWoFwdRefIdeal.main (F := Ideal))) ⟨m, fun _ => 0, g⟩ (fun r => (∀ c : Dev Cert.BWoFwdRefIdeal.nD,
      r.2.mem ((c.tc : Thread Cert.BWoFwdRefIdeal.nD Cert.BWoFwdRefIdeal.τ).loc Cert.BWoFwdRefIdeal.main_arg0) = m ((c.tc : Thread Cert.BWoFwdRefIdeal.nD Cert.BWoFwdRefIdeal.τ).loc Cert.BWoFwdRefIdeal.main_arg0)
      ∧ r.2.mem ((c.tc : Thread Cert.BWoFwdRefIdeal.nD Cert.BWoFwdRefIdeal.τ).loc Cert.BWoFwdRefIdeal.main_arg1) = m ((c.tc : Thread Cert.BWoFwdRefIdeal.nD Cert.BWoFwdRefIdeal.τ).loc Cert.BWoFwdRefIdeal.main_arg1)
      ∧ r.2.mem ((c.tc : Thread Cert.BWoFwdRefIdeal.nD Cert.BWoFwdRefIdeal.τ).loc Cert.BWoFwdRefIdeal.main_arg2) = m ((c.tc : Thread Cert.BWoFwdRefIdeal.nD Cert.BWoFwdRefIdeal.τ).loc Cert.BWoFwdRefIdeal.main_arg2)
      ∧ r.2.mem ((c.tc : Thread Cert.BWoFwdRefIdeal.nD Cert.BWoFwdRefIdeal.τ).loc Cert.BWoFwdRefIdeal.main_arg3) = m ((c.tc : Thread Cert.BWoFwdRefIdeal.nD Cert.BWoFwdRefIdeal.τ).loc Cert.BWoFwdRefIdeal.main_arg3)
      ∧ r.2.mem ((c.tc : Thread Cert.BWoFwdRefIdeal.nD Cert.BWoFwdRefIdeal.τ).loc Cert.BWoFwdRefIdeal.main_arg4) = m ((c.tc : Thread Cert.BWoFwdRefIdeal.nD Cert.BWoFwdRefIdeal.τ).loc Cert.BWoFwdRefIdeal.main_arg4))
      ∧ r.2.sem = fun _ => 0)

def quiescent_AdamwANorm [hAdamwANorm : Cert.AdamwANorm.Facts] : Prop :=
  ∀ (m : (ℓ : Loc Cert.AdamwANorm.nD Cert.AdamwANorm.τ Cert.AdamwANorm.sig) → Buf (Elt Bits) ℓ) (g : Dev Cert.AdamwANorm.nD → PrngReg), Pre_AdamwANorm m →
    θ_run (Cert.AdamwANorm.defs (F := Bits)) (onTc (τ := Cert.AdamwANorm.τ) (Cert.AdamwANorm.main (F := Bits))) ⟨m, fun _ => 0, g⟩ (fun r => (∀ c : Dev Cert.AdamwANorm.nD,
      r.2.mem ((c.tc : Thread Cert.AdamwANorm.nD Cert.AdamwANorm.τ).loc Cert.AdamwANorm.main_arg0) = m ((c.tc : Thread Cert.AdamwANorm.nD Cert.AdamwANorm.τ).loc Cert.AdamwANorm.main_arg0)
      ∧ r.2.mem ((c.tc : Thread Cert.AdamwANorm.nD Cert.AdamwANorm.τ).loc Cert.AdamwANorm.main_arg1) = m ((c.tc : Thread Cert.AdamwANorm.nD Cert.AdamwANorm.τ).loc Cert.AdamwANorm.main_arg1)
      ∧ r.2.mem ((c.tc : Thread Cert.AdamwANorm.nD Cert.AdamwANorm.τ).loc Cert.AdamwANorm.main_arg2) = m ((c.tc : Thread Cert.AdamwANorm.nD Cert.AdamwANorm.τ).loc Cert.AdamwANorm.main_arg2)
      ∧ r.2.mem ((c.tc : Thread Cert.AdamwANorm.nD Cert.AdamwANorm.τ).loc Cert.AdamwANorm.main_arg3) = m ((c.tc : Thread Cert.AdamwANorm.nD Cert.AdamwANorm.τ).loc Cert.AdamwANorm.main_arg3))
      ∧ r.2.sem = fun _ => 0)

def quiescent_AdamwANormIdeal [hAdamwANormIdeal : Cert.AdamwANormIdeal.Facts] : Prop :=
  ∀ (m : (ℓ : Loc Cert.AdamwANormIdeal.nD Cert.AdamwANormIdeal.τ Cert.AdamwANormIdeal.sig) → Buf (Elt Ideal) ℓ) (g : Dev Cert.AdamwANormIdeal.nD → PrngReg), Pre_AdamwANormIdeal m →
    θ_run (Cert.AdamwANormIdeal.defs (F := Ideal)) (onTc (τ := Cert.AdamwANormIdeal.τ) (Cert.AdamwANormIdeal.main (F := Ideal))) ⟨m, fun _ => 0, g⟩ (fun r => (∀ c : Dev Cert.AdamwANormIdeal.nD,
      r.2.mem ((c.tc : Thread Cert.AdamwANormIdeal.nD Cert.AdamwANormIdeal.τ).loc Cert.AdamwANormIdeal.main_arg0) = m ((c.tc : Thread Cert.AdamwANormIdeal.nD Cert.AdamwANormIdeal.τ).loc Cert.AdamwANormIdeal.main_arg0)
      ∧ r.2.mem ((c.tc : Thread Cert.AdamwANormIdeal.nD Cert.AdamwANormIdeal.τ).loc Cert.AdamwANormIdeal.main_arg1) = m ((c.tc : Thread Cert.AdamwANormIdeal.nD Cert.AdamwANormIdeal.τ).loc Cert.AdamwANormIdeal.main_arg1)
      ∧ r.2.mem ((c.tc : Thread Cert.AdamwANormIdeal.nD Cert.AdamwANormIdeal.τ).loc Cert.AdamwANormIdeal.main_arg2) = m ((c.tc : Thread Cert.AdamwANormIdeal.nD Cert.AdamwANormIdeal.τ).loc Cert.AdamwANormIdeal.main_arg2)
      ∧ r.2.mem ((c.tc : Thread Cert.AdamwANormIdeal.nD Cert.AdamwANormIdeal.τ).loc Cert.AdamwANormIdeal.main_arg3) = m ((c.tc : Thread Cert.AdamwANormIdeal.nD Cert.AdamwANormIdeal.τ).loc Cert.AdamwANormIdeal.main_arg3))
      ∧ r.2.sem = fun _ => 0)

def quiescent_AdamwANormRefIdeal [hAdamwANormRefIdeal : Cert.AdamwANormRefIdeal.Facts] : Prop :=
  ∀ (m : (ℓ : Loc Cert.AdamwANormRefIdeal.nD Cert.AdamwANormRefIdeal.τ Cert.AdamwANormRefIdeal.sig) → Buf (Elt Ideal) ℓ) (g : Dev Cert.AdamwANormRefIdeal.nD → PrngReg), Pre_AdamwANormRefIdeal m →
    θ_run (Cert.AdamwANormRefIdeal.defs (F := Ideal)) (onTc (τ := Cert.AdamwANormRefIdeal.τ) (Cert.AdamwANormRefIdeal.main (F := Ideal))) ⟨m, fun _ => 0, g⟩ (fun r => (∀ c : Dev Cert.AdamwANormRefIdeal.nD,
      r.2.mem ((c.tc : Thread Cert.AdamwANormRefIdeal.nD Cert.AdamwANormRefIdeal.τ).loc Cert.AdamwANormRefIdeal.main_arg0) = m ((c.tc : Thread Cert.AdamwANormRefIdeal.nD Cert.AdamwANormRefIdeal.τ).loc Cert.AdamwANormRefIdeal.main_arg0)
      ∧ r.2.mem ((c.tc : Thread Cert.AdamwANormRefIdeal.nD Cert.AdamwANormRefIdeal.τ).loc Cert.AdamwANormRefIdeal.main_arg1) = m ((c.tc : Thread Cert.AdamwANormRefIdeal.nD Cert.AdamwANormRefIdeal.τ).loc Cert.AdamwANormRefIdeal.main_arg1)
      ∧ r.2.mem ((c.tc : Thread Cert.AdamwANormRefIdeal.nD Cert.AdamwANormRefIdeal.τ).loc Cert.AdamwANormRefIdeal.main_arg2) = m ((c.tc : Thread Cert.AdamwANormRefIdeal.nD Cert.AdamwANormRefIdeal.τ).loc Cert.AdamwANormRefIdeal.main_arg2)
      ∧ r.2.mem ((c.tc : Thread Cert.AdamwANormRefIdeal.nD Cert.AdamwANormRefIdeal.τ).loc Cert.AdamwANormRefIdeal.main_arg3) = m ((c.tc : Thread Cert.AdamwANormRefIdeal.nD Cert.AdamwANormRefIdeal.τ).loc Cert.AdamwANormRefIdeal.main_arg3))
      ∧ r.2.sem = fun _ => 0)

def quiescent_AdamwBW [hAdamwBW : Cert.AdamwBW.Facts] [hPre_chip_b_w : Cert.Pre_chip_b_w.Facts] : Prop :=
  ∀ (m : (ℓ : Loc Cert.AdamwBW.nD Cert.AdamwBW.τ Cert.AdamwBW.sig) → Buf (Elt Bits) ℓ) (g : Dev Cert.AdamwBW.nD → PrngReg), Pre_AdamwBW m →
    θ_run (Cert.AdamwBW.defs (F := Bits)) (onTc (τ := Cert.AdamwBW.τ) (Cert.AdamwBW.main (F := Bits))) ⟨m, fun _ => 0, g⟩ (fun r => (∀ c : Dev Cert.AdamwBW.nD,
      r.2.mem ((c.tc : Thread Cert.AdamwBW.nD Cert.AdamwBW.τ).loc Cert.AdamwBW.main_arg0) = m ((c.tc : Thread Cert.AdamwBW.nD Cert.AdamwBW.τ).loc Cert.AdamwBW.main_arg0)
      ∧ r.2.mem ((c.tc : Thread Cert.AdamwBW.nD Cert.AdamwBW.τ).loc Cert.AdamwBW.main_arg1) = m ((c.tc : Thread Cert.AdamwBW.nD Cert.AdamwBW.τ).loc Cert.AdamwBW.main_arg1)
      ∧ r.2.mem ((c.tc : Thread Cert.AdamwBW.nD Cert.AdamwBW.τ).loc Cert.AdamwBW.main_arg2) = m ((c.tc : Thread Cert.AdamwBW.nD Cert.AdamwBW.τ).loc Cert.AdamwBW.main_arg2)
      ∧ r.2.mem ((c.tc : Thread Cert.AdamwBW.nD Cert.AdamwBW.τ).loc Cert.AdamwBW.main_arg3) = m ((c.tc : Thread Cert.AdamwBW.nD Cert.AdamwBW.τ).loc Cert.AdamwBW.main_arg3)
      ∧ r.2.mem ((c.tc : Thread Cert.AdamwBW.nD Cert.AdamwBW.τ).loc Cert.AdamwBW.main_arg4) = m ((c.tc : Thread Cert.AdamwBW.nD Cert.AdamwBW.τ).loc Cert.AdamwBW.main_arg4)
      ∧ r.2.mem ((c.tc : Thread Cert.AdamwBW.nD Cert.AdamwBW.τ).loc Cert.AdamwBW.main_arg5) = m ((c.tc : Thread Cert.AdamwBW.nD Cert.AdamwBW.τ).loc Cert.AdamwBW.main_arg5))
      ∧ r.2.sem = fun _ => 0)

def quiescent_AdamwBWIdeal [hAdamwBWIdeal : Cert.AdamwBWIdeal.Facts] [hPre_chip_b_w : Cert.Pre_chip_b_w.Facts] : Prop :=
  ∀ (m : (ℓ : Loc Cert.AdamwBWIdeal.nD Cert.AdamwBWIdeal.τ Cert.AdamwBWIdeal.sig) → Buf (Elt Ideal) ℓ) (g : Dev Cert.AdamwBWIdeal.nD → PrngReg), Pre_AdamwBWIdeal m →
    θ_run (Cert.AdamwBWIdeal.defs (F := Ideal)) (onTc (τ := Cert.AdamwBWIdeal.τ) (Cert.AdamwBWIdeal.main (F := Ideal))) ⟨m, fun _ => 0, g⟩ (fun r => (∀ c : Dev Cert.AdamwBWIdeal.nD,
      r.2.mem ((c.tc : Thread Cert.AdamwBWIdeal.nD Cert.AdamwBWIdeal.τ).loc Cert.AdamwBWIdeal.main_arg0) = m ((c.tc : Thread Cert.AdamwBWIdeal.nD Cert.AdamwBWIdeal.τ).loc Cert.AdamwBWIdeal.main_arg0)
      ∧ r.2.mem ((c.tc : Thread Cert.AdamwBWIdeal.nD Cert.AdamwBWIdeal.τ).loc Cert.AdamwBWIdeal.main_arg1) = m ((c.tc : Thread Cert.AdamwBWIdeal.nD Cert.AdamwBWIdeal.τ).loc Cert.AdamwBWIdeal.main_arg1)
      ∧ r.2.mem ((c.tc : Thread Cert.AdamwBWIdeal.nD Cert.AdamwBWIdeal.τ).loc Cert.AdamwBWIdeal.main_arg2) = m ((c.tc : Thread Cert.AdamwBWIdeal.nD Cert.AdamwBWIdeal.τ).loc Cert.AdamwBWIdeal.main_arg2)
      ∧ r.2.mem ((c.tc : Thread Cert.AdamwBWIdeal.nD Cert.AdamwBWIdeal.τ).loc Cert.AdamwBWIdeal.main_arg3) = m ((c.tc : Thread Cert.AdamwBWIdeal.nD Cert.AdamwBWIdeal.τ).loc Cert.AdamwBWIdeal.main_arg3)
      ∧ r.2.mem ((c.tc : Thread Cert.AdamwBWIdeal.nD Cert.AdamwBWIdeal.τ).loc Cert.AdamwBWIdeal.main_arg4) = m ((c.tc : Thread Cert.AdamwBWIdeal.nD Cert.AdamwBWIdeal.τ).loc Cert.AdamwBWIdeal.main_arg4)
      ∧ r.2.mem ((c.tc : Thread Cert.AdamwBWIdeal.nD Cert.AdamwBWIdeal.τ).loc Cert.AdamwBWIdeal.main_arg5) = m ((c.tc : Thread Cert.AdamwBWIdeal.nD Cert.AdamwBWIdeal.τ).loc Cert.AdamwBWIdeal.main_arg5))
      ∧ r.2.sem = fun _ => 0)

def quiescent_AdamwBWRefIdeal [hAdamwBWRefIdeal : Cert.AdamwBWRefIdeal.Facts] : Prop :=
  ∀ (m : (ℓ : Loc Cert.AdamwBWRefIdeal.nD Cert.AdamwBWRefIdeal.τ Cert.AdamwBWRefIdeal.sig) → Buf (Elt Ideal) ℓ) (g : Dev Cert.AdamwBWRefIdeal.nD → PrngReg), Pre_AdamwBWRefIdeal m →
    θ_run (Cert.AdamwBWRefIdeal.defs (F := Ideal)) (onTc (τ := Cert.AdamwBWRefIdeal.τ) (Cert.AdamwBWRefIdeal.main (F := Ideal))) ⟨m, fun _ => 0, g⟩ (fun r => (∀ c : Dev Cert.AdamwBWRefIdeal.nD,
      r.2.mem ((c.tc : Thread Cert.AdamwBWRefIdeal.nD Cert.AdamwBWRefIdeal.τ).loc Cert.AdamwBWRefIdeal.main_arg0) = m ((c.tc : Thread Cert.AdamwBWRefIdeal.nD Cert.AdamwBWRefIdeal.τ).loc Cert.AdamwBWRefIdeal.main_arg0)
      ∧ r.2.mem ((c.tc : Thread Cert.AdamwBWRefIdeal.nD Cert.AdamwBWRefIdeal.τ).loc Cert.AdamwBWRefIdeal.main_arg1) = m ((c.tc : Thread Cert.AdamwBWRefIdeal.nD Cert.AdamwBWRefIdeal.τ).loc Cert.AdamwBWRefIdeal.main_arg1)
      ∧ r.2.mem ((c.tc : Thread Cert.AdamwBWRefIdeal.nD Cert.AdamwBWRefIdeal.τ).loc Cert.AdamwBWRefIdeal.main_arg2) = m ((c.tc : Thread Cert.AdamwBWRefIdeal.nD Cert.AdamwBWRefIdeal.τ).loc Cert.AdamwBWRefIdeal.main_arg2)
      ∧ r.2.mem ((c.tc : Thread Cert.AdamwBWRefIdeal.nD Cert.AdamwBWRefIdeal.τ).loc Cert.AdamwBWRefIdeal.main_arg3) = m ((c.tc : Thread Cert.AdamwBWRefIdeal.nD Cert.AdamwBWRefIdeal.τ).loc Cert.AdamwBWRefIdeal.main_arg3)
      ∧ r.2.mem ((c.tc : Thread Cert.AdamwBWRefIdeal.nD Cert.AdamwBWRefIdeal.τ).loc Cert.AdamwBWRefIdeal.main_arg4) = m ((c.tc : Thread Cert.AdamwBWRefIdeal.nD Cert.AdamwBWRefIdeal.τ).loc Cert.AdamwBWRefIdeal.main_arg4)
      ∧ r.2.mem ((c.tc : Thread Cert.AdamwBWRefIdeal.nD Cert.AdamwBWRefIdeal.τ).loc Cert.AdamwBWRefIdeal.main_arg5) = m ((c.tc : Thread Cert.AdamwBWRefIdeal.nD Cert.AdamwBWRefIdeal.τ).loc Cert.AdamwBWRefIdeal.main_arg5))
      ∧ r.2.sem = fun _ => 0)

def quiescent_AdamwBWRefIdeal_pre_chip_b_w [hAdamwBWRefIdeal : Cert.AdamwBWRefIdeal.Facts] [hPre_chip_b_w : Cert.Pre_chip_b_w.Facts] : Prop :=
  ∀ (m : (ℓ : Loc Cert.AdamwBWRefIdeal.nD Cert.AdamwBWRefIdeal.τ Cert.AdamwBWRefIdeal.sig) → Buf (Elt Ideal) ℓ) (g : Dev Cert.AdamwBWRefIdeal.nD → PrngReg), Pre_AdamwBWRefIdeal_chip_b_w m →
    θ_run (Cert.AdamwBWRefIdeal.defs (F := Ideal)) (onTc (τ := Cert.AdamwBWRefIdeal.τ) (Cert.AdamwBWRefIdeal.main (F := Ideal))) ⟨m, fun _ => 0, g⟩ (fun r => (∀ c : Dev Cert.AdamwBWRefIdeal.nD,
      r.2.mem ((c.tc : Thread Cert.AdamwBWRefIdeal.nD Cert.AdamwBWRefIdeal.τ).loc Cert.AdamwBWRefIdeal.main_arg0) = m ((c.tc : Thread Cert.AdamwBWRefIdeal.nD Cert.AdamwBWRefIdeal.τ).loc Cert.AdamwBWRefIdeal.main_arg0)
      ∧ r.2.mem ((c.tc : Thread Cert.AdamwBWRefIdeal.nD Cert.AdamwBWRefIdeal.τ).loc Cert.AdamwBWRefIdeal.main_arg1) = m ((c.tc : Thread Cert.AdamwBWRefIdeal.nD Cert.AdamwBWRefIdeal.τ).loc Cert.AdamwBWRefIdeal.main_arg1)
      ∧ r.2.mem ((c.tc : Thread Cert.AdamwBWRefIdeal.nD Cert.AdamwBWRefIdeal.τ).loc Cert.AdamwBWRefIdeal.main_arg2) = m ((c.tc : Thread Cert.AdamwBWRefIdeal.nD Cert.AdamwBWRefIdeal.τ).loc Cert.AdamwBWRefIdeal.main_arg2)
      ∧ r.2.mem ((c.tc : Thread Cert.AdamwBWRefIdeal.nD Cert.AdamwBWRefIdeal.τ).loc Cert.AdamwBWRefIdeal.main_arg3) = m ((c.tc : Thread Cert.AdamwBWRefIdeal.nD Cert.AdamwBWRefIdeal.τ).loc Cert.AdamwBWRefIdeal.main_arg3)
      ∧ r.2.mem ((c.tc : Thread Cert.AdamwBWRefIdeal.nD Cert.AdamwBWRefIdeal.τ).loc Cert.AdamwBWRefIdeal.main_arg4) = m ((c.tc : Thread Cert.AdamwBWRefIdeal.nD Cert.AdamwBWRefIdeal.τ).loc Cert.AdamwBWRefIdeal.main_arg4)
      ∧ r.2.mem ((c.tc : Thread Cert.AdamwBWRefIdeal.nD Cert.AdamwBWRefIdeal.τ).loc Cert.AdamwBWRefIdeal.main_arg5) = m ((c.tc : Thread Cert.AdamwBWRefIdeal.nD Cert.AdamwBWRefIdeal.τ).loc Cert.AdamwBWRefIdeal.main_arg5))
      ∧ r.2.sem = fun _ => 0)

def quiescent_AdamwKv [hAdamwKv : Cert.AdamwKv.Facts] [hPre_chip_w_kv : Cert.Pre_chip_w_kv.Facts] : Prop :=
  ∀ (m : (ℓ : Loc Cert.AdamwKv.nD Cert.AdamwKv.τ Cert.AdamwKv.sig) → Buf (Elt Bits) ℓ) (g : Dev Cert.AdamwKv.nD → PrngReg), Pre_AdamwKv m →
    θ_run (Cert.AdamwKv.defs (F := Bits)) (onTc (τ := Cert.AdamwKv.τ) (Cert.AdamwKv.main (F := Bits))) ⟨m, fun _ => 0, g⟩ (fun r => (∀ c : Dev Cert.AdamwKv.nD,
      r.2.mem ((c.tc : Thread Cert.AdamwKv.nD Cert.AdamwKv.τ).loc Cert.AdamwKv.main_arg0) = m ((c.tc : Thread Cert.AdamwKv.nD Cert.AdamwKv.τ).loc Cert.AdamwKv.main_arg0)
      ∧ r.2.mem ((c.tc : Thread Cert.AdamwKv.nD Cert.AdamwKv.τ).loc Cert.AdamwKv.main_arg1) = m ((c.tc : Thread Cert.AdamwKv.nD Cert.AdamwKv.τ).loc Cert.AdamwKv.main_arg1)
      ∧ r.2.mem ((c.tc : Thread Cert.AdamwKv.nD Cert.AdamwKv.τ).loc Cert.AdamwKv.main_arg2) = m ((c.tc : Thread Cert.AdamwKv.nD Cert.AdamwKv.τ).loc Cert.AdamwKv.main_arg2)
      ∧ r.2.mem ((c.tc : Thread Cert.AdamwKv.nD Cert.AdamwKv.τ).loc Cert.AdamwKv.main_arg3) = m ((c.tc : Thread Cert.AdamwKv.nD Cert.AdamwKv.τ).loc Cert.AdamwKv.main_arg3)
      ∧ r.2.mem ((c.tc : Thread Cert.AdamwKv.nD Cert.AdamwKv.τ).loc Cert.AdamwKv.main_arg4) = m ((c.tc : Thread Cert.AdamwKv.nD Cert.AdamwKv.τ).loc Cert.AdamwKv.main_arg4)
      ∧ r.2.mem ((c.tc : Thread Cert.AdamwKv.nD Cert.AdamwKv.τ).loc Cert.AdamwKv.main_arg5) = m ((c.tc : Thread Cert.AdamwKv.nD Cert.AdamwKv.τ).loc Cert.AdamwKv.main_arg5))
      ∧ r.2.sem = fun _ => 0)

def quiescent_AdamwKvIdeal [hAdamwKvIdeal : Cert.AdamwKvIdeal.Facts] [hPre_chip_w_kv : Cert.Pre_chip_w_kv.Facts] : Prop :=
  ∀ (m : (ℓ : Loc Cert.AdamwKvIdeal.nD Cert.AdamwKvIdeal.τ Cert.AdamwKvIdeal.sig) → Buf (Elt Ideal) ℓ) (g : Dev Cert.AdamwKvIdeal.nD → PrngReg), Pre_AdamwKvIdeal m →
    θ_run (Cert.AdamwKvIdeal.defs (F := Ideal)) (onTc (τ := Cert.AdamwKvIdeal.τ) (Cert.AdamwKvIdeal.main (F := Ideal))) ⟨m, fun _ => 0, g⟩ (fun r => (∀ c : Dev Cert.AdamwKvIdeal.nD,
      r.2.mem ((c.tc : Thread Cert.AdamwKvIdeal.nD Cert.AdamwKvIdeal.τ).loc Cert.AdamwKvIdeal.main_arg0) = m ((c.tc : Thread Cert.AdamwKvIdeal.nD Cert.AdamwKvIdeal.τ).loc Cert.AdamwKvIdeal.main_arg0)
      ∧ r.2.mem ((c.tc : Thread Cert.AdamwKvIdeal.nD Cert.AdamwKvIdeal.τ).loc Cert.AdamwKvIdeal.main_arg1) = m ((c.tc : Thread Cert.AdamwKvIdeal.nD Cert.AdamwKvIdeal.τ).loc Cert.AdamwKvIdeal.main_arg1)
      ∧ r.2.mem ((c.tc : Thread Cert.AdamwKvIdeal.nD Cert.AdamwKvIdeal.τ).loc Cert.AdamwKvIdeal.main_arg2) = m ((c.tc : Thread Cert.AdamwKvIdeal.nD Cert.AdamwKvIdeal.τ).loc Cert.AdamwKvIdeal.main_arg2)
      ∧ r.2.mem ((c.tc : Thread Cert.AdamwKvIdeal.nD Cert.AdamwKvIdeal.τ).loc Cert.AdamwKvIdeal.main_arg3) = m ((c.tc : Thread Cert.AdamwKvIdeal.nD Cert.AdamwKvIdeal.τ).loc Cert.AdamwKvIdeal.main_arg3)
      ∧ r.2.mem ((c.tc : Thread Cert.AdamwKvIdeal.nD Cert.AdamwKvIdeal.τ).loc Cert.AdamwKvIdeal.main_arg4) = m ((c.tc : Thread Cert.AdamwKvIdeal.nD Cert.AdamwKvIdeal.τ).loc Cert.AdamwKvIdeal.main_arg4)
      ∧ r.2.mem ((c.tc : Thread Cert.AdamwKvIdeal.nD Cert.AdamwKvIdeal.τ).loc Cert.AdamwKvIdeal.main_arg5) = m ((c.tc : Thread Cert.AdamwKvIdeal.nD Cert.AdamwKvIdeal.τ).loc Cert.AdamwKvIdeal.main_arg5))
      ∧ r.2.sem = fun _ => 0)

def quiescent_AdamwKvRefIdeal [hAdamwKvRefIdeal : Cert.AdamwKvRefIdeal.Facts] : Prop :=
  ∀ (m : (ℓ : Loc Cert.AdamwKvRefIdeal.nD Cert.AdamwKvRefIdeal.τ Cert.AdamwKvRefIdeal.sig) → Buf (Elt Ideal) ℓ) (g : Dev Cert.AdamwKvRefIdeal.nD → PrngReg), Pre_AdamwKvRefIdeal m →
    θ_run (Cert.AdamwKvRefIdeal.defs (F := Ideal)) (onTc (τ := Cert.AdamwKvRefIdeal.τ) (Cert.AdamwKvRefIdeal.main (F := Ideal))) ⟨m, fun _ => 0, g⟩ (fun r => (∀ c : Dev Cert.AdamwKvRefIdeal.nD,
      r.2.mem ((c.tc : Thread Cert.AdamwKvRefIdeal.nD Cert.AdamwKvRefIdeal.τ).loc Cert.AdamwKvRefIdeal.main_arg0) = m ((c.tc : Thread Cert.AdamwKvRefIdeal.nD Cert.AdamwKvRefIdeal.τ).loc Cert.AdamwKvRefIdeal.main_arg0)
      ∧ r.2.mem ((c.tc : Thread Cert.AdamwKvRefIdeal.nD Cert.AdamwKvRefIdeal.τ).loc Cert.AdamwKvRefIdeal.main_arg1) = m ((c.tc : Thread Cert.AdamwKvRefIdeal.nD Cert.AdamwKvRefIdeal.τ).loc Cert.AdamwKvRefIdeal.main_arg1)
      ∧ r.2.mem ((c.tc : Thread Cert.AdamwKvRefIdeal.nD Cert.AdamwKvRefIdeal.τ).loc Cert.AdamwKvRefIdeal.main_arg2) = m ((c.tc : Thread Cert.AdamwKvRefIdeal.nD Cert.AdamwKvRefIdeal.τ).loc Cert.AdamwKvRefIdeal.main_arg2)
      ∧ r.2.mem ((c.tc : Thread Cert.AdamwKvRefIdeal.nD Cert.AdamwKvRefIdeal.τ).loc Cert.AdamwKvRefIdeal.main_arg3) = m ((c.tc : Thread Cert.AdamwKvRefIdeal.nD Cert.AdamwKvRefIdeal.τ).loc Cert.AdamwKvRefIdeal.main_arg3)
      ∧ r.2.mem ((c.tc : Thread Cert.AdamwKvRefIdeal.nD Cert.AdamwKvRefIdeal.τ).loc Cert.AdamwKvRefIdeal.main_arg4) = m ((c.tc : Thread Cert.AdamwKvRefIdeal.nD Cert.AdamwKvRefIdeal.τ).loc Cert.AdamwKvRefIdeal.main_arg4)
      ∧ r.2.mem ((c.tc : Thread Cert.AdamwKvRefIdeal.nD Cert.AdamwKvRefIdeal.τ).loc Cert.AdamwKvRefIdeal.main_arg5) = m ((c.tc : Thread Cert.AdamwKvRefIdeal.nD Cert.AdamwKvRefIdeal.τ).loc Cert.AdamwKvRefIdeal.main_arg5))
      ∧ r.2.sem = fun _ => 0)

def quiescent_AdamwKvRefIdeal_pre_chip_w_kv [hAdamwKvRefIdeal : Cert.AdamwKvRefIdeal.Facts] [hPre_chip_w_kv : Cert.Pre_chip_w_kv.Facts] : Prop :=
  ∀ (m : (ℓ : Loc Cert.AdamwKvRefIdeal.nD Cert.AdamwKvRefIdeal.τ Cert.AdamwKvRefIdeal.sig) → Buf (Elt Ideal) ℓ) (g : Dev Cert.AdamwKvRefIdeal.nD → PrngReg), Pre_AdamwKvRefIdeal_chip_w_kv m →
    θ_run (Cert.AdamwKvRefIdeal.defs (F := Ideal)) (onTc (τ := Cert.AdamwKvRefIdeal.τ) (Cert.AdamwKvRefIdeal.main (F := Ideal))) ⟨m, fun _ => 0, g⟩ (fun r => (∀ c : Dev Cert.AdamwKvRefIdeal.nD,
      r.2.mem ((c.tc : Thread Cert.AdamwKvRefIdeal.nD Cert.AdamwKvRefIdeal.τ).loc Cert.AdamwKvRefIdeal.main_arg0) = m ((c.tc : Thread Cert.AdamwKvRefIdeal.nD Cert.AdamwKvRefIdeal.τ).loc Cert.AdamwKvRefIdeal.main_arg0)
      ∧ r.2.mem ((c.tc : Thread Cert.AdamwKvRefIdeal.nD Cert.AdamwKvRefIdeal.τ).loc Cert.AdamwKvRefIdeal.main_arg1) = m ((c.tc : Thread Cert.AdamwKvRefIdeal.nD Cert.AdamwKvRefIdeal.τ).loc Cert.AdamwKvRefIdeal.main_arg1)
      ∧ r.2.mem ((c.tc : Thread Cert.AdamwKvRefIdeal.nD Cert.AdamwKvRefIdeal.τ).loc Cert.AdamwKvRefIdeal.main_arg2) = m ((c.tc : Thread Cert.AdamwKvRefIdeal.nD Cert.AdamwKvRefIdeal.τ).loc Cert.AdamwKvRefIdeal.main_arg2)
      ∧ r.2.mem ((c.tc : Thread Cert.AdamwKvRefIdeal.nD Cert.AdamwKvRefIdeal.τ).loc Cert.AdamwKvRefIdeal.main_arg3) = m ((c.tc : Thread Cert.AdamwKvRefIdeal.nD Cert.AdamwKvRefIdeal.τ).loc Cert.AdamwKvRefIdeal.main_arg3)
      ∧ r.2.mem ((c.tc : Thread Cert.AdamwKvRefIdeal.nD Cert.AdamwKvRefIdeal.τ).loc Cert.AdamwKvRefIdeal.main_arg4) = m ((c.tc : Thread Cert.AdamwKvRefIdeal.nD Cert.AdamwKvRefIdeal.τ).loc Cert.AdamwKvRefIdeal.main_arg4)
      ∧ r.2.mem ((c.tc : Thread Cert.AdamwKvRefIdeal.nD Cert.AdamwKvRefIdeal.τ).loc Cert.AdamwKvRefIdeal.main_arg5) = m ((c.tc : Thread Cert.AdamwKvRefIdeal.nD Cert.AdamwKvRefIdeal.τ).loc Cert.AdamwKvRefIdeal.main_arg5))
      ∧ r.2.sem = fun _ => 0)

def quiescent_AdamwUp [hAdamwUp : Cert.AdamwUp.Facts] [hPre_chip_mlp_up : Cert.Pre_chip_mlp_up.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3)
      ∧ r.2.mem ((c.tc : Thread Cert.AdamwUp.nD Cert.AdamwUp.τ).loc Cert.AdamwUp.main_arg4) = m ((c.tc : Thread Cert.AdamwUp.nD Cert.AdamwUp.τ).loc Cert.AdamwUp.main_arg4)
      ∧ r.2.mem ((c.tc : Thread Cert.AdamwUp.nD Cert.AdamwUp.τ).loc Cert.AdamwUp.main_arg5) = m ((c.tc : Thread Cert.AdamwUp.nD Cert.AdamwUp.τ).loc Cert.AdamwUp.main_arg5)
      ∧ r.2.mem ((c.tc : Thread Cert.AdamwUp.nD Cert.AdamwUp.τ).loc Cert.AdamwUp.main_arg6) = m ((c.tc : Thread Cert.AdamwUp.nD Cert.AdamwUp.τ).loc Cert.AdamwUp.main_arg6)
      ∧ r.2.mem ((c.tc : Thread Cert.AdamwUp.nD Cert.AdamwUp.τ).loc Cert.AdamwUp.main_arg7) = m ((c.tc : Thread Cert.AdamwUp.nD Cert.AdamwUp.τ).loc Cert.AdamwUp.main_arg7)
      ∧ r.2.mem ((c.tc : Thread Cert.AdamwUp.nD Cert.AdamwUp.τ).loc Cert.AdamwUp.main_arg8) = m ((c.tc : Thread Cert.AdamwUp.nD Cert.AdamwUp.τ).loc Cert.AdamwUp.main_arg8)
      ∧ r.2.mem ((c.tc : Thread Cert.AdamwUp.nD Cert.AdamwUp.τ).loc Cert.AdamwUp.main_arg9) = m ((c.tc : Thread Cert.AdamwUp.nD Cert.AdamwUp.τ).loc Cert.AdamwUp.main_arg9))
      ∧ r.2.sem = fun _ => 0)

def quiescent_AdamwUpIdeal [hAdamwUpIdeal : Cert.AdamwUpIdeal.Facts] [hPre_chip_mlp_up : Cert.Pre_chip_mlp_up.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
      ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4)
      ∧ r.2.mem ((c.tc : Thread Cert.AdamwUpIdeal.nD Cert.AdamwUpIdeal.τ).loc Cert.AdamwUpIdeal.main_arg5) = m ((c.tc : Thread Cert.AdamwUpIdeal.nD Cert.AdamwUpIdeal.τ).loc Cert.AdamwUpIdeal.main_arg5)
      ∧ r.2.mem ((c.tc : Thread Cert.AdamwUpIdeal.nD Cert.AdamwUpIdeal.τ).loc Cert.AdamwUpIdeal.main_arg6) = m ((c.tc : Thread Cert.AdamwUpIdeal.nD Cert.AdamwUpIdeal.τ).loc Cert.AdamwUpIdeal.main_arg6)
      ∧ r.2.mem ((c.tc : Thread Cert.AdamwUpIdeal.nD Cert.AdamwUpIdeal.τ).loc Cert.AdamwUpIdeal.main_arg7) = m ((c.tc : Thread Cert.AdamwUpIdeal.nD Cert.AdamwUpIdeal.τ).loc Cert.AdamwUpIdeal.main_arg7)
      ∧ r.2.mem ((c.tc : Thread Cert.AdamwUpIdeal.nD Cert.AdamwUpIdeal.τ).loc Cert.AdamwUpIdeal.main_arg8) = m ((c.tc : Thread Cert.AdamwUpIdeal.nD Cert.AdamwUpIdeal.τ).loc Cert.AdamwUpIdeal.main_arg8)
      ∧ r.2.mem ((c.tc : Thread Cert.AdamwUpIdeal.nD Cert.AdamwUpIdeal.τ).loc Cert.AdamwUpIdeal.main_arg9) = m ((c.tc : Thread Cert.AdamwUpIdeal.nD Cert.AdamwUpIdeal.τ).loc Cert.AdamwUpIdeal.main_arg9))
      ∧ r.2.sem = fun _ => 0)

def quiescent_AdamwUpRefIdeal [hAdamwUpRefIdeal : Cert.AdamwUpRefIdeal.Facts] : Prop :=
  ∀ (m : (ℓ : Loc Cert.AdamwUpRefIdeal.nD Cert.AdamwUpRefIdeal.τ Cert.AdamwUpRefIdeal.sig) → Buf (Elt Ideal) ℓ) (g : Dev Cert.AdamwUpRefIdeal.nD → PrngReg), Pre_AdamwUpRefIdeal m →
    θ_run (Cert.AdamwUpRefIdeal.defs (F := Ideal)) (onTc (τ := Cert.AdamwUpRefIdeal.τ) (Cert.AdamwUpRefIdeal.main (F := Ideal))) ⟨m, fun _ => 0, g⟩ (fun r => (∀ c : Dev Cert.AdamwUpRefIdeal.nD,
      r.2.mem ((c.tc : Thread Cert.AdamwUpRefIdeal.nD Cert.AdamwUpRefIdeal.τ).loc Cert.AdamwUpRefIdeal.main_arg0) = m ((c.tc : Thread Cert.AdamwUpRefIdeal.nD Cert.AdamwUpRefIdeal.τ).loc Cert.AdamwUpRefIdeal.main_arg0)
      ∧ r.2.mem ((c.tc : Thread Cert.AdamwUpRefIdeal.nD Cert.AdamwUpRefIdeal.τ).loc Cert.AdamwUpRefIdeal.main_arg1) = m ((c.tc : Thread Cert.AdamwUpRefIdeal.nD Cert.AdamwUpRefIdeal.τ).loc Cert.AdamwUpRefIdeal.main_arg1)
      ∧ r.2.mem ((c.tc : Thread Cert.AdamwUpRefIdeal.nD Cert.AdamwUpRefIdeal.τ).loc Cert.AdamwUpRefIdeal.main_arg2) = m ((c.tc : Thread Cert.AdamwUpRefIdeal.nD Cert.AdamwUpRefIdeal.τ).loc Cert.AdamwUpRefIdeal.main_arg2)
      ∧ r.2.mem ((c.tc : Thread Cert.AdamwUpRefIdeal.nD Cert.AdamwUpRefIdeal.τ).loc Cert.AdamwUpRefIdeal.main_arg3) = m ((c.tc : Thread Cert.AdamwUpRefIdeal.nD Cert.AdamwUpRefIdeal.τ).loc Cert.AdamwUpRefIdeal.main_arg3)
      ∧ r.2.mem ((c.tc : Thread Cert.AdamwUpRefIdeal.nD Cert.AdamwUpRefIdeal.τ).loc Cert.AdamwUpRefIdeal.main_arg4) = m ((c.tc : Thread Cert.AdamwUpRefIdeal.nD Cert.AdamwUpRefIdeal.τ).loc Cert.AdamwUpRefIdeal.main_arg4)
      ∧ r.2.mem ((c.tc : Thread Cert.AdamwUpRefIdeal.nD Cert.AdamwUpRefIdeal.τ).loc Cert.AdamwUpRefIdeal.main_arg5) = m ((c.tc : Thread Cert.AdamwUpRefIdeal.nD Cert.AdamwUpRefIdeal.τ).loc Cert.AdamwUpRefIdeal.main_arg5)
      ∧ r.2.mem ((c.tc : Thread Cert.AdamwUpRefIdeal.nD Cert.AdamwUpRefIdeal.τ).loc Cert.AdamwUpRefIdeal.main_arg6) = m ((c.tc : Thread Cert.AdamwUpRefIdeal.nD Cert.AdamwUpRefIdeal.τ).loc Cert.AdamwUpRefIdeal.main_arg6)
      ∧ r.2.mem ((c.tc : Thread Cert.AdamwUpRefIdeal.nD Cert.AdamwUpRefIdeal.τ).loc Cert.AdamwUpRefIdeal.main_arg7) = m ((c.tc : Thread Cert.AdamwUpRefIdeal.nD Cert.AdamwUpRefIdeal.τ).loc Cert.AdamwUpRefIdeal.main_arg7)
      ∧ r.2.mem ((c.tc : Thread Cert.AdamwUpRefIdeal.nD Cert.AdamwUpRefIdeal.τ).loc Cert.AdamwUpRefIdeal.main_arg8) = m ((c.tc : Thread Cert.AdamwUpRefIdeal.nD Cert.AdamwUpRefIdeal.τ).loc Cert.AdamwUpRefIdeal.main_arg8)
      ∧ r.2.mem ((c.tc : Thread Cert.AdamwUpRefIdeal.nD Cert.AdamwUpRefIdeal.τ).loc Cert.AdamwUpRefIdeal.main_arg9) = m ((c.tc : Thread Cert.AdamwUpRefIdeal.nD Cert.AdamwUpRefIdeal.τ).loc Cert.AdamwUpRefIdeal.main_arg9))
      ∧ r.2.sem = fun _ => 0)

def quiescent_AdamwUpRefIdeal_pre_chip_mlp_up [hAdamwUpRefIdeal : Cert.AdamwUpRefIdeal.Facts] [hPre_chip_mlp_up : Cert.Pre_chip_mlp_up.Facts] : Prop :=
  ∀ (m : (ℓ : Loc Cert.AdamwUpRefIdeal.nD Cert.AdamwUpRefIdeal.τ Cert.AdamwUpRefIdeal.sig) → Buf (Elt Ideal) ℓ) (g : Dev Cert.AdamwUpRefIdeal.nD → PrngReg), Pre_AdamwUpRefIdeal_chip_mlp_up m →
    θ_run (Cert.AdamwUpRefIdeal.defs (F := Ideal)) (onTc (τ := Cert.AdamwUpRefIdeal.τ) (Cert.AdamwUpRefIdeal.main (F := Ideal))) ⟨m, fun _ => 0, g⟩ (fun r => (∀ c : Dev Cert.AdamwUpRefIdeal.nD,
      r.2.mem ((c.tc : Thread Cert.AdamwUpRefIdeal.nD Cert.AdamwUpRefIdeal.τ).loc Cert.AdamwUpRefIdeal.main_arg0) = m ((c.tc : Thread Cert.AdamwUpRefIdeal.nD Cert.AdamwUpRefIdeal.τ).loc Cert.AdamwUpRefIdeal.main_arg0)
      ∧ r.2.mem ((c.tc : Thread Cert.AdamwUpRefIdeal.nD Cert.AdamwUpRefIdeal.τ).loc Cert.AdamwUpRefIdeal.main_arg1) = m ((c.tc : Thread Cert.AdamwUpRefIdeal.nD Cert.AdamwUpRefIdeal.τ).loc Cert.AdamwUpRefIdeal.main_arg1)
      ∧ r.2.mem ((c.tc : Thread Cert.AdamwUpRefIdeal.nD Cert.AdamwUpRefIdeal.τ).loc Cert.AdamwUpRefIdeal.main_arg2) = m ((c.tc : Thread Cert.AdamwUpRefIdeal.nD Cert.AdamwUpRefIdeal.τ).loc Cert.AdamwUpRefIdeal.main_arg2)
      ∧ r.2.mem ((c.tc : Thread Cert.AdamwUpRefIdeal.nD Cert.AdamwUpRefIdeal.τ).loc Cert.AdamwUpRefIdeal.main_arg3) = m ((c.tc : Thread Cert.AdamwUpRefIdeal.nD Cert.AdamwUpRefIdeal.τ).loc Cert.AdamwUpRefIdeal.main_arg3)
      ∧ r.2.mem ((c.tc : Thread Cert.AdamwUpRefIdeal.nD Cert.AdamwUpRefIdeal.τ).loc Cert.AdamwUpRefIdeal.main_arg4) = m ((c.tc : Thread Cert.AdamwUpRefIdeal.nD Cert.AdamwUpRefIdeal.τ).loc Cert.AdamwUpRefIdeal.main_arg4)
      ∧ r.2.mem ((c.tc : Thread Cert.AdamwUpRefIdeal.nD Cert.AdamwUpRefIdeal.τ).loc Cert.AdamwUpRefIdeal.main_arg5) = m ((c.tc : Thread Cert.AdamwUpRefIdeal.nD Cert.AdamwUpRefIdeal.τ).loc Cert.AdamwUpRefIdeal.main_arg5)
      ∧ r.2.mem ((c.tc : Thread Cert.AdamwUpRefIdeal.nD Cert.AdamwUpRefIdeal.τ).loc Cert.AdamwUpRefIdeal.main_arg6) = m ((c.tc : Thread Cert.AdamwUpRefIdeal.nD Cert.AdamwUpRefIdeal.τ).loc Cert.AdamwUpRefIdeal.main_arg6)
      ∧ r.2.mem ((c.tc : Thread Cert.AdamwUpRefIdeal.nD Cert.AdamwUpRefIdeal.τ).loc Cert.AdamwUpRefIdeal.main_arg7) = m ((c.tc : Thread Cert.AdamwUpRefIdeal.nD Cert.AdamwUpRefIdeal.τ).loc Cert.AdamwUpRefIdeal.main_arg7)
      ∧ r.2.mem ((c.tc : Thread Cert.AdamwUpRefIdeal.nD Cert.AdamwUpRefIdeal.τ).loc Cert.AdamwUpRefIdeal.main_arg8) = m ((c.tc : Thread Cert.AdamwUpRefIdeal.nD Cert.AdamwUpRefIdeal.τ).loc Cert.AdamwUpRefIdeal.main_arg8)
      ∧ r.2.mem ((c.tc : Thread Cert.AdamwUpRefIdeal.nD Cert.AdamwUpRefIdeal.τ).loc Cert.AdamwUpRefIdeal.main_arg9) = m ((c.tc : Thread Cert.AdamwUpRefIdeal.nD Cert.AdamwUpRefIdeal.τ).loc Cert.AdamwUpRefIdeal.main_arg9))
      ∧ r.2.sem = fun _ => 0)

def quiescent_AdamwDown [hAdamwDown : Cert.AdamwDown.Facts] [hPre_chip_mlp_down : Cert.Pre_chip_mlp_down.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3)
      ∧ r.2.mem ((c.tc : Thread Cert.AdamwDown.nD Cert.AdamwDown.τ).loc Cert.AdamwDown.main_arg4) = m ((c.tc : Thread Cert.AdamwDown.nD Cert.AdamwDown.τ).loc Cert.AdamwDown.main_arg4)
      ∧ r.2.mem ((c.tc : Thread Cert.AdamwDown.nD Cert.AdamwDown.τ).loc Cert.AdamwDown.main_arg5) = m ((c.tc : Thread Cert.AdamwDown.nD Cert.AdamwDown.τ).loc Cert.AdamwDown.main_arg5)
      ∧ r.2.mem ((c.tc : Thread Cert.AdamwDown.nD Cert.AdamwDown.τ).loc Cert.AdamwDown.main_arg6) = m ((c.tc : Thread Cert.AdamwDown.nD Cert.AdamwDown.τ).loc Cert.AdamwDown.main_arg6)
      ∧ r.2.mem ((c.tc : Thread Cert.AdamwDown.nD Cert.AdamwDown.τ).loc Cert.AdamwDown.main_arg7) = m ((c.tc : Thread Cert.AdamwDown.nD Cert.AdamwDown.τ).loc Cert.AdamwDown.main_arg7)
      ∧ r.2.mem ((c.tc : Thread Cert.AdamwDown.nD Cert.AdamwDown.τ).loc Cert.AdamwDown.main_arg8) = m ((c.tc : Thread Cert.AdamwDown.nD Cert.AdamwDown.τ).loc Cert.AdamwDown.main_arg8)
      ∧ r.2.mem ((c.tc : Thread Cert.AdamwDown.nD Cert.AdamwDown.τ).loc Cert.AdamwDown.main_arg9) = m ((c.tc : Thread Cert.AdamwDown.nD Cert.AdamwDown.τ).loc Cert.AdamwDown.main_arg9))
      ∧ r.2.sem = fun _ => 0)

def quiescent_AdamwDownIdeal [hAdamwDownIdeal : Cert.AdamwDownIdeal.Facts] [hPre_chip_mlp_down : Cert.Pre_chip_mlp_down.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
      ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4)
      ∧ r.2.mem ((c.tc : Thread Cert.AdamwDownIdeal.nD Cert.AdamwDownIdeal.τ).loc Cert.AdamwDownIdeal.main_arg5) = m ((c.tc : Thread Cert.AdamwDownIdeal.nD Cert.AdamwDownIdeal.τ).loc Cert.AdamwDownIdeal.main_arg5)
      ∧ r.2.mem ((c.tc : Thread Cert.AdamwDownIdeal.nD Cert.AdamwDownIdeal.τ).loc Cert.AdamwDownIdeal.main_arg6) = m ((c.tc : Thread Cert.AdamwDownIdeal.nD Cert.AdamwDownIdeal.τ).loc Cert.AdamwDownIdeal.main_arg6)
      ∧ r.2.mem ((c.tc : Thread Cert.AdamwDownIdeal.nD Cert.AdamwDownIdeal.τ).loc Cert.AdamwDownIdeal.main_arg7) = m ((c.tc : Thread Cert.AdamwDownIdeal.nD Cert.AdamwDownIdeal.τ).loc Cert.AdamwDownIdeal.main_arg7)
      ∧ r.2.mem ((c.tc : Thread Cert.AdamwDownIdeal.nD Cert.AdamwDownIdeal.τ).loc Cert.AdamwDownIdeal.main_arg8) = m ((c.tc : Thread Cert.AdamwDownIdeal.nD Cert.AdamwDownIdeal.τ).loc Cert.AdamwDownIdeal.main_arg8)
      ∧ r.2.mem ((c.tc : Thread Cert.AdamwDownIdeal.nD Cert.AdamwDownIdeal.τ).loc Cert.AdamwDownIdeal.main_arg9) = m ((c.tc : Thread Cert.AdamwDownIdeal.nD Cert.AdamwDownIdeal.τ).loc Cert.AdamwDownIdeal.main_arg9))
      ∧ r.2.sem = fun _ => 0)

def quiescent_AdamwDownRefIdeal [hAdamwDownRefIdeal : Cert.AdamwDownRefIdeal.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3)
      ∧ r.2.mem ((c.tc : Thread Cert.AdamwDownRefIdeal.nD Cert.AdamwDownRefIdeal.τ).loc Cert.AdamwDownRefIdeal.main_arg4) = m ((c.tc : Thread Cert.AdamwDownRefIdeal.nD Cert.AdamwDownRefIdeal.τ).loc Cert.AdamwDownRefIdeal.main_arg4)
      ∧ r.2.mem ((c.tc : Thread Cert.AdamwDownRefIdeal.nD Cert.AdamwDownRefIdeal.τ).loc Cert.AdamwDownRefIdeal.main_arg5) = m ((c.tc : Thread Cert.AdamwDownRefIdeal.nD Cert.AdamwDownRefIdeal.τ).loc Cert.AdamwDownRefIdeal.main_arg5)
      ∧ r.2.mem ((c.tc : Thread Cert.AdamwDownRefIdeal.nD Cert.AdamwDownRefIdeal.τ).loc Cert.AdamwDownRefIdeal.main_arg6) = m ((c.tc : Thread Cert.AdamwDownRefIdeal.nD Cert.AdamwDownRefIdeal.τ).loc Cert.AdamwDownRefIdeal.main_arg6)
      ∧ r.2.mem ((c.tc : Thread Cert.AdamwDownRefIdeal.nD Cert.AdamwDownRefIdeal.τ).loc Cert.AdamwDownRefIdeal.main_arg7) = m ((c.tc : Thread Cert.AdamwDownRefIdeal.nD Cert.AdamwDownRefIdeal.τ).loc Cert.AdamwDownRefIdeal.main_arg7)
      ∧ r.2.mem ((c.tc : Thread Cert.AdamwDownRefIdeal.nD Cert.AdamwDownRefIdeal.τ).loc Cert.AdamwDownRefIdeal.main_arg8) = m ((c.tc : Thread Cert.AdamwDownRefIdeal.nD Cert.AdamwDownRefIdeal.τ).loc Cert.AdamwDownRefIdeal.main_arg8)
      ∧ r.2.mem ((c.tc : Thread Cert.AdamwDownRefIdeal.nD Cert.AdamwDownRefIdeal.τ).loc Cert.AdamwDownRefIdeal.main_arg9) = m ((c.tc : Thread Cert.AdamwDownRefIdeal.nD Cert.AdamwDownRefIdeal.τ).loc Cert.AdamwDownRefIdeal.main_arg9))
      ∧ r.2.sem = fun _ => 0)

def quiescent_AdamwDownRefIdeal_pre_chip_mlp_down [hAdamwDownRefIdeal : Cert.AdamwDownRefIdeal.Facts] [hPre_chip_mlp_down : Cert.Pre_chip_mlp_down.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal_chip_mlp_down m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3)
      ∧ r.2.mem ((c.tc : Thread Cert.AdamwDownRefIdeal.nD Cert.AdamwDownRefIdeal.τ).loc Cert.AdamwDownRefIdeal.main_arg4) = m ((c.tc : Thread Cert.AdamwDownRefIdeal.nD Cert.AdamwDownRefIdeal.τ).loc Cert.AdamwDownRefIdeal.main_arg4)
      ∧ r.2.mem ((c.tc : Thread Cert.AdamwDownRefIdeal.nD Cert.AdamwDownRefIdeal.τ).loc Cert.AdamwDownRefIdeal.main_arg5) = m ((c.tc : Thread Cert.AdamwDownRefIdeal.nD Cert.AdamwDownRefIdeal.τ).loc Cert.AdamwDownRefIdeal.main_arg5)
      ∧ r.2.mem ((c.tc : Thread Cert.AdamwDownRefIdeal.nD Cert.AdamwDownRefIdeal.τ).loc Cert.AdamwDownRefIdeal.main_arg6) = m ((c.tc : Thread Cert.AdamwDownRefIdeal.nD Cert.AdamwDownRefIdeal.τ).loc Cert.AdamwDownRefIdeal.main_arg6)
      ∧ r.2.mem ((c.tc : Thread Cert.AdamwDownRefIdeal.nD Cert.AdamwDownRefIdeal.τ).loc Cert.AdamwDownRefIdeal.main_arg7) = m ((c.tc : Thread Cert.AdamwDownRefIdeal.nD Cert.AdamwDownRefIdeal.τ).loc Cert.AdamwDownRefIdeal.main_arg7)
      ∧ r.2.mem ((c.tc : Thread Cert.AdamwDownRefIdeal.nD Cert.AdamwDownRefIdeal.τ).loc Cert.AdamwDownRefIdeal.main_arg8) = m ((c.tc : Thread Cert.AdamwDownRefIdeal.nD Cert.AdamwDownRefIdeal.τ).loc Cert.AdamwDownRefIdeal.main_arg8)
      ∧ r.2.mem ((c.tc : Thread Cert.AdamwDownRefIdeal.nD Cert.AdamwDownRefIdeal.τ).loc Cert.AdamwDownRefIdeal.main_arg9) = m ((c.tc : Thread Cert.AdamwDownRefIdeal.nD Cert.AdamwDownRefIdeal.τ).loc Cert.AdamwDownRefIdeal.main_arg9))
      ∧ r.2.sem = fun _ => 0)

def quiescent_AdamwAWo [hAdamwAWo : Cert.AdamwAWo.Facts] [hPre_chip_a_wo : Cert.Pre_chip_a_wo.Facts] : Prop :=
  ∀ (m : (ℓ : Loc Cert.AdamwAWo.nD Cert.AdamwAWo.τ Cert.AdamwAWo.sig) → Buf (Elt Bits) ℓ) (g : Dev Cert.AdamwAWo.nD → PrngReg), Pre_AdamwAWo m →
    θ_run (Cert.AdamwAWo.defs (F := Bits)) (onTc (τ := Cert.AdamwAWo.τ) (Cert.AdamwAWo.main (F := Bits))) ⟨m, fun _ => 0, g⟩ (fun r => (∀ c : Dev Cert.AdamwAWo.nD,
      r.2.mem ((c.tc : Thread Cert.AdamwAWo.nD Cert.AdamwAWo.τ).loc Cert.AdamwAWo.main_arg0) = m ((c.tc : Thread Cert.AdamwAWo.nD Cert.AdamwAWo.τ).loc Cert.AdamwAWo.main_arg0)
      ∧ r.2.mem ((c.tc : Thread Cert.AdamwAWo.nD Cert.AdamwAWo.τ).loc Cert.AdamwAWo.main_arg1) = m ((c.tc : Thread Cert.AdamwAWo.nD Cert.AdamwAWo.τ).loc Cert.AdamwAWo.main_arg1)
      ∧ r.2.mem ((c.tc : Thread Cert.AdamwAWo.nD Cert.AdamwAWo.τ).loc Cert.AdamwAWo.main_arg2) = m ((c.tc : Thread Cert.AdamwAWo.nD Cert.AdamwAWo.τ).loc Cert.AdamwAWo.main_arg2)
      ∧ r.2.mem ((c.tc : Thread Cert.AdamwAWo.nD Cert.AdamwAWo.τ).loc Cert.AdamwAWo.main_arg3) = m ((c.tc : Thread Cert.AdamwAWo.nD Cert.AdamwAWo.τ).loc Cert.AdamwAWo.main_arg3)
      ∧ r.2.mem ((c.tc : Thread Cert.AdamwAWo.nD Cert.AdamwAWo.τ).loc Cert.AdamwAWo.main_arg4) = m ((c.tc : Thread Cert.AdamwAWo.nD Cert.AdamwAWo.τ).loc Cert.AdamwAWo.main_arg4)
      ∧ r.2.mem ((c.tc : Thread Cert.AdamwAWo.nD Cert.AdamwAWo.τ).loc Cert.AdamwAWo.main_arg5) = m ((c.tc : Thread Cert.AdamwAWo.nD Cert.AdamwAWo.τ).loc Cert.AdamwAWo.main_arg5)
      ∧ r.2.mem ((c.tc : Thread Cert.AdamwAWo.nD Cert.AdamwAWo.τ).loc Cert.AdamwAWo.main_arg6) = m ((c.tc : Thread Cert.AdamwAWo.nD Cert.AdamwAWo.τ).loc Cert.AdamwAWo.main_arg6)
      ∧ r.2.mem ((c.tc : Thread Cert.AdamwAWo.nD Cert.AdamwAWo.τ).loc Cert.AdamwAWo.main_arg7) = m ((c.tc : Thread Cert.AdamwAWo.nD Cert.AdamwAWo.τ).loc Cert.AdamwAWo.main_arg7)
      ∧ r.2.mem ((c.tc : Thread Cert.AdamwAWo.nD Cert.AdamwAWo.τ).loc Cert.AdamwAWo.main_arg8) = m ((c.tc : Thread Cert.AdamwAWo.nD Cert.AdamwAWo.τ).loc Cert.AdamwAWo.main_arg8)
      ∧ r.2.mem ((c.tc : Thread Cert.AdamwAWo.nD Cert.AdamwAWo.τ).loc Cert.AdamwAWo.main_arg9) = m ((c.tc : Thread Cert.AdamwAWo.nD Cert.AdamwAWo.τ).loc Cert.AdamwAWo.main_arg9))
      ∧ r.2.sem = fun _ => 0)

def quiescent_AdamwAWoIdeal [hAdamwAWoIdeal : Cert.AdamwAWoIdeal.Facts] [hPre_chip_a_wo : Cert.Pre_chip_a_wo.Facts] : Prop :=
  ∀ (m : (ℓ : Loc Cert.AdamwAWoIdeal.nD Cert.AdamwAWoIdeal.τ Cert.AdamwAWoIdeal.sig) → Buf (Elt Ideal) ℓ) (g : Dev Cert.AdamwAWoIdeal.nD → PrngReg), Pre_AdamwAWoIdeal m →
    θ_run (Cert.AdamwAWoIdeal.defs (F := Ideal)) (onTc (τ := Cert.AdamwAWoIdeal.τ) (Cert.AdamwAWoIdeal.main (F := Ideal))) ⟨m, fun _ => 0, g⟩ (fun r => (∀ c : Dev Cert.AdamwAWoIdeal.nD,
      r.2.mem ((c.tc : Thread Cert.AdamwAWoIdeal.nD Cert.AdamwAWoIdeal.τ).loc Cert.AdamwAWoIdeal.main_arg0) = m ((c.tc : Thread Cert.AdamwAWoIdeal.nD Cert.AdamwAWoIdeal.τ).loc Cert.AdamwAWoIdeal.main_arg0)
      ∧ r.2.mem ((c.tc : Thread Cert.AdamwAWoIdeal.nD Cert.AdamwAWoIdeal.τ).loc Cert.AdamwAWoIdeal.main_arg1) = m ((c.tc : Thread Cert.AdamwAWoIdeal.nD Cert.AdamwAWoIdeal.τ).loc Cert.AdamwAWoIdeal.main_arg1)
      ∧ r.2.mem ((c.tc : Thread Cert.AdamwAWoIdeal.nD Cert.AdamwAWoIdeal.τ).loc Cert.AdamwAWoIdeal.main_arg2) = m ((c.tc : Thread Cert.AdamwAWoIdeal.nD Cert.AdamwAWoIdeal.τ).loc Cert.AdamwAWoIdeal.main_arg2)
      ∧ r.2.mem ((c.tc : Thread Cert.AdamwAWoIdeal.nD Cert.AdamwAWoIdeal.τ).loc Cert.AdamwAWoIdeal.main_arg3) = m ((c.tc : Thread Cert.AdamwAWoIdeal.nD Cert.AdamwAWoIdeal.τ).loc Cert.AdamwAWoIdeal.main_arg3)
      ∧ r.2.mem ((c.tc : Thread Cert.AdamwAWoIdeal.nD Cert.AdamwAWoIdeal.τ).loc Cert.AdamwAWoIdeal.main_arg4) = m ((c.tc : Thread Cert.AdamwAWoIdeal.nD Cert.AdamwAWoIdeal.τ).loc Cert.AdamwAWoIdeal.main_arg4)
      ∧ r.2.mem ((c.tc : Thread Cert.AdamwAWoIdeal.nD Cert.AdamwAWoIdeal.τ).loc Cert.AdamwAWoIdeal.main_arg5) = m ((c.tc : Thread Cert.AdamwAWoIdeal.nD Cert.AdamwAWoIdeal.τ).loc Cert.AdamwAWoIdeal.main_arg5)
      ∧ r.2.mem ((c.tc : Thread Cert.AdamwAWoIdeal.nD Cert.AdamwAWoIdeal.τ).loc Cert.AdamwAWoIdeal.main_arg6) = m ((c.tc : Thread Cert.AdamwAWoIdeal.nD Cert.AdamwAWoIdeal.τ).loc Cert.AdamwAWoIdeal.main_arg6)
      ∧ r.2.mem ((c.tc : Thread Cert.AdamwAWoIdeal.nD Cert.AdamwAWoIdeal.τ).loc Cert.AdamwAWoIdeal.main_arg7) = m ((c.tc : Thread Cert.AdamwAWoIdeal.nD Cert.AdamwAWoIdeal.τ).loc Cert.AdamwAWoIdeal.main_arg7)
      ∧ r.2.mem ((c.tc : Thread Cert.AdamwAWoIdeal.nD Cert.AdamwAWoIdeal.τ).loc Cert.AdamwAWoIdeal.main_arg8) = m ((c.tc : Thread Cert.AdamwAWoIdeal.nD Cert.AdamwAWoIdeal.τ).loc Cert.AdamwAWoIdeal.main_arg8)
      ∧ r.2.mem ((c.tc : Thread Cert.AdamwAWoIdeal.nD Cert.AdamwAWoIdeal.τ).loc Cert.AdamwAWoIdeal.main_arg9) = m ((c.tc : Thread Cert.AdamwAWoIdeal.nD Cert.AdamwAWoIdeal.τ).loc Cert.AdamwAWoIdeal.main_arg9))
      ∧ r.2.sem = fun _ => 0)

def quiescent_AdamwAWoRefIdeal [hAdamwAWoRefIdeal : Cert.AdamwAWoRefIdeal.Facts] : Prop :=
  ∀ (m : (ℓ : Loc Cert.AdamwAWoRefIdeal.nD Cert.AdamwAWoRefIdeal.τ Cert.AdamwAWoRefIdeal.sig) → Buf (Elt Ideal) ℓ) (g : Dev Cert.AdamwAWoRefIdeal.nD → PrngReg), Pre_AdamwAWoRefIdeal m →
    θ_run (Cert.AdamwAWoRefIdeal.defs (F := Ideal)) (onTc (τ := Cert.AdamwAWoRefIdeal.τ) (Cert.AdamwAWoRefIdeal.main (F := Ideal))) ⟨m, fun _ => 0, g⟩ (fun r => (∀ c : Dev Cert.AdamwAWoRefIdeal.nD,
      r.2.mem ((c.tc : Thread Cert.AdamwAWoRefIdeal.nD Cert.AdamwAWoRefIdeal.τ).loc Cert.AdamwAWoRefIdeal.main_arg0) = m ((c.tc : Thread Cert.AdamwAWoRefIdeal.nD Cert.AdamwAWoRefIdeal.τ).loc Cert.AdamwAWoRefIdeal.main_arg0)
      ∧ r.2.mem ((c.tc : Thread Cert.AdamwAWoRefIdeal.nD Cert.AdamwAWoRefIdeal.τ).loc Cert.AdamwAWoRefIdeal.main_arg1) = m ((c.tc : Thread Cert.AdamwAWoRefIdeal.nD Cert.AdamwAWoRefIdeal.τ).loc Cert.AdamwAWoRefIdeal.main_arg1)
      ∧ r.2.mem ((c.tc : Thread Cert.AdamwAWoRefIdeal.nD Cert.AdamwAWoRefIdeal.τ).loc Cert.AdamwAWoRefIdeal.main_arg2) = m ((c.tc : Thread Cert.AdamwAWoRefIdeal.nD Cert.AdamwAWoRefIdeal.τ).loc Cert.AdamwAWoRefIdeal.main_arg2)
      ∧ r.2.mem ((c.tc : Thread Cert.AdamwAWoRefIdeal.nD Cert.AdamwAWoRefIdeal.τ).loc Cert.AdamwAWoRefIdeal.main_arg3) = m ((c.tc : Thread Cert.AdamwAWoRefIdeal.nD Cert.AdamwAWoRefIdeal.τ).loc Cert.AdamwAWoRefIdeal.main_arg3)
      ∧ r.2.mem ((c.tc : Thread Cert.AdamwAWoRefIdeal.nD Cert.AdamwAWoRefIdeal.τ).loc Cert.AdamwAWoRefIdeal.main_arg4) = m ((c.tc : Thread Cert.AdamwAWoRefIdeal.nD Cert.AdamwAWoRefIdeal.τ).loc Cert.AdamwAWoRefIdeal.main_arg4)
      ∧ r.2.mem ((c.tc : Thread Cert.AdamwAWoRefIdeal.nD Cert.AdamwAWoRefIdeal.τ).loc Cert.AdamwAWoRefIdeal.main_arg5) = m ((c.tc : Thread Cert.AdamwAWoRefIdeal.nD Cert.AdamwAWoRefIdeal.τ).loc Cert.AdamwAWoRefIdeal.main_arg5)
      ∧ r.2.mem ((c.tc : Thread Cert.AdamwAWoRefIdeal.nD Cert.AdamwAWoRefIdeal.τ).loc Cert.AdamwAWoRefIdeal.main_arg6) = m ((c.tc : Thread Cert.AdamwAWoRefIdeal.nD Cert.AdamwAWoRefIdeal.τ).loc Cert.AdamwAWoRefIdeal.main_arg6)
      ∧ r.2.mem ((c.tc : Thread Cert.AdamwAWoRefIdeal.nD Cert.AdamwAWoRefIdeal.τ).loc Cert.AdamwAWoRefIdeal.main_arg7) = m ((c.tc : Thread Cert.AdamwAWoRefIdeal.nD Cert.AdamwAWoRefIdeal.τ).loc Cert.AdamwAWoRefIdeal.main_arg7)
      ∧ r.2.mem ((c.tc : Thread Cert.AdamwAWoRefIdeal.nD Cert.AdamwAWoRefIdeal.τ).loc Cert.AdamwAWoRefIdeal.main_arg8) = m ((c.tc : Thread Cert.AdamwAWoRefIdeal.nD Cert.AdamwAWoRefIdeal.τ).loc Cert.AdamwAWoRefIdeal.main_arg8)
      ∧ r.2.mem ((c.tc : Thread Cert.AdamwAWoRefIdeal.nD Cert.AdamwAWoRefIdeal.τ).loc Cert.AdamwAWoRefIdeal.main_arg9) = m ((c.tc : Thread Cert.AdamwAWoRefIdeal.nD Cert.AdamwAWoRefIdeal.τ).loc Cert.AdamwAWoRefIdeal.main_arg9))
      ∧ r.2.sem = fun _ => 0)

def quiescent_AdamwAWoRefIdeal_pre_chip_a_wo [hAdamwAWoRefIdeal : Cert.AdamwAWoRefIdeal.Facts] [hPre_chip_a_wo : Cert.Pre_chip_a_wo.Facts] : Prop :=
  ∀ (m : (ℓ : Loc Cert.AdamwAWoRefIdeal.nD Cert.AdamwAWoRefIdeal.τ Cert.AdamwAWoRefIdeal.sig) → Buf (Elt Ideal) ℓ) (g : Dev Cert.AdamwAWoRefIdeal.nD → PrngReg), Pre_AdamwAWoRefIdeal_chip_a_wo m →
    θ_run (Cert.AdamwAWoRefIdeal.defs (F := Ideal)) (onTc (τ := Cert.AdamwAWoRefIdeal.τ) (Cert.AdamwAWoRefIdeal.main (F := Ideal))) ⟨m, fun _ => 0, g⟩ (fun r => (∀ c : Dev Cert.AdamwAWoRefIdeal.nD,
      r.2.mem ((c.tc : Thread Cert.AdamwAWoRefIdeal.nD Cert.AdamwAWoRefIdeal.τ).loc Cert.AdamwAWoRefIdeal.main_arg0) = m ((c.tc : Thread Cert.AdamwAWoRefIdeal.nD Cert.AdamwAWoRefIdeal.τ).loc Cert.AdamwAWoRefIdeal.main_arg0)
      ∧ r.2.mem ((c.tc : Thread Cert.AdamwAWoRefIdeal.nD Cert.AdamwAWoRefIdeal.τ).loc Cert.AdamwAWoRefIdeal.main_arg1) = m ((c.tc : Thread Cert.AdamwAWoRefIdeal.nD Cert.AdamwAWoRefIdeal.τ).loc Cert.AdamwAWoRefIdeal.main_arg1)
      ∧ r.2.mem ((c.tc : Thread Cert.AdamwAWoRefIdeal.nD Cert.AdamwAWoRefIdeal.τ).loc Cert.AdamwAWoRefIdeal.main_arg2) = m ((c.tc : Thread Cert.AdamwAWoRefIdeal.nD Cert.AdamwAWoRefIdeal.τ).loc Cert.AdamwAWoRefIdeal.main_arg2)
      ∧ r.2.mem ((c.tc : Thread Cert.AdamwAWoRefIdeal.nD Cert.AdamwAWoRefIdeal.τ).loc Cert.AdamwAWoRefIdeal.main_arg3) = m ((c.tc : Thread Cert.AdamwAWoRefIdeal.nD Cert.AdamwAWoRefIdeal.τ).loc Cert.AdamwAWoRefIdeal.main_arg3)
      ∧ r.2.mem ((c.tc : Thread Cert.AdamwAWoRefIdeal.nD Cert.AdamwAWoRefIdeal.τ).loc Cert.AdamwAWoRefIdeal.main_arg4) = m ((c.tc : Thread Cert.AdamwAWoRefIdeal.nD Cert.AdamwAWoRefIdeal.τ).loc Cert.AdamwAWoRefIdeal.main_arg4)
      ∧ r.2.mem ((c.tc : Thread Cert.AdamwAWoRefIdeal.nD Cert.AdamwAWoRefIdeal.τ).loc Cert.AdamwAWoRefIdeal.main_arg5) = m ((c.tc : Thread Cert.AdamwAWoRefIdeal.nD Cert.AdamwAWoRefIdeal.τ).loc Cert.AdamwAWoRefIdeal.main_arg5)
      ∧ r.2.mem ((c.tc : Thread Cert.AdamwAWoRefIdeal.nD Cert.AdamwAWoRefIdeal.τ).loc Cert.AdamwAWoRefIdeal.main_arg6) = m ((c.tc : Thread Cert.AdamwAWoRefIdeal.nD Cert.AdamwAWoRefIdeal.τ).loc Cert.AdamwAWoRefIdeal.main_arg6)
      ∧ r.2.mem ((c.tc : Thread Cert.AdamwAWoRefIdeal.nD Cert.AdamwAWoRefIdeal.τ).loc Cert.AdamwAWoRefIdeal.main_arg7) = m ((c.tc : Thread Cert.AdamwAWoRefIdeal.nD Cert.AdamwAWoRefIdeal.τ).loc Cert.AdamwAWoRefIdeal.main_arg7)
      ∧ r.2.mem ((c.tc : Thread Cert.AdamwAWoRefIdeal.nD Cert.AdamwAWoRefIdeal.τ).loc Cert.AdamwAWoRefIdeal.main_arg8) = m ((c.tc : Thread Cert.AdamwAWoRefIdeal.nD Cert.AdamwAWoRefIdeal.τ).loc Cert.AdamwAWoRefIdeal.main_arg8)
      ∧ r.2.mem ((c.tc : Thread Cert.AdamwAWoRefIdeal.nD Cert.AdamwAWoRefIdeal.τ).loc Cert.AdamwAWoRefIdeal.main_arg9) = m ((c.tc : Thread Cert.AdamwAWoRefIdeal.nD Cert.AdamwAWoRefIdeal.τ).loc Cert.AdamwAWoRefIdeal.main_arg9))
      ∧ r.2.sem = fun _ => 0)

def quiescent_AdamwQkv [hAdamwQkv : Cert.AdamwQkv.Facts] [hPre_chip_a_wqkv : Cert.Pre_chip_a_wqkv.Facts] : Prop :=
  ∀ (m : (ℓ : Loc Cert.AdamwQkv.nD Cert.AdamwQkv.τ Cert.AdamwQkv.sig) → Buf (Elt Bits) ℓ) (g : Dev Cert.AdamwQkv.nD → PrngReg), Pre_AdamwQkv m →
    θ_run (Cert.AdamwQkv.defs (F := Bits)) (onTc (τ := Cert.AdamwQkv.τ) (Cert.AdamwQkv.main (F := Bits))) ⟨m, fun _ => 0, g⟩ (fun r => (∀ c : Dev Cert.AdamwQkv.nD,
      r.2.mem ((c.tc : Thread Cert.AdamwQkv.nD Cert.AdamwQkv.τ).loc Cert.AdamwQkv.main_arg0) = m ((c.tc : Thread Cert.AdamwQkv.nD Cert.AdamwQkv.τ).loc Cert.AdamwQkv.main_arg0)
      ∧ r.2.mem ((c.tc : Thread Cert.AdamwQkv.nD Cert.AdamwQkv.τ).loc Cert.AdamwQkv.main_arg1) = m ((c.tc : Thread Cert.AdamwQkv.nD Cert.AdamwQkv.τ).loc Cert.AdamwQkv.main_arg1)
      ∧ r.2.mem ((c.tc : Thread Cert.AdamwQkv.nD Cert.AdamwQkv.τ).loc Cert.AdamwQkv.main_arg2) = m ((c.tc : Thread Cert.AdamwQkv.nD Cert.AdamwQkv.τ).loc Cert.AdamwQkv.main_arg2)
      ∧ r.2.mem ((c.tc : Thread Cert.AdamwQkv.nD Cert.AdamwQkv.τ).loc Cert.AdamwQkv.main_arg3) = m ((c.tc : Thread Cert.AdamwQkv.nD Cert.AdamwQkv.τ).loc Cert.AdamwQkv.main_arg3)
      ∧ r.2.mem ((c.tc : Thread Cert.AdamwQkv.nD Cert.AdamwQkv.τ).loc Cert.AdamwQkv.main_arg4) = m ((c.tc : Thread Cert.AdamwQkv.nD Cert.AdamwQkv.τ).loc Cert.AdamwQkv.main_arg4)
      ∧ r.2.mem ((c.tc : Thread Cert.AdamwQkv.nD Cert.AdamwQkv.τ).loc Cert.AdamwQkv.main_arg5) = m ((c.tc : Thread Cert.AdamwQkv.nD Cert.AdamwQkv.τ).loc Cert.AdamwQkv.main_arg5)
      ∧ r.2.mem ((c.tc : Thread Cert.AdamwQkv.nD Cert.AdamwQkv.τ).loc Cert.AdamwQkv.main_arg6) = m ((c.tc : Thread Cert.AdamwQkv.nD Cert.AdamwQkv.τ).loc Cert.AdamwQkv.main_arg6)
      ∧ r.2.mem ((c.tc : Thread Cert.AdamwQkv.nD Cert.AdamwQkv.τ).loc Cert.AdamwQkv.main_arg7) = m ((c.tc : Thread Cert.AdamwQkv.nD Cert.AdamwQkv.τ).loc Cert.AdamwQkv.main_arg7)
      ∧ r.2.mem ((c.tc : Thread Cert.AdamwQkv.nD Cert.AdamwQkv.τ).loc Cert.AdamwQkv.main_arg8) = m ((c.tc : Thread Cert.AdamwQkv.nD Cert.AdamwQkv.τ).loc Cert.AdamwQkv.main_arg8)
      ∧ r.2.mem ((c.tc : Thread Cert.AdamwQkv.nD Cert.AdamwQkv.τ).loc Cert.AdamwQkv.main_arg9) = m ((c.tc : Thread Cert.AdamwQkv.nD Cert.AdamwQkv.τ).loc Cert.AdamwQkv.main_arg9))
      ∧ r.2.sem = fun _ => 0)

def quiescent_AdamwQkvIdeal [hAdamwQkvIdeal : Cert.AdamwQkvIdeal.Facts] [hPre_chip_a_wqkv : Cert.Pre_chip_a_wqkv.Facts] : Prop :=
  ∀ (m : (ℓ : Loc Cert.AdamwQkvIdeal.nD Cert.AdamwQkvIdeal.τ Cert.AdamwQkvIdeal.sig) → Buf (Elt Ideal) ℓ) (g : Dev Cert.AdamwQkvIdeal.nD → PrngReg), Pre_AdamwQkvIdeal m →
    θ_run (Cert.AdamwQkvIdeal.defs (F := Ideal)) (onTc (τ := Cert.AdamwQkvIdeal.τ) (Cert.AdamwQkvIdeal.main (F := Ideal))) ⟨m, fun _ => 0, g⟩ (fun r => (∀ c : Dev Cert.AdamwQkvIdeal.nD,
      r.2.mem ((c.tc : Thread Cert.AdamwQkvIdeal.nD Cert.AdamwQkvIdeal.τ).loc Cert.AdamwQkvIdeal.main_arg0) = m ((c.tc : Thread Cert.AdamwQkvIdeal.nD Cert.AdamwQkvIdeal.τ).loc Cert.AdamwQkvIdeal.main_arg0)
      ∧ r.2.mem ((c.tc : Thread Cert.AdamwQkvIdeal.nD Cert.AdamwQkvIdeal.τ).loc Cert.AdamwQkvIdeal.main_arg1) = m ((c.tc : Thread Cert.AdamwQkvIdeal.nD Cert.AdamwQkvIdeal.τ).loc Cert.AdamwQkvIdeal.main_arg1)
      ∧ r.2.mem ((c.tc : Thread Cert.AdamwQkvIdeal.nD Cert.AdamwQkvIdeal.τ).loc Cert.AdamwQkvIdeal.main_arg2) = m ((c.tc : Thread Cert.AdamwQkvIdeal.nD Cert.AdamwQkvIdeal.τ).loc Cert.AdamwQkvIdeal.main_arg2)
      ∧ r.2.mem ((c.tc : Thread Cert.AdamwQkvIdeal.nD Cert.AdamwQkvIdeal.τ).loc Cert.AdamwQkvIdeal.main_arg3) = m ((c.tc : Thread Cert.AdamwQkvIdeal.nD Cert.AdamwQkvIdeal.τ).loc Cert.AdamwQkvIdeal.main_arg3)
      ∧ r.2.mem ((c.tc : Thread Cert.AdamwQkvIdeal.nD Cert.AdamwQkvIdeal.τ).loc Cert.AdamwQkvIdeal.main_arg4) = m ((c.tc : Thread Cert.AdamwQkvIdeal.nD Cert.AdamwQkvIdeal.τ).loc Cert.AdamwQkvIdeal.main_arg4)
      ∧ r.2.mem ((c.tc : Thread Cert.AdamwQkvIdeal.nD Cert.AdamwQkvIdeal.τ).loc Cert.AdamwQkvIdeal.main_arg5) = m ((c.tc : Thread Cert.AdamwQkvIdeal.nD Cert.AdamwQkvIdeal.τ).loc Cert.AdamwQkvIdeal.main_arg5)
      ∧ r.2.mem ((c.tc : Thread Cert.AdamwQkvIdeal.nD Cert.AdamwQkvIdeal.τ).loc Cert.AdamwQkvIdeal.main_arg6) = m ((c.tc : Thread Cert.AdamwQkvIdeal.nD Cert.AdamwQkvIdeal.τ).loc Cert.AdamwQkvIdeal.main_arg6)
      ∧ r.2.mem ((c.tc : Thread Cert.AdamwQkvIdeal.nD Cert.AdamwQkvIdeal.τ).loc Cert.AdamwQkvIdeal.main_arg7) = m ((c.tc : Thread Cert.AdamwQkvIdeal.nD Cert.AdamwQkvIdeal.τ).loc Cert.AdamwQkvIdeal.main_arg7)
      ∧ r.2.mem ((c.tc : Thread Cert.AdamwQkvIdeal.nD Cert.AdamwQkvIdeal.τ).loc Cert.AdamwQkvIdeal.main_arg8) = m ((c.tc : Thread Cert.AdamwQkvIdeal.nD Cert.AdamwQkvIdeal.τ).loc Cert.AdamwQkvIdeal.main_arg8)
      ∧ r.2.mem ((c.tc : Thread Cert.AdamwQkvIdeal.nD Cert.AdamwQkvIdeal.τ).loc Cert.AdamwQkvIdeal.main_arg9) = m ((c.tc : Thread Cert.AdamwQkvIdeal.nD Cert.AdamwQkvIdeal.τ).loc Cert.AdamwQkvIdeal.main_arg9))
      ∧ r.2.sem = fun _ => 0)

def quiescent_AdamwQkvRefIdeal [hAdamwQkvRefIdeal : Cert.AdamwQkvRefIdeal.Facts] : Prop :=
  ∀ (m : (ℓ : Loc Cert.AdamwQkvRefIdeal.nD Cert.AdamwQkvRefIdeal.τ Cert.AdamwQkvRefIdeal.sig) → Buf (Elt Ideal) ℓ) (g : Dev Cert.AdamwQkvRefIdeal.nD → PrngReg), Pre_AdamwQkvRefIdeal m →
    θ_run (Cert.AdamwQkvRefIdeal.defs (F := Ideal)) (onTc (τ := Cert.AdamwQkvRefIdeal.τ) (Cert.AdamwQkvRefIdeal.main (F := Ideal))) ⟨m, fun _ => 0, g⟩ (fun r => (∀ c : Dev Cert.AdamwQkvRefIdeal.nD,
      r.2.mem ((c.tc : Thread Cert.AdamwQkvRefIdeal.nD Cert.AdamwQkvRefIdeal.τ).loc Cert.AdamwQkvRefIdeal.main_arg0) = m ((c.tc : Thread Cert.AdamwQkvRefIdeal.nD Cert.AdamwQkvRefIdeal.τ).loc Cert.AdamwQkvRefIdeal.main_arg0)
      ∧ r.2.mem ((c.tc : Thread Cert.AdamwQkvRefIdeal.nD Cert.AdamwQkvRefIdeal.τ).loc Cert.AdamwQkvRefIdeal.main_arg1) = m ((c.tc : Thread Cert.AdamwQkvRefIdeal.nD Cert.AdamwQkvRefIdeal.τ).loc Cert.AdamwQkvRefIdeal.main_arg1)
      ∧ r.2.mem ((c.tc : Thread Cert.AdamwQkvRefIdeal.nD Cert.AdamwQkvRefIdeal.τ).loc Cert.AdamwQkvRefIdeal.main_arg2) = m ((c.tc : Thread Cert.AdamwQkvRefIdeal.nD Cert.AdamwQkvRefIdeal.τ).loc Cert.AdamwQkvRefIdeal.main_arg2)
      ∧ r.2.mem ((c.tc : Thread Cert.AdamwQkvRefIdeal.nD Cert.AdamwQkvRefIdeal.τ).loc Cert.AdamwQkvRefIdeal.main_arg3) = m ((c.tc : Thread Cert.AdamwQkvRefIdeal.nD Cert.AdamwQkvRefIdeal.τ).loc Cert.AdamwQkvRefIdeal.main_arg3)
      ∧ r.2.mem ((c.tc : Thread Cert.AdamwQkvRefIdeal.nD Cert.AdamwQkvRefIdeal.τ).loc Cert.AdamwQkvRefIdeal.main_arg4) = m ((c.tc : Thread Cert.AdamwQkvRefIdeal.nD Cert.AdamwQkvRefIdeal.τ).loc Cert.AdamwQkvRefIdeal.main_arg4)
      ∧ r.2.mem ((c.tc : Thread Cert.AdamwQkvRefIdeal.nD Cert.AdamwQkvRefIdeal.τ).loc Cert.AdamwQkvRefIdeal.main_arg5) = m ((c.tc : Thread Cert.AdamwQkvRefIdeal.nD Cert.AdamwQkvRefIdeal.τ).loc Cert.AdamwQkvRefIdeal.main_arg5)
      ∧ r.2.mem ((c.tc : Thread Cert.AdamwQkvRefIdeal.nD Cert.AdamwQkvRefIdeal.τ).loc Cert.AdamwQkvRefIdeal.main_arg6) = m ((c.tc : Thread Cert.AdamwQkvRefIdeal.nD Cert.AdamwQkvRefIdeal.τ).loc Cert.AdamwQkvRefIdeal.main_arg6)
      ∧ r.2.mem ((c.tc : Thread Cert.AdamwQkvRefIdeal.nD Cert.AdamwQkvRefIdeal.τ).loc Cert.AdamwQkvRefIdeal.main_arg7) = m ((c.tc : Thread Cert.AdamwQkvRefIdeal.nD Cert.AdamwQkvRefIdeal.τ).loc Cert.AdamwQkvRefIdeal.main_arg7)
      ∧ r.2.mem ((c.tc : Thread Cert.AdamwQkvRefIdeal.nD Cert.AdamwQkvRefIdeal.τ).loc Cert.AdamwQkvRefIdeal.main_arg8) = m ((c.tc : Thread Cert.AdamwQkvRefIdeal.nD Cert.AdamwQkvRefIdeal.τ).loc Cert.AdamwQkvRefIdeal.main_arg8)
      ∧ r.2.mem ((c.tc : Thread Cert.AdamwQkvRefIdeal.nD Cert.AdamwQkvRefIdeal.τ).loc Cert.AdamwQkvRefIdeal.main_arg9) = m ((c.tc : Thread Cert.AdamwQkvRefIdeal.nD Cert.AdamwQkvRefIdeal.τ).loc Cert.AdamwQkvRefIdeal.main_arg9))
      ∧ r.2.sem = fun _ => 0)

def quiescent_AdamwQkvRefIdeal_pre_chip_a_wqkv [hAdamwQkvRefIdeal : Cert.AdamwQkvRefIdeal.Facts] [hPre_chip_a_wqkv : Cert.Pre_chip_a_wqkv.Facts] : Prop :=
  ∀ (m : (ℓ : Loc Cert.AdamwQkvRefIdeal.nD Cert.AdamwQkvRefIdeal.τ Cert.AdamwQkvRefIdeal.sig) → Buf (Elt Ideal) ℓ) (g : Dev Cert.AdamwQkvRefIdeal.nD → PrngReg), Pre_AdamwQkvRefIdeal_chip_a_wqkv m →
    θ_run (Cert.AdamwQkvRefIdeal.defs (F := Ideal)) (onTc (τ := Cert.AdamwQkvRefIdeal.τ) (Cert.AdamwQkvRefIdeal.main (F := Ideal))) ⟨m, fun _ => 0, g⟩ (fun r => (∀ c : Dev Cert.AdamwQkvRefIdeal.nD,
      r.2.mem ((c.tc : Thread Cert.AdamwQkvRefIdeal.nD Cert.AdamwQkvRefIdeal.τ).loc Cert.AdamwQkvRefIdeal.main_arg0) = m ((c.tc : Thread Cert.AdamwQkvRefIdeal.nD Cert.AdamwQkvRefIdeal.τ).loc Cert.AdamwQkvRefIdeal.main_arg0)
      ∧ r.2.mem ((c.tc : Thread Cert.AdamwQkvRefIdeal.nD Cert.AdamwQkvRefIdeal.τ).loc Cert.AdamwQkvRefIdeal.main_arg1) = m ((c.tc : Thread Cert.AdamwQkvRefIdeal.nD Cert.AdamwQkvRefIdeal.τ).loc Cert.AdamwQkvRefIdeal.main_arg1)
      ∧ r.2.mem ((c.tc : Thread Cert.AdamwQkvRefIdeal.nD Cert.AdamwQkvRefIdeal.τ).loc Cert.AdamwQkvRefIdeal.main_arg2) = m ((c.tc : Thread Cert.AdamwQkvRefIdeal.nD Cert.AdamwQkvRefIdeal.τ).loc Cert.AdamwQkvRefIdeal.main_arg2)
      ∧ r.2.mem ((c.tc : Thread Cert.AdamwQkvRefIdeal.nD Cert.AdamwQkvRefIdeal.τ).loc Cert.AdamwQkvRefIdeal.main_arg3) = m ((c.tc : Thread Cert.AdamwQkvRefIdeal.nD Cert.AdamwQkvRefIdeal.τ).loc Cert.AdamwQkvRefIdeal.main_arg3)
      ∧ r.2.mem ((c.tc : Thread Cert.AdamwQkvRefIdeal.nD Cert.AdamwQkvRefIdeal.τ).loc Cert.AdamwQkvRefIdeal.main_arg4) = m ((c.tc : Thread Cert.AdamwQkvRefIdeal.nD Cert.AdamwQkvRefIdeal.τ).loc Cert.AdamwQkvRefIdeal.main_arg4)
      ∧ r.2.mem ((c.tc : Thread Cert.AdamwQkvRefIdeal.nD Cert.AdamwQkvRefIdeal.τ).loc Cert.AdamwQkvRefIdeal.main_arg5) = m ((c.tc : Thread Cert.AdamwQkvRefIdeal.nD Cert.AdamwQkvRefIdeal.τ).loc Cert.AdamwQkvRefIdeal.main_arg5)
      ∧ r.2.mem ((c.tc : Thread Cert.AdamwQkvRefIdeal.nD Cert.AdamwQkvRefIdeal.τ).loc Cert.AdamwQkvRefIdeal.main_arg6) = m ((c.tc : Thread Cert.AdamwQkvRefIdeal.nD Cert.AdamwQkvRefIdeal.τ).loc Cert.AdamwQkvRefIdeal.main_arg6)
      ∧ r.2.mem ((c.tc : Thread Cert.AdamwQkvRefIdeal.nD Cert.AdamwQkvRefIdeal.τ).loc Cert.AdamwQkvRefIdeal.main_arg7) = m ((c.tc : Thread Cert.AdamwQkvRefIdeal.nD Cert.AdamwQkvRefIdeal.τ).loc Cert.AdamwQkvRefIdeal.main_arg7)
      ∧ r.2.mem ((c.tc : Thread Cert.AdamwQkvRefIdeal.nD Cert.AdamwQkvRefIdeal.τ).loc Cert.AdamwQkvRefIdeal.main_arg8) = m ((c.tc : Thread Cert.AdamwQkvRefIdeal.nD Cert.AdamwQkvRefIdeal.τ).loc Cert.AdamwQkvRefIdeal.main_arg8)
      ∧ r.2.mem ((c.tc : Thread Cert.AdamwQkvRefIdeal.nD Cert.AdamwQkvRefIdeal.τ).loc Cert.AdamwQkvRefIdeal.main_arg9) = m ((c.tc : Thread Cert.AdamwQkvRefIdeal.nD Cert.AdamwQkvRefIdeal.τ).loc Cert.AdamwQkvRefIdeal.main_arg9))
      ∧ r.2.sem = fun _ => 0)

def preserves_Kernel_KernelIdeal : Prop :=
  True

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v5) = v0 c
          ∧ r.2.mem ((c.tc : Thread Cert.UpFwdRefIdeal.nD Cert.UpFwdRefIdeal.τ).loc Cert.UpFwdRefIdeal.main_v8) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v5) = v0 c
          ∧ r.2.mem ((c.tc : Thread Cert.DownFwdRefIdeal.nD Cert.DownFwdRefIdeal.τ).loc Cert.DownFwdRefIdeal.main_v18) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v17) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)) (v2 : (c : Dev Cert.UpDxIdeal.nD) → Buf (Elt Ideal) ((c.tc : Thread Cert.UpDxIdeal.nD Cert.UpDxIdeal.τ).loc Cert.UpDxIdeal.main_v0_2)) (v3 : (c : Dev Cert.UpDxIdeal.nD) → Buf (Elt Ideal) ((c.tc : Thread Cert.UpDxIdeal.nD Cert.UpDxIdeal.τ).loc Cert.UpDxIdeal.main_v0_3)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_v0_2) = v2 c
          ∧ r.2.mem ((c.tc : Thread Cert.UpDxIdeal.nD Cert.UpDxIdeal.τ).loc Cert.UpDxIdeal.main_v0_3) = v3 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v44) = v0 c
          ∧ r.2.mem ((c.tc : Thread Cert.UpDxRefIdeal.nD Cert.UpDxRefIdeal.τ).loc Cert.UpDxRefIdeal.main_v45) = v1 c
          ∧ r.2.mem ((c.tc : Thread Cert.UpDxRefIdeal.nD Cert.UpDxRefIdeal.τ).loc Cert.UpDxRefIdeal.main_v43) = v2 c
          ∧ r.2.mem ((c.tc : Thread Cert.UpDxRefIdeal.nD Cert.UpDxRefIdeal.τ).loc Cert.UpDxRefIdeal.main_v47) = v3 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_AQkvFwd_AQkvFwdIdeal : Prop :=
  True

def algebraic_AQkvFwdIdeal_AQkvFwdRefIdeal [hAQkvFwdIdeal : Cert.AQkvFwdIdeal.Facts] [hAQkvFwdRefIdeal : Cert.AQkvFwdRefIdeal.Facts] : Prop :=
  ∀ (m : (ℓ : Loc Cert.AQkvFwdIdeal.nD Cert.AQkvFwdIdeal.τ Cert.AQkvFwdIdeal.sig) → Buf (Elt Ideal) ℓ) (g : Dev Cert.AQkvFwdIdeal.nD → PrngReg)
    (m' : (ℓ : Loc Cert.AQkvFwdRefIdeal.nD Cert.AQkvFwdRefIdeal.τ Cert.AQkvFwdRefIdeal.sig) → Buf (Elt Ideal) ℓ) (g' : Dev Cert.AQkvFwdRefIdeal.nD → PrngReg), Pre_AQkvFwdIdeal m →
    (∀ c : Dev Cert.AQkvFwdIdeal.nD,
      m' ((c.tc : Thread Cert.AQkvFwdRefIdeal.nD Cert.AQkvFwdRefIdeal.τ).loc Cert.AQkvFwdRefIdeal.main_arg0) = m ((c.tc : Thread Cert.AQkvFwdIdeal.nD Cert.AQkvFwdIdeal.τ).loc Cert.AQkvFwdIdeal.main_arg0)
      ∧ m' ((c.tc : Thread Cert.AQkvFwdRefIdeal.nD Cert.AQkvFwdRefIdeal.τ).loc Cert.AQkvFwdRefIdeal.main_arg1) = m ((c.tc : Thread Cert.AQkvFwdIdeal.nD Cert.AQkvFwdIdeal.τ).loc Cert.AQkvFwdIdeal.main_arg1)) →
    ∃ (v0 : (c : Dev Cert.AQkvFwdIdeal.nD) → Buf (Elt Ideal) ((c.tc : Thread Cert.AQkvFwdIdeal.nD Cert.AQkvFwdIdeal.τ).loc Cert.AQkvFwdIdeal.main_v0)),
      θ_run (Cert.AQkvFwdIdeal.defs (F := Ideal)) (onTc (τ := Cert.AQkvFwdIdeal.τ) (Cert.AQkvFwdIdeal.main (F := Ideal))) ⟨m, fun _ => 0, g⟩ (fun r => ∀ c : Dev Cert.AQkvFwdIdeal.nD,
          r.2.mem ((c.tc : Thread Cert.AQkvFwdIdeal.nD Cert.AQkvFwdIdeal.τ).loc Cert.AQkvFwdIdeal.main_v0) = v0 c
          ∧ r.2.mem ((c.tc : Thread Cert.AQkvFwdIdeal.nD Cert.AQkvFwdIdeal.τ).loc Cert.AQkvFwdIdeal.main_arg0) = m ((c.tc : Thread Cert.AQkvFwdIdeal.nD Cert.AQkvFwdIdeal.τ).loc Cert.AQkvFwdIdeal.main_arg0)
          ∧ r.2.mem ((c.tc : Thread Cert.AQkvFwdIdeal.nD Cert.AQkvFwdIdeal.τ).loc Cert.AQkvFwdIdeal.main_arg1) = m ((c.tc : Thread Cert.AQkvFwdIdeal.nD Cert.AQkvFwdIdeal.τ).loc Cert.AQkvFwdIdeal.main_arg1))
      ∧ θ_run (Cert.AQkvFwdRefIdeal.defs (F := Ideal)) (onTc (τ := Cert.AQkvFwdRefIdeal.τ) (Cert.AQkvFwdRefIdeal.main (F := Ideal))) ⟨m', fun _ => 0, g'⟩ (fun r => ∀ c : Dev Cert.AQkvFwdRefIdeal.nD,
          r.2.mem ((c.tc : Thread Cert.AQkvFwdRefIdeal.nD Cert.AQkvFwdRefIdeal.τ).loc Cert.AQkvFwdRefIdeal.main_v5) = v0 c
          ∧ r.2.mem ((c.tc : Thread Cert.AQkvFwdRefIdeal.nD Cert.AQkvFwdRefIdeal.τ).loc Cert.AQkvFwdRefIdeal.main_arg0) = m' ((c.tc : Thread Cert.AQkvFwdRefIdeal.nD Cert.AQkvFwdRefIdeal.τ).loc Cert.AQkvFwdRefIdeal.main_arg0)
          ∧ r.2.mem ((c.tc : Thread Cert.AQkvFwdRefIdeal.nD Cert.AQkvFwdRefIdeal.τ).loc Cert.AQkvFwdRefIdeal.main_arg1) = m' ((c.tc : Thread Cert.AQkvFwdRefIdeal.nD Cert.AQkvFwdRefIdeal.τ).loc Cert.AQkvFwdRefIdeal.main_arg1))

def preserves_AWoFwd_AWoFwdIdeal : Prop :=
  True

def algebraic_AWoFwdIdeal_AWoFwdRefIdeal [hAWoFwdIdeal : Cert.AWoFwdIdeal.Facts] [hAWoFwdRefIdeal : Cert.AWoFwdRefIdeal.Facts] : Prop :=
  ∀ (m : (ℓ : Loc Cert.AWoFwdIdeal.nD Cert.AWoFwdIdeal.τ Cert.AWoFwdIdeal.sig) → Buf (Elt Ideal) ℓ) (g : Dev Cert.AWoFwdIdeal.nD → PrngReg)
    (m' : (ℓ : Loc Cert.AWoFwdRefIdeal.nD Cert.AWoFwdRefIdeal.τ Cert.AWoFwdRefIdeal.sig) → Buf (Elt Ideal) ℓ) (g' : Dev Cert.AWoFwdRefIdeal.nD → PrngReg), Pre_AWoFwdIdeal m →
    (∀ c : Dev Cert.AWoFwdIdeal.nD,
      m' ((c.tc : Thread Cert.AWoFwdRefIdeal.nD Cert.AWoFwdRefIdeal.τ).loc Cert.AWoFwdRefIdeal.main_arg0) = m ((c.tc : Thread Cert.AWoFwdIdeal.nD Cert.AWoFwdIdeal.τ).loc Cert.AWoFwdIdeal.main_arg0)
      ∧ m' ((c.tc : Thread Cert.AWoFwdRefIdeal.nD Cert.AWoFwdRefIdeal.τ).loc Cert.AWoFwdRefIdeal.main_arg1) = m ((c.tc : Thread Cert.AWoFwdIdeal.nD Cert.AWoFwdIdeal.τ).loc Cert.AWoFwdIdeal.main_arg1)
      ∧ m' ((c.tc : Thread Cert.AWoFwdRefIdeal.nD Cert.AWoFwdRefIdeal.τ).loc Cert.AWoFwdRefIdeal.main_arg2) = m ((c.tc : Thread Cert.AWoFwdIdeal.nD Cert.AWoFwdIdeal.τ).loc Cert.AWoFwdIdeal.main_arg2)
      ∧ m' ((c.tc : Thread Cert.AWoFwdRefIdeal.nD Cert.AWoFwdRefIdeal.τ).loc Cert.AWoFwdRefIdeal.main_arg3) = m ((c.tc : Thread Cert.AWoFwdIdeal.nD Cert.AWoFwdIdeal.τ).loc Cert.AWoFwdIdeal.main_arg3)) →
    ∃ (v0 : (c : Dev Cert.AWoFwdIdeal.nD) → Buf (Elt Ideal) ((c.tc : Thread Cert.AWoFwdIdeal.nD Cert.AWoFwdIdeal.τ).loc Cert.AWoFwdIdeal.main_v0_0)) (v1 : (c : Dev Cert.AWoFwdIdeal.nD) → Buf (Elt Ideal) ((c.tc : Thread Cert.AWoFwdIdeal.nD Cert.AWoFwdIdeal.τ).loc Cert.AWoFwdIdeal.main_v0_1)),
      θ_run (Cert.AWoFwdIdeal.defs (F := Ideal)) (onTc (τ := Cert.AWoFwdIdeal.τ) (Cert.AWoFwdIdeal.main (F := Ideal))) ⟨m, fun _ => 0, g⟩ (fun r => ∀ c : Dev Cert.AWoFwdIdeal.nD,
          r.2.mem ((c.tc : Thread Cert.AWoFwdIdeal.nD Cert.AWoFwdIdeal.τ).loc Cert.AWoFwdIdeal.main_v0_0) = v0 c
          ∧ r.2.mem ((c.tc : Thread Cert.AWoFwdIdeal.nD Cert.AWoFwdIdeal.τ).loc Cert.AWoFwdIdeal.main_v0_1) = v1 c
          ∧ r.2.mem ((c.tc : Thread Cert.AWoFwdIdeal.nD Cert.AWoFwdIdeal.τ).loc Cert.AWoFwdIdeal.main_arg0) = m ((c.tc : Thread Cert.AWoFwdIdeal.nD Cert.AWoFwdIdeal.τ).loc Cert.AWoFwdIdeal.main_arg0)
          ∧ r.2.mem ((c.tc : Thread Cert.AWoFwdIdeal.nD Cert.AWoFwdIdeal.τ).loc Cert.AWoFwdIdeal.main_arg1) = m ((c.tc : Thread Cert.AWoFwdIdeal.nD Cert.AWoFwdIdeal.τ).loc Cert.AWoFwdIdeal.main_arg1)
          ∧ r.2.mem ((c.tc : Thread Cert.AWoFwdIdeal.nD Cert.AWoFwdIdeal.τ).loc Cert.AWoFwdIdeal.main_arg2) = m ((c.tc : Thread Cert.AWoFwdIdeal.nD Cert.AWoFwdIdeal.τ).loc Cert.AWoFwdIdeal.main_arg2)
          ∧ r.2.mem ((c.tc : Thread Cert.AWoFwdIdeal.nD Cert.AWoFwdIdeal.τ).loc Cert.AWoFwdIdeal.main_arg3) = m ((c.tc : Thread Cert.AWoFwdIdeal.nD Cert.AWoFwdIdeal.τ).loc Cert.AWoFwdIdeal.main_arg3))
      ∧ θ_run (Cert.AWoFwdRefIdeal.defs (F := Ideal)) (onTc (τ := Cert.AWoFwdRefIdeal.τ) (Cert.AWoFwdRefIdeal.main (F := Ideal))) ⟨m', fun _ => 0, g'⟩ (fun r => ∀ c : Dev Cert.AWoFwdRefIdeal.nD,
          r.2.mem ((c.tc : Thread Cert.AWoFwdRefIdeal.nD Cert.AWoFwdRefIdeal.τ).loc Cert.AWoFwdRefIdeal.main_v6) = v0 c
          ∧ r.2.mem ((c.tc : Thread Cert.AWoFwdRefIdeal.nD Cert.AWoFwdRefIdeal.τ).loc Cert.AWoFwdRefIdeal.main_v19) = v1 c
          ∧ r.2.mem ((c.tc : Thread Cert.AWoFwdRefIdeal.nD Cert.AWoFwdRefIdeal.τ).loc Cert.AWoFwdRefIdeal.main_arg0) = m' ((c.tc : Thread Cert.AWoFwdRefIdeal.nD Cert.AWoFwdRefIdeal.τ).loc Cert.AWoFwdRefIdeal.main_arg0)
          ∧ r.2.mem ((c.tc : Thread Cert.AWoFwdRefIdeal.nD Cert.AWoFwdRefIdeal.τ).loc Cert.AWoFwdRefIdeal.main_arg1) = m' ((c.tc : Thread Cert.AWoFwdRefIdeal.nD Cert.AWoFwdRefIdeal.τ).loc Cert.AWoFwdRefIdeal.main_arg1)
          ∧ r.2.mem ((c.tc : Thread Cert.AWoFwdRefIdeal.nD Cert.AWoFwdRefIdeal.τ).loc Cert.AWoFwdRefIdeal.main_arg2) = m' ((c.tc : Thread Cert.AWoFwdRefIdeal.nD Cert.AWoFwdRefIdeal.τ).loc Cert.AWoFwdRefIdeal.main_arg2)
          ∧ r.2.mem ((c.tc : Thread Cert.AWoFwdRefIdeal.nD Cert.AWoFwdRefIdeal.τ).loc Cert.AWoFwdRefIdeal.main_arg3) = m' ((c.tc : Thread Cert.AWoFwdRefIdeal.nD Cert.AWoFwdRefIdeal.τ).loc Cert.AWoFwdRefIdeal.main_arg3))

def preserves_AWoDx_AWoDxIdeal : Prop :=
  True

def algebraic_AWoDxIdeal_AWoDxRefIdeal [hAWoDxIdeal : Cert.AWoDxIdeal.Facts] [hAWoDxRefIdeal : Cert.AWoDxRefIdeal.Facts] : Prop :=
  ∀ (m : (ℓ : Loc Cert.AWoDxIdeal.nD Cert.AWoDxIdeal.τ Cert.AWoDxIdeal.sig) → Buf (Elt Ideal) ℓ) (g : Dev Cert.AWoDxIdeal.nD → PrngReg)
    (m' : (ℓ : Loc Cert.AWoDxRefIdeal.nD Cert.AWoDxRefIdeal.τ Cert.AWoDxRefIdeal.sig) → Buf (Elt Ideal) ℓ) (g' : Dev Cert.AWoDxRefIdeal.nD → PrngReg), Pre_AWoDxIdeal m →
    (∀ c : Dev Cert.AWoDxIdeal.nD,
      m' ((c.tc : Thread Cert.AWoDxRefIdeal.nD Cert.AWoDxRefIdeal.τ).loc Cert.AWoDxRefIdeal.main_arg0) = m ((c.tc : Thread Cert.AWoDxIdeal.nD Cert.AWoDxIdeal.τ).loc Cert.AWoDxIdeal.main_arg0)
      ∧ m' ((c.tc : Thread Cert.AWoDxRefIdeal.nD Cert.AWoDxRefIdeal.τ).loc Cert.AWoDxRefIdeal.main_arg1) = m ((c.tc : Thread Cert.AWoDxIdeal.nD Cert.AWoDxIdeal.τ).loc Cert.AWoDxIdeal.main_arg1)) →
    ∃ (v0 : (c : Dev Cert.AWoDxIdeal.nD) → Buf (Elt Ideal) ((c.tc : Thread Cert.AWoDxIdeal.nD Cert.AWoDxIdeal.τ).loc Cert.AWoDxIdeal.main_v0)),
      θ_run (Cert.AWoDxIdeal.defs (F := Ideal)) (onTc (τ := Cert.AWoDxIdeal.τ) (Cert.AWoDxIdeal.main (F := Ideal))) ⟨m, fun _ => 0, g⟩ (fun r => ∀ c : Dev Cert.AWoDxIdeal.nD,
          r.2.mem ((c.tc : Thread Cert.AWoDxIdeal.nD Cert.AWoDxIdeal.τ).loc Cert.AWoDxIdeal.main_v0) = v0 c
          ∧ r.2.mem ((c.tc : Thread Cert.AWoDxIdeal.nD Cert.AWoDxIdeal.τ).loc Cert.AWoDxIdeal.main_arg0) = m ((c.tc : Thread Cert.AWoDxIdeal.nD Cert.AWoDxIdeal.τ).loc Cert.AWoDxIdeal.main_arg0)
          ∧ r.2.mem ((c.tc : Thread Cert.AWoDxIdeal.nD Cert.AWoDxIdeal.τ).loc Cert.AWoDxIdeal.main_arg1) = m ((c.tc : Thread Cert.AWoDxIdeal.nD Cert.AWoDxIdeal.τ).loc Cert.AWoDxIdeal.main_arg1))
      ∧ θ_run (Cert.AWoDxRefIdeal.defs (F := Ideal)) (onTc (τ := Cert.AWoDxRefIdeal.τ) (Cert.AWoDxRefIdeal.main (F := Ideal))) ⟨m', fun _ => 0, g'⟩ (fun r => ∀ c : Dev Cert.AWoDxRefIdeal.nD,
          r.2.mem ((c.tc : Thread Cert.AWoDxRefIdeal.nD Cert.AWoDxRefIdeal.τ).loc Cert.AWoDxRefIdeal.main_v8) = v0 c
          ∧ r.2.mem ((c.tc : Thread Cert.AWoDxRefIdeal.nD Cert.AWoDxRefIdeal.τ).loc Cert.AWoDxRefIdeal.main_arg0) = m' ((c.tc : Thread Cert.AWoDxRefIdeal.nD Cert.AWoDxRefIdeal.τ).loc Cert.AWoDxRefIdeal.main_arg0)
          ∧ r.2.mem ((c.tc : Thread Cert.AWoDxRefIdeal.nD Cert.AWoDxRefIdeal.τ).loc Cert.AWoDxRefIdeal.main_arg1) = m' ((c.tc : Thread Cert.AWoDxRefIdeal.nD Cert.AWoDxRefIdeal.τ).loc Cert.AWoDxRefIdeal.main_arg1))

def preserves_AWoDw_AWoDwIdeal : Prop :=
  True

def algebraic_AWoDwIdeal_AWoDwRefIdeal [hAWoDwIdeal : Cert.AWoDwIdeal.Facts] [hAWoDwRefIdeal : Cert.AWoDwRefIdeal.Facts] : Prop :=
  ∀ (m : (ℓ : Loc Cert.AWoDwIdeal.nD Cert.AWoDwIdeal.τ Cert.AWoDwIdeal.sig) → Buf (Elt Ideal) ℓ) (g : Dev Cert.AWoDwIdeal.nD → PrngReg)
    (m' : (ℓ : Loc Cert.AWoDwRefIdeal.nD Cert.AWoDwRefIdeal.τ Cert.AWoDwRefIdeal.sig) → Buf (Elt Ideal) ℓ) (g' : Dev Cert.AWoDwRefIdeal.nD → PrngReg), Pre_AWoDwIdeal m →
    (∀ c : Dev Cert.AWoDwIdeal.nD,
      m' ((c.tc : Thread Cert.AWoDwRefIdeal.nD Cert.AWoDwRefIdeal.τ).loc Cert.AWoDwRefIdeal.main_arg0) = m ((c.tc : Thread Cert.AWoDwIdeal.nD Cert.AWoDwIdeal.τ).loc Cert.AWoDwIdeal.main_arg0)
      ∧ m' ((c.tc : Thread Cert.AWoDwRefIdeal.nD Cert.AWoDwRefIdeal.τ).loc Cert.AWoDwRefIdeal.main_arg1) = m ((c.tc : Thread Cert.AWoDwIdeal.nD Cert.AWoDwIdeal.τ).loc Cert.AWoDwIdeal.main_arg1)) →
    ∃ (v0 : (c : Dev Cert.AWoDwIdeal.nD) → Buf (Elt Ideal) ((c.tc : Thread Cert.AWoDwIdeal.nD Cert.AWoDwIdeal.τ).loc Cert.AWoDwIdeal.main_v0)),
      θ_run (Cert.AWoDwIdeal.defs (F := Ideal)) (onTc (τ := Cert.AWoDwIdeal.τ) (Cert.AWoDwIdeal.main (F := Ideal))) ⟨m, fun _ => 0, g⟩ (fun r => ∀ c : Dev Cert.AWoDwIdeal.nD,
          r.2.mem ((c.tc : Thread Cert.AWoDwIdeal.nD Cert.AWoDwIdeal.τ).loc Cert.AWoDwIdeal.main_v0) = v0 c
          ∧ r.2.mem ((c.tc : Thread Cert.AWoDwIdeal.nD Cert.AWoDwIdeal.τ).loc Cert.AWoDwIdeal.main_arg0) = m ((c.tc : Thread Cert.AWoDwIdeal.nD Cert.AWoDwIdeal.τ).loc Cert.AWoDwIdeal.main_arg0)
          ∧ r.2.mem ((c.tc : Thread Cert.AWoDwIdeal.nD Cert.AWoDwIdeal.τ).loc Cert.AWoDwIdeal.main_arg1) = m ((c.tc : Thread Cert.AWoDwIdeal.nD Cert.AWoDwIdeal.τ).loc Cert.AWoDwIdeal.main_arg1))
      ∧ θ_run (Cert.AWoDwRefIdeal.defs (F := Ideal)) (onTc (τ := Cert.AWoDwRefIdeal.τ) (Cert.AWoDwRefIdeal.main (F := Ideal))) ⟨m', fun _ => 0, g'⟩ (fun r => ∀ c : Dev Cert.AWoDwRefIdeal.nD,
          r.2.mem ((c.tc : Thread Cert.AWoDwRefIdeal.nD Cert.AWoDwRefIdeal.τ).loc Cert.AWoDwRefIdeal.main_v9) = v0 c
          ∧ r.2.mem ((c.tc : Thread Cert.AWoDwRefIdeal.nD Cert.AWoDwRefIdeal.τ).loc Cert.AWoDwRefIdeal.main_arg0) = m' ((c.tc : Thread Cert.AWoDwRefIdeal.nD Cert.AWoDwRefIdeal.τ).loc Cert.AWoDwRefIdeal.main_arg0)
          ∧ r.2.mem ((c.tc : Thread Cert.AWoDwRefIdeal.nD Cert.AWoDwRefIdeal.τ).loc Cert.AWoDwRefIdeal.main_arg1) = m' ((c.tc : Thread Cert.AWoDwRefIdeal.nD Cert.AWoDwRefIdeal.τ).loc Cert.AWoDwRefIdeal.main_arg1))

def preserves_AQkvDx_AQkvDxIdeal : Prop :=
  True

def algebraic_AQkvDxIdeal_AQkvDxRefIdeal [hAQkvDxIdeal : Cert.AQkvDxIdeal.Facts] [hAQkvDxRefIdeal : Cert.AQkvDxRefIdeal.Facts] : Prop :=
  ∀ (m : (ℓ : Loc Cert.AQkvDxIdeal.nD Cert.AQkvDxIdeal.τ Cert.AQkvDxIdeal.sig) → Buf (Elt Ideal) ℓ) (g : Dev Cert.AQkvDxIdeal.nD → PrngReg)
    (m' : (ℓ : Loc Cert.AQkvDxRefIdeal.nD Cert.AQkvDxRefIdeal.τ Cert.AQkvDxRefIdeal.sig) → Buf (Elt Ideal) ℓ) (g' : Dev Cert.AQkvDxRefIdeal.nD → PrngReg), Pre_AQkvDxIdeal m →
    (∀ c : Dev Cert.AQkvDxIdeal.nD,
      m' ((c.tc : Thread Cert.AQkvDxRefIdeal.nD Cert.AQkvDxRefIdeal.τ).loc Cert.AQkvDxRefIdeal.main_arg0) = m ((c.tc : Thread Cert.AQkvDxIdeal.nD Cert.AQkvDxIdeal.τ).loc Cert.AQkvDxIdeal.main_arg0)
      ∧ m' ((c.tc : Thread Cert.AQkvDxRefIdeal.nD Cert.AQkvDxRefIdeal.τ).loc Cert.AQkvDxRefIdeal.main_arg1) = m ((c.tc : Thread Cert.AQkvDxIdeal.nD Cert.AQkvDxIdeal.τ).loc Cert.AQkvDxIdeal.main_arg1)
      ∧ m' ((c.tc : Thread Cert.AQkvDxRefIdeal.nD Cert.AQkvDxRefIdeal.τ).loc Cert.AQkvDxRefIdeal.main_arg2) = m ((c.tc : Thread Cert.AQkvDxIdeal.nD Cert.AQkvDxIdeal.τ).loc Cert.AQkvDxIdeal.main_arg2)
      ∧ m' ((c.tc : Thread Cert.AQkvDxRefIdeal.nD Cert.AQkvDxRefIdeal.τ).loc Cert.AQkvDxRefIdeal.main_arg3) = m ((c.tc : Thread Cert.AQkvDxIdeal.nD Cert.AQkvDxIdeal.τ).loc Cert.AQkvDxIdeal.main_arg3)
      ∧ m' ((c.tc : Thread Cert.AQkvDxRefIdeal.nD Cert.AQkvDxRefIdeal.τ).loc Cert.AQkvDxRefIdeal.main_arg4) = m ((c.tc : Thread Cert.AQkvDxIdeal.nD Cert.AQkvDxIdeal.τ).loc Cert.AQkvDxIdeal.main_arg4)) →
    ∃ (v0 : (c : Dev Cert.AQkvDxIdeal.nD) → Buf (Elt Ideal) ((c.tc : Thread Cert.AQkvDxIdeal.nD Cert.AQkvDxIdeal.τ).loc Cert.AQkvDxIdeal.main_v0_0)) (v1 : (c : Dev Cert.AQkvDxIdeal.nD) → Buf (Elt Ideal) ((c.tc : Thread Cert.AQkvDxIdeal.nD Cert.AQkvDxIdeal.τ).loc Cert.AQkvDxIdeal.main_v0_1)) (v2 : (c : Dev Cert.AQkvDxIdeal.nD) → Buf (Elt Ideal) ((c.tc : Thread Cert.AQkvDxIdeal.nD Cert.AQkvDxIdeal.τ).loc Cert.AQkvDxIdeal.main_v0_2)) (v3 : (c : Dev Cert.AQkvDxIdeal.nD) → Buf (Elt Ideal) ((c.tc : Thread Cert.AQkvDxIdeal.nD Cert.AQkvDxIdeal.τ).loc Cert.AQkvDxIdeal.main_v0_3)),
      θ_run (Cert.AQkvDxIdeal.defs (F := Ideal)) (onTc (τ := Cert.AQkvDxIdeal.τ) (Cert.AQkvDxIdeal.main (F := Ideal))) ⟨m, fun _ => 0, g⟩ (fun r => ∀ c : Dev Cert.AQkvDxIdeal.nD,
          r.2.mem ((c.tc : Thread Cert.AQkvDxIdeal.nD Cert.AQkvDxIdeal.τ).loc Cert.AQkvDxIdeal.main_v0_0) = v0 c
          ∧ r.2.mem ((c.tc : Thread Cert.AQkvDxIdeal.nD Cert.AQkvDxIdeal.τ).loc Cert.AQkvDxIdeal.main_v0_1) = v1 c
          ∧ r.2.mem ((c.tc : Thread Cert.AQkvDxIdeal.nD Cert.AQkvDxIdeal.τ).loc Cert.AQkvDxIdeal.main_v0_2) = v2 c
          ∧ r.2.mem ((c.tc : Thread Cert.AQkvDxIdeal.nD Cert.AQkvDxIdeal.τ).loc Cert.AQkvDxIdeal.main_v0_3) = v3 c
          ∧ r.2.mem ((c.tc : Thread Cert.AQkvDxIdeal.nD Cert.AQkvDxIdeal.τ).loc Cert.AQkvDxIdeal.main_arg0) = m ((c.tc : Thread Cert.AQkvDxIdeal.nD Cert.AQkvDxIdeal.τ).loc Cert.AQkvDxIdeal.main_arg0)
          ∧ r.2.mem ((c.tc : Thread Cert.AQkvDxIdeal.nD Cert.AQkvDxIdeal.τ).loc Cert.AQkvDxIdeal.main_arg1) = m ((c.tc : Thread Cert.AQkvDxIdeal.nD Cert.AQkvDxIdeal.τ).loc Cert.AQkvDxIdeal.main_arg1)
          ∧ r.2.mem ((c.tc : Thread Cert.AQkvDxIdeal.nD Cert.AQkvDxIdeal.τ).loc Cert.AQkvDxIdeal.main_arg2) = m ((c.tc : Thread Cert.AQkvDxIdeal.nD Cert.AQkvDxIdeal.τ).loc Cert.AQkvDxIdeal.main_arg2)
          ∧ r.2.mem ((c.tc : Thread Cert.AQkvDxIdeal.nD Cert.AQkvDxIdeal.τ).loc Cert.AQkvDxIdeal.main_arg3) = m ((c.tc : Thread Cert.AQkvDxIdeal.nD Cert.AQkvDxIdeal.τ).loc Cert.AQkvDxIdeal.main_arg3)
          ∧ r.2.mem ((c.tc : Thread Cert.AQkvDxIdeal.nD Cert.AQkvDxIdeal.τ).loc Cert.AQkvDxIdeal.main_arg4) = m ((c.tc : Thread Cert.AQkvDxIdeal.nD Cert.AQkvDxIdeal.τ).loc Cert.AQkvDxIdeal.main_arg4))
      ∧ θ_run (Cert.AQkvDxRefIdeal.defs (F := Ideal)) (onTc (τ := Cert.AQkvDxRefIdeal.τ) (Cert.AQkvDxRefIdeal.main (F := Ideal))) ⟨m', fun _ => 0, g'⟩ (fun r => ∀ c : Dev Cert.AQkvDxRefIdeal.nD,
          r.2.mem ((c.tc : Thread Cert.AQkvDxRefIdeal.nD Cert.AQkvDxRefIdeal.τ).loc Cert.AQkvDxRefIdeal.main_v44) = v0 c
          ∧ r.2.mem ((c.tc : Thread Cert.AQkvDxRefIdeal.nD Cert.AQkvDxRefIdeal.τ).loc Cert.AQkvDxRefIdeal.main_v45) = v1 c
          ∧ r.2.mem ((c.tc : Thread Cert.AQkvDxRefIdeal.nD Cert.AQkvDxRefIdeal.τ).loc Cert.AQkvDxRefIdeal.main_v43) = v2 c
          ∧ r.2.mem ((c.tc : Thread Cert.AQkvDxRefIdeal.nD Cert.AQkvDxRefIdeal.τ).loc Cert.AQkvDxRefIdeal.main_v47) = v3 c
          ∧ r.2.mem ((c.tc : Thread Cert.AQkvDxRefIdeal.nD Cert.AQkvDxRefIdeal.τ).loc Cert.AQkvDxRefIdeal.main_arg0) = m' ((c.tc : Thread Cert.AQkvDxRefIdeal.nD Cert.AQkvDxRefIdeal.τ).loc Cert.AQkvDxRefIdeal.main_arg0)
          ∧ r.2.mem ((c.tc : Thread Cert.AQkvDxRefIdeal.nD Cert.AQkvDxRefIdeal.τ).loc Cert.AQkvDxRefIdeal.main_arg1) = m' ((c.tc : Thread Cert.AQkvDxRefIdeal.nD Cert.AQkvDxRefIdeal.τ).loc Cert.AQkvDxRefIdeal.main_arg1)
          ∧ r.2.mem ((c.tc : Thread Cert.AQkvDxRefIdeal.nD Cert.AQkvDxRefIdeal.τ).loc Cert.AQkvDxRefIdeal.main_arg2) = m' ((c.tc : Thread Cert.AQkvDxRefIdeal.nD Cert.AQkvDxRefIdeal.τ).loc Cert.AQkvDxRefIdeal.main_arg2)
          ∧ r.2.mem ((c.tc : Thread Cert.AQkvDxRefIdeal.nD Cert.AQkvDxRefIdeal.τ).loc Cert.AQkvDxRefIdeal.main_arg3) = m' ((c.tc : Thread Cert.AQkvDxRefIdeal.nD Cert.AQkvDxRefIdeal.τ).loc Cert.AQkvDxRefIdeal.main_arg3)
          ∧ r.2.mem ((c.tc : Thread Cert.AQkvDxRefIdeal.nD Cert.AQkvDxRefIdeal.τ).loc Cert.AQkvDxRefIdeal.main_arg4) = m' ((c.tc : Thread Cert.AQkvDxRefIdeal.nD Cert.AQkvDxRefIdeal.τ).loc Cert.AQkvDxRefIdeal.main_arg4))

def preserves_AQkvDw_AQkvDwIdeal : Prop :=
  True

def algebraic_AQkvDwIdeal_AQkvDwRefIdeal [hAQkvDwIdeal : Cert.AQkvDwIdeal.Facts] [hAQkvDwRefIdeal : Cert.AQkvDwRefIdeal.Facts] : Prop :=
  ∀ (m : (ℓ : Loc Cert.AQkvDwIdeal.nD Cert.AQkvDwIdeal.τ Cert.AQkvDwIdeal.sig) → Buf (Elt Ideal) ℓ) (g : Dev Cert.AQkvDwIdeal.nD → PrngReg)
    (m' : (ℓ : Loc Cert.AQkvDwRefIdeal.nD Cert.AQkvDwRefIdeal.τ Cert.AQkvDwRefIdeal.sig) → Buf (Elt Ideal) ℓ) (g' : Dev Cert.AQkvDwRefIdeal.nD → PrngReg), Pre_AQkvDwIdeal m →
    (∀ c : Dev Cert.AQkvDwIdeal.nD,
      m' ((c.tc : Thread Cert.AQkvDwRefIdeal.nD Cert.AQkvDwRefIdeal.τ).loc Cert.AQkvDwRefIdeal.main_arg0) = m ((c.tc : Thread Cert.AQkvDwIdeal.nD Cert.AQkvDwIdeal.τ).loc Cert.AQkvDwIdeal.main_arg0)
      ∧ m' ((c.tc : Thread Cert.AQkvDwRefIdeal.nD Cert.AQkvDwRefIdeal.τ).loc Cert.AQkvDwRefIdeal.main_arg1) = m ((c.tc : Thread Cert.AQkvDwIdeal.nD Cert.AQkvDwIdeal.τ).loc Cert.AQkvDwIdeal.main_arg1)) →
    ∃ (v0 : (c : Dev Cert.AQkvDwIdeal.nD) → Buf (Elt Ideal) ((c.tc : Thread Cert.AQkvDwIdeal.nD Cert.AQkvDwIdeal.τ).loc Cert.AQkvDwIdeal.main_v0)),
      θ_run (Cert.AQkvDwIdeal.defs (F := Ideal)) (onTc (τ := Cert.AQkvDwIdeal.τ) (Cert.AQkvDwIdeal.main (F := Ideal))) ⟨m, fun _ => 0, g⟩ (fun r => ∀ c : Dev Cert.AQkvDwIdeal.nD,
          r.2.mem ((c.tc : Thread Cert.AQkvDwIdeal.nD Cert.AQkvDwIdeal.τ).loc Cert.AQkvDwIdeal.main_v0) = v0 c
          ∧ r.2.mem ((c.tc : Thread Cert.AQkvDwIdeal.nD Cert.AQkvDwIdeal.τ).loc Cert.AQkvDwIdeal.main_arg0) = m ((c.tc : Thread Cert.AQkvDwIdeal.nD Cert.AQkvDwIdeal.τ).loc Cert.AQkvDwIdeal.main_arg0)
          ∧ r.2.mem ((c.tc : Thread Cert.AQkvDwIdeal.nD Cert.AQkvDwIdeal.τ).loc Cert.AQkvDwIdeal.main_arg1) = m ((c.tc : Thread Cert.AQkvDwIdeal.nD Cert.AQkvDwIdeal.τ).loc Cert.AQkvDwIdeal.main_arg1))
      ∧ θ_run (Cert.AQkvDwRefIdeal.defs (F := Ideal)) (onTc (τ := Cert.AQkvDwRefIdeal.τ) (Cert.AQkvDwRefIdeal.main (F := Ideal))) ⟨m', fun _ => 0, g'⟩ (fun r => ∀ c : Dev Cert.AQkvDwRefIdeal.nD,
          r.2.mem ((c.tc : Thread Cert.AQkvDwRefIdeal.nD Cert.AQkvDwRefIdeal.τ).loc Cert.AQkvDwRefIdeal.main_v9) = v0 c
          ∧ r.2.mem ((c.tc : Thread Cert.AQkvDwRefIdeal.nD Cert.AQkvDwRefIdeal.τ).loc Cert.AQkvDwRefIdeal.main_arg0) = m' ((c.tc : Thread Cert.AQkvDwRefIdeal.nD Cert.AQkvDwRefIdeal.τ).loc Cert.AQkvDwRefIdeal.main_arg0)
          ∧ r.2.mem ((c.tc : Thread Cert.AQkvDwRefIdeal.nD Cert.AQkvDwRefIdeal.τ).loc Cert.AQkvDwRefIdeal.main_arg1) = m' ((c.tc : Thread Cert.AQkvDwRefIdeal.nD Cert.AQkvDwRefIdeal.τ).loc Cert.AQkvDwRefIdeal.main_arg1))

def preserves_KvFwd_KvFwdIdeal : Prop :=
  True

def algebraic_KvFwdIdeal_KvFwdRefIdeal [hKvFwdIdeal : Cert.KvFwdIdeal.Facts] [hKvFwdRefIdeal : Cert.KvFwdRefIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)
      ∧ m' ((c.tc : Thread Cert.KvFwdRefIdeal.nD Cert.KvFwdRefIdeal.τ).loc Cert.KvFwdRefIdeal.main_arg2) = m ((c.tc : Thread Cert.KvFwdIdeal.nD Cert.KvFwdIdeal.τ).loc Cert.KvFwdIdeal.main_arg2)) →
    ∃ (v0 : (c : Dev Cert.KvFwdIdeal.nD) → Buf (Elt Ideal) ((c.tc : Thread Cert.KvFwdIdeal.nD Cert.KvFwdIdeal.τ).loc Cert.KvFwdIdeal.main_v0)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v0) = v0 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
          ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v9) = v0 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1)
          ∧ r.2.mem ((c.tc : Thread Cert.KvFwdRefIdeal.nD Cert.KvFwdRefIdeal.τ).loc Cert.KvFwdRefIdeal.main_arg2) = m' ((c.tc : Thread Cert.KvFwdRefIdeal.nD Cert.KvFwdRefIdeal.τ).loc Cert.KvFwdRefIdeal.main_arg2))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)
      ∧ m' ((c.tc : Thread Cert.KvDxRefIdeal.nD Cert.KvDxRefIdeal.τ).loc Cert.KvDxRefIdeal.main_arg2) = m ((c.tc : Thread Cert.KvDxIdeal.nD Cert.KvDxIdeal.τ).loc Cert.KvDxIdeal.main_arg2)
      ∧ m' ((c.tc : Thread Cert.KvDxRefIdeal.nD Cert.KvDxRefIdeal.τ).loc Cert.KvDxRefIdeal.main_arg3) = m ((c.tc : Thread Cert.KvDxIdeal.nD Cert.KvDxIdeal.τ).loc Cert.KvDxIdeal.main_arg3)
      ∧ m' ((c.tc : Thread Cert.KvDxRefIdeal.nD Cert.KvDxRefIdeal.τ).loc Cert.KvDxRefIdeal.main_arg4) = m ((c.tc : Thread Cert.KvDxIdeal.nD Cert.KvDxIdeal.τ).loc Cert.KvDxIdeal.main_arg4)) →
    ∃ (v0 : (c : Dev Cert.KvDxIdeal.nD) → Buf (Elt Ideal) ((c.tc : Thread Cert.KvDxIdeal.nD Cert.KvDxIdeal.τ).loc Cert.KvDxIdeal.main_v0_0)) (v1 : (c : Dev Cert.KvDxIdeal.nD) → Buf (Elt Ideal) ((c.tc : Thread Cert.KvDxIdeal.nD Cert.KvDxIdeal.τ).loc Cert.KvDxIdeal.main_v0_1)) (v2 : (c : Dev Cert.KvDxIdeal.nD) → Buf (Elt Ideal) ((c.tc : Thread Cert.KvDxIdeal.nD Cert.KvDxIdeal.τ).loc Cert.KvDxIdeal.main_v0_2)) (v3 : (c : Dev Cert.KvDxIdeal.nD) → Buf (Elt Ideal) ((c.tc : Thread Cert.KvDxIdeal.nD Cert.KvDxIdeal.τ).loc Cert.KvDxIdeal.main_v0_3)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0_0) = v0 c
          ∧ r.2.mem ((c.tc : Thread Cert.KvDxIdeal.nD Cert.KvDxIdeal.τ).loc Cert.KvDxIdeal.main_v0_1) = v1 c
          ∧ r.2.mem ((c.tc : Thread Cert.KvDxIdeal.nD Cert.KvDxIdeal.τ).loc Cert.KvDxIdeal.main_v0_2) = v2 c
          ∧ r.2.mem ((c.tc : Thread Cert.KvDxIdeal.nD Cert.KvDxIdeal.τ).loc Cert.KvDxIdeal.main_v0_3) = v3 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
          ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
          ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v44) = v0 c
          ∧ r.2.mem ((c.tc : Thread Cert.KvDxRefIdeal.nD Cert.KvDxRefIdeal.τ).loc Cert.KvDxRefIdeal.main_v45) = v1 c
          ∧ r.2.mem ((c.tc : Thread Cert.KvDxRefIdeal.nD Cert.KvDxRefIdeal.τ).loc Cert.KvDxRefIdeal.main_v43) = v2 c
          ∧ r.2.mem ((c.tc : Thread Cert.KvDxRefIdeal.nD Cert.KvDxRefIdeal.τ).loc Cert.KvDxRefIdeal.main_v47) = v3 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1)
          ∧ r.2.mem ((c.tc : Thread Cert.KvDxRefIdeal.nD Cert.KvDxRefIdeal.τ).loc Cert.KvDxRefIdeal.main_arg2) = m' ((c.tc : Thread Cert.KvDxRefIdeal.nD Cert.KvDxRefIdeal.τ).loc Cert.KvDxRefIdeal.main_arg2)
          ∧ r.2.mem ((c.tc : Thread Cert.KvDxRefIdeal.nD Cert.KvDxRefIdeal.τ).loc Cert.KvDxRefIdeal.main_arg3) = m' ((c.tc : Thread Cert.KvDxRefIdeal.nD Cert.KvDxRefIdeal.τ).loc Cert.KvDxRefIdeal.main_arg3)
          ∧ r.2.mem ((c.tc : Thread Cert.KvDxRefIdeal.nD Cert.KvDxRefIdeal.τ).loc Cert.KvDxRefIdeal.main_arg4) = m' ((c.tc : Thread Cert.KvDxRefIdeal.nD Cert.KvDxRefIdeal.τ).loc Cert.KvDxRefIdeal.main_arg4))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v9) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_BQFwd_BQFwdIdeal : Prop :=
  True

def algebraic_BQFwdIdeal_BQFwdRefIdeal [hBQFwdIdeal : Cert.BQFwdIdeal.Facts] [hBQFwdRefIdeal : Cert.BQFwdRefIdeal.Facts] : Prop :=
  ∀ (m : (ℓ : Loc Cert.BQFwdIdeal.nD Cert.BQFwdIdeal.τ Cert.BQFwdIdeal.sig) → Buf (Elt Ideal) ℓ) (g : Dev Cert.BQFwdIdeal.nD → PrngReg)
    (m' : (ℓ : Loc Cert.BQFwdRefIdeal.nD Cert.BQFwdRefIdeal.τ Cert.BQFwdRefIdeal.sig) → Buf (Elt Ideal) ℓ) (g' : Dev Cert.BQFwdRefIdeal.nD → PrngReg), Pre_BQFwdIdeal m →
    (∀ c : Dev Cert.BQFwdIdeal.nD,
      m' ((c.tc : Thread Cert.BQFwdRefIdeal.nD Cert.BQFwdRefIdeal.τ).loc Cert.BQFwdRefIdeal.main_arg0) = m ((c.tc : Thread Cert.BQFwdIdeal.nD Cert.BQFwdIdeal.τ).loc Cert.BQFwdIdeal.main_arg0)
      ∧ m' ((c.tc : Thread Cert.BQFwdRefIdeal.nD Cert.BQFwdRefIdeal.τ).loc Cert.BQFwdRefIdeal.main_arg1) = m ((c.tc : Thread Cert.BQFwdIdeal.nD Cert.BQFwdIdeal.τ).loc Cert.BQFwdIdeal.main_arg1)
      ∧ m' ((c.tc : Thread Cert.BQFwdRefIdeal.nD Cert.BQFwdRefIdeal.τ).loc Cert.BQFwdRefIdeal.main_arg2) = m ((c.tc : Thread Cert.BQFwdIdeal.nD Cert.BQFwdIdeal.τ).loc Cert.BQFwdIdeal.main_arg2)) →
    ∃ (v0 : (c : Dev Cert.BQFwdIdeal.nD) → Buf (Elt Ideal) ((c.tc : Thread Cert.BQFwdIdeal.nD Cert.BQFwdIdeal.τ).loc Cert.BQFwdIdeal.main_v0)),
      θ_run (Cert.BQFwdIdeal.defs (F := Ideal)) (onTc (τ := Cert.BQFwdIdeal.τ) (Cert.BQFwdIdeal.main (F := Ideal))) ⟨m, fun _ => 0, g⟩ (fun r => ∀ c : Dev Cert.BQFwdIdeal.nD,
          r.2.mem ((c.tc : Thread Cert.BQFwdIdeal.nD Cert.BQFwdIdeal.τ).loc Cert.BQFwdIdeal.main_v0) = v0 c
          ∧ r.2.mem ((c.tc : Thread Cert.BQFwdIdeal.nD Cert.BQFwdIdeal.τ).loc Cert.BQFwdIdeal.main_arg0) = m ((c.tc : Thread Cert.BQFwdIdeal.nD Cert.BQFwdIdeal.τ).loc Cert.BQFwdIdeal.main_arg0)
          ∧ r.2.mem ((c.tc : Thread Cert.BQFwdIdeal.nD Cert.BQFwdIdeal.τ).loc Cert.BQFwdIdeal.main_arg1) = m ((c.tc : Thread Cert.BQFwdIdeal.nD Cert.BQFwdIdeal.τ).loc Cert.BQFwdIdeal.main_arg1)
          ∧ r.2.mem ((c.tc : Thread Cert.BQFwdIdeal.nD Cert.BQFwdIdeal.τ).loc Cert.BQFwdIdeal.main_arg2) = m ((c.tc : Thread Cert.BQFwdIdeal.nD Cert.BQFwdIdeal.τ).loc Cert.BQFwdIdeal.main_arg2))
      ∧ θ_run (Cert.BQFwdRefIdeal.defs (F := Ideal)) (onTc (τ := Cert.BQFwdRefIdeal.τ) (Cert.BQFwdRefIdeal.main (F := Ideal))) ⟨m', fun _ => 0, g'⟩ (fun r => ∀ c : Dev Cert.BQFwdRefIdeal.nD,
          r.2.mem ((c.tc : Thread Cert.BQFwdRefIdeal.nD Cert.BQFwdRefIdeal.τ).loc Cert.BQFwdRefIdeal.main_v10) = v0 c
          ∧ r.2.mem ((c.tc : Thread Cert.BQFwdRefIdeal.nD Cert.BQFwdRefIdeal.τ).loc Cert.BQFwdRefIdeal.main_arg0) = m' ((c.tc : Thread Cert.BQFwdRefIdeal.nD Cert.BQFwdRefIdeal.τ).loc Cert.BQFwdRefIdeal.main_arg0)
          ∧ r.2.mem ((c.tc : Thread Cert.BQFwdRefIdeal.nD Cert.BQFwdRefIdeal.τ).loc Cert.BQFwdRefIdeal.main_arg1) = m' ((c.tc : Thread Cert.BQFwdRefIdeal.nD Cert.BQFwdRefIdeal.τ).loc Cert.BQFwdRefIdeal.main_arg1)
          ∧ r.2.mem ((c.tc : Thread Cert.BQFwdRefIdeal.nD Cert.BQFwdRefIdeal.τ).loc Cert.BQFwdRefIdeal.main_arg2) = m' ((c.tc : Thread Cert.BQFwdRefIdeal.nD Cert.BQFwdRefIdeal.τ).loc Cert.BQFwdRefIdeal.main_arg2))

def preserves_BQDx_BQDxIdeal : Prop :=
  True

def algebraic_BQDxIdeal_BQDxRefIdeal [hBQDxIdeal : Cert.BQDxIdeal.Facts] [hBQDxRefIdeal : Cert.BQDxRefIdeal.Facts] : Prop :=
  ∀ (m : (ℓ : Loc Cert.BQDxIdeal.nD Cert.BQDxIdeal.τ Cert.BQDxIdeal.sig) → Buf (Elt Ideal) ℓ) (g : Dev Cert.BQDxIdeal.nD → PrngReg)
    (m' : (ℓ : Loc Cert.BQDxRefIdeal.nD Cert.BQDxRefIdeal.τ Cert.BQDxRefIdeal.sig) → Buf (Elt Ideal) ℓ) (g' : Dev Cert.BQDxRefIdeal.nD → PrngReg), Pre_BQDxIdeal m →
    (∀ c : Dev Cert.BQDxIdeal.nD,
      m' ((c.tc : Thread Cert.BQDxRefIdeal.nD Cert.BQDxRefIdeal.τ).loc Cert.BQDxRefIdeal.main_arg0) = m ((c.tc : Thread Cert.BQDxIdeal.nD Cert.BQDxIdeal.τ).loc Cert.BQDxIdeal.main_arg0)
      ∧ m' ((c.tc : Thread Cert.BQDxRefIdeal.nD Cert.BQDxRefIdeal.τ).loc Cert.BQDxRefIdeal.main_arg1) = m ((c.tc : Thread Cert.BQDxIdeal.nD Cert.BQDxIdeal.τ).loc Cert.BQDxIdeal.main_arg1)
      ∧ m' ((c.tc : Thread Cert.BQDxRefIdeal.nD Cert.BQDxRefIdeal.τ).loc Cert.BQDxRefIdeal.main_arg2) = m ((c.tc : Thread Cert.BQDxIdeal.nD Cert.BQDxIdeal.τ).loc Cert.BQDxIdeal.main_arg2)
      ∧ m' ((c.tc : Thread Cert.BQDxRefIdeal.nD Cert.BQDxRefIdeal.τ).loc Cert.BQDxRefIdeal.main_arg3) = m ((c.tc : Thread Cert.BQDxIdeal.nD Cert.BQDxIdeal.τ).loc Cert.BQDxIdeal.main_arg3)
      ∧ m' ((c.tc : Thread Cert.BQDxRefIdeal.nD Cert.BQDxRefIdeal.τ).loc Cert.BQDxRefIdeal.main_arg4) = m ((c.tc : Thread Cert.BQDxIdeal.nD Cert.BQDxIdeal.τ).loc Cert.BQDxIdeal.main_arg4)) →
    ∃ (v0 : (c : Dev Cert.BQDxIdeal.nD) → Buf (Elt Ideal) ((c.tc : Thread Cert.BQDxIdeal.nD Cert.BQDxIdeal.τ).loc Cert.BQDxIdeal.main_v0_0)) (v1 : (c : Dev Cert.BQDxIdeal.nD) → Buf (Elt Ideal) ((c.tc : Thread Cert.BQDxIdeal.nD Cert.BQDxIdeal.τ).loc Cert.BQDxIdeal.main_v0_1)) (v2 : (c : Dev Cert.BQDxIdeal.nD) → Buf (Elt Ideal) ((c.tc : Thread Cert.BQDxIdeal.nD Cert.BQDxIdeal.τ).loc Cert.BQDxIdeal.main_v0_2)) (v3 : (c : Dev Cert.BQDxIdeal.nD) → Buf (Elt Ideal) ((c.tc : Thread Cert.BQDxIdeal.nD Cert.BQDxIdeal.τ).loc Cert.BQDxIdeal.main_v0_3)),
      θ_run (Cert.BQDxIdeal.defs (F := Ideal)) (onTc (τ := Cert.BQDxIdeal.τ) (Cert.BQDxIdeal.main (F := Ideal))) ⟨m, fun _ => 0, g⟩ (fun r => ∀ c : Dev Cert.BQDxIdeal.nD,
          r.2.mem ((c.tc : Thread Cert.BQDxIdeal.nD Cert.BQDxIdeal.τ).loc Cert.BQDxIdeal.main_v0_0) = v0 c
          ∧ r.2.mem ((c.tc : Thread Cert.BQDxIdeal.nD Cert.BQDxIdeal.τ).loc Cert.BQDxIdeal.main_v0_1) = v1 c
          ∧ r.2.mem ((c.tc : Thread Cert.BQDxIdeal.nD Cert.BQDxIdeal.τ).loc Cert.BQDxIdeal.main_v0_2) = v2 c
          ∧ r.2.mem ((c.tc : Thread Cert.BQDxIdeal.nD Cert.BQDxIdeal.τ).loc Cert.BQDxIdeal.main_v0_3) = v3 c
          ∧ r.2.mem ((c.tc : Thread Cert.BQDxIdeal.nD Cert.BQDxIdeal.τ).loc Cert.BQDxIdeal.main_arg0) = m ((c.tc : Thread Cert.BQDxIdeal.nD Cert.BQDxIdeal.τ).loc Cert.BQDxIdeal.main_arg0)
          ∧ r.2.mem ((c.tc : Thread Cert.BQDxIdeal.nD Cert.BQDxIdeal.τ).loc Cert.BQDxIdeal.main_arg1) = m ((c.tc : Thread Cert.BQDxIdeal.nD Cert.BQDxIdeal.τ).loc Cert.BQDxIdeal.main_arg1)
          ∧ r.2.mem ((c.tc : Thread Cert.BQDxIdeal.nD Cert.BQDxIdeal.τ).loc Cert.BQDxIdeal.main_arg2) = m ((c.tc : Thread Cert.BQDxIdeal.nD Cert.BQDxIdeal.τ).loc Cert.BQDxIdeal.main_arg2)
          ∧ r.2.mem ((c.tc : Thread Cert.BQDxIdeal.nD Cert.BQDxIdeal.τ).loc Cert.BQDxIdeal.main_arg3) = m ((c.tc : Thread Cert.BQDxIdeal.nD Cert.BQDxIdeal.τ).loc Cert.BQDxIdeal.main_arg3)
          ∧ r.2.mem ((c.tc : Thread Cert.BQDxIdeal.nD Cert.BQDxIdeal.τ).loc Cert.BQDxIdeal.main_arg4) = m ((c.tc : Thread Cert.BQDxIdeal.nD Cert.BQDxIdeal.τ).loc Cert.BQDxIdeal.main_arg4))
      ∧ θ_run (Cert.BQDxRefIdeal.defs (F := Ideal)) (onTc (τ := Cert.BQDxRefIdeal.τ) (Cert.BQDxRefIdeal.main (F := Ideal))) ⟨m', fun _ => 0, g'⟩ (fun r => ∀ c : Dev Cert.BQDxRefIdeal.nD,
          r.2.mem ((c.tc : Thread Cert.BQDxRefIdeal.nD Cert.BQDxRefIdeal.τ).loc Cert.BQDxRefIdeal.main_v45) = v0 c
          ∧ r.2.mem ((c.tc : Thread Cert.BQDxRefIdeal.nD Cert.BQDxRefIdeal.τ).loc Cert.BQDxRefIdeal.main_v46) = v1 c
          ∧ r.2.mem ((c.tc : Thread Cert.BQDxRefIdeal.nD Cert.BQDxRefIdeal.τ).loc Cert.BQDxRefIdeal.main_v44) = v2 c
          ∧ r.2.mem ((c.tc : Thread Cert.BQDxRefIdeal.nD Cert.BQDxRefIdeal.τ).loc Cert.BQDxRefIdeal.main_v48) = v3 c
          ∧ r.2.mem ((c.tc : Thread Cert.BQDxRefIdeal.nD Cert.BQDxRefIdeal.τ).loc Cert.BQDxRefIdeal.main_arg0) = m' ((c.tc : Thread Cert.BQDxRefIdeal.nD Cert.BQDxRefIdeal.τ).loc Cert.BQDxRefIdeal.main_arg0)
          ∧ r.2.mem ((c.tc : Thread Cert.BQDxRefIdeal.nD Cert.BQDxRefIdeal.τ).loc Cert.BQDxRefIdeal.main_arg1) = m' ((c.tc : Thread Cert.BQDxRefIdeal.nD Cert.BQDxRefIdeal.τ).loc Cert.BQDxRefIdeal.main_arg1)
          ∧ r.2.mem ((c.tc : Thread Cert.BQDxRefIdeal.nD Cert.BQDxRefIdeal.τ).loc Cert.BQDxRefIdeal.main_arg2) = m' ((c.tc : Thread Cert.BQDxRefIdeal.nD Cert.BQDxRefIdeal.τ).loc Cert.BQDxRefIdeal.main_arg2)
          ∧ r.2.mem ((c.tc : Thread Cert.BQDxRefIdeal.nD Cert.BQDxRefIdeal.τ).loc Cert.BQDxRefIdeal.main_arg3) = m' ((c.tc : Thread Cert.BQDxRefIdeal.nD Cert.BQDxRefIdeal.τ).loc Cert.BQDxRefIdeal.main_arg3)
          ∧ r.2.mem ((c.tc : Thread Cert.BQDxRefIdeal.nD Cert.BQDxRefIdeal.τ).loc Cert.BQDxRefIdeal.main_arg4) = m' ((c.tc : Thread Cert.BQDxRefIdeal.nD Cert.BQDxRefIdeal.τ).loc Cert.BQDxRefIdeal.main_arg4))

def preserves_BWoFwd_BWoFwdIdeal : Prop :=
  True

def algebraic_BWoFwdIdeal_BWoFwdRefIdeal [hBWoFwdIdeal : Cert.BWoFwdIdeal.Facts] [hBWoFwdRefIdeal : Cert.BWoFwdRefIdeal.Facts] : Prop :=
  ∀ (m : (ℓ : Loc Cert.BWoFwdIdeal.nD Cert.BWoFwdIdeal.τ Cert.BWoFwdIdeal.sig) → Buf (Elt Ideal) ℓ) (g : Dev Cert.BWoFwdIdeal.nD → PrngReg)
    (m' : (ℓ : Loc Cert.BWoFwdRefIdeal.nD Cert.BWoFwdRefIdeal.τ Cert.BWoFwdRefIdeal.sig) → Buf (Elt Ideal) ℓ) (g' : Dev Cert.BWoFwdRefIdeal.nD → PrngReg), Pre_BWoFwdIdeal m →
    (∀ c : Dev Cert.BWoFwdIdeal.nD,
      m' ((c.tc : Thread Cert.BWoFwdRefIdeal.nD Cert.BWoFwdRefIdeal.τ).loc Cert.BWoFwdRefIdeal.main_arg0) = m ((c.tc : Thread Cert.BWoFwdIdeal.nD Cert.BWoFwdIdeal.τ).loc Cert.BWoFwdIdeal.main_arg0)
      ∧ m' ((c.tc : Thread Cert.BWoFwdRefIdeal.nD Cert.BWoFwdRefIdeal.τ).loc Cert.BWoFwdRefIdeal.main_arg1) = m ((c.tc : Thread Cert.BWoFwdIdeal.nD Cert.BWoFwdIdeal.τ).loc Cert.BWoFwdIdeal.main_arg1)
      ∧ m' ((c.tc : Thread Cert.BWoFwdRefIdeal.nD Cert.BWoFwdRefIdeal.τ).loc Cert.BWoFwdRefIdeal.main_arg2) = m ((c.tc : Thread Cert.BWoFwdIdeal.nD Cert.BWoFwdIdeal.τ).loc Cert.BWoFwdIdeal.main_arg2)
      ∧ m' ((c.tc : Thread Cert.BWoFwdRefIdeal.nD Cert.BWoFwdRefIdeal.τ).loc Cert.BWoFwdRefIdeal.main_arg3) = m ((c.tc : Thread Cert.BWoFwdIdeal.nD Cert.BWoFwdIdeal.τ).loc Cert.BWoFwdIdeal.main_arg3)
      ∧ m' ((c.tc : Thread Cert.BWoFwdRefIdeal.nD Cert.BWoFwdRefIdeal.τ).loc Cert.BWoFwdRefIdeal.main_arg4) = m ((c.tc : Thread Cert.BWoFwdIdeal.nD Cert.BWoFwdIdeal.τ).loc Cert.BWoFwdIdeal.main_arg4)) →
    ∃ (v0 : (c : Dev Cert.BWoFwdIdeal.nD) → Buf (Elt Ideal) ((c.tc : Thread Cert.BWoFwdIdeal.nD Cert.BWoFwdIdeal.τ).loc Cert.BWoFwdIdeal.main_v0_0)) (v1 : (c : Dev Cert.BWoFwdIdeal.nD) → Buf (Elt Ideal) ((c.tc : Thread Cert.BWoFwdIdeal.nD Cert.BWoFwdIdeal.τ).loc Cert.BWoFwdIdeal.main_v0_1)),
      θ_run (Cert.BWoFwdIdeal.defs (F := Ideal)) (onTc (τ := Cert.BWoFwdIdeal.τ) (Cert.BWoFwdIdeal.main (F := Ideal))) ⟨m, fun _ => 0, g⟩ (fun r => ∀ c : Dev Cert.BWoFwdIdeal.nD,
          r.2.mem ((c.tc : Thread Cert.BWoFwdIdeal.nD Cert.BWoFwdIdeal.τ).loc Cert.BWoFwdIdeal.main_v0_0) = v0 c
          ∧ r.2.mem ((c.tc : Thread Cert.BWoFwdIdeal.nD Cert.BWoFwdIdeal.τ).loc Cert.BWoFwdIdeal.main_v0_1) = v1 c
          ∧ r.2.mem ((c.tc : Thread Cert.BWoFwdIdeal.nD Cert.BWoFwdIdeal.τ).loc Cert.BWoFwdIdeal.main_arg0) = m ((c.tc : Thread Cert.BWoFwdIdeal.nD Cert.BWoFwdIdeal.τ).loc Cert.BWoFwdIdeal.main_arg0)
          ∧ r.2.mem ((c.tc : Thread Cert.BWoFwdIdeal.nD Cert.BWoFwdIdeal.τ).loc Cert.BWoFwdIdeal.main_arg1) = m ((c.tc : Thread Cert.BWoFwdIdeal.nD Cert.BWoFwdIdeal.τ).loc Cert.BWoFwdIdeal.main_arg1)
          ∧ r.2.mem ((c.tc : Thread Cert.BWoFwdIdeal.nD Cert.BWoFwdIdeal.τ).loc Cert.BWoFwdIdeal.main_arg2) = m ((c.tc : Thread Cert.BWoFwdIdeal.nD Cert.BWoFwdIdeal.τ).loc Cert.BWoFwdIdeal.main_arg2)
          ∧ r.2.mem ((c.tc : Thread Cert.BWoFwdIdeal.nD Cert.BWoFwdIdeal.τ).loc Cert.BWoFwdIdeal.main_arg3) = m ((c.tc : Thread Cert.BWoFwdIdeal.nD Cert.BWoFwdIdeal.τ).loc Cert.BWoFwdIdeal.main_arg3)
          ∧ r.2.mem ((c.tc : Thread Cert.BWoFwdIdeal.nD Cert.BWoFwdIdeal.τ).loc Cert.BWoFwdIdeal.main_arg4) = m ((c.tc : Thread Cert.BWoFwdIdeal.nD Cert.BWoFwdIdeal.τ).loc Cert.BWoFwdIdeal.main_arg4))
      ∧ θ_run (Cert.BWoFwdRefIdeal.defs (F := Ideal)) (onTc (τ := Cert.BWoFwdRefIdeal.τ) (Cert.BWoFwdRefIdeal.main (F := Ideal))) ⟨m', fun _ => 0, g'⟩ (fun r => ∀ c : Dev Cert.BWoFwdRefIdeal.nD,
          r.2.mem ((c.tc : Thread Cert.BWoFwdRefIdeal.nD Cert.BWoFwdRefIdeal.τ).loc Cert.BWoFwdRefIdeal.main_v8) = v0 c
          ∧ r.2.mem ((c.tc : Thread Cert.BWoFwdRefIdeal.nD Cert.BWoFwdRefIdeal.τ).loc Cert.BWoFwdRefIdeal.main_v21) = v1 c
          ∧ r.2.mem ((c.tc : Thread Cert.BWoFwdRefIdeal.nD Cert.BWoFwdRefIdeal.τ).loc Cert.BWoFwdRefIdeal.main_arg0) = m' ((c.tc : Thread Cert.BWoFwdRefIdeal.nD Cert.BWoFwdRefIdeal.τ).loc Cert.BWoFwdRefIdeal.main_arg0)
          ∧ r.2.mem ((c.tc : Thread Cert.BWoFwdRefIdeal.nD Cert.BWoFwdRefIdeal.τ).loc Cert.BWoFwdRefIdeal.main_arg1) = m' ((c.tc : Thread Cert.BWoFwdRefIdeal.nD Cert.BWoFwdRefIdeal.τ).loc Cert.BWoFwdRefIdeal.main_arg1)
          ∧ r.2.mem ((c.tc : Thread Cert.BWoFwdRefIdeal.nD Cert.BWoFwdRefIdeal.τ).loc Cert.BWoFwdRefIdeal.main_arg2) = m' ((c.tc : Thread Cert.BWoFwdRefIdeal.nD Cert.BWoFwdRefIdeal.τ).loc Cert.BWoFwdRefIdeal.main_arg2)
          ∧ r.2.mem ((c.tc : Thread Cert.BWoFwdRefIdeal.nD Cert.BWoFwdRefIdeal.τ).loc Cert.BWoFwdRefIdeal.main_arg3) = m' ((c.tc : Thread Cert.BWoFwdRefIdeal.nD Cert.BWoFwdRefIdeal.τ).loc Cert.BWoFwdRefIdeal.main_arg3)
          ∧ r.2.mem ((c.tc : Thread Cert.BWoFwdRefIdeal.nD Cert.BWoFwdRefIdeal.τ).loc Cert.BWoFwdRefIdeal.main_arg4) = m' ((c.tc : Thread Cert.BWoFwdRefIdeal.nD Cert.BWoFwdRefIdeal.τ).loc Cert.BWoFwdRefIdeal.main_arg4))

def preserves_AdamwANorm_AdamwANormIdeal : Prop :=
  True

def algebraic_AdamwANormIdeal_AdamwANormRefIdeal [hAdamwANormIdeal : Cert.AdamwANormIdeal.Facts] [hAdamwANormRefIdeal : Cert.AdamwANormRefIdeal.Facts] : Prop :=
  ∀ (m : (ℓ : Loc Cert.AdamwANormIdeal.nD Cert.AdamwANormIdeal.τ Cert.AdamwANormIdeal.sig) → Buf (Elt Ideal) ℓ) (g : Dev Cert.AdamwANormIdeal.nD → PrngReg)
    (m' : (ℓ : Loc Cert.AdamwANormRefIdeal.nD Cert.AdamwANormRefIdeal.τ Cert.AdamwANormRefIdeal.sig) → Buf (Elt Ideal) ℓ) (g' : Dev Cert.AdamwANormRefIdeal.nD → PrngReg), Pre_AdamwANormIdeal m →
    (∀ c : Dev Cert.AdamwANormIdeal.nD,
      m' ((c.tc : Thread Cert.AdamwANormRefIdeal.nD Cert.AdamwANormRefIdeal.τ).loc Cert.AdamwANormRefIdeal.main_arg0) = m ((c.tc : Thread Cert.AdamwANormIdeal.nD Cert.AdamwANormIdeal.τ).loc Cert.AdamwANormIdeal.main_arg0)
      ∧ m' ((c.tc : Thread Cert.AdamwANormRefIdeal.nD Cert.AdamwANormRefIdeal.τ).loc Cert.AdamwANormRefIdeal.main_arg1) = m ((c.tc : Thread Cert.AdamwANormIdeal.nD Cert.AdamwANormIdeal.τ).loc Cert.AdamwANormIdeal.main_arg1)
      ∧ m' ((c.tc : Thread Cert.AdamwANormRefIdeal.nD Cert.AdamwANormRefIdeal.τ).loc Cert.AdamwANormRefIdeal.main_arg2) = m ((c.tc : Thread Cert.AdamwANormIdeal.nD Cert.AdamwANormIdeal.τ).loc Cert.AdamwANormIdeal.main_arg2)
      ∧ m' ((c.tc : Thread Cert.AdamwANormRefIdeal.nD Cert.AdamwANormRefIdeal.τ).loc Cert.AdamwANormRefIdeal.main_arg3) = m ((c.tc : Thread Cert.AdamwANormIdeal.nD Cert.AdamwANormIdeal.τ).loc Cert.AdamwANormIdeal.main_arg3)) →
    ∃ (v0 : (c : Dev Cert.AdamwANormIdeal.nD) → Buf (Elt Ideal) ((c.tc : Thread Cert.AdamwANormIdeal.nD Cert.AdamwANormIdeal.τ).loc Cert.AdamwANormIdeal.main_v0_0)) (v1 : (c : Dev Cert.AdamwANormIdeal.nD) → Buf (Elt Ideal) ((c.tc : Thread Cert.AdamwANormIdeal.nD Cert.AdamwANormIdeal.τ).loc Cert.AdamwANormIdeal.main_v0_1)) (v2 : (c : Dev Cert.AdamwANormIdeal.nD) → Buf (Elt Ideal) ((c.tc : Thread Cert.AdamwANormIdeal.nD Cert.AdamwANormIdeal.τ).loc Cert.AdamwANormIdeal.main_v0_2)) (v3 : (c : Dev Cert.AdamwANormIdeal.nD) → Buf (Elt Ideal) ((c.tc : Thread Cert.AdamwANormIdeal.nD Cert.AdamwANormIdeal.τ).loc Cert.AdamwANormIdeal.main_v0_3)),
      θ_run (Cert.AdamwANormIdeal.defs (F := Ideal)) (onTc (τ := Cert.AdamwANormIdeal.τ) (Cert.AdamwANormIdeal.main (F := Ideal))) ⟨m, fun _ => 0, g⟩ (fun r => ∀ c : Dev Cert.AdamwANormIdeal.nD,
          r.2.mem ((c.tc : Thread Cert.AdamwANormIdeal.nD Cert.AdamwANormIdeal.τ).loc Cert.AdamwANormIdeal.main_v0_0) = v0 c
          ∧ r.2.mem ((c.tc : Thread Cert.AdamwANormIdeal.nD Cert.AdamwANormIdeal.τ).loc Cert.AdamwANormIdeal.main_v0_1) = v1 c
          ∧ r.2.mem ((c.tc : Thread Cert.AdamwANormIdeal.nD Cert.AdamwANormIdeal.τ).loc Cert.AdamwANormIdeal.main_v0_2) = v2 c
          ∧ r.2.mem ((c.tc : Thread Cert.AdamwANormIdeal.nD Cert.AdamwANormIdeal.τ).loc Cert.AdamwANormIdeal.main_v0_3) = v3 c
          ∧ r.2.mem ((c.tc : Thread Cert.AdamwANormIdeal.nD Cert.AdamwANormIdeal.τ).loc Cert.AdamwANormIdeal.main_arg0) = m ((c.tc : Thread Cert.AdamwANormIdeal.nD Cert.AdamwANormIdeal.τ).loc Cert.AdamwANormIdeal.main_arg0)
          ∧ r.2.mem ((c.tc : Thread Cert.AdamwANormIdeal.nD Cert.AdamwANormIdeal.τ).loc Cert.AdamwANormIdeal.main_arg1) = m ((c.tc : Thread Cert.AdamwANormIdeal.nD Cert.AdamwANormIdeal.τ).loc Cert.AdamwANormIdeal.main_arg1)
          ∧ r.2.mem ((c.tc : Thread Cert.AdamwANormIdeal.nD Cert.AdamwANormIdeal.τ).loc Cert.AdamwANormIdeal.main_arg2) = m ((c.tc : Thread Cert.AdamwANormIdeal.nD Cert.AdamwANormIdeal.τ).loc Cert.AdamwANormIdeal.main_arg2)
          ∧ r.2.mem ((c.tc : Thread Cert.AdamwANormIdeal.nD Cert.AdamwANormIdeal.τ).loc Cert.AdamwANormIdeal.main_arg3) = m ((c.tc : Thread Cert.AdamwANormIdeal.nD Cert.AdamwANormIdeal.τ).loc Cert.AdamwANormIdeal.main_arg3))
      ∧ θ_run (Cert.AdamwANormRefIdeal.defs (F := Ideal)) (onTc (τ := Cert.AdamwANormRefIdeal.τ) (Cert.AdamwANormRefIdeal.main (F := Ideal))) ⟨m', fun _ => 0, g'⟩ (fun r => ∀ c : Dev Cert.AdamwANormRefIdeal.nD,
          r.2.mem ((c.tc : Thread Cert.AdamwANormRefIdeal.nD Cert.AdamwANormRefIdeal.τ).loc Cert.AdamwANormRefIdeal.main_v0) = v0 c
          ∧ r.2.mem ((c.tc : Thread Cert.AdamwANormRefIdeal.nD Cert.AdamwANormRefIdeal.τ).loc Cert.AdamwANormRefIdeal.main_v24) = v1 c
          ∧ r.2.mem ((c.tc : Thread Cert.AdamwANormRefIdeal.nD Cert.AdamwANormRefIdeal.τ).loc Cert.AdamwANormRefIdeal.main_v5) = v2 c
          ∧ r.2.mem ((c.tc : Thread Cert.AdamwANormRefIdeal.nD Cert.AdamwANormRefIdeal.τ).loc Cert.AdamwANormRefIdeal.main_v11) = v3 c
          ∧ r.2.mem ((c.tc : Thread Cert.AdamwANormRefIdeal.nD Cert.AdamwANormRefIdeal.τ).loc Cert.AdamwANormRefIdeal.main_arg0) = m' ((c.tc : Thread Cert.AdamwANormRefIdeal.nD Cert.AdamwANormRefIdeal.τ).loc Cert.AdamwANormRefIdeal.main_arg0)
          ∧ r.2.mem ((c.tc : Thread Cert.AdamwANormRefIdeal.nD Cert.AdamwANormRefIdeal.τ).loc Cert.AdamwANormRefIdeal.main_arg1) = m' ((c.tc : Thread Cert.AdamwANormRefIdeal.nD Cert.AdamwANormRefIdeal.τ).loc Cert.AdamwANormRefIdeal.main_arg1)
          ∧ r.2.mem ((c.tc : Thread Cert.AdamwANormRefIdeal.nD Cert.AdamwANormRefIdeal.τ).loc Cert.AdamwANormRefIdeal.main_arg2) = m' ((c.tc : Thread Cert.AdamwANormRefIdeal.nD Cert.AdamwANormRefIdeal.τ).loc Cert.AdamwANormRefIdeal.main_arg2)
          ∧ r.2.mem ((c.tc : Thread Cert.AdamwANormRefIdeal.nD Cert.AdamwANormRefIdeal.τ).loc Cert.AdamwANormRefIdeal.main_arg3) = m' ((c.tc : Thread Cert.AdamwANormRefIdeal.nD Cert.AdamwANormRefIdeal.τ).loc Cert.AdamwANormRefIdeal.main_arg3))

def preserves_AdamwBW_AdamwBWIdeal : Prop :=
  True

def algebraic_AdamwBWIdeal_AdamwBWRefIdeal [hAdamwBWIdeal : Cert.AdamwBWIdeal.Facts] [hAdamwBWRefIdeal : Cert.AdamwBWRefIdeal.Facts] [hPre_chip_b_w : Cert.Pre_chip_b_w.Facts] : Prop :=
  ∀ (m : (ℓ : Loc Cert.AdamwBWIdeal.nD Cert.AdamwBWIdeal.τ Cert.AdamwBWIdeal.sig) → Buf (Elt Ideal) ℓ) (g : Dev Cert.AdamwBWIdeal.nD → PrngReg)
    (m' : (ℓ : Loc Cert.AdamwBWRefIdeal.nD Cert.AdamwBWRefIdeal.τ Cert.AdamwBWRefIdeal.sig) → Buf (Elt Ideal) ℓ) (g' : Dev Cert.AdamwBWRefIdeal.nD → PrngReg), Pre_AdamwBWIdeal m →
    (∀ c : Dev Cert.AdamwBWIdeal.nD,
      m' ((c.tc : Thread Cert.AdamwBWRefIdeal.nD Cert.AdamwBWRefIdeal.τ).loc Cert.AdamwBWRefIdeal.main_arg0) = m ((c.tc : Thread Cert.AdamwBWIdeal.nD Cert.AdamwBWIdeal.τ).loc Cert.AdamwBWIdeal.main_arg0)
      ∧ m' ((c.tc : Thread Cert.AdamwBWRefIdeal.nD Cert.AdamwBWRefIdeal.τ).loc Cert.AdamwBWRefIdeal.main_arg1) = m ((c.tc : Thread Cert.AdamwBWIdeal.nD Cert.AdamwBWIdeal.τ).loc Cert.AdamwBWIdeal.main_arg1)
      ∧ m' ((c.tc : Thread Cert.AdamwBWRefIdeal.nD Cert.AdamwBWRefIdeal.τ).loc Cert.AdamwBWRefIdeal.main_arg2) = m ((c.tc : Thread Cert.AdamwBWIdeal.nD Cert.AdamwBWIdeal.τ).loc Cert.AdamwBWIdeal.main_arg2)
      ∧ m' ((c.tc : Thread Cert.AdamwBWRefIdeal.nD Cert.AdamwBWRefIdeal.τ).loc Cert.AdamwBWRefIdeal.main_arg3) = m ((c.tc : Thread Cert.AdamwBWIdeal.nD Cert.AdamwBWIdeal.τ).loc Cert.AdamwBWIdeal.main_arg3)
      ∧ m' ((c.tc : Thread Cert.AdamwBWRefIdeal.nD Cert.AdamwBWRefIdeal.τ).loc Cert.AdamwBWRefIdeal.main_arg4) = m ((c.tc : Thread Cert.AdamwBWIdeal.nD Cert.AdamwBWIdeal.τ).loc Cert.AdamwBWIdeal.main_arg4)
      ∧ m' ((c.tc : Thread Cert.AdamwBWRefIdeal.nD Cert.AdamwBWRefIdeal.τ).loc Cert.AdamwBWRefIdeal.main_arg5) = m ((c.tc : Thread Cert.AdamwBWIdeal.nD Cert.AdamwBWIdeal.τ).loc Cert.AdamwBWIdeal.main_arg5)) →
    ∃ (v0 : (c : Dev Cert.AdamwBWIdeal.nD) → Buf (Elt Ideal) ((c.tc : Thread Cert.AdamwBWIdeal.nD Cert.AdamwBWIdeal.τ).loc Cert.AdamwBWIdeal.main_v1_0)) (v1 : (c : Dev Cert.AdamwBWIdeal.nD) → Buf (Elt Ideal) ((c.tc : Thread Cert.AdamwBWIdeal.nD Cert.AdamwBWIdeal.τ).loc Cert.AdamwBWIdeal.main_v1_1)) (v2 : (c : Dev Cert.AdamwBWIdeal.nD) → Buf (Elt Ideal) ((c.tc : Thread Cert.AdamwBWIdeal.nD Cert.AdamwBWIdeal.τ).loc Cert.AdamwBWIdeal.main_v1_2)) (v3 : (c : Dev Cert.AdamwBWIdeal.nD) → Buf (Elt Ideal) ((c.tc : Thread Cert.AdamwBWIdeal.nD Cert.AdamwBWIdeal.τ).loc Cert.AdamwBWIdeal.main_v1_3)),
      θ_run (Cert.AdamwBWIdeal.defs (F := Ideal)) (onTc (τ := Cert.AdamwBWIdeal.τ) (Cert.AdamwBWIdeal.main (F := Ideal))) ⟨m, fun _ => 0, g⟩ (fun r => ∀ c : Dev Cert.AdamwBWIdeal.nD,
          r.2.mem ((c.tc : Thread Cert.AdamwBWIdeal.nD Cert.AdamwBWIdeal.τ).loc Cert.AdamwBWIdeal.main_v1_0) = v0 c
          ∧ r.2.mem ((c.tc : Thread Cert.AdamwBWIdeal.nD Cert.AdamwBWIdeal.τ).loc Cert.AdamwBWIdeal.main_v1_1) = v1 c
          ∧ r.2.mem ((c.tc : Thread Cert.AdamwBWIdeal.nD Cert.AdamwBWIdeal.τ).loc Cert.AdamwBWIdeal.main_v1_2) = v2 c
          ∧ r.2.mem ((c.tc : Thread Cert.AdamwBWIdeal.nD Cert.AdamwBWIdeal.τ).loc Cert.AdamwBWIdeal.main_v1_3) = v3 c
          ∧ r.2.mem ((c.tc : Thread Cert.AdamwBWIdeal.nD Cert.AdamwBWIdeal.τ).loc Cert.AdamwBWIdeal.main_arg0) = m ((c.tc : Thread Cert.AdamwBWIdeal.nD Cert.AdamwBWIdeal.τ).loc Cert.AdamwBWIdeal.main_arg0)
          ∧ r.2.mem ((c.tc : Thread Cert.AdamwBWIdeal.nD Cert.AdamwBWIdeal.τ).loc Cert.AdamwBWIdeal.main_arg1) = m ((c.tc : Thread Cert.AdamwBWIdeal.nD Cert.AdamwBWIdeal.τ).loc Cert.AdamwBWIdeal.main_arg1)
          ∧ r.2.mem ((c.tc : Thread Cert.AdamwBWIdeal.nD Cert.AdamwBWIdeal.τ).loc Cert.AdamwBWIdeal.main_arg2) = m ((c.tc : Thread Cert.AdamwBWIdeal.nD Cert.AdamwBWIdeal.τ).loc Cert.AdamwBWIdeal.main_arg2)
          ∧ r.2.mem ((c.tc : Thread Cert.AdamwBWIdeal.nD Cert.AdamwBWIdeal.τ).loc Cert.AdamwBWIdeal.main_arg3) = m ((c.tc : Thread Cert.AdamwBWIdeal.nD Cert.AdamwBWIdeal.τ).loc Cert.AdamwBWIdeal.main_arg3)
          ∧ r.2.mem ((c.tc : Thread Cert.AdamwBWIdeal.nD Cert.AdamwBWIdeal.τ).loc Cert.AdamwBWIdeal.main_arg4) = m ((c.tc : Thread Cert.AdamwBWIdeal.nD Cert.AdamwBWIdeal.τ).loc Cert.AdamwBWIdeal.main_arg4)
          ∧ r.2.mem ((c.tc : Thread Cert.AdamwBWIdeal.nD Cert.AdamwBWIdeal.τ).loc Cert.AdamwBWIdeal.main_arg5) = m ((c.tc : Thread Cert.AdamwBWIdeal.nD Cert.AdamwBWIdeal.τ).loc Cert.AdamwBWIdeal.main_arg5))
      ∧ θ_run (Cert.AdamwBWRefIdeal.defs (F := Ideal)) (onTc (τ := Cert.AdamwBWRefIdeal.τ) (Cert.AdamwBWRefIdeal.main (F := Ideal))) ⟨m', fun _ => 0, g'⟩ (fun r => ∀ c : Dev Cert.AdamwBWRefIdeal.nD,
          r.2.mem ((c.tc : Thread Cert.AdamwBWRefIdeal.nD Cert.AdamwBWRefIdeal.τ).loc Cert.AdamwBWRefIdeal.main_v9) = v0 c
          ∧ r.2.mem ((c.tc : Thread Cert.AdamwBWRefIdeal.nD Cert.AdamwBWRefIdeal.τ).loc Cert.AdamwBWRefIdeal.main_v33) = v1 c
          ∧ r.2.mem ((c.tc : Thread Cert.AdamwBWRefIdeal.nD Cert.AdamwBWRefIdeal.τ).loc Cert.AdamwBWRefIdeal.main_v14) = v2 c
          ∧ r.2.mem ((c.tc : Thread Cert.AdamwBWRefIdeal.nD Cert.AdamwBWRefIdeal.τ).loc Cert.AdamwBWRefIdeal.main_v20) = v3 c
          ∧ r.2.mem ((c.tc : Thread Cert.AdamwBWRefIdeal.nD Cert.AdamwBWRefIdeal.τ).loc Cert.AdamwBWRefIdeal.main_arg0) = m' ((c.tc : Thread Cert.AdamwBWRefIdeal.nD Cert.AdamwBWRefIdeal.τ).loc Cert.AdamwBWRefIdeal.main_arg0)
          ∧ r.2.mem ((c.tc : Thread Cert.AdamwBWRefIdeal.nD Cert.AdamwBWRefIdeal.τ).loc Cert.AdamwBWRefIdeal.main_arg1) = m' ((c.tc : Thread Cert.AdamwBWRefIdeal.nD Cert.AdamwBWRefIdeal.τ).loc Cert.AdamwBWRefIdeal.main_arg1)
          ∧ r.2.mem ((c.tc : Thread Cert.AdamwBWRefIdeal.nD Cert.AdamwBWRefIdeal.τ).loc Cert.AdamwBWRefIdeal.main_arg2) = m' ((c.tc : Thread Cert.AdamwBWRefIdeal.nD Cert.AdamwBWRefIdeal.τ).loc Cert.AdamwBWRefIdeal.main_arg2)
          ∧ r.2.mem ((c.tc : Thread Cert.AdamwBWRefIdeal.nD Cert.AdamwBWRefIdeal.τ).loc Cert.AdamwBWRefIdeal.main_arg3) = m' ((c.tc : Thread Cert.AdamwBWRefIdeal.nD Cert.AdamwBWRefIdeal.τ).loc Cert.AdamwBWRefIdeal.main_arg3)
          ∧ r.2.mem ((c.tc : Thread Cert.AdamwBWRefIdeal.nD Cert.AdamwBWRefIdeal.τ).loc Cert.AdamwBWRefIdeal.main_arg4) = m' ((c.tc : Thread Cert.AdamwBWRefIdeal.nD Cert.AdamwBWRefIdeal.τ).loc Cert.AdamwBWRefIdeal.main_arg4)
          ∧ r.2.mem ((c.tc : Thread Cert.AdamwBWRefIdeal.nD Cert.AdamwBWRefIdeal.τ).loc Cert.AdamwBWRefIdeal.main_arg5) = m' ((c.tc : Thread Cert.AdamwBWRefIdeal.nD Cert.AdamwBWRefIdeal.τ).loc Cert.AdamwBWRefIdeal.main_arg5))

def preserves_AdamwKv_AdamwKvIdeal : Prop :=
  True

def algebraic_AdamwKvIdeal_AdamwKvRefIdeal [hAdamwKvIdeal : Cert.AdamwKvIdeal.Facts] [hAdamwKvRefIdeal : Cert.AdamwKvRefIdeal.Facts] [hPre_chip_w_kv : Cert.Pre_chip_w_kv.Facts] : Prop :=
  ∀ (m : (ℓ : Loc Cert.AdamwKvIdeal.nD Cert.AdamwKvIdeal.τ Cert.AdamwKvIdeal.sig) → Buf (Elt Ideal) ℓ) (g : Dev Cert.AdamwKvIdeal.nD → PrngReg)
    (m' : (ℓ : Loc Cert.AdamwKvRefIdeal.nD Cert.AdamwKvRefIdeal.τ Cert.AdamwKvRefIdeal.sig) → Buf (Elt Ideal) ℓ) (g' : Dev Cert.AdamwKvRefIdeal.nD → PrngReg), Pre_AdamwKvIdeal m →
    (∀ c : Dev Cert.AdamwKvIdeal.nD,
      m' ((c.tc : Thread Cert.AdamwKvRefIdeal.nD Cert.AdamwKvRefIdeal.τ).loc Cert.AdamwKvRefIdeal.main_arg0) = m ((c.tc : Thread Cert.AdamwKvIdeal.nD Cert.AdamwKvIdeal.τ).loc Cert.AdamwKvIdeal.main_arg0)
      ∧ m' ((c.tc : Thread Cert.AdamwKvRefIdeal.nD Cert.AdamwKvRefIdeal.τ).loc Cert.AdamwKvRefIdeal.main_arg1) = m ((c.tc : Thread Cert.AdamwKvIdeal.nD Cert.AdamwKvIdeal.τ).loc Cert.AdamwKvIdeal.main_arg1)
      ∧ m' ((c.tc : Thread Cert.AdamwKvRefIdeal.nD Cert.AdamwKvRefIdeal.τ).loc Cert.AdamwKvRefIdeal.main_arg2) = m ((c.tc : Thread Cert.AdamwKvIdeal.nD Cert.AdamwKvIdeal.τ).loc Cert.AdamwKvIdeal.main_arg2)
      ∧ m' ((c.tc : Thread Cert.AdamwKvRefIdeal.nD Cert.AdamwKvRefIdeal.τ).loc Cert.AdamwKvRefIdeal.main_arg3) = m ((c.tc : Thread Cert.AdamwKvIdeal.nD Cert.AdamwKvIdeal.τ).loc Cert.AdamwKvIdeal.main_arg3)
      ∧ m' ((c.tc : Thread Cert.AdamwKvRefIdeal.nD Cert.AdamwKvRefIdeal.τ).loc Cert.AdamwKvRefIdeal.main_arg4) = m ((c.tc : Thread Cert.AdamwKvIdeal.nD Cert.AdamwKvIdeal.τ).loc Cert.AdamwKvIdeal.main_arg4)
      ∧ m' ((c.tc : Thread Cert.AdamwKvRefIdeal.nD Cert.AdamwKvRefIdeal.τ).loc Cert.AdamwKvRefIdeal.main_arg5) = m ((c.tc : Thread Cert.AdamwKvIdeal.nD Cert.AdamwKvIdeal.τ).loc Cert.AdamwKvIdeal.main_arg5)) →
    ∃ (v0 : (c : Dev Cert.AdamwKvIdeal.nD) → Buf (Elt Ideal) ((c.tc : Thread Cert.AdamwKvIdeal.nD Cert.AdamwKvIdeal.τ).loc Cert.AdamwKvIdeal.main_v1_0)) (v1 : (c : Dev Cert.AdamwKvIdeal.nD) → Buf (Elt Ideal) ((c.tc : Thread Cert.AdamwKvIdeal.nD Cert.AdamwKvIdeal.τ).loc Cert.AdamwKvIdeal.main_v1_1)) (v2 : (c : Dev Cert.AdamwKvIdeal.nD) → Buf (Elt Ideal) ((c.tc : Thread Cert.AdamwKvIdeal.nD Cert.AdamwKvIdeal.τ).loc Cert.AdamwKvIdeal.main_v1_2)) (v3 : (c : Dev Cert.AdamwKvIdeal.nD) → Buf (Elt Ideal) ((c.tc : Thread Cert.AdamwKvIdeal.nD Cert.AdamwKvIdeal.τ).loc Cert.AdamwKvIdeal.main_v1_3)),
      θ_run (Cert.AdamwKvIdeal.defs (F := Ideal)) (onTc (τ := Cert.AdamwKvIdeal.τ) (Cert.AdamwKvIdeal.main (F := Ideal))) ⟨m, fun _ => 0, g⟩ (fun r => ∀ c : Dev Cert.AdamwKvIdeal.nD,
          r.2.mem ((c.tc : Thread Cert.AdamwKvIdeal.nD Cert.AdamwKvIdeal.τ).loc Cert.AdamwKvIdeal.main_v1_0) = v0 c
          ∧ r.2.mem ((c.tc : Thread Cert.AdamwKvIdeal.nD Cert.AdamwKvIdeal.τ).loc Cert.AdamwKvIdeal.main_v1_1) = v1 c
          ∧ r.2.mem ((c.tc : Thread Cert.AdamwKvIdeal.nD Cert.AdamwKvIdeal.τ).loc Cert.AdamwKvIdeal.main_v1_2) = v2 c
          ∧ r.2.mem ((c.tc : Thread Cert.AdamwKvIdeal.nD Cert.AdamwKvIdeal.τ).loc Cert.AdamwKvIdeal.main_v1_3) = v3 c
          ∧ r.2.mem ((c.tc : Thread Cert.AdamwKvIdeal.nD Cert.AdamwKvIdeal.τ).loc Cert.AdamwKvIdeal.main_arg0) = m ((c.tc : Thread Cert.AdamwKvIdeal.nD Cert.AdamwKvIdeal.τ).loc Cert.AdamwKvIdeal.main_arg0)
          ∧ r.2.mem ((c.tc : Thread Cert.AdamwKvIdeal.nD Cert.AdamwKvIdeal.τ).loc Cert.AdamwKvIdeal.main_arg1) = m ((c.tc : Thread Cert.AdamwKvIdeal.nD Cert.AdamwKvIdeal.τ).loc Cert.AdamwKvIdeal.main_arg1)
          ∧ r.2.mem ((c.tc : Thread Cert.AdamwKvIdeal.nD Cert.AdamwKvIdeal.τ).loc Cert.AdamwKvIdeal.main_arg2) = m ((c.tc : Thread Cert.AdamwKvIdeal.nD Cert.AdamwKvIdeal.τ).loc Cert.AdamwKvIdeal.main_arg2)
          ∧ r.2.mem ((c.tc : Thread Cert.AdamwKvIdeal.nD Cert.AdamwKvIdeal.τ).loc Cert.AdamwKvIdeal.main_arg3) = m ((c.tc : Thread Cert.AdamwKvIdeal.nD Cert.AdamwKvIdeal.τ).loc Cert.AdamwKvIdeal.main_arg3)
          ∧ r.2.mem ((c.tc : Thread Cert.AdamwKvIdeal.nD Cert.AdamwKvIdeal.τ).loc Cert.AdamwKvIdeal.main_arg4) = m ((c.tc : Thread Cert.AdamwKvIdeal.nD Cert.AdamwKvIdeal.τ).loc Cert.AdamwKvIdeal.main_arg4)
          ∧ r.2.mem ((c.tc : Thread Cert.AdamwKvIdeal.nD Cert.AdamwKvIdeal.τ).loc Cert.AdamwKvIdeal.main_arg5) = m ((c.tc : Thread Cert.AdamwKvIdeal.nD Cert.AdamwKvIdeal.τ).loc Cert.AdamwKvIdeal.main_arg5))
      ∧ θ_run (Cert.AdamwKvRefIdeal.defs (F := Ideal)) (onTc (τ := Cert.AdamwKvRefIdeal.τ) (Cert.AdamwKvRefIdeal.main (F := Ideal))) ⟨m', fun _ => 0, g'⟩ (fun r => ∀ c : Dev Cert.AdamwKvRefIdeal.nD,
          r.2.mem ((c.tc : Thread Cert.AdamwKvRefIdeal.nD Cert.AdamwKvRefIdeal.τ).loc Cert.AdamwKvRefIdeal.main_v9) = v0 c
          ∧ r.2.mem ((c.tc : Thread Cert.AdamwKvRefIdeal.nD Cert.AdamwKvRefIdeal.τ).loc Cert.AdamwKvRefIdeal.main_v33) = v1 c
          ∧ r.2.mem ((c.tc : Thread Cert.AdamwKvRefIdeal.nD Cert.AdamwKvRefIdeal.τ).loc Cert.AdamwKvRefIdeal.main_v14) = v2 c
          ∧ r.2.mem ((c.tc : Thread Cert.AdamwKvRefIdeal.nD Cert.AdamwKvRefIdeal.τ).loc Cert.AdamwKvRefIdeal.main_v20) = v3 c
          ∧ r.2.mem ((c.tc : Thread Cert.AdamwKvRefIdeal.nD Cert.AdamwKvRefIdeal.τ).loc Cert.AdamwKvRefIdeal.main_arg0) = m' ((c.tc : Thread Cert.AdamwKvRefIdeal.nD Cert.AdamwKvRefIdeal.τ).loc Cert.AdamwKvRefIdeal.main_arg0)
          ∧ r.2.mem ((c.tc : Thread Cert.AdamwKvRefIdeal.nD Cert.AdamwKvRefIdeal.τ).loc Cert.AdamwKvRefIdeal.main_arg1) = m' ((c.tc : Thread Cert.AdamwKvRefIdeal.nD Cert.AdamwKvRefIdeal.τ).loc Cert.AdamwKvRefIdeal.main_arg1)
          ∧ r.2.mem ((c.tc : Thread Cert.AdamwKvRefIdeal.nD Cert.AdamwKvRefIdeal.τ).loc Cert.AdamwKvRefIdeal.main_arg2) = m' ((c.tc : Thread Cert.AdamwKvRefIdeal.nD Cert.AdamwKvRefIdeal.τ).loc Cert.AdamwKvRefIdeal.main_arg2)
          ∧ r.2.mem ((c.tc : Thread Cert.AdamwKvRefIdeal.nD Cert.AdamwKvRefIdeal.τ).loc Cert.AdamwKvRefIdeal.main_arg3) = m' ((c.tc : Thread Cert.AdamwKvRefIdeal.nD Cert.AdamwKvRefIdeal.τ).loc Cert.AdamwKvRefIdeal.main_arg3)
          ∧ r.2.mem ((c.tc : Thread Cert.AdamwKvRefIdeal.nD Cert.AdamwKvRefIdeal.τ).loc Cert.AdamwKvRefIdeal.main_arg4) = m' ((c.tc : Thread Cert.AdamwKvRefIdeal.nD Cert.AdamwKvRefIdeal.τ).loc Cert.AdamwKvRefIdeal.main_arg4)
          ∧ r.2.mem ((c.tc : Thread Cert.AdamwKvRefIdeal.nD Cert.AdamwKvRefIdeal.τ).loc Cert.AdamwKvRefIdeal.main_arg5) = m' ((c.tc : Thread Cert.AdamwKvRefIdeal.nD Cert.AdamwKvRefIdeal.τ).loc Cert.AdamwKvRefIdeal.main_arg5))

def preserves_AdamwUp_AdamwUpIdeal : Prop :=
  True

def algebraic_AdamwUpIdeal_AdamwUpRefIdeal [hAdamwUpIdeal : Cert.AdamwUpIdeal.Facts] [hAdamwUpRefIdeal : Cert.AdamwUpRefIdeal.Facts] [hPre_chip_mlp_up : Cert.Pre_chip_mlp_up.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpRefIdeal.nD Cert.AdamwUpRefIdeal.τ Cert.AdamwUpRefIdeal.sig) → Buf (Elt Ideal) ℓ) (g' : Dev Cert.AdamwUpRefIdeal.nD → PrngReg), Pre_AdamwUpIdeal m →
    (∀ c : Dev Cert.AdamwUpIdeal.nD,
      m' ((c.tc : Thread Cert.AdamwUpRefIdeal.nD Cert.AdamwUpRefIdeal.τ).loc Cert.AdamwUpRefIdeal.main_arg0) = m ((c.tc : Thread Cert.AdamwUpIdeal.nD Cert.AdamwUpIdeal.τ).loc Cert.AdamwUpIdeal.main_arg0)
      ∧ m' ((c.tc : Thread Cert.AdamwUpRefIdeal.nD Cert.AdamwUpRefIdeal.τ).loc Cert.AdamwUpRefIdeal.main_arg1) = m ((c.tc : Thread Cert.AdamwUpIdeal.nD Cert.AdamwUpIdeal.τ).loc Cert.AdamwUpIdeal.main_arg1)
      ∧ m' ((c.tc : Thread Cert.AdamwUpRefIdeal.nD Cert.AdamwUpRefIdeal.τ).loc Cert.AdamwUpRefIdeal.main_arg2) = m ((c.tc : Thread Cert.AdamwUpIdeal.nD Cert.AdamwUpIdeal.τ).loc Cert.AdamwUpIdeal.main_arg2)
      ∧ m' ((c.tc : Thread Cert.AdamwUpRefIdeal.nD Cert.AdamwUpRefIdeal.τ).loc Cert.AdamwUpRefIdeal.main_arg3) = m ((c.tc : Thread Cert.AdamwUpIdeal.nD Cert.AdamwUpIdeal.τ).loc Cert.AdamwUpIdeal.main_arg3)
      ∧ m' ((c.tc : Thread Cert.AdamwUpRefIdeal.nD Cert.AdamwUpRefIdeal.τ).loc Cert.AdamwUpRefIdeal.main_arg4) = m ((c.tc : Thread Cert.AdamwUpIdeal.nD Cert.AdamwUpIdeal.τ).loc Cert.AdamwUpIdeal.main_arg4)
      ∧ m' ((c.tc : Thread Cert.AdamwUpRefIdeal.nD Cert.AdamwUpRefIdeal.τ).loc Cert.AdamwUpRefIdeal.main_arg5) = m ((c.tc : Thread Cert.AdamwUpIdeal.nD Cert.AdamwUpIdeal.τ).loc Cert.AdamwUpIdeal.main_arg5)
      ∧ m' ((c.tc : Thread Cert.AdamwUpRefIdeal.nD Cert.AdamwUpRefIdeal.τ).loc Cert.AdamwUpRefIdeal.main_arg6) = m ((c.tc : Thread Cert.AdamwUpIdeal.nD Cert.AdamwUpIdeal.τ).loc Cert.AdamwUpIdeal.main_arg6)
      ∧ m' ((c.tc : Thread Cert.AdamwUpRefIdeal.nD Cert.AdamwUpRefIdeal.τ).loc Cert.AdamwUpRefIdeal.main_arg7) = m ((c.tc : Thread Cert.AdamwUpIdeal.nD Cert.AdamwUpIdeal.τ).loc Cert.AdamwUpIdeal.main_arg7)
      ∧ m' ((c.tc : Thread Cert.AdamwUpRefIdeal.nD Cert.AdamwUpRefIdeal.τ).loc Cert.AdamwUpRefIdeal.main_arg8) = m ((c.tc : Thread Cert.AdamwUpIdeal.nD Cert.AdamwUpIdeal.τ).loc Cert.AdamwUpIdeal.main_arg8)
      ∧ m' ((c.tc : Thread Cert.AdamwUpRefIdeal.nD Cert.AdamwUpRefIdeal.τ).loc Cert.AdamwUpRefIdeal.main_arg9) = m ((c.tc : Thread Cert.AdamwUpIdeal.nD Cert.AdamwUpIdeal.τ).loc Cert.AdamwUpIdeal.main_arg9)) →
    ∃ (v0 : (c : Dev Cert.AdamwUpIdeal.nD) → Buf (Elt Ideal) ((c.tc : Thread Cert.AdamwUpIdeal.nD Cert.AdamwUpIdeal.τ).loc Cert.AdamwUpIdeal.main_v1_0)) (v1 : (c : Dev Cert.AdamwUpIdeal.nD) → Buf (Elt Ideal) ((c.tc : Thread Cert.AdamwUpIdeal.nD Cert.AdamwUpIdeal.τ).loc Cert.AdamwUpIdeal.main_v1_1)) (v2 : (c : Dev Cert.AdamwUpIdeal.nD) → Buf (Elt Ideal) ((c.tc : Thread Cert.AdamwUpIdeal.nD Cert.AdamwUpIdeal.τ).loc Cert.AdamwUpIdeal.main_v1_2)) (v3 : (c : Dev Cert.AdamwUpIdeal.nD) → Buf (Elt Ideal) ((c.tc : Thread Cert.AdamwUpIdeal.nD Cert.AdamwUpIdeal.τ).loc Cert.AdamwUpIdeal.main_v1_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v1_0) = v0 c
          ∧ r.2.mem ((c.tc : Thread Cert.AdamwUpIdeal.nD Cert.AdamwUpIdeal.τ).loc Cert.AdamwUpIdeal.main_v1_1) = v1 c
          ∧ r.2.mem ((c.tc : Thread Cert.AdamwUpIdeal.nD Cert.AdamwUpIdeal.τ).loc Cert.AdamwUpIdeal.main_v1_2) = v2 c
          ∧ r.2.mem ((c.tc : Thread Cert.AdamwUpIdeal.nD Cert.AdamwUpIdeal.τ).loc Cert.AdamwUpIdeal.main_v1_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
          ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4)
          ∧ r.2.mem ((c.tc : Thread Cert.AdamwUpIdeal.nD Cert.AdamwUpIdeal.τ).loc Cert.AdamwUpIdeal.main_arg5) = m ((c.tc : Thread Cert.AdamwUpIdeal.nD Cert.AdamwUpIdeal.τ).loc Cert.AdamwUpIdeal.main_arg5)
          ∧ r.2.mem ((c.tc : Thread Cert.AdamwUpIdeal.nD Cert.AdamwUpIdeal.τ).loc Cert.AdamwUpIdeal.main_arg6) = m ((c.tc : Thread Cert.AdamwUpIdeal.nD Cert.AdamwUpIdeal.τ).loc Cert.AdamwUpIdeal.main_arg6)
          ∧ r.2.mem ((c.tc : Thread Cert.AdamwUpIdeal.nD Cert.AdamwUpIdeal.τ).loc Cert.AdamwUpIdeal.main_arg7) = m ((c.tc : Thread Cert.AdamwUpIdeal.nD Cert.AdamwUpIdeal.τ).loc Cert.AdamwUpIdeal.main_arg7)
          ∧ r.2.mem ((c.tc : Thread Cert.AdamwUpIdeal.nD Cert.AdamwUpIdeal.τ).loc Cert.AdamwUpIdeal.main_arg8) = m ((c.tc : Thread Cert.AdamwUpIdeal.nD Cert.AdamwUpIdeal.τ).loc Cert.AdamwUpIdeal.main_arg8)
          ∧ r.2.mem ((c.tc : Thread Cert.AdamwUpIdeal.nD Cert.AdamwUpIdeal.τ).loc Cert.AdamwUpIdeal.main_arg9) = m ((c.tc : Thread Cert.AdamwUpIdeal.nD Cert.AdamwUpIdeal.τ).loc Cert.AdamwUpIdeal.main_arg9))
      ∧ θ_run (Cert.AdamwUpRefIdeal.defs (F := Ideal)) (onTc (τ := Cert.AdamwUpRefIdeal.τ) (Cert.AdamwUpRefIdeal.main (F := Ideal))) ⟨m', fun _ => 0, g'⟩ (fun r => ∀ c : Dev Cert.AdamwUpRefIdeal.nD,
          r.2.mem ((c.tc : Thread Cert.AdamwUpRefIdeal.nD Cert.AdamwUpRefIdeal.τ).loc Cert.AdamwUpRefIdeal.main_v41) = v0 c
          ∧ r.2.mem ((c.tc : Thread Cert.AdamwUpRefIdeal.nD Cert.AdamwUpRefIdeal.τ).loc Cert.AdamwUpRefIdeal.main_v42) = v1 c
          ∧ r.2.mem ((c.tc : Thread Cert.AdamwUpRefIdeal.nD Cert.AdamwUpRefIdeal.τ).loc Cert.AdamwUpRefIdeal.main_v43) = v2 c
          ∧ r.2.mem ((c.tc : Thread Cert.AdamwUpRefIdeal.nD Cert.AdamwUpRefIdeal.τ).loc Cert.AdamwUpRefIdeal.main_v44) = v3 c
          ∧ r.2.mem ((c.tc : Thread Cert.AdamwUpRefIdeal.nD Cert.AdamwUpRefIdeal.τ).loc Cert.AdamwUpRefIdeal.main_arg0) = m' ((c.tc : Thread Cert.AdamwUpRefIdeal.nD Cert.AdamwUpRefIdeal.τ).loc Cert.AdamwUpRefIdeal.main_arg0)
          ∧ r.2.mem ((c.tc : Thread Cert.AdamwUpRefIdeal.nD Cert.AdamwUpRefIdeal.τ).loc Cert.AdamwUpRefIdeal.main_arg1) = m' ((c.tc : Thread Cert.AdamwUpRefIdeal.nD Cert.AdamwUpRefIdeal.τ).loc Cert.AdamwUpRefIdeal.main_arg1)
          ∧ r.2.mem ((c.tc : Thread Cert.AdamwUpRefIdeal.nD Cert.AdamwUpRefIdeal.τ).loc Cert.AdamwUpRefIdeal.main_arg2) = m' ((c.tc : Thread Cert.AdamwUpRefIdeal.nD Cert.AdamwUpRefIdeal.τ).loc Cert.AdamwUpRefIdeal.main_arg2)
          ∧ r.2.mem ((c.tc : Thread Cert.AdamwUpRefIdeal.nD Cert.AdamwUpRefIdeal.τ).loc Cert.AdamwUpRefIdeal.main_arg3) = m' ((c.tc : Thread Cert.AdamwUpRefIdeal.nD Cert.AdamwUpRefIdeal.τ).loc Cert.AdamwUpRefIdeal.main_arg3)
          ∧ r.2.mem ((c.tc : Thread Cert.AdamwUpRefIdeal.nD Cert.AdamwUpRefIdeal.τ).loc Cert.AdamwUpRefIdeal.main_arg4) = m' ((c.tc : Thread Cert.AdamwUpRefIdeal.nD Cert.AdamwUpRefIdeal.τ).loc Cert.AdamwUpRefIdeal.main_arg4)
          ∧ r.2.mem ((c.tc : Thread Cert.AdamwUpRefIdeal.nD Cert.AdamwUpRefIdeal.τ).loc Cert.AdamwUpRefIdeal.main_arg5) = m' ((c.tc : Thread Cert.AdamwUpRefIdeal.nD Cert.AdamwUpRefIdeal.τ).loc Cert.AdamwUpRefIdeal.main_arg5)
          ∧ r.2.mem ((c.tc : Thread Cert.AdamwUpRefIdeal.nD Cert.AdamwUpRefIdeal.τ).loc Cert.AdamwUpRefIdeal.main_arg6) = m' ((c.tc : Thread Cert.AdamwUpRefIdeal.nD Cert.AdamwUpRefIdeal.τ).loc Cert.AdamwUpRefIdeal.main_arg6)
          ∧ r.2.mem ((c.tc : Thread Cert.AdamwUpRefIdeal.nD Cert.AdamwUpRefIdeal.τ).loc Cert.AdamwUpRefIdeal.main_arg7) = m' ((c.tc : Thread Cert.AdamwUpRefIdeal.nD Cert.AdamwUpRefIdeal.τ).loc Cert.AdamwUpRefIdeal.main_arg7)
          ∧ r.2.mem ((c.tc : Thread Cert.AdamwUpRefIdeal.nD Cert.AdamwUpRefIdeal.τ).loc Cert.AdamwUpRefIdeal.main_arg8) = m' ((c.tc : Thread Cert.AdamwUpRefIdeal.nD Cert.AdamwUpRefIdeal.τ).loc Cert.AdamwUpRefIdeal.main_arg8)
          ∧ r.2.mem ((c.tc : Thread Cert.AdamwUpRefIdeal.nD Cert.AdamwUpRefIdeal.τ).loc Cert.AdamwUpRefIdeal.main_arg9) = m' ((c.tc : Thread Cert.AdamwUpRefIdeal.nD Cert.AdamwUpRefIdeal.τ).loc Cert.AdamwUpRefIdeal.main_arg9))

def preserves_AdamwDown_AdamwDownIdeal : Prop :=
  True

def algebraic_AdamwDownIdeal_AdamwDownRefIdeal [hAdamwDownIdeal : Cert.AdamwDownIdeal.Facts] [hAdamwDownRefIdeal : Cert.AdamwDownRefIdeal.Facts] [hPre_chip_mlp_down : Cert.Pre_chip_mlp_down.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)
      ∧ m' ((c.tc : Thread Cert.AdamwDownRefIdeal.nD Cert.AdamwDownRefIdeal.τ).loc Cert.AdamwDownRefIdeal.main_arg4) = m ((c.tc : Thread Cert.AdamwDownIdeal.nD Cert.AdamwDownIdeal.τ).loc Cert.AdamwDownIdeal.main_arg4)
      ∧ m' ((c.tc : Thread Cert.AdamwDownRefIdeal.nD Cert.AdamwDownRefIdeal.τ).loc Cert.AdamwDownRefIdeal.main_arg5) = m ((c.tc : Thread Cert.AdamwDownIdeal.nD Cert.AdamwDownIdeal.τ).loc Cert.AdamwDownIdeal.main_arg5)
      ∧ m' ((c.tc : Thread Cert.AdamwDownRefIdeal.nD Cert.AdamwDownRefIdeal.τ).loc Cert.AdamwDownRefIdeal.main_arg6) = m ((c.tc : Thread Cert.AdamwDownIdeal.nD Cert.AdamwDownIdeal.τ).loc Cert.AdamwDownIdeal.main_arg6)
      ∧ m' ((c.tc : Thread Cert.AdamwDownRefIdeal.nD Cert.AdamwDownRefIdeal.τ).loc Cert.AdamwDownRefIdeal.main_arg7) = m ((c.tc : Thread Cert.AdamwDownIdeal.nD Cert.AdamwDownIdeal.τ).loc Cert.AdamwDownIdeal.main_arg7)
      ∧ m' ((c.tc : Thread Cert.AdamwDownRefIdeal.nD Cert.AdamwDownRefIdeal.τ).loc Cert.AdamwDownRefIdeal.main_arg8) = m ((c.tc : Thread Cert.AdamwDownIdeal.nD Cert.AdamwDownIdeal.τ).loc Cert.AdamwDownIdeal.main_arg8)
      ∧ m' ((c.tc : Thread Cert.AdamwDownRefIdeal.nD Cert.AdamwDownRefIdeal.τ).loc Cert.AdamwDownRefIdeal.main_arg9) = m ((c.tc : Thread Cert.AdamwDownIdeal.nD Cert.AdamwDownIdeal.τ).loc Cert.AdamwDownIdeal.main_arg9)) →
    ∃ (v0 : (c : Dev Cert.AdamwDownIdeal.nD) → Buf (Elt Ideal) ((c.tc : Thread Cert.AdamwDownIdeal.nD Cert.AdamwDownIdeal.τ).loc Cert.AdamwDownIdeal.main_v1_0)) (v1 : (c : Dev Cert.AdamwDownIdeal.nD) → Buf (Elt Ideal) ((c.tc : Thread Cert.AdamwDownIdeal.nD Cert.AdamwDownIdeal.τ).loc Cert.AdamwDownIdeal.main_v1_1)) (v2 : (c : Dev Cert.AdamwDownIdeal.nD) → Buf (Elt Ideal) ((c.tc : Thread Cert.AdamwDownIdeal.nD Cert.AdamwDownIdeal.τ).loc Cert.AdamwDownIdeal.main_v1_2)) (v3 : (c : Dev Cert.AdamwDownIdeal.nD) → Buf (Elt Ideal) ((c.tc : Thread Cert.AdamwDownIdeal.nD Cert.AdamwDownIdeal.τ).loc Cert.AdamwDownIdeal.main_v1_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v1_0) = v0 c
          ∧ r.2.mem ((c.tc : Thread Cert.AdamwDownIdeal.nD Cert.AdamwDownIdeal.τ).loc Cert.AdamwDownIdeal.main_v1_1) = v1 c
          ∧ r.2.mem ((c.tc : Thread Cert.AdamwDownIdeal.nD Cert.AdamwDownIdeal.τ).loc Cert.AdamwDownIdeal.main_v1_2) = v2 c
          ∧ r.2.mem ((c.tc : Thread Cert.AdamwDownIdeal.nD Cert.AdamwDownIdeal.τ).loc Cert.AdamwDownIdeal.main_v1_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
          ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4)
          ∧ r.2.mem ((c.tc : Thread Cert.AdamwDownIdeal.nD Cert.AdamwDownIdeal.τ).loc Cert.AdamwDownIdeal.main_arg5) = m ((c.tc : Thread Cert.AdamwDownIdeal.nD Cert.AdamwDownIdeal.τ).loc Cert.AdamwDownIdeal.main_arg5)
          ∧ r.2.mem ((c.tc : Thread Cert.AdamwDownIdeal.nD Cert.AdamwDownIdeal.τ).loc Cert.AdamwDownIdeal.main_arg6) = m ((c.tc : Thread Cert.AdamwDownIdeal.nD Cert.AdamwDownIdeal.τ).loc Cert.AdamwDownIdeal.main_arg6)
          ∧ r.2.mem ((c.tc : Thread Cert.AdamwDownIdeal.nD Cert.AdamwDownIdeal.τ).loc Cert.AdamwDownIdeal.main_arg7) = m ((c.tc : Thread Cert.AdamwDownIdeal.nD Cert.AdamwDownIdeal.τ).loc Cert.AdamwDownIdeal.main_arg7)
          ∧ r.2.mem ((c.tc : Thread Cert.AdamwDownIdeal.nD Cert.AdamwDownIdeal.τ).loc Cert.AdamwDownIdeal.main_arg8) = m ((c.tc : Thread Cert.AdamwDownIdeal.nD Cert.AdamwDownIdeal.τ).loc Cert.AdamwDownIdeal.main_arg8)
          ∧ r.2.mem ((c.tc : Thread Cert.AdamwDownIdeal.nD Cert.AdamwDownIdeal.τ).loc Cert.AdamwDownIdeal.main_arg9) = m ((c.tc : Thread Cert.AdamwDownIdeal.nD Cert.AdamwDownIdeal.τ).loc Cert.AdamwDownIdeal.main_arg9))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v41) = v0 c
          ∧ r.2.mem ((c.tc : Thread Cert.AdamwDownRefIdeal.nD Cert.AdamwDownRefIdeal.τ).loc Cert.AdamwDownRefIdeal.main_v42) = v1 c
          ∧ r.2.mem ((c.tc : Thread Cert.AdamwDownRefIdeal.nD Cert.AdamwDownRefIdeal.τ).loc Cert.AdamwDownRefIdeal.main_v43) = v2 c
          ∧ r.2.mem ((c.tc : Thread Cert.AdamwDownRefIdeal.nD Cert.AdamwDownRefIdeal.τ).loc Cert.AdamwDownRefIdeal.main_v44) = v3 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3)
          ∧ r.2.mem ((c.tc : Thread Cert.AdamwDownRefIdeal.nD Cert.AdamwDownRefIdeal.τ).loc Cert.AdamwDownRefIdeal.main_arg4) = m' ((c.tc : Thread Cert.AdamwDownRefIdeal.nD Cert.AdamwDownRefIdeal.τ).loc Cert.AdamwDownRefIdeal.main_arg4)
          ∧ r.2.mem ((c.tc : Thread Cert.AdamwDownRefIdeal.nD Cert.AdamwDownRefIdeal.τ).loc Cert.AdamwDownRefIdeal.main_arg5) = m' ((c.tc : Thread Cert.AdamwDownRefIdeal.nD Cert.AdamwDownRefIdeal.τ).loc Cert.AdamwDownRefIdeal.main_arg5)
          ∧ r.2.mem ((c.tc : Thread Cert.AdamwDownRefIdeal.nD Cert.AdamwDownRefIdeal.τ).loc Cert.AdamwDownRefIdeal.main_arg6) = m' ((c.tc : Thread Cert.AdamwDownRefIdeal.nD Cert.AdamwDownRefIdeal.τ).loc Cert.AdamwDownRefIdeal.main_arg6)
          ∧ r.2.mem ((c.tc : Thread Cert.AdamwDownRefIdeal.nD Cert.AdamwDownRefIdeal.τ).loc Cert.AdamwDownRefIdeal.main_arg7) = m' ((c.tc : Thread Cert.AdamwDownRefIdeal.nD Cert.AdamwDownRefIdeal.τ).loc Cert.AdamwDownRefIdeal.main_arg7)
          ∧ r.2.mem ((c.tc : Thread Cert.AdamwDownRefIdeal.nD Cert.AdamwDownRefIdeal.τ).loc Cert.AdamwDownRefIdeal.main_arg8) = m' ((c.tc : Thread Cert.AdamwDownRefIdeal.nD Cert.AdamwDownRefIdeal.τ).loc Cert.AdamwDownRefIdeal.main_arg8)
          ∧ r.2.mem ((c.tc : Thread Cert.AdamwDownRefIdeal.nD Cert.AdamwDownRefIdeal.τ).loc Cert.AdamwDownRefIdeal.main_arg9) = m' ((c.tc : Thread Cert.AdamwDownRefIdeal.nD Cert.AdamwDownRefIdeal.τ).loc Cert.AdamwDownRefIdeal.main_arg9))

def preserves_AdamwAWo_AdamwAWoIdeal : Prop :=
  True

def algebraic_AdamwAWoIdeal_AdamwAWoRefIdeal [hAdamwAWoIdeal : Cert.AdamwAWoIdeal.Facts] [hAdamwAWoRefIdeal : Cert.AdamwAWoRefIdeal.Facts] [hPre_chip_a_wo : Cert.Pre_chip_a_wo.Facts] : Prop :=
  ∀ (m : (ℓ : Loc Cert.AdamwAWoIdeal.nD Cert.AdamwAWoIdeal.τ Cert.AdamwAWoIdeal.sig) → Buf (Elt Ideal) ℓ) (g : Dev Cert.AdamwAWoIdeal.nD → PrngReg)
    (m' : (ℓ : Loc Cert.AdamwAWoRefIdeal.nD Cert.AdamwAWoRefIdeal.τ Cert.AdamwAWoRefIdeal.sig) → Buf (Elt Ideal) ℓ) (g' : Dev Cert.AdamwAWoRefIdeal.nD → PrngReg), Pre_AdamwAWoIdeal m →
    (∀ c : Dev Cert.AdamwAWoIdeal.nD,
      m' ((c.tc : Thread Cert.AdamwAWoRefIdeal.nD Cert.AdamwAWoRefIdeal.τ).loc Cert.AdamwAWoRefIdeal.main_arg0) = m ((c.tc : Thread Cert.AdamwAWoIdeal.nD Cert.AdamwAWoIdeal.τ).loc Cert.AdamwAWoIdeal.main_arg0)
      ∧ m' ((c.tc : Thread Cert.AdamwAWoRefIdeal.nD Cert.AdamwAWoRefIdeal.τ).loc Cert.AdamwAWoRefIdeal.main_arg1) = m ((c.tc : Thread Cert.AdamwAWoIdeal.nD Cert.AdamwAWoIdeal.τ).loc Cert.AdamwAWoIdeal.main_arg1)
      ∧ m' ((c.tc : Thread Cert.AdamwAWoRefIdeal.nD Cert.AdamwAWoRefIdeal.τ).loc Cert.AdamwAWoRefIdeal.main_arg2) = m ((c.tc : Thread Cert.AdamwAWoIdeal.nD Cert.AdamwAWoIdeal.τ).loc Cert.AdamwAWoIdeal.main_arg2)
      ∧ m' ((c.tc : Thread Cert.AdamwAWoRefIdeal.nD Cert.AdamwAWoRefIdeal.τ).loc Cert.AdamwAWoRefIdeal.main_arg3) = m ((c.tc : Thread Cert.AdamwAWoIdeal.nD Cert.AdamwAWoIdeal.τ).loc Cert.AdamwAWoIdeal.main_arg3)
      ∧ m' ((c.tc : Thread Cert.AdamwAWoRefIdeal.nD Cert.AdamwAWoRefIdeal.τ).loc Cert.AdamwAWoRefIdeal.main_arg4) = m ((c.tc : Thread Cert.AdamwAWoIdeal.nD Cert.AdamwAWoIdeal.τ).loc Cert.AdamwAWoIdeal.main_arg4)
      ∧ m' ((c.tc : Thread Cert.AdamwAWoRefIdeal.nD Cert.AdamwAWoRefIdeal.τ).loc Cert.AdamwAWoRefIdeal.main_arg5) = m ((c.tc : Thread Cert.AdamwAWoIdeal.nD Cert.AdamwAWoIdeal.τ).loc Cert.AdamwAWoIdeal.main_arg5)
      ∧ m' ((c.tc : Thread Cert.AdamwAWoRefIdeal.nD Cert.AdamwAWoRefIdeal.τ).loc Cert.AdamwAWoRefIdeal.main_arg6) = m ((c.tc : Thread Cert.AdamwAWoIdeal.nD Cert.AdamwAWoIdeal.τ).loc Cert.AdamwAWoIdeal.main_arg6)
      ∧ m' ((c.tc : Thread Cert.AdamwAWoRefIdeal.nD Cert.AdamwAWoRefIdeal.τ).loc Cert.AdamwAWoRefIdeal.main_arg7) = m ((c.tc : Thread Cert.AdamwAWoIdeal.nD Cert.AdamwAWoIdeal.τ).loc Cert.AdamwAWoIdeal.main_arg7)
      ∧ m' ((c.tc : Thread Cert.AdamwAWoRefIdeal.nD Cert.AdamwAWoRefIdeal.τ).loc Cert.AdamwAWoRefIdeal.main_arg8) = m ((c.tc : Thread Cert.AdamwAWoIdeal.nD Cert.AdamwAWoIdeal.τ).loc Cert.AdamwAWoIdeal.main_arg8)
      ∧ m' ((c.tc : Thread Cert.AdamwAWoRefIdeal.nD Cert.AdamwAWoRefIdeal.τ).loc Cert.AdamwAWoRefIdeal.main_arg9) = m ((c.tc : Thread Cert.AdamwAWoIdeal.nD Cert.AdamwAWoIdeal.τ).loc Cert.AdamwAWoIdeal.main_arg9)) →
    ∃ (v0 : (c : Dev Cert.AdamwAWoIdeal.nD) → Buf (Elt Ideal) ((c.tc : Thread Cert.AdamwAWoIdeal.nD Cert.AdamwAWoIdeal.τ).loc Cert.AdamwAWoIdeal.main_v1_0)) (v1 : (c : Dev Cert.AdamwAWoIdeal.nD) → Buf (Elt Ideal) ((c.tc : Thread Cert.AdamwAWoIdeal.nD Cert.AdamwAWoIdeal.τ).loc Cert.AdamwAWoIdeal.main_v1_1)) (v2 : (c : Dev Cert.AdamwAWoIdeal.nD) → Buf (Elt Ideal) ((c.tc : Thread Cert.AdamwAWoIdeal.nD Cert.AdamwAWoIdeal.τ).loc Cert.AdamwAWoIdeal.main_v1_2)) (v3 : (c : Dev Cert.AdamwAWoIdeal.nD) → Buf (Elt Ideal) ((c.tc : Thread Cert.AdamwAWoIdeal.nD Cert.AdamwAWoIdeal.τ).loc Cert.AdamwAWoIdeal.main_v1_3)),
      θ_run (Cert.AdamwAWoIdeal.defs (F := Ideal)) (onTc (τ := Cert.AdamwAWoIdeal.τ) (Cert.AdamwAWoIdeal.main (F := Ideal))) ⟨m, fun _ => 0, g⟩ (fun r => ∀ c : Dev Cert.AdamwAWoIdeal.nD,
          r.2.mem ((c.tc : Thread Cert.AdamwAWoIdeal.nD Cert.AdamwAWoIdeal.τ).loc Cert.AdamwAWoIdeal.main_v1_0) = v0 c
          ∧ r.2.mem ((c.tc : Thread Cert.AdamwAWoIdeal.nD Cert.AdamwAWoIdeal.τ).loc Cert.AdamwAWoIdeal.main_v1_1) = v1 c
          ∧ r.2.mem ((c.tc : Thread Cert.AdamwAWoIdeal.nD Cert.AdamwAWoIdeal.τ).loc Cert.AdamwAWoIdeal.main_v1_2) = v2 c
          ∧ r.2.mem ((c.tc : Thread Cert.AdamwAWoIdeal.nD Cert.AdamwAWoIdeal.τ).loc Cert.AdamwAWoIdeal.main_v1_3) = v3 c
          ∧ r.2.mem ((c.tc : Thread Cert.AdamwAWoIdeal.nD Cert.AdamwAWoIdeal.τ).loc Cert.AdamwAWoIdeal.main_arg0) = m ((c.tc : Thread Cert.AdamwAWoIdeal.nD Cert.AdamwAWoIdeal.τ).loc Cert.AdamwAWoIdeal.main_arg0)
          ∧ r.2.mem ((c.tc : Thread Cert.AdamwAWoIdeal.nD Cert.AdamwAWoIdeal.τ).loc Cert.AdamwAWoIdeal.main_arg1) = m ((c.tc : Thread Cert.AdamwAWoIdeal.nD Cert.AdamwAWoIdeal.τ).loc Cert.AdamwAWoIdeal.main_arg1)
          ∧ r.2.mem ((c.tc : Thread Cert.AdamwAWoIdeal.nD Cert.AdamwAWoIdeal.τ).loc Cert.AdamwAWoIdeal.main_arg2) = m ((c.tc : Thread Cert.AdamwAWoIdeal.nD Cert.AdamwAWoIdeal.τ).loc Cert.AdamwAWoIdeal.main_arg2)
          ∧ r.2.mem ((c.tc : Thread Cert.AdamwAWoIdeal.nD Cert.AdamwAWoIdeal.τ).loc Cert.AdamwAWoIdeal.main_arg3) = m ((c.tc : Thread Cert.AdamwAWoIdeal.nD Cert.AdamwAWoIdeal.τ).loc Cert.AdamwAWoIdeal.main_arg3)
          ∧ r.2.mem ((c.tc : Thread Cert.AdamwAWoIdeal.nD Cert.AdamwAWoIdeal.τ).loc Cert.AdamwAWoIdeal.main_arg4) = m ((c.tc : Thread Cert.AdamwAWoIdeal.nD Cert.AdamwAWoIdeal.τ).loc Cert.AdamwAWoIdeal.main_arg4)
          ∧ r.2.mem ((c.tc : Thread Cert.AdamwAWoIdeal.nD Cert.AdamwAWoIdeal.τ).loc Cert.AdamwAWoIdeal.main_arg5) = m ((c.tc : Thread Cert.AdamwAWoIdeal.nD Cert.AdamwAWoIdeal.τ).loc Cert.AdamwAWoIdeal.main_arg5)
          ∧ r.2.mem ((c.tc : Thread Cert.AdamwAWoIdeal.nD Cert.AdamwAWoIdeal.τ).loc Cert.AdamwAWoIdeal.main_arg6) = m ((c.tc : Thread Cert.AdamwAWoIdeal.nD Cert.AdamwAWoIdeal.τ).loc Cert.AdamwAWoIdeal.main_arg6)
          ∧ r.2.mem ((c.tc : Thread Cert.AdamwAWoIdeal.nD Cert.AdamwAWoIdeal.τ).loc Cert.AdamwAWoIdeal.main_arg7) = m ((c.tc : Thread Cert.AdamwAWoIdeal.nD Cert.AdamwAWoIdeal.τ).loc Cert.AdamwAWoIdeal.main_arg7)
          ∧ r.2.mem ((c.tc : Thread Cert.AdamwAWoIdeal.nD Cert.AdamwAWoIdeal.τ).loc Cert.AdamwAWoIdeal.main_arg8) = m ((c.tc : Thread Cert.AdamwAWoIdeal.nD Cert.AdamwAWoIdeal.τ).loc Cert.AdamwAWoIdeal.main_arg8)
          ∧ r.2.mem ((c.tc : Thread Cert.AdamwAWoIdeal.nD Cert.AdamwAWoIdeal.τ).loc Cert.AdamwAWoIdeal.main_arg9) = m ((c.tc : Thread Cert.AdamwAWoIdeal.nD Cert.AdamwAWoIdeal.τ).loc Cert.AdamwAWoIdeal.main_arg9))
      ∧ θ_run (Cert.AdamwAWoRefIdeal.defs (F := Ideal)) (onTc (τ := Cert.AdamwAWoRefIdeal.τ) (Cert.AdamwAWoRefIdeal.main (F := Ideal))) ⟨m', fun _ => 0, g'⟩ (fun r => ∀ c : Dev Cert.AdamwAWoRefIdeal.nD,
          r.2.mem ((c.tc : Thread Cert.AdamwAWoRefIdeal.nD Cert.AdamwAWoRefIdeal.τ).loc Cert.AdamwAWoRefIdeal.main_v41) = v0 c
          ∧ r.2.mem ((c.tc : Thread Cert.AdamwAWoRefIdeal.nD Cert.AdamwAWoRefIdeal.τ).loc Cert.AdamwAWoRefIdeal.main_v42) = v1 c
          ∧ r.2.mem ((c.tc : Thread Cert.AdamwAWoRefIdeal.nD Cert.AdamwAWoRefIdeal.τ).loc Cert.AdamwAWoRefIdeal.main_v43) = v2 c
          ∧ r.2.mem ((c.tc : Thread Cert.AdamwAWoRefIdeal.nD Cert.AdamwAWoRefIdeal.τ).loc Cert.AdamwAWoRefIdeal.main_v44) = v3 c
          ∧ r.2.mem ((c.tc : Thread Cert.AdamwAWoRefIdeal.nD Cert.AdamwAWoRefIdeal.τ).loc Cert.AdamwAWoRefIdeal.main_arg0) = m' ((c.tc : Thread Cert.AdamwAWoRefIdeal.nD Cert.AdamwAWoRefIdeal.τ).loc Cert.AdamwAWoRefIdeal.main_arg0)
          ∧ r.2.mem ((c.tc : Thread Cert.AdamwAWoRefIdeal.nD Cert.AdamwAWoRefIdeal.τ).loc Cert.AdamwAWoRefIdeal.main_arg1) = m' ((c.tc : Thread Cert.AdamwAWoRefIdeal.nD Cert.AdamwAWoRefIdeal.τ).loc Cert.AdamwAWoRefIdeal.main_arg1)
          ∧ r.2.mem ((c.tc : Thread Cert.AdamwAWoRefIdeal.nD Cert.AdamwAWoRefIdeal.τ).loc Cert.AdamwAWoRefIdeal.main_arg2) = m' ((c.tc : Thread Cert.AdamwAWoRefIdeal.nD Cert.AdamwAWoRefIdeal.τ).loc Cert.AdamwAWoRefIdeal.main_arg2)
          ∧ r.2.mem ((c.tc : Thread Cert.AdamwAWoRefIdeal.nD Cert.AdamwAWoRefIdeal.τ).loc Cert.AdamwAWoRefIdeal.main_arg3) = m' ((c.tc : Thread Cert.AdamwAWoRefIdeal.nD Cert.AdamwAWoRefIdeal.τ).loc Cert.AdamwAWoRefIdeal.main_arg3)
          ∧ r.2.mem ((c.tc : Thread Cert.AdamwAWoRefIdeal.nD Cert.AdamwAWoRefIdeal.τ).loc Cert.AdamwAWoRefIdeal.main_arg4) = m' ((c.tc : Thread Cert.AdamwAWoRefIdeal.nD Cert.AdamwAWoRefIdeal.τ).loc Cert.AdamwAWoRefIdeal.main_arg4)
          ∧ r.2.mem ((c.tc : Thread Cert.AdamwAWoRefIdeal.nD Cert.AdamwAWoRefIdeal.τ).loc Cert.AdamwAWoRefIdeal.main_arg5) = m' ((c.tc : Thread Cert.AdamwAWoRefIdeal.nD Cert.AdamwAWoRefIdeal.τ).loc Cert.AdamwAWoRefIdeal.main_arg5)
          ∧ r.2.mem ((c.tc : Thread Cert.AdamwAWoRefIdeal.nD Cert.AdamwAWoRefIdeal.τ).loc Cert.AdamwAWoRefIdeal.main_arg6) = m' ((c.tc : Thread Cert.AdamwAWoRefIdeal.nD Cert.AdamwAWoRefIdeal.τ).loc Cert.AdamwAWoRefIdeal.main_arg6)
          ∧ r.2.mem ((c.tc : Thread Cert.AdamwAWoRefIdeal.nD Cert.AdamwAWoRefIdeal.τ).loc Cert.AdamwAWoRefIdeal.main_arg7) = m' ((c.tc : Thread Cert.AdamwAWoRefIdeal.nD Cert.AdamwAWoRefIdeal.τ).loc Cert.AdamwAWoRefIdeal.main_arg7)
          ∧ r.2.mem ((c.tc : Thread Cert.AdamwAWoRefIdeal.nD Cert.AdamwAWoRefIdeal.τ).loc Cert.AdamwAWoRefIdeal.main_arg8) = m' ((c.tc : Thread Cert.AdamwAWoRefIdeal.nD Cert.AdamwAWoRefIdeal.τ).loc Cert.AdamwAWoRefIdeal.main_arg8)
          ∧ r.2.mem ((c.tc : Thread Cert.AdamwAWoRefIdeal.nD Cert.AdamwAWoRefIdeal.τ).loc Cert.AdamwAWoRefIdeal.main_arg9) = m' ((c.tc : Thread Cert.AdamwAWoRefIdeal.nD Cert.AdamwAWoRefIdeal.τ).loc Cert.AdamwAWoRefIdeal.main_arg9))

def preserves_AdamwQkv_AdamwQkvIdeal : Prop :=
  True

def algebraic_AdamwQkvIdeal_AdamwQkvRefIdeal [hAdamwQkvIdeal : Cert.AdamwQkvIdeal.Facts] [hAdamwQkvRefIdeal : Cert.AdamwQkvRefIdeal.Facts] [hPre_chip_a_wqkv : Cert.Pre_chip_a_wqkv.Facts] : Prop :=
  ∀ (m : (ℓ : Loc Cert.AdamwQkvIdeal.nD Cert.AdamwQkvIdeal.τ Cert.AdamwQkvIdeal.sig) → Buf (Elt Ideal) ℓ) (g : Dev Cert.AdamwQkvIdeal.nD → PrngReg)
    (m' : (ℓ : Loc Cert.AdamwQkvRefIdeal.nD Cert.AdamwQkvRefIdeal.τ Cert.AdamwQkvRefIdeal.sig) → Buf (Elt Ideal) ℓ) (g' : Dev Cert.AdamwQkvRefIdeal.nD → PrngReg), Pre_AdamwQkvIdeal m →
    (∀ c : Dev Cert.AdamwQkvIdeal.nD,
      m' ((c.tc : Thread Cert.AdamwQkvRefIdeal.nD Cert.AdamwQkvRefIdeal.τ).loc Cert.AdamwQkvRefIdeal.main_arg0) = m ((c.tc : Thread Cert.AdamwQkvIdeal.nD Cert.AdamwQkvIdeal.τ).loc Cert.AdamwQkvIdeal.main_arg0)
      ∧ m' ((c.tc : Thread Cert.AdamwQkvRefIdeal.nD Cert.AdamwQkvRefIdeal.τ).loc Cert.AdamwQkvRefIdeal.main_arg1) = m ((c.tc : Thread Cert.AdamwQkvIdeal.nD Cert.AdamwQkvIdeal.τ).loc Cert.AdamwQkvIdeal.main_arg1)
      ∧ m' ((c.tc : Thread Cert.AdamwQkvRefIdeal.nD Cert.AdamwQkvRefIdeal.τ).loc Cert.AdamwQkvRefIdeal.main_arg2) = m ((c.tc : Thread Cert.AdamwQkvIdeal.nD Cert.AdamwQkvIdeal.τ).loc Cert.AdamwQkvIdeal.main_arg2)
      ∧ m' ((c.tc : Thread Cert.AdamwQkvRefIdeal.nD Cert.AdamwQkvRefIdeal.τ).loc Cert.AdamwQkvRefIdeal.main_arg3) = m ((c.tc : Thread Cert.AdamwQkvIdeal.nD Cert.AdamwQkvIdeal.τ).loc Cert.AdamwQkvIdeal.main_arg3)
      ∧ m' ((c.tc : Thread Cert.AdamwQkvRefIdeal.nD Cert.AdamwQkvRefIdeal.τ).loc Cert.AdamwQkvRefIdeal.main_arg4) = m ((c.tc : Thread Cert.AdamwQkvIdeal.nD Cert.AdamwQkvIdeal.τ).loc Cert.AdamwQkvIdeal.main_arg4)
      ∧ m' ((c.tc : Thread Cert.AdamwQkvRefIdeal.nD Cert.AdamwQkvRefIdeal.τ).loc Cert.AdamwQkvRefIdeal.main_arg5) = m ((c.tc : Thread Cert.AdamwQkvIdeal.nD Cert.AdamwQkvIdeal.τ).loc Cert.AdamwQkvIdeal.main_arg5)
      ∧ m' ((c.tc : Thread Cert.AdamwQkvRefIdeal.nD Cert.AdamwQkvRefIdeal.τ).loc Cert.AdamwQkvRefIdeal.main_arg6) = m ((c.tc : Thread Cert.AdamwQkvIdeal.nD Cert.AdamwQkvIdeal.τ).loc Cert.AdamwQkvIdeal.main_arg6)
      ∧ m' ((c.tc : Thread Cert.AdamwQkvRefIdeal.nD Cert.AdamwQkvRefIdeal.τ).loc Cert.AdamwQkvRefIdeal.main_arg7) = m ((c.tc : Thread Cert.AdamwQkvIdeal.nD Cert.AdamwQkvIdeal.τ).loc Cert.AdamwQkvIdeal.main_arg7)
      ∧ m' ((c.tc : Thread Cert.AdamwQkvRefIdeal.nD Cert.AdamwQkvRefIdeal.τ).loc Cert.AdamwQkvRefIdeal.main_arg8) = m ((c.tc : Thread Cert.AdamwQkvIdeal.nD Cert.AdamwQkvIdeal.τ).loc Cert.AdamwQkvIdeal.main_arg8)
      ∧ m' ((c.tc : Thread Cert.AdamwQkvRefIdeal.nD Cert.AdamwQkvRefIdeal.τ).loc Cert.AdamwQkvRefIdeal.main_arg9) = m ((c.tc : Thread Cert.AdamwQkvIdeal.nD Cert.AdamwQkvIdeal.τ).loc Cert.AdamwQkvIdeal.main_arg9)) →
    ∃ (v0 : (c : Dev Cert.AdamwQkvIdeal.nD) → Buf (Elt Ideal) ((c.tc : Thread Cert.AdamwQkvIdeal.nD Cert.AdamwQkvIdeal.τ).loc Cert.AdamwQkvIdeal.main_v1_0)) (v1 : (c : Dev Cert.AdamwQkvIdeal.nD) → Buf (Elt Ideal) ((c.tc : Thread Cert.AdamwQkvIdeal.nD Cert.AdamwQkvIdeal.τ).loc Cert.AdamwQkvIdeal.main_v1_1)) (v2 : (c : Dev Cert.AdamwQkvIdeal.nD) → Buf (Elt Ideal) ((c.tc : Thread Cert.AdamwQkvIdeal.nD Cert.AdamwQkvIdeal.τ).loc Cert.AdamwQkvIdeal.main_v1_2)) (v3 : (c : Dev Cert.AdamwQkvIdeal.nD) → Buf (Elt Ideal) ((c.tc : Thread Cert.AdamwQkvIdeal.nD Cert.AdamwQkvIdeal.τ).loc Cert.AdamwQkvIdeal.main_v1_3)),
      θ_run (Cert.AdamwQkvIdeal.defs (F := Ideal)) (onTc (τ := Cert.AdamwQkvIdeal.τ) (Cert.AdamwQkvIdeal.main (F := Ideal))) ⟨m, fun _ => 0, g⟩ (fun r => ∀ c : Dev Cert.AdamwQkvIdeal.nD,
          r.2.mem ((c.tc : Thread Cert.AdamwQkvIdeal.nD Cert.AdamwQkvIdeal.τ).loc Cert.AdamwQkvIdeal.main_v1_0) = v0 c
          ∧ r.2.mem ((c.tc : Thread Cert.AdamwQkvIdeal.nD Cert.AdamwQkvIdeal.τ).loc Cert.AdamwQkvIdeal.main_v1_1) = v1 c
          ∧ r.2.mem ((c.tc : Thread Cert.AdamwQkvIdeal.nD Cert.AdamwQkvIdeal.τ).loc Cert.AdamwQkvIdeal.main_v1_2) = v2 c
          ∧ r.2.mem ((c.tc : Thread Cert.AdamwQkvIdeal.nD Cert.AdamwQkvIdeal.τ).loc Cert.AdamwQkvIdeal.main_v1_3) = v3 c
          ∧ r.2.mem ((c.tc : Thread Cert.AdamwQkvIdeal.nD Cert.AdamwQkvIdeal.τ).loc Cert.AdamwQkvIdeal.main_arg0) = m ((c.tc : Thread Cert.AdamwQkvIdeal.nD Cert.AdamwQkvIdeal.τ).loc Cert.AdamwQkvIdeal.main_arg0)
          ∧ r.2.mem ((c.tc : Thread Cert.AdamwQkvIdeal.nD Cert.AdamwQkvIdeal.τ).loc Cert.AdamwQkvIdeal.main_arg1) = m ((c.tc : Thread Cert.AdamwQkvIdeal.nD Cert.AdamwQkvIdeal.τ).loc Cert.AdamwQkvIdeal.main_arg1)
          ∧ r.2.mem ((c.tc : Thread Cert.AdamwQkvIdeal.nD Cert.AdamwQkvIdeal.τ).loc Cert.AdamwQkvIdeal.main_arg2) = m ((c.tc : Thread Cert.AdamwQkvIdeal.nD Cert.AdamwQkvIdeal.τ).loc Cert.AdamwQkvIdeal.main_arg2)
          ∧ r.2.mem ((c.tc : Thread Cert.AdamwQkvIdeal.nD Cert.AdamwQkvIdeal.τ).loc Cert.AdamwQkvIdeal.main_arg3) = m ((c.tc : Thread Cert.AdamwQkvIdeal.nD Cert.AdamwQkvIdeal.τ).loc Cert.AdamwQkvIdeal.main_arg3)
          ∧ r.2.mem ((c.tc : Thread Cert.AdamwQkvIdeal.nD Cert.AdamwQkvIdeal.τ).loc Cert.AdamwQkvIdeal.main_arg4) = m ((c.tc : Thread Cert.AdamwQkvIdeal.nD Cert.AdamwQkvIdeal.τ).loc Cert.AdamwQkvIdeal.main_arg4)
          ∧ r.2.mem ((c.tc : Thread Cert.AdamwQkvIdeal.nD Cert.AdamwQkvIdeal.τ).loc Cert.AdamwQkvIdeal.main_arg5) = m ((c.tc : Thread Cert.AdamwQkvIdeal.nD Cert.AdamwQkvIdeal.τ).loc Cert.AdamwQkvIdeal.main_arg5)
          ∧ r.2.mem ((c.tc : Thread Cert.AdamwQkvIdeal.nD Cert.AdamwQkvIdeal.τ).loc Cert.AdamwQkvIdeal.main_arg6) = m ((c.tc : Thread Cert.AdamwQkvIdeal.nD Cert.AdamwQkvIdeal.τ).loc Cert.AdamwQkvIdeal.main_arg6)
          ∧ r.2.mem ((c.tc : Thread Cert.AdamwQkvIdeal.nD Cert.AdamwQkvIdeal.τ).loc Cert.AdamwQkvIdeal.main_arg7) = m ((c.tc : Thread Cert.AdamwQkvIdeal.nD Cert.AdamwQkvIdeal.τ).loc Cert.AdamwQkvIdeal.main_arg7)
          ∧ r.2.mem ((c.tc : Thread Cert.AdamwQkvIdeal.nD Cert.AdamwQkvIdeal.τ).loc Cert.AdamwQkvIdeal.main_arg8) = m ((c.tc : Thread Cert.AdamwQkvIdeal.nD Cert.AdamwQkvIdeal.τ).loc Cert.AdamwQkvIdeal.main_arg8)
          ∧ r.2.mem ((c.tc : Thread Cert.AdamwQkvIdeal.nD Cert.AdamwQkvIdeal.τ).loc Cert.AdamwQkvIdeal.main_arg9) = m ((c.tc : Thread Cert.AdamwQkvIdeal.nD Cert.AdamwQkvIdeal.τ).loc Cert.AdamwQkvIdeal.main_arg9))
      ∧ θ_run (Cert.AdamwQkvRefIdeal.defs (F := Ideal)) (onTc (τ := Cert.AdamwQkvRefIdeal.τ) (Cert.AdamwQkvRefIdeal.main (F := Ideal))) ⟨m', fun _ => 0, g'⟩ (fun r => ∀ c : Dev Cert.AdamwQkvRefIdeal.nD,
          r.2.mem ((c.tc : Thread Cert.AdamwQkvRefIdeal.nD Cert.AdamwQkvRefIdeal.τ).loc Cert.AdamwQkvRefIdeal.main_v41) = v0 c
          ∧ r.2.mem ((c.tc : Thread Cert.AdamwQkvRefIdeal.nD Cert.AdamwQkvRefIdeal.τ).loc Cert.AdamwQkvRefIdeal.main_v42) = v1 c
          ∧ r.2.mem ((c.tc : Thread Cert.AdamwQkvRefIdeal.nD Cert.AdamwQkvRefIdeal.τ).loc Cert.AdamwQkvRefIdeal.main_v43) = v2 c
          ∧ r.2.mem ((c.tc : Thread Cert.AdamwQkvRefIdeal.nD Cert.AdamwQkvRefIdeal.τ).loc Cert.AdamwQkvRefIdeal.main_v44) = v3 c
          ∧ r.2.mem ((c.tc : Thread Cert.AdamwQkvRefIdeal.nD Cert.AdamwQkvRefIdeal.τ).loc Cert.AdamwQkvRefIdeal.main_arg0) = m' ((c.tc : Thread Cert.AdamwQkvRefIdeal.nD Cert.AdamwQkvRefIdeal.τ).loc Cert.AdamwQkvRefIdeal.main_arg0)
          ∧ r.2.mem ((c.tc : Thread Cert.AdamwQkvRefIdeal.nD Cert.AdamwQkvRefIdeal.τ).loc Cert.AdamwQkvRefIdeal.main_arg1) = m' ((c.tc : Thread Cert.AdamwQkvRefIdeal.nD Cert.AdamwQkvRefIdeal.τ).loc Cert.AdamwQkvRefIdeal.main_arg1)
          ∧ r.2.mem ((c.tc : Thread Cert.AdamwQkvRefIdeal.nD Cert.AdamwQkvRefIdeal.τ).loc Cert.AdamwQkvRefIdeal.main_arg2) = m' ((c.tc : Thread Cert.AdamwQkvRefIdeal.nD Cert.AdamwQkvRefIdeal.τ).loc Cert.AdamwQkvRefIdeal.main_arg2)
          ∧ r.2.mem ((c.tc : Thread Cert.AdamwQkvRefIdeal.nD Cert.AdamwQkvRefIdeal.τ).loc Cert.AdamwQkvRefIdeal.main_arg3) = m' ((c.tc : Thread Cert.AdamwQkvRefIdeal.nD Cert.AdamwQkvRefIdeal.τ).loc Cert.AdamwQkvRefIdeal.main_arg3)
          ∧ r.2.mem ((c.tc : Thread Cert.AdamwQkvRefIdeal.nD Cert.AdamwQkvRefIdeal.τ).loc Cert.AdamwQkvRefIdeal.main_arg4) = m' ((c.tc : Thread Cert.AdamwQkvRefIdeal.nD Cert.AdamwQkvRefIdeal.τ).loc Cert.AdamwQkvRefIdeal.main_arg4)
          ∧ r.2.mem ((c.tc : Thread Cert.AdamwQkvRefIdeal.nD Cert.AdamwQkvRefIdeal.τ).loc Cert.AdamwQkvRefIdeal.main_arg5) = m' ((c.tc : Thread Cert.AdamwQkvRefIdeal.nD Cert.AdamwQkvRefIdeal.τ).loc Cert.AdamwQkvRefIdeal.main_arg5)
          ∧ r.2.mem ((c.tc : Thread Cert.AdamwQkvRefIdeal.nD Cert.AdamwQkvRefIdeal.τ).loc Cert.AdamwQkvRefIdeal.main_arg6) = m' ((c.tc : Thread Cert.AdamwQkvRefIdeal.nD Cert.AdamwQkvRefIdeal.τ).loc Cert.AdamwQkvRefIdeal.main_arg6)
          ∧ r.2.mem ((c.tc : Thread Cert.AdamwQkvRefIdeal.nD Cert.AdamwQkvRefIdeal.τ).loc Cert.AdamwQkvRefIdeal.main_arg7) = m' ((c.tc : Thread Cert.AdamwQkvRefIdeal.nD Cert.AdamwQkvRefIdeal.τ).loc Cert.AdamwQkvRefIdeal.main_arg7)
          ∧ r.2.mem ((c.tc : Thread Cert.AdamwQkvRefIdeal.nD Cert.AdamwQkvRefIdeal.τ).loc Cert.AdamwQkvRefIdeal.main_arg8) = m' ((c.tc : Thread Cert.AdamwQkvRefIdeal.nD Cert.AdamwQkvRefIdeal.τ).loc Cert.AdamwQkvRefIdeal.main_arg8)
          ∧ r.2.mem ((c.tc : Thread Cert.AdamwQkvRefIdeal.nD Cert.AdamwQkvRefIdeal.τ).loc Cert.AdamwQkvRefIdeal.main_arg9) = m' ((c.tc : Thread Cert.AdamwQkvRefIdeal.nD Cert.AdamwQkvRefIdeal.τ).loc Cert.AdamwQkvRefIdeal.main_arg9))

def Claim : Prop :=
  ∃ (hKernel : Cert.Kernel.Facts) (hKernelIdeal : Cert.KernelIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hAQkvFwd : Cert.AQkvFwd.Facts) (hAQkvFwdIdeal : Cert.AQkvFwdIdeal.Facts) (hAQkvFwdRefIdeal : Cert.AQkvFwdRefIdeal.Facts) (hAWoFwd : Cert.AWoFwd.Facts) (hAWoFwdIdeal : Cert.AWoFwdIdeal.Facts) (hAWoFwdRefIdeal : Cert.AWoFwdRefIdeal.Facts) (hAWoDx : Cert.AWoDx.Facts) (hAWoDxIdeal : Cert.AWoDxIdeal.Facts) (hAWoDxRefIdeal : Cert.AWoDxRefIdeal.Facts) (hAWoDw : Cert.AWoDw.Facts) (hAWoDwIdeal : Cert.AWoDwIdeal.Facts) (hAWoDwRefIdeal : Cert.AWoDwRefIdeal.Facts) (hAQkvDx : Cert.AQkvDx.Facts) (hAQkvDxIdeal : Cert.AQkvDxIdeal.Facts) (hAQkvDxRefIdeal : Cert.AQkvDxRefIdeal.Facts) (hAQkvDw : Cert.AQkvDw.Facts) (hAQkvDwIdeal : Cert.AQkvDwIdeal.Facts) (hAQkvDwRefIdeal : Cert.AQkvDwRefIdeal.Facts) (hKvFwd : Cert.KvFwd.Facts) (hKvFwdIdeal : Cert.KvFwdIdeal.Facts) (hKvFwdRefIdeal : Cert.KvFwdRefIdeal.Facts) (hKvDx : Cert.KvDx.Facts) (hKvDxIdeal : Cert.KvDxIdeal.Facts) (hKvDxRefIdeal : Cert.KvDxRefIdeal.Facts) (hKvDw : Cert.KvDw.Facts) (hKvDwIdeal : Cert.KvDwIdeal.Facts) (hKvDwRefIdeal : Cert.KvDwRefIdeal.Facts) (hBQFwd : Cert.BQFwd.Facts) (hBQFwdIdeal : Cert.BQFwdIdeal.Facts) (hBQFwdRefIdeal : Cert.BQFwdRefIdeal.Facts) (hBQDx : Cert.BQDx.Facts) (hBQDxIdeal : Cert.BQDxIdeal.Facts) (hBQDxRefIdeal : Cert.BQDxRefIdeal.Facts) (hBWoFwd : Cert.BWoFwd.Facts) (hBWoFwdIdeal : Cert.BWoFwdIdeal.Facts) (hBWoFwdRefIdeal : Cert.BWoFwdRefIdeal.Facts) (hAdamwANorm : Cert.AdamwANorm.Facts) (hAdamwANormIdeal : Cert.AdamwANormIdeal.Facts) (hAdamwANormRefIdeal : Cert.AdamwANormRefIdeal.Facts) (hAdamwBW : Cert.AdamwBW.Facts) (hAdamwBWIdeal : Cert.AdamwBWIdeal.Facts) (hAdamwBWRefIdeal : Cert.AdamwBWRefIdeal.Facts) (hAdamwKv : Cert.AdamwKv.Facts) (hAdamwKvIdeal : Cert.AdamwKvIdeal.Facts) (hAdamwKvRefIdeal : Cert.AdamwKvRefIdeal.Facts) (hAdamwUp : Cert.AdamwUp.Facts) (hAdamwUpIdeal : Cert.AdamwUpIdeal.Facts) (hAdamwUpRefIdeal : Cert.AdamwUpRefIdeal.Facts) (hAdamwDown : Cert.AdamwDown.Facts) (hAdamwDownIdeal : Cert.AdamwDownIdeal.Facts) (hAdamwDownRefIdeal : Cert.AdamwDownRefIdeal.Facts) (hAdamwAWo : Cert.AdamwAWo.Facts) (hAdamwAWoIdeal : Cert.AdamwAWoIdeal.Facts) (hAdamwAWoRefIdeal : Cert.AdamwAWoRefIdeal.Facts) (hAdamwQkv : Cert.AdamwQkv.Facts) (hAdamwQkvIdeal : Cert.AdamwQkvIdeal.Facts) (hAdamwQkvRefIdeal : Cert.AdamwQkvRefIdeal.Facts) (hPre_chip_b_w : Cert.Pre_chip_b_w.Facts) (hPre_chip_w_kv : Cert.Pre_chip_w_kv.Facts) (hPre_chip_mlp_up : Cert.Pre_chip_mlp_up.Facts) (hPre_chip_mlp_down : Cert.Pre_chip_mlp_down.Facts) (hPre_chip_a_wo : Cert.Pre_chip_a_wo.Facts) (hPre_chip_a_wqkv : Cert.Pre_chip_a_wqkv.Facts),
    quiescent_Kernel (hKernel := hKernel)
    ∧ quiescent_KernelIdeal (hKernelIdeal := hKernelIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_AQkvFwd (hAQkvFwd := hAQkvFwd)
    ∧ quiescent_AQkvFwdIdeal (hAQkvFwdIdeal := hAQkvFwdIdeal)
    ∧ quiescent_AQkvFwdRefIdeal (hAQkvFwdRefIdeal := hAQkvFwdRefIdeal)
    ∧ quiescent_AWoFwd (hAWoFwd := hAWoFwd)
    ∧ quiescent_AWoFwdIdeal (hAWoFwdIdeal := hAWoFwdIdeal)
    ∧ quiescent_AWoFwdRefIdeal (hAWoFwdRefIdeal := hAWoFwdRefIdeal)
    ∧ quiescent_AWoDx (hAWoDx := hAWoDx)
    ∧ quiescent_AWoDxIdeal (hAWoDxIdeal := hAWoDxIdeal)
    ∧ quiescent_AWoDxRefIdeal (hAWoDxRefIdeal := hAWoDxRefIdeal)
    ∧ quiescent_AWoDw (hAWoDw := hAWoDw)
    ∧ quiescent_AWoDwIdeal (hAWoDwIdeal := hAWoDwIdeal)
    ∧ quiescent_AWoDwRefIdeal (hAWoDwRefIdeal := hAWoDwRefIdeal)
    ∧ quiescent_AQkvDx (hAQkvDx := hAQkvDx)
    ∧ quiescent_AQkvDxIdeal (hAQkvDxIdeal := hAQkvDxIdeal)
    ∧ quiescent_AQkvDxRefIdeal (hAQkvDxRefIdeal := hAQkvDxRefIdeal)
    ∧ quiescent_AQkvDw (hAQkvDw := hAQkvDw)
    ∧ quiescent_AQkvDwIdeal (hAQkvDwIdeal := hAQkvDwIdeal)
    ∧ quiescent_AQkvDwRefIdeal (hAQkvDwRefIdeal := hAQkvDwRefIdeal)
    ∧ quiescent_KvFwd (hKvFwd := hKvFwd)
    ∧ quiescent_KvFwdIdeal (hKvFwdIdeal := hKvFwdIdeal)
    ∧ quiescent_KvFwdRefIdeal (hKvFwdRefIdeal := hKvFwdRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_BQFwd (hBQFwd := hBQFwd)
    ∧ quiescent_BQFwdIdeal (hBQFwdIdeal := hBQFwdIdeal)
    ∧ quiescent_BQFwdRefIdeal (hBQFwdRefIdeal := hBQFwdRefIdeal)
    ∧ quiescent_BQDx (hBQDx := hBQDx)
    ∧ quiescent_BQDxIdeal (hBQDxIdeal := hBQDxIdeal)
    ∧ quiescent_BQDxRefIdeal (hBQDxRefIdeal := hBQDxRefIdeal)
    ∧ quiescent_BWoFwd (hBWoFwd := hBWoFwd)
    ∧ quiescent_BWoFwdIdeal (hBWoFwdIdeal := hBWoFwdIdeal)
    ∧ quiescent_BWoFwdRefIdeal (hBWoFwdRefIdeal := hBWoFwdRefIdeal)
    ∧ quiescent_AdamwANorm (hAdamwANorm := hAdamwANorm)
    ∧ quiescent_AdamwANormIdeal (hAdamwANormIdeal := hAdamwANormIdeal)
    ∧ quiescent_AdamwANormRefIdeal (hAdamwANormRefIdeal := hAdamwANormRefIdeal)
    ∧ quiescent_AdamwBW (hAdamwBW := hAdamwBW) (hPre_chip_b_w := hPre_chip_b_w)
    ∧ quiescent_AdamwBWIdeal (hAdamwBWIdeal := hAdamwBWIdeal) (hPre_chip_b_w := hPre_chip_b_w)
    ∧ quiescent_AdamwBWRefIdeal (hAdamwBWRefIdeal := hAdamwBWRefIdeal)
    ∧ quiescent_AdamwBWRefIdeal_pre_chip_b_w (hAdamwBWRefIdeal := hAdamwBWRefIdeal) (hPre_chip_b_w := hPre_chip_b_w)
    ∧ quiescent_AdamwKv (hAdamwKv := hAdamwKv) (hPre_chip_w_kv := hPre_chip_w_kv)
    ∧ quiescent_AdamwKvIdeal (hAdamwKvIdeal := hAdamwKvIdeal) (hPre_chip_w_kv := hPre_chip_w_kv)
    ∧ quiescent_AdamwKvRefIdeal (hAdamwKvRefIdeal := hAdamwKvRefIdeal)
    ∧ quiescent_AdamwKvRefIdeal_pre_chip_w_kv (hAdamwKvRefIdeal := hAdamwKvRefIdeal) (hPre_chip_w_kv := hPre_chip_w_kv)
    ∧ quiescent_AdamwUp (hAdamwUp := hAdamwUp) (hPre_chip_mlp_up := hPre_chip_mlp_up)
    ∧ quiescent_AdamwUpIdeal (hAdamwUpIdeal := hAdamwUpIdeal) (hPre_chip_mlp_up := hPre_chip_mlp_up)
    ∧ quiescent_AdamwUpRefIdeal (hAdamwUpRefIdeal := hAdamwUpRefIdeal)
    ∧ quiescent_AdamwUpRefIdeal_pre_chip_mlp_up (hAdamwUpRefIdeal := hAdamwUpRefIdeal) (hPre_chip_mlp_up := hPre_chip_mlp_up)
    ∧ quiescent_AdamwDown (hAdamwDown := hAdamwDown) (hPre_chip_mlp_down := hPre_chip_mlp_down)
    ∧ quiescent_AdamwDownIdeal (hAdamwDownIdeal := hAdamwDownIdeal) (hPre_chip_mlp_down := hPre_chip_mlp_down)
    ∧ quiescent_AdamwDownRefIdeal (hAdamwDownRefIdeal := hAdamwDownRefIdeal)
    ∧ quiescent_AdamwDownRefIdeal_pre_chip_mlp_down (hAdamwDownRefIdeal := hAdamwDownRefIdeal) (hPre_chip_mlp_down := hPre_chip_mlp_down)
    ∧ quiescent_AdamwAWo (hAdamwAWo := hAdamwAWo) (hPre_chip_a_wo := hPre_chip_a_wo)
    ∧ quiescent_AdamwAWoIdeal (hAdamwAWoIdeal := hAdamwAWoIdeal) (hPre_chip_a_wo := hPre_chip_a_wo)
    ∧ quiescent_AdamwAWoRefIdeal (hAdamwAWoRefIdeal := hAdamwAWoRefIdeal)
    ∧ quiescent_AdamwAWoRefIdeal_pre_chip_a_wo (hAdamwAWoRefIdeal := hAdamwAWoRefIdeal) (hPre_chip_a_wo := hPre_chip_a_wo)
    ∧ quiescent_AdamwQkv (hAdamwQkv := hAdamwQkv) (hPre_chip_a_wqkv := hPre_chip_a_wqkv)
    ∧ quiescent_AdamwQkvIdeal (hAdamwQkvIdeal := hAdamwQkvIdeal) (hPre_chip_a_wqkv := hPre_chip_a_wqkv)
    ∧ quiescent_AdamwQkvRefIdeal (hAdamwQkvRefIdeal := hAdamwQkvRefIdeal)
    ∧ quiescent_AdamwQkvRefIdeal_pre_chip_a_wqkv (hAdamwQkvRefIdeal := hAdamwQkvRefIdeal) (hPre_chip_a_wqkv := hPre_chip_a_wqkv)
    ∧ preserves_Kernel_KernelIdeal
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_AQkvFwd_AQkvFwdIdeal
    ∧ algebraic_AQkvFwdIdeal_AQkvFwdRefIdeal (hAQkvFwdIdeal := hAQkvFwdIdeal) (hAQkvFwdRefIdeal := hAQkvFwdRefIdeal)
    ∧ preserves_AWoFwd_AWoFwdIdeal
    ∧ algebraic_AWoFwdIdeal_AWoFwdRefIdeal (hAWoFwdIdeal := hAWoFwdIdeal) (hAWoFwdRefIdeal := hAWoFwdRefIdeal)
    ∧ preserves_AWoDx_AWoDxIdeal
    ∧ algebraic_AWoDxIdeal_AWoDxRefIdeal (hAWoDxIdeal := hAWoDxIdeal) (hAWoDxRefIdeal := hAWoDxRefIdeal)
    ∧ preserves_AWoDw_AWoDwIdeal
    ∧ algebraic_AWoDwIdeal_AWoDwRefIdeal (hAWoDwIdeal := hAWoDwIdeal) (hAWoDwRefIdeal := hAWoDwRefIdeal)
    ∧ preserves_AQkvDx_AQkvDxIdeal
    ∧ algebraic_AQkvDxIdeal_AQkvDxRefIdeal (hAQkvDxIdeal := hAQkvDxIdeal) (hAQkvDxRefIdeal := hAQkvDxRefIdeal)
    ∧ preserves_AQkvDw_AQkvDwIdeal
    ∧ algebraic_AQkvDwIdeal_AQkvDwRefIdeal (hAQkvDwIdeal := hAQkvDwIdeal) (hAQkvDwRefIdeal := hAQkvDwRefIdeal)
    ∧ preserves_KvFwd_KvFwdIdeal
    ∧ algebraic_KvFwdIdeal_KvFwdRefIdeal (hKvFwdIdeal := hKvFwdIdeal) (hKvFwdRefIdeal := hKvFwdRefIdeal)
    ∧ preserves_KvDx_KvDxIdeal
    ∧ algebraic_KvDxIdeal_KvDxRefIdeal (hKvDxIdeal := hKvDxIdeal) (hKvDxRefIdeal := hKvDxRefIdeal)
    ∧ preserves_KvDw_KvDwIdeal
    ∧ algebraic_KvDwIdeal_KvDwRefIdeal (hKvDwIdeal := hKvDwIdeal) (hKvDwRefIdeal := hKvDwRefIdeal)
    ∧ preserves_BQFwd_BQFwdIdeal
    ∧ algebraic_BQFwdIdeal_BQFwdRefIdeal (hBQFwdIdeal := hBQFwdIdeal) (hBQFwdRefIdeal := hBQFwdRefIdeal)
    ∧ preserves_BQDx_BQDxIdeal
    ∧ algebraic_BQDxIdeal_BQDxRefIdeal (hBQDxIdeal := hBQDxIdeal) (hBQDxRefIdeal := hBQDxRefIdeal)
    ∧ preserves_BWoFwd_BWoFwdIdeal
    ∧ algebraic_BWoFwdIdeal_BWoFwdRefIdeal (hBWoFwdIdeal := hBWoFwdIdeal) (hBWoFwdRefIdeal := hBWoFwdRefIdeal)
    ∧ preserves_AdamwANorm_AdamwANormIdeal
    ∧ algebraic_AdamwANormIdeal_AdamwANormRefIdeal (hAdamwANormIdeal := hAdamwANormIdeal) (hAdamwANormRefIdeal := hAdamwANormRefIdeal)
    ∧ preserves_AdamwBW_AdamwBWIdeal
    ∧ algebraic_AdamwBWIdeal_AdamwBWRefIdeal (hAdamwBWIdeal := hAdamwBWIdeal) (hAdamwBWRefIdeal := hAdamwBWRefIdeal) (hPre_chip_b_w := hPre_chip_b_w)
    ∧ preserves_AdamwKv_AdamwKvIdeal
    ∧ algebraic_AdamwKvIdeal_AdamwKvRefIdeal (hAdamwKvIdeal := hAdamwKvIdeal) (hAdamwKvRefIdeal := hAdamwKvRefIdeal) (hPre_chip_w_kv := hPre_chip_w_kv)
    ∧ preserves_AdamwUp_AdamwUpIdeal
    ∧ algebraic_AdamwUpIdeal_AdamwUpRefIdeal (hAdamwUpIdeal := hAdamwUpIdeal) (hAdamwUpRefIdeal := hAdamwUpRefIdeal) (hPre_chip_mlp_up := hPre_chip_mlp_up)
    ∧ preserves_AdamwDown_AdamwDownIdeal
    ∧ algebraic_AdamwDownIdeal_AdamwDownRefIdeal (hAdamwDownIdeal := hAdamwDownIdeal) (hAdamwDownRefIdeal := hAdamwDownRefIdeal) (hPre_chip_mlp_down := hPre_chip_mlp_down)
    ∧ preserves_AdamwAWo_AdamwAWoIdeal
    ∧ algebraic_AdamwAWoIdeal_AdamwAWoRefIdeal (hAdamwAWoIdeal := hAdamwAWoIdeal) (hAdamwAWoRefIdeal := hAdamwAWoRefIdeal) (hPre_chip_a_wo := hPre_chip_a_wo)
    ∧ preserves_AdamwQkv_AdamwQkvIdeal
    ∧ algebraic_AdamwQkvIdeal_AdamwQkvRefIdeal (hAdamwQkvIdeal := hAdamwQkvIdeal) (hAdamwQkvRefIdeal := hAdamwQkvRefIdeal) (hPre_chip_a_wqkv := hPre_chip_a_wqkv)
-- ==== Pre_chip_a_wo.lean ====
abbrev S_ : Shape := ⟨0, ![]⟩
abbrev S4x1x128x1024 : Shape := ⟨4, ![4, 1, 128, 1024]⟩
abbrev S3x1x128x1024 : Shape := ⟨4, ![3, 1, 128, 1024]⟩
abbrev S2x128x1024 : Shape := ⟨3, ![2, 128, 1024]⟩

class Facts : Prop where

variable [Facts]

def fn {F : FTy → Type} [FloatOps F] (main_arg0 : IVec S_ 32) (main_arg1 : FVec F S4x1x128x1024 .bf16) (main_arg2 : FVec F S3x1x128x1024 .bf16) (main_arg3 : FVec F S2x128x1024 .f32) (main_arg4 : FVec F S2x128x1024 .f32) (main_arg5 : FVec F S2x128x1024 .f32) (main_arg6 : FVec F S2x128x1024 .f32) (main_arg7 : FVec F S2x128x1024 .f32) (main_arg8 : FVec F S2x128x1024 .f32) (main_arg9 : FVec F S2x128x1024 .f32) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_chip_a_wqkv.lean ====
abbrev S_ : Shape := ⟨0, ![]⟩
abbrev S4x1x1024x384 : Shape := ⟨4, ![4, 1, 1024, 384]⟩
abbrev S3x1x1024x384 : Shape := ⟨4, ![3, 1, 1024, 384]⟩
abbrev S2x1024x384 : Shape := ⟨3, ![2, 1024, 384]⟩

class Facts : Prop where

variable [Facts]

def fn {F : FTy → Type} [FloatOps F] (main_arg0 : IVec S_ 32) (main_arg1 : FVec F S4x1x1024x384 .bf16) (main_arg2 : FVec F S3x1x1024x384 .bf16) (main_arg3 : FVec F S2x1024x384 .f32) (main_arg4 : FVec F S2x1024x384 .f32) (main_arg5 : FVec F S2x1024x384 .f32) (main_arg6 : FVec F S2x1024x384 .f32) (main_arg7 : FVec F S2x1024x384 .f32) (main_arg8 : FVec F S2x1024x384 .f32) (main_arg9 : FVec F S2x1024x384 .f32) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_chip_b_w.lean ====
abbrev S_ : Shape := ⟨0, ![]⟩
abbrev S4x2x128x1024 : Shape := ⟨4, ![4, 2, 128, 1024]⟩
abbrev S3x2x128x1024 : Shape := ⟨4, ![3, 2, 128, 1024]⟩
abbrev S2x128x1024 : Shape := ⟨3, ![2, 128, 1024]⟩

class Facts : Prop where

variable [Facts]

def fn {F : FTy → Type} [FloatOps F] (main_arg0 : IVec S_ 32) (main_arg1 : FVec F S4x2x128x1024 .bf16) (main_arg2 : FVec F S3x2x128x1024 .bf16) (main_arg3 : FVec F S2x128x1024 .f32) (main_arg4 : FVec F S2x128x1024 .f32) (main_arg5 : FVec F S2x128x1024 .f32) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_chip_mlp_down.lean ====
abbrev S_ : Shape := ⟨0, ![]⟩
abbrev S4x1x512x1024 : Shape := ⟨4, ![4, 1, 512, 1024]⟩
abbrev S3x1x512x1024 : Shape := ⟨4, ![3, 1, 512, 1024]⟩
abbrev S4x512x1024 : Shape := ⟨3, ![4, 512, 1024]⟩

class Facts : Prop where

variable [Facts]

def fn {F : FTy → Type} [FloatOps F] (main_arg0 : IVec S_ 32) (main_arg1 : FVec F S4x1x512x1024 .bf16) (main_arg2 : FVec F S3x1x512x1024 .bf16) (main_arg3 : FVec F S4x512x1024 .f32) (main_arg4 : FVec F S4x512x1024 .f32) (main_arg5 : FVec F S4x512x1024 .f32) (main_arg6 : FVec F S4x512x1024 .f32) (main_arg7 : FVec F S4x512x1024 .f32) (main_arg8 : FVec F S4x512x1024 .f32) (main_arg9 : FVec F S4x512x1024 .f32) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_chip_mlp_up.lean ====
abbrev S_ : Shape := ⟨0, ![]⟩
abbrev S4x1x1024x512 : Shape := ⟨4, ![4, 1, 1024, 512]⟩
abbrev S3x1x1024x512 : Shape := ⟨4, ![3, 1, 1024, 512]⟩
abbrev S4x1024x512 : Shape := ⟨3, ![4, 1024, 512]⟩

class Facts : Prop where

variable [Facts]

def fn {F : FTy → Type} [FloatOps F] (main_arg0 : IVec S_ 32) (main_arg1 : FVec F S4x1x1024x512 .bf16) (main_arg2 : FVec F S3x1x1024x512 .bf16) (main_arg3 : FVec F S4x1024x512 .f32) (main_arg4 : FVec F S4x1024x512 .f32) (main_arg5 : FVec F S4x1024x512 .f32) (main_arg6 : FVec F S4x1024x512 .f32) (main_arg7 : FVec F S4x1024x512 .f32) (main_arg8 : FVec F S4x1024x512 .f32) (main_arg9 : FVec F S4x1024x512 .f32) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Pre_chip_w_kv.lean ====
abbrev S_ : Shape := ⟨0, ![]⟩
abbrev S4x1x128x256 : Shape := ⟨4, ![4, 1, 128, 256]⟩
abbrev S3x1x128x256 : Shape := ⟨4, ![3, 1, 128, 256]⟩
abbrev S1x128x256 : Shape := ⟨3, ![1, 128, 256]⟩

class Facts : Prop where

variable [Facts]

def fn {F : FTy → Type} [FloatOps F] (main_arg0 : IVec S_ 32) (main_arg1 : FVec F S4x1x128x256 .bf16) (main_arg2 : FVec F S3x1x128x256 .bf16) (main_arg3 : FVec F S1x128x256 .f32) (main_arg4 : FVec F S1x128x256 .f32) (main_arg5 : FVec F S1x128x256 .f32) : IVec S_ 1 :=
  let main_c : IVec S_ 32 := constantI S_ 32 0#32
  let main_v0 : IVec S_ 1 := cmpi .sge main_arg0 main_c
  let main_c_0 : IVec S_ 32 := constantI S_ 32 4#32
  let main_v1 : IVec S_ 1 := cmpi .slt main_arg0 main_c_0
  let main_v2 : IVec S_ 1 := andi main_v0 main_v1
  main_v2
-- ==== Kernel.lean ====
abbrev S48x64x4096 : Shape := ⟨3, ![48, 64, 4096]⟩
abbrev S16x64x4096 : Shape := ⟨3, ![16, 64, 4096]⟩
abbrev S16x32x4096 : Shape := ⟨3, ![16, 32, 4096]⟩
abbrev S136x256 : Shape := ⟨2, ![136, 256]⟩
abbrev S3x16x64x4096 : Shape := ⟨4, ![3, 16, 64, 4096]⟩
abbrev S1x64x4096 : Shape := ⟨3, ![1, 64, 4096]⟩
abbrev S1x32x4096 : Shape := ⟨3, ![1, 32, 4096]⟩
abbrev S3x1x64x4096 : Shape := ⟨4, ![3, 1, 64, 4096]⟩
abbrev S64x512 : Shape := ⟨2, ![64, 512]⟩
abbrev S64x4096 : Shape := ⟨2, ![64, 4096]⟩
abbrev S2x256x512 : Shape := ⟨3, ![2, 256, 512]⟩
abbrev S128x256 : Shape := ⟨2, ![128, 256]⟩
abbrev S8x512 : Shape := ⟨2, ![8, 512]⟩
abbrev S1x64x512 : Shape := ⟨3, ![1, 64, 512]⟩
abbrev S1x32x512 : Shape := ⟨3, ![1, 32, 512]⟩
abbrev S32x512 : Shape := ⟨2, ![32, 512]⟩
abbrev S32 : Shape := ⟨1, ![32]⟩
abbrev S32x1 : Shape := ⟨2, ![32, 1]⟩
abbrev S1x32x1 : Shape := ⟨3, ![1, 32, 1]⟩
abbrev S1 : Shape := ⟨1, ![1]⟩
abbrev S1x1x1 : Shape := ⟨3, ![1, 1, 1]⟩
abbrev S1x64x256 : Shape := ⟨3, ![1, 64, 256]⟩
abbrev S64x256 : Shape := ⟨2, ![64, 256]⟩
abbrev S256x512 : Shape := ⟨2, ![256, 512]⟩
abbrev S1x256x512 : Shape := ⟨3, ![1, 256, 512]⟩
abbrev S1x512 : Shape := ⟨2, ![1, 512]⟩
abbrev S128x512 : Shape := ⟨2, ![128, 512]⟩
abbrev S1x8x512 : Shape := ⟨3, ![1, 8, 512]⟩
abbrev S512 : Shape := ⟨1, ![512]⟩
abbrev S136x512 : Shape := ⟨2, ![136, 512]⟩
abbrev S1x1x64x4096 : Shape := ⟨4, ![1, 1, 64, 4096]⟩
abbrev S1x1x64x512 : Shape := ⟨4, ![1, 1, 64, 512]⟩

abbrev nBuf : Space → Nat
  | .hbm => 6
  | .vmem => 21
  | .smem => 0
  | _ => 0

abbrev bufTy : (tb : Table) → Fin (tcTables nBuf tb) → BufTy
  | .hbm, ⟨0, _⟩ => ⟨S48x64x4096, .bf16⟩
  | .hbm, ⟨1, _⟩ => ⟨S16x64x4096, .bf16⟩
  | .hbm, ⟨2, _⟩ => ⟨S16x32x4096, .f32⟩
  | .hbm, ⟨3, _⟩ => ⟨S136x256, .bf16⟩
  | .hbm, ⟨4, _⟩ => ⟨S136x256, .bf16⟩
  | .hbm, ⟨5, _⟩ => ⟨S3x16x64x4096, .bf16⟩
  | .local _ .vmem, ⟨0, _⟩ => ⟨S1x64x4096, .bf16⟩
  | .local _ .vmem, ⟨1, _⟩ => ⟨S1x64x4096, .bf16⟩
  | .local _ .vmem, ⟨2, _⟩ => ⟨S1x64x4096, .bf16⟩
  | .local _ .vmem, ⟨3, _⟩ => ⟨S1x64x4096, .bf16⟩
  | .local _ .vmem, ⟨4, _⟩ => ⟨S1x64x4096, .bf16⟩
  | .local _ .vmem, ⟨5, _⟩ => ⟨S1x64x4096, .bf16⟩
  | .local _ .vmem, ⟨6, _⟩ => ⟨S1x64x4096, .bf16⟩
  | .local _ .vmem, ⟨7, _⟩ => ⟨S1x64x4096, .bf16⟩
  | .local _ .vmem, ⟨8, _⟩ => ⟨S1x32x4096, .f32⟩
  | .local _ .vmem, ⟨9, _⟩ => ⟨S1x32x4096, .f32⟩
  | .local _ .vmem, ⟨10, _⟩ => ⟨S136x256, .bf16⟩
  | .local _ .vmem, ⟨11, _⟩ => ⟨S136x256, .bf16⟩
  | .local _ .vmem, ⟨12, _⟩ => ⟨S3x1x64x4096, .bf16⟩
  | .local _ .vmem, ⟨13, _⟩ => ⟨S3x1x64x4096, .bf16⟩
  | .local _ .vmem, ⟨14, _⟩ => ⟨S64x512, .f32⟩
  | .local _ .vmem, ⟨15, _⟩ => ⟨S64x4096, .f32⟩
  | .local _ .vmem, ⟨16, _⟩ => ⟨S64x4096, .f32⟩
  | .local _ .vmem, ⟨17, _⟩ => ⟨S2x256x512, .f32⟩
  | .local _ .vmem, ⟨18, _⟩ => ⟨S2x256x512, .f32⟩
  | .local _ .vmem, ⟨19, _⟩ => ⟨S2x256x512, .bf16⟩
  | .local _ .vmem, ⟨20, _⟩ => ⟨S2x256x512, .bf16⟩
  | _, _ => ⟨S48x64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_8 : BitVec 32 := 0#32
  let c8_i32 : BitVec 32 := 8#32
  let v12 : BitVec 32 := Scalar.addi c0_i32_8 c8_i32
  let c1_i32 : BitVec 32 := 1#32
  ⟨c0_i32_8, v12, c1_i32⟩
def k0_mult1 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c512_i32 : BitVec 32 := 512#32
  let v23 : BitVec 32 := Scalar.muli arg16 c512_i32
  v23
def k0_off1 (k0_t1 : Fin k0_t1_loop.trips) : Fin 3 → Nat :=
  let c0_20 : Index := 0#32
  let c0_21 : Index := 0#32
  let c0_i32_8 : BitVec 32 := 0#32
  let c1_i32 : BitVec 32 := 1#32
  let arg16 : BitVec 32 := Scf.iv c0_i32_8 c1_i32 k0_t1
  let c512_i32 : BitVec 32 := 512#32
  let v23 : BitVec 32 := Scalar.muli arg16 c512_i32
  let v24 : BitVec 32 := v23
  let v25 : Index := Scalar.indexCast v24
  ![0, 0, v25.toNat]
def k0_off2 (k0_t1 : Fin k0_t1_loop.trips) : Fin 3 → Nat :=
  let c0_28 : Index := 0#32
  let c0_29 : Index := 0#32
  let c0_i32_8 : BitVec 32 := 0#32
  let c1_i32 : BitVec 32 := 1#32
  let arg16 : BitVec 32 := Scf.iv c0_i32_8 c1_i32 k0_t1
  let c512_i32 : BitVec 32 := 512#32
  let v23 : BitVec 32 := Scalar.muli arg16 c512_i32
  let v24 : BitVec 32 := v23
  let v39 : Index := Scalar.indexCast v24
  ![0, 0, v39.toNat]
def k0_mult2 (k0_t1 : Fin k0_t1_loop.trips) (v53 : BitVec 32) : BitVec 32 :=
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c128_i32 : BitVec 32 := 128#32
  let v88 : BitVec 32 := Scalar.muli v87 c128_i32
  v88

def k0_off3 (k0_t1 : Fin k0_t1_loop.trips) (v53 : BitVec 32) : Fin 3 → Nat :=
  let c0_53 : Index := 0#32
  let c0_54 : Index := 0#32
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c128_i32 : BitVec 32 := 128#32
  let v88 : BitVec 32 := Scalar.muli v87 c128_i32
  let v89 : BitVec 32 := v88
  let v90 : Index := Scalar.indexCast v89
  ![0, 0, v90.toNat]
def k0_off4 (k0_t1 : Fin k0_t1_loop.trips) (v53 : BitVec 32) : Fin 3 → Nat :=
  let c2_i32_43 : BitVec 32 := 2#32
  let c0_i32_8 : BitVec 32 := 0#32
  let c1_i32 : BitVec 32 := 1#32
  let arg16 : BitVec 32 := Scf.iv c0_i32_8 c1_i32 k0_t1
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c2_i32_45 : BitVec 32 := 2#32
  let c0_i32_46 : BitVec 32 := 0#32
  let v75 : BitVec 1 := Scalar.cmpi .eq c2_i32_45 c0_i32_46
  let c1_i32_47 : BitVec 32 := 1#32
  let v76 : BitVec 32 := Scalar.select v75 c1_i32_47 c2_i32_45
  let v77 : BitVec 32 := Scalar.remsi v74 v76
  let c0_i32_49 : BitVec 32 := 0#32
  let v79 : BitVec 1 := Scalar.cmpi .slt v77 c0_i32_49
  let c0_i32_50 : BitVec 32 := 0#32
  let v80 : BitVec 1 := Scalar.cmpi .slt v76 c0_i32_50
  let v81 : BitVec 1 := Scalar.xori v79 v80
  let c0_i32_48 : BitVec 32 := 0#32
  let v78 : BitVec 1 := Scalar.cmpi .ne v77 c0_i32_48
  let v82 : BitVec 1 := Scalar.andi v81 v78
  let v83 : BitVec 32 := Scalar.addi v77 v76
  let v84 : BitVec 32 := Scalar.select v82 v83 v77
  let v96 : Index := Scalar.indexCast v84
  let c0_57 : Index := 0#32
  let c0_58 : Index := 0#32
  ![v96.toNat, 0, 0]
def k0_mult3 (k0_t1 : Fin k0_t1_loop.trips) (v53 : BitVec 32) : BitVec 32 :=
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c128_i32_59 : BitVec 32 := 128#32
  let v100 : BitVec 32 := Scalar.muli v87 c128_i32_59
  v100
def k0_mult4 (k0_t1 : Fin k0_t1_loop.trips) (v53 : BitVec 32) : BitVec 32 :=
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c2_i32_302 : BitVec 32 := 2#32
  let v596 : BitVec 32 := Scalar.addi v87 c2_i32_302
  let c4_i32 : BitVec 32 := 4#32
  let v37 : BitVec 32 := Scalar.muli arg16 c4_i32
  let c2_i32 : BitVec 32 := 2#32
  let v38 : BitVec 32 := Scalar.addi v37 c2_i32
  let v597 : BitVec 32 := Scalar.minsi v596 v38
  let c128_i32_303 : BitVec 32 := 128#32
  let v598 : BitVec 32 := Scalar.muli v597 c128_i32_303
  v598
def k0_cond1 (k0_t1 : Fin k0_t1_loop.trips) (v53 : BitVec 32) : BitVec 1 :=
  let c2_i32_43 : BitVec 32 := 2#32
  let c0_i32_8 : BitVec 32 := 0#32
  let c1_i32 : BitVec 32 := 1#32
  let arg16 : BitVec 32 := Scf.iv c0_i32_8 c1_i32 k0_t1
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c2_i32_45 : BitVec 32 := 2#32
  let c0_i32_46 : BitVec 32 := 0#32
  let v75 : BitVec 1 := Scalar.cmpi .eq c2_i32_45 c0_i32_46
  let c1_i32_47 : BitVec 32 := 1#32
  let v76 : BitVec 32 := Scalar.select v75 c1_i32_47 c2_i32_45
  let v77 : BitVec 32 := Scalar.remsi v74 v76
  let c0_i32_49 : BitVec 32 := 0#32
  let v79 : BitVec 1 := Scalar.cmpi .slt v77 c0_i32_49
  let c0_i32_50 : BitVec 32 := 0#32
  let v80 : BitVec 1 := Scalar.cmpi .slt v76 c0_i32_50
  let v81 : BitVec 1 := Scalar.xori v79 v80
  let c0_i32_48 : BitVec 32 := 0#32
  let v78 : BitVec 1 := Scalar.cmpi .ne v77 c0_i32_48
  let v82 : BitVec 1 := Scalar.andi v81 v78
  let v83 : BitVec 32 := Scalar.addi v77 v76
  let v84 : BitVec 32 := Scalar.select v82 v83 v77
  let c1_i32_73 : BitVec 32 := 1#32
  let v118 : BitVec 1 := Scalar.cmpi .eq v84 c1_i32_73
  let v120 : BitVec 32 := Scalar.extui v118
  let c0_i32_75 : BitVec 32 := 0#32
  let v121 : BitVec 1 := Scalar.cmpi .ne v120 c0_i32_75
  v121

def k0_off5 (k0_t1 : Fin k0_t1_loop.trips) (v53 : BitVec 32) : Fin 3 → Nat :=
  let c0_304 : Index := 0#32
  let c0_305 : Index := 0#32
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c2_i32_302 : BitVec 32 := 2#32
  let v596 : BitVec 32 := Scalar.addi v87 c2_i32_302
  let c4_i32 : BitVec 32 := 4#32
  let v37 : BitVec 32 := Scalar.muli arg16 c4_i32
  let c2_i32 : BitVec 32 := 2#32
  let v38 : BitVec 32 := Scalar.addi v37 c2_i32
  let v597 : BitVec 32 := Scalar.minsi v596 v38
  let c128_i32_303 : BitVec 32 := 128#32
  let v598 : BitVec 32 := Scalar.muli v597 c128_i32_303
  let v599 : BitVec 32 := v598
  let v600 : Index := Scalar.indexCast v599
  ![0, 0, v600.toNat]
def k0_mult5 (k0_t1 : Fin k0_t1_loop.trips) (v53 : BitVec 32) : BitVec 32 :=
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c2_i32_302 : BitVec 32 := 2#32
  let v596 : BitVec 32 := Scalar.addi v87 c2_i32_302
  let c4_i32 : BitVec 32 := 4#32
  let v37 : BitVec 32 := Scalar.muli arg16 c4_i32
  let c2_i32 : BitVec 32 := 2#32
  let v38 : BitVec 32 := Scalar.addi v37 c2_i32
  let v597 : BitVec 32 := Scalar.minsi v596 v38
  let c128_i32_311 : BitVec 32 := 128#32
  let v609 : BitVec 32 := Scalar.muli v597 c128_i32_311
  v609
def k0_mult6 (k0_t1 : Fin k0_t1_loop.trips) (v53 : BitVec 32) : BitVec 32 :=
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c2_i32_318 : BitVec 32 := 2#32
  let v618 : BitVec 32 := Scalar.subi v87 c2_i32_318
  let v619 : BitVec 32 := Scalar.maxsi v618 v87
  let c128_i32_319 : BitVec 32 := 128#32
  let v620 : BitVec 32 := Scalar.muli v619 c128_i32_319
  v620
def k0_off6 (k0_t1 : Fin k0_t1_loop.trips) (v53 : BitVec 32) : Fin 3 → Nat :=
  let c0_322 : Index := 0#32
  let c0_323 : Index := 0#32
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c2_i32_318 : BitVec 32 := 2#32
  let v618 : BitVec 32 := Scalar.subi v87 c2_i32_318
  let v619 : BitVec 32 := Scalar.maxsi v618 v87
  let c128_i32_319 : BitVec 32 := 128#32
  let v620 : BitVec 32 := Scalar.muli v619 c128_i32_319
  let v621 : BitVec 32 := v620
  let v623 : Index := Scalar.indexCast v621
  ![0, 0, v623.toNat]
def k0_off7 (k0_t1 : Fin k0_t1_loop.trips) (v53 : BitVec 32) : Fin 2 → Nat :=
  let c0_330 : Index := 0#32
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c2_i32_318 : BitVec 32 := 2#32
  let v618 : BitVec 32 := Scalar.subi v87 c2_i32_318
  let v619 : BitVec 32 := Scalar.maxsi v618 v87
  let c128_i32_319 : BitVec 32 := 128#32
  let v620 : BitVec 32 := Scalar.muli v619 c128_i32_319
  let v621 : BitVec 32 := v620
  let v633 : Index := Scalar.indexCast v621
  ![0, v633.toNat]
def k0_mult7 (k0_t1 : Fin k0_t1_loop.trips) (v53 : BitVec 32) : BitVec 32 :=
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c0_i32_349 : BitVec 32 := 0#32
  let v680 : BitVec 1 := Scalar.cmpi .sgt v87 c0_i32_349
  let v681 : BitVec 32 := Scalar.extui v680
  let c0_i32_350 : BitVec 32 := 0#32
  let v682 : BitVec 1 := Scalar.cmpi .slt v87 c0_i32_350
  let v683 : BitVec 32 := Scalar.extui v682
  let v684 : BitVec 32 := Scalar.subi v681 v683
  let c8_i32_348 : BitVec 32 := 8#32
  let c0_i32_351 : BitVec 32 := 0#32
  let v685 : BitVec 1 := Scalar.cmpi .sgt c8_i32_348 c0_i32_351
  let v686 : BitVec 32 := Scalar.extui v685
  let c0_i32_352 : BitVec 32 := 0#32
  let v687 : BitVec 1 := Scalar.cmpi .slt c8_i32_348 c0_i32_352
  let v688 : BitVec 32 := Scalar.extui v687
  let v689 : BitVec 32 := Scalar.subi v686 v688
  let v690 : BitVec 1 := Scalar.cmpi .ne v684 v689
  let v691 : BitVec 32 := Scalar.remsi v87 c8_i32_348
  let c0_i32_353 : BitVec 32 := 0#32
  let v692 : BitVec 1 := Scalar.cmpi .ne v691 c0_i32_353
  let v693 : BitVec 1 := Scalar.andi v690 v692
  let v679 : BitVec 32 := Scalar.divsi v87 c8_i32_348
  let c1_i32_354 : BitVec 32 := 1#32
  let v694 : BitVec 32 := Scalar.subi v679 c1_i32_354
  let v695 : BitVec 32 := Scalar.select v693 v694 v679
  let c8_i32_355 : BitVec 32 := 8#32
  let v696 : BitVec 32 := Scalar.muli v695 c8_i32_355
  v696
def k0_off8 (k0_t1 : Fin k0_t1_loop.trips) (v53 : BitVec 32) : Fin 3 → Nat :=
  let c0_356 : Index := 0#32
  let c0_i32_8 : BitVec 32 := 0#32
  let c1_i32 : BitVec 32 := 1#32
  let arg16 : BitVec 32 := Scf.iv c0_i32_8 c1_i32 k0_t1
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let c0_i32_349 : BitVec 32 := 0#32
  let v680 : BitVec 1 := Scalar.cmpi .sgt v87 c0_i32_349
  let v681 : BitVec 32 := Scalar.extui v680
  let c0_i32_350 : BitVec 32 := 0#32
  let v682 : BitVec 1 := Scalar.cmpi .slt v87 c0_i32_350
  let v683 : BitVec 32 := Scalar.extui v682
  let v684 : BitVec 32 := Scalar.subi v681 v683
  let c8_i32_348 : BitVec 32 := 8#32
  let c0_i32_351 : BitVec 32 := 0#32
  let v685 : BitVec 1 := Scalar.cmpi .sgt c8_i32_348 c0_i32_351
  let v686 : BitVec 32 := Scalar.extui v685
  let c0_i32_352 : BitVec 32 := 0#32
  let v687 : BitVec 1 := Scalar.cmpi .slt c8_i32_348 c0_i32_352
  let v688 : BitVec 32 := Scalar.extui v687
  let v689 : BitVec 32 := Scalar.subi v686 v688
  let v690 : BitVec 1 := Scalar.cmpi .ne v684 v689
  let v691 : BitVec 32 := Scalar.remsi v87 c8_i32_348
  let c0_i32_353 : BitVec 32 := 0#32
  let v692 : BitVec 1 := Scalar.cmpi .ne v691 c0_i32_353
  let v693 : BitVec 1 := Scalar.andi v690 v692
  let v679 : BitVec 32 := Scalar.divsi v87 c8_i32_348
  let c1_i32_354 : BitVec 32 := 1#32
  let v694 : BitVec 32 := Scalar.subi v679 c1_i32_354
  let v695 : BitVec 32 := Scalar.select v693 v694 v679
  let c8_i32_355 : BitVec 32 := 8#32
  let v696 : BitVec 32 := Scalar.muli v695 c8_i32_355
  let v697 : BitVec 32 := v696
  let v698 : Index := Scalar.indexCast v697
  let c512_i32 : BitVec 32 := 512#32
  let v23 : BitVec 32 := Scalar.muli arg16 c512_i32
  let v24 : BitVec 32 := v23
  let v699 : Index := Scalar.indexCast v24
  ![0, v698.toNat, v699.toNat]
@[reducible] def k0_t2_loop (k0_t1 : Fin k0_t1_loop.trips) (v53 : BitVec 32) : Scf.Loop 32 :=
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_84 : BitVec 32 := 1#32
  ⟨v140, v145, c1_i32_84⟩
def k0_mult8 (k0_t1 : Fin k0_t1_loop.trips) (v53 : BitVec 32) (k0_t2 : Fin (k0_t2_loop k0_t1 v53).trips) : BitVec 32 :=
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v592 : BitVec 32 := Scalar.muli c4_i32_296 arg17
  let c2_i32_303 : BitVec 32 := 2#32
  let v597 : BitVec 32 := Scalar.addi v592 c2_i32_303
  let c4_i32 : BitVec 32 := 4#32
  let v37 : BitVec 32 := Scalar.muli arg16 c4_i32
  let c2_i32 : BitVec 32 := 2#32
  let v38 : BitVec 32 := Scalar.addi v37 c2_i32
  let v598 : BitVec 32 := Scalar.minsi v597 v38
  let c128_i32_304 : BitVec 32 := 128#32
  let v599 : BitVec 32 := Scalar.muli v598 c128_i32_304
  v599
def k0_off9 (k0_t1 : Fin k0_t1_loop.trips) (v53 : BitVec 32) (k0_t2 : Fin (k0_t2_loop k0_t1 v53).trips) : Fin 3 → Nat :=
  let c0_305 : Index := 0#32
  let c0_306 : Index := 0#32
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v592 : BitVec 32 := Scalar.muli c4_i32_296 arg17
  let c2_i32_303 : BitVec 32 := 2#32
  let v597 : BitVec 32 := Scalar.addi v592 c2_i32_303
  let c4_i32 : BitVec 32 := 4#32
  let v37 : BitVec 32 := Scalar.muli arg16 c4_i32
  let c2_i32 : BitVec 32 := 2#32
  let v38 : BitVec 32 := Scalar.addi v37 c2_i32
  let v598 : BitVec 32 := Scalar.minsi v597 v38
  let c128_i32_304 : BitVec 32 := 128#32
  let v599 : BitVec 32 := Scalar.muli v598 c128_i32_304
  let v600 : BitVec 32 := v599
  let v601 : Index := Scalar.indexCast v600
  ![0, 0, v601.toNat]
def k0_mult9 (k0_t1 : Fin k0_t1_loop.trips) (v53 : BitVec 32) (k0_t2 : Fin (k0_t2_loop k0_t1 v53).trips) : BitVec 32 :=
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v592 : BitVec 32 := Scalar.muli c4_i32_296 arg17
  let c2_i32_303 : BitVec 32 := 2#32
  let v597 : BitVec 32 := Scalar.addi v592 c2_i32_303
  let c4_i32 : BitVec 32 := 4#32
  let v37 : BitVec 32 := Scalar.muli arg16 c4_i32
  let c2_i32 : BitVec 32 := 2#32
  let v38 : BitVec 32 := Scalar.addi v37 c2_i32
  let v598 : BitVec 32 := Scalar.minsi v597 v38
  let c128_i32_312 : BitVec 32 := 128#32
  let v610 : BitVec 32 := Scalar.muli v598 c128_i32_312
  v610
def k0_mult10 (k0_t1 : Fin k0_t1_loop.trips) (v53 : BitVec 32) (k0_t2 : Fin (k0_t2_loop k0_t1 v53).trips) : BitVec 32 :=
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v592 : BitVec 32 := Scalar.muli c4_i32_296 arg17
  let c2_i32_319 : BitVec 32 := 2#32
  let v619 : BitVec 32 := Scalar.subi v592 c2_i32_319
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v620 : BitVec 32 := Scalar.maxsi v619 v87
  let c128_i32_320 : BitVec 32 := 128#32
  let v621 : BitVec 32 := Scalar.muli v620 c128_i32_320
  v621
def k0_off10 (k0_t1 : Fin k0_t1_loop.trips) (v53 : BitVec 32) (k0_t2 : Fin (k0_t2_loop k0_t1 v53).trips) : Fin 3 → Nat :=
  let c0_323 : Index := 0#32
  let c0_324 : Index := 0#32
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v592 : BitVec 32 := Scalar.muli c4_i32_296 arg17
  let c2_i32_319 : BitVec 32 := 2#32
  let v619 : BitVec 32 := Scalar.subi v592 c2_i32_319
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v620 : BitVec 32 := Scalar.maxsi v619 v87
  let c128_i32_320 : BitVec 32 := 128#32
  let v621 : BitVec 32 := Scalar.muli v620 c128_i32_320
  let v622 : BitVec 32 := v621
  let v624 : Index := Scalar.indexCast v622
  ![0, 0, v624.toNat]
def k0_off11 (k0_t1 : Fin k0_t1_loop.trips) (v53 : BitVec 32) (k0_t2 : Fin (k0_t2_loop k0_t1 v53).trips) : Fin 2 → Nat :=
  let c0_331 : Index := 0#32
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v592 : BitVec 32 := Scalar.muli c4_i32_296 arg17
  let c2_i32_319 : BitVec 32 := 2#32
  let v619 : BitVec 32 := Scalar.subi v592 c2_i32_319
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v620 : BitVec 32 := Scalar.maxsi v619 v87
  let c128_i32_320 : BitVec 32 := 128#32
  let v621 : BitVec 32 := Scalar.muli v620 c128_i32_320
  let v622 : BitVec 32 := v621
  let v634 : Index := Scalar.indexCast v622
  ![0, v634.toNat]
def k0_mult11 (k0_t1 : Fin k0_t1_loop.trips) (v53 : BitVec 32) (k0_t2 : Fin (k0_t2_loop k0_t1 v53).trips) : BitVec 32 :=
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v592 : BitVec 32 := Scalar.muli c4_i32_296 arg17
  let c0_i32_350 : BitVec 32 := 0#32
  let v681 : BitVec 1 := Scalar.cmpi .sgt v592 c0_i32_350
  let v682 : BitVec 32 := Scalar.extui v681
  let c0_i32_351 : BitVec 32 := 0#32
  let v683 : BitVec 1 := Scalar.cmpi .slt v592 c0_i32_351
  let v684 : BitVec 32 := Scalar.extui v683
  let v685 : BitVec 32 := Scalar.subi v682 v684
  let c8_i32_349 : BitVec 32 := 8#32
  let c0_i32_352 : BitVec 32 := 0#32
  let v686 : BitVec 1 := Scalar.cmpi .sgt c8_i32_349 c0_i32_352
  let v687 : BitVec 32 := Scalar.extui v686
  let c0_i32_353 : BitVec 32 := 0#32
  let v688 : BitVec 1 := Scalar.cmpi .slt c8_i32_349 c0_i32_353
  let v689 : BitVec 32 := Scalar.extui v688
  let v690 : BitVec 32 := Scalar.subi v687 v689
  let v691 : BitVec 1 := Scalar.cmpi .ne v685 v690
  let v692 : BitVec 32 := Scalar.remsi v592 c8_i32_349
  let c0_i32_354 : BitVec 32 := 0#32
  let v693 : BitVec 1 := Scalar.cmpi .ne v692 c0_i32_354
  let v694 : BitVec 1 := Scalar.andi v691 v693
  let v680 : BitVec 32 := Scalar.divsi v592 c8_i32_349
  let c1_i32_355 : BitVec 32 := 1#32
  let v695 : BitVec 32 := Scalar.subi v680 c1_i32_355
  let v696 : BitVec 32 := Scalar.select v694 v695 v680
  let c8_i32_356 : BitVec 32 := 8#32
  let v697 : BitVec 32 := Scalar.muli v696 c8_i32_356
  v697
def k0_off12 (k0_t1 : Fin k0_t1_loop.trips) (v53 : BitVec 32) (k0_t2 : Fin (k0_t2_loop k0_t1 v53).trips) : Fin 3 → Nat :=
  let c0_357 : Index := 0#32
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v592 : BitVec 32 := Scalar.muli c4_i32_296 arg17
  let c0_i32_350 : BitVec 32 := 0#32
  let v681 : BitVec 1 := Scalar.cmpi .sgt v592 c0_i32_350
  let v682 : BitVec 32 := Scalar.extui v681
  let c0_i32_351 : BitVec 32 := 0#32
  let v683 : BitVec 1 := Scalar.cmpi .slt v592 c0_i32_351
  let v684 : BitVec 32 := Scalar.extui v683
  let v685 : BitVec 32 := Scalar.subi v682 v684
  let c8_i32_349 : BitVec 32 := 8#32
  let c0_i32_352 : BitVec 32 := 0#32
  let v686 : BitVec 1 := Scalar.cmpi .sgt c8_i32_349 c0_i32_352
  let v687 : BitVec 32 := Scalar.extui v686
  let c0_i32_353 : BitVec 32 := 0#32
  let v688 : BitVec 1 := Scalar.cmpi .slt c8_i32_349 c0_i32_353
  let v689 : BitVec 32 := Scalar.extui v688
  let v690 : BitVec 32 := Scalar.subi v687 v689
  let v691 : BitVec 1 := Scalar.cmpi .ne v685 v690
  let v692 : BitVec 32 := Scalar.remsi v592 c8_i32_349
  let c0_i32_354 : BitVec 32 := 0#32
  let v693 : BitVec 1 := Scalar.cmpi .ne v692 c0_i32_354
  let v694 : BitVec 1 := Scalar.andi v691 v693
  let v680 : BitVec 32 := Scalar.divsi v592 c8_i32_349
  let c1_i32_355 : BitVec 32 := 1#32
  let v695 : BitVec 32 := Scalar.subi v680 c1_i32_355
  let v696 : BitVec 32 := Scalar.select v694 v695 v680
  let c8_i32_356 : BitVec 32 := 8#32
  let v697 : BitVec 32 := Scalar.muli v696 c8_i32_356
  let v698 : BitVec 32 := v697
  let v699 : Index := Scalar.indexCast v698
  let c512_i32 : BitVec 32 := 512#32
  let v23 : BitVec 32 := Scalar.muli arg16 c512_i32
  let v24 : BitVec 32 := v23
  let v700 : Index := Scalar.indexCast v24
  ![0, v699.toNat, v700.toNat]
def k0_mult12 (k0_t1 : Fin k0_t1_loop.trips) (v53 : BitVec 32) (k0_t2 : Fin (k0_t2_loop k0_t1 v53).trips) : BitVec 32 :=
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v784 : BitVec 32 := Scalar.muli c4_i32_383 arg17
  let c2_i32_384 : BitVec 32 := 2#32
  let v785 : BitVec 32 := Scalar.addi v784 c2_i32_384
  let c2_i32_391 : BitVec 32 := 2#32
  let v790 : BitVec 32 := Scalar.addi v785 c2_i32_391
  let c4_i32 : BitVec 32 := 4#32
  let v37 : BitVec 32 := Scalar.muli arg16 c4_i32
  let c2_i32 : BitVec 32 := 2#32
  let v38 : BitVec 32 := Scalar.addi v37 c2_i32
  let v791 : BitVec 32 := Scalar.minsi v790 v38
  let c128_i32_392 : BitVec 32 := 128#32
  let v792 : BitVec 32 := Scalar.muli v791 c128_i32_392
  v792
def k0_off13 (k0_t1 : Fin k0_t1_loop.trips) (v53 : BitVec 32) (k0_t2 : Fin (k0_t2_loop k0_t1 v53).trips) : Fin 3 → Nat :=
  let c0_393 : Index := 0#32
  let c0_394 : Index := 0#32
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v784 : BitVec 32 := Scalar.muli c4_i32_383 arg17
  let c2_i32_384 : BitVec 32 := 2#32
  let v785 : BitVec 32 := Scalar.addi v784 c2_i32_384
  let c2_i32_391 : BitVec 32 := 2#32
  let v790 : BitVec 32 := Scalar.addi v785 c2_i32_391
  let c4_i32 : BitVec 32 := 4#32
  let v37 : BitVec 32 := Scalar.muli arg16 c4_i32
  let c2_i32 : BitVec 32 := 2#32
  let v38 : BitVec 32 := Scalar.addi v37 c2_i32
  let v791 : BitVec 32 := Scalar.minsi v790 v38
  let c128_i32_392 : BitVec 32 := 128#32
  let v792 : BitVec 32 := Scalar.muli v791 c128_i32_392
  let v793 : BitVec 32 := v792
  let v794 : Index := Scalar.indexCast v793
  ![0, 0, v794.toNat]
def k0_mult13 (k0_t1 : Fin k0_t1_loop.trips) (v53 : BitVec 32) (k0_t2 : Fin (k0_t2_loop k0_t1 v53).trips) : BitVec 32 :=
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v784 : BitVec 32 := Scalar.muli c4_i32_383 arg17
  let c2_i32_384 : BitVec 32 := 2#32
  let v785 : BitVec 32 := Scalar.addi v784 c2_i32_384
  let c2_i32_391 : BitVec 32 := 2#32
  let v790 : BitVec 32 := Scalar.addi v785 c2_i32_391
  let c4_i32 : BitVec 32 := 4#32
  let v37 : BitVec 32 := Scalar.muli arg16 c4_i32
  let c2_i32 : BitVec 32 := 2#32
  let v38 : BitVec 32 := Scalar.addi v37 c2_i32
  let v791 : BitVec 32 := Scalar.minsi v790 v38
  let c128_i32_400 : BitVec 32 := 128#32
  let v803 : BitVec 32 := Scalar.muli v791 c128_i32_400
  v803
def k0_mult14 (k0_t1 : Fin k0_t1_loop.trips) (v53 : BitVec 32) (k0_t2 : Fin (k0_t2_loop k0_t1 v53).trips) : BitVec 32 :=
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v784 : BitVec 32 := Scalar.muli c4_i32_383 arg17
  let c2_i32_384 : BitVec 32 := 2#32
  let v785 : BitVec 32 := Scalar.addi v784 c2_i32_384
  let c2_i32_407 : BitVec 32 := 2#32
  let v812 : BitVec 32 := Scalar.subi v785 c2_i32_407
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v813 : BitVec 32 := Scalar.maxsi v812 v87
  let c128_i32_408 : BitVec 32 := 128#32
  let v814 : BitVec 32 := Scalar.muli v813 c128_i32_408
  v814
def k0_off14 (k0_t1 : Fin k0_t1_loop.trips) (v53 : BitVec 32) (k0_t2 : Fin (k0_t2_loop k0_t1 v53).trips) : Fin 3 → Nat :=
  let c0_411 : Index := 0#32
  let c0_412 : Index := 0#32
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v784 : BitVec 32 := Scalar.muli c4_i32_383 arg17
  let c2_i32_384 : BitVec 32 := 2#32
  let v785 : BitVec 32 := Scalar.addi v784 c2_i32_384
  let c2_i32_407 : BitVec 32 := 2#32
  let v812 : BitVec 32 := Scalar.subi v785 c2_i32_407
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v813 : BitVec 32 := Scalar.maxsi v812 v87
  let c128_i32_408 : BitVec 32 := 128#32
  let v814 : BitVec 32 := Scalar.muli v813 c128_i32_408
  let v815 : BitVec 32 := v814
  let v817 : Index := Scalar.indexCast v815
  ![0, 0, v817.toNat]
def k0_off15 (k0_t1 : Fin k0_t1_loop.trips) (v53 : BitVec 32) (k0_t2 : Fin (k0_t2_loop k0_t1 v53).trips) : Fin 2 → Nat :=
  let c0_419 : Index := 0#32
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v784 : BitVec 32 := Scalar.muli c4_i32_383 arg17
  let c2_i32_384 : BitVec 32 := 2#32
  let v785 : BitVec 32 := Scalar.addi v784 c2_i32_384
  let c2_i32_407 : BitVec 32 := 2#32
  let v812 : BitVec 32 := Scalar.subi v785 c2_i32_407
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v813 : BitVec 32 := Scalar.maxsi v812 v87
  let c128_i32_408 : BitVec 32 := 128#32
  let v814 : BitVec 32 := Scalar.muli v813 c128_i32_408
  let v815 : BitVec 32 := v814
  let v827 : Index := Scalar.indexCast v815
  ![0, v827.toNat]
def k0_mult15 (k0_t1 : Fin k0_t1_loop.trips) (v53 : BitVec 32) (k0_t2 : Fin (k0_t2_loop k0_t1 v53).trips) : BitVec 32 :=
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v784 : BitVec 32 := Scalar.muli c4_i32_383 arg17
  let c2_i32_384 : BitVec 32 := 2#32
  let v785 : BitVec 32 := Scalar.addi v784 c2_i32_384
  let c0_i32_438 : BitVec 32 := 0#32
  let v874 : BitVec 1 := Scalar.cmpi .sgt v785 c0_i32_438
  let v875 : BitVec 32 := Scalar.extui v874
  let c0_i32_439 : BitVec 32 := 0#32
  let v876 : BitVec 1 := Scalar.cmpi .slt v785 c0_i32_439
  let v877 : BitVec 32 := Scalar.extui v876
  let v878 : BitVec 32 := Scalar.subi v875 v877
  let c8_i32_437 : BitVec 32 := 8#32
  let c0_i32_440 : BitVec 32 := 0#32
  let v879 : BitVec 1 := Scalar.cmpi .sgt c8_i32_437 c0_i32_440
  let v880 : BitVec 32 := Scalar.extui v879
  let c0_i32_441 : BitVec 32 := 0#32
  let v881 : BitVec 1 := Scalar.cmpi .slt c8_i32_437 c0_i32_441
  let v882 : BitVec 32 := Scalar.extui v881
  let v883 : BitVec 32 := Scalar.subi v880 v882
  let v884 : BitVec 1 := Scalar.cmpi .ne v878 v883
  let v885 : BitVec 32 := Scalar.remsi v785 c8_i32_437
  let c0_i32_442 : BitVec 32 := 0#32
  let v886 : BitVec 1 := Scalar.cmpi .ne v885 c0_i32_442
  let v887 : BitVec 1 := Scalar.andi v884 v886
  let v873 : BitVec 32 := Scalar.divsi v785 c8_i32_437
  let c1_i32_443 : BitVec 32 := 1#32
  let v888 : BitVec 32 := Scalar.subi v873 c1_i32_443
  let v889 : BitVec 32 := Scalar.select v887 v888 v873
  let c8_i32_444 : BitVec 32 := 8#32
  let v890 : BitVec 32 := Scalar.muli v889 c8_i32_444
  v890
def k0_off16 (k0_t1 : Fin k0_t1_loop.trips) (v53 : BitVec 32) (k0_t2 : Fin (k0_t2_loop k0_t1 v53).trips) : Fin 3 → Nat :=
  let c0_445 : Index := 0#32
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let c1_i32_84 : BitVec 32 := 1#32
  let arg17 : BitVec 32 := Scf.iv v140 c1_i32_84 k0_t2
  let v784 : BitVec 32 := Scalar.muli c4_i32_383 arg17
  let c2_i32_384 : BitVec 32 := 2#32
  let v785 : BitVec 32 := Scalar.addi v784 c2_i32_384
  let c0_i32_438 : BitVec 32 := 0#32
  let v874 : BitVec 1 := Scalar.cmpi .sgt v785 c0_i32_438
  let v875 : BitVec 32 := Scalar.extui v874
  let c0_i32_439 : BitVec 32 := 0#32
  let v876 : BitVec 1 := Scalar.cmpi .slt v785 c0_i32_439
  let v877 : BitVec 32 := Scalar.extui v876
  let v878 : BitVec 32 := Scalar.subi v875 v877
  let c8_i32_437 : BitVec 32 := 8#32
  let c0_i32_440 : BitVec 32 := 0#32
  let v879 : BitVec 1 := Scalar.cmpi .sgt c8_i32_437 c0_i32_440
  let v880 : BitVec 32 := Scalar.extui v879
  let c0_i32_441 : BitVec 32 := 0#32
  let v881 : BitVec 1 := Scalar.cmpi .slt c8_i32_437 c0_i32_441
  let v882 : BitVec 32 := Scalar.extui v881
  let v883 : BitVec 32 := Scalar.subi v880 v882
  let v884 : BitVec 1 := Scalar.cmpi .ne v878 v883
  let v885 : BitVec 32 := Scalar.remsi v785 c8_i32_437
  let c0_i32_442 : BitVec 32 := 0#32
  let v886 : BitVec 1 := Scalar.cmpi .ne v885 c0_i32_442
  let v887 : BitVec 1 := Scalar.andi v884 v886
  let v873 : BitVec 32 := Scalar.divsi v785 c8_i32_437
  let c1_i32_443 : BitVec 32 := 1#32
  let v888 : BitVec 32 := Scalar.subi v873 c1_i32_443
  let v889 : BitVec 32 := Scalar.select v887 v888 v873
  let c8_i32_444 : BitVec 32 := 8#32
  let v890 : BitVec 32 := Scalar.muli v889 c8_i32_444
  let v891 : BitVec 32 := v890
  let v892 : Index := Scalar.indexCast v891
  let c512_i32 : BitVec 32 := 512#32
  let v23 : BitVec 32 := Scalar.muli arg16 c512_i32
  let v24 : BitVec 32 := v23
  let v893 : Index := Scalar.indexCast v24
  ![0, v892.toNat, v893.toNat]
@[reducible] def k0_t3_loop (k0_t1 : Fin k0_t1_loop.trips) (v53 : BitVec 32) : Scf.Loop 32 :=
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let v142 : BitVec 32 := Scalar.addi v140 v141
  let c1_i32_85 : BitVec 32 := 1#32
  ⟨v145, v142, c1_i32_85⟩
def k0_mult16 (k0_t1 : Fin k0_t1_loop.trips) (v53 : BitVec 32) (k0_t3 : Fin (k0_t3_loop k0_t1 v53).trips) : BitVec 32 :=
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v592 : BitVec 32 := Scalar.muli c4_i32_296 arg17
  let c2_i32_303 : BitVec 32 := 2#32
  let v597 : BitVec 32 := Scalar.addi v592 c2_i32_303
  let c4_i32 : BitVec 32 := 4#32
  let v37 : BitVec 32 := Scalar.muli arg16 c4_i32
  let c2_i32 : BitVec 32 := 2#32
  let v38 : BitVec 32 := Scalar.addi v37 c2_i32
  let v598 : BitVec 32 := Scalar.minsi v597 v38
  let c128_i32_304 : BitVec 32 := 128#32
  let v599 : BitVec 32 := Scalar.muli v598 c128_i32_304
  v599
def k0_off17 (k0_t1 : Fin k0_t1_loop.trips) (v53 : BitVec 32) (k0_t3 : Fin (k0_t3_loop k0_t1 v53).trips) : Fin 3 → Nat :=
  let c0_305 : Index := 0#32
  let c0_306 : Index := 0#32
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v592 : BitVec 32 := Scalar.muli c4_i32_296 arg17
  let c2_i32_303 : BitVec 32 := 2#32
  let v597 : BitVec 32 := Scalar.addi v592 c2_i32_303
  let c4_i32 : BitVec 32 := 4#32
  let v37 : BitVec 32 := Scalar.muli arg16 c4_i32
  let c2_i32 : BitVec 32 := 2#32
  let v38 : BitVec 32 := Scalar.addi v37 c2_i32
  let v598 : BitVec 32 := Scalar.minsi v597 v38
  let c128_i32_304 : BitVec 32 := 128#32
  let v599 : BitVec 32 := Scalar.muli v598 c128_i32_304
  let v600 : BitVec 32 := v599
  let v601 : Index := Scalar.indexCast v600
  ![0, 0, v601.toNat]
def k0_mult17 (k0_t1 : Fin k0_t1_loop.trips) (v53 : BitVec 32) (k0_t3 : Fin (k0_t3_loop k0_t1 v53).trips) : BitVec 32 :=
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v592 : BitVec 32 := Scalar.muli c4_i32_296 arg17
  let c2_i32_303 : BitVec 32 := 2#32
  let v597 : BitVec 32 := Scalar.addi v592 c2_i32_303
  let c4_i32 : BitVec 32 := 4#32
  let v37 : BitVec 32 := Scalar.muli arg16 c4_i32
  let c2_i32 : BitVec 32 := 2#32
  let v38 : BitVec 32 := Scalar.addi v37 c2_i32
  let v598 : BitVec 32 := Scalar.minsi v597 v38
  let c128_i32_312 : BitVec 32 := 128#32
  let v610 : BitVec 32 := Scalar.muli v598 c128_i32_312
  v610
def k0_mult18 (k0_t1 : Fin k0_t1_loop.trips) (v53 : BitVec 32) (k0_t3 : Fin (k0_t3_loop k0_t1 v53).trips) : BitVec 32 :=
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v592 : BitVec 32 := Scalar.muli c4_i32_296 arg17
  let c2_i32_319 : BitVec 32 := 2#32
  let v619 : BitVec 32 := Scalar.subi v592 c2_i32_319
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v620 : BitVec 32 := Scalar.maxsi v619 v87
  let c128_i32_320 : BitVec 32 := 128#32
  let v621 : BitVec 32 := Scalar.muli v620 c128_i32_320
  v621
def k0_off18 (k0_t1 : Fin k0_t1_loop.trips) (v53 : BitVec 32) (k0_t3 : Fin (k0_t3_loop k0_t1 v53).trips) : Fin 3 → Nat :=
  let c0_323 : Index := 0#32
  let c0_324 : Index := 0#32
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v592 : BitVec 32 := Scalar.muli c4_i32_296 arg17
  let c2_i32_319 : BitVec 32 := 2#32
  let v619 : BitVec 32 := Scalar.subi v592 c2_i32_319
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v620 : BitVec 32 := Scalar.maxsi v619 v87
  let c128_i32_320 : BitVec 32 := 128#32
  let v621 : BitVec 32 := Scalar.muli v620 c128_i32_320
  let v622 : BitVec 32 := v621
  let v624 : Index := Scalar.indexCast v622
  ![0, 0, v624.toNat]
def k0_off19 (k0_t1 : Fin k0_t1_loop.trips) (v53 : BitVec 32) (k0_t3 : Fin (k0_t3_loop k0_t1 v53).trips) : Fin 2 → Nat :=
  let c0_331 : Index := 0#32
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v592 : BitVec 32 := Scalar.muli c4_i32_296 arg17
  let c2_i32_319 : BitVec 32 := 2#32
  let v619 : BitVec 32 := Scalar.subi v592 c2_i32_319
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v620 : BitVec 32 := Scalar.maxsi v619 v87
  let c128_i32_320 : BitVec 32 := 128#32
  let v621 : BitVec 32 := Scalar.muli v620 c128_i32_320
  let v622 : BitVec 32 := v621
  let v634 : Index := Scalar.indexCast v622
  ![0, v634.toNat]
def k0_mult19 (k0_t1 : Fin k0_t1_loop.trips) (v53 : BitVec 32) (k0_t3 : Fin (k0_t3_loop k0_t1 v53).trips) : BitVec 32 :=
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v592 : BitVec 32 := Scalar.muli c4_i32_296 arg17
  let c0_i32_350 : BitVec 32 := 0#32
  let v681 : BitVec 1 := Scalar.cmpi .sgt v592 c0_i32_350
  let v682 : BitVec 32 := Scalar.extui v681
  let c0_i32_351 : BitVec 32 := 0#32
  let v683 : BitVec 1 := Scalar.cmpi .slt v592 c0_i32_351
  let v684 : BitVec 32 := Scalar.extui v683
  let v685 : BitVec 32 := Scalar.subi v682 v684
  let c8_i32_349 : BitVec 32 := 8#32
  let c0_i32_352 : BitVec 32 := 0#32
  let v686 : BitVec 1 := Scalar.cmpi .sgt c8_i32_349 c0_i32_352
  let v687 : BitVec 32 := Scalar.extui v686
  let c0_i32_353 : BitVec 32 := 0#32
  let v688 : BitVec 1 := Scalar.cmpi .slt c8_i32_349 c0_i32_353
  let v689 : BitVec 32 := Scalar.extui v688
  let v690 : BitVec 32 := Scalar.subi v687 v689
  let v691 : BitVec 1 := Scalar.cmpi .ne v685 v690
  let v692 : BitVec 32 := Scalar.remsi v592 c8_i32_349
  let c0_i32_354 : BitVec 32 := 0#32
  let v693 : BitVec 1 := Scalar.cmpi .ne v692 c0_i32_354
  let v694 : BitVec 1 := Scalar.andi v691 v693
  let v680 : BitVec 32 := Scalar.divsi v592 c8_i32_349
  let c1_i32_355 : BitVec 32 := 1#32
  let v695 : BitVec 32 := Scalar.subi v680 c1_i32_355
  let v696 : BitVec 32 := Scalar.select v694 v695 v680
  let c8_i32_356 : BitVec 32 := 8#32
  let v697 : BitVec 32 := Scalar.muli v696 c8_i32_356
  v697
def k0_off20 (k0_t1 : Fin k0_t1_loop.trips) (v53 : BitVec 32) (k0_t3 : Fin (k0_t3_loop k0_t1 v53).trips) : Fin 3 → Nat :=
  let c0_357 : Index := 0#32
  let c4_i32_296 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v592 : BitVec 32 := Scalar.muli c4_i32_296 arg17
  let c0_i32_350 : BitVec 32 := 0#32
  let v681 : BitVec 1 := Scalar.cmpi .sgt v592 c0_i32_350
  let v682 : BitVec 32 := Scalar.extui v681
  let c0_i32_351 : BitVec 32 := 0#32
  let v683 : BitVec 1 := Scalar.cmpi .slt v592 c0_i32_351
  let v684 : BitVec 32 := Scalar.extui v683
  let v685 : BitVec 32 := Scalar.subi v682 v684
  let c8_i32_349 : BitVec 32 := 8#32
  let c0_i32_352 : BitVec 32 := 0#32
  let v686 : BitVec 1 := Scalar.cmpi .sgt c8_i32_349 c0_i32_352
  let v687 : BitVec 32 := Scalar.extui v686
  let c0_i32_353 : BitVec 32 := 0#32
  let v688 : BitVec 1 := Scalar.cmpi .slt c8_i32_349 c0_i32_353
  let v689 : BitVec 32 := Scalar.extui v688
  let v690 : BitVec 32 := Scalar.subi v687 v689
  let v691 : BitVec 1 := Scalar.cmpi .ne v685 v690
  let v692 : BitVec 32 := Scalar.remsi v592 c8_i32_349
  let c0_i32_354 : BitVec 32 := 0#32
  let v693 : BitVec 1 := Scalar.cmpi .ne v692 c0_i32_354
  let v694 : BitVec 1 := Scalar.andi v691 v693
  let v680 : BitVec 32 := Scalar.divsi v592 c8_i32_349
  let c1_i32_355 : BitVec 32 := 1#32
  let v695 : BitVec 32 := Scalar.subi v680 c1_i32_355
  let v696 : BitVec 32 := Scalar.select v694 v695 v680
  let c8_i32_356 : BitVec 32 := 8#32
  let v697 : BitVec 32 := Scalar.muli v696 c8_i32_356
  let v698 : BitVec 32 := v697
  let v699 : Index := Scalar.indexCast v698
  let c512_i32 : BitVec 32 := 512#32
  let v23 : BitVec 32 := Scalar.muli arg16 c512_i32
  let v24 : BitVec 32 := v23
  let v700 : Index := Scalar.indexCast v24
  ![0, v699.toNat, v700.toNat]
def k0_mult20 (k0_t1 : Fin k0_t1_loop.trips) (v53 : BitVec 32) (k0_t3 : Fin (k0_t3_loop k0_t1 v53).trips) : BitVec 32 :=
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v784 : BitVec 32 := Scalar.muli c4_i32_383 arg17
  let c2_i32_384 : BitVec 32 := 2#32
  let v785 : BitVec 32 := Scalar.addi v784 c2_i32_384
  let c2_i32_391 : BitVec 32 := 2#32
  let v790 : BitVec 32 := Scalar.addi v785 c2_i32_391
  let c4_i32 : BitVec 32 := 4#32
  let v37 : BitVec 32 := Scalar.muli arg16 c4_i32
  let c2_i32 : BitVec 32 := 2#32
  let v38 : BitVec 32 := Scalar.addi v37 c2_i32
  let v791 : BitVec 32 := Scalar.minsi v790 v38
  let c128_i32_392 : BitVec 32 := 128#32
  let v792 : BitVec 32 := Scalar.muli v791 c128_i32_392
  v792
def k0_off21 (k0_t1 : Fin k0_t1_loop.trips) (v53 : BitVec 32) (k0_t3 : Fin (k0_t3_loop k0_t1 v53).trips) : Fin 3 → Nat :=
  let c0_393 : Index := 0#32
  let c0_394 : Index := 0#32
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v784 : BitVec 32 := Scalar.muli c4_i32_383 arg17
  let c2_i32_384 : BitVec 32 := 2#32
  let v785 : BitVec 32 := Scalar.addi v784 c2_i32_384
  let c2_i32_391 : BitVec 32 := 2#32
  let v790 : BitVec 32 := Scalar.addi v785 c2_i32_391
  let c4_i32 : BitVec 32 := 4#32
  let v37 : BitVec 32 := Scalar.muli arg16 c4_i32
  let c2_i32 : BitVec 32 := 2#32
  let v38 : BitVec 32 := Scalar.addi v37 c2_i32
  let v791 : BitVec 32 := Scalar.minsi v790 v38
  let c128_i32_392 : BitVec 32 := 128#32
  let v792 : BitVec 32 := Scalar.muli v791 c128_i32_392
  let v793 : BitVec 32 := v792
  let v794 : Index := Scalar.indexCast v793
  ![0, 0, v794.toNat]
def k0_mult21 (k0_t1 : Fin k0_t1_loop.trips) (v53 : BitVec 32) (k0_t3 : Fin (k0_t3_loop k0_t1 v53).trips) : BitVec 32 :=
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v784 : BitVec 32 := Scalar.muli c4_i32_383 arg17
  let c2_i32_384 : BitVec 32 := 2#32
  let v785 : BitVec 32 := Scalar.addi v784 c2_i32_384
  let c2_i32_391 : BitVec 32 := 2#32
  let v790 : BitVec 32 := Scalar.addi v785 c2_i32_391
  let c4_i32 : BitVec 32 := 4#32
  let v37 : BitVec 32 := Scalar.muli arg16 c4_i32
  let c2_i32 : BitVec 32 := 2#32
  let v38 : BitVec 32 := Scalar.addi v37 c2_i32
  let v791 : BitVec 32 := Scalar.minsi v790 v38
  let c128_i32_400 : BitVec 32 := 128#32
  let v803 : BitVec 32 := Scalar.muli v791 c128_i32_400
  v803
def k0_mult22 (k0_t1 : Fin k0_t1_loop.trips) (v53 : BitVec 32) (k0_t3 : Fin (k0_t3_loop k0_t1 v53).trips) : BitVec 32 :=
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v784 : BitVec 32 := Scalar.muli c4_i32_383 arg17
  let c2_i32_384 : BitVec 32 := 2#32
  let v785 : BitVec 32 := Scalar.addi v784 c2_i32_384
  let c2_i32_407 : BitVec 32 := 2#32
  let v812 : BitVec 32 := Scalar.subi v785 c2_i32_407
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v813 : BitVec 32 := Scalar.maxsi v812 v87
  let c128_i32_408 : BitVec 32 := 128#32
  let v814 : BitVec 32 := Scalar.muli v813 c128_i32_408
  v814
def k0_off22 (k0_t1 : Fin k0_t1_loop.trips) (v53 : BitVec 32) (k0_t3 : Fin (k0_t3_loop k0_t1 v53).trips) : Fin 3 → Nat :=
  let c0_411 : Index := 0#32
  let c0_412 : Index := 0#32
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v784 : BitVec 32 := Scalar.muli c4_i32_383 arg17
  let c2_i32_384 : BitVec 32 := 2#32
  let v785 : BitVec 32 := Scalar.addi v784 c2_i32_384
  let c2_i32_407 : BitVec 32 := 2#32
  let v812 : BitVec 32 := Scalar.subi v785 c2_i32_407
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v813 : BitVec 32 := Scalar.maxsi v812 v87
  let c128_i32_408 : BitVec 32 := 128#32
  let v814 : BitVec 32 := Scalar.muli v813 c128_i32_408
  let v815 : BitVec 32 := v814
  let v817 : Index := Scalar.indexCast v815
  ![0, 0, v817.toNat]
def k0_off23 (k0_t1 : Fin k0_t1_loop.trips) (v53 : BitVec 32) (k0_t3 : Fin (k0_t3_loop k0_t1 v53).trips) : Fin 2 → Nat :=
  let c0_419 : Index := 0#32
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v784 : BitVec 32 := Scalar.muli c4_i32_383 arg17
  let c2_i32_384 : BitVec 32 := 2#32
  let v785 : BitVec 32 := Scalar.addi v784 c2_i32_384
  let c2_i32_407 : BitVec 32 := 2#32
  let v812 : BitVec 32 := Scalar.subi v785 c2_i32_407
  let c4_i32_51 : BitVec 32 := 4#32
  let v85 : BitVec 32 := Scalar.muli arg16 c4_i32_51
  let c2_i32_52 : BitVec 32 := 2#32
  let v86 : BitVec 32 := Scalar.muli c2_i32_52 v74
  let v87 : BitVec 32 := Scalar.subi v85 v86
  let v813 : BitVec 32 := Scalar.maxsi v812 v87
  let c128_i32_408 : BitVec 32 := 128#32
  let v814 : BitVec 32 := Scalar.muli v813 c128_i32_408
  let v815 : BitVec 32 := v814
  let v827 : Index := Scalar.indexCast v815
  ![0, v827.toNat]
def k0_mult23 (k0_t1 : Fin k0_t1_loop.trips) (v53 : BitVec 32) (k0_t3 : Fin (k0_t3_loop k0_t1 v53).trips) : BitVec 32 :=
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v784 : BitVec 32 := Scalar.muli c4_i32_383 arg17
  let c2_i32_384 : BitVec 32 := 2#32
  let v785 : BitVec 32 := Scalar.addi v784 c2_i32_384
  let c0_i32_438 : BitVec 32 := 0#32
  let v874 : BitVec 1 := Scalar.cmpi .sgt v785 c0_i32_438
  let v875 : BitVec 32 := Scalar.extui v874
  let c0_i32_439 : BitVec 32 := 0#32
  let v876 : BitVec 1 := Scalar.cmpi .slt v785 c0_i32_439
  let v877 : BitVec 32 := Scalar.extui v876
  let v878 : BitVec 32 := Scalar.subi v875 v877
  let c8_i32_437 : BitVec 32 := 8#32
  let c0_i32_440 : BitVec 32 := 0#32
  let v879 : BitVec 1 := Scalar.cmpi .sgt c8_i32_437 c0_i32_440
  let v880 : BitVec 32 := Scalar.extui v879
  let c0_i32_441 : BitVec 32 := 0#32
  let v881 : BitVec 1 := Scalar.cmpi .slt c8_i32_437 c0_i32_441
  let v882 : BitVec 32 := Scalar.extui v881
  let v883 : BitVec 32 := Scalar.subi v880 v882
  let v884 : BitVec 1 := Scalar.cmpi .ne v878 v883
  let v885 : BitVec 32 := Scalar.remsi v785 c8_i32_437
  let c0_i32_442 : BitVec 32 := 0#32
  let v886 : BitVec 1 := Scalar.cmpi .ne v885 c0_i32_442
  let v887 : BitVec 1 := Scalar.andi v884 v886
  let v873 : BitVec 32 := Scalar.divsi v785 c8_i32_437
  let c1_i32_443 : BitVec 32 := 1#32
  let v888 : BitVec 32 := Scalar.subi v873 c1_i32_443
  let v889 : BitVec 32 := Scalar.select v887 v888 v873
  let c8_i32_444 : BitVec 32 := 8#32
  let v890 : BitVec 32 := Scalar.muli v889 c8_i32_444
  v890
def k0_off24 (k0_t1 : Fin k0_t1_loop.trips) (v53 : BitVec 32) (k0_t3 : Fin (k0_t3_loop k0_t1 v53).trips) : Fin 3 → Nat :=
  let c0_445 : Index := 0#32
  let c4_i32_383 : BitVec 32 := 4#32
  let c0_i32_8 : BitVec 32 := 0#32
  let c1_i32 : BitVec 32 := 1#32
  let arg16 : BitVec 32 := Scf.iv c0_i32_8 c1_i32 k0_t1
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let c0_i32_77 : BitVec 32 := 0#32
  let v124 : BitVec 1 := Scalar.cmpi .sgt v74 c0_i32_77
  let v125 : BitVec 32 := Scalar.extui v124
  let c0_i32_78 : BitVec 32 := 0#32
  let v126 : BitVec 1 := Scalar.cmpi .slt v74 c0_i32_78
  let v127 : BitVec 32 := Scalar.extui v126
  let v128 : BitVec 32 := Scalar.subi v125 v127
  let c2_i32_76 : BitVec 32 := 2#32
  let c0_i32_79 : BitVec 32 := 0#32
  let v129 : BitVec 1 := Scalar.cmpi .sgt c2_i32_76 c0_i32_79
  let v130 : BitVec 32 := Scalar.extui v129
  let c0_i32_80 : BitVec 32 := 0#32
  let v131 : BitVec 1 := Scalar.cmpi .slt c2_i32_76 c0_i32_80
  let v132 : BitVec 32 := Scalar.extui v131
  let v133 : BitVec 32 := Scalar.subi v130 v132
  let v134 : BitVec 1 := Scalar.cmpi .ne v128 v133
  let v135 : BitVec 32 := Scalar.remsi v74 c2_i32_76
  let c0_i32_81 : BitVec 32 := 0#32
  let v136 : BitVec 1 := Scalar.cmpi .ne v135 c0_i32_81
  let v137 : BitVec 1 := Scalar.andi v134 v136
  let v123 : BitVec 32 := Scalar.divsi v74 c2_i32_76
  let c1_i32_82 : BitVec 32 := 1#32
  let v138 : BitVec 32 := Scalar.subi v123 c1_i32_82
  let v139 : BitVec 32 := Scalar.select v137 v138 v123
  let v140 : BitVec 32 := Scalar.subi arg16 v139
  let v141 : BitVec 32 := Scalar.subi arg16 v140
  let c1_i32_83 : BitVec 32 := 1#32
  let v143 : BitVec 32 := Scalar.divsi v141 c1_i32_83
  let v144 : BitVec 32 := Scalar.muli v143 c1_i32_83
  let v145 : BitVec 32 := Scalar.addi v140 v144
  let c1_i32_85 : BitVec 32 := 1#32
  let arg17 : BitVec 32 := Scf.iv v145 c1_i32_85 k0_t3
  let v784 : BitVec 32 := Scalar.muli c4_i32_383 arg17
  let c2_i32_384 : BitVec 32 := 2#32
  let v785 : BitVec 32 := Scalar.addi v784 c2_i32_384
  let c0_i32_438 : BitVec 32 := 0#32
  let v874 : BitVec 1 := Scalar.cmpi .sgt v785 c0_i32_438
  let v875 : BitVec 32 := Scalar.extui v874
  let c0_i32_439 : BitVec 32 := 0#32
  let v876 : BitVec 1 := Scalar.cmpi .slt v785 c0_i32_439
  let v877 : BitVec 32 := Scalar.extui v876
  let v878 : BitVec 32 := Scalar.subi v875 v877
  let c8_i32_437 : BitVec 32 := 8#32
  let c0_i32_440 : BitVec 32 := 0#32
  let v879 : BitVec 1 := Scalar.cmpi .sgt c8_i32_437 c0_i32_440
  let v880 : BitVec 32 := Scalar.extui v879
  let c0_i32_441 : BitVec 32 := 0#32
  let v881 : BitVec 1 := Scalar.cmpi .slt c8_i32_437 c0_i32_441
  let v882 : BitVec 32 := Scalar.extui v881
  let v883 : BitVec 32 := Scalar.subi v880 v882
  let v884 : BitVec 1 := Scalar.cmpi .ne v878 v883
  let v885 : BitVec 32 := Scalar.remsi v785 c8_i32_437
  let c0_i32_442 : BitVec 32 := 0#32
  let v886 : BitVec 1 := Scalar.cmpi .ne v885 c0_i32_442
  let v887 : BitVec 1 := Scalar.andi v884 v886
  let v873 : BitVec 32 := Scalar.divsi v785 c8_i32_437
  let c1_i32_443 : BitVec 32 := 1#32
  let v888 : BitVec 32 := Scalar.subi v873 c1_i32_443
  let v889 : BitVec 32 := Scalar.select v887 v888 v873
  let c8_i32_444 : BitVec 32 := 8#32
  let v890 : BitVec 32 := Scalar.muli v889 c8_i32_444
  let v891 : BitVec 32 := v890
  let v892 : Index := Scalar.indexCast v891
  let c512_i32 : BitVec 32 := 512#32
  let v23 : BitVec 32 := Scalar.muli arg16 c512_i32
  let v24 : BitVec 32 := v23
  let v893 : Index := Scalar.indexCast v24
  ![0, v892.toNat, v893.toNat]
def k0_mult24 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_86 : BitVec 32 := 2#32
  let v148 : BitVec 32 := Scalar.subi v38 c2_i32_86
  let c2_i32_94 : BitVec 32 := 2#32
  let v158 : BitVec 32 := Scalar.addi v148 c2_i32_94
  let v159 : BitVec 32 := Scalar.minsi v158 v38
  let c128_i32_95 : BitVec 32 := 128#32
  let v160 : BitVec 32 := Scalar.muli v159 c128_i32_95
  v160
def k0_off25 (k0_t1 : Fin k0_t1_loop.trips) : Fin 3 → Nat :=
  let c0_96 : Index := 0#32
  let c0_97 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_86 : BitVec 32 := 2#32
  let v148 : BitVec 32 := Scalar.subi v38 c2_i32_86
  let c2_i32_94 : BitVec 32 := 2#32
  let v158 : BitVec 32 := Scalar.addi v148 c2_i32_94
  let v159 : BitVec 32 := Scalar.minsi v158 v38
  let c128_i32_95 : BitVec 32 := 128#32
  let v160 : BitVec 32 := Scalar.muli v159 c128_i32_95
  let v161 : BitVec 32 := v160
  let v162 : Index := Scalar.indexCast v161
  ![0, 0, v162.toNat]
def k0_mult25 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_86 : BitVec 32 := 2#32
  let v148 : BitVec 32 := Scalar.subi v38 c2_i32_86
  let c2_i32_94 : BitVec 32 := 2#32
  let v158 : BitVec 32 := Scalar.addi v148 c2_i32_94
  let v159 : BitVec 32 := Scalar.minsi v158 v38
  let c128_i32_103 : BitVec 32 := 128#32
  let v171 : BitVec 32 := Scalar.muli v159 c128_i32_103
  v171
def k0_mult26 (k0_t1 : Fin k0_t1_loop.trips) (v53 : BitVec 32) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_86 : BitVec 32 := 2#32
  let v148 : BitVec 32 := Scalar.subi v38 c2_i32_86
  let c2_i32_110 : BitVec 32 := 2#32
  let v180 : BitVec 32 := Scalar.subi v148 c2_i32_110
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let v181 : BitVec 32 := Scalar.maxsi v180 v87
  let c128_i32_111 : BitVec 32 := 128#32
  let v182 : BitVec 32 := Scalar.muli v181 c128_i32_111
  v182
def k0_off26 (k0_t1 : Fin k0_t1_loop.trips) (v53 : BitVec 32) : Fin 3 → Nat :=
  let c0_114 : Index := 0#32
  let c0_115 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_86 : BitVec 32 := 2#32
  let v148 : BitVec 32 := Scalar.subi v38 c2_i32_86
  let c2_i32_110 : BitVec 32 := 2#32
  let v180 : BitVec 32 := Scalar.subi v148 c2_i32_110
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let v181 : BitVec 32 := Scalar.maxsi v180 v87
  let c128_i32_111 : BitVec 32 := 128#32
  let v182 : BitVec 32 := Scalar.muli v181 c128_i32_111
  let v183 : BitVec 32 := v182
  let v185 : Index := Scalar.indexCast v183
  ![0, 0, v185.toNat]
def k0_off27 (k0_t1 : Fin k0_t1_loop.trips) (v53 : BitVec 32) : Fin 2 → Nat :=
  let c0_122 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_86 : BitVec 32 := 2#32
  let v148 : BitVec 32 := Scalar.subi v38 c2_i32_86
  let c2_i32_110 : BitVec 32 := 2#32
  let v180 : BitVec 32 := Scalar.subi v148 c2_i32_110
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let v181 : BitVec 32 := Scalar.maxsi v180 v87
  let c128_i32_111 : BitVec 32 := 128#32
  let v182 : BitVec 32 := Scalar.muli v181 c128_i32_111
  let v183 : BitVec 32 := v182
  let v195 : Index := Scalar.indexCast v183
  ![0, v195.toNat]
def k0_mult27 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_86 : BitVec 32 := 2#32
  let v148 : BitVec 32 := Scalar.subi v38 c2_i32_86
  let c0_i32_142 : BitVec 32 := 0#32
  let v244 : BitVec 1 := Scalar.cmpi .sgt v148 c0_i32_142
  let v245 : BitVec 32 := Scalar.extui v244
  let c0_i32_143 : BitVec 32 := 0#32
  let v246 : BitVec 1 := Scalar.cmpi .slt v148 c0_i32_143
  let v247 : BitVec 32 := Scalar.extui v246
  let v248 : BitVec 32 := Scalar.subi v245 v247
  let c8_i32_141 : BitVec 32 := 8#32
  let c0_i32_144 : BitVec 32 := 0#32
  let v249 : BitVec 1 := Scalar.cmpi .sgt c8_i32_141 c0_i32_144
  let v250 : BitVec 32 := Scalar.extui v249
  let c0_i32_145 : BitVec 32 := 0#32
  let v251 : BitVec 1 := Scalar.cmpi .slt c8_i32_141 c0_i32_145
  let v252 : BitVec 32 := Scalar.extui v251
  let v253 : BitVec 32 := Scalar.subi v250 v252
  let v254 : BitVec 1 := Scalar.cmpi .ne v248 v253
  let v255 : BitVec 32 := Scalar.remsi v148 c8_i32_141
  let c0_i32_146 : BitVec 32 := 0#32
  let v256 : BitVec 1 := Scalar.cmpi .ne v255 c0_i32_146
  let v257 : BitVec 1 := Scalar.andi v254 v256
  let v243 : BitVec 32 := Scalar.divsi v148 c8_i32_141
  let c1_i32_147 : BitVec 32 := 1#32
  let v258 : BitVec 32 := Scalar.subi v243 c1_i32_147
  let v259 : BitVec 32 := Scalar.select v257 v258 v243
  let c8_i32_148 : BitVec 32 := 8#32
  let v260 : BitVec 32 := Scalar.muli v259 c8_i32_148
  v260
def k0_off28 (k0_t1 : Fin k0_t1_loop.trips) : Fin 3 → Nat :=
  let c0_149 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_86 : BitVec 32 := 2#32
  let v148 : BitVec 32 := Scalar.subi v38 c2_i32_86
  let c0_i32_142 : BitVec 32 := 0#32
  let v244 : BitVec 1 := Scalar.cmpi .sgt v148 c0_i32_142
  let v245 : BitVec 32 := Scalar.extui v244
  let c0_i32_143 : BitVec 32 := 0#32
  let v246 : BitVec 1 := Scalar.cmpi .slt v148 c0_i32_143
  let v247 : BitVec 32 := Scalar.extui v246
  let v248 : BitVec 32 := Scalar.subi v245 v247
  let c8_i32_141 : BitVec 32 := 8#32
  let c0_i32_144 : BitVec 32 := 0#32
  let v249 : BitVec 1 := Scalar.cmpi .sgt c8_i32_141 c0_i32_144
  let v250 : BitVec 32 := Scalar.extui v249
  let c0_i32_145 : BitVec 32 := 0#32
  let v251 : BitVec 1 := Scalar.cmpi .slt c8_i32_141 c0_i32_145
  let v252 : BitVec 32 := Scalar.extui v251
  let v253 : BitVec 32 := Scalar.subi v250 v252
  let v254 : BitVec 1 := Scalar.cmpi .ne v248 v253
  let v255 : BitVec 32 := Scalar.remsi v148 c8_i32_141
  let c0_i32_146 : BitVec 32 := 0#32
  let v256 : BitVec 1 := Scalar.cmpi .ne v255 c0_i32_146
  let v257 : BitVec 1 := Scalar.andi v254 v256
  let v243 : BitVec 32 := Scalar.divsi v148 c8_i32_141
  let c1_i32_147 : BitVec 32 := 1#32
  let v258 : BitVec 32 := Scalar.subi v243 c1_i32_147
  let v259 : BitVec 32 := Scalar.select v257 v258 v243
  let c8_i32_148 : BitVec 32 := 8#32
  let v260 : BitVec 32 := Scalar.muli v259 c8_i32_148
  let v261 : BitVec 32 := v260
  let v262 : Index := Scalar.indexCast v261
  let c512_i32 : BitVec 32 := 512#32
  let v23 : BitVec 32 := Scalar.muli arg16 c512_i32
  let v24 : BitVec 32 := v23
  let v263 : Index := Scalar.indexCast v24
  ![0, v262.toNat, v263.toNat]
def k0_mult28 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_183 : BitVec 32 := 2#32
  let v360 : BitVec 32 := Scalar.addi v38 c2_i32_183
  let v361 : BitVec 32 := Scalar.minsi v360 v38
  let c128_i32_184 : BitVec 32 := 128#32
  let v362 : BitVec 32 := Scalar.muli v361 c128_i32_184
  v362
def k0_off29 (k0_t1 : Fin k0_t1_loop.trips) : Fin 3 → Nat :=
  let c0_185 : Index := 0#32
  let c0_186 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_183 : BitVec 32 := 2#32
  let v360 : BitVec 32 := Scalar.addi v38 c2_i32_183
  let v361 : BitVec 32 := Scalar.minsi v360 v38
  let c128_i32_184 : BitVec 32 := 128#32
  let v362 : BitVec 32 := Scalar.muli v361 c128_i32_184
  let v363 : BitVec 32 := v362
  let v364 : Index := Scalar.indexCast v363
  ![0, 0, v364.toNat]
def k0_mult29 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_183 : BitVec 32 := 2#32
  let v360 : BitVec 32 := Scalar.addi v38 c2_i32_183
  let v361 : BitVec 32 := Scalar.minsi v360 v38
  let c128_i32_192 : BitVec 32 := 128#32
  let v373 : BitVec 32 := Scalar.muli v361 c128_i32_192
  v373
def k0_mult30 (k0_t1 : Fin k0_t1_loop.trips) (v53 : BitVec 32) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_199 : BitVec 32 := 2#32
  let v382 : BitVec 32 := Scalar.subi v38 c2_i32_199
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let v383 : BitVec 32 := Scalar.maxsi v382 v87
  let c128_i32_200 : BitVec 32 := 128#32
  let v384 : BitVec 32 := Scalar.muli v383 c128_i32_200
  v384
def k0_off30 (k0_t1 : Fin k0_t1_loop.trips) (v53 : BitVec 32) : Fin 3 → Nat :=
  let c0_203 : Index := 0#32
  let c0_204 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_199 : BitVec 32 := 2#32
  let v382 : BitVec 32 := Scalar.subi v38 c2_i32_199
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let v383 : BitVec 32 := Scalar.maxsi v382 v87
  let c128_i32_200 : BitVec 32 := 128#32
  let v384 : BitVec 32 := Scalar.muli v383 c128_i32_200
  let v385 : BitVec 32 := v384
  let v387 : Index := Scalar.indexCast v385
  ![0, 0, v387.toNat]
def k0_off31 (k0_t1 : Fin k0_t1_loop.trips) (v53 : BitVec 32) : Fin 2 → Nat :=
  let c0_211 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c2_i32_199 : BitVec 32 := 2#32
  let v382 : BitVec 32 := Scalar.subi v38 c2_i32_199
  let c4_i32_51 : BitVec 32 := 4#32
  let v85 : BitVec 32 := Scalar.muli arg16 c4_i32_51
  let c2_i32_52 : BitVec 32 := 2#32
  let c2_i32_43 : BitVec 32 := 2#32
  let v72 : BitVec 32 := Scalar.muli c2_i32_43 arg16
  let c0_i32_44 : BitVec 32 := 0#32
  let c4_i32_35 : BitVec 32 := 4#32
  let v54 : BitVec 32 := Scalar.subi v53 c4_i32_35
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c2_i32_36 : BitVec 32 := 2#32
  let c0_i32_39 : BitVec 32 := 0#32
  let v61 : BitVec 1 := Scalar.cmpi .sgt c2_i32_36 c0_i32_39
  let v62 : BitVec 32 := Scalar.extui v61
  let c0_i32_40 : BitVec 32 := 0#32
  let v63 : BitVec 1 := Scalar.cmpi .slt c2_i32_36 c0_i32_40
  let v64 : BitVec 32 := Scalar.extui v63
  let v65 : BitVec 32 := Scalar.subi v62 v64
  let v66 : BitVec 1 := Scalar.cmpi .ne v60 v65
  let v67 : BitVec 32 := Scalar.remsi v54 c2_i32_36
  let c0_i32_41 : BitVec 32 := 0#32
  let v68 : BitVec 1 := Scalar.cmpi .ne v67 c0_i32_41
  let v69 : BitVec 1 := Scalar.andi v66 v68
  let v55 : BitVec 32 := Scalar.divsi v54 c2_i32_36
  let c1_i32_42 : BitVec 32 := 1#32
  let v70 : BitVec 32 := Scalar.subi v55 c1_i32_42
  let v71 : BitVec 32 := Scalar.select v69 v70 v55
  let v73 : BitVec 32 := Scalar.maxsi c0_i32_44 v71
  let v74 : BitVec 32 := Scalar.minsi v72 v73
  let v86 : BitVec 32 := Scalar.muli c2_i32_52 v74
  let v87 : BitVec 32 := Scalar.subi v85 v86
  let v383 : BitVec 32 := Scalar.maxsi v382 v87
  let c128_i32_200 : BitVec 32 := 128#32
  let v384 : BitVec 32 := Scalar.muli v383 c128_i32_200
  let v385 : BitVec 32 := v384
  let v397 : Index := Scalar.indexCast v385
  ![0, v397.toNat]

def k0_chk1_0 (k0_t1 : Fin k0_t1_loop.trips) (v53 : BitVec 32) : Prop :=
  (256 ∣ (k0_mult2 k0_t1 v53).toNat) ∧
  (∀ a, (k0_off3 k0_t1 v53) a + S1x64x256.size a ≤ S1x64x4096.size a) ∧
  (∀ a, (k0_off4 k0_t1 v53) a + S1x256x512.size a ≤ S2x256x512.size a) ∧
  (256 ∣ (k0_mult3 k0_t1 v53).toNat) ∧
  (∀ (k0_h1 : k0_cond1 k0_t1 v53 = 1#1), 256 ∣ (k0_mult4 k0_t1 v53).toNat) ∧
  (∀ (k0_h1 : k0_cond1 k0_t1 v53 = 1#1), ∀ a, (k0_off5 k0_t1 v53) a + S1x64x256.size a ≤ S1x64x4096.size a) ∧
  (∀ (k0_h1 : k0_cond1 k0_t1 v53 = 1#1), 256 ∣ (k0_mult5 k0_t1 v53).toNat) ∧
  (∀ (k0_h1 : k0_cond1 k0_t1 v53 = 1#1), 256 ∣ (k0_mult6 k0_t1 v53).toNat) ∧
  (∀ (k0_h1 : k0_cond1 k0_t1 v53 = 1#1), ∀ a, (k0_off6 k0_t1 v53) a + S1x64x256.size a ≤ S1x64x4096.size a) ∧
  (∀ (k0_h1 : k0_cond1 k0_t1 v53 = 1#1), ∀ a, (k0_off7 k0_t1 v53) a + S64x256.size a ≤ S64x4096.size a) ∧
  (∀ (k0_h1 : k0_cond1 k0_t1 v53 = 1#1), 8 ∣ (k0_mult7 k0_t1 v53).toNat) ∧
  (∀ (k0_h1 : k0_cond1 k0_t1 v53 = 1#1), ∀ a, (k0_off8 k0_t1 v53) a + S1x8x512.size a ≤ S1x32x4096.size a) ∧
  ((k0_t2_loop k0_t1 v53).OK) ∧
  (∀ k0_t2 : Fin (k0_t2_loop k0_t1 v53).trips, 256 ∣ (k0_mult8 k0_t1 v53 k0_t2).toNat) ∧
  (∀ k0_t2 : Fin (k0_t2_loop k0_t1 v53).trips, ∀ a, (k0_off9 k0_t1 v53 k0_t2) a + S1x64x256.size a ≤ S1x64x4096.size a) ∧
  (∀ k0_t2 : Fin (k0_t2_loop k0_t1 v53).trips, 256 ∣ (k0_mult9 k0_t1 v53 k0_t2).toNat) ∧
  (∀ k0_t2 : Fin (k0_t2_loop k0_t1 v53).trips, 256 ∣ (k0_mult10 k0_t1 v53 k0_t2).toNat) ∧
  (∀ k0_t2 : Fin (k0_t2_loop k0_t1 v53).trips, ∀ a, (k0_off10 k0_t1 v53 k0_t2) a + S1x64x256.size a ≤ S1x64x4096.size a) ∧
  (∀ k0_t2 : Fin (k0_t2_loop k0_t1 v53).trips, ∀ a, (k0_off11 k0_t1 v53 k0_t2) a + S64x256.size a ≤ S64x4096.size a) ∧
  (∀ k0_t2 : Fin (k0_t2_loop k0_t1 v53).trips, 8 ∣ (k0_mult11 k0_t1 v53 k0_t2).toNat) ∧
  (∀ k0_t2 : Fin (k0_t2_loop k0_t1 v53).trips, ∀ a, (k0_off12 k0_t1 v53 k0_t2) a + S1x8x512.size a ≤ S1x32x4096.size a) ∧
  (∀ k0_t2 : Fin (k0_t2_loop k0_t1 v53).trips, 256 ∣ (k0_mult12 k0_t1 v53 k0_t2).toNat) ∧
  (∀ k0_t2 : Fin (k0_t2_loop k0_t1 v53).trips, ∀ a, (k0_off13 k0_t1 v53 k0_t2) a + S1x64x256.size a ≤ S1x64x4096.size a) ∧
  (∀ k0_t2 : Fin (k0_t2_loop k0_t1 v53).trips, 256 ∣ (k0_mult13 k0_t1 v53 k0_t2).toNat) ∧
  (∀ k0_t2 : Fin (k0_t2_loop k0_t1 v53).trips, 256 ∣ (k0_mult14 k0_t1 v53 k0_t2).toNat) ∧
  (∀ k0_t2 : Fin (k0_t2_loop k0_t1 v53).trips, ∀ a, (k0_off14 k0_t1 v53 k0_t2) a + S1x64x256.size a ≤ S1x64x4096.size a) ∧
  (∀ k0_t2 : Fin (k0_t2_loop k0_t1 v53).trips, ∀ a, (k0_off15 k0_t1 v53 k0_t2) a + S64x256.size a ≤ S64x4096.size a) ∧
  (∀ k0_t2 : Fin (k0_t2_loop k0_t1 v53).trips, 8 ∣ (k0_mult15 k0_t1 v53 k0_t2).toNat) ∧
  (∀ k0_t2 : Fin (k0_t2_loop k0_t1 v53).trips, ∀ a, (k0_off16 k0_t1 v53 k0_t2) a + S1x8x512.size a ≤ S1x32x4096.size a) ∧
  ((k0_t3_loop k0_t1 v53).OK) ∧
  (∀ k0_t3 : Fin (k0_t3_loop k0_t1 v53).trips, 256 ∣ (k0_mult16 k0_t1 v53 k0_t3).toNat) ∧
  (∀ k0_t3 : Fin (k0_t3_loop k0_t1 v53).trips, ∀ a, (k0_off17 k0_t1 v53 k0_t3) a + S1x64x256.size a ≤ S1x64x4096.size a)
def k0_chk1_1 (k0_t1 : Fin k0_t1_loop.trips) (v53 : BitVec 32) : Prop :=
  (∀ k0_t3 : Fin (k0_t3_loop k0_t1 v53).trips, 256 ∣ (k0_mult17 k0_t1 v53 k0_t3).toNat) ∧
  (∀ k0_t3 : Fin (k0_t3_loop k0_t1 v53).trips, 256 ∣ (k0_mult18 k0_t1 v53 k0_t3).toNat) ∧
  (∀ k0_t3 : Fin (k0_t3_loop k0_t1 v53).trips, ∀ a, (k0_off18 k0_t1 v53 k0_t3) a + S1x64x256.size a ≤ S1x64x4096.size a) ∧
  (∀ k0_t3 : Fin (k0_t3_loop k0_t1 v53).trips, ∀ a, (k0_off19 k0_t1 v53 k0_t3) a + S64x256.size a ≤ S64x4096.size a) ∧
  (∀ k0_t3 : Fin (k0_t3_loop k0_t1 v53).trips, 8 ∣ (k0_mult19 k0_t1 v53 k0_t3).toNat) ∧
  (∀ k0_t3 : Fin (k0_t3_loop k0_t1 v53).trips, ∀ a, (k0_off20 k0_t1 v53 k0_t3) a + S1x8x512.size a ≤ S1x32x4096.size a) ∧
  (∀ k0_t3 : Fin (k0_t3_loop k0_t1 v53).trips, 256 ∣ (k0_mult20 k0_t1 v53 k0_t3).toNat) ∧
  (∀ k0_t3 : Fin (k0_t3_loop k0_t1 v53).trips, ∀ a, (k0_off21 k0_t1 v53 k0_t3) a + S1x64x256.size a ≤ S1x64x4096.size a) ∧
  (∀ k0_t3 : Fin (k0_t3_loop k0_t1 v53).trips, 256 ∣ (k0_mult21 k0_t1 v53 k0_t3).toNat) ∧
  (∀ k0_t3 : Fin (k0_t3_loop k0_t1 v53).trips, 256 ∣ (k0_mult22 k0_t1 v53 k0_t3).toNat) ∧
  (∀ k0_t3 : Fin (k0_t3_loop k0_t1 v53).trips, ∀ a, (k0_off22 k0_t1 v53 k0_t3) a + S1x64x256.size a ≤ S1x64x4096.size a) ∧
  (∀ k0_t3 : Fin (k0_t3_loop k0_t1 v53).trips, ∀ a, (k0_off23 k0_t1 v53 k0_t3) a + S64x256.size a ≤ S64x4096.size a) ∧
  (∀ k0_t3 : Fin (k0_t3_loop k0_t1 v53).trips, 8 ∣ (k0_mult23 k0_t1 v53 k0_t3).toNat) ∧
  (∀ k0_t3 : Fin (k0_t3_loop k0_t1 v53).trips, ∀ a, (k0_off24 k0_t1 v53 k0_t3) a + S1x8x512.size a ≤ S1x32x4096.size a) ∧
  (256 ∣ (k0_mult26 k0_t1 v53).toNat) ∧
  (∀ a, (k0_off26 k0_t1 v53) a + S1x64x256.size a ≤ S1x64x4096.size a) ∧
  (∀ a, (k0_off27 k0_t1 v53) a + S64x256.size a ≤ S64x4096.size a) ∧
  (256 ∣ (k0_mult30 k0_t1 v53).toNat) ∧
  (∀ a, (k0_off30 k0_t1 v53) a + S1x64x256.size a ≤ S1x64x4096.size a) ∧
  (∀ a, (k0_off31 k0_t1 v53) a + S64x256.size a ≤ S64x4096.size a)
def k0_chk1 (k0_t1 : Fin k0_t1_loop.trips) (v53 : BitVec 32) : Prop :=
  k0_chk1_0 k0_t1 v53 ∧
  k0_chk1_1 k0_t1 v53
theorem k0_mult2_dvd : ∀ (k0_t1 : Fin k0_t1_loop.trips) (v53 : BitVec 32) (k0_hw1 : k0_chk1 k0_t1 v53), 256 ∣ (k0_mult2 k0_t1 v53).toNat := fun k0_t1 v53 k0_hw1 => k0_hw1.1.1
theorem k0_off3_inb : ∀ (k0_t1 : Fin k0_t1_loop.trips) (v53 : BitVec 32) (k0_hw1 : k0_chk1 k0_t1 v53), ∀ a, (k0_off3 k0_t1 v53) a + S1x64x256.size a ≤ S1x64x4096.size a := fun k0_t1 v53 k0_hw1 => k0_hw1.1.2.1
theorem k0_off4_inb : ∀ (k0_t1 : Fin k0_t1_loop.trips) (v53 : BitVec 32) (k0_hw1 : k0_chk1 k0_t1 v53), ∀ a, (k0_off4 k0_t1 v53) a + S1x256x512.size a ≤ S2x256x512.size a := fun k0_t1 v53 k0_hw1 => k0_hw1.1.2.2.1
theorem k0_mult3_dvd : ∀ (k0_t1 : Fin k0_t1_loop.trips) (v53 : BitVec 32) (k0_hw1 : k0_chk1 k0_t1 v53), 256 ∣ (k0_mult3 k0_t1 v53).toNat := fun k0_t1 v53 k0_hw1 => k0_hw1.1.2.2.2.1
theorem k0_mult4_dvd : ∀ (k0_t1 : Fin k0_t1_loop.trips) (v53 : BitVec 32) (k0_hw1 : k0_chk1 k0_t1 v53), ∀ (k0_h1 : k0_cond1 k0_t1 v53 = 1#1), 256 ∣ (k0_mult4 k0_t1 v53).toNat := fun k0_t1 v53 k0_hw1 k0_h1 => k0_hw1.1.2.2.2.2.1 k0_h1
theorem k0_off5_inb : ∀ (k0_t1 : Fin k0_t1_loop.trips) (v53 : BitVec 32) (k0_hw1 : k0_chk1 k0_t1 v53), ∀ (k0_h1 : k0_cond1 k0_t1 v53 = 1#1), ∀ a, (k0_off5 k0_t1 v53) a + S1x64x256.size a ≤ S1x64x4096.size a := fun k0_t1 v53 k0_hw1 k0_h1 => k0_hw1.1.2.2.2.2.2.1 k0_h1
theorem k0_mult5_dvd : ∀ (k0_t1 : Fin k0_t1_loop.trips) (v53 : BitVec 32) (k0_hw1 : k0_chk1 k0_t1 v53), ∀ (k0_h1 : k0_cond1 k0_t1 v53 = 1#1), 256 ∣ (k0_mult5 k0_t1 v53).toNat := fun k0_t1 v53 k0_hw1 k0_h1 => k0_hw1.1.2.2.2.2.2.2.1 k0_h1
theorem k0_mult6_dvd : ∀ (k0_t1 : Fin k0_t1_loop.trips) (v53 : BitVec 32) (k0_hw1 : k0_chk1 k0_t1 v53), ∀ (k0_h1 : k0_cond1 k0_t1 v53 = 1#1), 256 ∣ (k0_mult6 k0_t1 v53).toNat := fun k0_t1 v53 k0_hw1 k0_h1 => k0_hw1.1.2.2.2.2.2.2.2.1 k0_h1
theorem k0_off6_inb : ∀ (k0_t1 : Fin k0_t1_loop.trips) (v53 : BitVec 32) (k0_hw1 : k0_chk1 k0_t1 v53), ∀ (k0_h1 : k0_cond1 k0_t1 v53 = 1#1), ∀ a, (k0_off6 k0_t1 v53) a + S1x64x256.size a ≤ S1x64x4096.size a := fun k0_t1 v53 k0_hw1 k0_h1 => k0_hw1.1.2.2.2.2.2.2.2.2.1 k0_h1
theorem k0_off7_inb : ∀ (k0_t1 : Fin k0_t1_loop.trips) (v53 : BitVec 32) (k0_hw1 : k0_chk1 k0_t1 v53), ∀ (k0_h1 : k0_cond1 k0_t1 v53 = 1#1), ∀ a, (k0_off7 k0_t1 v53) a + S64x256.size a ≤ S64x4096.size a := fun k0_t1 v53 k0_hw1 k0_h1 => k0_hw1.1.2.2.2.2.2.2.2.2.2.1 k0_h1
theorem k0_mult7_dvd : ∀ (k0_t1 : Fin k0_t1_loop.trips) (v53 : BitVec 32) (k0_hw1 : k0_chk1 k0_t1 v53), ∀ (k0_h1 : k0_cond1 k0_t1 v53 = 1#1), 8 ∣ (k0_mult7 k0_t1 v53).toNat := fun k0_t1 v53 k0_hw1 k0_h1 => k0_hw1.1.2.2.2.2.2.2.2.2.2.2.1 k0_h1
theorem k0_off8_inb : ∀ (k0_t1 : Fin k0_t1_loop.trips) (v53 : BitVec 32) (k0_hw1 : k0_chk1 k0_t1 v53), ∀ (k0_h1 : k0_cond1 k0_t1 v53 = 1#1), ∀ a, (k0_off8 k0_t1 v53) a + S1x8x512.size a ≤ S1x32x4096.size a := fun k0_t1 v53 k0_hw1 k0_h1 => k0_hw1.1.2.2.2.2.2.2.2.2.2.2.2.1 k0_h1
theorem k0_t2_ok : ∀ (k0_t1 : Fin k0_t1_loop.trips) (v53 : BitVec 32) (k0_hw1 : k0_chk1 k0_t1 v53), (k0_t2_loop k0_t1 v53).OK := fun k0_t1 v53 k0_hw1 => k0_hw1.1.2.2.2.2.2.2.2.2.2.2.2.2.1
theorem k0_mult8_dvd : ∀ (k0_t1 : Fin k0_t1_loop.trips) (v53 : BitVec 32) (k0_hw1 : k0_chk1 k0_t1 v53) (k0_t2 : Fin (k0_t2_loop k0_t1 v53).trips), 256 ∣ (k0_mult8 k0_t1 v53 k0_t2).toNat := fun k0_t1 v53 k0_hw1 k0_t2 => k0_hw1.1.2.2.2.2.2.2.2.2.2.2.2.2.2.1 k0_t2
theorem k0_off9_inb : ∀ (k0_t1 : Fin k0_t1_loop.trips) (v53 : BitVec 32) (k0_hw1 : k0_chk1 k0_t1 v53) (k0_t2 : Fin (k0_t2_loop k0_t1 v53).trips), ∀ a, (k0_off9 k0_t1 v53 k0_t2) a + S1x64x256.size a ≤ S1x64x4096.size a := fun k0_t1 v53 k0_hw1 k0_t2 => k0_hw1.1.2.2.2.2.2.2.2.2.2.2.2.2.2.2.1 k0_t2
theorem k0_mult9_dvd : ∀ (k0_t1 : Fin k0_t1_loop.trips) (v53 : BitVec 32) (k0_hw1 : k0_chk1 k0_t1 v53) (k0_t2 : Fin (k0_t2_loop k0_t1 v53).trips), 256 ∣ (k0_mult9 k0_t1 v53 k0_t2).toNat := fun k0_t1 v53 k0_hw1 k0_t2 => k0_hw1.1.2.2.2.2.2.2.2.2.2.2.2.2.2.2.2.1 k0_t2
theorem k0_mult10_dvd : ∀ (k0_t1 : Fin k0_t1_loop.trips) (v53 : BitVec 32) (k0_hw1 : k0_chk1 k0_t1 v53) (k0_t2 : Fin (k0_t2_loop k0_t1 v53).trips), 256 ∣ (k0_mult10 k0_t1 v53 k0_t2).toNat := fun k0_t1 v53 k0_hw1 k0_t2 => k0_hw1.1.2.2.2.2.2.2.2.2.2.2.2.2.2.2.2.2.1 k0_t2
theorem k0_off10_inb : ∀ (k0_t1 : Fin k0_t1_loop.trips) (v53 : BitVec 32) (k0_hw1 : k0_chk1 k0_t1 v53) (k0_t2 : Fin (k0_t2_loop k0_t1 v53).trips), ∀ a, (k0_off10 k0_t1 v53 k0_t2) a + S1x64x256.size a ≤ S1x64x4096.size a := fun k0_t1 v53 k0_hw1 k0_t2 => k0_hw1.1.2.2.2.2.2.2.2.2.2.2.2.2.2.2.2.2.2.1 k0_t2
theorem k0_off11_inb : ∀ (k0_t1 : Fin k0_t1_loop.trips) (v53 : BitVec 32) (k0_hw1 : k0_chk1 k0_t1 v53) (k0_t2 : Fin (k0_t2_loop k0_t1 v53).trips), ∀ a, (k0_off11 k0_t1 v53 k0_t2) a + S64x256.size a ≤ S64x4096.size a := fun k0_t1 v53 k0_hw1 k0_t2 => k0_hw1.1.2.2.2.2.2.2.2.2.2.2.2.2.2.2.2.2.2.2.1 k0_t2
theorem k0_mult11_dvd : ∀ (k0_t1 : Fin k0_t1_loop.trips) (v53 : BitVec 32) (k0_hw1 : k0_chk1 k0_t1 v53) (k0_t2 : Fin (k0_t2_loop k0_t1 v53).trips), 8 ∣ (k0_mult11 k0_t1 v53 k0_t2).toNat := fun k0_t1 v53 k0_hw1 k0_t2 => k0_hw1.1.2.2.2.2.2.2.2.2.2.2.2.2.2.2.2.2.2.2.2.1 k0_t2
theorem k0_off12_inb : ∀ (k0_t1 : Fin k0_t1_loop.trips) (v53 : BitVec 32) (k0_hw1 : k0_chk1 k0_t1 v53) (k0_t2 : Fin (k0_t2_loop k0_t1 v53).trips), ∀ a, (k0_off12 k0_t1 v53 k0_t2) a + S1x8x512.size a ≤ S1x32x4096.size a := fun k0_t1 v53 k0_hw1 k0_t2 => k0_hw1.1.2.2.2.2.2.2.2.2.2.2.2.2.2.2.2.2.2.2.2.2.1 k0_t2
theorem k0_mult12_dvd : ∀ (k0_t1 : Fin k0_t1_loop.trips) (v53 : BitVec 32) (k0_hw1 : k0_chk1 k0_t1 v53) (k0_t2 : Fin (k0_t2_loop k0_t1 v53).trips), 256 ∣ (k0_mult12 k0_t1 v53 k0_t2).toNat := fun k0_t1 v53 k0_hw1 k0_t2 => k0_hw1.1.2.2.2.2.2.2.2.2.2.2.2.2.2.2.2.2.2.2.2.2.2.1 k0_t2
theorem k0_off13_inb : ∀ (k0_t1 : Fin k0_t1_loop.trips) (v53 : BitVec 32) (k0_hw1 : k0_chk1 k0_t1 v53) (k0_t2 : Fin (k0_t2_loop k0_t1 v53).trips), ∀ a, (k0_off13 k0_t1 v53 k0_t2) a + S1x64x256.size a ≤ S1x64x4096.size a := fun k0_t1 v53 k0_hw1 k0_t2 => k0_hw1.1.2.2.2.2.2.2.2.2.2.2.2.2.2.2.2.2.2.2.2.2.2.2.1 k0_t2
theorem k0_mult13_dvd : ∀ (k0_t1 : Fin k0_t1_loop.trips) (v53 : BitVec 32) (k0_hw1 : k0_chk1 k0_t1 v53) (k0_t2 : Fin (k0_t2_loop k0_t1 v53).trips), 256 ∣ (k0_mult13 k0_t1 v53 k0_t2).toNat := fun k0_t1 v53 k0_hw1 k0_t2 => k0_hw1.1.2.2.2.2.2.2.2.2.2.2.2.2.2.2.2.2.2.2.2.2.2.2.2.1 k0_t2
theorem k0_mult14_dvd : ∀ (k0_t1 : Fin k0_t1_loop.trips) (v53 : BitVec 32) (k0_hw1 : k0_chk1 k0_t1 v53) (k0_t2 : Fin (k0_t2_loop k0_t1 v53).trips), 256 ∣ (k0_mult14 k0_t1 v53 k0_t2).toNat := fun k0_t1 v53 k0_hw1 k0_t2 => k0_hw1.1.2.2.2.2.2.2.2.2.2.2.2.2.2.2.2.2.2.2.2.2.2.2.2.2.1 k0_t2
theorem k0_off14_inb : ∀ (k0_t1 : Fin k0_t1_loop.trips) (v53 : BitVec 32) (k0_hw1 : k0_chk1 k0_t1 v53) (k0_t2 : Fin (k0_t2_loop k0_t1 v53).trips), ∀ a, (k0_off14 k0_t1 v53 k0_t2) a + S1x64x256.size a ≤ S1x64x4096.size a := fun k0_t1 v53 k0_hw1 k0_t2 => k0_hw1.1.2.2.2.2.2.2.2.2.2.2.2.2.2.2.2.2.2.2.2.2.2.2.2.2.2.1 k0_t2
theorem k0_off15_inb : ∀ (k0_t1 : Fin k0_t1_loop.trips) (v53 : BitVec 32) (k0_hw1 : k0_chk1 k0_t1 v53) (k0_t2 : Fin (k0_t2_loop k0_t1 v53).trips), ∀ a, (k0_off15 k0_t1 v53 k0_t2) a + S64x256.size a ≤ S64x4096.size a := fun k0_t1 v53 k0_hw1 k0_t2 => k0_hw1.1.2.2.2.2.2.2.2.2.2.2.2.2.2.2.2.2.2.2.2.2.2.2.2.2.2.2.1 k0_t2
theorem k0_mult15_dvd : ∀ (k0_t1 : Fin k0_t1_loop.trips) (v53 : BitVec 32) (k0_hw1 : k0_chk1 k0_t1 v53) (k0_t2 : Fin (k0_t2_loop k0_t1 v53).trips), 8 ∣ (k0_mult15 k0_t1 v53 k0_t2).toNat := fun k0_t1 v53 k0_hw1 k0_t2 => k0_hw1.1.2.2.2.2.2.2.2.2.2.2.2.2.2.2.2.2.2.2.2.2.2.2.2.2.2.2.2.1 k0_t2
theorem k0_off16_inb : ∀ (k0_t1 : Fin k0_t1_loop.trips) (v53 : BitVec 32) (k0_hw1 : k0_chk1 k0_t1 v53) (k0_t2 : Fin (k0_t2_loop k0_t1 v53).trips), ∀ a, (k0_off16 k0_t1 v53 k0_t2) a + S1x8x512.size a ≤ S1x32x4096.size a := fun k0_t1 v53 k0_hw1 k0_t2 => k0_hw1.1.2.2.2.2.2.2.2.2.2.2.2.2.2.2.2.2.2.2.2.2.2.2.2.2.2.2.2.2.1 k0_t2
theorem k0_t3_ok : ∀ (k0_t1 : Fin k0_t1_loop.trips) (v53 : BitVec 32) (k0_hw1 : k0_chk1 k0_t1 v53), (k0_t3_loop k0_t1 v53).OK := fun k0_t1 v53 k0_hw1 => k0_hw1.1.2.2.2.2.2.2.2.2.2.2.2.2.2.2.2.2.2.2.2.2.2.2.2.2.2.2.2.2.2.1
theorem k0_mult16_dvd : ∀ (k0_t1 : Fin k0_t1_loop.trips) (v53 : BitVec 32) (k0_hw1 : k0_chk1 k0_t1 v53) (k0_t3 : Fin (k0_t3_loop k0_t1 v53).trips), 256 ∣ (k0_mult16 k0_t1 v53 k0_t3).toNat := fun k0_t1 v53 k0_hw1 k0_t3 => k0_hw1.1.2.2.2.2.2.2.2.2.2.2.2.2.2.2.2.2.2.2.2.2.2.2.2.2.2.2.2.2.2.2.1 k0_t3
theorem k0_off17_inb : ∀ (k0_t1 : Fin k0_t1_loop.trips) (v53 : BitVec 32) (k0_hw1 : k0_chk1 k0_t1 v53) (k0_t3 : Fin (k0_t3_loop k0_t1 v53).trips), ∀ a, (k0_off17 k0_t1 v53 k0_t3) a + S1x64x256.size a ≤ S1x64x4096.size a := fun k0_t1 v53 k0_hw1 k0_t3 => k0_hw1.1.2.2.2.2.2.2.2.2.2.2.2.2.2.2.2.2.2.2.2.2.2.2.2.2.2.2.2.2.2.2.2 k0_t3
theorem k0_mult17_dvd : ∀ (k0_t1 : Fin k0_t1_loop.trips) (v53 : BitVec 32) (k0_hw1 : k0_chk1 k0_t1 v53) (k0_t3 : Fin (k0_t3_loop k0_t1 v53).trips), 256 ∣ (k0_mult17 k0_t1 v53 k0_t3).toNat := fun k0_t1 v53 k0_hw1 k0_t3 => k0_hw1.2.1 k0_t3
theorem k0_mult18_dvd : ∀ (k0_t1 : Fin k0_t1_loop.trips) (v53 : BitVec 32) (k0_hw1 : k0_chk1 k0_t1 v53) (k0_t3 : Fin (k0_t3_loop k0_t1 v53).trips), 256 ∣ (k0_mult18 k0_t1 v53 k0_t3).toNat := fun k0_t1 v53 k0_hw1 k0_t3 => k0_hw1.2.2.1 k0_t3
theorem k0_off18_inb : ∀ (k0_t1 : Fin k0_t1_loop.trips) (v53 : BitVec 32) (k0_hw1 : k0_chk1 k0_t1 v53) (k0_t3 : Fin (k0_t3_loop k0_t1 v53).trips), ∀ a, (k0_off18 k0_t1 v53 k0_t3) a + S1x64x256.size a ≤ S1x64x4096.size a := fun k0_t1 v53 k0_hw1 k0_t3 => k0_hw1.2.2.2.1 k0_t3
theorem k0_off19_inb : ∀ (k0_t1 : Fin k0_t1_loop.trips) (v53 : BitVec 32) (k0_hw1 : k0_chk1 k0_t1 v53) (k0_t3 : Fin (k0_t3_loop k0_t1 v53).trips), ∀ a, (k0_off19 k0_t1 v53 k0_t3) a + S64x256.size a ≤ S64x4096.size a := fun k0_t1 v53 k0_hw1 k0_t3 => k0_hw1.2.2.2.2.1 k0_t3
theorem k0_mult19_dvd : ∀ (k0_t1 : Fin k0_t1_loop.trips) (v53 : BitVec 32) (k0_hw1 : k0_chk1 k0_t1 v53) (k0_t3 : Fin (k0_t3_loop k0_t1 v53).trips), 8 ∣ (k0_mult19 k0_t1 v53 k0_t3).toNat := fun k0_t1 v53 k0_hw1 k0_t3 => k0_hw1.2.2.2.2.2.1 k0_t3
theorem k0_off20_inb : ∀ (k0_t1 : Fin k0_t1_loop.trips) (v53 : BitVec 32) (k0_hw1 : k0_chk1 k0_t1 v53) (k0_t3 : Fin (k0_t3_loop k0_t1 v53).trips), ∀ a, (k0_off20 k0_t1 v53 k0_t3) a + S1x8x512.size a ≤ S1x32x4096.size a := fun k0_t1 v53 k0_hw1 k0_t3 => k0_hw1.2.2.2.2.2.2.1 k0_t3
theorem k0_mult20_dvd : ∀ (k0_t1 : Fin k0_t1_loop.trips) (v53 : BitVec 32) (k0_hw1 : k0_chk1 k0_t1 v53) (k0_t3 : Fin (k0_t3_loop k0_t1 v53).trips), 256 ∣ (k0_mult20 k0_t1 v53 k0_t3).toNat := fun k0_t1 v53 k0_hw1 k0_t3 => k0_hw1.2.2.2.2.2.2.2.1 k0_t3
theorem k0_off21_inb : ∀ (k0_t1 : Fin k0_t1_loop.trips) (v53 : BitVec 32) (k0_hw1 : k0_chk1 k0_t1 v53) (k0_t3 : Fin (k0_t3_loop k0_t1 v53).trips), ∀ a, (k0_off21 k0_t1 v53 k0_t3) a + S1x64x256.size a ≤ S1x64x4096.size a := fun k0_t1 v53 k0_hw1 k0_t3 => k0_hw1.2.2.2.2.2.2.2.2.1 k0_t3
theorem k0_mult21_dvd : ∀ (k0_t1 : Fin k0_t1_loop.trips) (v53 : BitVec 32) (k0_hw1 : k0_chk1 k0_t1 v53) (k0_t3 : Fin (k0_t3_loop k0_t1 v53).trips), 256 ∣ (k0_mult21 k0_t1 v53 k0_t3).toNat := fun k0_t1 v53 k0_hw1 k0_t3 => k0_hw1.2.2.2.2.2.2.2.2.2.1 k0_t3
theorem k0_mult22_dvd : ∀ (k0_t1 : Fin k0_t1_loop.trips) (v53 : BitVec 32) (k0_hw1 : k0_chk1 k0_t1 v53) (k0_t3 : Fin (k0_t3_loop k0_t1 v53).trips), 256 ∣ (k0_mult22 k0_t1 v53 k0_t3).toNat := fun k0_t1 v53 k0_hw1 k0_t3 => k0_hw1.2.2.2.2.2.2.2.2.2.2.1 k0_t3
theorem k0_off22_inb : ∀ (k0_t1 : Fin k0_t1_loop.trips) (v53 : BitVec 32) (k0_hw1 : k0_chk1 k0_t1 v53) (k0_t3 : Fin (k0_t3_loop k0_t1 v53).trips), ∀ a, (k0_off22 k0_t1 v53 k0_t3) a + S1x64x256.size a ≤ S1x64x4096.size a := fun k0_t1 v53 k0_hw1 k0_t3 => k0_hw1.2.2.2.2.2.2.2.2.2.2.2.1 k0_t3
theorem k0_off23_inb : ∀ (k0_t1 : Fin k0_t1_loop.trips) (v53 : BitVec 32) (k0_hw1 : k0_chk1 k0_t1 v53) (k0_t3 : Fin (k0_t3_loop k0_t1 v53).trips), ∀ a, (k0_off23 k0_t1 v53 k0_t3) a + S64x256.size a ≤ S64x4096.size a := fun k0_t1 v53 k0_hw1 k0_t3 => k0_hw1.2.2.2.2.2.2.2.2.2.2.2.2.1 k0_t3
theorem k0_mult23_dvd : ∀ (k0_t1 : Fin k0_t1_loop.trips) (v53 : BitVec 32) (k0_hw1 : k0_chk1 k0_t1 v53) (k0_t3 : Fin (k0_t3_loop k0_t1 v53).trips), 8 ∣ (k0_mult23 k0_t1 v53 k0_t3).toNat := fun k0_t1 v53 k0_hw1 k0_t3 => k0_hw1.2.2.2.2.2.2.2.2.2.2.2.2.2.1 k0_t3
theorem k0_off24_inb : ∀ (k0_t1 : Fin k0_t1_loop.trips) (v53 : BitVec 32) (k0_hw1 : k0_chk1 k0_t1 v53) (k0_t3 : Fin (k0_t3_loop k0_t1 v53).trips), ∀ a, (k0_off24 k0_t1 v53 k0_t3) a + S1x8x512.size a ≤ S1x32x4096.size a := fun k0_t1 v53 k0_hw1 k0_t3 => k0_hw1.2.2.2.2.2.2.2.2.2.2.2.2.2.2.1 k0_t3
theorem k0_mult26_dvd : ∀ (k0_t1 : Fin k0_t1_loop.trips) (v53 : BitVec 32) (k0_hw1 : k0_chk1 k0_t1 v53), 256 ∣ (k0_mult26 k0_t1 v53).toNat := fun k0_t1 v53 k0_hw1 => k0_hw1.2.2.2.2.2.2.2.2.2.2.2.2.2.2.2.1
theorem k0_off26_inb : ∀ (k0_t1 : Fin k0_t1_loop.trips) (v53 : BitVec 32) (k0_hw1 : k0_chk1 k0_t1 v53), ∀ a, (k0_off26 k0_t1 v53) a + S1x64x256.size a ≤ S1x64x4096.size a := fun k0_t1 v53 k0_hw1 => k0_hw1.2.2.2.2.2.2.2.2.2.2.2.2.2.2.2.2.1
theorem k0_off27_inb : ∀ (k0_t1 : Fin k0_t1_loop.trips) (v53 : BitVec 32) (k0_hw1 : k0_chk1 k0_t1 v53), ∀ a, (k0_off27 k0_t1 v53) a + S64x256.size a ≤ S64x4096.size a := fun k0_t1 v53 k0_hw1 => k0_hw1.2.2.2.2.2.2.2.2.2.2.2.2.2.2.2.2.2.1
theorem k0_mult30_dvd : ∀ (k0_t1 : Fin k0_t1_loop.trips) (v53 : BitVec 32) (k0_hw1 : k0_chk1 k0_t1 v53), 256 ∣ (k0_mult30 k0_t1 v53).toNat := fun k0_t1 v53 k0_hw1 => k0_hw1.2.2.2.2.2.2.2.2.2.2.2.2.2.2.2.2.2.2.1
theorem k0_off30_inb : ∀ (k0_t1 : Fin k0_t1_loop.trips) (v53 : BitVec 32) (k0_hw1 : k0_chk1 k0_t1 v53), ∀ a, (k0_off30 k0_t1 v53) a + S1x64x256.size a ≤ S1x64x4096.size a := fun k0_t1 v53 k0_hw1 => k0_hw1.2.2.2.2.2.2.2.2.2.2.2.2.2.2.2.2.2.2.2.1
theorem k0_off31_inb : ∀ (k0_t1 : Fin k0_t1_loop.trips) (v53 : BitVec 32) (k0_hw1 : k0_chk1 k0_t1 v53), ∀ a, (k0_off31 k0_t1 v53) a + S64x256.size a ≤ S64x4096.size a := fun k0_t1 v53 k0_hw1 => k0_hw1.2.2.2.2.2.2.2.2.2.2.2.2.2.2.2.2.2.2.2.2

def k0_mult31 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c0_i32_231 : BitVec 32 := 0#32
  let v446 : BitVec 1 := Scalar.cmpi .sgt v38 c0_i32_231
  let v447 : BitVec 32 := Scalar.extui v446
  let c0_i32_232 : BitVec 32 := 0#32
  let v448 : BitVec 1 := Scalar.cmpi .slt v38 c0_i32_232
  let v449 : BitVec 32 := Scalar.extui v448
  let v450 : BitVec 32 := Scalar.subi v447 v449
  let c8_i32_230 : BitVec 32 := 8#32
  let c0_i32_233 : BitVec 32 := 0#32
  let v451 : BitVec 1 := Scalar.cmpi .sgt c8_i32_230 c0_i32_233
  let v452 : BitVec 32 := Scalar.extui v451
  let c0_i32_234 : BitVec 32 := 0#32
  let v453 : BitVec 1 := Scalar.cmpi .slt c8_i32_230 c0_i32_234
  let v454 : BitVec 32 := Scalar.extui v453
  let v455 : BitVec 32 := Scalar.subi v452 v454
  let v456 : BitVec 1 := Scalar.cmpi .ne v450 v455
  let v457 : BitVec 32 := Scalar.remsi v38 c8_i32_230
  let c0_i32_235 : BitVec 32 := 0#32
  let v458 : BitVec 1 := Scalar.cmpi .ne v457 c0_i32_235
  let v459 : BitVec 1 := Scalar.andi v456 v458
  let v445 : BitVec 32 := Scalar.divsi v38 c8_i32_230
  let c1_i32_236 : BitVec 32 := 1#32
  let v460 : BitVec 32 := Scalar.subi v445 c1_i32_236
  let v461 : BitVec 32 := Scalar.select v459 v460 v445
  let c8_i32_237 : BitVec 32 := 8#32
  let v462 : BitVec 32 := Scalar.muli v461 c8_i32_237
  v462
def k0_off32 (k0_t1 : Fin k0_t1_loop.trips) : Fin 3 → Nat :=
  let c0_238 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c0_i32_231 : BitVec 32 := 0#32
  let v446 : BitVec 1 := Scalar.cmpi .sgt v38 c0_i32_231
  let v447 : BitVec 32 := Scalar.extui v446
  let c0_i32_232 : BitVec 32 := 0#32
  let v448 : BitVec 1 := Scalar.cmpi .slt v38 c0_i32_232
  let v449 : BitVec 32 := Scalar.extui v448
  let v450 : BitVec 32 := Scalar.subi v447 v449
  let c8_i32_230 : BitVec 32 := 8#32
  let c0_i32_233 : BitVec 32 := 0#32
  let v451 : BitVec 1 := Scalar.cmpi .sgt c8_i32_230 c0_i32_233
  let v452 : BitVec 32 := Scalar.extui v451
  let c0_i32_234 : BitVec 32 := 0#32
  let v453 : BitVec 1 := Scalar.cmpi .slt c8_i32_230 c0_i32_234
  let v454 : BitVec 32 := Scalar.extui v453
  let v455 : BitVec 32 := Scalar.subi v452 v454
  let v456 : BitVec 1 := Scalar.cmpi .ne v450 v455
  let v457 : BitVec 32 := Scalar.remsi v38 c8_i32_230
  let c0_i32_235 : BitVec 32 := 0#32
  let v458 : BitVec 1 := Scalar.cmpi .ne v457 c0_i32_235
  let v459 : BitVec 1 := Scalar.andi v456 v458
  let v445 : BitVec 32 := Scalar.divsi v38 c8_i32_230
  let c1_i32_236 : BitVec 32 := 1#32
  let v460 : BitVec 32 := Scalar.subi v445 c1_i32_236
  let v461 : BitVec 32 := Scalar.select v459 v460 v445
  let c8_i32_237 : BitVec 32 := 8#32
  let v462 : BitVec 32 := Scalar.muli v461 c8_i32_237
  let v463 : BitVec 32 := v462
  let v464 : Index := Scalar.indexCast v463
  let c512_i32 : BitVec 32 := 512#32
  let v23 : BitVec 32 := Scalar.muli arg16 c512_i32
  let v24 : BitVec 32 := v23
  let v465 : Index := Scalar.indexCast v24
  ![0, v464.toNat, v465.toNat]
def k0_mult32 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c128_i32_266 : BitVec 32 := 128#32
  let v551 : BitVec 32 := Scalar.muli v38 c128_i32_266
  v551
def k0_off33 (k0_t1 : Fin k0_t1_loop.trips) : Fin 3 → Nat :=
  let c0_269 : Index := 0#32
  let c0_270 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c128_i32_266 : BitVec 32 := 128#32
  let v551 : BitVec 32 := Scalar.muli v38 c128_i32_266
  let v552 : BitVec 32 := v551
  let v554 : Index := Scalar.indexCast v552
  ![0, 0, v554.toNat]
def k0_off34 (k0_t1 : Fin k0_t1_loop.trips) : Fin 2 → Nat :=
  let c0_277 : Index := 0#32
  let c0_i32_8 : BitVec 32 := 0#32
  let c1_i32 : BitVec 32 := 1#32
  let arg16 : BitVec 32 := Scf.iv c0_i32_8 c1_i32 k0_t1
  let c4_i32 : BitVec 32 := 4#32
  let v37 : BitVec 32 := Scalar.muli arg16 c4_i32
  let c2_i32 : BitVec 32 := 2#32
  let v38 : BitVec 32 := Scalar.addi v37 c2_i32
  let c128_i32_266 : BitVec 32 := 128#32
  let v551 : BitVec 32 := Scalar.muli v38 c128_i32_266
  let v552 : BitVec 32 := v551
  let v564 : Index := Scalar.indexCast v552
  ![0, v564.toNat]
def k0_off35 (k0_t1 : Fin k0_t1_loop.trips) : Fin 2 → Nat :=
  let c0_295 : Index := 0#32
  let c0_i32_8 : BitVec 32 := 0#32
  let c1_i32 : BitVec 32 := 1#32
  let arg16 : BitVec 32 := Scf.iv c0_i32_8 c1_i32 k0_t1
  let c512_i32 : BitVec 32 := 512#32
  let v23 : BitVec 32 := Scalar.muli arg16 c512_i32
  let v24 : BitVec 32 := v23
  let v590 : Index := Scalar.indexCast v24
  ![0, v590.toNat]
def k0_off36 (k0_t1 : Fin k0_t1_loop.trips) : Fin 4 → Nat :=
  let c0_i32 : BitVec 32 := 0#32
  let c0_i32_292 : BitVec 32 := 0#32
  let c0_i32_293 : BitVec 32 := 0#32
  let c0_i32_8 : BitVec 32 := 0#32
  let c1_i32 : BitVec 32 := 1#32
  let arg16 : BitVec 32 := Scf.iv c0_i32_8 c1_i32 k0_t1
  let c512_i32 : BitVec 32 := 512#32
  let v23 : BitVec 32 := Scalar.muli arg16 c512_i32
  let v24 : BitVec 32 := v23
  let v590 : Index := Scalar.indexCast v24
  ![0, 0, 0, v590.toNat]
def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S136x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S136x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x1x64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpFwd.lean ====
abbrev S4096x1024 : Shape := ⟨2, ![4096, 1024]⟩
abbrev S2x1024x4096 : Shape := ⟨3, ![2, 1024, 4096]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpFwdRefIdeal.lean ====
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S4096x1024, .f32⟩
  | .hbm, ⟨3, _⟩ => ⟨S2x1024x4096, .f32⟩
  | .hbm, ⟨4, _⟩ => ⟨S1x1024x4096, .f32⟩
  | .hbm, ⟨5, _⟩ => ⟨S1024x4096, .f32⟩
  | .hbm, ⟨6, _⟩ => ⟨S4096x4096, .f32⟩
  | .hbm, ⟨7, _⟩ => ⟨S4096x4096, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DownFwd.lean ====
abbrev S4096x4096 : Shape := ⟨2, ![4096, 4096]⟩
abbrev S2x4096x1024 : Shape := ⟨3, ![2, 4096, 1024]⟩
abbrev S4096x1024 : Shape := ⟨2, ![4096, 1024]⟩
abbrev S1x1024 : Shape := ⟨2, ![1, 1024]⟩
abbrev S512x4096 : Shape := ⟨2, ![512, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownFwdRefIdeal.lean ====
abbrev S4096x4096 : Shape := ⟨2, ![4096, 4096]⟩
abbrev S2x4096x1024 : Shape := ⟨3, ![2, 4096, 1024]⟩
abbrev S4096x1024 : Shape := ⟨2, ![4096, 1024]⟩
abbrev S1x1024 : Shape := ⟨2, ![1, 1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S2x4096x1024, .f32⟩
  | .hbm, ⟨6, _⟩ => ⟨S1x4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DownDx.lean ====
abbrev S4096x1024 : Shape := ⟨2, ![4096, 1024]⟩
abbrev S2x4096x1024 : Shape := ⟨3, ![2, 4096, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownDxRefIdeal.lean ====
abbrev S4096x1024 : Shape := ⟨2, ![4096, 1024]⟩
abbrev S2x4096x1024 : Shape := ⟨3, ![2, 4096, 1024]⟩
abbrev S4096x4096 : Shape := ⟨2, ![4096, 4096]⟩
abbrev S_ : Shape := ⟨0, ![]⟩
abbrev S1x4096x1024 : Shape := ⟨3, ![1, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S4096x4096, .bf16⟩
  | .hbm, ⟨3, _⟩ => ⟨S4096x1024, .f32⟩
  | .hbm, ⟨4, _⟩ => ⟨S2x4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== DownDw.lean ====
abbrev S4096x4096 : Shape := ⟨2, ![4096, 4096]⟩
abbrev S4096x1024 : Shape := ⟨2, ![4096, 1024]⟩
abbrev S1x4096x1024 : Shape := ⟨3, ![1, 4096, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1x4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S4096x4096 : Shape := ⟨2, ![4096, 4096]⟩
abbrev S4096x1024 : Shape := ⟨2, ![4096, 1024]⟩
abbrev S_ : Shape := ⟨0, ![]⟩
abbrev S1x4096x1024 : Shape := ⟨3, ![1, 4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S1x4096x1024, .f32⟩
  | .hbm, ⟨11, _⟩ => ⟨S1x4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDx.lean ====
abbrev S4096x4096 : Shape := ⟨2, ![4096, 4096]⟩
abbrev S2x1024x4096 : Shape := ⟨3, ![2, 1024, 4096]⟩
abbrev S4096x1024 : Shape := ⟨2, ![4096, 1024]⟩
abbrev S1x1024 : Shape := ⟨2, ![1, 1024]⟩
abbrev S512x4096 : Shape := ⟨2, ![512, 4096]⟩
abbrev S1x1024x4096 : Shape := ⟨3, ![1, 1024, 4096]⟩
abbrev S512x1024 : Shape := ⟨2, ![512, 1024]⟩
abbrev S1024x4096 : Shape := ⟨2, ![1024, 4096]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== UpDxRefIdeal.lean ====
abbrev S4096x4096 : Shape := ⟨2, ![4096, 4096]⟩
abbrev S2x1024x4096 : Shape := ⟨3, ![2, 1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .f32⟩
  | .hbm, ⟨6, _⟩ => ⟨S2x1024x4096, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024x4096, .f32⟩
  | .hbm, ⟨29, _⟩ => ⟨S1024x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .bf16⟩
  | .hbm, ⟨60, _⟩ => ⟨S_, .f32⟩
  | .hbm, ⟨61, _⟩ => ⟨S1024, .f32⟩
  | .hbm, ⟨62, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== UpDw.lean ====
abbrev S4096x1024 : Shape := ⟨2, ![4096, 1024]⟩
abbrev S4096x4096 : Shape := ⟨2, ![4096, 4096]⟩
abbrev S1x1024x4096 : Shape := ⟨3, ![1, 1024, 4096]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1x1024x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwRefIdeal.lean ====
abbrev S4096x1024 : Shape := ⟨2, ![4096, 1024]⟩
abbrev S4096x4096 : Shape := ⟨2, ![4096, 4096]⟩
abbrev S_ : Shape := ⟨0, ![]⟩
abbrev S1x1024x4096 : Shape := ⟨3, ![1, 1024, 4096]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1x1024x4096, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1x1024x4096, .f32⟩
  | .hbm, ⟨11, _⟩ => ⟨S1x1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AQkvFwd.lean ====
abbrev S4096x1024 : Shape := ⟨2, ![4096, 1024]⟩
abbrev S1x1024x3072 : Shape := ⟨3, ![1, 1024, 3072]⟩
abbrev S3072x4096 : Shape := ⟨2, ![3072, 4096]⟩
abbrev S2048x1024 : Shape := ⟨2, ![2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x3072, .bf16⟩
  | .hbm, ⟨2, _⟩ => ⟨S3072x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AQkvFwdRefIdeal.lean ====
abbrev S4096x1024 : Shape := ⟨2, ![4096, 1024]⟩
abbrev S1x1024x3072 : Shape := ⟨3, ![1, 1024, 3072]⟩
abbrev S1024x3072 : Shape := ⟨2, ![1024, 3072]⟩
abbrev S4096x3072 : Shape := ⟨2, ![4096, 3072]⟩
abbrev S3072x4096 : Shape := ⟨2, ![3072, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x3072, .bf16⟩
  | .hbm, ⟨2, _⟩ => ⟨S4096x1024, .f32⟩
  | .hbm, ⟨3, _⟩ => ⟨S1x1024x3072, .f32⟩
  | .hbm, ⟨4, _⟩ => ⟨S1024x3072, .f32⟩
  | .hbm, ⟨5, _⟩ => ⟨S4096x3072, .f32⟩
  | .hbm, ⟨6, _⟩ => ⟨S3072x4096, .f32⟩
  | .hbm, ⟨7, _⟩ => ⟨S3072x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AWoFwd.lean ====
abbrev S1024x4096 : Shape := ⟨2, ![1024, 4096]⟩
abbrev S2x1024x1024 : Shape := ⟨3, ![2, 1024, 1024]⟩
abbrev S4096x1024 : Shape := ⟨2, ![4096, 1024]⟩
abbrev S1x1024 : Shape := ⟨2, ![1, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S1024x4096, .bf16⟩
  | .hbm, ⟨1, _⟩ => ⟨S2x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AWoFwdRefIdeal.lean ====
abbrev S1024x4096 : Shape := ⟨2, ![1024, 4096]⟩
abbrev S2x1024x1024 : Shape := ⟨3, ![2, 1024, 1024]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x1024x1024, .bf16⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S2x1024x1024, .f32⟩
  | .hbm, ⟨6, _⟩ => ⟨S4096x1024, .f32⟩
  | .hbm, ⟨7, _⟩ => ⟨S1x1024x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== AWoDx.lean ====
abbrev S4096x1024 : Shape := ⟨2, ![4096, 1024]⟩
abbrev S2x1024x1024 : Shape := ⟨3, ![2, 1024, 1024]⟩
abbrev S1024x4096 : Shape := ⟨2, ![1024, 4096]⟩
abbrev S2048x1024 : Shape := ⟨2, ![2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1024x2048, .bf16⟩
  | .local _ .vmem, ⟨4, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AWoDxRefIdeal.lean ====
abbrev S4096x1024 : Shape := ⟨2, ![4096, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S2x1024x1024, .f32⟩
  | .hbm, ⟨4, _⟩ => ⟨S_, .f32⟩
  | .hbm, ⟨5, _⟩ => ⟨S4096x1024, .f32⟩
  | .hbm, ⟨6, _⟩ => ⟨S1x1024x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S1024x4096, .f32⟩
  | .hbm, ⟨11, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AWoDw.lean ====
abbrev S1024x4096 : Shape := ⟨2, ![1024, 4096]⟩
abbrev S4096x1024 : Shape := ⟨2, ![4096, 1024]⟩
abbrev S1x1024x1024 : Shape := ⟨3, ![1, 1024, 1024]⟩
abbrev S512x4096 : Shape := ⟨2, ![512, 4096]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1x1024x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AWoDwRefIdeal.lean ====
abbrev S1024x4096 : Shape := ⟨2, ![1024, 4096]⟩
abbrev S4096x1024 : Shape := ⟨2, ![4096, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1x1024x1024, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AQkvDx.lean ====
abbrev S3072x4096 : Shape := ⟨2, ![3072, 4096]⟩
abbrev S1x1024x3072 : Shape := ⟨3, ![1, 1024, 3072]⟩
abbrev S4096x1024 : Shape := ⟨2, ![4096, 1024]⟩
abbrev S1x1024 : Shape := ⟨2, ![1, 1024]⟩
abbrev S3072x512 : Shape := ⟨2, ![3072, 512]⟩
abbrev S512x1024 : Shape := ⟨2, ![512, 1024]⟩
abbrev S1024x3072 : Shape := ⟨2, ![1024, 3072]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S3072x4096, .bf16⟩
  | .hbm, ⟨1, _⟩ => ⟨S1x1024x3072, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S3072x512, .bf16⟩
  | .local _ .vmem, ⟨1, _⟩ => ⟨S3072x512, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S3072x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== AQkvDxRefIdeal.lean ====
abbrev S3072x4096 : Shape := ⟨2, ![3072, 4096]⟩
abbrev S1x1024x3072 : Shape := ⟨3, ![1, 1024, 3072]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S4096x3072 : Shape := ⟨2, ![4096, 3072]⟩

abbrev nBuf : Space → Nat
  | .hbm => 63
  | .vmem => 0
  | .smem => 0
  | _ => 0

abbrev bufTy : (tb : Table) → Fin (tcTables nBuf tb) → BufTy
  | .hbm, ⟨0, _⟩ => ⟨S3072x4096, .bf16⟩
  | .hbm, ⟨1, _⟩ => ⟨S1x1024x3072, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S3072x4096, .f32⟩
  | .hbm, ⟨6, _⟩ => ⟨S1x1024x3072, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x3072, .f32⟩
  | .hbm, ⟨29, _⟩ => ⟨S4096x3072, .f32⟩
  | .hbm, ⟨30, _⟩ => ⟨S4096x3072, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .bf16⟩
  | .hbm, ⟨60, _⟩ => ⟨S_, .f32⟩
  | .hbm, ⟨61, _⟩ => ⟨S1024, .f32⟩
  | .hbm, ⟨62, _⟩ => ⟨S1x1024, .f32⟩
  | _, _ => ⟨S3072x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== AQkvDw.lean ====
abbrev S4096x1024 : Shape := ⟨2, ![4096, 1024]⟩
abbrev S3072x4096 : Shape := ⟨2, ![3072, 4096]⟩
abbrev S1x1024x3072 : Shape := ⟨3, ![1, 1024, 3072]⟩
abbrev S4096x512 : Shape := ⟨2, ![4096, 512]⟩
abbrev S1024x4096 : Shape := ⟨2, ![1024, 4096]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3072x4096, .bf16⟩
  | .hbm, ⟨2, _⟩ => ⟨S1x1024x3072, .bf16⟩
  | .local _ .vmem, ⟨0, _⟩ => ⟨S4096x512, .bf16⟩
  | .local _ .vmem, ⟨1, _⟩ => ⟨S4096x512, .bf16⟩
  | .local _ .vmem, ⟨2, _⟩ => ⟨S1024x4096, .bf16⟩
  | .local _ .vmem, ⟨3, _⟩ => ⟨S1024x4096, .bf16⟩
  | .local _ .vmem, ⟨4, _⟩ => ⟨S1x512x1024, .bf16⟩
  | .local _ .vmem, ⟨5, _⟩ => ⟨S1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AQkvDwRefIdeal.lean ====
abbrev S4096x1024 : Shape := ⟨2, ![4096, 1024]⟩
abbrev S3072x4096 : Shape := ⟨2, ![3072, 4096]⟩
abbrev S_ : Shape := ⟨0, ![]⟩
abbrev S1x1024x3072 : Shape := ⟨3, ![1, 1024, 3072]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x4096, .bf16⟩
  | .hbm, ⟨2, _⟩ => ⟨S4096x1024, .f32⟩
  | .hbm, ⟨3, _⟩ => ⟨S3072x4096, .f32⟩
  | .hbm, ⟨4, _⟩ => ⟨S_, .f32⟩
  | .hbm, ⟨5, _⟩ => ⟨S1x1024x3072, .f32⟩
  | .hbm, ⟨6, _⟩ => ⟨S1024x3072, .f32⟩
  | .hbm, ⟨7, _⟩ => ⟨S4096x3072, .f32⟩
  | .hbm, ⟨8, _⟩ => ⟨S4096x3072, .f32⟩
  | .hbm, ⟨9, _⟩ => ⟨S3072x1024, .f32⟩
  | .hbm, ⟨10, _⟩ => ⟨S1024x3072, .f32⟩
  | .hbm, ⟨11, _⟩ => ⟨S1x1024x3072, .f32⟩
  | .hbm, ⟨12, _⟩ => ⟨S1x1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KvFwd.lean ====
abbrev S4096x1024 : Shape := ⟨2, ![4096, 1024]⟩
abbrev S1x1024x256 : Shape := ⟨3, ![1, 1024, 256]⟩
abbrev S256x1 : Shape := ⟨2, ![256, 1]⟩
abbrev S256x4096 : Shape := ⟨2, ![256, 4096]⟩
abbrev S2048x1024 : Shape := ⟨2, ![2048, 1024]⟩
abbrev S256x2048 : Shape := ⟨2, ![256, 2048]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x256, .bf16⟩
  | .hbm, ⟨2, _⟩ => ⟨S256x1, .f32⟩
  | .hbm, ⟨3, _⟩ => ⟨S256x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S256x1, .f32⟩
  | .local _ .vmem, ⟨4, _⟩ => ⟨S256x2048, .bf16⟩
  | .local _ .vmem, ⟨5, _⟩ => ⟨S256x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvFwdRefIdeal.lean ====
abbrev S4096x1024 : Shape := ⟨2, ![4096, 1024]⟩
abbrev S1x1024x256 : Shape := ⟨3, ![1, 1024, 256]⟩
abbrev S256x1 : Shape := ⟨2, ![256, 1]⟩
abbrev S1024x256 : Shape := ⟨2, ![1024, 256]⟩
abbrev S4096x256 : Shape := ⟨2, ![4096, 256]⟩
abbrev S256 : Shape := ⟨1, ![256]⟩
abbrev S1x256 : Shape := ⟨2, ![1, 256]⟩
abbrev S256x4096 : Shape := ⟨2, ![256, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x256, .bf16⟩
  | .hbm, ⟨2, _⟩ => ⟨S256x1, .f32⟩
  | .hbm, ⟨3, _⟩ => ⟨S4096x1024, .f32⟩
  | .hbm, ⟨4, _⟩ => ⟨S1x1024x256, .f32⟩
  | .hbm, ⟨5, _⟩ => ⟨S1024x256, .f32⟩
  | .hbm, ⟨6, _⟩ => ⟨S4096x256, .f32⟩
  | .hbm, ⟨7, _⟩ => ⟨S256, .f32⟩
  | .hbm, ⟨8, _⟩ => ⟨S1x256, .f32⟩
  | .hbm, ⟨9, _⟩ => ⟨S4096x256, .f32⟩
  | .hbm, ⟨10, _⟩ => ⟨S4096x256, .f32⟩
  | .hbm, ⟨11, _⟩ => ⟨S256x4096, .f32⟩
  | .hbm, ⟨12, _⟩ => ⟨S256x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KvDx.lean ====
abbrev S256x4096 : Shape := ⟨2, ![256, 4096]⟩
abbrev S1x1024x256 : Shape := ⟨3, ![1, 1024, 256]⟩
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S256x4096, .bf16⟩
  | .hbm, ⟨1, _⟩ => ⟨S1x1024x256, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== KvDxRefIdeal.lean ====
abbrev S256x4096 : Shape := ⟨2, ![256, 4096]⟩
abbrev S1x1024x256 : Shape := ⟨3, ![1, 1024, 256]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S4096x256 : Shape := ⟨2, ![4096, 256]⟩

abbrev nBuf : Space → Nat
  | .hbm => 63
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S1x1024x256, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S256x4096, .f32⟩
  | .hbm, ⟨6, _⟩ => ⟨S1x1024x256, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x256, .f32⟩
  | .hbm, ⟨29, _⟩ => ⟨S4096x256, .f32⟩
  | .hbm, ⟨30, _⟩ => ⟨S4096x256, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .bf16⟩
  | .hbm, ⟨60, _⟩ => ⟨S_, .f32⟩
  | .hbm, ⟨61, _⟩ => ⟨S1024, .f32⟩
  | .hbm, ⟨62, _⟩ => ⟨S1x1024, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== KvDw.lean ====
abbrev S4096x1024 : Shape := ⟨2, ![4096, 1024]⟩
abbrev S256x4096 : Shape := ⟨2, ![256, 4096]⟩
abbrev S1x1024x256 : Shape := ⟨3, ![1, 1024, 256]⟩
abbrev S4096x512 : Shape := ⟨2, ![4096, 512]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x4096, .bf16⟩
  | .hbm, ⟨2, _⟩ => ⟨S1x1024x256, .bf16⟩
  | .local _ .vmem, ⟨0, _⟩ => ⟨S4096x512, .bf16⟩
  | .local _ .vmem, ⟨1, _⟩ => ⟨S4096x512, .bf16⟩
  | .local _ .vmem, ⟨2, _⟩ => ⟨S256x4096, .bf16⟩
  | .local _ .vmem, ⟨3, _⟩ => ⟨S1x512x256, .bf16⟩
  | .local _ .vmem, ⟨4, _⟩ => ⟨S1x512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvDwRefIdeal.lean ====
abbrev S4096x1024 : Shape := ⟨2, ![4096, 1024]⟩
abbrev S256x4096 : Shape := ⟨2, ![256, 4096]⟩
abbrev S_ : Shape := ⟨0, ![]⟩
abbrev S1x1024x256 : Shape := ⟨3, ![1, 1024, 256]⟩
abbrev S1024x256 : Shape := ⟨2, ![1024, 256]⟩
abbrev S4096x256 : Shape := ⟨2, ![4096, 256]⟩
abbrev S256x1024 : Shape := ⟨2, ![256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x4096, .bf16⟩
  | .hbm, ⟨2, _⟩ => ⟨S4096x1024, .f32⟩
  | .hbm, ⟨3, _⟩ => ⟨S256x4096, .f32⟩
  | .hbm, ⟨4, _⟩ => ⟨S_, .f32⟩
  | .hbm, ⟨5, _⟩ => ⟨S1x1024x256, .f32⟩
  | .hbm, ⟨6, _⟩ => ⟨S1024x256, .f32⟩
  | .hbm, ⟨7, _⟩ => ⟨S4096x256, .f32⟩
  | .hbm, ⟨8, _⟩ => ⟨S4096x256, .f32⟩
  | .hbm, ⟨9, _⟩ => ⟨S256x1024, .f32⟩
  | .hbm, ⟨10, _⟩ => ⟨S1024x256, .f32⟩
  | .hbm, ⟨11, _⟩ => ⟨S1x1024x256, .f32⟩
  | .hbm, ⟨12, _⟩ => ⟨S1x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== BQFwd.lean ====
abbrev S4096x1024 : Shape := ⟨2, ![4096, 1024]⟩
abbrev S2x1024x1024 : Shape := ⟨3, ![2, 1024, 1024]⟩
abbrev S1024x1 : Shape := ⟨2, ![1024, 1]⟩
abbrev S1024x4096 : Shape := ⟨2, ![1024, 4096]⟩
abbrev S2048x1024 : Shape := ⟨2, ![2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S1024x1, .f32⟩
  | .hbm, ⟨3, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1024x1, .f32⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BQFwdRefIdeal.lean ====
abbrev S4096x1024 : Shape := ⟨2, ![4096, 1024]⟩
abbrev S2x1024x1024 : Shape := ⟨3, ![2, 1024, 1024]⟩
abbrev S1024x1 : Shape := ⟨2, ![1024, 1]⟩
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S1024x1, .f32⟩
  | .hbm, ⟨3, _⟩ => ⟨S4096x1024, .f32⟩
  | .hbm, ⟨4, _⟩ => ⟨S2x1024x1024, .f32⟩
  | .hbm, ⟨5, _⟩ => ⟨S1x1024x1024, .f32⟩
  | .hbm, ⟨6, _⟩ => ⟨S1024x1024, .f32⟩
  | .hbm, ⟨7, _⟩ => ⟨S4096x1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== BQDx.lean ====
abbrev S1024x4096 : Shape := ⟨2, ![1024, 4096]⟩
abbrev S2x1024x1024 : Shape := ⟨3, ![2, 1024, 1024]⟩
abbrev S4096x1024 : Shape := ⟨2, ![4096, 1024]⟩
abbrev S1x1024 : Shape := ⟨2, ![1, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S1024x4096, .bf16⟩
  | .hbm, ⟨1, _⟩ => ⟨S2x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== BQDxRefIdeal.lean ====
abbrev S1024x4096 : Shape := ⟨2, ![1024, 4096]⟩
abbrev S2x1024x1024 : Shape := ⟨3, ![2, 1024, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x4096, .f32⟩
  | .hbm, ⟨6, _⟩ => ⟨S2x1024x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024x1024, .f32⟩
  | .hbm, ⟨29, _⟩ => ⟨S1024x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .bf16⟩
  | .hbm, ⟨61, _⟩ => ⟨S_, .f32⟩
  | .hbm, ⟨62, _⟩ => ⟨S1024, .f32⟩
  | .hbm, ⟨63, _⟩ => ⟨S1x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== BWoFwd.lean ====
abbrev S1024x4096 : Shape := ⟨2, ![1024, 4096]⟩
abbrev S2x1024x1024 : Shape := ⟨3, ![2, 1024, 1024]⟩
abbrev S4096x1024 : Shape := ⟨2, ![4096, 1024]⟩
abbrev S1x1024 : Shape := ⟨2, ![1, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S1024x4096, .bf16⟩
  | .hbm, ⟨1, _⟩ => ⟨S2x1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== BWoFwdRefIdeal.lean ====
abbrev S1024x4096 : Shape := ⟨2, ![1024, 4096]⟩
abbrev S2x1024x1024 : Shape := ⟨3, ![2, 1024, 1024]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S2x1024x1024, .f32⟩
  | .hbm, ⟨7, _⟩ => ⟨S4096x1024, .f32⟩
  | .hbm, ⟨8, _⟩ => ⟨S1x1024x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== AdamwANorm.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamwANormRefIdeal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwBW.lean ====
abbrev S_ : Shape := ⟨0, ![]⟩
abbrev S4x2x128x1024 : Shape := ⟨4, ![4, 2, 128, 1024]⟩
abbrev S3x2x128x1024 : Shape := ⟨4, ![3, 2, 128, 1024]⟩
abbrev S2x128x1024 : Shape := ⟨3, ![2, 128, 1024]⟩
abbrev S1 : Shape := ⟨1, ![1]⟩
abbrev S1x1x128x1024 : Shape := ⟨4, ![1, 1, 128, 1024]⟩
abbrev S3x1x128x1024 : Shape := ⟨4, ![3, 1, 128, 1024]⟩
abbrev S1x128x1024 : Shape := ⟨3, ![1, 128, 1024]⟩
abbrev S128x1024 : Shape := ⟨2, ![128, 1024]⟩

abbrev nBuf : Space → Nat
  | .hbm => 10
  | .vmem => 18
  | .smem => 1
  | _ => 0

abbrev bufTy : (tb : Table) → Fin (tcTables nBuf tb) → BufTy
  | .hbm, ⟨0, _⟩ => ⟨S_, .i32⟩
  | .hbm, ⟨1, _⟩ => ⟨S4x2x128x1024, .bf16⟩
  | .hbm, ⟨2, _⟩ => ⟨S3x2x128x1024, .bf16⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .local _ .vmem, ⟨0, _⟩ => ⟨S1x1x128x1024, .bf16⟩
  | .local _ .vmem, ⟨1, _⟩ => ⟨S1x1x128x1024, .bf16⟩
  | .local _ .vmem, ⟨2, _⟩ => ⟨S3x1x128x1024, .bf16⟩
  | .local _ .vmem, ⟨3, _⟩ => ⟨S3x1x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwBWRefIdeal.lean ====
abbrev S_ : Shape := ⟨0, ![]⟩
abbrev S4x2x128x1024 : Shape := ⟨4, ![4, 2, 128, 1024]⟩
abbrev S3x2x128x1024 : Shape := ⟨4, ![3, 2, 128, 1024]⟩
abbrev S2x128x1024 : Shape := ⟨3, ![2, 128, 1024]⟩
abbrev S4 : Shape := ⟨1, ![4]⟩
abbrev S4x1x1x1 : Shape := ⟨4, ![4, 1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2x128x1024, .bf16⟩
  | .hbm, ⟨2, _⟩ => ⟨S3x2x128x1024, .bf16⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S4, .i32⟩
  | .hbm, ⟨7, _⟩ => ⟨S4x1x1x1, .i32⟩
  | .hbm, ⟨8, _⟩ => ⟨S4x1x1x1, .i32⟩
  | .hbm, ⟨9, _⟩ => ⟨S4x1x1x1, .i1⟩
  | .hbm, ⟨10, _⟩ => ⟨S4x2x128x1024, .f32⟩
  | .hbm, ⟨11, _⟩ => ⟨S_, .i32⟩
  | .hbm, ⟨12, _⟩ => ⟨S_, .f32⟩
  | .hbm, ⟨13, _⟩ => ⟨S4x2x128x1024, .i1⟩
  | .hbm, ⟨14, _⟩ => ⟨S4x2x128x1024, .f32⟩
  | .hbm, ⟨15, _⟩ => ⟨S4x2x128x1024, .f32⟩
  | .hbm, ⟨16, _⟩ => ⟨S_, .f32⟩
  | .hbm, ⟨17, _⟩ => ⟨S2x128x1024, .f32⟩
  | .hbm, ⟨18, _⟩ => ⟨S3x2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S2x128x1024, .f32⟩
  | .hbm, ⟨37, _⟩ => ⟨S_, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | .hbm, ⟨47, _⟩ => ⟨S2x128x1024, .f32⟩
  | .hbm, ⟨48, _⟩ => ⟨S_, .f32⟩
  | .hbm, ⟨49, _⟩ => ⟨S2x128x1024, .f32⟩
  | .hbm, ⟨50, _⟩ => ⟨S2x128x1024, .f32⟩
  | .hbm, ⟨51, _⟩ => ⟨S2x128x1024, .f32⟩
  | .hbm, ⟨52, _⟩ => ⟨S_, .f32⟩
  | .hbm, ⟨53, _⟩ => ⟨S2x128x1024, .f32⟩
  | .hbm, ⟨54, _⟩ => ⟨S2x128x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamwKv.lean ====
abbrev S_ : Shape := ⟨0, ![]⟩
abbrev S4x1x128x256 : Shape := ⟨4, ![4, 1, 128, 256]⟩
abbrev S3x1x128x256 : Shape := ⟨4, ![3, 1, 128, 256]⟩
abbrev S1x128x256 : Shape := ⟨3, ![1, 128, 256]⟩
abbrev S1 : Shape := ⟨1, ![1]⟩
abbrev S1x1x128x256 : Shape := ⟨4, ![1, 1, 128, 256]⟩
abbrev S128x256 : Shape := ⟨2, ![128, 256]⟩

abbrev nBuf : Space → Nat
  | .hbm => 10
  | .vmem => 9
  | .smem => 1
  | _ => 0

abbrev bufTy : (tb : Table) → Fin (tcTables nBuf tb) → BufTy
  | .hbm, ⟨0, _⟩ => ⟨S_, .i32⟩
  | .hbm, ⟨1, _⟩ => ⟨S4x1x128x256, .bf16⟩
  | .hbm, ⟨2, _⟩ => ⟨S3x1x128x256, .bf16⟩
  | .hbm, ⟨3, _⟩ => ⟨S1x128x256, .f32⟩
  | .hbm, ⟨4, _⟩ => ⟨S1x128x256, .f32⟩
  | .hbm, ⟨5, _⟩ => ⟨S1x128x256, .f32⟩
  | .hbm, ⟨6, _⟩ => ⟨S1x128x256, .f32⟩
  | .hbm, ⟨7, _⟩ => ⟨S1x128x256, .f32⟩
  | .hbm, ⟨8, _⟩ => ⟨S1x128x256, .f32⟩
  | .hbm, ⟨9, _⟩ => ⟨S1x128x256, .f32⟩
  | .local _ .vmem, ⟨0, _⟩ => ⟨S1x1x128x256, .bf16⟩
  | .local _ .vmem, ⟨1, _⟩ => ⟨S3x1x128x256, .bf16⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S1x1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x1x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamwKvRefIdeal.lean ====
abbrev S_ : Shape := ⟨0, ![]⟩
abbrev S4x1x128x256 : Shape := ⟨4, ![4, 1, 128, 256]⟩
abbrev S3x1x128x256 : Shape := ⟨4, ![3, 1, 128, 256]⟩
abbrev S1x128x256 : Shape := ⟨3, ![1, 128, 256]⟩
abbrev S4 : Shape := ⟨1, ![4]⟩
abbrev S4x1x1x1 : Shape := ⟨4, ![4, 1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x1x128x256, .bf16⟩
  | .hbm, ⟨2, _⟩ => ⟨S3x1x128x256, .bf16⟩
  | .hbm, ⟨3, _⟩ => ⟨S1x128x256, .f32⟩
  | .hbm, ⟨4, _⟩ => ⟨S1x128x256, .f32⟩
  | .hbm, ⟨5, _⟩ => ⟨S1x128x256, .f32⟩
  | .hbm, ⟨6, _⟩ => ⟨S4, .i32⟩
  | .hbm, ⟨7, _⟩ => ⟨S4x1x1x1, .i32⟩
  | .hbm, ⟨8, _⟩ => ⟨S4x1x1x1, .i32⟩
  | .hbm, ⟨9, _⟩ => ⟨S4x1x1x1, .i1⟩
  | .hbm, ⟨10, _⟩ => ⟨S4x1x128x256, .f32⟩
  | .hbm, ⟨11, _⟩ => ⟨S_, .i32⟩
  | .hbm, ⟨12, _⟩ => ⟨S_, .f32⟩
  | .hbm, ⟨13, _⟩ => ⟨S4x1x128x256, .i1⟩
  | .hbm, ⟨14, _⟩ => ⟨S4x1x128x256, .f32⟩
  | .hbm, ⟨15, _⟩ => ⟨S4x1x128x256, .f32⟩
  | .hbm, ⟨16, _⟩ => ⟨S_, .f32⟩
  | .hbm, ⟨17, _⟩ => ⟨S1x128x256, .f32⟩
  | .hbm, ⟨18, _⟩ => ⟨S3x1x128x256, .f32⟩
  | .hbm, ⟨19, _⟩ => ⟨S_, .f32⟩
  | .hbm, ⟨20, _⟩ => ⟨S1x128x256, .f32⟩
  | .hbm, ⟨21, _⟩ => ⟨S1x128x256, .f32⟩
  | .hbm, ⟨22, _⟩ => ⟨S_, .f32⟩
  | .hbm, ⟨23, _⟩ => ⟨S1x128x256, .f32⟩
  | .hbm, ⟨24, _⟩ => ⟨S1x128x256, .f32⟩
  | .hbm, ⟨25, _⟩ => ⟨S_, .f32⟩
  | .hbm, ⟨26, _⟩ => ⟨S1x128x256, .f32⟩
  | .hbm, ⟨27, _⟩ => ⟨S1x128x256, .f32⟩
  | .hbm, ⟨28, _⟩ => ⟨S1x128x256, .f32⟩
  | .hbm, ⟨29, _⟩ => ⟨S_, .f32⟩
  | .hbm, ⟨30, _⟩ => ⟨S1x128x256, .f32⟩
  | .hbm, ⟨31, _⟩ => ⟨S1x128x256, .f32⟩
  | .hbm, ⟨32, _⟩ => ⟨S1x128x256, .f32⟩
  | .hbm, ⟨33, _⟩ => ⟨S_, .f32⟩
  | .hbm, ⟨34, _⟩ => ⟨S1x128x256, .f32⟩
  | .hbm, ⟨35, _⟩ => ⟨S1x128x256, .f32⟩
  | .hbm, ⟨36, _⟩ => ⟨S1x128x256, .f32⟩
  | .hbm, ⟨37, _⟩ => ⟨S_, .f32⟩
  | .hbm, ⟨38, _⟩ => ⟨S1x128x256, .f32⟩
  | .hbm, ⟨39, _⟩ => ⟨S1x128x256, .f32⟩
  | .hbm, ⟨40, _⟩ => ⟨S_, .f32⟩
  | .hbm, ⟨41, _⟩ => ⟨S1x128x256, .f32⟩
  | .hbm, ⟨42, _⟩ => ⟨S1x128x256, .f32⟩
  | .hbm, ⟨43, _⟩ => ⟨S1x128x256, .f32⟩
  | .hbm, ⟨44, _⟩ => ⟨S_, .f32⟩
  | .hbm, ⟨45, _⟩ => ⟨S1x128x256, .f32⟩
  | .hbm, ⟨46, _⟩ => ⟨S1x128x256, .f32⟩
  | .hbm, ⟨47, _⟩ => ⟨S1x128x256, .f32⟩
  | .hbm, ⟨48, _⟩ => ⟨S_, .f32⟩
  | .hbm, ⟨49, _⟩ => ⟨S1x128x256, .f32⟩
  | .hbm, ⟨50, _⟩ => ⟨S1x128x256, .f32⟩
  | .hbm, ⟨51, _⟩ => ⟨S1x128x256, .f32⟩
  | .hbm, ⟨52, _⟩ => ⟨S_, .f32⟩
  | .hbm, ⟨53, _⟩ => ⟨S1x128x256, .f32⟩
  | .hbm, ⟨54, _⟩ => ⟨S1x128x256, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamwUp.lean ====
abbrev S_ : Shape := ⟨0, ![]⟩
abbrev S4x1x1024x512 : Shape := ⟨4, ![4, 1, 1024, 512]⟩
abbrev S3x1x1024x512 : Shape := ⟨4, ![3, 1, 1024, 512]⟩
abbrev S4x1024x512 : Shape := ⟨3, ![4, 1024, 512]⟩
abbrev S1 : Shape := ⟨1, ![1]⟩
abbrev S1x1x512x512 : Shape := ⟨4, ![1, 1, 512, 512]⟩
abbrev S3x1x512x512 : Shape := ⟨4, ![3, 1, 512, 512]⟩
abbrev S1x512x512 : Shape := ⟨3, ![1, 512, 512]⟩
abbrev S512x512 : Shape := ⟨2, ![512, 512]⟩

abbrev nBuf : Space → Nat
  | .hbm => 14
  | .vmem => 18
  | .smem => 1
  | _ => 0

abbrev bufTy : (tb : Table) → Fin (tcTables nBuf tb) → BufTy
  | .hbm, ⟨0, _⟩ => ⟨S_, .i32⟩
  | .hbm, ⟨1, _⟩ => ⟨S4x1x1024x512, .bf16⟩
  | .hbm, ⟨2, _⟩ => ⟨S3x1x1024x512, .bf16⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .hbm, ⟨13, _⟩ => ⟨S4x1024x512, .f32⟩
  | .local _ .vmem, ⟨0, _⟩ => ⟨S1x1x512x512, .bf16⟩
  | .local _ .vmem, ⟨1, _⟩ => ⟨S1x1x512x512, .bf16⟩
  | .local _ .vmem, ⟨2, _⟩ => ⟨S3x1x512x512, .bf16⟩
  | .local _ .vmem, ⟨3, _⟩ => ⟨S3x1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwUpRefIdeal.lean ====
abbrev S_ : Shape := ⟨0, ![]⟩
abbrev S4x1x1024x512 : Shape := ⟨4, ![4, 1, 1024, 512]⟩
abbrev S3x1x1024x512 : Shape := ⟨4, ![3, 1, 1024, 512]⟩
abbrev S4x1024x512 : Shape := ⟨3, ![4, 1024, 512]⟩
abbrev S1x1024x512 : Shape := ⟨3, ![1, 1024, 512]⟩
abbrev S4 : Shape := ⟨1, ![4]⟩
abbrev S4x1x1x1 : Shape := ⟨4, ![4, 1, 1, 1]⟩
abbrev S4x1x1 : Shape := ⟨3, ![4, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x1x1024x512, .bf16⟩
  | .hbm, ⟨2, _⟩ => ⟨S3x1x1024x512, .bf16⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S1x1024x512, .f32⟩
  | .hbm, ⟨11, _⟩ => ⟨S1x1024x512, .f32⟩
  | .hbm, ⟨12, _⟩ => ⟨S1x1024x512, .f32⟩
  | .hbm, ⟨13, _⟩ => ⟨S4, .i32⟩
  | .hbm, ⟨14, _⟩ => ⟨S4x1x1x1, .i32⟩
  | .hbm, ⟨15, _⟩ => ⟨S4x1x1x1, .i32⟩
  | .hbm, ⟨16, _⟩ => ⟨S4x1x1x1, .i1⟩
  | .hbm, ⟨17, _⟩ => ⟨S4x1x1024x512, .f32⟩
  | .hbm, ⟨18, _⟩ => ⟨S_, .i32⟩
  | .hbm, ⟨19, _⟩ => ⟨S_, .f32⟩
  | .hbm, ⟨20, _⟩ => ⟨S4x1x1024x512, .i1⟩
  | .hbm, ⟨21, _⟩ => ⟨S4x1x1024x512, .f32⟩
  | .hbm, ⟨22, _⟩ => ⟨S4x1x1024x512, .f32⟩
  | .hbm, ⟨23, _⟩ => ⟨S_, .f32⟩
  | .hbm, ⟨24, _⟩ => ⟨S1x1024x512, .f32⟩
  | .hbm, ⟨25, _⟩ => ⟨S3x1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S_, .f32⟩
  | .hbm, ⟨30, _⟩ => ⟨S1x1024x512, .f32⟩
  | .hbm, ⟨31, _⟩ => ⟨S1x1024x512, .f32⟩
  | .hbm, ⟨32, _⟩ => ⟨S_, .f32⟩
  | .hbm, ⟨33, _⟩ => ⟨S1x1024x512, .f32⟩
  | .hbm, ⟨34, _⟩ => ⟨S1x1024x512, .f32⟩
  | .hbm, ⟨35, _⟩ => ⟨S1x1024x512, .f32⟩
  | .hbm, ⟨36, _⟩ => ⟨S_, .f32⟩
  | .hbm, ⟨37, _⟩ => ⟨S1x1024x512, .f32⟩
  | .hbm, ⟨38, _⟩ => ⟨S1x1024x512, .f32⟩
  | .hbm, ⟨39, _⟩ => ⟨S1x1024x512, .f32⟩
  | .hbm, ⟨40, _⟩ => ⟨S_, .f32⟩
  | .hbm, ⟨41, _⟩ => ⟨S1x1024x512, .f32⟩
  | .hbm, ⟨42, _⟩ => ⟨S1x1024x512, .f32⟩
  | .hbm, ⟨43, _⟩ => ⟨S1x1024x512, .f32⟩
  | .hbm, ⟨44, _⟩ => ⟨S_, .f32⟩
  | .hbm, ⟨45, _⟩ => ⟨S1x1024x512, .f32⟩
  | .hbm, ⟨46, _⟩ => ⟨S1x1024x512, .f32⟩
  | .hbm, ⟨47, _⟩ => ⟨S_, .f32⟩
  | .hbm, ⟨48, _⟩ => ⟨S1x1024x512, .f32⟩
  | .hbm, ⟨49, _⟩ => ⟨S1x1024x512, .f32⟩
  | .hbm, ⟨50, _⟩ => ⟨S1x1024x512, .f32⟩
  | .hbm, ⟨51, _⟩ => ⟨S_, .f32⟩
  | .hbm, ⟨52, _⟩ => ⟨S1x1024x512, .f32⟩
  | .hbm, ⟨53, _⟩ => ⟨S1x1024x512, .f32⟩
  | .hbm, ⟨54, _⟩ => ⟨S1x1024x512, .f32⟩
  | .hbm, ⟨55, _⟩ => ⟨S_, .f32⟩
  | .hbm, ⟨56, _⟩ => ⟨S1x1024x512, .f32⟩
  | .hbm, ⟨57, _⟩ => ⟨S1x1024x512, .f32⟩
  | .hbm, ⟨58, _⟩ => ⟨S1x1024x512, .f32⟩
  | .hbm, ⟨59, _⟩ => ⟨S_, .f32⟩
  | .hbm, ⟨60, _⟩ => ⟨S1x1024x512, .f32⟩
  | .hbm, ⟨61, _⟩ => ⟨S1x1024x512, .f32⟩
  | .hbm, ⟨62, _⟩ => ⟨S4, .i32⟩
  | .hbm, ⟨63, _⟩ => ⟨S4x1x1, .i32⟩
  | .hbm, ⟨64, _⟩ => ⟨S_, .i32⟩
  | .hbm, ⟨65, _⟩ => ⟨S4x1x1, .i32⟩
  | .hbm, ⟨66, _⟩ => ⟨S4x1x1, .i1⟩
  | .hbm, ⟨67, _⟩ => ⟨S4x1024x512, .i1⟩
  | .hbm, ⟨68, _⟩ => ⟨S4x1024x512, .f32⟩
  | .hbm, ⟨69, _⟩ => ⟨S4x1024x512, .f32⟩
  | .hbm, ⟨70, _⟩ => ⟨S4x1024x512, .i1⟩
  | .hbm, ⟨71, _⟩ => ⟨S4x1024x512, .f32⟩
  | .hbm, ⟨72, _⟩ => ⟨S4x1024x512, .f32⟩
  | .hbm, ⟨73, _⟩ => ⟨S4x1024x512, .i1⟩
  | .hbm, ⟨74, _⟩ => ⟨S4x1024x512, .f32⟩
  | .hbm, ⟨75, _⟩ => ⟨S4x1024x512, .f32⟩
  | .hbm, ⟨76, _⟩ => ⟨S4x1024x512, .i1⟩
  | .hbm, ⟨77, _⟩ => ⟨S4x1024x512, .f32⟩
  | .hbm, ⟨78, _⟩ => ⟨S4x1024x512, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_call1_v0 : Ref sig .tc := ⟨.hbm, 67, rfl⟩
abbrev main_call1_v1 : Ref sig .tc := ⟨.hbm, 68, rfl⟩
abbrev main_v41 : Ref sig .tc := ⟨.hbm, 69, rfl⟩
abbrev main_call2_v0 : Ref sig .tc := ⟨.hbm, 70, rfl⟩
abbrev main_call2_v1 : Ref sig .tc := ⟨.hbm, 71, rfl⟩
abbrev main_v42 : Ref sig .tc := ⟨.hbm, 72, rfl⟩
abbrev main_call3_v0 : Ref sig .tc := ⟨.hbm, 73, rfl⟩
abbrev main_call3_v1 : Ref sig .tc := ⟨.hbm, 74, rfl⟩
abbrev main_v43 : Ref sig .tc := ⟨.hbm, 75, rfl⟩
abbrev main_call4_v0 : Ref sig .tc := ⟨.hbm, 76, rfl⟩
abbrev main_call4_v1 : Ref sig .tc := ⟨.hbm, 77, rfl⟩
abbrev main_v44 : Ref sig .tc := ⟨.hbm, 78, rfl⟩

abbrev nD : Nat := 1
abbrev τ : Topo := Topo.v7x

variable {F : FTy → Type} [FloatOps F]
-- ==== AdamwDown.lean ====
abbrev S_ : Shape := ⟨0, ![]⟩
abbrev S4x1x512x1024 : Shape := ⟨4, ![4, 1, 512, 1024]⟩
abbrev S3x1x512x1024 : Shape := ⟨4, ![3, 1, 512, 1024]⟩
abbrev S4x512x1024 : Shape := ⟨3, ![4, 512, 1024]⟩
abbrev S1 : Shape := ⟨1, ![1]⟩
abbrev S1x1x512x1024 : Shape := ⟨4, ![1, 1, 512, 1024]⟩
abbrev S1x512x1024 : Shape := ⟨3, ![1, 512, 1024]⟩
abbrev S512x1024 : Shape := ⟨2, ![512, 1024]⟩

abbrev nBuf : Space → Nat
  | .hbm => 14
  | .vmem => 9
  | .smem => 1
  | _ => 0

abbrev bufTy : (tb : Table) → Fin (tcTables nBuf tb) → BufTy
  | .hbm, ⟨0, _⟩ => ⟨S_, .i32⟩
  | .hbm, ⟨1, _⟩ => ⟨S4x1x512x1024, .bf16⟩
  | .hbm, ⟨2, _⟩ => ⟨S3x1x512x1024, .bf16⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S4x512x1024, .f32⟩
  | .hbm, ⟨12, _⟩ => ⟨S4x512x1024, .f32⟩
  | .hbm, ⟨13, _⟩ => ⟨S4x512x1024, .f32⟩
  | .local _ .vmem, ⟨0, _⟩ => ⟨S1x1x512x1024, .bf16⟩
  | .local _ .vmem, ⟨1, _⟩ => ⟨S3x1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S1x1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamwDownRefIdeal.lean ====
abbrev S_ : Shape := ⟨0, ![]⟩
abbrev S4x1x512x1024 : Shape := ⟨4, ![4, 1, 512, 1024]⟩
abbrev S3x1x512x1024 : Shape := ⟨4, ![3, 1, 512, 1024]⟩
abbrev S4x512x1024 : Shape := ⟨3, ![4, 512, 1024]⟩
abbrev S1x512x1024 : Shape := ⟨3, ![1, 512, 1024]⟩
abbrev S4 : Shape := ⟨1, ![4]⟩
abbrev S4x1x1x1 : Shape := ⟨4, ![4, 1, 1, 1]⟩
abbrev S4x1x1 : Shape := ⟨3, ![4, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x1x512x1024, .bf16⟩
  | .hbm, ⟨2, _⟩ => ⟨S3x1x512x1024, .bf16⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S1x512x1024, .f32⟩
  | .hbm, ⟨11, _⟩ => ⟨S1x512x1024, .f32⟩
  | .hbm, ⟨12, _⟩ => ⟨S1x512x1024, .f32⟩
  | .hbm, ⟨13, _⟩ => ⟨S4, .i32⟩
  | .hbm, ⟨14, _⟩ => ⟨S4x1x1x1, .i32⟩
  | .hbm, ⟨15, _⟩ => ⟨S4x1x1x1, .i32⟩
  | .hbm, ⟨16, _⟩ => ⟨S4x1x1x1, .i1⟩
  | .hbm, ⟨17, _⟩ => ⟨S4x1x512x1024, .f32⟩
  | .hbm, ⟨18, _⟩ => ⟨S_, .i32⟩
  | .hbm, ⟨19, _⟩ => ⟨S_, .f32⟩
  | .hbm, ⟨20, _⟩ => ⟨S4x1x512x1024, .i1⟩
  | .hbm, ⟨21, _⟩ => ⟨S4x1x512x1024, .f32⟩
  | .hbm, ⟨22, _⟩ => ⟨S4x1x512x1024, .f32⟩
  | .hbm, ⟨23, _⟩ => ⟨S_, .f32⟩
  | .hbm, ⟨24, _⟩ => ⟨S1x512x1024, .f32⟩
  | .hbm, ⟨25, _⟩ => ⟨S3x1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S_, .f32⟩
  | .hbm, ⟨30, _⟩ => ⟨S1x512x1024, .f32⟩
  | .hbm, ⟨31, _⟩ => ⟨S1x512x1024, .f32⟩
  | .hbm, ⟨32, _⟩ => ⟨S_, .f32⟩
  | .hbm, ⟨33, _⟩ => ⟨S1x512x1024, .f32⟩
  | .hbm, ⟨34, _⟩ => ⟨S1x512x1024, .f32⟩
  | .hbm, ⟨35, _⟩ => ⟨S1x512x1024, .f32⟩
  | .hbm, ⟨36, _⟩ => ⟨S_, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S_, .f32⟩
  | .hbm, ⟨41, _⟩ => ⟨S1x512x1024, .f32⟩
  | .hbm, ⟨42, _⟩ => ⟨S1x512x1024, .f32⟩
  | .hbm, ⟨43, _⟩ => ⟨S1x512x1024, .f32⟩
  | .hbm, ⟨44, _⟩ => ⟨S_, .f32⟩
  | .hbm, ⟨45, _⟩ => ⟨S1x512x1024, .f32⟩
  | .hbm, ⟨46, _⟩ => ⟨S1x512x1024, .f32⟩
  | .hbm, ⟨47, _⟩ => ⟨S_, .f32⟩
  | .hbm, ⟨48, _⟩ => ⟨S1x512x1024, .f32⟩
  | .hbm, ⟨49, _⟩ => ⟨S1x512x1024, .f32⟩
  | .hbm, ⟨50, _⟩ => ⟨S1x512x1024, .f32⟩
  | .hbm, ⟨51, _⟩ => ⟨S_, .f32⟩
  | .hbm, ⟨52, _⟩ => ⟨S1x512x1024, .f32⟩
  | .hbm, ⟨53, _⟩ => ⟨S1x512x1024, .f32⟩
  | .hbm, ⟨54, _⟩ => ⟨S1x512x1024, .f32⟩
  | .hbm, ⟨55, _⟩ => ⟨S_, .f32⟩
  | .hbm, ⟨56, _⟩ => ⟨S1x512x1024, .f32⟩
  | .hbm, ⟨57, _⟩ => ⟨S1x512x1024, .f32⟩
  | .hbm, ⟨58, _⟩ => ⟨S1x512x1024, .f32⟩
  | .hbm, ⟨59, _⟩ => ⟨S_, .f32⟩
  | .hbm, ⟨60, _⟩ => ⟨S1x512x1024, .f32⟩
  | .hbm, ⟨61, _⟩ => ⟨S1x512x1024, .f32⟩
  | .hbm, ⟨62, _⟩ => ⟨S4, .i32⟩
  | .hbm, ⟨63, _⟩ => ⟨S4x1x1, .i32⟩
  | .hbm, ⟨64, _⟩ => ⟨S_, .i32⟩
  | .hbm, ⟨65, _⟩ => ⟨S4x1x1, .i32⟩
  | .hbm, ⟨66, _⟩ => ⟨S4x1x1, .i1⟩
  | .hbm, ⟨67, _⟩ => ⟨S4x512x1024, .i1⟩
  | .hbm, ⟨68, _⟩ => ⟨S4x512x1024, .f32⟩
  | .hbm, ⟨69, _⟩ => ⟨S4x512x1024, .f32⟩
  | .hbm, ⟨70, _⟩ => ⟨S4x512x1024, .i1⟩
  | .hbm, ⟨71, _⟩ => ⟨S4x512x1024, .f32⟩
  | .hbm, ⟨72, _⟩ => ⟨S4x512x1024, .f32⟩
  | .hbm, ⟨73, _⟩ => ⟨S4x512x1024, .i1⟩
  | .hbm, ⟨74, _⟩ => ⟨S4x512x1024, .f32⟩
  | .hbm, ⟨75, _⟩ => ⟨S4x512x1024, .f32⟩
  | .hbm, ⟨76, _⟩ => ⟨S4x512x1024, .i1⟩
  | .hbm, ⟨77, _⟩ => ⟨S4x512x1024, .f32⟩
  | .hbm, ⟨78, _⟩ => ⟨S4x512x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_call1_v0 : Ref sig .tc := ⟨.hbm, 67, rfl⟩
abbrev main_call1_v1 : Ref sig .tc := ⟨.hbm, 68, rfl⟩
abbrev main_v41 : Ref sig .tc := ⟨.hbm, 69, rfl⟩
abbrev main_call2_v0 : Ref sig .tc := ⟨.hbm, 70, rfl⟩
abbrev main_call2_v1 : Ref sig .tc := ⟨.hbm, 71, rfl⟩
abbrev main_v42 : Ref sig .tc := ⟨.hbm, 72, rfl⟩
abbrev main_call3_v0 : Ref sig .tc := ⟨.hbm, 73, rfl⟩
abbrev main_call3_v1 : Ref sig .tc := ⟨.hbm, 74, rfl⟩
abbrev main_v43 : Ref sig .tc := ⟨.hbm, 75, rfl⟩
abbrev main_call4_v0 : Ref sig .tc := ⟨.hbm, 76, rfl⟩
abbrev main_call4_v1 : Ref sig .tc := ⟨.hbm, 77, rfl⟩
abbrev main_v44 : Ref sig .tc := ⟨.hbm, 78, rfl⟩

abbrev nD : Nat := 1
abbrev τ : Topo := Topo.v7x

variable {F : FTy → Type} [FloatOps F]
-- ==== AdamwAWo.lean ====
abbrev S_ : Shape := ⟨0, ![]⟩
abbrev S4x1x128x1024 : Shape := ⟨4, ![4, 1, 128, 1024]⟩
abbrev S3x1x128x1024 : Shape := ⟨4, ![3, 1, 128, 1024]⟩
abbrev S2x128x1024 : Shape := ⟨3, ![2, 128, 1024]⟩
abbrev S1 : Shape := ⟨1, ![1]⟩
abbrev S1x1x128x1024 : Shape := ⟨4, ![1, 1, 128, 1024]⟩
abbrev S1x128x1024 : Shape := ⟨3, ![1, 128, 1024]⟩
abbrev S128x1024 : Shape := ⟨2, ![128, 1024]⟩

abbrev nBuf : Space → Nat
  | .hbm => 14
  | .vmem => 9
  | .smem => 1
  | _ => 0

abbrev bufTy : (tb : Table) → Fin (tcTables nBuf tb) → BufTy
  | .hbm, ⟨0, _⟩ => ⟨S_, .i32⟩
  | .hbm, ⟨1, _⟩ => ⟨S4x1x128x1024, .bf16⟩
  | .hbm, ⟨2, _⟩ => ⟨S3x1x128x1024, .bf16⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .local _ .vmem, ⟨0, _⟩ => ⟨S1x1x128x1024, .bf16⟩
  | .local _ .vmem, ⟨1, _⟩ => ⟨S3x1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S1x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamwAWoRefIdeal.lean ====
abbrev S_ : Shape := ⟨0, ![]⟩
abbrev S4x1x128x1024 : Shape := ⟨4, ![4, 1, 128, 1024]⟩
abbrev S3x1x128x1024 : Shape := ⟨4, ![3, 1, 128, 1024]⟩
abbrev S2x128x1024 : Shape := ⟨3, ![2, 128, 1024]⟩
abbrev S1x128x1024 : Shape := ⟨3, ![1, 128, 1024]⟩
abbrev S4 : Shape := ⟨1, ![4]⟩
abbrev S4x1x1x1 : Shape := ⟨4, ![4, 1, 1, 1]⟩
abbrev S2 : Shape := ⟨1, ![2]⟩
abbrev S2x1x1 : Shape := ⟨3, ![2, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x1x128x1024, .bf16⟩
  | .hbm, ⟨2, _⟩ => ⟨S3x1x128x1024, .bf16⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .hbm, ⟨13, _⟩ => ⟨S4, .i32⟩
  | .hbm, ⟨14, _⟩ => ⟨S4x1x1x1, .i32⟩
  | .hbm, ⟨15, _⟩ => ⟨S4x1x1x1, .i32⟩
  | .hbm, ⟨16, _⟩ => ⟨S4x1x1x1, .i1⟩
  | .hbm, ⟨17, _⟩ => ⟨S4x1x128x1024, .f32⟩
  | .hbm, ⟨18, _⟩ => ⟨S_, .i32⟩
  | .hbm, ⟨19, _⟩ => ⟨S_, .f32⟩
  | .hbm, ⟨20, _⟩ => ⟨S4x1x128x1024, .i1⟩
  | .hbm, ⟨21, _⟩ => ⟨S4x1x128x1024, .f32⟩
  | .hbm, ⟨22, _⟩ => ⟨S4x1x128x1024, .f32⟩
  | .hbm, ⟨23, _⟩ => ⟨S_, .f32⟩
  | .hbm, ⟨24, _⟩ => ⟨S1x128x1024, .f32⟩
  | .hbm, ⟨25, _⟩ => ⟨S3x1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S_, .f32⟩
  | .hbm, ⟨33, _⟩ => ⟨S1x128x1024, .f32⟩
  | .hbm, ⟨34, _⟩ => ⟨S1x128x1024, .f32⟩
  | .hbm, ⟨35, _⟩ => ⟨S1x128x1024, .f32⟩
  | .hbm, ⟨36, _⟩ => ⟨S_, .f32⟩
  | .hbm, ⟨37, _⟩ => ⟨S1x128x1024, .f32⟩
  | .hbm, ⟨38, _⟩ => ⟨S1x128x1024, .f32⟩
  | .hbm, ⟨39, _⟩ => ⟨S1x128x1024, .f32⟩
  | .hbm, ⟨40, _⟩ => ⟨S_, .f32⟩
  | .hbm, ⟨41, _⟩ => ⟨S1x128x1024, .f32⟩
  | .hbm, ⟨42, _⟩ => ⟨S1x128x1024, .f32⟩
  | .hbm, ⟨43, _⟩ => ⟨S1x128x1024, .f32⟩
  | .hbm, ⟨44, _⟩ => ⟨S_, .f32⟩
  | .hbm, ⟨45, _⟩ => ⟨S1x128x1024, .f32⟩
  | .hbm, ⟨46, _⟩ => ⟨S1x128x1024, .f32⟩
  | .hbm, ⟨47, _⟩ => ⟨S_, .f32⟩
  | .hbm, ⟨48, _⟩ => ⟨S1x128x1024, .f32⟩
  | .hbm, ⟨49, _⟩ => ⟨S1x128x1024, .f32⟩
  | .hbm, ⟨50, _⟩ => ⟨S1x128x1024, .f32⟩
  | .hbm, ⟨51, _⟩ => ⟨S_, .f32⟩
  | .hbm, ⟨52, _⟩ => ⟨S1x128x1024, .f32⟩
  | .hbm, ⟨53, _⟩ => ⟨S1x128x1024, .f32⟩
  | .hbm, ⟨54, _⟩ => ⟨S1x128x1024, .f32⟩
  | .hbm, ⟨55, _⟩ => ⟨S_, .f32⟩
  | .hbm, ⟨56, _⟩ => ⟨S1x128x1024, .f32⟩
  | .hbm, ⟨57, _⟩ => ⟨S1x128x1024, .f32⟩
  | .hbm, ⟨58, _⟩ => ⟨S1x128x1024, .f32⟩
  | .hbm, ⟨59, _⟩ => ⟨S_, .f32⟩
  | .hbm, ⟨60, _⟩ => ⟨S1x128x1024, .f32⟩
  | .hbm, ⟨61, _⟩ => ⟨S1x128x1024, .f32⟩
  | .hbm, ⟨62, _⟩ => ⟨S2, .i32⟩
  | .hbm, ⟨63, _⟩ => ⟨S2x1x1, .i32⟩
  | .hbm, ⟨64, _⟩ => ⟨S_, .i32⟩
  | .hbm, ⟨65, _⟩ => ⟨S2x1x1, .i32⟩
  | .hbm, ⟨66, _⟩ => ⟨S2x1x1, .i1⟩
  | .hbm, ⟨67, _⟩ => ⟨S2x128x1024, .i1⟩
  | .hbm, ⟨68, _⟩ => ⟨S2x128x1024, .f32⟩
  | .hbm, ⟨69, _⟩ => ⟨S2x128x1024, .f32⟩
  | .hbm, ⟨70, _⟩ => ⟨S2x128x1024, .i1⟩
  | .hbm, ⟨71, _⟩ => ⟨S2x128x1024, .f32⟩
  | .hbm, ⟨72, _⟩ => ⟨S2x128x1024, .f32⟩
  | .hbm, ⟨73, _⟩ => ⟨S2x128x1024, .i1⟩
  | .hbm, ⟨74, _⟩ => ⟨S2x128x1024, .f32⟩
  | .hbm, ⟨75, _⟩ => ⟨S2x128x1024, .f32⟩
  | .hbm, ⟨76, _⟩ => ⟨S2x128x1024, .i1⟩
  | .hbm, ⟨77, _⟩ => ⟨S2x128x1024, .f32⟩
  | .hbm, ⟨78, _⟩ => ⟨S2x128x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_call1_v0 : Ref sig .tc := ⟨.hbm, 67, rfl⟩
abbrev main_call1_v1 : Ref sig .tc := ⟨.hbm, 68, rfl⟩
abbrev main_v41 : Ref sig .tc := ⟨.hbm, 69, rfl⟩
abbrev main_call2_v0 : Ref sig .tc := ⟨.hbm, 70, rfl⟩
abbrev main_call2_v1 : Ref sig .tc := ⟨.hbm, 71, rfl⟩
abbrev main_v42 : Ref sig .tc := ⟨.hbm, 72, rfl⟩
abbrev main_call3_v0 : Ref sig .tc := ⟨.hbm, 73, rfl⟩
abbrev main_call3_v1 : Ref sig .tc := ⟨.hbm, 74, rfl⟩
abbrev main_v43 : Ref sig .tc := ⟨.hbm, 75, rfl⟩
abbrev main_call4_v0 : Ref sig .tc := ⟨.hbm, 76, rfl⟩
abbrev main_call4_v1 : Ref sig .tc := ⟨.hbm, 77, rfl⟩
abbrev main_v44 : Ref sig .tc := ⟨.hbm, 78, rfl⟩

abbrev nD : Nat := 1
abbrev τ : Topo := Topo.v7x

variable {F : FTy → Type} [FloatOps F]
-- ==== AdamwQkv.lean ====
abbrev S_ : Shape := ⟨0, ![]⟩
abbrev S4x1x1024x384 : Shape := ⟨4, ![4, 1, 1024, 384]⟩
abbrev S3x1x1024x384 : Shape := ⟨4, ![3, 1, 1024, 384]⟩
abbrev S2x1024x384 : Shape := ⟨3, ![2, 1024, 384]⟩
abbrev S1 : Shape := ⟨1, ![1]⟩
abbrev S1x1x512x384 : Shape := ⟨4, ![1, 1, 512, 384]⟩
abbrev S3x1x512x384 : Shape := ⟨4, ![3, 1, 512, 384]⟩
abbrev S1x512x384 : Shape := ⟨3, ![1, 512, 384]⟩
abbrev S512x384 : Shape := ⟨2, ![512, 384]⟩

abbrev nBuf : Space → Nat
  | .hbm => 14
  | .vmem => 18
  | .smem => 1
  | _ => 0

abbrev bufTy : (tb : Table) → Fin (tcTables nBuf tb) → BufTy
  | .hbm, ⟨0, _⟩ => ⟨S_, .i32⟩
  | .hbm, ⟨1, _⟩ => ⟨S4x1x1024x384, .bf16⟩
  | .hbm, ⟨2, _⟩ => ⟨S3x1x1024x384, .bf16⟩
  | .hbm, ⟨3, _⟩ => ⟨S2x1024x384, .f32⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S2x1024x384, .f32⟩
  | .hbm, ⟨12, _⟩ => ⟨S2x1024x384, .f32⟩
  | .hbm, ⟨13, _⟩ => ⟨S2x1024x384, .f32⟩
  | .local _ .vmem, ⟨0, _⟩ => ⟨S1x1x512x384, .bf16⟩
  | .local _ .vmem, ⟨1, _⟩ => ⟨S1x1x512x384, .bf16⟩
  | .local _ .vmem, ⟨2, _⟩ => ⟨S3x1x512x384, .bf16⟩
  | .local _ .vmem, ⟨3, _⟩ => ⟨S3x1x512x384, .bf16⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | .local _ .vmem, ⟨16, _⟩ => ⟨S1x512x384, .f32⟩
  | .local _ .vmem, ⟨17, _⟩ => ⟨S1x512x384, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwQkvRefIdeal.lean ====
abbrev S_ : Shape := ⟨0, ![]⟩
abbrev S4x1x1024x384 : Shape := ⟨4, ![4, 1, 1024, 384]⟩
abbrev S3x1x1024x384 : Shape := ⟨4, ![3, 1, 1024, 384]⟩
abbrev S2x1024x384 : Shape := ⟨3, ![2, 1024, 384]⟩
abbrev S1x1024x384 : Shape := ⟨3, ![1, 1024, 384]⟩
abbrev S4 : Shape := ⟨1, ![4]⟩
abbrev S4x1x1x1 : Shape := ⟨4, ![4, 1, 1, 1]⟩
abbrev S2 : Shape := ⟨1, ![2]⟩
abbrev S2x1x1 : Shape := ⟨3, ![2, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x1x1024x384, .bf16⟩
  | .hbm, ⟨2, _⟩ => ⟨S3x1x1024x384, .bf16⟩
  | .hbm, ⟨3, _⟩ => ⟨S2x1024x384, .f32⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .hbm, ⟨10, _⟩ => ⟨S1x1024x384, .f32⟩
  | .hbm, ⟨11, _⟩ => ⟨S1x1024x384, .f32⟩
  | .hbm, ⟨12, _⟩ => ⟨S1x1024x384, .f32⟩
  | .hbm, ⟨13, _⟩ => ⟨S4, .i32⟩
  | .hbm, ⟨14, _⟩ => ⟨S4x1x1x1, .i32⟩
  | .hbm, ⟨15, _⟩ => ⟨S4x1x1x1, .i32⟩
  | .hbm, ⟨16, _⟩ => ⟨S4x1x1x1, .i1⟩
  | .hbm, ⟨17, _⟩ => ⟨S4x1x1024x384, .f32⟩
  | .hbm, ⟨18, _⟩ => ⟨S_, .i32⟩
  | .hbm, ⟨19, _⟩ => ⟨S_, .f32⟩
  | .hbm, ⟨20, _⟩ => ⟨S4x1x1024x384, .i1⟩
  | .hbm, ⟨21, _⟩ => ⟨S4x1x1024x384, .f32⟩
  | .hbm, ⟨22, _⟩ => ⟨S4x1x1024x384, .f32⟩
  | .hbm, ⟨23, _⟩ => ⟨S_, .f32⟩
  | .hbm, ⟨24, _⟩ => ⟨S1x1024x384, .f32⟩
  | .hbm, ⟨25, _⟩ => ⟨S3x1x1024x384, .f32⟩
  | .hbm, ⟨26, _⟩ => ⟨S_, .f32⟩
  | .hbm, ⟨27, _⟩ => ⟨S1x1024x384, .f32⟩
  | .hbm, ⟨28, _⟩ => ⟨S1x1024x384, .f32⟩
  | .hbm, ⟨29, _⟩ => ⟨S_, .f32⟩
  | .hbm, ⟨30, _⟩ => ⟨S1x1024x384, .f32⟩
  | .hbm, ⟨31, _⟩ => ⟨S1x1024x384, .f32⟩
  | .hbm, ⟨32, _⟩ => ⟨S_, .f32⟩
  | .hbm, ⟨33, _⟩ => ⟨S1x1024x384, .f32⟩
  | .hbm, ⟨34, _⟩ => ⟨S1x1024x384, .f32⟩
  | .hbm, ⟨35, _⟩ => ⟨S1x1024x384, .f32⟩
  | .hbm, ⟨36, _⟩ => ⟨S_, .f32⟩
  | .hbm, ⟨37, _⟩ => ⟨S1x1024x384, .f32⟩
  | .hbm, ⟨38, _⟩ => ⟨S1x1024x384, .f32⟩
  | .hbm, ⟨39, _⟩ => ⟨S1x1024x384, .f32⟩
  | .hbm, ⟨40, _⟩ => ⟨S_, .f32⟩
  | .hbm, ⟨41, _⟩ => ⟨S1x1024x384, .f32⟩
  | .hbm, ⟨42, _⟩ => ⟨S1x1024x384, .f32⟩
  | .hbm, ⟨43, _⟩ => ⟨S1x1024x384, .f32⟩
  | .hbm, ⟨44, _⟩ => ⟨S_, .f32⟩
  | .hbm, ⟨45, _⟩ => ⟨S1x1024x384, .f32⟩
  | .hbm, ⟨46, _⟩ => ⟨S1x1024x384, .f32⟩
  | .hbm, ⟨47, _⟩ => ⟨S_, .f32⟩
  | .hbm, ⟨48, _⟩ => ⟨S1x1024x384, .f32⟩
  | .hbm, ⟨49, _⟩ => ⟨S1x1024x384, .f32⟩
  | .hbm, ⟨50, _⟩ => ⟨S1x1024x384, .f32⟩
  | .hbm, ⟨51, _⟩ => ⟨S_, .f32⟩
  | .hbm, ⟨52, _⟩ => ⟨S1x1024x384, .f32⟩
  | .hbm, ⟨53, _⟩ => ⟨S1x1024x384, .f32⟩
  | .hbm, ⟨54, _⟩ => ⟨S1x1024x384, .f32⟩
  | .hbm, ⟨55, _⟩ => ⟨S_, .f32⟩
  | .hbm, ⟨56, _⟩ => ⟨S1x1024x384, .f32⟩
  | .hbm, ⟨57, _⟩ => ⟨S1x1024x384, .f32⟩
  | .hbm, ⟨58, _⟩ => ⟨S1x1024x384, .f32⟩
  | .hbm, ⟨59, _⟩ => ⟨S_, .f32⟩
  | .hbm, ⟨60, _⟩ => ⟨S1x1024x384, .f32⟩
  | .hbm, ⟨61, _⟩ => ⟨S1x1024x384, .f32⟩
  | .hbm, ⟨62, _⟩ => ⟨S2, .i32⟩
  | .hbm, ⟨63, _⟩ => ⟨S2x1x1, .i32⟩
  | .hbm, ⟨64, _⟩ => ⟨S_, .i32⟩
  | .hbm, ⟨65, _⟩ => ⟨S2x1x1, .i32⟩
  | .hbm, ⟨66, _⟩ => ⟨S2x1x1, .i1⟩
  | .hbm, ⟨67, _⟩ => ⟨S2x1024x384, .i1⟩
  | .hbm, ⟨68, _⟩ => ⟨S2x1024x384, .f32⟩
  | .hbm, ⟨69, _⟩ => ⟨S2x1024x384, .f32⟩
  | .hbm, ⟨70, _⟩ => ⟨S2x1024x384, .i1⟩
  | .hbm, ⟨71, _⟩ => ⟨S2x1024x384, .f32⟩
  | .hbm, ⟨72, _⟩ => ⟨S2x1024x384, .f32⟩
  | .hbm, ⟨73, _⟩ => ⟨S2x1024x384, .i1⟩
  | .hbm, ⟨74, _⟩ => ⟨S2x1024x384, .f32⟩
  | .hbm, ⟨75, _⟩ => ⟨S2x1024x384, .f32⟩
  | .hbm, ⟨76, _⟩ => ⟨S2x1024x384, .i1⟩
  | .hbm, ⟨77, _⟩ => ⟨S2x1024x384, .f32⟩
  | .hbm, ⟨78, _⟩ => ⟨S2x1024x384, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_call1_v0 : Ref sig .tc := ⟨.hbm, 67, rfl⟩
abbrev main_call1_v1 : Ref sig .tc := ⟨.hbm, 68, rfl⟩
abbrev main_v41 : Ref sig .tc := ⟨.hbm, 69, rfl⟩
abbrev main_call2_v0 : Ref sig .tc := ⟨.hbm, 70, rfl⟩
abbrev main_call2_v1 : Ref sig .tc := ⟨.hbm, 71, rfl⟩
abbrev main_v42 : Ref sig .tc := ⟨.hbm, 72, rfl⟩
abbrev main_call3_v0 : Ref sig .tc := ⟨.hbm, 73, rfl⟩
abbrev main_call3_v1 : Ref sig .tc := ⟨.hbm, 74, rfl⟩
abbrev main_v43 : Ref sig .tc := ⟨.hbm, 75, rfl⟩
abbrev main_call4_v0 : Ref sig .tc := ⟨.hbm, 76, rfl⟩
abbrev main_call4_v1 : Ref sig .tc := ⟨.hbm, 77, rfl⟩
abbrev main_v44 : Ref sig .tc := ⟨.hbm, 78, rfl⟩

abbrev nD : Nat := 1
abbrev τ : Topo := Topo.v7x

variable {F : FTy → Type} [FloatOps F]
-- ==== Proof.Chk.lean ====
module

public import proofs.«01_k».proof.Proof.Gen.KernelIdeal.Frame
public import Idealize.ShloMosaic.Lib.Affine

@[expose] public section

set_option maxRecDepth 16384

namespace Cert.Proof.Chk

open Cert.KernelIdeal
open Idealize.ShloMosaic

/-- How many pairs of key blocks before the diagonal the query block visits, from the word counted off the
    saved sums: half of what exceeds four (rounded down), clamped between none and all. -/
abbrev pairs (t : Fin k0_t1_loop.trips) (v : BitVec 32) : BitVec 32 :=
  Scalar.minsi (Scalar.muli 2#32 (Scf.iv 0#32 1#32 t))
    (Scalar.maxsi 0#32
      (Scalar.select
        (Scalar.andi
          (Scalar.cmpi .ne
            (Scalar.subi (Scalar.extui (Scalar.cmpi .sgt (Scalar.subi v 4#32) 0#32) : BitVec 32) (Scalar.extui (Scalar.cmpi .slt (Scalar.subi v 4#32) 0#32)))
            (Scalar.subi (Scalar.extui (Scalar.cmpi .sgt 2#32 0#32)) (Scalar.extui (Scalar.cmpi .slt 2#32 0#32))))
          (Scalar.cmpi .ne (Scalar.remsi (Scalar.subi v 4#32) 2#32) 0#32))
        (Scalar.subi (Scalar.divsi (Scalar.subi v 4#32) 2#32) 1#32)
        (Scalar.divsi (Scalar.subi v 4#32) 2#32)))

theorem minsi_maxsi_range (a x : BitVec 32) (ha : 0 ≤ a.toInt) :
    0 ≤ (Scalar.minsi a (Scalar.maxsi 0#32 x)).toInt ∧ (Scalar.minsi a (Scalar.maxsi 0#32 x)).toInt ≤ a.toInt := by
  simp only [Scalar.minsi, IntOp.minsi, Scalar.maxsi, IntOp.maxsi, BitVec.slt, BitVec.toInt_zero, decide_eq_true_eq]
  split <;> split <;> (try simp only [BitVec.toInt_zero] at *) <;> omega

theorem iv_range : ∀ t : Fin k0_t1_loop.trips, (Scalar.muli 2#32 (Scf.iv 0#32 1#32 t)).toInt = 2 * (t.val : Int) := by decide +kernel

theorem trips1 : k0_t1_loop.trips = 8 := by decide +kernel

/-- The number of pairs, as a number. -/
theorem pairs_range (t : Fin k0_t1_loop.trips) (v : BitVec 32) : ∃ p : Fin 15, p.val ≤ 2 * t.val ∧ pairs t v = BitVec.ofNat 32 p.val := by
  have hr : 0 ≤ (pairs t v).toInt ∧ (pairs t v).toInt ≤ (Scalar.muli 2#32 (Scf.iv 0#32 1#32 t)).toInt :=
    minsi_maxsi_range _ _ (by rw [iv_range]; omega)
  rw [iv_range] at hr
  obtain ⟨h0, h1⟩ := hr
  have ht : t.val < 8 := lt_of_lt_of_eq t.isLt trips1
  have hc := BitVec.toInt_eq_toNat_cond (pairs t v)
  have e : (pairs t v).toInt = (pairs t v).toNat := by
    split at hc <;> omega
  refine ⟨⟨(pairs t v).toNat, by omega⟩, by show (pairs t v).toNat ≤ _; omega, by simp⟩

/-- A word that counts `p` pairs. -/
theorem pairs_lit : ∀ (t : Fin k0_t1_loop.trips) (p : Fin 15), p.val ≤ 2 * t.val → pairs t (BitVec.ofNat 32 (4 + 2 * p.val)) = BitVec.ofNat 32 p.val := by
  decide +kernel

theorem chk_lit : ∀ (t : Fin k0_t1_loop.trips) (p : Fin 15), p.val ≤ 2 * t.val → k0_chk1 t (BitVec.ofNat 32 (4 + 2 * p.val)) := by
  decide +kernel

/-- The side condition reads the word only through the number of pairs. -/
theorem chk_congr (t : Fin k0_t1_loop.trips) (v w : BitVec 32) (h : pairs t v = pairs t w) : k0_chk1 t w → k0_chk1 t v := by
  intro hw
  dsimp only [k0_chk1, k0_chk1_0, k0_chk1_1, k0_mult2, k0_off3, k0_off4, k0_mult3, k0_mult4, k0_cond1, k0_off5, k0_mult5, k0_mult6, k0_off6, k0_off7, k0_mult7, k0_off8, k0_t2_loop, k0_mult8, k0_mult9, k0_mult10, k0_mult11, k0_mult12, k0_mult13, k0_mult14, k0_mult15, k0_mult16, k0_mult17, k0_mult18, k0_mult19, k0_mult20, k0_mult21, k0_mult22, k0_mult23, k0_off9, k0_off10, k0_off11, k0_off12, k0_off13, k0_off14, k0_off15, k0_off16, k0_off17, k0_off18, k0_off19, k0_off20, k0_off21, k0_off22, k0_off23, k0_off24, k0_t3_loop, k0_mult26, k0_off26, k0_off27, k0_mult30, k0_off30, k0_off31] at hw ⊢
  dsimp only [pairs] at h
  rw [h]
  exact hw

/-- The side condition holds of every word. -/
theorem chk_all (t : Fin k0_t1_loop.trips) (v : BitVec 32) : k0_chk1 t v := by
  obtain ⟨p, hp, e⟩ := pairs_range t v
  exact chk_congr t v _ (e.trans (pairs_lit t p hp).symm) (chk_lit t p hp)

end Cert.Proof.Chk
-- ==== Proof.Loops.lean ====
module

public import proofs.«01_k».proof.Proof.Chk
public import proofs.«01_k».proof.Proof.Gen.KernelIdeal.Loops

@[expose] public section

set_option maxRecDepth 16384

noncomputable section

namespace Cert.Proof.Loops

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the loops are stated over. -/
abbrev UU (nD : Nat) (τ : Topo) : Type := UR sig nD τ
/-- No loop here runs without a bound. -/
abbrev 𝒱₀ : Variants := Variants.none
local notation "𝕄" => MT nD τ sig Unit (Elt F) ℕ (UU nD τ) ℕ

/-- A buffer held whole at some contents. -/
abbrev Any (c : Dev nD) {s : Shape} {e : EltTy} (M : Memref sig .tc .vmem s e) : sProp 𝕄 :=
  iprop(∃ f : Buf (Elt F) (M.view.loc (c : Thread nD τ)), M.view.loc (c : Thread nD τ) ↦[M.view.set]{fullShare} f)

/-- What the loop over the pairs before the diagonal touches: the keys, the values and the saved sums it reads, and the
    seven buffers it works in. -/
abbrev Work (c : Dev nD) (arg2 : Memref sig .tc .vmem S1x64x4096 .bf16) (arg3 : Memref sig .tc .vmem S1x64x4096 .bf16) (arg5 : Memref sig .tc .vmem S1x32x4096 .f32) (arg9 : Memref sig .tc .vmem S64x512 .f32) (arg10 : Memref sig .tc .vmem S64x4096 .f32) (arg11 : Memref sig .tc .vmem S64x4096 .f32) (arg12 : Memref sig .tc .vmem S2x256x512 .f32) (arg13 : Memref sig .tc .vmem S2x256x512 .f32) (arg14 : Memref sig .tc .vmem S2x256x512 .bf16) (arg15 : Memref sig .tc .vmem S2x256x512 .bf16)
    (f2 : Buf (Elt F) (arg2.view.loc (c : Thread nD τ))) (f3 : Buf (Elt F) (arg3.view.loc (c : Thread nD τ))) (f5 : Buf (Elt F) (arg5.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5)
    ∗ Any c arg9 ∗ Any c arg10 ∗ Any c arg11 ∗ Any c arg12 ∗ Any c arg13 ∗ Any c arg14 ∗ Any c arg15)

/-- ONE TRIP of the loop over two pairs of key blocks: it hands its buffers back. -/
theorem trip2 (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (v9 : FVec F S128x256 .bf16) (v10 : Vec F S136x256 .bf16) (v11 : IVec S8x512 32) (k0_t1 : Fin k0_t1_loop.trips) (arg16 : BitVec 32) (v24 : BitVec 32) (v29 : FVec F S64x512 .bf16) (v32 : FVec F S64x512 .bf16) (v38 : BitVec 32) (v53 : BitVec 32) (k0_hw1 : k0_chk1 k0_t1 v53) (v74 : BitVec 32) (v87 : BitVec 32) (v122 : FVec F S1x512 .f32) (c2_i32_76 : BitVec 32) (v123 : BitVec 32) (v128 : BitVec 32) (v130 : BitVec 32) (c0_i32_80 : BitVec 32) (v140 : BitVec 32)
    (f2 : Buf (Elt F) (arg2.view.loc (c : Thread nD τ))) (f3 : Buf (Elt F) (arg3.view.loc (c : Thread nD τ))) (f5 : Buf (Elt F) (arg5.view.loc (c : Thread nD τ))) (k : Fin (k0_t2_loop k0_t1 v53).trips) (acc : FVec F S1x512 .f32) :
    Work c arg2 arg3 arg5 arg9 arg10 arg11 arg12 arg13 arg14 arg15 f2 f3 f5 ⊢ wp frame (wpE (defs₀ (F := F)) 𝒱₀ (c : Thread nD τ) none) Set.univ (Gen.k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v11 k0_t1 arg16 v24 v29 v32 v38 v53 k0_hw1 v74 v87 v122 c2_i32_76 v123 v128 v130 c0_i32_80 v140 k acc)
      (fun _ => Work c arg2 arg3 arg5 arg9 arg10 arg11 arg12 arg13 arg14 arg15 f2 f3 f5) := by
  unfold Gen.k0_t2_body
  simp only [Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton]
  iintro ⟨H2, H3, H5, ⟨%f9, H9⟩, ⟨%f10, H10⟩, ⟨%f11, H11⟩, ⟨%f12, H12⟩, ⟨%f13, H13⟩, ⟨%f14, H14⟩, ⟨%f15, H15⟩⟩
  sl_exec
  sl_step
  isplitl [H2]; · iexact H2
  isplitl [H3]; · iexact H3
  isplitl [H5]; · iexact H5
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

set_option warn.classDefReducibility false in
/-- The loop's invariant: its buffers are held. -/
@[sl_loop] def loopInv2 (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (v9 : FVec F S128x256 .bf16) (v10 : Vec F S136x256 .bf16) (v11 : IVec S8x512 32) (k0_t1 : Fin k0_t1_loop.trips) (arg16 : BitVec 32) (v24 : BitVec 32) (v29 : FVec F S64x512 .bf16) (v32 : FVec F S64x512 .bf16) (v38 : BitVec 32) (v53 : BitVec 32) (k0_hw1 : k0_chk1 k0_t1 v53) (v74 : BitVec 32) (v87 : BitVec 32) (v122 : FVec F S1x512 .f32) (c2_i32_76 : BitVec 32) (v123 : BitVec 32) (v128 : BitVec 32) (v130 : BitVec 32) (c0_i32_80 : BitVec 32) (v140 : BitVec 32)
    (f2 : Buf (Elt F) (arg2.view.loc (c : Thread nD τ))) (f3 : Buf (Elt F) (arg3.view.loc (c : Thread nD τ))) (f5 : Buf (Elt F) (arg5.view.loc (c : Thread nD τ))) (init : FVec F S1x512 .f32) :
    Gen.LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v11 k0_t1 arg16 v24 v29 v32 v38 v53 k0_hw1 v74 v87 v122 c2_i32_76 v123 v128 v130 c0_i32_80 v140 init where
  inv _ _ := Work c arg2 arg3 arg5 arg9 arg10 arg11 arg12 arg13 arg14 arg15 f2 f3 f5
  step k acc := trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v11 k0_t1 arg16 v24 v29 v32 v38 v53 k0_hw1 v74 v87 v122 c2_i32_76 v123 v128 v130 c0_i32_80 v140 f2 f3 f5 k acc

/-- The remainder loop makes no trip, at each number of pairs. -/
theorem trips3_lit : ∀ (t : Fin k0_t1_loop.trips) (p : Fin 15), p.val ≤ 2 * t.val → (k0_t3_loop t (BitVec.ofNat 32 (4 + 2 * p.val))).trips = 0 := by
  decide +kernel

/-- The remainder loop makes no trip. -/
theorem trips3 (t : Fin k0_t1_loop.trips) (v : BitVec 32) : (k0_t3_loop t v).trips = 0 := by
  obtain ⟨p, hp, e⟩ := Chk.pairs_range t v
  have h := e.trans (Chk.pairs_lit t p hp).symm
  have hl : k0_t3_loop t v = k0_t3_loop t (BitVec.ofNat 32 (4 + 2 * p.val)) := by
    dsimp only [k0_t3_loop]
    dsimp only [Chk.pairs] at h
    rw [h]
  rw [hl]
  exact trips3_lit t p hp

set_option warn.classDefReducibility false in
@[sl_loop] def loopInv3 (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (v9 : FVec F S128x256 .bf16) (v10 : Vec F S136x256 .bf16) (v11 : IVec S8x512 32) (k0_t1 : Fin k0_t1_loop.trips) (arg16 : BitVec 32) (v24 : BitVec 32) (v29 : FVec F S64x512 .bf16) (v32 : FVec F S64x512 .bf16) (v38 : BitVec 32) (v53 : BitVec 32) (k0_hw1 : k0_chk1 k0_t1 v53) (v74 : BitVec 32) (v87 : BitVec 32) (v122 : FVec F S1x512 .f32) (c2_i32_76 : BitVec 32) (v123 : BitVec 32) (v128 : BitVec 32) (v130 : BitVec 32) (c0_i32_80 : BitVec 32) (v145 : BitVec 32)
    (f2 : Buf (Elt F) (arg2.view.loc (c : Thread nD τ))) (f3 : Buf (Elt F) (arg3.view.loc (c : Thread nD τ))) (f5 : Buf (Elt F) (arg5.view.loc (c : Thread nD τ))) (init : FVec F S1x512 .f32) :
    Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v11 k0_t1 arg16 v24 v29 v32 v38 v53 k0_hw1 v74 v87 v122 c2_i32_76 v123 v128 v130 c0_i32_80 v145 init where
  inv _ _ := Work c arg2 arg3 arg5 arg9 arg10 arg11 arg12 arg13 arg14 arg15 f2 f3 f5
  step k _ := (Nat.not_lt_zero _ (Nat.lt_of_lt_of_eq k.isLt (trips3 k0_t1 v53))).elim

end Cert.Proof.Loops
-- ==== Proof.Run.lean ====
module

public import proofs.«01_k».proof.Proof.Loops
public import proofs.«01_k».proof.Proof.Gen.KernelIdeal.Frame
public import Idealize.ShloMosaic.Lib.Claim

@[expose] public section

set_option maxRecDepth 16384

noncomputable section

namespace Cert.Proof.Run

open Cert.KernelIdeal
open Cert.Proof.Loops (UU 𝒱₀ Any)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- What the loop over the query blocks touches: the five inputs it reads, the output and the seven buffers it works in. -/
abbrev Work1 (c : Dev nD) (arg1 : Memref sig .tc .vmem S1x64x4096 .bf16) (arg2 : Memref sig .tc .vmem S1x64x4096 .bf16) (arg3 : Memref sig .tc .vmem S1x64x4096 .bf16) (arg4 : Memref sig .tc .vmem S1x64x4096 .bf16) (arg5 : Memref sig .tc .vmem S1x32x4096 .f32) (arg8 : Memref sig .tc .vmem S3x1x64x4096 .bf16) (arg9 : Memref sig .tc .vmem S64x512 .f32) (arg10 : Memref sig .tc .vmem S64x4096 .f32) (arg11 : Memref sig .tc .vmem S64x4096 .f32) (arg12 : Memref sig .tc .vmem S2x256x512 .f32) (arg13 : Memref sig .tc .vmem S2x256x512 .f32) (arg14 : Memref sig .tc .vmem S2x256x512 .bf16) (arg15 : Memref sig .tc .vmem S2x256x512 .bf16)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ Any c arg8 ∗ Any c arg9 ∗ Any c arg10 ∗ Any c arg11 ∗ Any c arg12 ∗ Any c arg13 ∗ Any c arg14 ∗ Any c arg15)

/-- ONE TRIP of the loop over the query blocks: it hands its buffers back. -/
theorem trip1 (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (v8 : Vec F S136x256 .bf16) (v10 : Vec F S136x256 .bf16) (v11 : IVec S8x512 32)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : Fin k0_t1_loop.trips) (acc : Unit) :
    Work1 c arg1 arg2 arg3 arg4 arg5 arg8 arg9 arg10 arg11 arg12 arg13 arg14 arg15 f1 f2 f3 f4 f5 ⊢ wp frame (wpE (defs₀ (F := F)) 𝒱₀ (c : Thread nD τ) none) Set.univ (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v8 v10 v11 k acc)
      (fun _ => Work1 c arg1 arg2 arg3 arg4 arg5 arg8 arg9 arg10 arg11 arg12 arg13 arg14 arg15 f1 f2 f3 f4 f5) := by
  unfold Gen.k0_t1_body
  simp only [Gen.k0_part1_eq_skeleton, Gen.k0_part2_eq_skeleton, Gen.k0_part3_eq_skeleton, Gen.k0_part4_eq_skeleton, Gen.k0_part23_eq_skeleton, Gen.k0_part24_eq_skeleton, Gen.k0_part25_eq_skeleton, Gen.k0_part26_eq_skeleton, Gen.k0_part27_eq_skeleton, Gen.k0_part28_eq_skeleton, Gen.k0_part29_eq_skeleton, Gen.k0_part30_eq_skeleton, Gen.k0_part31_eq_skeleton, Gen.k0_part32_eq_skeleton, Gen.k0_part33_eq_skeleton, Gen.k0_part34_eq_skeleton, Gen.k0_part35_eq_skeleton, Gen.k0_part36_eq_skeleton]
  iintro ⟨H1, H2, H3, H4, H5, ⟨%f8, H8⟩, ⟨%f9, H9⟩, ⟨%f10, H10⟩, ⟨%f11, H11⟩, ⟨%f12, H12⟩, ⟨%f13, H13⟩, ⟨%f14, H14⟩, ⟨%f15, H15⟩⟩
  have hchk : ∀ v, k0_chk1 k v := fun v => Chk.chk_all k v
  sl_exec
  by_cases hodd : k0_cond1 k (trip1.sl.v53 c arg5 f5 k) = 1#1
  · sl_exec
    sl_step
    isplitl [H1]; · iexact H1
    isplitl [H2]; · iexact H2
    isplitl [H3]; · iexact H3
    isplitl [H4]; · iexact H4
    isplitl [H5]; · iexact H5
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  · sl_exec
    sl_step
    isplitl [H1]; · iexact H1
    isplitl [H2]; · iexact H2
    isplitl [H3]; · iexact H3
    isplitl [H4]; · iexact H4
    isplitl [H5]; · iexact H5
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

set_option warn.classDefReducibility false in
/-- The loop's invariant: its buffers are held. -/
@[sl_loop] def loopInv1 (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (v8 : Vec F S136x256 .bf16) (v10 : Vec F S136x256 .bf16) (v11 : IVec S8x512 32)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) :
    Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 v8 v10 v11 where
  inv _ _ := Work1 c arg1 arg2 arg3 arg4 arg5 arg8 arg9 arg10 arg11 arg12 arg13 arg14 arg15 f1 f2 f3 f4 f5
  step k acc := trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 v8 v10 v11 f1 f2 f3 f4 f5 k acc

/-- THE BODY at any coordinates: the inputs' buffers come back as they were, the output's at some contents, the work
    buffers at some contents; whatever else is held is untouched. -/
theorem kernelRun (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (X1 : S1x64x4096.Idx → Elt F .bf16) (X2 : S1x64x4096.Idx → Elt F .bf16) (X3 : S1x64x4096.Idx → Elt F .bf16) (X4 : S1x64x4096.Idx → Elt F .bf16) (X5 : S1x32x4096.Idx → Elt F .f32) (X6 : S136x256.Idx → Elt F .bf16) (X7 : S136x256.Idx → Elt F .bf16) (R : sProp 𝕄) :
    iprop(R ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ X, owns (c : Thread nD τ) arg8 fullShare X) ∗ Any c arg9 ∗ Any c arg10 ∗ Any c arg11 ∗ Any c arg12 ∗ Any c arg13 ∗ Any c arg14 ∗ Any c arg15)
      ⊢ wp frame (wpE (defs₀ (F := F)) 𝒱₀ (c : Thread nD τ) none) Set.univ (cc0_sb_bwd0 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
      (fun _ => iprop(R ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ X, owns (c : Thread nD τ) arg8 fullShare X) ∗ Any c arg9 ∗ Any c arg10 ∗ Any c arg11 ∗ Any c arg12 ∗ Any c arg13 ∗ Any c arg14 ∗ Any c arg15)) := by
  rw [Gen.cc0_sb_bwd0_eq_skeleton]
  unfold Gen.cc0_sb_bwd0_skel owns
  iintro ⟨HR, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%X8, %f8, %hf8, H8⟩, ⟨%f9, H9⟩, ⟨%f10, H10⟩, ⟨%f11, H11⟩, ⟨%f12, H12⟩, ⟨%f13, H13⟩, ⟨%f14, H14⟩, ⟨%f15, H15⟩⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec
  sl_step
  isplitl [HR]; · iexact HR
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _, _; isplitr; swap; · iexact H8
    ipureintro; rfl
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

/-! ## The proof data -/

variable (m : (ℓ : Loc nD τ sig) → Buf (Elt F) ℓ) (ρ : Dev nD → PrngReg)

/-- The output window, of which nothing is said. -/
def forgets : Fin 8 → Bool := fun w => w.val == 7

/-- The arrays as the region finds them, each input's staging buffer at its block, the output's unnamed. -/
def dats (_ : Fin 1) (c : Dev nD) : Pipeline.Dat τ (Elt F) Unit ℕ (UU nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = Gen.V m c (Pipeline.arrRef spec0 w) := by
  dsimp only [dats]
theorem after_0 (c : Dev nD) (t : Fin cfg0.N) : (dats m 0 c).after 0 t = Gen.iblk m c 0 t := by dsimp only [dats]
theorem before_0 (c : Dev nD) (t : Fin cfg0.N) (d) : (dats m 0 c).before 0 t d = Gen.iblk m c 0 t :=
  Gen.before0_0_of m (dats m 0 c) (A_eq m c 0) (after_0 m c) t d
theorem after_1 (c : Dev nD) (t : Fin cfg0.N) : (dats m 0 c).after 1 t = Gen.iblk m c 1 t := by dsimp only [dats]
theorem before_1 (c : Dev nD) (t : Fin cfg0.N) (d) : (dats m 0 c).before 1 t d = Gen.iblk m c 1 t :=
  Gen.before0_1_of m (dats m 0 c) (A_eq m c 1) (after_1 m c) t d
theorem after_2 (c : Dev nD) (t : Fin cfg0.N) : (dats m 0 c).after 2 t = Gen.iblk m c 2 t := by dsimp only [dats]
theorem before_2 (c : Dev nD) (t : Fin cfg0.N) (d) : (dats m 0 c).before 2 t d = Gen.iblk m c 2 t :=
  Gen.before0_2_of m (dats m 0 c) (A_eq m c 2) (after_2 m c) t d
theorem after_3 (c : Dev nD) (t : Fin cfg0.N) : (dats m 0 c).after 3 t = Gen.iblk m c 3 t := by dsimp only [dats]
theorem before_3 (c : Dev nD) (t : Fin cfg0.N) (d) : (dats m 0 c).before 3 t d = Gen.iblk m c 3 t :=
  Gen.before0_3_of m (dats m 0 c) (A_eq m c 3) (after_3 m c) t d
theorem after_4 (c : Dev nD) (t : Fin cfg0.N) : (dats m 0 c).after 4 t = Gen.iblk m c 4 t := by dsimp only [dats]
theorem before_4 (c : Dev nD) (t : Fin cfg0.N) (d) : (dats m 0 c).before 4 t d = Gen.iblk m c 4 t :=
  Gen.before0_4_of m (dats m 0 c) (A_eq m c 4) (after_4 m c) t d
theorem after_5 (c : Dev nD) (t : Fin cfg0.N) : (dats m 0 c).after 5 t = Gen.iblk m c 5 t := by dsimp only [dats]
theorem before_5 (c : Dev nD) (t : Fin cfg0.N) (d) : (dats m 0 c).before 5 t d = Gen.iblk m c 5 t :=
  Gen.before0_5_of m (dats m 0 c) (A_eq m c 5) (after_5 m c) t d
theorem after_6 (c : Dev nD) (t : Fin cfg0.N) : (dats m 0 c).after 6 t = Gen.iblk m c 6 t := by dsimp only [dats]
theorem before_6 (c : Dev nD) (t : Fin cfg0.N) (d) : (dats m 0 c).before 6 t d = Gen.iblk m c 6 t :=
  Gen.before0_6_of m (dats m 0 c) (A_eq m c 6) (after_6 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d))
    ∗ (∃ d, owns (c : Thread nD τ) (Gen.st0_6 t) fullShare ((dats m 0 c).before 6 t d))
    ∗ (∃ d, owns (c : Thread nD τ) (Gen.st0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t)
    ∗ owns (c : Thread nD τ) (Gen.st0_4 t) fullShare ((dats m 0 c).after 4 t)
    ∗ owns (c : Thread nD τ) (Gen.st0_5 t) fullShare ((dats m 0 c).after 5 t)
    ∗ owns (c : Thread nD τ) (Gen.st0_6 t) fullShare ((dats m 0 c).after 6 t)
    ∗ (∃ d, owns (c : Thread nD τ) (Gen.st0_7 t) fullShare d))

/-- A work buffer held whole, as the body's run spells it. -/
theorem any_whole (c : Dev nD) (b : Ref sig .tc) (f : Buf (Elt F) ((c : Thread nD τ).loc b)) :
    ((c : Thread nD τ).loc b ↦{fullShare} f : sProp 𝕄) = iprop((View.whole b : View sig .tc _ _ _).loc (c : Thread nD τ) ↦[(View.whole b : View sig .tc _ _ _).set]{fullShare} f) := by
  rw [View.set_whole]

theorem phi_eq (c : Dev nD) : (Pipeline.ΦA spec0 c : sProp 𝕄) = iprop((Any c (Memref.whole cc0_scratch0) ∗ Any c (Memref.whole cc0_scratch1) ∗ Any c (Memref.whole cc0_scratch2) ∗ Any c (Memref.whole cc0_scratch3) ∗ Any c (Memref.whole cc0_scratch4) ∗ Any c (Memref.whole cc0_scratch5) ∗ Any c (Memref.whole cc0_scratch6)) ∗ ∃ r, prngReg c r) := by
  unfold Pipeline.ΦA
  rw [Gen.scopedRest0_eq]
  simp only [Any, any_whole]

theorem sound_body (c : Dev nD) (t : Fin cfg0.N) :
    bodyPre m c t ⊢ wp frame (wpE (defs₀ (F := F)) 𝒱₀ (c : Thread nD τ) none) Set.univ (Gen.bodyAt0 t) (fun _ => bodyPost m c t) := by
  unfold bodyPre bodyPost Gen.bodyAt0
  simp only [before_0, before_1, before_2, before_3, before_4, before_5, before_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, phi_eq]
  refine BIBase.Entails.trans ?_ ((kernelRun c (grid0.coords t) _ _ _ _ _ _ _ _ _ _ _ _ _ _ _ _ _ _ _ _ _ _ _ _ _ _ _ _ _ _ (Gen.iblk m c 0 t) (Gen.iblk m c 1 t) (Gen.iblk m c 2 t) (Gen.iblk m c 3 t)
    (Gen.iblk m c 4 t) (Gen.iblk m c 5 t) (Gen.iblk m c 6 t) iprop((∃ r, prngReg c r) ∗ (dats m 0 c).owesAt () t.castSucc)).trans (wp_mono _ _ _ fun _ => ?_))
  · iintro ⟨⟨⟨G0, G1, G2, G3, G4, G5, G6⟩, Hr⟩, Ho, ⟨%d0, H0⟩, ⟨%d1, H1⟩, ⟨%d2, H2⟩, ⟨%d3, H3⟩, ⟨%d4, H4⟩, ⟨%d5, H5⟩, ⟨%d6, H6⟩, H7⟩
    isplitl [Hr Ho]
    · isplitl [Hr]; · iexact Hr
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    isplitl [G3]; · iexact G3
    isplitl [G4]; · iexact G4
    isplitl [G5]; · iexact G5
    iexact G6
  · iintro ⟨⟨Hr, Ho⟩, H0, H1, H2, H3, H4, H5, H6, H7, G0, G1, G2, G3, G4, G5, G6⟩
    isplitl [Hr G0 G1 G2 G3 G4 G5 G6]
    · isplitl [G0 G1 G2 G3 G4 G5 G6]
      · isplitl [G0]; · iexact G0
        isplitl [G1]; · iexact G1
        isplitl [G2]; · iexact G2
        isplitl [G3]; · iexact G3
        isplitl [G4]; · iexact G4
        isplitl [G5]; · iexact G5
        iexact G6
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body. -/
theorem defs_row (t : Fin cfg0.N) :
    defs₀ (F := F) .tc cfg0.body (cfg0.bodyArgs t (cfg0.slots t)) = Gen.bodyAt0 t := by
  unfold defs₀; rw [Defs.onTc_tc]

theorem body_obligation (c : Dev nD) : Pipeline.BodyObligation (dats (F := F) m 0 c) (defs₀ (F := F)) 𝒱₀ () Set.univ forgets := fun t => by
  rw [Gen.bigSep_W0, Gen.bigSep_W0, defs_row]
  exact triple_restated (sound_body m c t) rfl .rfl fun _ => .rfl

/-! ## The run and the frame -/

set_option backward.isDefEq.respectTransparency.types false in
/-- THE LAUNCH: every execution ends, the input arrays as the region found them, every counter at zero. -/
theorem run_main : θ_run defs (onTc (τ := τ) (main (F := F))) (s₀ m ρ)
    (fun r => (Pipeline.RDat.FramePost (cfgs 0) (fun c => (dats m 0 c).toRForget forgets) (Gen.V m)) r ∧ r.2.sem = fun _ => 0) :=
  Pipeline.θ_run_frame_forget_shared (Q' := _) cfgs (dats m) (0 : Fin 1) Gen.launch₀0 defs₀ 𝒱₀ forgets m ρ main
    (hbody := fun c => (body_obligation m c).loose) (hq := fun _ _ _ => rfl)
    (howed := fun _ _ => rfl) (V := Gen.V m) (hmain := Gen.hmain m 𝒱₀) (hA := A_eq m) (hΦ := fun _ _ => rfl)

/-- THE FRAME, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 2 rfl).trans ((A_eq m c 2).trans (Gen.V_main_arg0 m c)),
      (h.1.arr_in c 3 rfl).trans ((A_eq m c 3).trans (Gen.V_main_arg1 m c)),
      (h.1.arr_in c 4 rfl).trans ((A_eq m c 4).trans (Gen.V_main_arg2 m c))⟩, h.2⟩) (run_main m ρ)

end Cert.Proof.Run
-- ==== Proof.WordLoops.lean ====
module

public import proofs.«01_k».proof.Proof.WordChk
public import proofs.«01_k».proof.Proof.Gen.Kernel.Loops

@[expose] public section

set_option maxRecDepth 16384

noncomputable section

namespace Cert.Proof.WordLoops

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the loops are stated over. -/
abbrev UU (nD : Nat) (τ : Topo) : Type := UR sig nD τ
/-- No loop here runs without a bound. -/
abbrev 𝒱₀ : Variants := Variants.none
local notation "𝕄" => MT nD τ sig Unit (Elt F) ℕ (UU nD τ) ℕ

/-- A buffer held whole at some contents. -/
abbrev Any (c : Dev nD) {s : Shape} {e : EltTy} (M : Memref sig .tc .vmem s e) : sProp 𝕄 :=
  iprop(∃ f : Buf (Elt F) (M.view.loc (c : Thread nD τ)), M.view.loc (c : Thread nD τ) ↦[M.view.set]{fullShare} f)

/-- What the loop over the pairs before the diagonal touches: the keys, the values and the saved sums it reads, and the
    seven buffers it works in. -/
abbrev Work (c : Dev nD) (arg2 : Memref sig .tc .vmem S1x64x4096 .bf16) (arg3 : Memref sig .tc .vmem S1x64x4096 .bf16) (arg5 : Memref sig .tc .vmem S1x32x4096 .f32) (arg9 : Memref sig .tc .vmem S64x512 .f32) (arg10 : Memref sig .tc .vmem S64x4096 .f32) (arg11 : Memref sig .tc .vmem S64x4096 .f32) (arg12 : Memref sig .tc .vmem S2x256x512 .f32) (arg13 : Memref sig .tc .vmem S2x256x512 .f32) (arg14 : Memref sig .tc .vmem S2x256x512 .bf16) (arg15 : Memref sig .tc .vmem S2x256x512 .bf16)
    (f2 : Buf (Elt F) (arg2.view.loc (c : Thread nD τ))) (f3 : Buf (Elt F) (arg3.view.loc (c : Thread nD τ))) (f5 : Buf (Elt F) (arg5.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5)
    ∗ Any c arg9 ∗ Any c arg10 ∗ Any c arg11 ∗ Any c arg12 ∗ Any c arg13 ∗ Any c arg14 ∗ Any c arg15)

/-- ONE TRIP of the loop over two pairs of key blocks: it hands its buffers back. -/
theorem trip2 (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (v9 : FVec F S128x256 .bf16) (v10 : Vec F S136x256 .bf16) (v11 : IVec S8x512 32) (k0_t1 : Fin k0_t1_loop.trips) (arg16 : BitVec 32) (v24 : BitVec 32) (v29 : FVec F S64x512 .bf16) (v32 : FVec F S64x512 .bf16) (v38 : BitVec 32) (v53 : BitVec 32) (k0_hw1 : k0_chk1 k0_t1 v53) (v74 : BitVec 32) (v87 : BitVec 32) (v122 : FVec F S1x512 .f32) (c2_i32_76 : BitVec 32) (v123 : BitVec 32) (v128 : BitVec 32) (v130 : BitVec 32) (c0_i32_80 : BitVec 32) (v140 : BitVec 32)
    (f2 : Buf (Elt F) (arg2.view.loc (c : Thread nD τ))) (f3 : Buf (Elt F) (arg3.view.loc (c : Thread nD τ))) (f5 : Buf (Elt F) (arg5.view.loc (c : Thread nD τ))) (k : Fin (k0_t2_loop k0_t1 v53).trips) (acc : FVec F S1x512 .f32) :
    Work c arg2 arg3 arg5 arg9 arg10 arg11 arg12 arg13 arg14 arg15 f2 f3 f5 ⊢ wp frame (wpE (defs₀ (F := F)) 𝒱₀ (c : Thread nD τ) none) Set.univ (Gen.k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v11 k0_t1 arg16 v24 v29 v32 v38 v53 k0_hw1 v74 v87 v122 c2_i32_76 v123 v128 v130 c0_i32_80 v140 k acc)
      (fun _ => Work c arg2 arg3 arg5 arg9 arg10 arg11 arg12 arg13 arg14 arg15 f2 f3 f5) := by
  unfold Gen.k0_t2_body
  simp only [Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton]
  iintro ⟨H2, H3, H5, ⟨%f9, H9⟩, ⟨%f10, H10⟩, ⟨%f11, H11⟩, ⟨%f12, H12⟩, ⟨%f13, H13⟩, ⟨%f14, H14⟩, ⟨%f15, H15⟩⟩
  sl_exec
  sl_step
  isplitl [H2]; · iexact H2
  isplitl [H3]; · iexact H3
  isplitl [H5]; · iexact H5
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

set_option warn.classDefReducibility false in
/-- The loop's invariant: its buffers are held. -/
@[sl_loop] def loopInv2 (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (v9 : FVec F S128x256 .bf16) (v10 : Vec F S136x256 .bf16) (v11 : IVec S8x512 32) (k0_t1 : Fin k0_t1_loop.trips) (arg16 : BitVec 32) (v24 : BitVec 32) (v29 : FVec F S64x512 .bf16) (v32 : FVec F S64x512 .bf16) (v38 : BitVec 32) (v53 : BitVec 32) (k0_hw1 : k0_chk1 k0_t1 v53) (v74 : BitVec 32) (v87 : BitVec 32) (v122 : FVec F S1x512 .f32) (c2_i32_76 : BitVec 32) (v123 : BitVec 32) (v128 : BitVec 32) (v130 : BitVec 32) (c0_i32_80 : BitVec 32) (v140 : BitVec 32)
    (f2 : Buf (Elt F) (arg2.view.loc (c : Thread nD τ))) (f3 : Buf (Elt F) (arg3.view.loc (c : Thread nD τ))) (f5 : Buf (Elt F) (arg5.view.loc (c : Thread nD τ))) (init : FVec F S1x512 .f32) :
    Gen.LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v11 k0_t1 arg16 v24 v29 v32 v38 v53 k0_hw1 v74 v87 v122 c2_i32_76 v123 v128 v130 c0_i32_80 v140 init where
  inv _ _ := Work c arg2 arg3 arg5 arg9 arg10 arg11 arg12 arg13 arg14 arg15 f2 f3 f5
  step k acc := trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v11 k0_t1 arg16 v24 v29 v32 v38 v53 k0_hw1 v74 v87 v122 c2_i32_76 v123 v128 v130 c0_i32_80 v140 f2 f3 f5 k acc

/-- The remainder loop makes no trip, at each number of pairs. -/
theorem trips3_lit : ∀ (t : Fin k0_t1_loop.trips) (p : Fin 15), p.val ≤ 2 * t.val → (k0_t3_loop t (BitVec.ofNat 32 (4 + 2 * p.val))).trips = 0 := by
  decide +kernel

/-- The remainder loop makes no trip. -/
theorem trips3 (t : Fin k0_t1_loop.trips) (v : BitVec 32) : (k0_t3_loop t v).trips = 0 := by
  obtain ⟨p, hp, e⟩ := WordChk.pairs_range t v
  have h := e.trans (WordChk.pairs_lit t p hp).symm
  have hl : k0_t3_loop t v = k0_t3_loop t (BitVec.ofNat 32 (4 + 2 * p.val)) := by
    dsimp only [k0_t3_loop]
    dsimp only [WordChk.pairs] at h
    rw [h]
  rw [hl]
  exact trips3_lit t p hp

set_option warn.classDefReducibility false in
@[sl_loop] def loopInv3 (c : Dev nD) (i : grid0.Coords) (arg1 : Memref sig .tc .vmem S1x64x4096 .bf16) (harg1 : arg1.IsWhole) (arg2 : Memref sig .tc .vmem S1x64x4096 .bf16) (harg2 : arg2.IsWhole) (arg3 : Memref sig .tc .vmem S1x64x4096 .bf16) (harg3 : arg3.IsWhole) (arg4 : Memref sig .tc .vmem S1x64x4096 .bf16) (harg4 : arg4.IsWhole) (arg5 : Memref sig .tc .vmem S1x32x4096 .f32) (harg5 : arg5.IsWhole) (arg6 : Memref sig .tc .vmem S136x256 .bf16) (harg6 : arg6.IsWhole) (arg7 : Memref sig .tc .vmem S136x256 .bf16) (harg7 : arg7.IsWhole) (arg8 : Memref sig .tc .vmem S3x1x64x4096 .bf16) (harg8 : arg8.IsWhole) (arg9 : Memref sig .tc .vmem S64x512 .f32) (harg9 : arg9.IsWhole) (arg10 : Memref sig .tc .vmem S64x4096 .f32) (harg10 : arg10.IsWhole) (arg11 : Memref sig .tc .vmem S64x4096 .f32) (harg11 : arg11.IsWhole) (arg12 : Memref sig .tc .vmem S2x256x512 .f32) (harg12 : arg12.IsWhole) (arg13 : Memref sig .tc .vmem S2x256x512 .f32) (harg13 : arg13.IsWhole) (arg14 : Memref sig .tc .vmem S2x256x512 .bf16) (harg14 : arg14.IsWhole) (arg15 : Memref sig .tc .vmem S2x256x512 .bf16) (harg15 : arg15.IsWhole) (v9 : FVec F S128x256 .bf16) (v10 : Vec F S136x256 .bf16) (v11 : IVec S8x512 32) (k0_t1 : Fin k0_t1_loop.trips) (arg16 : BitVec 32) (v24 : BitVec 32) (v29 : FVec F S64x512 .bf16) (v32 : FVec F S64x512 .bf16) (v38 : BitVec 32) (v53 : BitVec 32) (k0_hw1 : k0_chk1 k0_t1 v53) (v74 : BitVec 32) (v87 : BitVec 32) (v122 : FVec F S1x512 .f32) (c2_i32_76 : BitVec 32) (v123 : BitVec 32) (v128 : BitVec 32) (v130 : BitVec 32) (c0_i32_80 : BitVec 32) (v145 : BitVec 32)
    (f2 : Buf (Elt F) (arg2.view.loc (c : Thread nD τ))) (f3 : Buf (Elt F) (arg3.view.loc (c : Thread nD τ))) (f5 : Buf (Elt F) (arg5.view.loc (c : Thread nD τ))) (init : FVec F S1x512 .f32) :
    Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v10 v11 k0_t1 arg16 v24 v29 v32 v38 v53 k0_hw1 v74 v87 v122 c2_i32_76 v123 v128 v130 c0_i32_80 v145 init where
  inv _ _ := Work c arg2 arg3 arg5 arg9 arg10 arg11 arg12 arg13 arg14 arg15 f2 f3 f5
  step k _ := (Nat.not_lt_zero _ (Nat.lt_of_lt_of_eq k.isLt (trips3 k0_t1 v53))).elim

end Cert.Proof.WordLoops
-- ==== Proof.UpFwd.lean ====
module

public import proofs.«01_k».proof.Defs
public import proofs.«01_k».proof.Proof.Gen.UpFwd
public import proofs.«01_k».proof.Proof.Gen.UpFwd.Frame
public import proofs.«01_k».proof.Proof.Gen.UpFwdIdeal.Value
public import proofs.«01_k».proof.Proof.Gen.UpFwdRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The MLP's first product with the squared rectifier. -/

namespace Cert.UpFwdIdeal.Value

open Cert.UpFwdIdeal Cert.UpFwdIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure2 (x0 : Vec Ideal S2048x1024 .bf16) (x1 : Vec Ideal S1x1024x1024 .bf16)
    (X0 : Vec Ideal S4096x1024 .bf16) (X1 : Vec Ideal S2x1024x4096 .bf16)
    (j0 : Fin 2048) (j1 : Fin 1024) (i0 : Fin 4096) (i1 : Fin 4096)
    (h0 : ∀ (k : Fin 1024), x0 (ix2 j0 k) = X0 (ix2 i0 k)) (h1 : ∀ (k : Fin 1024), x1 (ix3 0 k j1) = X1 (ix3 0 k i1)) :
    k0_pay2 (F := Ideal) x0 x1 (ix2 j0 j1)
      = Cert.UpFwdRefIdeal.Read.val_main_v5 (F := Ideal) X0 X1 (ix2 i0 i1) := by
  pointwise [k0_pay1, k0_pay2, Cert.UpFwdRefIdeal.Read.val_main_v0, Cert.UpFwdRefIdeal.Read.val_main_v1, Cert.UpFwdRefIdeal.Read.val_main_v2, Cert.UpFwdRefIdeal.Read.val_main_v3, Cert.UpFwdRefIdeal.Read.val_main_v4, Cert.UpFwdRefIdeal.Read.val_main_v5, Cert.UpFwdRefIdeal.Read.val_main_call0_cst, Cert.UpFwdRefIdeal.Read.val_main_call0_v0, Cert.UpFwdRefIdeal.Read.val_main_v6, Cert.UpFwdRefIdeal.Read.val_main_v7, Cert.UpFwdRefIdeal.Read.val_main_v8]
  simp only [h0, h1]

/-- Element by element: a block's result is the reference's at the matching place, wherever the blocks read are the arrays there. -/
theorem pure3 (x0 : Vec Ideal S2048x1024 .bf16) (x1 : Vec Ideal S1x1024x1024 .bf16)
    (X0 : Vec Ideal S4096x1024 .bf16) (X1 : Vec Ideal S2x1024x4096 .bf16)
    (j0 : Fin 2048) (j1 : Fin 1024) (i0 : Fin 4096) (i1 : Fin 4096)
    (h0 : ∀ (k : Fin 1024), x0 (ix2 j0 k) = X0 (ix2 i0 k)) (h1 : ∀ (k : Fin 1024), x1 (ix3 0 k j1) = X1 (ix3 0 k i1)) :
    k0_pay3 (F := Ideal) x0 x1 (ix2 j0 j1)
      = Cert.UpFwdRefIdeal.Read.val_main_v8 (F := Ideal) X0 X1 (ix2 i0 i1) := by
  pointwise [k0_pay1, k0_pay3, Cert.UpFwdRefIdeal.Read.val_main_v0, Cert.UpFwdRefIdeal.Read.val_main_v1, Cert.UpFwdRefIdeal.Read.val_main_v2, Cert.UpFwdRefIdeal.Read.val_main_v3, Cert.UpFwdRefIdeal.Read.val_main_v4, Cert.UpFwdRefIdeal.Read.val_main_v5, Cert.UpFwdRefIdeal.Read.val_main_call0_cst, Cert.UpFwdRefIdeal.Read.val_main_call0_v0, Cert.UpFwdRefIdeal.Read.val_main_v6, Cert.UpFwdRefIdeal.Read.val_main_v7, Cert.UpFwdRefIdeal.Read.val_main_v8]
  simp only [h0, h1]

variable (m : (ℓ : Loc nD τ sig) → Buf (Elt Ideal) ℓ) (ρ : Dev nD → PrngReg)

theorem idx_facts2 : ∀ t : Fin cfg0.N,
    win0_0.index t (0 : Fin 2) = win0_2.index t (0 : Fin 2)
    ∧ win0_0.index t (1 : Fin 2) = 0
    ∧ win0_1.index t (0 : Fin 3) = 0
    ∧ win0_1.index t (1 : Fin 3) = 0
    ∧ win0_1.index t (2 : Fin 3) = win0_2.index t (1 : Fin 2) :=
  (by decide +kernel : ∀ t : Fin grid0.N, _)

/-- What a point writes back is its block of the reference's result. -/
theorem flushed_eq2 (c : Dev nD) (t : Fin cfg0.N) :
    (dats m 0 c).flushed 2 t = ((cfg0.win 2).blk t).view.read (Elt Ideal) (Cert.UpFwdRefIdeal.Read.val_main_v5 (F := Ideal) (V m c main_arg0) (V m c main_arg1)) := by
  rw [flushed2]; unfold out0_2
  rw [View.canon_unit_zero hz2, View.ld_unit_zero hz2, View.ld_unit_zero hz3]
  obtain ⟨f0, f1, f2, f3, f4⟩ := idx_facts2 t
  funext j
  refine (congrArg (k0_pay2 (F := Ideal) (iblk m c 0 t) (iblk m c 1 t)) (eq_ix2 (n0 := 2048) (n1 := 1024) j)).trans
    (Eq.trans ?_ (congrArg (Cert.UpFwdRefIdeal.Read.val_main_v5 (F := Ideal) (V m c main_arg0) (V m c main_arg1)) (eq_ix2 (n0 := 4096) (n1 := 4096) (((cfg0.win 2).blk t).view.emb j)).symm))
  refine pure2 _ _ _ _ _ _ _ _ ?_ ?_
  · intro k
    show V m c main_arg0 (((cfg0.win 0).blk t).view.emb (ix2 (j 0) k)) = V m c main_arg0 _
    congr 1; funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * k.val = k.val; omega
  · intro k
    show V m c main_arg1 (((cfg0.win 1).blk t).view.emb (ix3 0 k (j 1))) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 1024 + 1 * (j 1).val = win0_2.index t (1 : Fin 2) * 1024 + 1 * (j 1).val; omega

theorem onto2 : ∀ (p0 : Fin 2) (p1 : Fin 4), ∃ t : Fin cfg0.N, win0_2.index t = ![p0.val, p1.val] :=
  (by decide +kernel : ∀ (p0 : Fin 2) (p1 : Fin 4), ∃ t : Fin grid0.N, win0_2.index t = ![p0.val, p1.val])

/-- Every place of the result is in some point's block. -/
theorem cover2 (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  obtain ⟨t, ht⟩ := onto2 ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 _, ?_⟩
  show i ∈ ((View.whole main_v0_0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

theorem final2 (c : Dev nD) : (dats m 0 c).arrAt 2 cfg0.N = Cert.UpFwdRefIdeal.Read.val_main_v5 (F := Ideal) (m ((c : Thread nD τ).loc main_arg0)) (m ((c : Thread nD τ).loc main_arg1)) :=
  (dats m 0 c).arrAt_eq_of_cover 2 (Cert.UpFwdRefIdeal.Read.val_main_v5 (F := Ideal) (V m c main_arg0) (V m c main_arg1)) (fun t _ => flushed_eq2 m c t) cover2

theorem idx_facts3 : ∀ t : Fin cfg0.N,
    win0_0.index t (0 : Fin 2) = win0_3.index t (0 : Fin 2)
    ∧ win0_0.index t (1 : Fin 2) = 0
    ∧ win0_1.index t (0 : Fin 3) = 0
    ∧ win0_1.index t (1 : Fin 3) = 0
    ∧ win0_1.index t (2 : Fin 3) = win0_3.index t (1 : Fin 2) :=
  (by decide +kernel : ∀ t : Fin grid0.N, _)

/-- What a point writes back is its block of the reference's result. -/
theorem flushed_eq3 (c : Dev nD) (t : Fin cfg0.N) :
    (dats m 0 c).flushed 3 t = ((cfg0.win 3).blk t).view.read (Elt Ideal) (Cert.UpFwdRefIdeal.Read.val_main_v8 (F := Ideal) (V m c main_arg0) (V m c main_arg1)) := by
  rw [flushed3]; unfold out0_3
  rw [View.canon_unit_zero hz2, View.ld_unit_zero hz2, View.ld_unit_zero hz3]
  obtain ⟨f0, f1, f2, f3, f4⟩ := idx_facts3 t
  funext j
  refine (congrArg (k0_pay3 (F := Ideal) (iblk m c 0 t) (iblk m c 1 t)) (eq_ix2 (n0 := 2048) (n1 := 1024) j)).trans
    (Eq.trans ?_ (congrArg (Cert.UpFwdRefIdeal.Read.val_main_v8 (F := Ideal) (V m c main_arg0) (V m c main_arg1)) (eq_ix2 (n0 := 4096) (n1 := 4096) (((cfg0.win 3).blk t).view.emb j)).symm))
  refine pure3 _ _ _ _ _ _ _ _ ?_ ?_
  · intro k
    show V m c main_arg0 (((cfg0.win 0).blk t).view.emb (ix2 (j 0) k)) = V m c main_arg0 _
    congr 1; funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 1024 + 1 * k.val = k.val; omega
  · intro k
    show V m c main_arg1 (((cfg0.win 1).blk t).view.emb (ix3 0 k (j 1))) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 1024 + 1 * (j 1).val = win0_3.index t (1 : Fin 2) * 1024 + 1 * (j 1).val; omega

theorem onto3 : ∀ (p0 : Fin 2) (p1 : Fin 4), ∃ t : Fin cfg0.N, win0_3.index t = ![p0.val, p1.val] :=
  (by decide +kernel : ∀ (p0 : Fin 2) (p1 : Fin 4), ∃ t : Fin grid0.N, win0_3.index t = ![p0.val, p1.val])

/-- Every place of the result is in some point's block. -/
theorem cover3 (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  obtain ⟨t, ht⟩ := onto3 ⟨(i 0).val / 2048, by omega⟩ ⟨(i 1).val / 1024, by omega⟩
  have q0 : win0_3.index t (0 : Fin 2) = (i 0).val / 2048 := congrFun ht 0
  have q1 : win0_3.index t (1 : Fin 2) = (i 1).val / 1024 := congrFun ht 1
  refine ⟨t, flush0_3 _, ?_⟩
  show i ∈ ((View.whole main_v0_1).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

theorem final3 (c : Dev nD) : (dats m 0 c).arrAt 3 cfg0.N = Cert.UpFwdRefIdeal.Read.val_main_v8 (F := Ideal) (m ((c : Thread nD τ).loc main_arg0)) (m ((c : Thread nD τ).loc main_arg1)) :=
  (dats m 0 c).arrAt_eq_of_cover 3 (Cert.UpFwdRefIdeal.Read.val_main_v8 (F := Ideal) (V m c main_arg0) (V m c main_arg1)) (fun t _ => flushed_eq3 m c t) cover3

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0_0) = Cert.UpFwdRefIdeal.Read.val_main_v5 (F := Ideal) (m (((c.tc : Thread nD τ)).loc main_arg0)) (m (((c.tc : Thread nD τ)).loc main_arg1))
      ∧ r.2.mem ((c : Thread nD τ).loc main_v0_1) = Cert.UpFwdRefIdeal.Read.val_main_v8 (F := Ideal) (m (((c.tc : Thread nD τ)).loc main_arg0)) (m (((c.tc : Thread nD τ)).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), ((h c).2.1).trans (final3 m c), (h c).2.2⟩) (run_blocks m ρ)

end Cert.UpFwdIdeal.Value

namespace Cert.Proof.UpFwd

theorem frame : Cert.quiescent_UpFwd := fun m ρ _ => Cert.UpFwd.Gen.frame m ρ
theorem frame_ideal : Cert.quiescent_UpFwdIdeal := fun m ρ _ => Cert.UpFwdIdeal.Gen.frame m ρ
theorem frame_ref : Cert.quiescent_UpFwdRefIdeal := fun m ρ _ =>
  (θ_run Cert.UpFwdRefIdeal.defs _ _).mono (fun r h => ⟨fun c => (h c).2.2, Idealize.ShloMosaic.sem_eq_zero_of_no_sems (by decide) r.2⟩)
    (Cert.UpFwdRefIdeal.Value.run (F := Ideal) m ρ)

/-- Over the reals the kernel's results are the reference's. -/
theorem algebraic : Cert.algebraic_UpFwdIdeal_UpFwdRefIdeal := by
  intro m ρ m' ρ' _ hagree
  refine ⟨fun c => Cert.UpFwdRefIdeal.Read.val_main_v5 (F := Ideal) (m (((c.tc : Thread Cert.UpFwdIdeal.nD Cert.UpFwdIdeal.τ)).loc Cert.UpFwdIdeal.main_arg0)) (m (((c.tc : Thread Cert.UpFwdIdeal.nD Cert.UpFwdIdeal.τ)).loc Cert.UpFwdIdeal.main_arg1)), fun c => Cert.UpFwdRefIdeal.Read.val_main_v8 (F := Ideal) (m (((c.tc : Thread Cert.UpFwdIdeal.nD Cert.UpFwdIdeal.τ)).loc Cert.UpFwdIdeal.main_arg0)) (m (((c.tc : Thread Cert.UpFwdIdeal.nD Cert.UpFwdIdeal.τ)).loc Cert.UpFwdIdeal.main_arg1)),
    Cert.UpFwdIdeal.Value.run m ρ, ?_⟩
  exact (θ_run Cert.UpFwdRefIdeal.defs _ _).mono (fun _ h c => ⟨((h c).1).trans ((Cert.UpFwdRefIdeal.Read.val_main_v5_eq (F := Ideal) _ _).trans (by rw [(hagree c).1, (hagree c).2])),
      ((h c).2.1).trans ((Cert.UpFwdRefIdeal.Read.val_main_v8_eq (F := Ideal) _ _).trans (by rw [(hagree c).1, (hagree c).2])),
      (h c).2.2⟩)
    (Cert.UpFwdRefIdeal.Value.run (F := Ideal) m' ρ')

end Cert.Proof.UpFwd

end
-- ==== Proof.DownFwd.lean ====
module

public import proofs.«01_k».proof.Defs
public import proofs.«01_k».proof.Proof.Gen.DownFwd
public import proofs.«01_k».proof.Proof.Gen.DownFwd.Frame
public import proofs.«01_k».proof.Proof.Gen.DownFwdIdeal.Value
public import proofs.«01_k».proof.Proof.Gen.DownFwdRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The MLP's second product with the residual and the next norm. -/

namespace Cert.DownFwdIdeal.Value

open Cert.DownFwdIdeal Cert.DownFwdIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure4 (x0 : Vec Ideal S512x4096 .bf16) (x1 : Vec Ideal S1x4096x1024 .bf16) (x2 : Vec Ideal S512x1024 .f32)
    (X0 : Vec Ideal S4096x4096 .bf16) (X1 : Vec Ideal S2x4096x1024 .bf16) (X2 : Vec Ideal S4096x1024 .f32)
    (j0 : Fin 512) (j1 : Fin 1024) (i0 : Fin 4096) (i1 : Fin 1024)
    (h0 : ∀ (k : Fin 4096), x0 (ix2 j0 k) = X0 (ix2 i0 k)) (h1 : ∀ (k : Fin 4096), x1 (ix3 0 k j1) = X1 (ix3 0 k i1)) (h2 : x2 (ix2 j0 j1) = X2 (ix2 i0 i1)) :
    k0_pay1 (F := Ideal) x0 x1 x2 (ix2 j0 j1)
      = Cert.DownFwdRefIdeal.Read.val_main_v5 (F := Ideal) X0 X1 X2 (ix2 i0 i1) := by
  pointwise [k0_pay1, Cert.DownFwdRefIdeal.Read.val_main_v0, Cert.DownFwdRefIdeal.Read.val_main_v1, Cert.DownFwdRefIdeal.Read.val_main_v2, Cert.DownFwdRefIdeal.Read.val_main_v3, Cert.DownFwdRefIdeal.Read.val_main_v4, Cert.DownFwdRefIdeal.Read.val_main_v5, Cert.DownFwdRefIdeal.Read.val_main_v6, Cert.DownFwdRefIdeal.Read.val_main_cst, Cert.DownFwdRefIdeal.Read.val_main_v7, Cert.DownFwdRefIdeal.Read.val_main_v8, Cert.DownFwdRefIdeal.Read.val_main_cst_0, Cert.DownFwdRefIdeal.Read.val_main_v9, Cert.DownFwdRefIdeal.Read.val_main_v10, Cert.DownFwdRefIdeal.Read.val_main_cst_1, Cert.DownFwdRefIdeal.Read.val_main_v11, Cert.DownFwdRefIdeal.Read.val_main_v12, Cert.DownFwdRefIdeal.Read.val_main_v13, Cert.DownFwdRefIdeal.Read.val_main_v14, Cert.DownFwdRefIdeal.Read.val_main_v15, Cert.DownFwdRefIdeal.Read.val_main_v16, Cert.DownFwdRefIdeal.Read.val_main_v17, Cert.DownFwdRefIdeal.Read.val_main_v18]
  simp only [h0, h1, h2]
  exact add_comm _ _

/-- Element by element: a block's result is the reference's at the matching place, wherever the blocks read are the arrays there. -/
theorem pure5 (x0 : Vec Ideal S512x4096 .bf16) (x1 : Vec Ideal S1x4096x1024 .bf16) (x2 : Vec Ideal S512x1024 .f32) (x3 : Vec Ideal S1x1024 .f32)
    (X0 : Vec Ideal S4096x4096 .bf16) (X1 : Vec Ideal S2x4096x1024 .bf16) (X2 : Vec Ideal S4096x1024 .f32) (X3 : Vec Ideal S1x1024 .f32)
    (j0 : Fin 512) (j1 : Fin 1024) (i0 : Fin 4096) (i1 : Fin 1024)
    (h0 : ∀ (k : Fin 4096), x0 (ix2 j0 k) = X0 (ix2 i0 k)) (h1 : ∀ (k : Fin 4096) (l : Fin 1024), x1 (ix3 0 k l) = X1 (ix3 0 k l)) (h2 : ∀ (l : Fin 1024), x2 (ix2 j0 l) = X2 (ix2 i0 l)) (h3 : ∀ (l : Fin 1024), x3 (ix2 0 l) = X3 (ix2 0 l)) (e1 : i1 = j1) :
    k0_pay2 (F := Ideal) x0 x1 x2 x3 (ix2 j0 j1)
      = Cert.DownFwdRefIdeal.Read.val_main_v18 (F := Ideal) X0 X1 X2 X3 (ix2 i0 i1) := by
  subst e1
  pointwise [k0_pay1, k0_pay2, Cert.DownFwdRefIdeal.Read.val_main_v0, Cert.DownFwdRefIdeal.Read.val_main_v1, Cert.DownFwdRefIdeal.Read.val_main_v2, Cert.DownFwdRefIdeal.Read.val_main_v3, Cert.DownFwdRefIdeal.Read.val_main_v4, Cert.DownFwdRefIdeal.Read.val_main_v5, Cert.DownFwdRefIdeal.Read.val_main_v6, Cert.DownFwdRefIdeal.Read.val_main_cst, Cert.DownFwdRefIdeal.Read.val_main_v7, Cert.DownFwdRefIdeal.Read.val_main_v8, Cert.DownFwdRefIdeal.Read.val_main_cst_0, Cert.DownFwdRefIdeal.Read.val_main_v9, Cert.DownFwdRefIdeal.Read.val_main_v10, Cert.DownFwdRefIdeal.Read.val_main_cst_1, Cert.DownFwdRefIdeal.Read.val_main_v11, Cert.DownFwdRefIdeal.Read.val_main_v12, Cert.DownFwdRefIdeal.Read.val_main_v13, Cert.DownFwdRefIdeal.Read.val_main_v14, Cert.DownFwdRefIdeal.Read.val_main_v15, Cert.DownFwdRefIdeal.Read.val_main_v16, Cert.DownFwdRefIdeal.Read.val_main_v17, Cert.DownFwdRefIdeal.Read.val_main_v18]
  simp only [h0, h1, h2, h3, add_comm]

variable (m : (ℓ : Loc nD τ sig) → Buf (Elt Ideal) ℓ) (ρ : Dev nD → PrngReg)

theorem idx_facts4 : ∀ t : Fin cfg0.N,
    win0_0.index t (0 : Fin 2) = win0_4.index t (0 : Fin 2)
    ∧ win0_0.index t (1 : Fin 2) = 0
    ∧ win0_1.index t (0 : Fin 3) = 0
    ∧ win0_1.index t (1 : Fin 3) = 0
    ∧ win0_1.index t (2 : Fin 3) = win0_4.index t (1 : Fin 2)
    ∧ win0_2.index t (0 : Fin 2) = win0_4.index t (0 : Fin 2)
    ∧ win0_2.index t (1 : Fin 2) = win0_4.index t (1 : Fin 2) :=
  (by decide +kernel : ∀ t : Fin grid0.N, _)

/-- What a point writes back is its block of the reference's result. -/
theorem flushed_eq4 (c : Dev nD) (t : Fin cfg0.N) :
    (dats m 0 c).flushed 4 t = ((cfg0.win 4).blk t).view.read (Elt Ideal) (Cert.DownFwdRefIdeal.Read.val_main_v5 (F := Ideal) (V m c main_arg0) (V m c main_arg1) (V m c main_arg2)) := by
  rw [flushed4]; unfold out0_4
  rw [View.canon_unit_zero hz2, View.ld_unit_zero hz2, View.ld_unit_zero hz3, View.ld_unit_zero hz2]
  obtain ⟨f0, f1, f2, f3, f4, f5, f6⟩ := idx_facts4 t
  funext j
  refine (congrArg (k0_pay1 (F := Ideal) (iblk m c 0 t) (iblk m c 1 t) (iblk m c 2 t)) (eq_ix2 (n0 := 512) (n1 := 1024) j)).trans
    (Eq.trans ?_ (congrArg (Cert.DownFwdRefIdeal.Read.val_main_v5 (F := Ideal) (V m c main_arg0) (V m c main_arg1) (V m c main_arg2)) (eq_ix2 (n0 := 4096) (n1 := 1024) (((cfg0.win 4).blk t).view.emb j)).symm))
  refine pure4 _ _ _ _ _ _ _ _ _ _ ?_ ?_ ?_
  · intro k
    show V m c main_arg0 (((cfg0.win 0).blk t).view.emb (ix2 (j 0) k)) = V m c main_arg0 _
    congr 1; funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 4096 + 1 * k.val = k.val; omega
  · intro k
    show V m c main_arg1 (((cfg0.win 1).blk t).view.emb (ix3 0 k (j 1))) = V m c main_arg1 _
    congr 1; funext a; apply Fin.ext
    match a with
    | ⟨0, _⟩ => show win0_1.index t (0 : Fin 3) * 1 + 1 * 0 = 0; omega
    | ⟨1, _⟩ => show win0_1.index t (1 : Fin 3) * 4096 + 1 * k.val = k.val; omega
    | ⟨2, _⟩ => show win0_1.index t (2 : Fin 3) * 1024 + 1 * (j 1).val = win0_4.index t (1 : Fin 2) * 1024 + 1 * (j 1).val; omega
  · skip
    show V m c main_arg2 (((cfg0.win 2).blk t).view.emb (ix2 (j 0) (j 1))) = V m c main_arg2 _
    congr 1; funext a; apply Fin.ext
    match a with
    | ⟨0, _⟩ => show win0_2.index t (0 : Fin 2) * 512 + 1 * (j 0).val = win0_4.index t (0 : Fin 2) * 512 + 1 * (j 0).val; omega
    | ⟨1, _⟩ => show win0_2.index t (1 : Fin 2) * 1024 + 1 * (j 1).val = win0_4.index t (1 : Fin 2) * 1024 + 1 * (j 1).val; omega

theorem onto4 : ∀ (p0 : Fin 8) (p1 : Fin 1), ∃ t : Fin cfg0.N, win0_4.index t = ![p0.val, p1.val] :=
  (by decide +kernel : ∀ (p0 : Fin 8) (p1 : Fin 1), ∃ t : Fin grid0.N, win0_4.index t = ![p0.val, p1.val])

/-- Every place of the result is in some point's block. -/
theorem cover4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  obtain ⟨t, ht⟩ := onto4 ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 _, ?_⟩
  show i ∈ ((View.whole main_v0_0).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

theorem final4 (c : Dev nD) : (dats m 0 c).arrAt 4 cfg0.N = Cert.DownFwdRefIdeal.Read.val_main_v5 (F := Ideal) (m ((c : Thread nD τ).loc main_arg0)) (m ((c : Thread nD τ).loc main_arg1)) (m ((c : Thread nD τ).loc main_arg2)) :=
  (dats m 0 c).arrAt_eq_of_cover 4 (Cert.DownFwdRefIdeal.Read.val_main_v5 (F := Ideal) (V m c main_arg0) (V m c main_arg1) (V m c main_arg2)) (fun t _ => flushed_eq4 m c t) cover4

theorem idx_facts5 : ∀ t : Fin cfg0.N,
    win0_0.index t (0 : Fin 2) = win0_5.index t (0 : Fin 2)
    ∧ win0_0.index t (1 : Fin 2) = 0
    ∧ win0_1.index t (0 : Fin 3) = 0
    ∧ win0_1.index t (1 : Fin 3) = 0
    ∧ win0_1.index t (2 : Fin 3) = 0
    ∧ win0_2.index t (0 : Fin 2) = win0_5.index t (0 : Fin 2)
    ∧ win0_2.index t (1 : Fin 2) = 0
    ∧ win0_3.index t (0 : Fin 2) = 0
    ∧ win0_3.index t (1 : Fin 2) = 0
    ∧ win0_5.index t (1 : Fin 2) = 0 :=
  (by decide +kernel : ∀ t : Fin grid0.N, _)

/-- What a point writes back is its block of the reference's result. -/
theorem flushed_eq5 (c : Dev nD) (t : Fin cfg0.N) :
    (dats m 0 c).flushed 5 t = ((cfg0.win 5).blk t).view.read (Elt Ideal) (Cert.DownFwdRefIdeal.Read.val_main_v18 (F := Ideal) (V m c main_arg0) (V m c main_arg1) (V m c main_arg2) (V m c main_arg3)) := by
  rw [flushed5]; unfold out0_5
  rw [View.canon_unit_zero hz2, View.ld_unit_zero hz2, View.ld_unit_zero hz3, View.ld_unit_zero hz2, View.ld_unit_zero hz2]
  obtain ⟨f0, f1, f2, f3, f4, f5, f6, f7, f8, f9⟩ := idx_facts5 t
  funext j
  refine (congrArg (k0_pay2 (F := Ideal) (iblk m c 0 t) (iblk m c 1 t) (iblk m c 2 t) (iblk m c 3 t)) (eq_ix2 (n0 := 512) (n1 := 1024) j)).trans
    (Eq.trans ?_ (congrArg (Cert.DownFwdRefIdeal.Read.val_main_v18 (F := Ideal) (V m c main_arg0) (V m c main_arg1) (V m c main_arg2) (V m c main_arg3)) (eq_ix2 (n0 := 4096) (n1 := 1024) (((cfg0.win 5).blk t).view.emb j)).symm))
  refine pure5 _ _ _ _ _ _ _ _ _ _ _ _ ?_ ?_ ?_ ?_ ?_
  · intro k
    show V m c main_arg0 (((cfg0.win 0).blk t).view.emb (ix2 (j 0) k)) = V m c main_arg0 _
    congr 1; funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 4096 + 1 * k.val = k.val; omega
  · intro k l
    show V m c main_arg1 (((cfg0.win 1).blk t).view.emb (ix3 0 k l)) = V m c main_arg1 _
    congr 1; funext a; apply Fin.ext
    match a with
    | ⟨0, _⟩ => show win0_1.index t (0 : Fin 3) * 1 + 1 * 0 = 0; omega
    | ⟨1, _⟩ => show win0_1.index t (1 : Fin 3) * 4096 + 1 * k.val = k.val; omega
    | ⟨2, _⟩ => show win0_1.index t (2 : Fin 3) * 1024 + 1 * l.val = l.val; omega
  · intro l
    show V m c main_arg2 (((cfg0.win 2).blk t).view.emb (ix2 (j 0) l)) = V m c main_arg2 _
    congr 1; funext a; apply Fin.ext
    match a with
    | ⟨0, _⟩ => show win0_2.index t (0 : Fin 2) * 512 + 1 * (j 0).val = win0_5.index t (0 : Fin 2) * 512 + 1 * (j 0).val; omega
    | ⟨1, _⟩ => show win0_2.index t (1 : Fin 2) * 1024 + 1 * l.val = l.val; omega
  · intro l
    show V m c main_arg3 (((cfg0.win 3).blk t).view.emb (ix2 0 l)) = V m c main_arg3 _
    congr 1; funext a; apply Fin.ext
    match a with
    | ⟨0, _⟩ => show win0_3.index t (0 : Fin 2) * 1 + 1 * 0 = 0; omega
    | ⟨1, _⟩ => show win0_3.index t (1 : Fin 2) * 1024 + 1 * l.val = l.val; omega
  · apply Fin.ext
    show win0_5.index t (1 : Fin 2) * 1024 + 1 * (j 1).val = (j 1).val; omega

theorem onto5 : ∀ (p0 : Fin 8) (p1 : Fin 1), ∃ t : Fin cfg0.N, win0_5.index t = ![p0.val, p1.val] :=
  (by decide +kernel : ∀ (p0 : Fin 8) (p1 : Fin 1), ∃ t : Fin grid0.N, win0_5.index t = ![p0.val, p1.val])

/-- Every place of the result is in some point's block. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ := onto5 ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 _, ?_⟩
  show i ∈ ((View.whole main_v0_1).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem final5 (c : Dev nD) : (dats m 0 c).arrAt 5 cfg0.N = Cert.DownFwdRefIdeal.Read.val_main_v18 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 5 (Cert.DownFwdRefIdeal.Read.val_main_v18 (F := Ideal) (V m c main_arg0) (V m c main_arg1) (V m c main_arg2) (V m c main_arg3)) (fun t _ => flushed_eq5 m c t) cover5

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0_0) = Cert.DownFwdRefIdeal.Read.val_main_v5 (F := Ideal) (m (((c.tc : Thread nD τ)).loc main_arg0)) (m (((c.tc : Thread nD τ)).loc main_arg1)) (m (((c.tc : Thread nD τ)).loc main_arg2))
      ∧ r.2.mem ((c : Thread nD τ).loc main_v0_1) = Cert.DownFwdRefIdeal.Read.val_main_v18 (F := Ideal) (m (((c.tc : Thread nD τ)).loc main_arg0)) (m (((c.tc : Thread nD τ)).loc main_arg1)) (m (((c.tc : Thread nD τ)).loc main_arg2)) (m (((c.tc : Thread nD τ)).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1).trans (final4 m c), ((h c).2.1).trans (final5 m c), (h c).2.2⟩) (run_blocks m ρ)

end Cert.DownFwdIdeal.Value

namespace Cert.Proof.DownFwd

theorem frame : Cert.quiescent_DownFwd := fun m ρ _ => Cert.DownFwd.Gen.frame m ρ
theorem frame_ideal : Cert.quiescent_DownFwdIdeal := fun m ρ _ => Cert.DownFwdIdeal.Gen.frame m ρ
theorem frame_ref : Cert.quiescent_DownFwdRefIdeal := fun m ρ _ =>
  (θ_run Cert.DownFwdRefIdeal.defs _ _).mono (fun r h => ⟨fun c => (h c).2.2, Idealize.ShloMosaic.sem_eq_zero_of_no_sems (by decide) r.2⟩)
    (Cert.DownFwdRefIdeal.Value.run (F := Ideal) m ρ)

/-- Over the reals the kernel's results are the reference's. -/
theorem algebraic : Cert.algebraic_DownFwdIdeal_DownFwdRefIdeal := by
  intro m ρ m' ρ' _ hagree
  refine ⟨fun c => Cert.DownFwdRefIdeal.Read.val_main_v5 (F := Ideal) (m (((c.tc : Thread Cert.DownFwdIdeal.nD Cert.DownFwdIdeal.τ)).loc Cert.DownFwdIdeal.main_arg0)) (m (((c.tc : Thread Cert.DownFwdIdeal.nD Cert.DownFwdIdeal.τ)).loc Cert.DownFwdIdeal.main_arg1)) (m (((c.tc : Thread Cert.DownFwdIdeal.nD Cert.DownFwdIdeal.τ)).loc Cert.DownFwdIdeal.main_arg2)), fun c => Cert.DownFwdRefIdeal.Read.val_main_v18 (F := Ideal) (m (((c.tc : Thread Cert.DownFwdIdeal.nD Cert.DownFwdIdeal.τ)).loc Cert.DownFwdIdeal.main_arg0)) (m (((c.tc : Thread Cert.DownFwdIdeal.nD Cert.DownFwdIdeal.τ)).loc Cert.DownFwdIdeal.main_arg1)) (m (((c.tc : Thread Cert.DownFwdIdeal.nD Cert.DownFwdIdeal.τ)).loc Cert.DownFwdIdeal.main_arg2)) (m (((c.tc : Thread Cert.DownFwdIdeal.nD Cert.DownFwdIdeal.τ)).loc Cert.DownFwdIdeal.main_arg3)),
    Cert.DownFwdIdeal.Value.run m ρ, ?_⟩
  exact (θ_run Cert.DownFwdRefIdeal.defs _ _).mono (fun _ h c => ⟨((h c).1).trans ((Cert.DownFwdRefIdeal.Read.val_main_v5_eq (F := Ideal) _ _ _).trans (by rw [(hagree c).1, (hagree c).2.1, (hagree c).2.2.1])),
      ((h c).2.1).trans ((Cert.DownFwdRefIdeal.Read.val_main_v18_eq (F := Ideal) _ _ _ _).trans (by rw [(hagree c).1, (hagree c).2.1, (hagree c).2.2.1, (hagree c).2.2.2])),
      (h c).2.2⟩)
    (Cert.DownFwdRefIdeal.Value.run (F := Ideal) m' ρ')

end Cert.Proof.DownFwd

end
-- ==== Proof.DownDx.lean ====
module

public import proofs.«01_k».proof.Defs
public import proofs.«01_k».proof.Proof.Gen.DownDx
public import proofs.«01_k».proof.Proof.Gen.DownDx.Frame
public import proofs.«01_k».proof.Proof.Gen.DownDxIdeal.Value
public import proofs.«01_k».proof.Proof.Gen.DownDxRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The MLP's second product backward, with the squared rectifier's derivative. -/

namespace Cert.DownDxIdeal.Value

open Cert.DownDxIdeal Cert.DownDxIdeal.Gen

theorem two_eq : Ideal.ofBits .f32 0x40000000#32 = 1 + 1 := by
  rw [show (1 : EReal) + 1 = ((2 : ℝ) : EReal) by rw [← EReal.coe_one, ← EReal.coe_add]; norm_num]
  simp [Ideal.ofBits, Ideal.ieee, -EReal.coe_eq_one, -EReal.coe_one, -EReal.coe_mul]
  norm_cast; norm_num

/-- Twice the rectified argument times the cotangent, where the argument is positive, else nothing. -/
theorem relu_sq (s u : EReal) : s * ((1 + 1) * max u 0) = if 0 < u then max u 0 * s + s * max u 0 else 0 := by
  have hm : 0 ≤ max u 0 := le_max_right _ _
  split_ifs with h
  · rw [EReal.right_distrib_of_nonneg zero_le_one zero_le_one, one_mul, mul_comm s, EReal.right_distrib_of_nonneg hm hm, mul_comm s]
  · rw [max_eq_right (not_lt.mp h), mul_zero, mul_zero]

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure3 (x0 : Vec Ideal S2048x1024 .bf16) (x1 : Vec Ideal S1x1024x1024 .bf16) (x2 : Vec Ideal S2048x1024 .bf16)
    (X0 : Vec Ideal S4096x1024 .bf16) (X1 : Vec Ideal S2x4096x1024 .bf16) (X2 : Vec Ideal S4096x4096 .bf16)
    (j0 : Fin 2048) (j1 : Fin 1024) (i0 : Fin 4096) (i1 : Fin 4096)
    (h0 : ∀ (k : Fin 1024), x0 (ix2 j0 k) = X0 (ix2 i0 k)) (h1 : ∀ (k : Fin 1024), x1 (ix3 0 j1 k) = X1 (ix3 0 i1 k)) (h2 : x2 (ix2 j0 j1) = X2 (ix2 i0 i1)) :
    k0_pay1 (F := Ideal) x0 x1 x2 (ix2 j0 j1)
      = Cert.DownDxRefIdeal.Read.val_main_v17 (F := Ideal) X0 X1 X2 (ix2 i0 i1) := by
  pointwise [k0_pay1, Cert.DownDxRefIdeal.Read.val_main_v0, Cert.DownDxRefIdeal.Read.val_main_v1, Cert.DownDxRefIdeal.Read.val_main_v2, Cert.DownDxRefIdeal.Read.val_main_call0_cst, Cert.DownDxRefIdeal.Read.val_main_call0_v0, Cert.DownDxRefIdeal.Read.val_main_v3, Cert.DownDxRefIdeal.Read.val_main_cst, Cert.DownDxRefIdeal.Read.val_main_v4, Cert.DownDxRefIdeal.Read.val_main_v5, Cert.DownDxRefIdeal.Read.val_main_cst_0, Cert.DownDxRefIdeal.Read.val_main_v6, Cert.DownDxRefIdeal.Read.val_main_v7, Cert.DownDxRefIdeal.Read.val_main_v8, Cert.DownDxRefIdeal.Read.val_main_v9, Cert.DownDxRefIdeal.Read.val_main_v10, Cert.DownDxRefIdeal.Read.val_main_v11, Cert.DownDxRefIdeal.Read.val_main_v12, Cert.DownDxRefIdeal.Read.val_main_v13, Cert.DownDxRefIdeal.Read.val_main_v14, Cert.DownDxRefIdeal.Read.val_main_cst_1, Cert.DownDxRefIdeal.Read.val_main_v15, Cert.DownDxRefIdeal.Read.val_main_v16, Cert.DownDxRefIdeal.Read.val_main_v17]
  simp only [h0, h1, h2, two_eq]
  exact relu_sq _ _

variable (m : (ℓ : Loc nD τ sig) → Buf (Elt Ideal) ℓ) (ρ : Dev nD → PrngReg)

theorem idx_facts3 : ∀ t : Fin cfg0.N,
    win0_0.index t (0 : Fin 2) = win0_3.index t (0 : Fin 2)
    ∧ win0_0.index t (1 : Fin 2) = 0
    ∧ win0_1.index t (0 : Fin 3) = 0
    ∧ win0_1.index t (1 : Fin 3) = win0_3.index t (1 : Fin 2)
    ∧ win0_1.index t (2 : Fin 3) = 0
    ∧ win0_2.index t (0 : Fin 2) = win0_3.index t (0 : Fin 2)
    ∧ win0_2.index t (1 : Fin 2) = win0_3.index t (1 : Fin 2) :=
  (by decide +kernel : ∀ t : Fin grid0.N, _)

/-- What a point writes back is its block of the reference's result. -/
theorem flushed_eq3 (c : Dev nD) (t : Fin cfg0.N) :
    (dats m 0 c).flushed 3 t = ((cfg0.win 3).blk t).view.read (Elt Ideal) (Cert.DownDxRefIdeal.Read.val_main_v17 (F := Ideal) (V m c main_arg0) (V m c main_arg1) (V m c main_arg2)) := by
  rw [flushed3]; unfold out0_3
  rw [View.canon_unit_zero hz2, View.ld_unit_zero hz2, View.ld_unit_zero hz3, View.ld_unit_zero hz2]
  obtain ⟨f0, f1, f2, f3, f4, f5, f6⟩ := idx_facts3 t
  funext j
  refine (congrArg (k0_pay1 (F := Ideal) (iblk m c 0 t) (iblk m c 1 t) (iblk m c 2 t)) (eq_ix2 (n0 := 2048) (n1 := 1024) j)).trans
    (Eq.trans ?_ (congrArg (Cert.DownDxRefIdeal.Read.val_main_v17 (F := Ideal) (V m c main_arg0) (V m c main_arg1) (V m c main_arg2)) (eq_ix2 (n0 := 4096) (n1 := 4096) (((cfg0.win 3).blk t).view.emb j)).symm))
  refine pure3 _ _ _ _ _ _ _ _ _ _ ?_ ?_ ?_
  · intro k
    show V m c main_arg0 (((cfg0.win 0).blk t).view.emb (ix2 (j 0) k)) = V m c main_arg0 _
    congr 1; funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 1024 + 1 * k.val = k.val; omega
  · intro k
    show V m c main_arg1 (((cfg0.win 1).blk t).view.emb (ix3 0 (j 1) k)) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * (j 1).val = win0_3.index t (1 : Fin 2) * 1024 + 1 * (j 1).val; omega
    | ⟨2, _⟩ => show win0_1.index t (2 : Fin 3) * 1024 + 1 * k.val = k.val; omega
  · skip
    show V m c main_arg2 (((cfg0.win 2).blk t).view.emb (ix2 (j 0) (j 1))) = V m c main_arg2 _
    congr 1; funext a; apply Fin.ext
    match a with
    | ⟨0, _⟩ => show win0_2.index t (0 : Fin 2) * 2048 + 1 * (j 0).val = win0_3.index t (0 : Fin 2) * 2048 + 1 * (j 0).val; omega
    | ⟨1, _⟩ => show win0_2.index t (1 : Fin 2) * 1024 + 1 * (j 1).val = win0_3.index t (1 : Fin 2) * 1024 + 1 * (j 1).val; omega

theorem onto3 : ∀ (p0 : Fin 2) (p1 : Fin 4), ∃ t : Fin cfg0.N, win0_3.index t = ![p0.val, p1.val] :=
  (by decide +kernel : ∀ (p0 : Fin 2) (p1 : Fin 4), ∃ t : Fin grid0.N, win0_3.index t = ![p0.val, p1.val])

/-- Every place of the result is in some point's block. -/
theorem cover3 (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  obtain ⟨t, ht⟩ := onto3 ⟨(i 0).val / 2048, by omega⟩ ⟨(i 1).val / 1024, by omega⟩
  have q0 : win0_3.index t (0 : Fin 2) = (i 0).val / 2048 := congrFun ht 0
  have q1 : win0_3.index t (1 : Fin 2) = (i 1).val / 1024 := congrFun ht 1
  refine ⟨t, flush0_3 _, ?_⟩
  show i ∈ ((View.whole main_v0).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

theorem final3 (c : Dev nD) : (dats m 0 c).arrAt 3 cfg0.N = Cert.DownDxRefIdeal.Read.val_main_v17 (F := Ideal) (m ((c : Thread nD τ).loc main_arg0)) (m ((c : Thread nD τ).loc main_arg1)) (m ((c : Thread nD τ).loc main_arg2)) :=
  (dats m 0 c).arrAt_eq_of_cover 3 (Cert.DownDxRefIdeal.Read.val_main_v17 (F := Ideal) (V m c main_arg0) (V m c main_arg1) (V m c main_arg2)) (fun t _ => flushed_eq3 m c t) cover3

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.DownDxRefIdeal.Read.val_main_v17 (F := Ideal) (m (((c.tc : Thread nD τ)).loc main_arg0)) (m (((c.tc : Thread nD τ)).loc main_arg1)) (m (((c.tc : Thread nD τ)).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final3 m c), (h c).2⟩) (run_blocks m ρ)

end Cert.DownDxIdeal.Value

namespace Cert.Proof.DownDx

theorem frame : Cert.quiescent_DownDx := fun m ρ _ => Cert.DownDx.Gen.frame m ρ
theorem frame_ideal : Cert.quiescent_DownDxIdeal := fun m ρ _ => Cert.DownDxIdeal.Gen.frame m ρ
theorem frame_ref : Cert.quiescent_DownDxRefIdeal := fun m ρ _ =>
  (θ_run Cert.DownDxRefIdeal.defs _ _).mono (fun r h => ⟨fun c => (h c).2, Idealize.ShloMosaic.sem_eq_zero_of_no_sems (by decide) r.2⟩)
    (Cert.DownDxRefIdeal.Value.run (F := Ideal) m ρ)

/-- Over the reals the kernel's results are the reference's. -/
theorem algebraic : Cert.algebraic_DownDxIdeal_DownDxRefIdeal := by
  intro m ρ m' ρ' _ hagree
  refine ⟨fun c => Cert.DownDxRefIdeal.Read.val_main_v17 (F := Ideal) (m (((c.tc : Thread Cert.DownDxIdeal.nD Cert.DownDxIdeal.τ)).loc Cert.DownDxIdeal.main_arg0)) (m (((c.tc : Thread Cert.DownDxIdeal.nD Cert.DownDxIdeal.τ)).loc Cert.DownDxIdeal.main_arg1)) (m (((c.tc : Thread Cert.DownDxIdeal.nD Cert.DownDxIdeal.τ)).loc Cert.DownDxIdeal.main_arg2)),
    Cert.DownDxIdeal.Value.run m ρ, ?_⟩
  exact (θ_run Cert.DownDxRefIdeal.defs _ _).mono (fun _ h c => ⟨((h c).1).trans ((Cert.DownDxRefIdeal.Read.val_main_v17_eq (F := Ideal) _ _ _).trans (by rw [(hagree c).1, (hagree c).2.1, (hagree c).2.2])),
      (h c).2⟩)
    (Cert.DownDxRefIdeal.Value.run (F := Ideal) m' ρ')

end Cert.Proof.DownDx

end
-- ==== Proof.DownDw.lean ====
module

public import proofs.«01_k».proof.Defs
public import proofs.«01_k».proof.Proof.Gen.DownDw
public import proofs.«01_k».proof.Proof.Gen.DownDw.Frame
public import proofs.«01_k».proof.Proof.Gen.DownDwIdeal.Value
public import proofs.«01_k».proof.Proof.Gen.DownDwRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! A weight's gradient: the product over the rows. -/

namespace Cert.DownDwIdeal.Value

open Cert.DownDwIdeal Cert.DownDwIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure2 (x0 : Vec Ideal S4096x512 .bf16) (x1 : Vec Ideal S4096x1024 .bf16)
    (X0 : Vec Ideal S4096x4096 .bf16) (X1 : Vec Ideal S4096x1024 .bf16)
    (j0 : Fin 1) (j1 : Fin 512) (j2 : Fin 1024) (i0 : Fin 1) (i1 : Fin 4096) (i2 : Fin 1024)
    (h0 : ∀ (k : Fin 4096), x0 (ix2 k j1) = X0 (ix2 k i1)) (h1 : ∀ (k : Fin 4096), x1 (ix2 k j2) = X1 (ix2 k i2)) :
    k0_pay1 (F := Ideal) x0 x1 (ix3 j0 j1 j2)
      = Cert.DownDwRefIdeal.Read.val_main_v8 (F := Ideal) X0 X1 (ix3 i0 i1 i2) := by
  pointwise [k0_pay1, Cert.DownDwRefIdeal.Read.val_main_v0, Cert.DownDwRefIdeal.Read.val_main_v1, Cert.DownDwRefIdeal.Read.val_main_cst, Cert.DownDwRefIdeal.Read.val_main_v2, Cert.DownDwRefIdeal.Read.val_main_v3, Cert.DownDwRefIdeal.Read.val_main_v4, Cert.DownDwRefIdeal.Read.val_main_v5, Cert.DownDwRefIdeal.Read.val_main_v6, Cert.DownDwRefIdeal.Read.val_main_v7, Cert.DownDwRefIdeal.Read.val_main_v8]
  simp only [h0, h1]
  exact Finset.sum_congr rfl fun k _ => mul_comm _ _

variable (m : (ℓ : Loc nD τ sig) → Buf (Elt Ideal) ℓ) (ρ : Dev nD → PrngReg)

theorem idx_facts2 : ∀ t : Fin cfg0.N,
    win0_0.index t (0 : Fin 2) = 0
    ∧ win0_0.index t (1 : Fin 2) = win0_2.index t (1 : Fin 3)
    ∧ win0_1.index t (0 : Fin 2) = 0
    ∧ win0_1.index t (1 : Fin 2) = win0_2.index t (2 : Fin 3)
    ∧ win0_2.index t (0 : Fin 3) = 0 :=
  (by decide +kernel : ∀ t : Fin grid0.N, _)

/-- What a point writes back is its block of the reference's result. -/
theorem flushed_eq2 (c : Dev nD) (t : Fin cfg0.N) :
    (dats m 0 c).flushed 2 t = ((cfg0.win 2).blk t).view.read (Elt Ideal) (Cert.DownDwRefIdeal.Read.val_main_v8 (F := Ideal) (V m c main_arg0) (V m c main_arg1)) := by
  rw [flushed2]; unfold out0_2
  rw [View.canon_unit_zero hz3, View.ld_unit_zero hz2, View.ld_unit_zero hz2]
  obtain ⟨f0, f1, f2, f3, f4⟩ := idx_facts2 t
  funext j
  refine (congrArg (k0_pay1 (F := Ideal) (iblk m c 0 t) (iblk m c 1 t)) (eq_ix3 (n0 := 1) (n1 := 512) (n2 := 1024) j)).trans
    (Eq.trans ?_ (congrArg (Cert.DownDwRefIdeal.Read.val_main_v8 (F := Ideal) (V m c main_arg0) (V m c main_arg1)) (eq_ix3 (n0 := 1) (n1 := 4096) (n2 := 1024) (((cfg0.win 2).blk t).view.emb j)).symm))
  refine pure2 _ _ _ _ _ _ _ _ _ _ ?_ ?_
  · intro k
    show V m c main_arg0 (((cfg0.win 0).blk t).view.emb (ix2 k (j 1))) = V m c main_arg0 _
    congr 1; funext a; apply Fin.ext
    match a with
    | ⟨0, _⟩ => show win0_0.index t (0 : Fin 2) * 4096 + 1 * k.val = k.val; omega
    | ⟨1, _⟩ => show win0_0.index t (1 : Fin 2) * 512 + 1 * (j 1).val = win0_2.index t (1 : Fin 3) * 512 + 1 * (j 1).val; omega
  · intro k
    show V m c main_arg1 (((cfg0.win 1).blk t).view.emb (ix2 k (j 2))) = V m c main_arg1 _
    congr 1; funext a; apply Fin.ext
    match a with
    | ⟨0, _⟩ => show win0_1.index t (0 : Fin 2) * 4096 + 1 * k.val = k.val; omega
    | ⟨1, _⟩ => show win0_1.index t (1 : Fin 2) * 1024 + 1 * (j 2).val = win0_2.index t (2 : Fin 3) * 1024 + 1 * (j 2).val; omega

theorem onto2 : ∀ (p0 : Fin 1) (p1 : Fin 8) (p2 : Fin 1), ∃ t : Fin cfg0.N, win0_2.index t = ![p0.val, p1.val, p2.val] :=
  (by decide +kernel : ∀ (p0 : Fin 1) (p1 : Fin 8) (p2 : Fin 1), ∃ t : Fin grid0.N, win0_2.index t = ![p0.val, p1.val, p2.val])

/-- Every place of the result is in some point's block. -/
theorem cover2 (i : S1x4096x1024.Idx) : ∃ t : Fin cfg0.N, (cfg0.win 2).flush t = true ∧ i ∈ ((cfg0.win 2).blk t).view.set := by
  have h0 : (i 0).val < 1 := (i 0).isLt
  have h1 : (i 1).val < 4096 := (i 1).isLt
  have h2 : (i 2).val < 1024 := (i 2).isLt
  obtain ⟨t, ht⟩ := onto2 ⟨(i 0).val / 1, by omega⟩ ⟨(i 1).val / 512, by omega⟩ ⟨(i 2).val / 1024, by omega⟩
  have q0 : win0_2.index t (0 : Fin 3) = (i 0).val / 1 := congrFun ht 0
  have q1 : win0_2.index t (1 : Fin 3) = (i 1).val / 512 := congrFun ht 1
  have q2 : win0_2.index t (2 : Fin 3) = (i 2).val / 1024 := congrFun ht 2
  refine ⟨t, flush0_2 _, ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

theorem final2 (c : Dev nD) : (dats m 0 c).arrAt 2 cfg0.N = Cert.DownDwRefIdeal.Read.val_main_v8 (F := Ideal) (m ((c : Thread nD τ).loc main_arg0)) (m ((c : Thread nD τ).loc main_arg1)) :=
  (dats m 0 c).arrAt_eq_of_cover 2 (Cert.DownDwRefIdeal.Read.val_main_v8 (F := Ideal) (V m c main_arg0) (V m c main_arg1)) (fun t _ => flushed_eq2 m c t) cover2

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.DownDwRefIdeal.Read.val_main_v8 (F := Ideal) (m (((c.tc : Thread nD τ)).loc main_arg0)) (m (((c.tc : Thread nD τ)).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), (h c).2⟩) (run_blocks m ρ)

end Cert.DownDwIdeal.Value

namespace Cert.Proof.DownDw

theorem frame : Cert.quiescent_DownDw := fun m ρ _ => Cert.DownDw.Gen.frame m ρ
theorem frame_ideal : Cert.quiescent_DownDwIdeal := fun m ρ _ => Cert.DownDwIdeal.Gen.frame m ρ
theorem frame_ref : Cert.quiescent_DownDwRefIdeal := fun m ρ _ =>
  (θ_run Cert.DownDwRefIdeal.defs _ _).mono (fun r h => ⟨fun c => (h c).2, Idealize.ShloMosaic.sem_eq_zero_of_no_sems (by decide) r.2⟩)
    (Cert.DownDwRefIdeal.Value.run (F := Ideal) m ρ)

/-- Over the reals the kernel's results are the reference's. -/
theorem algebraic : Cert.algebraic_DownDwIdeal_DownDwRefIdeal := by
  intro m ρ m' ρ' _ hagree
  refine ⟨fun c => Cert.DownDwRefIdeal.Read.val_main_v8 (F := Ideal) (m (((c.tc : Thread Cert.DownDwIdeal.nD Cert.DownDwIdeal.τ)).loc Cert.DownDwIdeal.main_arg0)) (m (((c.tc : Thread Cert.DownDwIdeal.nD Cert.DownDwIdeal.τ)).loc Cert.DownDwIdeal.main_arg1)),
    Cert.DownDwIdeal.Value.run m ρ, ?_⟩
  exact (θ_run Cert.DownDwRefIdeal.defs _ _).mono (fun _ h c => ⟨((h c).1).trans ((Cert.DownDwRefIdeal.Read.val_main_v8_eq (F := Ideal) _ _).trans (by rw [(hagree c).1, (hagree c).2])),
      (h c).2⟩)
    (Cert.DownDwRefIdeal.Value.run (F := Ideal) m' ρ')

end Cert.Proof.DownDw

end
-- ==== Proof.Norm.lean ====
module

public import Idealize.ShloMosaic.PureOps.Ideal
public import Idealize.ShloMosaic.Lib.Pointwise

@[expose] public section

noncomputable section

/-! The backward pass of the root-mean-square norm over the extended reals: the fused form a kernel computes and the form
    that differentiating the norm gives agree, at every input. -/

namespace Cert.Proof.Norm

open Idealize.ShloMosaic

theorem n_eq : Ideal.ofBits .f32 1149239296#32 = ((1024 : ℝ) : EReal) := by
  simp [Ideal.ofBits, Ideal.ieee, -EReal.coe_eq_one, -EReal.coe_one, -EReal.coe_mul]; norm_num
theorem eps_eq : ∃ e : ℝ, 0 < e ∧ Ideal.ofBits .f32 925353388#32 = (e : EReal) := by
  refine ⟨_, ?_, by simp [Ideal.ofBits, Ideal.ieee, -EReal.coe_eq_one, -EReal.coe_one, -EReal.coe_mul]; rfl⟩
  norm_num
theorem half_eq : Ideal.ofBits .f32 3204448256#32 = ((-(1 / 2) : ℝ) : EReal) := by
  simp [Ideal.ofBits, Ideal.ieee, -EReal.coe_eq_one, -EReal.coe_one, -EReal.coe_mul]; norm_num

theorem div_n (x : EReal) : Ideal.div x (Ideal.ofBits .f32 1149239296#32) = x * (((1024 : ℝ)⁻¹ : ℝ) : EReal) := by
  rw [n_eq, Ideal.div, if_neg (by rw [← EReal.coe_zero, EReal.coe_eq_coe_iff]; norm_num), EReal.coe_inv]

/-- Multiplying by a nonnegative real distributes over a sum. -/
theorem sum_mul_coe {ι : Type*} (s : Finset ι) (f : ι → EReal) (r : ℝ) (hr : 0 ≤ r) :
    (∑ x ∈ s, f x) * (r : EReal) = ∑ x ∈ s, f x * (r : EReal) := by
  classical
  induction s using Finset.induction_on with
  | empty => simp
  | insert a s ha ih =>
    rw [Finset.sum_insert ha, Finset.sum_insert ha, ← ih, mul_comm, mul_comm (f a), mul_comm (∑ x ∈ s, f x)]
    exact EReal.left_distrib_of_nonneg_of_ne_top (by exact_mod_cast hr) (EReal.coe_ne_top r) _ _

theorem sq_nonneg (x : EReal) : 0 ≤ x * x := by
  rcases le_total 0 x with h | h
  · exact mul_nonneg h h
  · have := mul_nonneg (EReal.neg_nonneg.mpr h) (EReal.neg_nonneg.mpr h)
    rwa [EReal.neg_mul, mul_comm x, EReal.neg_mul, neg_neg] at this

/-- At a positive argument the reciprocal root is a nonnegative real, and its square is the reciprocal. -/
theorem rsqrt_pos (v : EReal) (hv : 0 < v) :
    ∃ r s : ℝ, 0 ≤ r ∧ 0 ≤ s ∧ Ideal.rsqrt v = (r : EReal) ∧ Ideal.div (Ideal.rsqrt v) v = ((r * s : ℝ) : EReal) ∧ r * r = s := by
  induction v using EReal.rec with
  | bot => exact absurd hv (by simp)
  | top => exact ⟨0, 0, le_refl _, le_refl _, rfl, by rw [show Ideal.rsqrt ⊤ = 0 from rfl]; simp [Ideal.div], by simp⟩
  | coe v =>
    have hv' : 0 < v := by exact_mod_cast hv
    have h1 : Ideal.rsqrt (v : EReal) = (((√v)⁻¹ : ℝ) : EReal) := by
      show (if v < 0 then (⊥ : EReal) else if v = 0 then ⊤ else (((√v)⁻¹ : ℝ) : EReal)) = _
      rw [if_neg (not_lt.mpr hv'.le), if_neg hv'.ne']
    refine ⟨(√v)⁻¹, v⁻¹, by positivity, by positivity, h1, ?_, ?_⟩
    · rw [h1, Ideal.div, if_neg (by exact_mod_cast hv'.ne'), ← EReal.coe_inv, ← EReal.coe_mul]
    · rw [← mul_inv, Real.mul_self_sqrt hv'.le]

theorem neg_double (w : EReal) : -(w + w) = -w + -w := by
  induction w using EReal.rec with
  | bot => simp
  | top => simp
  | coe w => norm_cast; ring

theorem mean_pos (X : Fin 1024 → EReal) :
    0 < Ideal.div (∑ x, X x * X x) (Ideal.ofBits .f32 1149239296#32) + Ideal.ofBits .f32 925353388#32 := by
  obtain ⟨e, he, h⟩ := eps_eq
  rw [h, div_n]
  have h1 : (0 : EReal) ≤ (∑ x, X x * X x) * (((1024 : ℝ)⁻¹ : ℝ) : EReal) :=
    mul_nonneg (Finset.sum_nonneg fun x _ => sq_nonneg _) (by norm_cast; norm_num)
  calc (0 : EReal) < (e : EReal) := by exact_mod_cast he
    _ = 0 + (e : EReal) := (zero_add _).symm
    _ ≤ _ := by gcongr

theorem norm_bwd (X Y : Fin 1024 → EReal) (x y : EReal) (R v : EReal) (hR : R = Ideal.rsqrt v) (hv : 0 < v) :
    R * (y - x * R * Ideal.div (∑ k, Y k * (X k * R)) (Ideal.ofBits .f32 1149239296#32))
      = y * R + x * (∑ _k : Fin 1, Ideal.div ((∑ k, X k * Y k) * (Ideal.ofBits .f32 3204448256#32 * Ideal.div R v))
            (Ideal.ofBits .f32 1149239296#32))
        + (∑ _k : Fin 1, Ideal.div ((∑ k, X k * Y k) * (Ideal.ofBits .f32 3204448256#32 * Ideal.div R v))
            (Ideal.ofBits .f32 1149239296#32)) * x := by
  obtain ⟨r, s, hr, hs, h1, h2, h3⟩ := rsqrt_pos v hv
  rw [hR, h2, h1, half_eq, div_n, div_n]
  have e1 : ∑ k, Y k * (X k * (r : EReal)) = (∑ k, X k * Y k) * (r : EReal) := by
    rw [sum_mul_coe _ _ _ hr]
    exact Finset.sum_congr rfl fun k _ => by rw [← mul_assoc, mul_comm (Y k)]
  rw [e1]
  generalize (∑ k, X k * Y k) = T
  simp only [Finset.univ_unique, Finset.sum_const, Finset.card_singleton, one_smul]
  have hq : 0 ≤ r * s * (1 / 2) * (1024 : ℝ)⁻¹ := by positivity
  have e2 : T * (((-(1 / 2) : ℝ) : EReal) * ((r * s : ℝ) : EReal)) * (((1024 : ℝ)⁻¹ : ℝ) : EReal)
      = -(T * ((r * s * (1 / 2) * (1024 : ℝ)⁻¹ : ℝ) : EReal)) := by
    rw [mul_assoc, ← EReal.coe_mul, ← EReal.coe_mul, ← mul_neg, ← EReal.coe_neg]
    congr 2; ring
  rw [e2, mul_neg, neg_mul, mul_comm (T * _) x]
  have e3 : (r : EReal) * (y - x * (r : EReal) * (T * (r : EReal) * (((1024 : ℝ)⁻¹ : ℝ) : EReal)))
      = y * (r : EReal) + -(x * T * ((r * s * (1024 : ℝ)⁻¹ : ℝ) : EReal)) := by
    rw [sub_eq_add_neg, EReal.left_distrib_of_nonneg_of_ne_top (by exact_mod_cast hr) (EReal.coe_ne_top r),
      mul_comm (r : EReal) y, mul_neg, ← h3]
    congr 2
    simp only [EReal.coe_mul]
    ac_rfl
  rw [e3, add_assoc, ← neg_double]
  congr 2
  have e4 : r * s * (1024 : ℝ)⁻¹ = r * s * (1 / 2) * (1024 : ℝ)⁻¹ + r * s * (1 / 2) * (1024 : ℝ)⁻¹ := by ring
  rw [e4, EReal.coe_add, EReal.left_distrib_of_nonneg (by exact_mod_cast hq) (by exact_mod_cast hq)]
  simp only [mul_assoc]

end Cert.Proof.Norm

end
-- ==== Proof.UpDx.lean ====
module

public import proofs.«01_k».proof.Defs
public import proofs.«01_k».proof.Proof.Gen.UpDx
public import proofs.«01_k».proof.Proof.Gen.UpDx.Frame
public import proofs.«01_k».proof.Proof.Gen.UpDxIdeal.Value
public import proofs.«01_k».proof.Proof.Gen.UpDxRefIdeal.Read
public import Idealize.ShloMosaic.Lib.Pointwise
public import Idealize.ShloMosaic.Lib.Quiescent
public import proofs.«01_k».proof.Proof.Norm
public import Idealize.ShloMosaic.Lib.Tactic

@[expose] public section

set_option maxRecDepth 16384

noncomputable section

open Idealize.ShloMosaic Idealize.ShloMosaic.TcCoe Idealize.SL.Sem

/-! The cotangent of the MLP's first product through its norm. The rows come in 8 blocks of 512; the gain's gradient and the column sums are carried from block to block. -/

namespace Cert.UpDxIdeal.Value

open Cert.UpDxIdeal Cert.UpDxIdeal.Gen Cert.UpDxRefIdeal.Read

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- A block's row of the cotangent is the reference's at the row's place `q` in the whole array. -/
theorem pure5 (x0 : Vec Ideal S512x4096 .bf16) (x1 : Vec Ideal S1x1024x4096 .bf16) (x2 x3 : Vec Ideal S512x1024 .f32) (x4 : Vec Ideal S1x1024 .f32)
    (X0 : Vec Ideal S4096x4096 .bf16) (X1 : Vec Ideal S2x1024x4096 .bf16) (X2 X3 : Vec Ideal S4096x1024 .f32) (X4 : Vec Ideal S1x1024 .f32) (q : Fin 512 → Fin 4096)
    (h0 : ∀ (r : Fin 512) (k : Fin 4096), x0 (ix2 r k) = X0 (ix2 (q r) k)) (h1 : ∀ (l : Fin 1024) (k : Fin 4096), x1 (ix3 0 l k) = X1 (ix3 0 l k))
    (h2 : ∀ (r : Fin 512) (l : Fin 1024), x2 (ix2 r l) = X2 (ix2 (q r) l)) (h3 : ∀ (r : Fin 512) (l : Fin 1024), x3 (ix2 r l) = X3 (ix2 (q r) l))
    (h4 : ∀ l : Fin 1024, x4 (ix2 0 l) = X4 (ix2 0 l)) (r : Fin 512) (j : Fin 1024) :
    k0_pay9 (F := Ideal) x0 x1 x2 x3 x4 (ix2 r j) = val_main_v44 (F := Ideal) X0 X1 X2 X3 X4 (ix2 (q r) j) := by
  pointwise [k0_pay1, k0_pay2, k0_pay3, k0_pay4, k0_pay5, k0_pay6, k0_pay7, k0_pay8, k0_pay9, k0_pay10, k0_pay11, val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_cst_6, val_main_v35, val_main_v36, val_main_cst_7, val_main_v37, val_main_v38, val_main_v39, val_main_v40, val_main_v41, val_main_v42, val_main_v43, val_main_v44, val_main_v45, val_main_cst_8, val_main_v46, val_main_v47]
  simp only [h0, h1, h2, h3, h4]
  rw [Cert.Proof.Norm.norm_bwd (fun k => X2 (ix2 (q r) k)) (fun k => (∑ x, X0 (ix2 (q r) x) * X1 (ix3 0 k x)) * X4 (ix2 0 k)) _ _ _ _ rfl
    (Cert.Proof.Norm.mean_pos fun k => X2 (ix2 (q r) k))]

/-- One row's part of the gain's gradient. -/
def gainTerm (X0 : Vec Ideal S4096x4096 .bf16) (X1 : Vec Ideal S2x1024x4096 .bf16) (X2 : Vec Ideal S4096x1024 .f32) (i : Fin 4096) (j : Fin 1024) : EReal :=
  (∑ k : Fin 4096, X0 (ix2 i k) * X1 (ix3 0 j k)) *
    (X2 (ix2 i j) * Ideal.rsqrt (Ideal.div (∑ x : Fin 1024, X2 (ix2 i x) * X2 (ix2 i x)) (Ideal.ofBits FTy.f32 1149239296#32) + Ideal.ofBits FTy.f32 925353388#32))

theorem pure7 (x0 : Vec Ideal S512x4096 .bf16) (x1 : Vec Ideal S1x1024x4096 .bf16) (x2 x3 : Vec Ideal S512x1024 .f32) (x4 : Vec Ideal S1x1024 .f32)
    (X0 : Vec Ideal S4096x4096 .bf16) (X1 : Vec Ideal S2x1024x4096 .bf16) (X2 X3 : Vec Ideal S4096x1024 .f32) (X4 : Vec Ideal S1x1024 .f32) (q : Fin 512 → Fin 4096)
    (h0 : ∀ (r : Fin 512) (k : Fin 4096), x0 (ix2 r k) = X0 (ix2 (q r) k)) (h1 : ∀ (l : Fin 1024) (k : Fin 4096), x1 (ix3 0 l k) = X1 (ix3 0 l k))
    (h2 : ∀ (r : Fin 512) (l : Fin 1024), x2 (ix2 r l) = X2 (ix2 (q r) l)) (h3 : ∀ (r : Fin 512) (l : Fin 1024), x3 (ix2 r l) = X3 (ix2 (q r) l))
    (h4 : ∀ l : Fin 1024, x4 (ix2 0 l) = X4 (ix2 0 l)) (j : Fin 1024) :
    k0_pay10 (F := Ideal) x0 x1 x2 (ix2 0 j) = ∑ r : Fin 512, gainTerm X0 X1 X2 (q r) j := by
  pointwise [k0_pay1, k0_pay2, k0_pay3, k0_pay4, k0_pay5, k0_pay6, k0_pay7, k0_pay8, k0_pay9, k0_pay10, k0_pay11]
  simp only [h0, h1, h2, gainTerm]

theorem ref7 (X0 : Vec Ideal S4096x4096 .bf16) (X1 : Vec Ideal S2x1024x4096 .bf16) (X2 X3 : Vec Ideal S4096x1024 .f32) (X4 : Vec Ideal S1x1024 .f32) (j : Fin 1024) :
    val_main_v43 (F := Ideal) X0 X1 X2 (ix2 0 j) = ∑ i : Fin 4096, gainTerm X0 X1 X2 i j := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_cst_6, val_main_v35, val_main_v36, val_main_cst_7, val_main_v37, val_main_v38, val_main_v39, val_main_v40, val_main_v41, val_main_v42, val_main_v43, val_main_v44, val_main_v45, val_main_cst_8, val_main_v46, val_main_v47]
  simp only [gainTerm, Finset.univ_unique, Finset.sum_const, Finset.card_singleton, one_smul]
  exact Finset.sum_congr rfl fun i _ => mul_comm _ _

theorem pure8 (x0 : Vec Ideal S512x4096 .bf16) (x1 : Vec Ideal S1x1024x4096 .bf16) (x2 x3 : Vec Ideal S512x1024 .f32) (x4 : Vec Ideal S1x1024 .f32)
    (X0 : Vec Ideal S4096x4096 .bf16) (X1 : Vec Ideal S2x1024x4096 .bf16) (X2 X3 : Vec Ideal S4096x1024 .f32) (X4 : Vec Ideal S1x1024 .f32) (q : Fin 512 → Fin 4096)
    (h0 : ∀ (r : Fin 512) (k : Fin 4096), x0 (ix2 r k) = X0 (ix2 (q r) k)) (h1 : ∀ (l : Fin 1024) (k : Fin 4096), x1 (ix3 0 l k) = X1 (ix3 0 l k))
    (h2 : ∀ (r : Fin 512) (l : Fin 1024), x2 (ix2 r l) = X2 (ix2 (q r) l)) (h3 : ∀ (r : Fin 512) (l : Fin 1024), x3 (ix2 r l) = X3 (ix2 (q r) l))
    (h4 : ∀ l : Fin 1024, x4 (ix2 0 l) = X4 (ix2 0 l)) (j : Fin 1024) :
    k0_pay11 (F := Ideal) x0 x1 x2 x3 x4 (ix2 0 j)
      = ∑ r : Fin 512, val_main_v44 (F := Ideal) X0 X1 X2 X3 X4 (ix2 (q r) j) := by
  have e : k0_pay11 (F := Ideal) x0 x1 x2 x3 x4 (ix2 0 j) = ∑ r : Fin 512, k0_pay9 (F := Ideal) x0 x1 x2 x3 x4 (ix2 r j) := by
    pointwise [k0_pay1, k0_pay2, k0_pay3, k0_pay4, k0_pay5, k0_pay6, k0_pay7, k0_pay8, k0_pay9, k0_pay10, k0_pay11]
  rw [e]
  exact Finset.sum_congr rfl fun r _ => pure5 x0 x1 x2 x3 x4 X0 X1 X2 X3 X4 q h0 h1 h2 h3 h4 r j

theorem ref8 (X0 : Vec Ideal S4096x4096 .bf16) (X1 : Vec Ideal S2x1024x4096 .bf16) (X2 X3 : Vec Ideal S4096x1024 .f32) (X4 : Vec Ideal S1x1024 .f32) (j : Fin 1024) :
    val_main_v47 (F := Ideal) X0 X1 X2 X3 X4 (ix2 0 j) = ∑ i : Fin 4096, val_main_v44 (F := Ideal) X0 X1 X2 X3 X4 (ix2 i j) := by
  pointwise [val_main_cst_8, val_main_v46, val_main_v47]

theorem add4 (a o : Vec Ideal S1x1024 .f32) (j : Fin 1024) : k0_pay4 (F := Ideal) a o (ix2 0 j) = o (ix2 0 j) + a (ix2 0 j) := by
  pointwise [k0_pay4]
theorem add5 (a o : Vec Ideal S1x1024 .f32) (j : Fin 1024) : k0_pay5 (F := Ideal) a o (ix2 0 j) = o (ix2 0 j) + a (ix2 0 j) := by
  pointwise [k0_pay5]
theorem zero2 (j : Fin 1024) : k0_pay2 (F := Ideal) (ix2 0 j) = 0 := by pointwise [k0_pay2]
theorem zero3 (j : Fin 1024) : k0_pay3 (F := Ideal) (ix2 0 j) = 0 := by pointwise [k0_pay3]
theorem trunc1 (a : Vec Ideal S512x1024 .f32) : k0_pay1 (F := Ideal) a = a := rfl

section
variable (c : Dev nD) (i : grid0.Coords) (a0 : Memref sig .tc .vmem S512x4096 .bf16) (w0 : a0.IsWhole) (a1 : Memref sig .tc .vmem S1x1024x4096 .bf16) (w1 : a1.IsWhole) (a2 : Memref sig .tc .vmem S512x1024 .f32) (w2 : a2.IsWhole) (a3 : Memref sig .tc .vmem S512x1024 .f32) (w3 : a3.IsWhole) (a4 : Memref sig .tc .vmem S1x1024 .f32) (w4 : a4.IsWhole) (a5 : Memref sig .tc .vmem S512x1024 .f32) (w5 : a5.IsWhole) (a6 : Memref sig .tc .vmem S512x1024 .bf16) (w6 : a6.IsWhole) (a7 : Memref sig .tc .vmem S1x1024 .f32) (w7 : a7.IsWhole) (a8 : Memref sig .tc .vmem S1x1024 .f32) (w8 : a8.IsWhole)

theorem out_A_5 (hc : cond0_0 i)
    (x0 : Vec Ideal S512x4096 .bf16) (x1 : Vec Ideal S1x1024x4096 .bf16) (x2 x3 : Vec Ideal S512x1024 .f32) (x4 : Vec Ideal S1x1024 .f32) :
    out0_A_5 c i a0 w0 a1 w1 a2 w2 a3 w3 a4 w4 a5 w5 a6 w6 a7 w7 a8 w8 hc x0 x1 x2 x3 x4 = k0_pay9 (F := Ideal) x0 x1 x2 x3 x4 := by
  unfold out0_A_5
  rw [View.read_writes_junk_eq_canon]
  unfold kernelRun0_A
  dsimp only
  sl_unfold_words
  rw [View.canon_unit_zero hz2]
  simp only [View.readAt_eq_ld, w0.read_unread, w1.read_unread, w2.read_unread, w3.read_unread, w4.read_unread, w7.read_unread, w8.read_unread, View.ld_unit_zero (S := S512x4096) hz2, View.ld_unit_zero (S := S512x1024) hz2, View.ld_unit_zero (S := S1x1024) hz2, View.ld_unit_zero (S := S1x1024x4096) hz3, shapeCast_self]

theorem out_A_6 (hc : cond0_0 i)
    (x0 : Vec Ideal S512x4096 .bf16) (x1 : Vec Ideal S1x1024x4096 .bf16) (x2 x3 : Vec Ideal S512x1024 .f32) (x4 : Vec Ideal S1x1024 .f32) :
    out0_A_6 c i a0 w0 a1 w1 a2 w2 a3 w3 a4 w4 a5 w5 a6 w6 a7 w7 a8 w8 hc x0 x1 x2 x3 x4 = k0_pay1 (F := Ideal) (k0_pay9 (F := Ideal) x0 x1 x2 x3 x4) := by
  unfold out0_A_6
  rw [View.read_writes_junk_eq_canon]
  unfold kernelRun0_A
  dsimp only
  sl_unfold_words
  rw [View.canon_unit_zero hz2]
  simp only [View.readAt_eq_ld, w0.read_unread, w1.read_unread, w2.read_unread, w3.read_unread, w4.read_unread, w7.read_unread, w8.read_unread, View.ld_unit_zero (S := S512x4096) hz2, View.ld_unit_zero (S := S512x1024) hz2, View.ld_unit_zero (S := S1x1024) hz2, View.ld_unit_zero (S := S1x1024x4096) hz3, shapeCast_self]

theorem out_A_7 (hc : cond0_0 i)
    (x0 : Vec Ideal S512x4096 .bf16) (x1 : Vec Ideal S1x1024x4096 .bf16) (x2 x3 : Vec Ideal S512x1024 .f32) (x4 : Vec Ideal S1x1024 .f32) :
    out0_A_7 c i a0 w0 a1 w1 a2 w2 a3 w3 a4 w4 a5 w5 a6 w6 a7 w7 a8 w8 hc x0 x1 x2 x3 x4 = k0_pay4 (F := Ideal) (k0_pay10 (F := Ideal) x0 x1 x2) (k0_pay2 (F := Ideal)) := by
  unfold out0_A_7
  rw [View.read_writes_junk_eq_canon]
  unfold kernelRun0_A
  dsimp only
  sl_unfold_words
  rw [View.canon_cons_unit_zero (S := S1x1024) hz2]
  simp only [View.readCov_unit_zero (S := S1x1024) _ hz2]
  simp only [View.readAt_eq_ld, w0.read_unread, w1.read_unread, w2.read_unread, w3.read_unread, w4.read_unread, w7.read_unread, w8.read_unread, View.ld_unit_zero (S := S512x4096) hz2, View.ld_unit_zero (S := S512x1024) hz2, View.ld_unit_zero (S := S1x1024) hz2, View.ld_unit_zero (S := S1x1024x4096) hz3, shapeCast_self]

theorem out_A_8 (hc : cond0_0 i)
    (x0 : Vec Ideal S512x4096 .bf16) (x1 : Vec Ideal S1x1024x4096 .bf16) (x2 x3 : Vec Ideal S512x1024 .f32) (x4 : Vec Ideal S1x1024 .f32) :
    out0_A_8 c i a0 w0 a1 w1 a2 w2 a3 w3 a4 w4 a5 w5 a6 w6 a7 w7 a8 w8 hc x0 x1 x2 x3 x4 = k0_pay5 (F := Ideal) (k0_pay11 (F := Ideal) x0 x1 x2 x3 x4) (k0_pay3 (F := Ideal)) := by
  unfold out0_A_8
  rw [View.read_writes_junk_eq_canon]
  unfold kernelRun0_A
  dsimp only
  sl_unfold_words
  rw [View.canon_cons_unit_zero (S := S1x1024) hz2]
  simp only [View.readCov_unit_zero (S := S1x1024) _ hz2]
  simp only [View.readAt_eq_ld, w0.read_unread, w1.read_unread, w2.read_unread, w3.read_unread, w4.read_unread, w7.read_unread, w8.read_unread, View.ld_unit_zero (S := S512x4096) hz2, View.ld_unit_zero (S := S512x1024) hz2, View.ld_unit_zero (S := S1x1024) hz2, View.ld_unit_zero (S := S1x1024x4096) hz3, shapeCast_self]

theorem out_B_5 (hc : ¬cond0_0 i)
    (x0 : Vec Ideal S512x4096 .bf16) (x1 : Vec Ideal S1x1024x4096 .bf16) (x2 x3 : Vec Ideal S512x1024 .f32) (x4 : Vec Ideal S1x1024 .f32) (xo7 xo8 : Vec Ideal S1x1024 .f32) :
    out0_B_5 c i a0 w0 a1 w1 a2 w2 a3 w3 a4 w4 a5 w5 a6 w6 a7 w7 a8 w8 hc x0 x1 x2 x3 x4 xo7 xo8 = k0_pay9 (F := Ideal) x0 x1 x2 x3 x4 := by
  unfold out0_B_5
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S512x4096) hz2, View.ld_unit_zero (S := S512x1024) hz2, View.ld_unit_zero (S := S1x1024) hz2, View.ld_unit_zero (S := S1x1024x4096) hz3, shapeCast_self]

theorem out_B_6 (hc : ¬cond0_0 i)
    (x0 : Vec Ideal S512x4096 .bf16) (x1 : Vec Ideal S1x1024x4096 .bf16) (x2 x3 : Vec Ideal S512x1024 .f32) (x4 : Vec Ideal S1x1024 .f32) (xo7 xo8 : Vec Ideal S1x1024 .f32) :
    out0_B_6 c i a0 w0 a1 w1 a2 w2 a3 w3 a4 w4 a5 w5 a6 w6 a7 w7 a8 w8 hc x0 x1 x2 x3 x4 xo7 xo8 = k0_pay1 (F := Ideal) (k0_pay9 (F := Ideal) x0 x1 x2 x3 x4) := by
  unfold out0_B_6
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S512x4096) hz2, View.ld_unit_zero (S := S512x1024) hz2, View.ld_unit_zero (S := S1x1024) hz2, View.ld_unit_zero (S := S1x1024x4096) hz3, shapeCast_self]

theorem out_B_7 (hc : ¬cond0_0 i)
    (x0 : Vec Ideal S512x4096 .bf16) (x1 : Vec Ideal S1x1024x4096 .bf16) (x2 x3 : Vec Ideal S512x1024 .f32) (x4 : Vec Ideal S1x1024 .f32) (xo7 xo8 : Vec Ideal S1x1024 .f32) :
    out0_B_7 c i a0 w0 a1 w1 a2 w2 a3 w3 a4 w4 a5 w5 a6 w6 a7 w7 a8 w8 hc x0 x1 x2 x3 x4 xo7 xo8 = k0_pay4 (F := Ideal) (k0_pay10 (F := Ideal) x0 x1 x2) xo7 := by
  unfold out0_B_7
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S512x4096) hz2, View.ld_unit_zero (S := S512x1024) hz2, View.ld_unit_zero (S := S1x1024) hz2, View.ld_unit_zero (S := S1x1024x4096) hz3, shapeCast_self]

theorem out_B_8 (hc : ¬cond0_0 i)
    (x0 : Vec Ideal S512x4096 .bf16) (x1 : Vec Ideal S1x1024x4096 .bf16) (x2 x3 : Vec Ideal S512x1024 .f32) (x4 : Vec Ideal S1x1024 .f32) (xo7 xo8 : Vec Ideal S1x1024 .f32) :
    out0_B_8 c i a0 w0 a1 w1 a2 w2 a3 w3 a4 w4 a5 w5 a6 w6 a7 w7 a8 w8 hc x0 x1 x2 x3 x4 xo7 xo8 = k0_pay5 (F := Ideal) (k0_pay11 (F := Ideal) x0 x1 x2 x3 x4) xo8 := by
  unfold out0_B_8
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S512x4096) hz2, View.ld_unit_zero (S := S512x1024) hz2, View.ld_unit_zero (S := S1x1024) hz2, View.ld_unit_zero (S := S1x1024x4096) hz3, shapeCast_self]

end

variable (m : (ℓ : Loc nD τ sig) → Buf (Elt Ideal) ℓ) (ρ : Dev nD → PrngReg)

/-- The place in the whole array of row `r` of the block of point `t`. -/
def row (t : Fin cfg0.N) (r : Fin 512) : Fin 4096 :=
  ⟨t.val * 512 + r.val, by have hN : t.val < 8 := lt_of_lt_of_eq t.isLt (show cfg0.N = 8 from N_0); omega⟩

theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem blk0 (c : Dev nD) (t : Fin cfg0.N) (r : Fin 512) (k : Fin 4096) : iblk m c 0 t (ix2 r k) = V m c main_arg0 (ix2 (row t r) k) := by
  obtain ⟨f00, f01, f10, f11, f12, f20, f21, f30, f31, f40, f41, f50, f51, f60, f61, f70, f71, f80, f81⟩ := idx_facts t
  show V m c main_arg0 (((cfg0.win 0).blk t).view.emb (ix2 r k)) = V m c main_arg0 _
  congr 1; funext a; apply Fin.ext
  match a with
  | ⟨0, _⟩ => show win0_0.index t (0 : Fin 2) * 512 + 1 * r.val = t.val * 512 + r.val; omega
  | ⟨1, _⟩ => show win0_0.index t (1 : Fin 2) * 4096 + 1 * k.val = k.val; omega

theorem blk1 (c : Dev nD) (t : Fin cfg0.N) (l : Fin 1024) (k : Fin 4096) : iblk m c 1 t (ix3 0 l k) = V m c main_arg1 (ix3 0 l k) := by
  obtain ⟨f00, f01, f10, f11, f12, f20, f21, f30, f31, f40, f41, f50, f51, f60, f61, f70, f71, f80, f81⟩ := idx_facts t
  show V m c main_arg1 (((cfg0.win 1).blk t).view.emb (ix3 0 l k)) = V m c main_arg1 _
  congr 1; funext a; apply Fin.ext
  match a with
  | ⟨0, _⟩ => show win0_1.index t (0 : Fin 3) * 1 + 1 * 0 = 0; omega
  | ⟨1, _⟩ => show win0_1.index t (1 : Fin 3) * 1024 + 1 * l.val = l.val; omega
  | ⟨2, _⟩ => show win0_1.index t (2 : Fin 3) * 4096 + 1 * k.val = k.val; omega

theorem blk2 (c : Dev nD) (t : Fin cfg0.N) (r : Fin 512) (l : Fin 1024) : iblk m c 2 t (ix2 r l) = V m c main_arg2 (ix2 (row t r) l) := by
  obtain ⟨f00, f01, f10, f11, f12, f20, f21, f30, f31, f40, f41, f50, f51, f60, f61, f70, f71, f80, f81⟩ := idx_facts t
  show V m c main_arg2 (((cfg0.win 2).blk t).view.emb (ix2 r l)) = V m c main_arg2 _
  congr 1; funext a; apply Fin.ext
  match a with
  | ⟨0, _⟩ => show win0_2.index t (0 : Fin 2) * 512 + 1 * r.val = t.val * 512 + r.val; omega
  | ⟨1, _⟩ => show win0_2.index t (1 : Fin 2) * 1024 + 1 * l.val = l.val; omega

theorem blk3 (c : Dev nD) (t : Fin cfg0.N) (r : Fin 512) (l : Fin 1024) : iblk m c 3 t (ix2 r l) = V m c main_arg3 (ix2 (row t r) l) := by
  obtain ⟨f00, f01, f10, f11, f12, f20, f21, f30, f31, f40, f41, f50, f51, f60, f61, f70, f71, f80, f81⟩ := idx_facts t
  show V m c main_arg3 (((cfg0.win 3).blk t).view.emb (ix2 r l)) = V m c main_arg3 _
  congr 1; funext a; apply Fin.ext
  match a with
  | ⟨0, _⟩ => show win0_3.index t (0 : Fin 2) * 512 + 1 * r.val = t.val * 512 + r.val; omega
  | ⟨1, _⟩ => show win0_3.index t (1 : Fin 2) * 1024 + 1 * l.val = l.val; omega

theorem blk4 (c : Dev nD) (t : Fin cfg0.N) (l : Fin 1024) : iblk m c 4 t (ix2 0 l) = V m c main_arg4 (ix2 0 l) := by
  obtain ⟨f00, f01, f10, f11, f12, f20, f21, f30, f31, f40, f41, f50, f51, f60, f61, f70, f71, f80, f81⟩ := idx_facts t
  show V m c main_arg4 (((cfg0.win 4).blk t).view.emb (ix2 0 l)) = V m c main_arg4 _
  congr 1; funext a; apply Fin.ext
  match a with
  | ⟨0, _⟩ => show win0_4.index t (0 : Fin 2) * 1 + 1 * 0 = 0; omega
  | ⟨1, _⟩ => show win0_4.index t (1 : Fin 2) * 1024 + 1 * l.val = l.val; omega

theorem at5 (c : Dev nD) (t : Fin cfg0.N) : (outsAt0 m c t.val t.isLt).1 = k0_pay9 (F := Ideal) (iblk m c 0 t) (iblk m c 1 t) (iblk m c 2 t) (iblk m c 3 t) (iblk m c 4 t) := by
  by_cases h0 : t.val % 8 = 0
  · rw [outsAt0_A m c t h0]; dsimp only; rw [out_A_5]
  · rw [outsAt0_B m c t h0]; dsimp only; rw [out_B_5]

/-- What a point writes back is its block of the reference's result. -/
theorem flushed_eq5 (c : Dev nD) (t : Fin cfg0.N) :
    (dats m 0 c).flushed 5 t = ((cfg0.win 5).blk t).view.read (Elt Ideal) (val_main_v44 (F := Ideal) (V m c main_arg0) (V m c main_arg1) (V m c main_arg2) (V m c main_arg3) (V m c main_arg4)) := by
  rw [flushed5, at5]
  obtain ⟨f00, f01, f10, f11, f12, f20, f21, f30, f31, f40, f41, f50, f51, f60, f61, f70, f71, f80, f81⟩ := idx_facts t
  funext j
  refine (congrArg (k0_pay9 (F := Ideal) (iblk m c 0 t) (iblk m c 1 t) (iblk m c 2 t) (iblk m c 3 t) (iblk m c 4 t)) (eq_ix2 (n0 := 512) (n1 := 1024) j)).trans
    (Eq.trans ?_ (congrArg (val_main_v44 (F := Ideal) (V m c main_arg0) (V m c main_arg1) (V m c main_arg2) (V m c main_arg3) (V m c main_arg4)) (?_ : ix2 (row t (j 0)) (j 1) = (((cfg0.win 5).blk t).view.emb j))))
  · exact pure5 _ _ _ _ _ _ _ _ _ _ (row t) (blk0 m c t) (blk1 m c t) (blk2 m c t) (blk3 m c t) (blk4 m c t) (j 0) (j 1)
  · funext a; apply Fin.ext
    match a with
    | ⟨0, _⟩ => show t.val * 512 + (j 0).val = win0_5.index t (0 : Fin 2) * 512 + 1 * (j 0).val; omega
    | ⟨1, _⟩ => show (j 1).val = win0_5.index t (1 : Fin 2) * 1024 + 1 * (j 1).val; omega

theorem onto5 : ∀ p0 : Fin 8, ∃ t : Fin cfg0.N, win0_5.index t = ![p0.val, 0] :=
  (by decide +kernel : ∀ p0 : Fin 8, ∃ t : Fin grid0.N, win0_5.index t = ![p0.val, 0])

/-- Every place of the result is in some point's block. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ := onto5 ⟨(i 0).val / 512, by omega⟩
  have q0 : win0_5.index t (0 : Fin 2) = (i 0).val / 512 := congrFun ht 0
  have q1 : win0_5.index t (1 : Fin 2) = 0 := congrFun ht 1
  refine ⟨t, flush0_5 _, ?_⟩
  show i ∈ ((View.whole main_v0_0).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem final5 (c : Dev nD) : (dats m 0 c).arrAt 5 cfg0.N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (val_main_v44 (F := Ideal) (V m c main_arg0) (V m c main_arg1) (V m c main_arg2) (V m c main_arg3) (V m c main_arg4)) (fun t _ => flushed_eq5 m c t) cover5

theorem at6 (c : Dev nD) (t : Fin cfg0.N) : (outsAt0 m c t.val t.isLt).2.1 = k0_pay1 (F := Ideal) (k0_pay9 (F := Ideal) (iblk m c 0 t) (iblk m c 1 t) (iblk m c 2 t) (iblk m c 3 t) (iblk m c 4 t)) := by
  by_cases h0 : t.val % 8 = 0
  · rw [outsAt0_A m c t h0]; dsimp only; rw [out_A_6]
  · rw [outsAt0_B m c t h0]; dsimp only; rw [out_B_6]

/-- What a point writes back is its block of the reference's result. -/
theorem flushed_eq6 (c : Dev nD) (t : Fin cfg0.N) :
    (dats m 0 c).flushed 6 t = ((cfg0.win 6).blk t).view.read (Elt Ideal) (val_main_v45 (F := Ideal) (V m c main_arg0) (V m c main_arg1) (V m c main_arg2) (V m c main_arg3) (V m c main_arg4)) := by
  rw [flushed6, at6]
  obtain ⟨f00, f01, f10, f11, f12, f20, f21, f30, f31, f40, f41, f50, f51, f60, f61, f70, f71, f80, f81⟩ := idx_facts t
  funext j
  refine (congrArg (k0_pay1 (F := Ideal) (k0_pay9 (F := Ideal) (iblk m c 0 t) (iblk m c 1 t) (iblk m c 2 t) (iblk m c 3 t) (iblk m c 4 t))) (eq_ix2 (n0 := 512) (n1 := 1024) j)).trans
    (Eq.trans ?_ (congrArg (val_main_v45 (F := Ideal) (V m c main_arg0) (V m c main_arg1) (V m c main_arg2) (V m c main_arg3) (V m c main_arg4)) (?_ : ix2 (row t (j 0)) (j 1) = (((cfg0.win 6).blk t).view.emb j))))
  · exact pure5 _ _ _ _ _ _ _ _ _ _ (row t) (blk0 m c t) (blk1 m c t) (blk2 m c t) (blk3 m c t) (blk4 m c t) (j 0) (j 1)
  · funext a; apply Fin.ext
    match a with
    | ⟨0, _⟩ => show t.val * 512 + (j 0).val = win0_6.index t (0 : Fin 2) * 512 + 1 * (j 0).val; omega
    | ⟨1, _⟩ => show (j 1).val = win0_6.index t (1 : Fin 2) * 1024 + 1 * (j 1).val; omega

theorem onto6 : ∀ p0 : Fin 8, ∃ t : Fin cfg0.N, win0_6.index t = ![p0.val, 0] :=
  (by decide +kernel : ∀ p0 : Fin 8, ∃ t : Fin grid0.N, win0_6.index t = ![p0.val, 0])

/-- Every place of the result is in some point's block. -/
theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ht⟩ := onto6 ⟨(i 0).val / 512, by omega⟩
  have q0 : win0_6.index t (0 : Fin 2) = (i 0).val / 512 := congrFun ht 0
  have q1 : win0_6.index t (1 : Fin 2) = 0 := congrFun ht 1
  refine ⟨t, flush0_6 _, ?_⟩
  show i ∈ ((View.whole main_v0_1).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

theorem final6 (c : Dev nD) : (dats m 0 c).arrAt 6 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (val_main_v45 (F := Ideal) (V m c main_arg0) (V m c main_arg1) (V m c main_arg2) (V m c main_arg3) (V m c main_arg4)) (fun t _ => flushed_eq6 m c t) cover6

/-- A row block's part of a sum over all rows; nothing past the last block. -/
def part (f : Fin 4096 → EReal) (n : ℕ) : EReal := if h : n < cfg0.N then ∑ r : Fin 512, f (row ⟨n, h⟩ r) else 0

theorem sum_parts (f : Fin 4096 → EReal) : ∑ n ∈ Finset.range 8, part f n = ∑ i : Fin 4096, f i := by
  rw [Fin.sum_univ_tiles 8 512 rfl f, Finset.sum_range]
  refine Finset.sum_congr rfl fun n _ => ?_
  unfold part
  rw [dif_pos (lt_of_lt_of_eq n.isLt (show 8 = cfg0.N from N_0.symm))]
  rfl

/-- After point `n` the carried row holds the sum over the row blocks up to it. -/
theorem at7 (c : Dev nD) (j : Fin 1024) : ∀ (n : ℕ) (h : n < cfg0.N),
    (outsAt0 m c n h).2.2.1 (ix2 0 j) = ∑ k ∈ Finset.range (n + 1), part (fun i => gainTerm (V m c main_arg0) (V m c main_arg1) (V m c main_arg2) i j) k
  | 0, h => by
    rw [outsAt0_A m c ⟨0, h⟩ rfl]
    dsimp only
    rw [out_A_7, add4, zero2, zero_add, Finset.sum_range_one, part, dif_pos h]
    have t : Fin cfg0.N := ⟨0, h⟩
    exact pure7 _ _ _ _ _ _ _ _ _ _ (row ⟨0, h⟩) (blk0 m c ⟨0, h⟩) (blk1 m c ⟨0, h⟩) (blk2 m c ⟨0, h⟩) (blk3 m c ⟨0, h⟩) (blk4 m c ⟨0, h⟩) j
  | n + 1, h => by
    have hN : cfg0.N = 8 := N_0
    have hB : ¬(⟨n + 1, h⟩ : Fin cfg0.N).val % 8 = 0 := by dsimp only; omega
    rw [outsAt0_B m c ⟨n + 1, h⟩ hB]
    dsimp only
    rw [out_B_7, add4, Finset.sum_range_succ, part, dif_pos h]
    refine congrArg₂ (· + ·) (at7 c j n _) ?_
    exact pure7 _ _ _ _ _ _ _ _ _ _ (row ⟨n + 1, h⟩) (blk0 m c ⟨n + 1, h⟩) (blk1 m c ⟨n + 1, h⟩) (blk2 m c ⟨n + 1, h⟩) (blk3 m c ⟨n + 1, h⟩) (blk4 m c ⟨n + 1, h⟩) j

theorem flushed_eq7 (c : Dev nD) (t : Fin cfg0.N) (hf : (cfg0.win 7).flush t = true) :
    (dats m 0 c).flushed 7 t = ((cfg0.win 7).blk t).view.read (Elt Ideal) (val_main_v43 (F := Ideal) (V m c main_arg0) (V m c main_arg1) (V m c main_arg2)) := by
  have hN : cfg0.N = 8 := N_0
  have h7 : t.val = 7 := by have := (flush0_7 t).mp hf; have := t.isLt; omega
  rw [flushed7]
  obtain ⟨f00, f01, f10, f11, f12, f20, f21, f30, f31, f40, f41, f50, f51, f60, f61, f70, f71, f80, f81⟩ := idx_facts t
  funext j
  refine (congrArg ((outsAt0 m c t.val t.isLt).2.2.1) (?_ : j = ix2 0 (j 1))).trans
    (Eq.trans ?_ (congrArg (val_main_v43 (F := Ideal) (V m c main_arg0) (V m c main_arg1) (V m c main_arg2)) (?_ : ix2 0 (j 1) = (((cfg0.win 7).blk t).view.emb j))))
  · have h0 : (j 0).val < 1 := (j 0).isLt
    funext a; apply Fin.ext
    match a with
    | ⟨0, _⟩ => show (j 0).val = 0; omega
    | ⟨1, _⟩ => rfl
  · have e : ∀ k : Fin 1024, (outsAt0 m c t.val t.isLt).2.2.1 (ix2 0 k) = val_main_v43 (F := Ideal) (V m c main_arg0) (V m c main_arg1) (V m c main_arg2) (ix2 0 k) := fun k => by
      rw [at7, ref7 _ _ _ (V m c main_arg3) (V m c main_arg4), ← sum_parts, h7]
    exact e (j 1)
  · have h0 : (j 0).val < 1 := (j 0).isLt
    funext a; apply Fin.ext
    match a with
    | ⟨0, _⟩ => show 0 = win0_7.index t (0 : Fin 2) * 1 + 1 * (j 0).val; omega
    | ⟨1, _⟩ => show (j 1).val = win0_7.index t (1 : Fin 2) * 1024 + 1 * (j 1).val; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨f00, f01, f10, f11, f12, f20, f21, f30, f31, f40, f41, f50, f51, f60, f61, f70, f71, f80, f81⟩ := idx_facts t0_7
  refine ⟨t0_7, (flush0_7 t0_7).mpr rfl, ?_⟩
  show i ∈ ((View.whole main_v0_2).slice (win0_7.rect t0_7)).set
  rw [View.set_slice_whole, Rect.mem_set_unit]
  intro a
  match a with
  | ⟨0, _⟩ => show win0_7.index t0_7 (0 : Fin 2) * 1 ≤ (i 0).val ∧ (i 0).val < win0_7.index t0_7 (0 : Fin 2) * 1 + 1; omega
  | ⟨1, _⟩ => show win0_7.index t0_7 (1 : Fin 2) * 1024 ≤ (i 1).val ∧ (i 1).val < win0_7.index t0_7 (1 : Fin 2) * 1024 + 1024; omega

theorem final7 (c : Dev nD) : (dats m 0 c).arrAt 7 cfg0.N = val_main_v43 (F := Ideal) (m ((c : Thread nD τ).loc main_arg0)) (m ((c : Thread nD τ).loc main_arg1)) (m ((c : Thread nD τ).loc main_arg2)) :=
  (dats m 0 c).arrAt_eq_of_cover 7 (val_main_v43 (F := Ideal) (V m c main_arg0) (V m c main_arg1) (V m c main_arg2)) (fun t hf => flushed_eq7 m c t hf) cover7

/-- After point `n` the carried row holds the sum over the row blocks up to it. -/
theorem at8 (c : Dev nD) (j : Fin 1024) : ∀ (n : ℕ) (h : n < cfg0.N),
    (outsAt0 m c n h).2.2.2 (ix2 0 j) = ∑ k ∈ Finset.range (n + 1), part (fun i => val_main_v44 (F := Ideal) (V m c main_arg0) (V m c main_arg1) (V m c main_arg2) (V m c main_arg3) (V m c main_arg4) (ix2 i j)) k
  | 0, h => by
    rw [outsAt0_A m c ⟨0, h⟩ rfl]
    dsimp only
    rw [out_A_8, add5, zero3, zero_add, Finset.sum_range_one, part, dif_pos h]
    have t : Fin cfg0.N := ⟨0, h⟩
    exact pure8 _ _ _ _ _ _ _ _ _ _ (row ⟨0, h⟩) (blk0 m c ⟨0, h⟩) (blk1 m c ⟨0, h⟩) (blk2 m c ⟨0, h⟩) (blk3 m c ⟨0, h⟩) (blk4 m c ⟨0, h⟩) j
  | n + 1, h => by
    have hN : cfg0.N = 8 := N_0
    have hB : ¬(⟨n + 1, h⟩ : Fin cfg0.N).val % 8 = 0 := by dsimp only; omega
    rw [outsAt0_B m c ⟨n + 1, h⟩ hB]
    dsimp only
    rw [out_B_8, add5, Finset.sum_range_succ, part, dif_pos h]
    refine congrArg₂ (· + ·) (at8 c j n _) ?_
    exact pure8 _ _ _ _ _ _ _ _ _ _ (row ⟨n + 1, h⟩) (blk0 m c ⟨n + 1, h⟩) (blk1 m c ⟨n + 1, h⟩) (blk2 m c ⟨n + 1, h⟩) (blk3 m c ⟨n + 1, h⟩) (blk4 m c ⟨n + 1, h⟩) j

theorem flushed_eq8 (c : Dev nD) (t : Fin cfg0.N) (hf : (cfg0.win 8).flush t = true) :
    (dats m 0 c).flushed 8 t = ((cfg0.win 8).blk t).view.read (Elt Ideal) (val_main_v47 (F := Ideal) (V m c main_arg0) (V m c main_arg1) (V m c main_arg2) (V m c main_arg3) (V m c main_arg4)) := by
  have hN : cfg0.N = 8 := N_0
  have h7 : t.val = 7 := by have := (flush0_8 t).mp hf; have := t.isLt; omega
  rw [flushed8]
  obtain ⟨f00, f01, f10, f11, f12, f20, f21, f30, f31, f40, f41, f50, f51, f60, f61, f70, f71, f80, f81⟩ := idx_facts t
  funext j
  refine (congrArg ((outsAt0 m c t.val t.isLt).2.2.2) (?_ : j = ix2 0 (j 1))).trans
    (Eq.trans ?_ (congrArg (val_main_v47 (F := Ideal) (V m c main_arg0) (V m c main_arg1) (V m c main_arg2) (V m c main_arg3) (V m c main_arg4)) (?_ : ix2 0 (j 1) = (((cfg0.win 8).blk t).view.emb j))))
  · have h0 : (j 0).val < 1 := (j 0).isLt
    funext a; apply Fin.ext
    match a with
    | ⟨0, _⟩ => show (j 0).val = 0; omega
    | ⟨1, _⟩ => rfl
  · have e : ∀ k : Fin 1024, (outsAt0 m c t.val t.isLt).2.2.2 (ix2 0 k) = val_main_v47 (F := Ideal) (V m c main_arg0) (V m c main_arg1) (V m c main_arg2) (V m c main_arg3) (V m c main_arg4) (ix2 0 k) := fun k => by
      rw [at8, ref8, ← sum_parts, h7]
    exact e (j 1)
  · have h0 : (j 0).val < 1 := (j 0).isLt
    funext a; apply Fin.ext
    match a with
    | ⟨0, _⟩ => show 0 = win0_8.index t (0 : Fin 2) * 1 + 1 * (j 0).val; omega
    | ⟨1, _⟩ => show (j 1).val = win0_8.index t (1 : Fin 2) * 1024 + 1 * (j 1).val; omega

theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  obtain ⟨f00, f01, f10, f11, f12, f20, f21, f30, f31, f40, f41, f50, f51, f60, f61, f70, f71, f80, f81⟩ := idx_facts t0_7
  refine ⟨t0_7, (flush0_8 t0_7).mpr rfl, ?_⟩
  show i ∈ ((View.whole main_v0_3).slice (win0_8.rect t0_7)).set
  rw [View.set_slice_whole, Rect.mem_set_unit]
  intro a
  match a with
  | ⟨0, _⟩ => show win0_8.index t0_7 (0 : Fin 2) * 1 ≤ (i 0).val ∧ (i 0).val < win0_8.index t0_7 (0 : Fin 2) * 1 + 1; omega
  | ⟨1, _⟩ => show win0_8.index t0_7 (1 : Fin 2) * 1024 ≤ (i 1).val ∧ (i 1).val < win0_8.index t0_7 (1 : Fin 2) * 1024 + 1024; omega

theorem final8 (c : Dev nD) : (dats m 0 c).arrAt 8 cfg0.N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 8 (val_main_v47 (F := Ideal) (V m c main_arg0) (V m c main_arg1) (V m c main_arg2) (V m c main_arg3) (V m c main_arg4)) (fun t hf => flushed_eq8 m c t hf) cover8

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0_0) = val_main_v44 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_v0_1) = val_main_v45 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_v0_2) = val_main_v43 (F := Ideal) (m (((c.tc : Thread nD τ)).loc main_arg0)) (m (((c.tc : Thread nD τ)).loc main_arg1)) (m (((c.tc : Thread nD τ)).loc main_arg2))
      ∧ r.2.mem ((c : Thread nD τ).loc main_v0_3) = val_main_v47 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final5 m c), ((h c).2.1).trans (final6 m c), ((h c).2.2.1).trans (final7 m c), ((h c).2.2.2.1).trans (final8 m c), (h c).2.2.2.2⟩) (run_blocks m ρ)

end Cert.UpDxIdeal.Value

namespace Cert.Proof.UpDx

open Cert.UpDxRefIdeal.Read

theorem frame : Cert.quiescent_UpDx := fun m ρ _ => Cert.UpDx.Gen.frame m ρ
theorem frame_ideal : Cert.quiescent_UpDxIdeal := fun m ρ _ => Cert.UpDxIdeal.Gen.frame m ρ
theorem frame_ref : Cert.quiescent_UpDxRefIdeal := fun m ρ _ =>
  (θ_run Cert.UpDxRefIdeal.defs _ _).mono (fun r h => ⟨fun c => (h c).2.2.2.2, Idealize.ShloMosaic.sem_eq_zero_of_no_sems (by decide) r.2⟩)
    (Cert.UpDxRefIdeal.Value.run (F := Ideal) m ρ)

/-- Over the reals the kernel's results are the reference's. -/
theorem algebraic : Cert.algebraic_UpDxIdeal_UpDxRefIdeal := by
  intro m ρ m' ρ' _ hagree
  refine ⟨fun c => val_main_v44 (F := Ideal) (m (((c.tc : Thread Cert.UpDxIdeal.nD Cert.UpDxIdeal.τ)).loc Cert.UpDxIdeal.main_arg0)) (m (((c.tc : Thread Cert.UpDxIdeal.nD Cert.UpDxIdeal.τ)).loc Cert.UpDxIdeal.main_arg1)) (m (((c.tc : Thread Cert.UpDxIdeal.nD Cert.UpDxIdeal.τ)).loc Cert.UpDxIdeal.main_arg2)) (m (((c.tc : Thread Cert.UpDxIdeal.nD Cert.UpDxIdeal.τ)).loc Cert.UpDxIdeal.main_arg3)) (m (((c.tc : Thread Cert.UpDxIdeal.nD Cert.UpDxIdeal.τ)).loc Cert.UpDxIdeal.main_arg4)), fun c => val_main_v45 (F := Ideal) (m (((c.tc : Thread Cert.UpDxIdeal.nD Cert.UpDxIdeal.τ)).loc Cert.UpDxIdeal.main_arg0)) (m (((c.tc : Thread Cert.UpDxIdeal.nD Cert.UpDxIdeal.τ)).loc Cert.UpDxIdeal.main_arg1)) (m (((c.tc : Thread Cert.UpDxIdeal.nD Cert.UpDxIdeal.τ)).loc Cert.UpDxIdeal.main_arg2)) (m (((c.tc : Thread Cert.UpDxIdeal.nD Cert.UpDxIdeal.τ)).loc Cert.UpDxIdeal.main_arg3)) (m (((c.tc : Thread Cert.UpDxIdeal.nD Cert.UpDxIdeal.τ)).loc Cert.UpDxIdeal.main_arg4)), fun c => val_main_v43 (F := Ideal) (m (((c.tc : Thread Cert.UpDxIdeal.nD Cert.UpDxIdeal.τ)).loc Cert.UpDxIdeal.main_arg0)) (m (((c.tc : Thread Cert.UpDxIdeal.nD Cert.UpDxIdeal.τ)).loc Cert.UpDxIdeal.main_arg1)) (m (((c.tc : Thread Cert.UpDxIdeal.nD Cert.UpDxIdeal.τ)).loc Cert.UpDxIdeal.main_arg2)), fun c => val_main_v47 (F := Ideal) (m (((c.tc : Thread Cert.UpDxIdeal.nD Cert.UpDxIdeal.τ)).loc Cert.UpDxIdeal.main_arg0)) (m (((c.tc : Thread Cert.UpDxIdeal.nD Cert.UpDxIdeal.τ)).loc Cert.UpDxIdeal.main_arg1)) (m (((c.tc : Thread Cert.UpDxIdeal.nD Cert.UpDxIdeal.τ)).loc Cert.UpDxIdeal.main_arg2)) (m (((c.tc : Thread Cert.UpDxIdeal.nD Cert.UpDxIdeal.τ)).loc Cert.UpDxIdeal.main_arg3)) (m (((c.tc : Thread Cert.UpDxIdeal.nD Cert.UpDxIdeal.τ)).loc Cert.UpDxIdeal.main_arg4)),
    Cert.UpDxIdeal.Value.run m ρ, ?_⟩
  exact (θ_run Cert.UpDxRefIdeal.defs _ _).mono (fun _ h c => ⟨((h c).1).trans ((val_main_v44_eq (F := Ideal) m' c).trans (by rw [(hagree c).1, (hagree c).2.1, (hagree c).2.2.1, (hagree c).2.2.2.1, (hagree c).2.2.2.2])),
      ((h c).2.1).trans ((val_main_v45_eq (F := Ideal) m' c).trans (by rw [(hagree c).1, (hagree c).2.1, (hagree c).2.2.1, (hagree c).2.2.2.1, (hagree c).2.2.2.2])),
      ((h c).2.2.1).trans ((val_main_v43_eq (F := Ideal) _ _ _).trans (by rw [(hagree c).1, (hagree c).2.1, (hagree c).2.2.1])),
      ((h c).2.2.2.1).trans ((val_main_v47_eq (F := Ideal) m' c).trans (by rw [(hagree c).1, (hagree c).2.1, (hagree c).2.2.1, (hagree c).2.2.2.1, (hagree c).2.2.2.2])),
      (h c).2.2.2.2⟩)
    (Cert.UpDxRefIdeal.Value.run (F := Ideal) m' ρ')

end Cert.Proof.UpDx

end
-- ==== Proof.UpDw.lean ====
module

public import proofs.«01_k».proof.Defs
public import proofs.«01_k».proof.Proof.Gen.UpDw
public import proofs.«01_k».proof.Proof.Gen.UpDw.Frame
public import proofs.«01_k».proof.Proof.Gen.UpDwIdeal.Value
public import proofs.«01_k».proof.Proof.Gen.UpDwRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! A weight's gradient: the product over the rows. -/

namespace Cert.UpDwIdeal.Value

open Cert.UpDwIdeal Cert.UpDwIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure2 (x0 : Vec Ideal S4096x512 .bf16) (x1 : Vec Ideal S4096x1024 .bf16)
    (X0 : Vec Ideal S4096x1024 .bf16) (X1 : Vec Ideal S4096x4096 .bf16)
    (j0 : Fin 1) (j1 : Fin 512) (j2 : Fin 1024) (i0 : Fin 1) (i1 : Fin 1024) (i2 : Fin 4096)
    (h0 : ∀ (k : Fin 4096), x0 (ix2 k j1) = X0 (ix2 k i1)) (h1 : ∀ (k : Fin 4096), x1 (ix2 k j2) = X1 (ix2 k i2)) :
    k0_pay1 (F := Ideal) x0 x1 (ix3 j0 j1 j2)
      = Cert.UpDwRefIdeal.Read.val_main_v8 (F := Ideal) X0 X1 (ix3 i0 i1 i2) := by
  pointwise [k0_pay1, Cert.UpDwRefIdeal.Read.val_main_v0, Cert.UpDwRefIdeal.Read.val_main_v1, Cert.UpDwRefIdeal.Read.val_main_cst, Cert.UpDwRefIdeal.Read.val_main_v2, Cert.UpDwRefIdeal.Read.val_main_v3, Cert.UpDwRefIdeal.Read.val_main_v4, Cert.UpDwRefIdeal.Read.val_main_v5, Cert.UpDwRefIdeal.Read.val_main_v6, Cert.UpDwRefIdeal.Read.val_main_v7, Cert.UpDwRefIdeal.Read.val_main_v8]
  simp only [h0, h1]
  exact Finset.sum_congr rfl fun k _ => mul_comm _ _

variable (m : (ℓ : Loc nD τ sig) → Buf (Elt Ideal) ℓ) (ρ : Dev nD → PrngReg)

theorem idx_facts2 : ∀ t : Fin cfg0.N,
    win0_0.index t (0 : Fin 2) = 0
    ∧ win0_0.index t (1 : Fin 2) = win0_2.index t (1 : Fin 3)
    ∧ win0_1.index t (0 : Fin 2) = 0
    ∧ win0_1.index t (1 : Fin 2) = win0_2.index t (2 : Fin 3)
    ∧ win0_2.index t (0 : Fin 3) = 0 :=
  (by decide +kernel : ∀ t : Fin grid0.N, _)

/-- What a point writes back is its block of the reference's result. -/
theorem flushed_eq2 (c : Dev nD) (t : Fin cfg0.N) :
    (dats m 0 c).flushed 2 t = ((cfg0.win 2).blk t).view.read (Elt Ideal) (Cert.UpDwRefIdeal.Read.val_main_v8 (F := Ideal) (V m c main_arg0) (V m c main_arg1)) := by
  rw [flushed2]; unfold out0_2
  rw [View.canon_unit_zero hz3, View.ld_unit_zero hz2, View.ld_unit_zero hz2]
  obtain ⟨f0, f1, f2, f3, f4⟩ := idx_facts2 t
  funext j
  refine (congrArg (k0_pay1 (F := Ideal) (iblk m c 0 t) (iblk m c 1 t)) (eq_ix3 (n0 := 1) (n1 := 512) (n2 := 1024) j)).trans
    (Eq.trans ?_ (congrArg (Cert.UpDwRefIdeal.Read.val_main_v8 (F := Ideal) (V m c main_arg0) (V m c main_arg1)) (eq_ix3 (n0 := 1) (n1 := 1024) (n2 := 4096) (((cfg0.win 2).blk t).view.emb j)).symm))
  refine pure2 _ _ _ _ _ _ _ _ _ _ ?_ ?_
  · intro k
    show V m c main_arg0 (((cfg0.win 0).blk t).view.emb (ix2 k (j 1))) = V m c main_arg0 _
    congr 1; funext a; apply Fin.ext
    match a with
    | ⟨0, _⟩ => show win0_0.index t (0 : Fin 2) * 4096 + 1 * k.val = k.val; omega
    | ⟨1, _⟩ => show win0_0.index t (1 : Fin 2) * 512 + 1 * (j 1).val = win0_2.index t (1 : Fin 3) * 512 + 1 * (j 1).val; omega
  · intro k
    show V m c main_arg1 (((cfg0.win 1).blk t).view.emb (ix2 k (j 2))) = V m c main_arg1 _
    congr 1; funext a; apply Fin.ext
    match a with
    | ⟨0, _⟩ => show win0_1.index t (0 : Fin 2) * 4096 + 1 * k.val = k.val; omega
    | ⟨1, _⟩ => show win0_1.index t (1 : Fin 2) * 1024 + 1 * (j 2).val = win0_2.index t (2 : Fin 3) * 1024 + 1 * (j 2).val; omega

theorem onto2 : ∀ (p0 : Fin 1) (p1 : Fin 2) (p2 : Fin 4), ∃ t : Fin cfg0.N, win0_2.index t = ![p0.val, p1.val, p2.val] :=
  (by decide +kernel : ∀ (p0 : Fin 1) (p1 : Fin 2) (p2 : Fin 4), ∃ t : Fin grid0.N, win0_2.index t = ![p0.val, p1.val, p2.val])

/-- Every place of the result is in some point's block. -/
theorem cover2 (i : S1x1024x4096.Idx) : ∃ t : Fin cfg0.N, (cfg0.win 2).flush t = true ∧ i ∈ ((cfg0.win 2).blk t).view.set := by
  have h0 : (i 0).val < 1 := (i 0).isLt
  have h1 : (i 1).val < 1024 := (i 1).isLt
  have h2 : (i 2).val < 4096 := (i 2).isLt
  obtain ⟨t, ht⟩ := onto2 ⟨(i 0).val / 1, by omega⟩ ⟨(i 1).val / 512, by omega⟩ ⟨(i 2).val / 1024, by omega⟩
  have q0 : win0_2.index t (0 : Fin 3) = (i 0).val / 1 := congrFun ht 0
  have q1 : win0_2.index t (1 : Fin 3) = (i 1).val / 512 := congrFun ht 1
  have q2 : win0_2.index t (2 : Fin 3) = (i 2).val / 1024 := congrFun ht 2
  refine ⟨t, flush0_2 _, ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

theorem final2 (c : Dev nD) : (dats m 0 c).arrAt 2 cfg0.N = Cert.UpDwRefIdeal.Read.val_main_v8 (F := Ideal) (m ((c : Thread nD τ).loc main_arg0)) (m ((c : Thread nD τ).loc main_arg1)) :=
  (dats m 0 c).arrAt_eq_of_cover 2 (Cert.UpDwRefIdeal.Read.val_main_v8 (F := Ideal) (V m c main_arg0) (V m c main_arg1)) (fun t _ => flushed_eq2 m c t) cover2

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.UpDwRefIdeal.Read.val_main_v8 (F := Ideal) (m (((c.tc : Thread nD τ)).loc main_arg0)) (m (((c.tc : Thread nD τ)).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), (h c).2⟩) (run_blocks m ρ)

end Cert.UpDwIdeal.Value

namespace Cert.Proof.UpDw

theorem frame : Cert.quiescent_UpDw := fun m ρ _ => Cert.UpDw.Gen.frame m ρ
theorem frame_ideal : Cert.quiescent_UpDwIdeal := fun m ρ _ => Cert.UpDwIdeal.Gen.frame m ρ
theorem frame_ref : Cert.quiescent_UpDwRefIdeal := fun m ρ _ =>
  (θ_run Cert.UpDwRefIdeal.defs _ _).mono (fun r h => ⟨fun c => (h c).2, Idealize.ShloMosaic.sem_eq_zero_of_no_sems (by decide) r.2⟩)
    (Cert.UpDwRefIdeal.Value.run (F := Ideal) m ρ)

/-- Over the reals the kernel's results are the reference's. -/
theorem algebraic : Cert.algebraic_UpDwIdeal_UpDwRefIdeal := by
  intro m ρ m' ρ' _ hagree
  refine ⟨fun c => Cert.UpDwRefIdeal.Read.val_main_v8 (F := Ideal) (m (((c.tc : Thread Cert.UpDwIdeal.nD Cert.UpDwIdeal.τ)).loc Cert.UpDwIdeal.main_arg0)) (m (((c.tc : Thread Cert.UpDwIdeal.nD Cert.UpDwIdeal.τ)).loc Cert.UpDwIdeal.main_arg1)),
    Cert.UpDwIdeal.Value.run m ρ, ?_⟩
  exact (θ_run Cert.UpDwRefIdeal.defs _ _).mono (fun _ h c => ⟨((h c).1).trans ((Cert.UpDwRefIdeal.Read.val_main_v8_eq (F := Ideal) _ _).trans (by rw [(hagree c).1, (hagree c).2])),
      (h c).2⟩)
    (Cert.UpDwRefIdeal.Value.run (F := Ideal) m' ρ')

end Cert.Proof.UpDw

end
-- ==== Proof.AQkvFwd.lean ====
module

public import proofs.«01_k».proof.Defs
public import proofs.«01_k».proof.Proof.Gen.AQkvFwd
public import proofs.«01_k».proof.Proof.Gen.AQkvFwd.Frame
public import proofs.«01_k».proof.Proof.Gen.AQkvFwdIdeal.Value
public import proofs.«01_k».proof.Proof.Gen.AQkvFwdRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The stick-breaking attention's q, k, v projection, written transposed. -/

namespace Cert.AQkvFwdIdeal.Value

open Cert.AQkvFwdIdeal Cert.AQkvFwdIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure2 (x1 : Vec Ideal S1x1024x1024 .bf16) (x0 : Vec Ideal S2048x1024 .bf16)
    (X1 : Vec Ideal S1x1024x3072 .bf16) (X0 : Vec Ideal S4096x1024 .bf16)
    (j0 : Fin 1024) (j1 : Fin 2048) (i0 : Fin 3072) (i1 : Fin 4096)
    (h1 : ∀ (k : Fin 1024), x1 (ix3 0 k j0) = X1 (ix3 0 k i0)) (h0 : ∀ (k : Fin 1024), x0 (ix2 j1 k) = X0 (ix2 i1 k)) :
    k0_pay1 (F := Ideal) x1 x0 (ix2 j0 j1)
      = Cert.AQkvFwdRefIdeal.Read.val_main_v5 (F := Ideal) X0 X1 (ix2 i0 i1) := by
  pointwise [k0_pay1, Cert.AQkvFwdRefIdeal.Read.val_main_v0, Cert.AQkvFwdRefIdeal.Read.val_main_v1, Cert.AQkvFwdRefIdeal.Read.val_main_v2, Cert.AQkvFwdRefIdeal.Read.val_main_v3, Cert.AQkvFwdRefIdeal.Read.val_main_v4, Cert.AQkvFwdRefIdeal.Read.val_main_v5]
  simp only [h0, h1, mul_comm, add_comm]

variable (m : (ℓ : Loc nD τ sig) → Buf (Elt Ideal) ℓ) (ρ : Dev nD → PrngReg)

theorem idx_facts2 : ∀ t : Fin cfg0.N,
    win0_1.index t (0 : Fin 3) = 0
    ∧ win0_1.index t (1 : Fin 3) = 0
    ∧ win0_1.index t (2 : Fin 3) = win0_2.index t (0 : Fin 2)
    ∧ win0_0.index t (0 : Fin 2) = win0_2.index t (1 : Fin 2)
    ∧ win0_0.index t (1 : Fin 2) = 0 :=
  (by decide +kernel : ∀ t : Fin grid0.N, _)

/-- What a point writes back is its block of the reference's result. -/
theorem flushed_eq2 (c : Dev nD) (t : Fin cfg0.N) :
    (dats m 0 c).flushed 2 t = ((cfg0.win 2).blk t).view.read (Elt Ideal) (Cert.AQkvFwdRefIdeal.Read.val_main_v5 (F := Ideal) (V m c main_arg0) (V m c main_arg1)) := by
  rw [flushed2]; unfold out0_2
  rw [View.canon_unit_zero hz2, View.ld_unit_zero hz3, View.ld_unit_zero hz2]
  obtain ⟨f0, f1, f2, f3, f4⟩ := idx_facts2 t
  funext j
  refine (congrArg (k0_pay1 (F := Ideal) (iblk m c 1 t) (iblk m c 0 t)) (eq_ix2 (n0 := 1024) (n1 := 2048) j)).trans
    (Eq.trans ?_ (congrArg (Cert.AQkvFwdRefIdeal.Read.val_main_v5 (F := Ideal) (V m c main_arg0) (V m c main_arg1)) (eq_ix2 (n0 := 3072) (n1 := 4096) (((cfg0.win 2).blk t).view.emb j)).symm))
  refine pure2 _ _ _ _ _ _ _ _ ?_ ?_
  · intro k
    show V m c main_arg1 (((cfg0.win 1).blk t).view.emb (ix3 0 k (j 0))) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 1024 + 1 * (j 0).val = win0_2.index t (0 : Fin 2) * 1024 + 1 * (j 0).val; omega
  · intro k
    show V m c main_arg0 (((cfg0.win 0).blk t).view.emb (ix2 (j 1) k)) = V m c main_arg0 _
    congr 1; funext a; apply Fin.ext
    match a with
    | ⟨0, _⟩ => show win0_0.index t (0 : Fin 2) * 2048 + 1 * (j 1).val = win0_2.index t (1 : Fin 2) * 2048 + 1 * (j 1).val; omega
    | ⟨1, _⟩ => show win0_0.index t (1 : Fin 2) * 1024 + 1 * k.val = k.val; omega

theorem onto2 : ∀ (p0 : Fin 3) (p1 : Fin 2), ∃ t : Fin cfg0.N, win0_2.index t = ![p0.val, p1.val] :=
  (by decide +kernel : ∀ (p0 : Fin 3) (p1 : Fin 2), ∃ t : Fin grid0.N, win0_2.index t = ![p0.val, p1.val])

/-- Every place of the result is in some point's block. -/
theorem cover2 (i : S3072x4096.Idx) : ∃ t : Fin cfg0.N, (cfg0.win 2).flush t = true ∧ i ∈ ((cfg0.win 2).blk t).view.set := by
  have h0 : (i 0).val < 3072 := (i 0).isLt
  have h1 : (i 1).val < 4096 := (i 1).isLt
  obtain ⟨t, ht⟩ := onto2 ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 _, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

theorem final2 (c : Dev nD) : (dats m 0 c).arrAt 2 cfg0.N = Cert.AQkvFwdRefIdeal.Read.val_main_v5 (F := Ideal) (m ((c : Thread nD τ).loc main_arg0)) (m ((c : Thread nD τ).loc main_arg1)) :=
  (dats m 0 c).arrAt_eq_of_cover 2 (Cert.AQkvFwdRefIdeal.Read.val_main_v5 (F := Ideal) (V m c main_arg0) (V m c main_arg1)) (fun t _ => flushed_eq2 m c t) cover2

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.AQkvFwdRefIdeal.Read.val_main_v5 (F := Ideal) (m (((c.tc : Thread nD τ)).loc main_arg0)) (m (((c.tc : Thread nD τ)).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), (h c).2⟩) (run_blocks m ρ)

end Cert.AQkvFwdIdeal.Value

namespace Cert.Proof.AQkvFwd

theorem frame : Cert.quiescent_AQkvFwd := fun m ρ _ => Cert.AQkvFwd.Gen.frame m ρ
theorem frame_ideal : Cert.quiescent_AQkvFwdIdeal := fun m ρ _ => Cert.AQkvFwdIdeal.Gen.frame m ρ
theorem frame_ref : Cert.quiescent_AQkvFwdRefIdeal := fun m ρ _ =>
  (θ_run Cert.AQkvFwdRefIdeal.defs _ _).mono (fun r h => ⟨fun c => (h c).2, Idealize.ShloMosaic.sem_eq_zero_of_no_sems (by decide) r.2⟩)
    (Cert.AQkvFwdRefIdeal.Value.run (F := Ideal) m ρ)

/-- Over the reals the kernel's results are the reference's. -/
theorem algebraic : Cert.algebraic_AQkvFwdIdeal_AQkvFwdRefIdeal := by
  intro m ρ m' ρ' _ hagree
  refine ⟨fun c => Cert.AQkvFwdRefIdeal.Read.val_main_v5 (F := Ideal) (m (((c.tc : Thread Cert.AQkvFwdIdeal.nD Cert.AQkvFwdIdeal.τ)).loc Cert.AQkvFwdIdeal.main_arg0)) (m (((c.tc : Thread Cert.AQkvFwdIdeal.nD Cert.AQkvFwdIdeal.τ)).loc Cert.AQkvFwdIdeal.main_arg1)),
    Cert.AQkvFwdIdeal.Value.run m ρ, ?_⟩
  exact (θ_run Cert.AQkvFwdRefIdeal.defs _ _).mono (fun _ h c => ⟨((h c).1).trans ((Cert.AQkvFwdRefIdeal.Read.val_main_v5_eq (F := Ideal) _ _).trans (by rw [(hagree c).1, (hagree c).2])),
      (h c).2⟩)
    (Cert.AQkvFwdRefIdeal.Value.run (F := Ideal) m' ρ')

end Cert.Proof.AQkvFwd

end
-- ==== Proof.AWoFwd.lean ====
module

public import proofs.«01_k».proof.Defs
public import proofs.«01_k».proof.Proof.Gen.AWoFwd
public import proofs.«01_k».proof.Proof.Gen.AWoFwd.Frame
public import proofs.«01_k».proof.Proof.Gen.AWoFwdIdeal.Value
public import proofs.«01_k».proof.Proof.Gen.AWoFwdRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The attention's output projection with the residual and the next norm. -/

namespace Cert.AWoFwdIdeal.Value

open Cert.AWoFwdIdeal Cert.AWoFwdIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure4 (x0 : Vec Ideal S1024x1024 .bf16) (x1 : Vec Ideal S1x1024x1024 .bf16) (x2 : Vec Ideal S1024x1024 .f32)
    (X0 : Vec Ideal S1024x4096 .bf16) (X1 : Vec Ideal S2x1024x1024 .bf16) (X2 : Vec Ideal S4096x1024 .f32)
    (j0 : Fin 1024) (j1 : Fin 1024) (i0 : Fin 4096) (i1 : Fin 1024)
    (h0 : ∀ (k : Fin 1024), x0 (ix2 k j0) = X0 (ix2 k i0)) (h1 : ∀ (k : Fin 1024), x1 (ix3 0 k j1) = X1 (ix3 0 k i1)) (h2 : x2 (ix2 j0 j1) = X2 (ix2 i0 i1)) :
    k0_pay1 (F := Ideal) x0 x1 x2 (ix2 j0 j1)
      = Cert.AWoFwdRefIdeal.Read.val_main_v6 (F := Ideal) X0 X1 X2 (ix2 i0 i1) := by
  pointwise [k0_pay1, Cert.AWoFwdRefIdeal.Read.val_main_v0, Cert.AWoFwdRefIdeal.Read.val_main_v1, Cert.AWoFwdRefIdeal.Read.val_main_v2, Cert.AWoFwdRefIdeal.Read.val_main_v3, Cert.AWoFwdRefIdeal.Read.val_main_v4, Cert.AWoFwdRefIdeal.Read.val_main_v5, Cert.AWoFwdRefIdeal.Read.val_main_v6, Cert.AWoFwdRefIdeal.Read.val_main_v7, Cert.AWoFwdRefIdeal.Read.val_main_cst, Cert.AWoFwdRefIdeal.Read.val_main_v8, Cert.AWoFwdRefIdeal.Read.val_main_v9, Cert.AWoFwdRefIdeal.Read.val_main_cst_0, Cert.AWoFwdRefIdeal.Read.val_main_v10, Cert.AWoFwdRefIdeal.Read.val_main_v11, Cert.AWoFwdRefIdeal.Read.val_main_cst_1, Cert.AWoFwdRefIdeal.Read.val_main_v12, Cert.AWoFwdRefIdeal.Read.val_main_v13, Cert.AWoFwdRefIdeal.Read.val_main_v14, Cert.AWoFwdRefIdeal.Read.val_main_v15, Cert.AWoFwdRefIdeal.Read.val_main_v16, Cert.AWoFwdRefIdeal.Read.val_main_v17, Cert.AWoFwdRefIdeal.Read.val_main_v18, Cert.AWoFwdRefIdeal.Read.val_main_v19]
  simp only [h0, h1, h2, mul_comm, add_comm, add_left_comm, add_assoc]

/-- Element by element: a block's result is the reference's at the matching place, wherever the blocks read are the arrays there. -/
theorem pure5 (x0 : Vec Ideal S1024x1024 .bf16) (x1 : Vec Ideal S1x1024x1024 .bf16) (x2 : Vec Ideal S1024x1024 .f32) (x3 : Vec Ideal S1x1024 .f32)
    (X0 : Vec Ideal S1024x4096 .bf16) (X1 : Vec Ideal S2x1024x1024 .bf16) (X2 : Vec Ideal S4096x1024 .f32) (X3 : Vec Ideal S1x1024 .f32)
    (j0 : Fin 1024) (j1 : Fin 1024) (i0 : Fin 4096) (i1 : Fin 1024)
    (h0 : ∀ (k : Fin 1024), x0 (ix2 k j0) = X0 (ix2 k i0)) (h1 : ∀ (k : Fin 1024) (l : Fin 1024), x1 (ix3 0 k l) = X1 (ix3 0 k l)) (h2 : ∀ (l : Fin 1024), x2 (ix2 j0 l) = X2 (ix2 i0 l)) (h3 : ∀ (l : Fin 1024), x3 (ix2 0 l) = X3 (ix2 0 l)) (e1 : i1 = j1) :
    k0_pay2 (F := Ideal) x0 x1 x2 x3 (ix2 j0 j1)
      = Cert.AWoFwdRefIdeal.Read.val_main_v19 (F := Ideal) X0 X1 X2 X3 (ix2 i0 i1) := by
  subst e1
  pointwise [k0_pay1, k0_pay2, Cert.AWoFwdRefIdeal.Read.val_main_v0, Cert.AWoFwdRefIdeal.Read.val_main_v1, Cert.AWoFwdRefIdeal.Read.val_main_v2, Cert.AWoFwdRefIdeal.Read.val_main_v3, Cert.AWoFwdRefIdeal.Read.val_main_v4, Cert.AWoFwdRefIdeal.Read.val_main_v5, Cert.AWoFwdRefIdeal.Read.val_main_v6, Cert.AWoFwdRefIdeal.Read.val_main_v7, Cert.AWoFwdRefIdeal.Read.val_main_cst, Cert.AWoFwdRefIdeal.Read.val_main_v8, Cert.AWoFwdRefIdeal.Read.val_main_v9, Cert.AWoFwdRefIdeal.Read.val_main_cst_0, Cert.AWoFwdRefIdeal.Read.val_main_v10, Cert.AWoFwdRefIdeal.Read.val_main_v11, Cert.AWoFwdRefIdeal.Read.val_main_cst_1, Cert.AWoFwdRefIdeal.Read.val_main_v12, Cert.AWoFwdRefIdeal.Read.val_main_v13, Cert.AWoFwdRefIdeal.Read.val_main_v14, Cert.AWoFwdRefIdeal.Read.val_main_v15, Cert.AWoFwdRefIdeal.Read.val_main_v16, Cert.AWoFwdRefIdeal.Read.val_main_v17, Cert.AWoFwdRefIdeal.Read.val_main_v18, Cert.AWoFwdRefIdeal.Read.val_main_v19]
  simp only [h0, h1, h2, h3, add_comm]

variable (m : (ℓ : Loc nD τ sig) → Buf (Elt Ideal) ℓ) (ρ : Dev nD → PrngReg)

theorem idx_facts4 : ∀ t : Fin cfg0.N,
    win0_0.index t (0 : Fin 2) = 0
    ∧ win0_0.index t (1 : Fin 2) = win0_4.index t (0 : Fin 2)
    ∧ win0_1.index t (0 : Fin 3) = 0
    ∧ win0_1.index t (1 : Fin 3) = 0
    ∧ win0_1.index t (2 : Fin 3) = win0_4.index t (1 : Fin 2)
    ∧ win0_2.index t (0 : Fin 2) = win0_4.index t (0 : Fin 2)
    ∧ win0_2.index t (1 : Fin 2) = win0_4.index t (1 : Fin 2) :=
  (by decide +kernel : ∀ t : Fin grid0.N, _)

/-- What a point writes back is its block of the reference's result. -/
theorem flushed_eq4 (c : Dev nD) (t : Fin cfg0.N) :
    (dats m 0 c).flushed 4 t = ((cfg0.win 4).blk t).view.read (Elt Ideal) (Cert.AWoFwdRefIdeal.Read.val_main_v6 (F := Ideal) (V m c main_arg0) (V m c main_arg1) (V m c main_arg2)) := by
  rw [flushed4]; unfold out0_4
  rw [View.canon_unit_zero hz2, View.ld_unit_zero hz2, View.ld_unit_zero hz3, View.ld_unit_zero hz2]
  obtain ⟨f0, f1, f2, f3, f4, f5, f6⟩ := idx_facts4 t
  funext j
  refine (congrArg (k0_pay1 (F := Ideal) (iblk m c 0 t) (iblk m c 1 t) (iblk m c 2 t)) (eq_ix2 (n0 := 1024) (n1 := 1024) j)).trans
    (Eq.trans ?_ (congrArg (Cert.AWoFwdRefIdeal.Read.val_main_v6 (F := Ideal) (V m c main_arg0) (V m c main_arg1) (V m c main_arg2)) (eq_ix2 (n0 := 4096) (n1 := 1024) (((cfg0.win 4).blk t).view.emb j)).symm))
  refine pure4 _ _ _ _ _ _ _ _ _ _ ?_ ?_ ?_
  · intro k
    show V m c main_arg0 (((cfg0.win 0).blk t).view.emb (ix2 k (j 0))) = V m c main_arg0 _
    congr 1; funext a; apply Fin.ext
    match a with
    | ⟨0, _⟩ => show win0_0.index t (0 : Fin 2) * 1024 + 1 * k.val = k.val; omega
    | ⟨1, _⟩ => show win0_0.index t (1 : Fin 2) * 1024 + 1 * (j 0).val = win0_4.index t (0 : Fin 2) * 1024 + 1 * (j 0).val; omega
  · intro k
    show V m c main_arg1 (((cfg0.win 1).blk t).view.emb (ix3 0 k (j 1))) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 1024 + 1 * (j 1).val = win0_4.index t (1 : Fin 2) * 1024 + 1 * (j 1).val; omega
  · skip
    show V m c main_arg2 (((cfg0.win 2).blk t).view.emb (ix2 (j 0) (j 1))) = V m c main_arg2 _
    congr 1; funext a; apply Fin.ext
    match a with
    | ⟨0, _⟩ => show win0_2.index t (0 : Fin 2) * 1024 + 1 * (j 0).val = win0_4.index t (0 : Fin 2) * 1024 + 1 * (j 0).val; omega
    | ⟨1, _⟩ => show win0_2.index t (1 : Fin 2) * 1024 + 1 * (j 1).val = win0_4.index t (1 : Fin 2) * 1024 + 1 * (j 1).val; omega

theorem onto4 : ∀ (p0 : Fin 4) (p1 : Fin 1), ∃ t : Fin cfg0.N, win0_4.index t = ![p0.val, p1.val] :=
  (by decide +kernel : ∀ (p0 : Fin 4) (p1 : Fin 1), ∃ t : Fin grid0.N, win0_4.index t = ![p0.val, p1.val])

/-- Every place of the result is in some point's block. -/
theorem cover4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  obtain ⟨t, ht⟩ := onto4 ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 _, ?_⟩
  show i ∈ ((View.whole main_v0_0).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

theorem final4 (c : Dev nD) : (dats m 0 c).arrAt 4 cfg0.N = Cert.AWoFwdRefIdeal.Read.val_main_v6 (F := Ideal) (m ((c : Thread nD τ).loc main_arg0)) (m ((c : Thread nD τ).loc main_arg1)) (m ((c : Thread nD τ).loc main_arg2)) :=
  (dats m 0 c).arrAt_eq_of_cover 4 (Cert.AWoFwdRefIdeal.Read.val_main_v6 (F := Ideal) (V m c main_arg0) (V m c main_arg1) (V m c main_arg2)) (fun t _ => flushed_eq4 m c t) cover4

theorem idx_facts5 : ∀ t : Fin cfg0.N,
    win0_0.index t (0 : Fin 2) = 0
    ∧ win0_0.index t (1 : Fin 2) = win0_5.index t (0 : Fin 2)
    ∧ win0_1.index t (0 : Fin 3) = 0
    ∧ win0_1.index t (1 : Fin 3) = 0
    ∧ win0_1.index t (2 : Fin 3) = 0
    ∧ win0_2.index t (0 : Fin 2) = win0_5.index t (0 : Fin 2)
    ∧ win0_2.index t (1 : Fin 2) = 0
    ∧ win0_3.index t (0 : Fin 2) = 0
    ∧ win0_3.index t (1 : Fin 2) = 0
    ∧ win0_5.index t (1 : Fin 2) = 0 :=
  (by decide +kernel : ∀ t : Fin grid0.N, _)

/-- What a point writes back is its block of the reference's result. -/
theorem flushed_eq5 (c : Dev nD) (t : Fin cfg0.N) :
    (dats m 0 c).flushed 5 t = ((cfg0.win 5).blk t).view.read (Elt Ideal) (Cert.AWoFwdRefIdeal.Read.val_main_v19 (F := Ideal) (V m c main_arg0) (V m c main_arg1) (V m c main_arg2) (V m c main_arg3)) := by
  rw [flushed5]; unfold out0_5
  rw [View.canon_unit_zero hz2, View.ld_unit_zero hz2, View.ld_unit_zero hz3, View.ld_unit_zero hz2, View.ld_unit_zero hz2]
  obtain ⟨f0, f1, f2, f3, f4, f5, f6, f7, f8, f9⟩ := idx_facts5 t
  funext j
  refine (congrArg (k0_pay2 (F := Ideal) (iblk m c 0 t) (iblk m c 1 t) (iblk m c 2 t) (iblk m c 3 t)) (eq_ix2 (n0 := 1024) (n1 := 1024) j)).trans
    (Eq.trans ?_ (congrArg (Cert.AWoFwdRefIdeal.Read.val_main_v19 (F := Ideal) (V m c main_arg0) (V m c main_arg1) (V m c main_arg2) (V m c main_arg3)) (eq_ix2 (n0 := 4096) (n1 := 1024) (((cfg0.win 5).blk t).view.emb j)).symm))
  refine pure5 _ _ _ _ _ _ _ _ _ _ _ _ ?_ ?_ ?_ ?_ ?_
  · intro k
    show V m c main_arg0 (((cfg0.win 0).blk t).view.emb (ix2 k (j 0))) = V m c main_arg0 _
    congr 1; funext a; apply Fin.ext
    match a with
    | ⟨0, _⟩ => show win0_0.index t (0 : Fin 2) * 1024 + 1 * k.val = k.val; omega
    | ⟨1, _⟩ => show win0_0.index t (1 : Fin 2) * 1024 + 1 * (j 0).val = win0_5.index t (0 : Fin 2) * 1024 + 1 * (j 0).val; omega
  · intro k l
    show V m c main_arg1 (((cfg0.win 1).blk t).view.emb (ix3 0 k l)) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 1024 + 1 * l.val = l.val; omega
  · intro l
    show V m c main_arg2 (((cfg0.win 2).blk t).view.emb (ix2 (j 0) l)) = V m c main_arg2 _
    congr 1; funext a; apply Fin.ext
    match a with
    | ⟨0, _⟩ => show win0_2.index t (0 : Fin 2) * 1024 + 1 * (j 0).val = win0_5.index t (0 : Fin 2) * 1024 + 1 * (j 0).val; omega
    | ⟨1, _⟩ => show win0_2.index t (1 : Fin 2) * 1024 + 1 * l.val = l.val; omega
  · intro l
    show V m c main_arg3 (((cfg0.win 3).blk t).view.emb (ix2 0 l)) = V m c main_arg3 _
    congr 1; funext a; apply Fin.ext
    match a with
    | ⟨0, _⟩ => show win0_3.index t (0 : Fin 2) * 1 + 1 * 0 = 0; omega
    | ⟨1, _⟩ => show win0_3.index t (1 : Fin 2) * 1024 + 1 * l.val = l.val; omega
  · apply Fin.ext
    show win0_5.index t (1 : Fin 2) * 1024 + 1 * (j 1).val = (j 1).val; omega

theorem onto5 : ∀ (p0 : Fin 4) (p1 : Fin 1), ∃ t : Fin cfg0.N, win0_5.index t = ![p0.val, p1.val] :=
  (by decide +kernel : ∀ (p0 : Fin 4) (p1 : Fin 1), ∃ t : Fin grid0.N, win0_5.index t = ![p0.val, p1.val])

/-- Every place of the result is in some point's block. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ := onto5 ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 _, ?_⟩
  show i ∈ ((View.whole main_v0_1).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

theorem final5 (c : Dev nD) : (dats m 0 c).arrAt 5 cfg0.N = Cert.AWoFwdRefIdeal.Read.val_main_v19 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 5 (Cert.AWoFwdRefIdeal.Read.val_main_v19 (F := Ideal) (V m c main_arg0) (V m c main_arg1) (V m c main_arg2) (V m c main_arg3)) (fun t _ => flushed_eq5 m c t) cover5

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0_0) = Cert.AWoFwdRefIdeal.Read.val_main_v6 (F := Ideal) (m (((c.tc : Thread nD τ)).loc main_arg0)) (m (((c.tc : Thread nD τ)).loc main_arg1)) (m (((c.tc : Thread nD τ)).loc main_arg2))
      ∧ r.2.mem ((c : Thread nD τ).loc main_v0_1) = Cert.AWoFwdRefIdeal.Read.val_main_v19 (F := Ideal) (m (((c.tc : Thread nD τ)).loc main_arg0)) (m (((c.tc : Thread nD τ)).loc main_arg1)) (m (((c.tc : Thread nD τ)).loc main_arg2)) (m (((c.tc : Thread nD τ)).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1).trans (final4 m c), ((h c).2.1).trans (final5 m c), (h c).2.2⟩) (run_blocks m ρ)

end Cert.AWoFwdIdeal.Value

namespace Cert.Proof.AWoFwd

theorem frame : Cert.quiescent_AWoFwd := fun m ρ _ => Cert.AWoFwd.Gen.frame m ρ
theorem frame_ideal : Cert.quiescent_AWoFwdIdeal := fun m ρ _ => Cert.AWoFwdIdeal.Gen.frame m ρ
theorem frame_ref : Cert.quiescent_AWoFwdRefIdeal := fun m ρ _ =>
  (θ_run Cert.AWoFwdRefIdeal.defs _ _).mono (fun r h => ⟨fun c => (h c).2.2, Idealize.ShloMosaic.sem_eq_zero_of_no_sems (by decide) r.2⟩)
    (Cert.AWoFwdRefIdeal.Value.run (F := Ideal) m ρ)

/-- Over the reals the kernel's results are the reference's. -/
theorem algebraic : Cert.algebraic_AWoFwdIdeal_AWoFwdRefIdeal := by
  intro m ρ m' ρ' _ hagree
  refine ⟨fun c => Cert.AWoFwdRefIdeal.Read.val_main_v6 (F := Ideal) (m (((c.tc : Thread Cert.AWoFwdIdeal.nD Cert.AWoFwdIdeal.τ)).loc Cert.AWoFwdIdeal.main_arg0)) (m (((c.tc : Thread Cert.AWoFwdIdeal.nD Cert.AWoFwdIdeal.τ)).loc Cert.AWoFwdIdeal.main_arg1)) (m (((c.tc : Thread Cert.AWoFwdIdeal.nD Cert.AWoFwdIdeal.τ)).loc Cert.AWoFwdIdeal.main_arg2)), fun c => Cert.AWoFwdRefIdeal.Read.val_main_v19 (F := Ideal) (m (((c.tc : Thread Cert.AWoFwdIdeal.nD Cert.AWoFwdIdeal.τ)).loc Cert.AWoFwdIdeal.main_arg0)) (m (((c.tc : Thread Cert.AWoFwdIdeal.nD Cert.AWoFwdIdeal.τ)).loc Cert.AWoFwdIdeal.main_arg1)) (m (((c.tc : Thread Cert.AWoFwdIdeal.nD Cert.AWoFwdIdeal.τ)).loc Cert.AWoFwdIdeal.main_arg2)) (m (((c.tc : Thread Cert.AWoFwdIdeal.nD Cert.AWoFwdIdeal.τ)).loc Cert.AWoFwdIdeal.main_arg3)),
    Cert.AWoFwdIdeal.Value.run m ρ, ?_⟩
  exact (θ_run Cert.AWoFwdRefIdeal.defs _ _).mono (fun _ h c => ⟨((h c).1).trans ((Cert.AWoFwdRefIdeal.Read.val_main_v6_eq (F := Ideal) _ _ _).trans (by rw [(hagree c).1, (hagree c).2.1, (hagree c).2.2.1])),
      ((h c).2.1).trans ((Cert.AWoFwdRefIdeal.Read.val_main_v19_eq (F := Ideal) _ _ _ _).trans (by rw [(hagree c).1, (hagree c).2.1, (hagree c).2.2.1, (hagree c).2.2.2])),
      (h c).2.2⟩)
    (Cert.AWoFwdRefIdeal.Value.run (F := Ideal) m' ρ')

end Cert.Proof.AWoFwd

end
-- ==== Proof.AWoDx.lean ====
module

public import proofs.«01_k».proof.Defs
public import proofs.«01_k».proof.Proof.Gen.AWoDx
public import proofs.«01_k».proof.Proof.Gen.AWoDx.Frame
public import proofs.«01_k».proof.Proof.Gen.AWoDxIdeal.Value
public import proofs.«01_k».proof.Proof.Gen.AWoDxRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The cotangent of the attention's output through its output projection, written transposed. -/

namespace Cert.AWoDxIdeal.Value

open Cert.AWoDxIdeal Cert.AWoDxIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure2 (x1 : Vec Ideal S1x1024x1024 .bf16) (x0 : Vec Ideal S2048x1024 .bf16)
    (X1 : Vec Ideal S2x1024x1024 .bf16) (X0 : Vec Ideal S4096x1024 .bf16)
    (j0 : Fin 1024) (j1 : Fin 2048) (i0 : Fin 1024) (i1 : Fin 4096)
    (h1 : ∀ (k : Fin 1024), x1 (ix3 0 j0 k) = X1 (ix3 0 i0 k)) (h0 : ∀ (k : Fin 1024), x0 (ix2 j1 k) = X0 (ix2 i1 k)) :
    k0_pay1 (F := Ideal) x1 x0 (ix2 j0 j1)
      = Cert.AWoDxRefIdeal.Read.val_main_v8 (F := Ideal) X0 X1 (ix2 i0 i1) := by
  pointwise [k0_pay1, Cert.AWoDxRefIdeal.Read.val_main_v0, Cert.AWoDxRefIdeal.Read.val_main_v1, Cert.AWoDxRefIdeal.Read.val_main_cst, Cert.AWoDxRefIdeal.Read.val_main_v2, Cert.AWoDxRefIdeal.Read.val_main_v3, Cert.AWoDxRefIdeal.Read.val_main_v4, Cert.AWoDxRefIdeal.Read.val_main_v5, Cert.AWoDxRefIdeal.Read.val_main_v6, Cert.AWoDxRefIdeal.Read.val_main_v7, Cert.AWoDxRefIdeal.Read.val_main_v8]
  simp only [h0, h1, mul_comm, add_comm]

variable (m : (ℓ : Loc nD τ sig) → Buf (Elt Ideal) ℓ) (ρ : Dev nD → PrngReg)

theorem idx_facts2 : ∀ t : Fin cfg0.N,
    win0_1.index t (0 : Fin 3) = 0
    ∧ win0_1.index t (1 : Fin 3) = win0_2.index t (0 : Fin 2)
    ∧ win0_1.index t (2 : Fin 3) = 0
    ∧ win0_0.index t (0 : Fin 2) = win0_2.index t (1 : Fin 2)
    ∧ win0_0.index t (1 : Fin 2) = 0 :=
  (by decide +kernel : ∀ t : Fin grid0.N, _)

/-- What a point writes back is its block of the reference's result. -/
theorem flushed_eq2 (c : Dev nD) (t : Fin cfg0.N) :
    (dats m 0 c).flushed 2 t = ((cfg0.win 2).blk t).view.read (Elt Ideal) (Cert.AWoDxRefIdeal.Read.val_main_v8 (F := Ideal) (V m c main_arg0) (V m c main_arg1)) := by
  rw [flushed2]; unfold out0_2
  rw [View.canon_unit_zero hz2, View.ld_unit_zero hz3, View.ld_unit_zero hz2]
  obtain ⟨f0, f1, f2, f3, f4⟩ := idx_facts2 t
  funext j
  refine (congrArg (k0_pay1 (F := Ideal) (iblk m c 1 t) (iblk m c 0 t)) (eq_ix2 (n0 := 1024) (n1 := 2048) j)).trans
    (Eq.trans ?_ (congrArg (Cert.AWoDxRefIdeal.Read.val_main_v8 (F := Ideal) (V m c main_arg0) (V m c main_arg1)) (eq_ix2 (n0 := 1024) (n1 := 4096) (((cfg0.win 2).blk t).view.emb j)).symm))
  refine pure2 _ _ _ _ _ _ _ _ ?_ ?_
  · intro k
    show V m c main_arg1 (((cfg0.win 1).blk t).view.emb (ix3 0 (j 0) k)) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * (j 0).val = win0_2.index t (0 : Fin 2) * 1024 + 1 * (j 0).val; omega
    | ⟨2, _⟩ => show win0_1.index t (2 : Fin 3) * 1024 + 1 * k.val = k.val; omega
  · intro k
    show V m c main_arg0 (((cfg0.win 0).blk t).view.emb (ix2 (j 1) k)) = V m c main_arg0 _
    congr 1; funext a; apply Fin.ext
    match a with
    | ⟨0, _⟩ => show win0_0.index t (0 : Fin 2) * 2048 + 1 * (j 1).val = win0_2.index t (1 : Fin 2) * 2048 + 1 * (j 1).val; omega
    | ⟨1, _⟩ => show win0_0.index t (1 : Fin 2) * 1024 + 1 * k.val = k.val; omega

theorem onto2 : ∀ (p0 : Fin 1) (p1 : Fin 2), ∃ t : Fin cfg0.N, win0_2.index t = ![p0.val, p1.val] :=
  (by decide +kernel : ∀ (p0 : Fin 1) (p1 : Fin 2), ∃ t : Fin grid0.N, win0_2.index t = ![p0.val, p1.val])

/-- Every place of the result is in some point's block. -/
theorem cover2 (i : S1024x4096.Idx) : ∃ t : Fin cfg0.N, (cfg0.win 2).flush t = true ∧ i ∈ ((cfg0.win 2).blk t).view.set := by
  have h0 : (i 0).val < 1024 := (i 0).isLt
  have h1 : (i 1).val < 4096 := (i 1).isLt
  obtain ⟨t, ht⟩ := onto2 ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 _, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

theorem final2 (c : Dev nD) : (dats m 0 c).arrAt 2 cfg0.N = Cert.AWoDxRefIdeal.Read.val_main_v8 (F := Ideal) (m ((c : Thread nD τ).loc main_arg0)) (m ((c : Thread nD τ).loc main_arg1)) :=
  (dats m 0 c).arrAt_eq_of_cover 2 (Cert.AWoDxRefIdeal.Read.val_main_v8 (F := Ideal) (V m c main_arg0) (V m c main_arg1)) (fun t _ => flushed_eq2 m c t) cover2

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.AWoDxRefIdeal.Read.val_main_v8 (F := Ideal) (m (((c.tc : Thread nD τ)).loc main_arg0)) (m (((c.tc : Thread nD τ)).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), (h c).2⟩) (run_blocks m ρ)

end Cert.AWoDxIdeal.Value

namespace Cert.Proof.AWoDx

theorem frame : Cert.quiescent_AWoDx := fun m ρ _ => Cert.AWoDx.Gen.frame m ρ
theorem frame_ideal : Cert.quiescent_AWoDxIdeal := fun m ρ _ => Cert.AWoDxIdeal.Gen.frame m ρ
theorem frame_ref : Cert.quiescent_AWoDxRefIdeal := fun m ρ _ =>
  (θ_run Cert.AWoDxRefIdeal.defs _ _).mono (fun r h => ⟨fun c => (h c).2, Idealize.ShloMosaic.sem_eq_zero_of_no_sems (by decide) r.2⟩)
    (Cert.AWoDxRefIdeal.Value.run (F := Ideal) m ρ)

/-- Over the reals the kernel's results are the reference's. -/
theorem algebraic : Cert.algebraic_AWoDxIdeal_AWoDxRefIdeal := by
  intro m ρ m' ρ' _ hagree
  refine ⟨fun c => Cert.AWoDxRefIdeal.Read.val_main_v8 (F := Ideal) (m (((c.tc : Thread Cert.AWoDxIdeal.nD Cert.AWoDxIdeal.τ)).loc Cert.AWoDxIdeal.main_arg0)) (m (((c.tc : Thread Cert.AWoDxIdeal.nD Cert.AWoDxIdeal.τ)).loc Cert.AWoDxIdeal.main_arg1)),
    Cert.AWoDxIdeal.Value.run m ρ, ?_⟩
  exact (θ_run Cert.AWoDxRefIdeal.defs _ _).mono (fun _ h c => ⟨((h c).1).trans ((Cert.AWoDxRefIdeal.Read.val_main_v8_eq (F := Ideal) _ _).trans (by rw [(hagree c).1, (hagree c).2])),
      (h c).2⟩)
    (Cert.AWoDxRefIdeal.Value.run (F := Ideal) m' ρ')

end Cert.Proof.AWoDx

end
-- ==== Proof.AWoDw.lean ====
module

public import proofs.«01_k».proof.Defs
public import proofs.«01_k».proof.Proof.Gen.AWoDw
public import proofs.«01_k».proof.Proof.Gen.AWoDw.Frame
public import proofs.«01_k».proof.Proof.Gen.AWoDwIdeal.Value
public import proofs.«01_k».proof.Proof.Gen.AWoDwRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The gradient of the attention's output projection. -/

namespace Cert.AWoDwIdeal.Value

open Cert.AWoDwIdeal Cert.AWoDwIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure2 (x0 : Vec Ideal S512x4096 .bf16) (x1 : Vec Ideal S4096x1024 .bf16)
    (X0 : Vec Ideal S1024x4096 .bf16) (X1 : Vec Ideal S4096x1024 .bf16)
    (j0 : Fin 1) (j1 : Fin 512) (j2 : Fin 1024) (i0 : Fin 1) (i1 : Fin 1024) (i2 : Fin 1024)
    (h0 : ∀ (k : Fin 4096), x0 (ix2 j1 k) = X0 (ix2 i1 k)) (h1 : ∀ (k : Fin 4096), x1 (ix2 k j2) = X1 (ix2 k i2)) :
    k0_pay1 (F := Ideal) x0 x1 (ix3 j0 j1 j2)
      = Cert.AWoDwRefIdeal.Read.val_main_v9 (F := Ideal) X0 X1 (ix3 i0 i1 i2) := by
  pointwise [k0_pay1, Cert.AWoDwRefIdeal.Read.val_main_v0, Cert.AWoDwRefIdeal.Read.val_main_v1, Cert.AWoDwRefIdeal.Read.val_main_cst, Cert.AWoDwRefIdeal.Read.val_main_v2, Cert.AWoDwRefIdeal.Read.val_main_v3, Cert.AWoDwRefIdeal.Read.val_main_v4, Cert.AWoDwRefIdeal.Read.val_main_v5, Cert.AWoDwRefIdeal.Read.val_main_v6, Cert.AWoDwRefIdeal.Read.val_main_v7, Cert.AWoDwRefIdeal.Read.val_main_v8, Cert.AWoDwRefIdeal.Read.val_main_v9]
  simp only [h0, h1, mul_comm]

variable (m : (ℓ : Loc nD τ sig) → Buf (Elt Ideal) ℓ) (ρ : Dev nD → PrngReg)

theorem idx_facts2 : ∀ t : Fin cfg0.N,
    win0_0.index t (0 : Fin 2) = win0_2.index t (1 : Fin 3)
    ∧ win0_0.index t (1 : Fin 2) = 0
    ∧ win0_1.index t (0 : Fin 2) = 0
    ∧ win0_1.index t (1 : Fin 2) = win0_2.index t (2 : Fin 3)
    ∧ win0_2.index t (0 : Fin 3) = 0 :=
  (by decide +kernel : ∀ t : Fin grid0.N, _)

/-- What a point writes back is its block of the reference's result. -/
theorem flushed_eq2 (c : Dev nD) (t : Fin cfg0.N) :
    (dats m 0 c).flushed 2 t = ((cfg0.win 2).blk t).view.read (Elt Ideal) (Cert.AWoDwRefIdeal.Read.val_main_v9 (F := Ideal) (V m c main_arg0) (V m c main_arg1)) := by
  rw [flushed2]; unfold out0_2
  rw [View.canon_unit_zero hz3, View.ld_unit_zero hz2, View.ld_unit_zero hz2]
  obtain ⟨f0, f1, f2, f3, f4⟩ := idx_facts2 t
  funext j
  refine (congrArg (k0_pay1 (F := Ideal) (iblk m c 0 t) (iblk m c 1 t)) (eq_ix3 (n0 := 1) (n1 := 512) (n2 := 1024) j)).trans
    (Eq.trans ?_ (congrArg (Cert.AWoDwRefIdeal.Read.val_main_v9 (F := Ideal) (V m c main_arg0) (V m c main_arg1)) (eq_ix3 (n0 := 1) (n1 := 1024) (n2 := 1024) (((cfg0.win 2).blk t).view.emb j)).symm))
  refine pure2 _ _ _ _ _ _ _ _ _ _ ?_ ?_
  · intro k
    show V m c main_arg0 (((cfg0.win 0).blk t).view.emb (ix2 (j 1) k)) = V m c main_arg0 _
    congr 1; funext a; apply Fin.ext
    match a with
    | ⟨0, _⟩ => show win0_0.index t (0 : Fin 2) * 512 + 1 * (j 1).val = win0_2.index t (1 : Fin 3) * 512 + 1 * (j 1).val; omega
    | ⟨1, _⟩ => show win0_0.index t (1 : Fin 2) * 4096 + 1 * k.val = k.val; omega
  · intro k
    show V m c main_arg1 (((cfg0.win 1).blk t).view.emb (ix2 k (j 2))) = V m c main_arg1 _
    congr 1; funext a; apply Fin.ext
    match a with
    | ⟨0, _⟩ => show win0_1.index t (0 : Fin 2) * 4096 + 1 * k.val = k.val; omega
    | ⟨1, _⟩ => show win0_1.index t (1 : Fin 2) * 1024 + 1 * (j 2).val = win0_2.index t (2 : Fin 3) * 1024 + 1 * (j 2).val; omega

theorem onto2 : ∀ (p0 : Fin 1) (p1 : Fin 2) (p2 : Fin 1), ∃ t : Fin cfg0.N, win0_2.index t = ![p0.val, p1.val, p2.val] :=
  (by decide +kernel : ∀ (p0 : Fin 1) (p1 : Fin 2) (p2 : Fin 1), ∃ t : Fin grid0.N, win0_2.index t = ![p0.val, p1.val, p2.val])

/-- Every place of the result is in some point's block. -/
theorem cover2 (i : S1x1024x1024.Idx) : ∃ t : Fin cfg0.N, (cfg0.win 2).flush t = true ∧ i ∈ ((cfg0.win 2).blk t).view.set := by
  have h0 : (i 0).val < 1 := (i 0).isLt
  have h1 : (i 1).val < 1024 := (i 1).isLt
  have h2 : (i 2).val < 1024 := (i 2).isLt
  obtain ⟨t, ht⟩ := onto2 ⟨(i 0).val / 1, by omega⟩ ⟨(i 1).val / 512, by omega⟩ ⟨(i 2).val / 1024, by omega⟩
  have q0 : win0_2.index t (0 : Fin 3) = (i 0).val / 1 := congrFun ht 0
  have q1 : win0_2.index t (1 : Fin 3) = (i 1).val / 512 := congrFun ht 1
  have q2 : win0_2.index t (2 : Fin 3) = (i 2).val / 1024 := congrFun ht 2
  refine ⟨t, flush0_2 _, ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

theorem final2 (c : Dev nD) : (dats m 0 c).arrAt 2 cfg0.N = Cert.AWoDwRefIdeal.Read.val_main_v9 (F := Ideal) (m ((c : Thread nD τ).loc main_arg0)) (m ((c : Thread nD τ).loc main_arg1)) :=
  (dats m 0 c).arrAt_eq_of_cover 2 (Cert.AWoDwRefIdeal.Read.val_main_v9 (F := Ideal) (V m c main_arg0) (V m c main_arg1)) (fun t _ => flushed_eq2 m c t) cover2

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.AWoDwRefIdeal.Read.val_main_v9 (F := Ideal) (m (((c.tc : Thread nD τ)).loc main_arg0)) (m (((c.tc : Thread nD τ)).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), (h c).2⟩) (run_blocks m ρ)

end Cert.AWoDwIdeal.Value

namespace Cert.Proof.AWoDw

theorem frame : Cert.quiescent_AWoDw := fun m ρ _ => Cert.AWoDw.Gen.frame m ρ
theorem frame_ideal : Cert.quiescent_AWoDwIdeal := fun m ρ _ => Cert.AWoDwIdeal.Gen.frame m ρ
theorem frame_ref : Cert.quiescent_AWoDwRefIdeal := fun m ρ _ =>
  (θ_run Cert.AWoDwRefIdeal.defs _ _).mono (fun r h => ⟨fun c => (h c).2, Idealize.ShloMosaic.sem_eq_zero_of_no_sems (by decide) r.2⟩)
    (Cert.AWoDwRefIdeal.Value.run (F := Ideal) m ρ)

/-- Over the reals the kernel's results are the reference's. -/
theorem algebraic : Cert.algebraic_AWoDwIdeal_AWoDwRefIdeal := by
  intro m ρ m' ρ' _ hagree
  refine ⟨fun c => Cert.AWoDwRefIdeal.Read.val_main_v9 (F := Ideal) (m (((c.tc : Thread Cert.AWoDwIdeal.nD Cert.AWoDwIdeal.τ)).loc Cert.AWoDwIdeal.main_arg0)) (m (((c.tc : Thread Cert.AWoDwIdeal.nD Cert.AWoDwIdeal.τ)).loc Cert.AWoDwIdeal.main_arg1)),
    Cert.AWoDwIdeal.Value.run m ρ, ?_⟩
  exact (θ_run Cert.AWoDwRefIdeal.defs _ _).mono (fun _ h c => ⟨((h c).1).trans ((Cert.AWoDwRefIdeal.Read.val_main_v9_eq (F := Ideal) _ _).trans (by rw [(hagree c).1, (hagree c).2])),
      (h c).2⟩)
    (Cert.AWoDwRefIdeal.Value.run (F := Ideal) m' ρ')

end Cert.Proof.AWoDw

end
-- ==== Proof.AQkvDx.lean ====
module

public import proofs.«01_k».proof.Defs
public import proofs.«01_k».proof.Proof.Gen.AQkvDx
public import proofs.«01_k».proof.Proof.Gen.AQkvDx.Frame
public import proofs.«01_k».proof.Proof.Gen.AQkvDxIdeal.Value
public import proofs.«01_k».proof.Proof.Gen.AQkvDxRefIdeal.Read
public import Idealize.ShloMosaic.Lib.Pointwise
public import Idealize.ShloMosaic.Lib.Quiescent
public import proofs.«01_k».proof.Proof.Norm
public import Idealize.ShloMosaic.Lib.Tactic

@[expose] public section

set_option maxRecDepth 16384

noncomputable section

open Idealize.ShloMosaic Idealize.ShloMosaic.TcCoe Idealize.SL.Sem

/-! The cotangent of the q, k, v projection through its norm. The rows come in 8 blocks of 512; the gain's gradient and the column sums are carried from block to block. -/

namespace Cert.AQkvDxIdeal.Value

open Cert.AQkvDxIdeal Cert.AQkvDxIdeal.Gen Cert.AQkvDxRefIdeal.Read

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- A block's row of the cotangent is the reference's at the row's place `q` in the whole array. -/
theorem pure5 (x0 : Vec Ideal S3072x512 .bf16) (x1 : Vec Ideal S1x1024x3072 .bf16) (x2 x3 : Vec Ideal S512x1024 .f32) (x4 : Vec Ideal S1x1024 .f32)
    (X0 : Vec Ideal S3072x4096 .bf16) (X1 : Vec Ideal S1x1024x3072 .bf16) (X2 X3 : Vec Ideal S4096x1024 .f32) (X4 : Vec Ideal S1x1024 .f32) (q : Fin 512 → Fin 4096)
    (h0 : ∀ (r : Fin 512) (k : Fin 3072), x0 (ix2 k r) = X0 (ix2 k (q r))) (h1 : ∀ (l : Fin 1024) (k : Fin 3072), x1 (ix3 0 l k) = X1 (ix3 0 l k))
    (h2 : ∀ (r : Fin 512) (l : Fin 1024), x2 (ix2 r l) = X2 (ix2 (q r) l)) (h3 : ∀ (r : Fin 512) (l : Fin 1024), x3 (ix2 r l) = X3 (ix2 (q r) l))
    (h4 : ∀ l : Fin 1024, x4 (ix2 0 l) = X4 (ix2 0 l)) (r : Fin 512) (j : Fin 1024) :
    k0_pay9 (F := Ideal) x0 x1 x2 x3 x4 (ix2 r j) = val_main_v44 (F := Ideal) X0 X1 X2 X3 X4 (ix2 (q r) j) := by
  pointwise [k0_pay1, k0_pay2, k0_pay3, k0_pay4, k0_pay5, k0_pay6, k0_pay7, k0_pay8, k0_pay9, k0_pay10, k0_pay11, val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_cst_6, val_main_v35, val_main_v36, val_main_cst_7, val_main_v37, val_main_v38, val_main_v39, val_main_v40, val_main_v41, val_main_v42, val_main_v43, val_main_v44, val_main_v45, val_main_cst_8, val_main_v46, val_main_v47]
  simp only [h0, h1, h2, h3, h4]
  rw [Cert.Proof.Norm.norm_bwd (fun k => X2 (ix2 (q r) k)) (fun k => (∑ x, X0 (ix2 x (q r)) * X1 (ix3 0 k x)) * X4 (ix2 0 k)) _ _ _ _ rfl
    (Cert.Proof.Norm.mean_pos fun k => X2 (ix2 (q r) k))]

/-- One row's part of the gain's gradient. -/
def gainTerm (X0 : Vec Ideal S3072x4096 .bf16) (X1 : Vec Ideal S1x1024x3072 .bf16) (X2 : Vec Ideal S4096x1024 .f32) (i : Fin 4096) (j : Fin 1024) : EReal :=
  (∑ k : Fin 3072, X0 (ix2 k i) * X1 (ix3 0 j k)) *
    (X2 (ix2 i j) * Ideal.rsqrt (Ideal.div (∑ x : Fin 1024, X2 (ix2 i x) * X2 (ix2 i x)) (Ideal.ofBits FTy.f32 1149239296#32) + Ideal.ofBits FTy.f32 925353388#32))

theorem pure7 (x0 : Vec Ideal S3072x512 .bf16) (x1 : Vec Ideal S1x1024x3072 .bf16) (x2 x3 : Vec Ideal S512x1024 .f32) (x4 : Vec Ideal S1x1024 .f32)
    (X0 : Vec Ideal S3072x4096 .bf16) (X1 : Vec Ideal S1x1024x3072 .bf16) (X2 X3 : Vec Ideal S4096x1024 .f32) (X4 : Vec Ideal S1x1024 .f32) (q : Fin 512 → Fin 4096)
    (h0 : ∀ (r : Fin 512) (k : Fin 3072), x0 (ix2 k r) = X0 (ix2 k (q r))) (h1 : ∀ (l : Fin 1024) (k : Fin 3072), x1 (ix3 0 l k) = X1 (ix3 0 l k))
    (h2 : ∀ (r : Fin 512) (l : Fin 1024), x2 (ix2 r l) = X2 (ix2 (q r) l)) (h3 : ∀ (r : Fin 512) (l : Fin 1024), x3 (ix2 r l) = X3 (ix2 (q r) l))
    (h4 : ∀ l : Fin 1024, x4 (ix2 0 l) = X4 (ix2 0 l)) (j : Fin 1024) :
    k0_pay10 (F := Ideal) x0 x1 x2 (ix2 0 j) = ∑ r : Fin 512, gainTerm X0 X1 X2 (q r) j := by
  pointwise [k0_pay1, k0_pay2, k0_pay3, k0_pay4, k0_pay5, k0_pay6, k0_pay7, k0_pay8, k0_pay9, k0_pay10, k0_pay11]
  simp only [h0, h1, h2, gainTerm]

theorem ref7 (X0 : Vec Ideal S3072x4096 .bf16) (X1 : Vec Ideal S1x1024x3072 .bf16) (X2 X3 : Vec Ideal S4096x1024 .f32) (X4 : Vec Ideal S1x1024 .f32) (j : Fin 1024) :
    val_main_v43 (F := Ideal) X0 X1 X2 (ix2 0 j) = ∑ i : Fin 4096, gainTerm X0 X1 X2 i j := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_cst_6, val_main_v35, val_main_v36, val_main_cst_7, val_main_v37, val_main_v38, val_main_v39, val_main_v40, val_main_v41, val_main_v42, val_main_v43, val_main_v44, val_main_v45, val_main_cst_8, val_main_v46, val_main_v47]
  simp only [gainTerm, Finset.univ_unique, Finset.sum_const, Finset.card_singleton, one_smul]
  exact Finset.sum_congr rfl fun i _ => mul_comm _ _

theorem pure8 (x0 : Vec Ideal S3072x512 .bf16) (x1 : Vec Ideal S1x1024x3072 .bf16) (x2 x3 : Vec Ideal S512x1024 .f32) (x4 : Vec Ideal S1x1024 .f32)
    (X0 : Vec Ideal S3072x4096 .bf16) (X1 : Vec Ideal S1x1024x3072 .bf16) (X2 X3 : Vec Ideal S4096x1024 .f32) (X4 : Vec Ideal S1x1024 .f32) (q : Fin 512 → Fin 4096)
    (h0 : ∀ (r : Fin 512) (k : Fin 3072), x0 (ix2 k r) = X0 (ix2 k (q r))) (h1 : ∀ (l : Fin 1024) (k : Fin 3072), x1 (ix3 0 l k) = X1 (ix3 0 l k))
    (h2 : ∀ (r : Fin 512) (l : Fin 1024), x2 (ix2 r l) = X2 (ix2 (q r) l)) (h3 : ∀ (r : Fin 512) (l : Fin 1024), x3 (ix2 r l) = X3 (ix2 (q r) l))
    (h4 : ∀ l : Fin 1024, x4 (ix2 0 l) = X4 (ix2 0 l)) (j : Fin 1024) :
    k0_pay11 (F := Ideal) x0 x1 x2 x3 x4 (ix2 0 j)
      = ∑ r : Fin 512, val_main_v44 (F := Ideal) X0 X1 X2 X3 X4 (ix2 (q r) j) := by
  have e : k0_pay11 (F := Ideal) x0 x1 x2 x3 x4 (ix2 0 j) = ∑ r : Fin 512, k0_pay9 (F := Ideal) x0 x1 x2 x3 x4 (ix2 r j) := by
    pointwise [k0_pay1, k0_pay2, k0_pay3, k0_pay4, k0_pay5, k0_pay6, k0_pay7, k0_pay8, k0_pay9, k0_pay10, k0_pay11]
  rw [e]
  exact Finset.sum_congr rfl fun r _ => pure5 x0 x1 x2 x3 x4 X0 X1 X2 X3 X4 q h0 h1 h2 h3 h4 r j

theorem ref8 (X0 : Vec Ideal S3072x4096 .bf16) (X1 : Vec Ideal S1x1024x3072 .bf16) (X2 X3 : Vec Ideal S4096x1024 .f32) (X4 : Vec Ideal S1x1024 .f32) (j : Fin 1024) :
    val_main_v47 (F := Ideal) X0 X1 X2 X3 X4 (ix2 0 j) = ∑ i : Fin 4096, val_main_v44 (F := Ideal) X0 X1 X2 X3 X4 (ix2 i j) := by
  pointwise [val_main_cst_8, val_main_v46, val_main_v47]

theorem add4 (a o : Vec Ideal S1x1024 .f32) (j : Fin 1024) : k0_pay4 (F := Ideal) a o (ix2 0 j) = o (ix2 0 j) + a (ix2 0 j) := by
  pointwise [k0_pay4]
theorem add5 (a o : Vec Ideal S1x1024 .f32) (j : Fin 1024) : k0_pay5 (F := Ideal) a o (ix2 0 j) = o (ix2 0 j) + a (ix2 0 j) := by
  pointwise [k0_pay5]
theorem zero2 (j : Fin 1024) : k0_pay2 (F := Ideal) (ix2 0 j) = 0 := by pointwise [k0_pay2]
theorem zero3 (j : Fin 1024) : k0_pay3 (F := Ideal) (ix2 0 j) = 0 := by pointwise [k0_pay3]
theorem trunc1 (a : Vec Ideal S512x1024 .f32) : k0_pay1 (F := Ideal) a = a := rfl

section
variable (c : Dev nD) (i : grid0.Coords) (a0 : Memref sig .tc .vmem S3072x512 .bf16) (w0 : a0.IsWhole) (a1 : Memref sig .tc .vmem S1x1024x3072 .bf16) (w1 : a1.IsWhole) (a2 : Memref sig .tc .vmem S512x1024 .f32) (w2 : a2.IsWhole) (a3 : Memref sig .tc .vmem S512x1024 .f32) (w3 : a3.IsWhole) (a4 : Memref sig .tc .vmem S1x1024 .f32) (w4 : a4.IsWhole) (a5 : Memref sig .tc .vmem S512x1024 .f32) (w5 : a5.IsWhole) (a6 : Memref sig .tc .vmem S512x1024 .bf16) (w6 : a6.IsWhole) (a7 : Memref sig .tc .vmem S1x1024 .f32) (w7 : a7.IsWhole) (a8 : Memref sig .tc .vmem S1x1024 .f32) (w8 : a8.IsWhole)

theorem out_A_5 (hc : cond0_0 i)
    (x0 : Vec Ideal S3072x512 .bf16) (x1 : Vec Ideal S1x1024x3072 .bf16) (x2 x3 : Vec Ideal S512x1024 .f32) (x4 : Vec Ideal S1x1024 .f32) :
    out0_A_5 c i a0 w0 a1 w1 a2 w2 a3 w3 a4 w4 a5 w5 a6 w6 a7 w7 a8 w8 hc x0 x1 x2 x3 x4 = k0_pay9 (F := Ideal) x0 x1 x2 x3 x4 := by
  unfold out0_A_5
  rw [View.read_writes_junk_eq_canon]
  unfold kernelRun0_A
  dsimp only
  sl_unfold_words
  rw [View.canon_unit_zero hz2]
  simp only [View.readAt_eq_ld, w0.read_unread, w1.read_unread, w2.read_unread, w3.read_unread, w4.read_unread, w7.read_unread, w8.read_unread, View.ld_unit_zero (S := S3072x512) hz2, View.ld_unit_zero (S := S512x1024) hz2, View.ld_unit_zero (S := S1x1024) hz2, View.ld_unit_zero (S := S1x1024x3072) hz3, shapeCast_self]

theorem out_A_6 (hc : cond0_0 i)
    (x0 : Vec Ideal S3072x512 .bf16) (x1 : Vec Ideal S1x1024x3072 .bf16) (x2 x3 : Vec Ideal S512x1024 .f32) (x4 : Vec Ideal S1x1024 .f32) :
    out0_A_6 c i a0 w0 a1 w1 a2 w2 a3 w3 a4 w4 a5 w5 a6 w6 a7 w7 a8 w8 hc x0 x1 x2 x3 x4 = k0_pay1 (F := Ideal) (k0_pay9 (F := Ideal) x0 x1 x2 x3 x4) := by
  unfold out0_A_6
  rw [View.read_writes_junk_eq_canon]
  unfold kernelRun0_A
  dsimp only
  sl_unfold_words
  rw [View.canon_unit_zero hz2]
  simp only [View.readAt_eq_ld, w0.read_unread, w1.read_unread, w2.read_unread, w3.read_unread, w4.read_unread, w7.read_unread, w8.read_unread, View.ld_unit_zero (S := S3072x512) hz2, View.ld_unit_zero (S := S512x1024) hz2, View.ld_unit_zero (S := S1x1024) hz2, View.ld_unit_zero (S := S1x1024x3072) hz3, shapeCast_self]

theorem out_A_7 (hc : cond0_0 i)
    (x0 : Vec Ideal S3072x512 .bf16) (x1 : Vec Ideal S1x1024x3072 .bf16) (x2 x3 : Vec Ideal S512x1024 .f32) (x4 : Vec Ideal S1x1024 .f32) :
    out0_A_7 c i a0 w0 a1 w1 a2 w2 a3 w3 a4 w4 a5 w5 a6 w6 a7 w7 a8 w8 hc x0 x1 x2 x3 x4 = k0_pay4 (F := Ideal) (k0_pay10 (F := Ideal) x0 x1 x2) (k0_pay2 (F := Ideal)) := by
  unfold out0_A_7
  rw [View.read_writes_junk_eq_canon]
  unfold kernelRun0_A
  dsimp only
  sl_unfold_words
  rw [View.canon_cons_unit_zero (S := S1x1024) hz2]
  simp only [View.readCov_unit_zero (S := S1x1024) _ hz2]
  simp only [View.readAt_eq_ld, w0.read_unread, w1.read_unread, w2.read_unread, w3.read_unread, w4.read_unread, w7.read_unread, w8.read_unread, View.ld_unit_zero (S := S3072x512) hz2, View.ld_unit_zero (S := S512x1024) hz2, View.ld_unit_zero (S := S1x1024) hz2, View.ld_unit_zero (S := S1x1024x3072) hz3, shapeCast_self]

theorem out_A_8 (hc : cond0_0 i)
    (x0 : Vec Ideal S3072x512 .bf16) (x1 : Vec Ideal S1x1024x3072 .bf16) (x2 x3 : Vec Ideal S512x1024 .f32) (x4 : Vec Ideal S1x1024 .f32) :
    out0_A_8 c i a0 w0 a1 w1 a2 w2 a3 w3 a4 w4 a5 w5 a6 w6 a7 w7 a8 w8 hc x0 x1 x2 x3 x4 = k0_pay5 (F := Ideal) (k0_pay11 (F := Ideal) x0 x1 x2 x3 x4) (k0_pay3 (F := Ideal)) := by
  unfold out0_A_8
  rw [View.read_writes_junk_eq_canon]
  unfold kernelRun0_A
  dsimp only
  sl_unfold_words
  rw [View.canon_cons_unit_zero (S := S1x1024) hz2]
  simp only [View.readCov_unit_zero (S := S1x1024) _ hz2]
  simp only [View.readAt_eq_ld, w0.read_unread, w1.read_unread, w2.read_unread, w3.read_unread, w4.read_unread, w7.read_unread, w8.read_unread, View.ld_unit_zero (S := S3072x512) hz2, View.ld_unit_zero (S := S512x1024) hz2, View.ld_unit_zero (S := S1x1024) hz2, View.ld_unit_zero (S := S1x1024x3072) hz3, shapeCast_self]

theorem out_B_5 (hc : ¬cond0_0 i)
    (x0 : Vec Ideal S3072x512 .bf16) (x1 : Vec Ideal S1x1024x3072 .bf16) (x2 x3 : Vec Ideal S512x1024 .f32) (x4 : Vec Ideal S1x1024 .f32) (xo7 xo8 : Vec Ideal S1x1024 .f32) :
    out0_B_5 c i a0 w0 a1 w1 a2 w2 a3 w3 a4 w4 a5 w5 a6 w6 a7 w7 a8 w8 hc x0 x1 x2 x3 x4 xo7 xo8 = k0_pay9 (F := Ideal) x0 x1 x2 x3 x4 := by
  unfold out0_B_5
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S3072x512) hz2, View.ld_unit_zero (S := S512x1024) hz2, View.ld_unit_zero (S := S1x1024) hz2, View.ld_unit_zero (S := S1x1024x3072) hz3, shapeCast_self]

theorem out_B_6 (hc : ¬cond0_0 i)
    (x0 : Vec Ideal S3072x512 .bf16) (x1 : Vec Ideal S1x1024x3072 .bf16) (x2 x3 : Vec Ideal S512x1024 .f32) (x4 : Vec Ideal S1x1024 .f32) (xo7 xo8 : Vec Ideal S1x1024 .f32) :
    out0_B_6 c i a0 w0 a1 w1 a2 w2 a3 w3 a4 w4 a5 w5 a6 w6 a7 w7 a8 w8 hc x0 x1 x2 x3 x4 xo7 xo8 = k0_pay1 (F := Ideal) (k0_pay9 (F := Ideal) x0 x1 x2 x3 x4) := by
  unfold out0_B_6
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S3072x512) hz2, View.ld_unit_zero (S := S512x1024) hz2, View.ld_unit_zero (S := S1x1024) hz2, View.ld_unit_zero (S := S1x1024x3072) hz3, shapeCast_self]

theorem out_B_7 (hc : ¬cond0_0 i)
    (x0 : Vec Ideal S3072x512 .bf16) (x1 : Vec Ideal S1x1024x3072 .bf16) (x2 x3 : Vec Ideal S512x1024 .f32) (x4 : Vec Ideal S1x1024 .f32) (xo7 xo8 : Vec Ideal S1x1024 .f32) :
    out0_B_7 c i a0 w0 a1 w1 a2 w2 a3 w3 a4 w4 a5 w5 a6 w6 a7 w7 a8 w8 hc x0 x1 x2 x3 x4 xo7 xo8 = k0_pay4 (F := Ideal) (k0_pay10 (F := Ideal) x0 x1 x2) xo7 := by
  unfold out0_B_7
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S3072x512) hz2, View.ld_unit_zero (S := S512x1024) hz2, View.ld_unit_zero (S := S1x1024) hz2, View.ld_unit_zero (S := S1x1024x3072) hz3, shapeCast_self]

theorem out_B_8 (hc : ¬cond0_0 i)
    (x0 : Vec Ideal S3072x512 .bf16) (x1 : Vec Ideal S1x1024x3072 .bf16) (x2 x3 : Vec Ideal S512x1024 .f32) (x4 : Vec Ideal S1x1024 .f32) (xo7 xo8 : Vec Ideal S1x1024 .f32) :
    out0_B_8 c i a0 w0 a1 w1 a2 w2 a3 w3 a4 w4 a5 w5 a6 w6 a7 w7 a8 w8 hc x0 x1 x2 x3 x4 xo7 xo8 = k0_pay5 (F := Ideal) (k0_pay11 (F := Ideal) x0 x1 x2 x3 x4) xo8 := by
  unfold out0_B_8
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S3072x512) hz2, View.ld_unit_zero (S := S512x1024) hz2, View.ld_unit_zero (S := S1x1024) hz2, View.ld_unit_zero (S := S1x1024x3072) hz3, shapeCast_self]

end

variable (m : (ℓ : Loc nD τ sig) → Buf (Elt Ideal) ℓ) (ρ : Dev nD → PrngReg)

/-- The place in the whole array of row `r` of the block of point `t`. -/
def row (t : Fin cfg0.N) (r : Fin 512) : Fin 4096 :=
  ⟨t.val * 512 + r.val, by have hN : t.val < 8 := lt_of_lt_of_eq t.isLt (show cfg0.N = 8 from N_0); omega⟩

theorem idx_facts : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem blk0 (c : Dev nD) (t : Fin cfg0.N) (r : Fin 512) (k : Fin 3072) : iblk m c 0 t (ix2 k r) = V m c main_arg0 (ix2 k (row t r)) := by
  obtain ⟨f00, f01, f10, f11, f12, f20, f21, f30, f31, f40, f41, f50, f51, f60, f61, f70, f71, f80, f81⟩ := idx_facts t
  show V m c main_arg0 (((cfg0.win 0).blk t).view.emb (ix2 k r)) = V m c main_arg0 _
  congr 1; funext a; apply Fin.ext
  match a with
  | ⟨0, _⟩ => show win0_0.index t (0 : Fin 2) * 3072 + 1 * k.val = k.val; omega
  | ⟨1, _⟩ => show win0_0.index t (1 : Fin 2) * 512 + 1 * r.val = t.val * 512 + r.val; omega

theorem blk1 (c : Dev nD) (t : Fin cfg0.N) (l : Fin 1024) (k : Fin 3072) : iblk m c 1 t (ix3 0 l k) = V m c main_arg1 (ix3 0 l k) := by
  obtain ⟨f00, f01, f10, f11, f12, f20, f21, f30, f31, f40, f41, f50, f51, f60, f61, f70, f71, f80, f81⟩ := idx_facts t
  show V m c main_arg1 (((cfg0.win 1).blk t).view.emb (ix3 0 l k)) = V m c main_arg1 _
  congr 1; funext a; apply Fin.ext
  match a with
  | ⟨0, _⟩ => show win0_1.index t (0 : Fin 3) * 1 + 1 * 0 = 0; omega
  | ⟨1, _⟩ => show win0_1.index t (1 : Fin 3) * 1024 + 1 * l.val = l.val; omega
  | ⟨2, _⟩ => show win0_1.index t (2 : Fin 3) * 3072 + 1 * k.val = k.val; omega

theorem blk2 (c : Dev nD) (t : Fin cfg0.N) (r : Fin 512) (l : Fin 1024) : iblk m c 2 t (ix2 r l) = V m c main_arg2 (ix2 (row t r) l) := by
  obtain ⟨f00, f01, f10, f11, f12, f20, f21, f30, f31, f40, f41, f50, f51, f60, f61, f70, f71, f80, f81⟩ := idx_facts t
  show V m c main_arg2 (((cfg0.win 2).blk t).view.emb (ix2 r l)) = V m c main_arg2 _
  congr 1; funext a; apply Fin.ext
  match a with
  | ⟨0, _⟩ => show win0_2.index t (0 : Fin 2) * 512 + 1 * r.val = t.val * 512 + r.val; omega
  | ⟨1, _⟩ => show win0_2.index t (1 : Fin 2) * 1024 + 1 * l.val = l.val; omega

theorem blk3 (c : Dev nD) (t : Fin cfg0.N) (r : Fin 512) (l : Fin 1024) : iblk m c 3 t (ix2 r l) = V m c main_arg3 (ix2 (row t r) l) := by
  obtain ⟨f00, f01, f10, f11, f12, f20, f21, f30, f31, f40, f41, f50, f51, f60, f61, f70, f71, f80, f81⟩ := idx_facts t
  show V m c main_arg3 (((cfg0.win 3).blk t).view.emb (ix2 r l)) = V m c main_arg3 _
  congr 1; funext a; apply Fin.ext
  match a with
  | ⟨0, _⟩ => show win0_3.index t (0 : Fin 2) * 512 + 1 * r.val = t.val * 512 + r.val; omega
  | ⟨1, _⟩ => show win0_3.index t (1 : Fin 2) * 1024 + 1 * l.val = l.val; omega

theorem blk4 (c : Dev nD) (t : Fin cfg0.N) (l : Fin 1024) : iblk m c 4 t (ix2 0 l) = V m c main_arg4 (ix2 0 l) := by
  obtain ⟨f00, f01, f10, f11, f12, f20, f21, f30, f31, f40, f41, f50, f51, f60, f61, f70, f71, f80, f81⟩ := idx_facts t
  show V m c main_arg4 (((cfg0.win 4).blk t).view.emb (ix2 0 l)) = V m c main_arg4 _
  congr 1; funext a; apply Fin.ext
  match a with
  | ⟨0, _⟩ => show win0_4.index t (0 : Fin 2) * 1 + 1 * 0 = 0; omega
  | ⟨1, _⟩ => show win0_4.index t (1 : Fin 2) * 1024 + 1 * l.val = l.val; omega

theorem at5 (c : Dev nD) (t : Fin cfg0.N) : (outsAt0 m c t.val t.isLt).1 = k0_pay9 (F := Ideal) (iblk m c 0 t) (iblk m c 1 t) (iblk m c 2 t) (iblk m c 3 t) (iblk m c 4 t) := by
  by_cases h0 : t.val % 8 = 0
  · rw [outsAt0_A m c t h0]; dsimp only; rw [out_A_5]
  · rw [outsAt0_B m c t h0]; dsimp only; rw [out_B_5]

/-- What a point writes back is its block of the reference's result. -/
theorem flushed_eq5 (c : Dev nD) (t : Fin cfg0.N) :
    (dats m 0 c).flushed 5 t = ((cfg0.win 5).blk t).view.read (Elt Ideal) (val_main_v44 (F := Ideal) (V m c main_arg0) (V m c main_arg1) (V m c main_arg2) (V m c main_arg3) (V m c main_arg4)) := by
  rw [flushed5, at5]
  obtain ⟨f00, f01, f10, f11, f12, f20, f21, f30, f31, f40, f41, f50, f51, f60, f61, f70, f71, f80, f81⟩ := idx_facts t
  funext j
  refine (congrArg (k0_pay9 (F := Ideal) (iblk m c 0 t) (iblk m c 1 t) (iblk m c 2 t) (iblk m c 3 t) (iblk m c 4 t)) (eq_ix2 (n0 := 512) (n1 := 1024) j)).trans
    (Eq.trans ?_ (congrArg (val_main_v44 (F := Ideal) (V m c main_arg0) (V m c main_arg1) (V m c main_arg2) (V m c main_arg3) (V m c main_arg4)) (?_ : ix2 (row t (j 0)) (j 1) = (((cfg0.win 5).blk t).view.emb j))))
  · exact pure5 _ _ _ _ _ _ _ _ _ _ (row t) (blk0 m c t) (blk1 m c t) (blk2 m c t) (blk3 m c t) (blk4 m c t) (j 0) (j 1)
  · funext a; apply Fin.ext
    match a with
    | ⟨0, _⟩ => show t.val * 512 + (j 0).val = win0_5.index t (0 : Fin 2) * 512 + 1 * (j 0).val; omega
    | ⟨1, _⟩ => show (j 1).val = win0_5.index t (1 : Fin 2) * 1024 + 1 * (j 1).val; omega

theorem onto5 : ∀ p0 : Fin 8, ∃ t : Fin cfg0.N, win0_5.index t = ![p0.val, 0] :=
  (by decide +kernel : ∀ p0 : Fin 8, ∃ t : Fin grid0.N, win0_5.index t = ![p0.val, 0])

/-- Every place of the result is in some point's block. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ := onto5 ⟨(i 0).val / 512, by omega⟩
  have q0 : win0_5.index t (0 : Fin 2) = (i 0).val / 512 := congrFun ht 0
  have q1 : win0_5.index t (1 : Fin 2) = 0 := congrFun ht 1
  refine ⟨t, flush0_5 _, ?_⟩
  show i ∈ ((View.whole main_v0_0).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem final5 (c : Dev nD) : (dats m 0 c).arrAt 5 cfg0.N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (val_main_v44 (F := Ideal) (V m c main_arg0) (V m c main_arg1) (V m c main_arg2) (V m c main_arg3) (V m c main_arg4)) (fun t _ => flushed_eq5 m c t) cover5

theorem at6 (c : Dev nD) (t : Fin cfg0.N) : (outsAt0 m c t.val t.isLt).2.1 = k0_pay1 (F := Ideal) (k0_pay9 (F := Ideal) (iblk m c 0 t) (iblk m c 1 t) (iblk m c 2 t) (iblk m c 3 t) (iblk m c 4 t)) := by
  by_cases h0 : t.val % 8 = 0
  · rw [outsAt0_A m c t h0]; dsimp only; rw [out_A_6]
  · rw [outsAt0_B m c t h0]; dsimp only; rw [out_B_6]

/-- What a point writes back is its block of the reference's result. -/
theorem flushed_eq6 (c : Dev nD) (t : Fin cfg0.N) :
    (dats m 0 c).flushed 6 t = ((cfg0.win 6).blk t).view.read (Elt Ideal) (val_main_v45 (F := Ideal) (V m c main_arg0) (V m c main_arg1) (V m c main_arg2) (V m c main_arg3) (V m c main_arg4)) := by
  rw [flushed6, at6]
  obtain ⟨f00, f01, f10, f11, f12, f20, f21, f30, f31, f40, f41, f50, f51, f60, f61, f70, f71, f80, f81⟩ := idx_facts t
  funext j
  refine (congrArg (k0_pay1 (F := Ideal) (k0_pay9 (F := Ideal) (iblk m c 0 t) (iblk m c 1 t) (iblk m c 2 t) (iblk m c 3 t) (iblk m c 4 t))) (eq_ix2 (n0 := 512) (n1 := 1024) j)).trans
    (Eq.trans ?_ (congrArg (val_main_v45 (F := Ideal) (V m c main_arg0) (V m c main_arg1) (V m c main_arg2) (V m c main_arg3) (V m c main_arg4)) (?_ : ix2 (row t (j 0)) (j 1) = (((cfg0.win 6).blk t).view.emb j))))
  · exact pure5 _ _ _ _ _ _ _ _ _ _ (row t) (blk0 m c t) (blk1 m c t) (blk2 m c t) (blk3 m c t) (blk4 m c t) (j 0) (j 1)
  · funext a; apply Fin.ext
    match a with
    | ⟨0, _⟩ => show t.val * 512 + (j 0).val = win0_6.index t (0 : Fin 2) * 512 + 1 * (j 0).val; omega
    | ⟨1, _⟩ => show (j 1).val = win0_6.index t (1 : Fin 2) * 1024 + 1 * (j 1).val; omega

theorem onto6 : ∀ p0 : Fin 8, ∃ t : Fin cfg0.N, win0_6.index t = ![p0.val, 0] :=
  (by decide +kernel : ∀ p0 : Fin 8, ∃ t : Fin grid0.N, win0_6.index t = ![p0.val, 0])

/-- Every place of the result is in some point's block. -/
theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ht⟩ := onto6 ⟨(i 0).val / 512, by omega⟩
  have q0 : win0_6.index t (0 : Fin 2) = (i 0).val / 512 := congrFun ht 0
  have q1 : win0_6.index t (1 : Fin 2) = 0 := congrFun ht 1
  refine ⟨t, flush0_6 _, ?_⟩
  show i ∈ ((View.whole main_v0_1).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

theorem final6 (c : Dev nD) : (dats m 0 c).arrAt 6 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (val_main_v45 (F := Ideal) (V m c main_arg0) (V m c main_arg1) (V m c main_arg2) (V m c main_arg3) (V m c main_arg4)) (fun t _ => flushed_eq6 m c t) cover6

/-- A row block's part of a sum over all rows; nothing past the last block. -/
def part (f : Fin 4096 → EReal) (n : ℕ) : EReal := if h : n < cfg0.N then ∑ r : Fin 512, f (row ⟨n, h⟩ r) else 0

theorem sum_parts (f : Fin 4096 → EReal) : ∑ n ∈ Finset.range 8, part f n = ∑ i : Fin 4096, f i := by
  rw [Fin.sum_univ_tiles 8 512 rfl f, Finset.sum_range]
  refine Finset.sum_congr rfl fun n _ => ?_
  unfold part
  rw [dif_pos (lt_of_lt_of_eq n.isLt (show 8 = cfg0.N from N_0.symm))]
  rfl

/-- After point `n` the carried row holds the sum over the row blocks up to it. -/
theorem at7 (c : Dev nD) (j : Fin 1024) : ∀ (n : ℕ) (h : n < cfg0.N),
    (outsAt0 m c n h).2.2.1 (ix2 0 j) = ∑ k ∈ Finset.range (n + 1), part (fun i => gainTerm (V m c main_arg0) (V m c main_arg1) (V m c main_arg2) i j) k
  | 0, h => by
    rw [outsAt0_A m c ⟨0, h⟩ rfl]
    dsimp only
    rw [out_A_7, add4, zero2, zero_add, Finset.sum_range_one, part, dif_pos h]
    have t : Fin cfg0.N := ⟨0, h⟩
    exact pure7 _ _ _ _ _ _ _ _ _ _ (row ⟨0, h⟩) (blk0 m c ⟨0, h⟩) (blk1 m c ⟨0, h⟩) (blk2 m c ⟨0, h⟩) (blk3 m c ⟨0, h⟩) (blk4 m c ⟨0, h⟩) j
  | n + 1, h => by
    have hN : cfg0.N = 8 := N_0
    have hB : ¬(⟨n + 1, h⟩ : Fin cfg0.N).val % 8 = 0 := by dsimp only; omega
    rw [outsAt0_B m c ⟨n + 1, h⟩ hB]
    dsimp only
    rw [out_B_7, add4, Finset.sum_range_succ, part, dif_pos h]
    refine congrArg₂ (· + ·) (at7 c j n _) ?_
    exact pure7 _ _ _ _ _ _ _ _ _ _ (row ⟨n + 1, h⟩) (blk0 m c ⟨n + 1, h⟩) (blk1 m c ⟨n + 1, h⟩) (blk2 m c ⟨n + 1, h⟩) (blk3 m c ⟨n + 1, h⟩) (blk4 m c ⟨n + 1, h⟩) j

theorem flushed_eq7 (c : Dev nD) (t : Fin cfg0.N) (hf : (cfg0.win 7).flush t = true) :
    (dats m 0 c).flushed 7 t = ((cfg0.win 7).blk t).view.read (Elt Ideal) (val_main_v43 (F := Ideal) (V m c main_arg0) (V m c main_arg1) (V m c main_arg2)) := by
  have hN : cfg0.N = 8 := N_0
  have h7 : t.val = 7 := by have := (flush0_7 t).mp hf; have := t.isLt; omega
  rw [flushed7]
  obtain ⟨f00, f01, f10, f11, f12, f20, f21, f30, f31, f40, f41, f50, f51, f60, f61, f70, f71, f80, f81⟩ := idx_facts t
  funext j
  refine (congrArg ((outsAt0 m c t.val t.isLt).2.2.1) (?_ : j = ix2 0 (j 1))).trans
    (Eq.trans ?_ (congrArg (val_main_v43 (F := Ideal) (V m c main_arg0) (V m c main_arg1) (V m c main_arg2)) (?_ : ix2 0 (j 1) = (((cfg0.win 7).blk t).view.emb j))))
  · have h0 : (j 0).val < 1 := (j 0).isLt
    funext a; apply Fin.ext
    match a with
    | ⟨0, _⟩ => show (j 0).val = 0; omega
    | ⟨1, _⟩ => rfl
  · have e : ∀ k : Fin 1024, (outsAt0 m c t.val t.isLt).2.2.1 (ix2 0 k) = val_main_v43 (F := Ideal) (V m c main_arg0) (V m c main_arg1) (V m c main_arg2) (ix2 0 k) := fun k => by
      rw [at7, ref7 _ _ _ (V m c main_arg3) (V m c main_arg4), ← sum_parts, h7]
    exact e (j 1)
  · have h0 : (j 0).val < 1 := (j 0).isLt
    funext a; apply Fin.ext
    match a with
    | ⟨0, _⟩ => show 0 = win0_7.index t (0 : Fin 2) * 1 + 1 * (j 0).val; omega
    | ⟨1, _⟩ => show (j 1).val = win0_7.index t (1 : Fin 2) * 1024 + 1 * (j 1).val; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨f00, f01, f10, f11, f12, f20, f21, f30, f31, f40, f41, f50, f51, f60, f61, f70, f71, f80, f81⟩ := idx_facts t0_7
  refine ⟨t0_7, (flush0_7 t0_7).mpr rfl, ?_⟩
  show i ∈ ((View.whole main_v0_2).slice (win0_7.rect t0_7)).set
  rw [View.set_slice_whole, Rect.mem_set_unit]
  intro a
  match a with
  | ⟨0, _⟩ => show win0_7.index t0_7 (0 : Fin 2) * 1 ≤ (i 0).val ∧ (i 0).val < win0_7.index t0_7 (0 : Fin 2) * 1 + 1; omega
  | ⟨1, _⟩ => show win0_7.index t0_7 (1 : Fin 2) * 1024 ≤ (i 1).val ∧ (i 1).val < win0_7.index t0_7 (1 : Fin 2) * 1024 + 1024; omega

theorem final7 (c : Dev nD) : (dats m 0 c).arrAt 7 cfg0.N = val_main_v43 (F := Ideal) (m ((c : Thread nD τ).loc main_arg0)) (m ((c : Thread nD τ).loc main_arg1)) (m ((c : Thread nD τ).loc main_arg2)) :=
  (dats m 0 c).arrAt_eq_of_cover 7 (val_main_v43 (F := Ideal) (V m c main_arg0) (V m c main_arg1) (V m c main_arg2)) (fun t hf => flushed_eq7 m c t hf) cover7

/-- After point `n` the carried row holds the sum over the row blocks up to it. -/
theorem at8 (c : Dev nD) (j : Fin 1024) : ∀ (n : ℕ) (h : n < cfg0.N),
    (outsAt0 m c n h).2.2.2 (ix2 0 j) = ∑ k ∈ Finset.range (n + 1), part (fun i => val_main_v44 (F := Ideal) (V m c main_arg0) (V m c main_arg1) (V m c main_arg2) (V m c main_arg3) (V m c main_arg4) (ix2 i j)) k
  | 0, h => by
    rw [outsAt0_A m c ⟨0, h⟩ rfl]
    dsimp only
    rw [out_A_8, add5, zero3, zero_add, Finset.sum_range_one, part, dif_pos h]
    have t : Fin cfg0.N := ⟨0, h⟩
    exact pure8 _ _ _ _ _ _ _ _ _ _ (row ⟨0, h⟩) (blk0 m c ⟨0, h⟩) (blk1 m c ⟨0, h⟩) (blk2 m c ⟨0, h⟩) (blk3 m c ⟨0, h⟩) (blk4 m c ⟨0, h⟩) j
  | n + 1, h => by
    have hN : cfg0.N = 8 := N_0
    have hB : ¬(⟨n + 1, h⟩ : Fin cfg0.N).val % 8 = 0 := by dsimp only; omega
    rw [outsAt0_B m c ⟨n + 1, h⟩ hB]
    dsimp only
    rw [out_B_8, add5, Finset.sum_range_succ, part, dif_pos h]
    refine congrArg₂ (· + ·) (at8 c j n _) ?_
    exact pure8 _ _ _ _ _ _ _ _ _ _ (row ⟨n + 1, h⟩) (blk0 m c ⟨n + 1, h⟩) (blk1 m c ⟨n + 1, h⟩) (blk2 m c ⟨n + 1, h⟩) (blk3 m c ⟨n + 1, h⟩) (blk4 m c ⟨n + 1, h⟩) j

theorem flushed_eq8 (c : Dev nD) (t : Fin cfg0.N) (hf : (cfg0.win 8).flush t = true) :
    (dats m 0 c).flushed 8 t = ((cfg0.win 8).blk t).view.read (Elt Ideal) (val_main_v47 (F := Ideal) (V m c main_arg0) (V m c main_arg1) (V m c main_arg2) (V m c main_arg3) (V m c main_arg4)) := by
  have hN : cfg0.N = 8 := N_0
  have h7 : t.val = 7 := by have := (flush0_8 t).mp hf; have := t.isLt; omega
  rw [flushed8]
  obtain ⟨f00, f01, f10, f11, f12, f20, f21, f30, f31, f40, f41, f50, f51, f60, f61, f70, f71, f80, f81⟩ := idx_facts t
  funext j
  refine (congrArg ((outsAt0 m c t.val t.isLt).2.2.2) (?_ : j = ix2 0 (j 1))).trans
    (Eq.trans ?_ (congrArg (val_main_v47 (F := Ideal) (V m c main_arg0) (V m c main_arg1) (V m c main_arg2) (V m c main_arg3) (V m c main_arg4)) (?_ : ix2 0 (j 1) = (((cfg0.win 8).blk t).view.emb j))))
  · have h0 : (j 0).val < 1 := (j 0).isLt
    funext a; apply Fin.ext
    match a with
    | ⟨0, _⟩ => show (j 0).val = 0; omega
    | ⟨1, _⟩ => rfl
  · have e : ∀ k : Fin 1024, (outsAt0 m c t.val t.isLt).2.2.2 (ix2 0 k) = val_main_v47 (F := Ideal) (V m c main_arg0) (V m c main_arg1) (V m c main_arg2) (V m c main_arg3) (V m c main_arg4) (ix2 0 k) := fun k => by
      rw [at8, ref8, ← sum_parts, h7]
    exact e (j 1)
  · have h0 : (j 0).val < 1 := (j 0).isLt
    funext a; apply Fin.ext
    match a with
    | ⟨0, _⟩ => show 0 = win0_8.index t (0 : Fin 2) * 1 + 1 * (j 0).val; omega
    | ⟨1, _⟩ => show (j 1).val = win0_8.index t (1 : Fin 2) * 1024 + 1 * (j 1).val; omega

theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  obtain ⟨f00, f01, f10, f11, f12, f20, f21, f30, f31, f40, f41, f50, f51, f60, f61, f70, f71, f80, f81⟩ := idx_facts t0_7
  refine ⟨t0_7, (flush0_8 t0_7).mpr rfl, ?_⟩
  show i ∈ ((View.whole main_v0_3).slice (win0_8.rect t0_7)).set
  rw [View.set_slice_whole, Rect.mem_set_unit]
  intro a
  match a with
  | ⟨0, _⟩ => show win0_8.index t0_7 (0 : Fin 2) * 1 ≤ (i 0).val ∧ (i 0).val < win0_8.index t0_7 (0 : Fin 2) * 1 + 1; omega
  | ⟨1, _⟩ => show win0_8.index t0_7 (1 : Fin 2) * 1024 ≤ (i 1).val ∧ (i 1).val < win0_8.index t0_7 (1 : Fin 2) * 1024 + 1024; omega

theorem final8 (c : Dev nD) : (dats m 0 c).arrAt 8 cfg0.N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 8 (val_main_v47 (F := Ideal) (V m c main_arg0) (V m c main_arg1) (V m c main_arg2) (V m c main_arg3) (V m c main_arg4)) (fun t hf => flushed_eq8 m c t hf) cover8

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0_0) = val_main_v44 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_v0_1) = val_main_v45 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_v0_2) = val_main_v43 (F := Ideal) (m (((c.tc : Thread nD τ)).loc main_arg0)) (m (((c.tc : Thread nD τ)).loc main_arg1)) (m (((c.tc : Thread nD τ)).loc main_arg2))
      ∧ r.2.mem ((c : Thread nD τ).loc main_v0_3) = val_main_v47 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final5 m c), ((h c).2.1).trans (final6 m c), ((h c).2.2.1).trans (final7 m c), ((h c).2.2.2.1).trans (final8 m c), (h c).2.2.2.2⟩) (run_blocks m ρ)

end Cert.AQkvDxIdeal.Value

namespace Cert.Proof.AQkvDx

open Cert.AQkvDxRefIdeal.Read

theorem frame : Cert.quiescent_AQkvDx := fun m ρ _ => Cert.AQkvDx.Gen.frame m ρ
theorem frame_ideal : Cert.quiescent_AQkvDxIdeal := fun m ρ _ => Cert.AQkvDxIdeal.Gen.frame m ρ
theorem frame_ref : Cert.quiescent_AQkvDxRefIdeal := fun m ρ _ =>
  (θ_run Cert.AQkvDxRefIdeal.defs _ _).mono (fun r h => ⟨fun c => (h c).2.2.2.2, Idealize.ShloMosaic.sem_eq_zero_of_no_sems (by decide) r.2⟩)
    (Cert.AQkvDxRefIdeal.Value.run (F := Ideal) m ρ)

/-- Over the reals the kernel's results are the reference's. -/
theorem algebraic : Cert.algebraic_AQkvDxIdeal_AQkvDxRefIdeal := by
  intro m ρ m' ρ' _ hagree
  refine ⟨fun c => val_main_v44 (F := Ideal) (m (((c.tc : Thread Cert.AQkvDxIdeal.nD Cert.AQkvDxIdeal.τ)).loc Cert.AQkvDxIdeal.main_arg0)) (m (((c.tc : Thread Cert.AQkvDxIdeal.nD Cert.AQkvDxIdeal.τ)).loc Cert.AQkvDxIdeal.main_arg1)) (m (((c.tc : Thread Cert.AQkvDxIdeal.nD Cert.AQkvDxIdeal.τ)).loc Cert.AQkvDxIdeal.main_arg2)) (m (((c.tc : Thread Cert.AQkvDxIdeal.nD Cert.AQkvDxIdeal.τ)).loc Cert.AQkvDxIdeal.main_arg3)) (m (((c.tc : Thread Cert.AQkvDxIdeal.nD Cert.AQkvDxIdeal.τ)).loc Cert.AQkvDxIdeal.main_arg4)), fun c => val_main_v45 (F := Ideal) (m (((c.tc : Thread Cert.AQkvDxIdeal.nD Cert.AQkvDxIdeal.τ)).loc Cert.AQkvDxIdeal.main_arg0)) (m (((c.tc : Thread Cert.AQkvDxIdeal.nD Cert.AQkvDxIdeal.τ)).loc Cert.AQkvDxIdeal.main_arg1)) (m (((c.tc : Thread Cert.AQkvDxIdeal.nD Cert.AQkvDxIdeal.τ)).loc Cert.AQkvDxIdeal.main_arg2)) (m (((c.tc : Thread Cert.AQkvDxIdeal.nD Cert.AQkvDxIdeal.τ)).loc Cert.AQkvDxIdeal.main_arg3)) (m (((c.tc : Thread Cert.AQkvDxIdeal.nD Cert.AQkvDxIdeal.τ)).loc Cert.AQkvDxIdeal.main_arg4)), fun c => val_main_v43 (F := Ideal) (m (((c.tc : Thread Cert.AQkvDxIdeal.nD Cert.AQkvDxIdeal.τ)).loc Cert.AQkvDxIdeal.main_arg0)) (m (((c.tc : Thread Cert.AQkvDxIdeal.nD Cert.AQkvDxIdeal.τ)).loc Cert.AQkvDxIdeal.main_arg1)) (m (((c.tc : Thread Cert.AQkvDxIdeal.nD Cert.AQkvDxIdeal.τ)).loc Cert.AQkvDxIdeal.main_arg2)), fun c => val_main_v47 (F := Ideal) (m (((c.tc : Thread Cert.AQkvDxIdeal.nD Cert.AQkvDxIdeal.τ)).loc Cert.AQkvDxIdeal.main_arg0)) (m (((c.tc : Thread Cert.AQkvDxIdeal.nD Cert.AQkvDxIdeal.τ)).loc Cert.AQkvDxIdeal.main_arg1)) (m (((c.tc : Thread Cert.AQkvDxIdeal.nD Cert.AQkvDxIdeal.τ)).loc Cert.AQkvDxIdeal.main_arg2)) (m (((c.tc : Thread Cert.AQkvDxIdeal.nD Cert.AQkvDxIdeal.τ)).loc Cert.AQkvDxIdeal.main_arg3)) (m (((c.tc : Thread Cert.AQkvDxIdeal.nD Cert.AQkvDxIdeal.τ)).loc Cert.AQkvDxIdeal.main_arg4)),
    Cert.AQkvDxIdeal.Value.run m ρ, ?_⟩
  exact (θ_run Cert.AQkvDxRefIdeal.defs _ _).mono (fun _ h c => ⟨((h c).1).trans ((val_main_v44_eq (F := Ideal) m' c).trans (by rw [(hagree c).1, (hagree c).2.1, (hagree c).2.2.1, (hagree c).2.2.2.1, (hagree c).2.2.2.2])),
      ((h c).2.1).trans ((val_main_v45_eq (F := Ideal) m' c).trans (by rw [(hagree c).1, (hagree c).2.1, (hagree c).2.2.1, (hagree c).2.2.2.1, (hagree c).2.2.2.2])),
      ((h c).2.2.1).trans ((val_main_v43_eq (F := Ideal) _ _ _).trans (by rw [(hagree c).1, (hagree c).2.1, (hagree c).2.2.1])),
      ((h c).2.2.2.1).trans ((val_main_v47_eq (F := Ideal) m' c).trans (by rw [(hagree c).1, (hagree c).2.1, (hagree c).2.2.1, (hagree c).2.2.2.1, (hagree c).2.2.2.2])),
      (h c).2.2.2.2⟩)
    (Cert.AQkvDxRefIdeal.Value.run (F := Ideal) m' ρ')

end Cert.Proof.AQkvDx

end
-- ==== Proof.AQkvDw.lean ====
module

public import proofs.«01_k».proof.Defs
public import proofs.«01_k».proof.Proof.Gen.AQkvDw
public import proofs.«01_k».proof.Proof.Gen.AQkvDw.Frame
public import proofs.«01_k».proof.Proof.Gen.AQkvDwIdeal.Value
public import proofs.«01_k».proof.Proof.Gen.AQkvDwRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The gradient of the q, k, v projection. -/

namespace Cert.AQkvDwIdeal.Value

open Cert.AQkvDwIdeal Cert.AQkvDwIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure2 (x0 : Vec Ideal S4096x512 .bf16) (x1 : Vec Ideal S1024x4096 .bf16)
    (X0 : Vec Ideal S4096x1024 .bf16) (X1 : Vec Ideal S3072x4096 .bf16)
    (j0 : Fin 1) (j1 : Fin 512) (j2 : Fin 1024) (i0 : Fin 1) (i1 : Fin 1024) (i2 : Fin 3072)
    (h0 : ∀ (k : Fin 4096), x0 (ix2 k j1) = X0 (ix2 k i1)) (h1 : ∀ (k : Fin 4096), x1 (ix2 j2 k) = X1 (ix2 i2 k)) :
    k0_pay1 (F := Ideal) x0 x1 (ix3 j0 j1 j2)
      = Cert.AQkvDwRefIdeal.Read.val_main_v9 (F := Ideal) X0 X1 (ix3 i0 i1 i2) := by
  pointwise [k0_pay1, Cert.AQkvDwRefIdeal.Read.val_main_v0, Cert.AQkvDwRefIdeal.Read.val_main_v1, Cert.AQkvDwRefIdeal.Read.val_main_cst, Cert.AQkvDwRefIdeal.Read.val_main_v2, Cert.AQkvDwRefIdeal.Read.val_main_v3, Cert.AQkvDwRefIdeal.Read.val_main_v4, Cert.AQkvDwRefIdeal.Read.val_main_v5, Cert.AQkvDwRefIdeal.Read.val_main_v6, Cert.AQkvDwRefIdeal.Read.val_main_v7, Cert.AQkvDwRefIdeal.Read.val_main_v8, Cert.AQkvDwRefIdeal.Read.val_main_v9]
  simp only [h0, h1, mul_comm]

variable (m : (ℓ : Loc nD τ sig) → Buf (Elt Ideal) ℓ) (ρ : Dev nD → PrngReg)

theorem idx_facts2 : ∀ t : Fin cfg0.N,
    win0_0.index t (0 : Fin 2) = 0
    ∧ win0_0.index t (1 : Fin 2) = win0_2.index t (1 : Fin 3)
    ∧ win0_1.index t (0 : Fin 2) = win0_2.index t (2 : Fin 3)
    ∧ win0_1.index t (1 : Fin 2) = 0
    ∧ win0_2.index t (0 : Fin 3) = 0 :=
  (by decide +kernel : ∀ t : Fin grid0.N, _)

/-- What a point writes back is its block of the reference's result. -/
theorem flushed_eq2 (c : Dev nD) (t : Fin cfg0.N) :
    (dats m 0 c).flushed 2 t = ((cfg0.win 2).blk t).view.read (Elt Ideal) (Cert.AQkvDwRefIdeal.Read.val_main_v9 (F := Ideal) (V m c main_arg0) (V m c main_arg1)) := by
  rw [flushed2]; unfold out0_2
  rw [View.canon_unit_zero hz3, View.ld_unit_zero hz2, View.ld_unit_zero hz2]
  obtain ⟨f0, f1, f2, f3, f4⟩ := idx_facts2 t
  funext j
  refine (congrArg (k0_pay1 (F := Ideal) (iblk m c 0 t) (iblk m c 1 t)) (eq_ix3 (n0 := 1) (n1 := 512) (n2 := 1024) j)).trans
    (Eq.trans ?_ (congrArg (Cert.AQkvDwRefIdeal.Read.val_main_v9 (F := Ideal) (V m c main_arg0) (V m c main_arg1)) (eq_ix3 (n0 := 1) (n1 := 1024) (n2 := 3072) (((cfg0.win 2).blk t).view.emb j)).symm))
  refine pure2 _ _ _ _ _ _ _ _ _ _ ?_ ?_
  · intro k
    show V m c main_arg0 (((cfg0.win 0).blk t).view.emb (ix2 k (j 1))) = V m c main_arg0 _
    congr 1; funext a; apply Fin.ext
    match a with
    | ⟨0, _⟩ => show win0_0.index t (0 : Fin 2) * 4096 + 1 * k.val = k.val; omega
    | ⟨1, _⟩ => show win0_0.index t (1 : Fin 2) * 512 + 1 * (j 1).val = win0_2.index t (1 : Fin 3) * 512 + 1 * (j 1).val; omega
  · intro k
    show V m c main_arg1 (((cfg0.win 1).blk t).view.emb (ix2 (j 2) k)) = V m c main_arg1 _
    congr 1; funext a; apply Fin.ext
    match a with
    | ⟨0, _⟩ => show win0_1.index t (0 : Fin 2) * 1024 + 1 * (j 2).val = win0_2.index t (2 : Fin 3) * 1024 + 1 * (j 2).val; omega
    | ⟨1, _⟩ => show win0_1.index t (1 : Fin 2) * 4096 + 1 * k.val = k.val; omega

theorem onto2 : ∀ (p0 : Fin 1) (p1 : Fin 2) (p2 : Fin 3), ∃ t : Fin cfg0.N, win0_2.index t = ![p0.val, p1.val, p2.val] :=
  (by decide +kernel : ∀ (p0 : Fin 1) (p1 : Fin 2) (p2 : Fin 3), ∃ t : Fin grid0.N, win0_2.index t = ![p0.val, p1.val, p2.val])

/-- Every place of the result is in some point's block. -/
theorem cover2 (i : S1x1024x3072.Idx) : ∃ t : Fin cfg0.N, (cfg0.win 2).flush t = true ∧ i ∈ ((cfg0.win 2).blk t).view.set := by
  have h0 : (i 0).val < 1 := (i 0).isLt
  have h1 : (i 1).val < 1024 := (i 1).isLt
  have h2 : (i 2).val < 3072 := (i 2).isLt
  obtain ⟨t, ht⟩ := onto2 ⟨(i 0).val / 1, by omega⟩ ⟨(i 1).val / 512, by omega⟩ ⟨(i 2).val / 1024, by omega⟩
  have q0 : win0_2.index t (0 : Fin 3) = (i 0).val / 1 := congrFun ht 0
  have q1 : win0_2.index t (1 : Fin 3) = (i 1).val / 512 := congrFun ht 1
  have q2 : win0_2.index t (2 : Fin 3) = (i 2).val / 1024 := congrFun ht 2
  refine ⟨t, flush0_2 _, ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

theorem final2 (c : Dev nD) : (dats m 0 c).arrAt 2 cfg0.N = Cert.AQkvDwRefIdeal.Read.val_main_v9 (F := Ideal) (m ((c : Thread nD τ).loc main_arg0)) (m ((c : Thread nD τ).loc main_arg1)) :=
  (dats m 0 c).arrAt_eq_of_cover 2 (Cert.AQkvDwRefIdeal.Read.val_main_v9 (F := Ideal) (V m c main_arg0) (V m c main_arg1)) (fun t _ => flushed_eq2 m c t) cover2

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.AQkvDwRefIdeal.Read.val_main_v9 (F := Ideal) (m (((c.tc : Thread nD τ)).loc main_arg0)) (m (((c.tc : Thread nD τ)).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), (h c).2⟩) (run_blocks m ρ)

end Cert.AQkvDwIdeal.Value

namespace Cert.Proof.AQkvDw

theorem frame : Cert.quiescent_AQkvDw := fun m ρ _ => Cert.AQkvDw.Gen.frame m ρ
theorem frame_ideal : Cert.quiescent_AQkvDwIdeal := fun m ρ _ => Cert.AQkvDwIdeal.Gen.frame m ρ
theorem frame_ref : Cert.quiescent_AQkvDwRefIdeal := fun m ρ _ =>
  (θ_run Cert.AQkvDwRefIdeal.defs _ _).mono (fun r h => ⟨fun c => (h c).2, Idealize.ShloMosaic.sem_eq_zero_of_no_sems (by decide) r.2⟩)
    (Cert.AQkvDwRefIdeal.Value.run (F := Ideal) m ρ)

/-- Over the reals the kernel's results are the reference's. -/
theorem algebraic : Cert.algebraic_AQkvDwIdeal_AQkvDwRefIdeal := by
  intro m ρ m' ρ' _ hagree
  refine ⟨fun c => Cert.AQkvDwRefIdeal.Read.val_main_v9 (F := Ideal) (m (((c.tc : Thread Cert.AQkvDwIdeal.nD Cert.AQkvDwIdeal.τ)).loc Cert.AQkvDwIdeal.main_arg0)) (m (((c.tc : Thread Cert.AQkvDwIdeal.nD Cert.AQkvDwIdeal.τ)).loc Cert.AQkvDwIdeal.main_arg1)),
    Cert.AQkvDwIdeal.Value.run m ρ, ?_⟩
  exact (θ_run Cert.AQkvDwRefIdeal.defs _ _).mono (fun _ h c => ⟨((h c).1).trans ((Cert.AQkvDwRefIdeal.Read.val_main_v9_eq (F := Ideal) _ _).trans (by rw [(hagree c).1, (hagree c).2])),
      (h c).2⟩)
    (Cert.AQkvDwRefIdeal.Value.run (F := Ideal) m' ρ')

end Cert.Proof.AQkvDw

end
-- ==== Proof.KvFwd.lean ====
module

public import proofs.«01_k».proof.Defs
public import proofs.«01_k».proof.Proof.Gen.KvFwd
public import proofs.«01_k».proof.Proof.Gen.KvFwd.Frame
public import proofs.«01_k».proof.Proof.Gen.KvFwdIdeal.Value
public import proofs.«01_k».proof.Proof.Gen.KvFwdRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The shared k, v projection with its bias, written transposed. -/

namespace Cert.KvFwdIdeal.Value

open Cert.KvFwdIdeal Cert.KvFwdIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure3 (x1 : Vec Ideal S1x1024x256 .bf16) (x0 : Vec Ideal S2048x1024 .bf16) (x2 : Vec Ideal S256x1 .f32)
    (X1 : Vec Ideal S1x1024x256 .bf16) (X0 : Vec Ideal S4096x1024 .bf16) (X2 : Vec Ideal S256x1 .f32)
    (j0 : Fin 256) (j1 : Fin 2048) (i0 : Fin 256) (i1 : Fin 4096)
    (h1 : ∀ (k : Fin 1024), x1 (ix3 0 k j0) = X1 (ix3 0 k i0)) (h0 : ∀ (k : Fin 1024), x0 (ix2 j1 k) = X0 (ix2 i1 k)) (h2 : x2 (ix2 j0 0) = X2 (ix2 i0 0)) :
    k0_pay1 (F := Ideal) x1 x0 x2 (ix2 j0 j1)
      = Cert.KvFwdRefIdeal.Read.val_main_v9 (F := Ideal) X0 X1 X2 (ix2 i0 i1) := by
  pointwise [k0_pay1, Cert.KvFwdRefIdeal.Read.val_main_v0, Cert.KvFwdRefIdeal.Read.val_main_v1, Cert.KvFwdRefIdeal.Read.val_main_v2, Cert.KvFwdRefIdeal.Read.val_main_v3, Cert.KvFwdRefIdeal.Read.val_main_v4, Cert.KvFwdRefIdeal.Read.val_main_v5, Cert.KvFwdRefIdeal.Read.val_main_v6, Cert.KvFwdRefIdeal.Read.val_main_v7, Cert.KvFwdRefIdeal.Read.val_main_v8, Cert.KvFwdRefIdeal.Read.val_main_v9]
  simp only [h0, h1, h2, mul_comm, add_comm]

variable (m : (ℓ : Loc nD τ sig) → Buf (Elt Ideal) ℓ) (ρ : Dev nD → PrngReg)

theorem idx_facts3 : ∀ t : Fin cfg0.N,
    win0_1.index t (0 : Fin 3) = 0
    ∧ win0_1.index t (1 : Fin 3) = 0
    ∧ win0_1.index t (2 : Fin 3) = win0_3.index t (0 : Fin 2)
    ∧ win0_0.index t (0 : Fin 2) = win0_3.index t (1 : Fin 2)
    ∧ win0_0.index t (1 : Fin 2) = 0
    ∧ win0_2.index t (0 : Fin 2) = win0_3.index t (0 : Fin 2)
    ∧ win0_2.index t (1 : Fin 2) = 0 :=
  (by decide +kernel : ∀ t : Fin grid0.N, _)

/-- What a point writes back is its block of the reference's result. -/
theorem flushed_eq3 (c : Dev nD) (t : Fin cfg0.N) :
    (dats m 0 c).flushed 3 t = ((cfg0.win 3).blk t).view.read (Elt Ideal) (Cert.KvFwdRefIdeal.Read.val_main_v9 (F := Ideal) (V m c main_arg0) (V m c main_arg1) (V m c main_arg2)) := by
  rw [flushed3]; unfold out0_3
  rw [View.canon_unit_zero hz2, View.ld_unit_zero hz3, View.ld_unit_zero hz2, View.ld_unit_zero hz2]
  obtain ⟨f0, f1, f2, f3, f4, f5, f6⟩ := idx_facts3 t
  funext j
  refine (congrArg (k0_pay1 (F := Ideal) (iblk m c 1 t) (iblk m c 0 t) (iblk m c 2 t)) (eq_ix2 (n0 := 256) (n1 := 2048) j)).trans
    (Eq.trans ?_ (congrArg (Cert.KvFwdRefIdeal.Read.val_main_v9 (F := Ideal) (V m c main_arg0) (V m c main_arg1) (V m c main_arg2)) (eq_ix2 (n0 := 256) (n1 := 4096) (((cfg0.win 3).blk t).view.emb j)).symm))
  refine pure3 _ _ _ _ _ _ _ _ _ _ ?_ ?_ ?_
  · intro k
    show V m c main_arg1 (((cfg0.win 1).blk t).view.emb (ix3 0 k (j 0))) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 256 + 1 * (j 0).val = win0_3.index t (0 : Fin 2) * 256 + 1 * (j 0).val; omega
  · intro k
    show V m c main_arg0 (((cfg0.win 0).blk t).view.emb (ix2 (j 1) k)) = V m c main_arg0 _
    congr 1; funext a; apply Fin.ext
    match a with
    | ⟨0, _⟩ => show win0_0.index t (0 : Fin 2) * 2048 + 1 * (j 1).val = win0_3.index t (1 : Fin 2) * 2048 + 1 * (j 1).val; omega
    | ⟨1, _⟩ => show win0_0.index t (1 : Fin 2) * 1024 + 1 * k.val = k.val; omega
  · skip
    show V m c main_arg2 (((cfg0.win 2).blk t).view.emb (ix2 (j 0) 0)) = V m c main_arg2 _
    congr 1; funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 1 + 1 * 0 = 0; omega

theorem onto3 : ∀ (p0 : Fin 1) (p1 : Fin 2), ∃ t : Fin cfg0.N, win0_3.index t = ![p0.val, p1.val] :=
  (by decide +kernel : ∀ (p0 : Fin 1) (p1 : Fin 2), ∃ t : Fin grid0.N, win0_3.index t = ![p0.val, p1.val])

/-- Every place of the result is in some point's block. -/
theorem cover3 (i : S256x4096.Idx) : ∃ t : Fin cfg0.N, (cfg0.win 3).flush t = true ∧ i ∈ ((cfg0.win 3).blk t).view.set := by
  have h0 : (i 0).val < 256 := (i 0).isLt
  have h1 : (i 1).val < 4096 := (i 1).isLt
  obtain ⟨t, ht⟩ := onto3 ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 _, ?_⟩
  show i ∈ ((View.whole main_v0).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

theorem final3 (c : Dev nD) : (dats m 0 c).arrAt 3 cfg0.N = Cert.KvFwdRefIdeal.Read.val_main_v9 (F := Ideal) (m ((c : Thread nD τ).loc main_arg0)) (m ((c : Thread nD τ).loc main_arg1)) (m ((c : Thread nD τ).loc main_arg2)) :=
  (dats m 0 c).arrAt_eq_of_cover 3 (Cert.KvFwdRefIdeal.Read.val_main_v9 (F := Ideal) (V m c main_arg0) (V m c main_arg1) (V m c main_arg2)) (fun t _ => flushed_eq3 m c t) cover3

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.KvFwdRefIdeal.Read.val_main_v9 (F := Ideal) (m (((c.tc : Thread nD τ)).loc main_arg0)) (m (((c.tc : Thread nD τ)).loc main_arg1)) (m (((c.tc : Thread nD τ)).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final3 m c), (h c).2⟩) (run_blocks m ρ)

end Cert.KvFwdIdeal.Value

namespace Cert.Proof.KvFwd

theorem frame : Cert.quiescent_KvFwd := fun m ρ _ => Cert.KvFwd.Gen.frame m ρ
theorem frame_ideal : Cert.quiescent_KvFwdIdeal := fun m ρ _ => Cert.KvFwdIdeal.Gen.frame m ρ
theorem frame_ref : Cert.quiescent_KvFwdRefIdeal := fun m ρ _ =>
  (θ_run Cert.KvFwdRefIdeal.defs _ _).mono (fun r h => ⟨fun c => (h c).2, Idealize.ShloMosaic.sem_eq_zero_of_no_sems (by decide) r.2⟩)
    (Cert.KvFwdRefIdeal.Value.run (F := Ideal) m ρ)

/-- Over the reals the kernel's results are the reference's. -/
theorem algebraic : Cert.algebraic_KvFwdIdeal_KvFwdRefIdeal := by
  intro m ρ m' ρ' _ hagree
  refine ⟨fun c => Cert.KvFwdRefIdeal.Read.val_main_v9 (F := Ideal) (m (((c.tc : Thread Cert.KvFwdIdeal.nD Cert.KvFwdIdeal.τ)).loc Cert.KvFwdIdeal.main_arg0)) (m (((c.tc : Thread Cert.KvFwdIdeal.nD Cert.KvFwdIdeal.τ)).loc Cert.KvFwdIdeal.main_arg1)) (m (((c.tc : Thread Cert.KvFwdIdeal.nD Cert.KvFwdIdeal.τ)).loc Cert.KvFwdIdeal.main_arg2)),
    Cert.KvFwdIdeal.Value.run m ρ, ?_⟩
  exact (θ_run Cert.KvFwdRefIdeal.defs _ _).mono (fun _ h c => ⟨((h c).1).trans ((Cert.KvFwdRefIdeal.Read.val_main_v9_eq (F := Ideal) _ _ _).trans (by rw [(hagree c).1, (hagree c).2.1, (hagree c).2.2])),
      (h c).2⟩)
    (Cert.KvFwdRefIdeal.Value.run (F := Ideal) m' ρ')

end Cert.Proof.KvFwd

end
-- ==== Proof.KvDx.lean ====
module

public import proofs.«01_k».proof.Defs
public import proofs.«01_k».proof.Proof.Gen.KvDx
public import proofs.«01_k».proof.Proof.Gen.KvDx.Frame
public import proofs.«01_k».proof.Proof.Gen.KvDxIdeal.Value
public import proofs.«01_k».proof.Proof.Gen.KvDxRefIdeal.Read
public import Idealize.ShloMosaic.Lib.Pointwise
public import Idealize.ShloMosaic.Lib.Quiescent
public import proofs.«01_k».proof.Proof.Norm
public import Idealize.ShloMosaic.Lib.Tactic

@[expose] public section

set_option maxRecDepth 16384

noncomputable section

open Idealize.ShloMosaic Idealize.ShloMosaic.TcCoe Idealize.SL.Sem

/-! The cotangent of the shared k, v projection through its norm. The rows come in 4 blocks of 1024; the gain's gradient and the column sums are carried from block to block. -/

namespace Cert.KvDxIdeal.Value

open Cert.KvDxIdeal Cert.KvDxIdeal.Gen Cert.KvDxRefIdeal.Read

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- A block's row of the cotangent is the reference's at the row's place `q` in the whole array. -/
theorem pure5 (x0 : Vec Ideal S256x1024 .bf16) (x1 : Vec Ideal S1x1024x256 .bf16) (x2 x3 : Vec Ideal S1024x1024 .f32) (x4 : Vec Ideal S1x1024 .f32)
    (X0 : Vec Ideal S256x4096 .bf16) (X1 : Vec Ideal S1x1024x256 .bf16) (X2 X3 : Vec Ideal S4096x1024 .f32) (X4 : Vec Ideal S1x1024 .f32) (q : Fin 1024 → Fin 4096)
    (h0 : ∀ (r : Fin 1024) (k : Fin 256), x0 (ix2 k r) = X0 (ix2 k (q r))) (h1 : ∀ (l : Fin 1024) (k : Fin 256), x1 (ix3 0 l k) = X1 (ix3 0 l k))
    (h2 : ∀ (r : Fin 1024) (l : Fin 1024), x2 (ix2 r l) = X2 (ix2 (q r) l)) (h3 : ∀ (r : Fin 1024) (l : Fin 1024), x3 (ix2 r l) = X3 (ix2 (q r) l))
    (h4 : ∀ l : Fin 1024, x4 (ix2 0 l) = X4 (ix2 0 l)) (r : Fin 1024) (j : Fin 1024) :
    k0_pay9 (F := Ideal) x0 x1 x2 x3 x4 (ix2 r j) = val_main_v44 (F := Ideal) X0 X1 X2 X3 X4 (ix2 (q r) j) := by
  pointwise [k0_pay1, k0_pay2, k0_pay3, k0_pay4, k0_pay5, k0_pay6, k0_pay7, k0_pay8, k0_pay9, k0_pay10, k0_pay11, val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_cst_6, val_main_v35, val_main_v36, val_main_cst_7, val_main_v37, val_main_v38, val_main_v39, val_main_v40, val_main_v41, val_main_v42, val_main_v43, val_main_v44, val_main_v45, val_main_cst_8, val_main_v46, val_main_v47]
  simp only [h0, h1, h2, h3, h4]
  rw [Cert.Proof.Norm.norm_bwd (fun k => X2 (ix2 (q r) k)) (fun k => (∑ x, X0 (ix2 x (q r)) * X1 (ix3 0 k x)) * X4 (ix2 0 k)) _ _ _ _ rfl
    (Cert.Proof.Norm.mean_pos fun k => X2 (ix2 (q r) k))]

/-- One row's part of the gain's gradient. -/
def gainTerm (X0 : Vec Ideal S256x4096 .bf16) (X1 : Vec Ideal S1x1024x256 .bf16) (X2 : Vec Ideal S4096x1024 .f32) (i : Fin 4096) (j : Fin 1024) : EReal :=
  (∑ k : Fin 256, X0 (ix2 k i) * X1 (ix3 0 j k)) *
    (X2 (ix2 i j) * Ideal.rsqrt (Ideal.div (∑ x : Fin 1024, X2 (ix2 i x) * X2 (ix2 i x)) (Ideal.ofBits FTy.f32 1149239296#32) + Ideal.ofBits FTy.f32 925353388#32))

theorem pure7 (x0 : Vec Ideal S256x1024 .bf16) (x1 : Vec Ideal S1x1024x256 .bf16) (x2 x3 : Vec Ideal S1024x1024 .f32) (x4 : Vec Ideal S1x1024 .f32)
    (X0 : Vec Ideal S256x4096 .bf16) (X1 : Vec Ideal S1x1024x256 .bf16) (X2 X3 : Vec Ideal S4096x1024 .f32) (X4 : Vec Ideal S1x1024 .f32) (q : Fin 1024 → Fin 4096)
    (h0 : ∀ (r : Fin 1024) (k : Fin 256), x0 (ix2 k r) = X0 (ix2 k (q r))) (h1 : ∀ (l : Fin 1024) (k : Fin 256), x1 (ix3 0 l k) = X1 (ix3 0 l k))
    (h2 : ∀ (r : Fin 1024) (l : Fin 1024), x2 (ix2 r l) = X2 (ix2 (q r) l)) (h3 : ∀ (r : Fin 1024) (l : Fin 1024), x3 (ix2 r l) = X3 (ix2 (q r) l))
    (h4 : ∀ l : Fin 1024, x4 (ix2 0 l) = X4 (ix2 0 l)) (j : Fin 1024) :
    k0_pay10 (F := Ideal) x0 x1 x2 (ix2 0 j) = ∑ r : Fin 1024, gainTerm X0 X1 X2 (q r) j := by
  pointwise [k0_pay1, k0_pay2, k0_pay3, k0_pay4, k0_pay5, k0_pay6, k0_pay7, k0_pay8, k0_pay9, k0_pay10, k0_pay11]
  simp only [h0, h1, h2, gainTerm]

theorem ref7 (X0 : Vec Ideal S256x4096 .bf16) (X1 : Vec Ideal S1x1024x256 .bf16) (X2 X3 : Vec Ideal S4096x1024 .f32) (X4 : Vec Ideal S1x1024 .f32) (j : Fin 1024) :
    val_main_v43 (F := Ideal) X0 X1 X2 (ix2 0 j) = ∑ i : Fin 4096, gainTerm X0 X1 X2 i j := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_cst_6, val_main_v35, val_main_v36, val_main_cst_7, val_main_v37, val_main_v38, val_main_v39, val_main_v40, val_main_v41, val_main_v42, val_main_v43, val_main_v44, val_main_v45, val_main_cst_8, val_main_v46, val_main_v47]
  simp only [gainTerm, Finset.univ_unique, Finset.sum_const, Finset.card_singleton, one_smul]
  exact Finset.sum_congr rfl fun i _ => mul_comm _ _

theorem pure8 (x0 : Vec Ideal S256x1024 .bf16) (x1 : Vec Ideal S1x1024x256 .bf16) (x2 x3 : Vec Ideal S1024x1024 .f32) (x4 : Vec Ideal S1x1024 .f32)
    (X0 : Vec Ideal S256x4096 .bf16) (X1 : Vec Ideal S1x1024x256 .bf16) (X2 X3 : Vec Ideal S4096x1024 .f32) (X4 : Vec Ideal S1x1024 .f32) (q : Fin 1024 → Fin 4096)
    (h0 : ∀ (r : Fin 1024) (k : Fin 256), x0 (ix2 k r) = X0 (ix2 k (q r))) (h1 : ∀ (l : Fin 1024) (k : Fin 256), x1 (ix3 0 l k) = X1 (ix3 0 l k))
    (h2 : ∀ (r : Fin 1024) (l : Fin 1024), x2 (ix2 r l) = X2 (ix2 (q r) l)) (h3 : ∀ (r : Fin 1024) (l : Fin 1024), x3 (ix2 r l) = X3 (ix2 (q r) l))
    (h4 : ∀ l : Fin 1024, x4 (ix2 0 l) = X4 (ix2 0 l)) (j : Fin 1024) :
    k0_pay11 (F := Ideal) x0 x1 x2 x3 x4 (ix2 0 j)
      = ∑ r : Fin 1024, val_main_v44 (F := Ideal) X0 X1 X2 X3 X4 (ix2 (q r) j) := by
  have e : k0_pay11 (F := Ideal) x0 x1 x2 x3 x4 (ix2 0 j) = ∑ r : Fin 1024, k0_pay9 (F := Ideal) x0 x1 x2 x3 x4 (ix2 r j) := by
    pointwise [k0_pay1, k0_pay2, k0_pay3, k0_pay4, k0_pay5, k0_pay6, k0_pay7, k0_pay8, k0_pay9, k0_pay10, k0_pay11]
  rw [e]
  exact Finset.sum_congr rfl fun r _ => pure5 x0 x1 x2 x3 x4 X0 X1 X2 X3 X4 q h0 h1 h2 h3 h4 r j

theorem ref8 (X0 : Vec Ideal S256x4096 .bf16) (X1 : Vec Ideal S1x1024x256 .bf16) (X2 X3 : Vec Ideal S4096x1024 .f32) (X4 : Vec Ideal S1x1024 .f32) (j : Fin 1024) :
    val_main_v47 (F := Ideal) X0 X1 X2 X3 X4 (ix2 0 j) = ∑ i : Fin 4096, val_main_v44 (F := Ideal) X0 X1 X2 X3 X4 (ix2 i j) := by
  pointwise [val_main_cst_8, val_main_v46, val_main_v47]

theorem add4 (a o : Vec Ideal S1x1024 .f32) (j : Fin 1024) : k0_pay4 (F := Ideal) a o (ix2 0 j) = o (ix2 0 j) + a (ix2 0 j) := by
  pointwise [k0_pay4]
theorem add5 (a o : Vec Ideal S1x1024 .f32) (j : Fin 1024) : k0_pay5 (F := Ideal) a o (ix2 0 j) = o (ix2 0 j) + a (ix2 0 j) := by
  pointwise [k0_pay5]
theorem zero2 (j : Fin 1024) : k0_pay2 (F := Ideal) (ix2 0 j) = 0 := by pointwise [k0_pay2]
theorem zero3 (j : Fin 1024) : k0_pay3 (F := Ideal) (ix2 0 j) = 0 := by pointwise [k0_pay3]
theorem trunc1 (a : Vec Ideal S1024x1024 .f32) : k0_pay1 (F := Ideal) a = a := rfl

section
variable (c : Dev nD) (i : grid0.Coords) (a0 : Memref sig .tc .vmem S256x1024 .bf16) (w0 : a0.IsWhole) (a1 : Memref sig .tc .vmem S1x1024x256 .bf16) (w1 : a1.IsWhole) (a2 : Memref sig .tc .vmem S1024x1024 .f32) (w2 : a2.IsWhole) (a3 : Memref sig .tc .vmem S1024x1024 .f32) (w3 : a3.IsWhole) (a4 : Memref sig .tc .vmem S1x1024 .f32) (w4 : a4.IsWhole) (a5 : Memref sig .tc .vmem S1024x1024 .f32) (w5 : a5.IsWhole) (a6 : Memref sig .tc .vmem S1024x1024 .bf16) (w6 : a6.IsWhole) (a7 : Memref sig .tc .vmem S1x1024 .f32) (w7 : a7.IsWhole) (a8 : Memref sig .tc .vmem S1x1024 .f32) (w8 : a8.IsWhole)

theorem out_A_5 (hc : cond0_0 i)
    (x0 : Vec Ideal S256x1024 .bf16) (x1 : Vec Ideal S1x1024x256 .bf16) (x2 x3 : Vec Ideal S1024x1024 .f32) (x4 : Vec Ideal S1x1024 .f32) :
    out0_A_5 c i a0 w0 a1 w1 a2 w2 a3 w3 a4 w4 a5 w5 a6 w6 a7 w7 a8 w8 hc x0 x1 x2 x3 x4 = k0_pay9 (F := Ideal) x0 x1 x2 x3 x4 := by
  unfold out0_A_5
  rw [View.read_writes_junk_eq_canon]
  unfold kernelRun0_A
  dsimp only
  sl_unfold_words
  rw [View.canon_unit_zero hz2]
  simp only [View.readAt_eq_ld, w0.read_unread, w1.read_unread, w2.read_unread, w3.read_unread, w4.read_unread, w7.read_unread, w8.read_unread, View.ld_unit_zero (S := S256x1024) hz2, View.ld_unit_zero (S := S1024x1024) hz2, View.ld_unit_zero (S := S1x1024) hz2, View.ld_unit_zero (S := S1x1024x256) hz3, shapeCast_self]

theorem out_A_6 (hc : cond0_0 i)
    (x0 : Vec Ideal S256x1024 .bf16) (x1 : Vec Ideal S1x1024x256 .bf16) (x2 x3 : Vec Ideal S1024x1024 .f32) (x4 : Vec Ideal S1x1024 .f32) :
    out0_A_6 c i a0 w0 a1 w1 a2 w2 a3 w3 a4 w4 a5 w5 a6 w6 a7 w7 a8 w8 hc x0 x1 x2 x3 x4 = k0_pay1 (F := Ideal) (k0_pay9 (F := Ideal) x0 x1 x2 x3 x4) := by
  unfold out0_A_6
  rw [View.read_writes_junk_eq_canon]
  unfold kernelRun0_A
  dsimp only
  sl_unfold_words
  rw [View.canon_unit_zero hz2]
  simp only [View.readAt_eq_ld, w0.read_unread, w1.read_unread, w2.read_unread, w3.read_unread, w4.read_unread, w7.read_unread, w8.read_unread, View.ld_unit_zero (S := S256x1024) hz2, View.ld_unit_zero (S := S1024x1024) hz2, View.ld_unit_zero (S := S1x1024) hz2, View.ld_unit_zero (S := S1x1024x256) hz3, shapeCast_self]

theorem out_A_7 (hc : cond0_0 i)
    (x0 : Vec Ideal S256x1024 .bf16) (x1 : Vec Ideal S1x1024x256 .bf16) (x2 x3 : Vec Ideal S1024x1024 .f32) (x4 : Vec Ideal S1x1024 .f32) :
    out0_A_7 c i a0 w0 a1 w1 a2 w2 a3 w3 a4 w4 a5 w5 a6 w6 a7 w7 a8 w8 hc x0 x1 x2 x3 x4 = k0_pay4 (F := Ideal) (k0_pay10 (F := Ideal) x0 x1 x2) (k0_pay2 (F := Ideal)) := by
  unfold out0_A_7
  rw [View.read_writes_junk_eq_canon]
  unfold kernelRun0_A
  dsimp only
  sl_unfold_words
  rw [View.canon_cons_unit_zero (S := S1x1024) hz2]
  simp only [View.readCov_unit_zero (S := S1x1024) _ hz2]
  simp only [View.readAt_eq_ld, w0.read_unread, w1.read_unread, w2.read_unread, w3.read_unread, w4.read_unread, w7.read_unread, w8.read_unread, View.ld_unit_zero (S := S256x1024) hz2, View.ld_unit_zero (S := S1024x1024) hz2, View.ld_unit_zero (S := S1x1024) hz2, View.ld_unit_zero (S := S1x1024x256) hz3, shapeCast_self]

theorem out_A_8 (hc : cond0_0 i)
    (x0 : Vec Ideal S256x1024 .bf16) (x1 : Vec Ideal S1x1024x256 .bf16) (x2 x3 : Vec Ideal S1024x1024 .f32) (x4 : Vec Ideal S1x1024 .f32) :
    out0_A_8 c i a0 w0 a1 w1 a2 w2 a3 w3 a4 w4 a5 w5 a6 w6 a7 w7 a8 w8 hc x0 x1 x2 x3 x4 = k0_pay5 (F := Ideal) (k0_pay11 (F := Ideal) x0 x1 x2 x3 x4) (k0_pay3 (F := Ideal)) := by
  unfold out0_A_8
  rw [View.read_writes_junk_eq_canon]
  unfold kernelRun0_A
  dsimp only
  sl_unfold_words
  rw [View.canon_cons_unit_zero (S := S1x1024) hz2]
  simp only [View.readCov_unit_zero (S := S1x1024) _ hz2]
  simp only [View.readAt_eq_ld, w0.read_unread, w1.read_unread, w2.read_unread, w3.read_unread, w4.read_unread, w7.read_unread, w8.read_unread, View.ld_unit_zero (S := S256x1024) hz2, View.ld_unit_zero (S := S1024x1024) hz2, View.ld_unit_zero (S := S1x1024) hz2, View.ld_unit_zero (S := S1x1024x256) hz3, shapeCast_self]

theorem out_B_5 (hc : ¬cond0_0 i)
    (x0 : Vec Ideal S256x1024 .bf16) (x1 : Vec Ideal S1x1024x256 .bf16) (x2 x3 : Vec Ideal S1024x1024 .f32) (x4 : Vec Ideal S1x1024 .f32) (xo7 xo8 : Vec Ideal S1x1024 .f32) :
    out0_B_5 c i a0 w0 a1 w1 a2 w2 a3 w3 a4 w4 a5 w5 a6 w6 a7 w7 a8 w8 hc x0 x1 x2 x3 x4 xo7 xo8 = k0_pay9 (F := Ideal) x0 x1 x2 x3 x4 := by
  unfold out0_B_5
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S256x1024) hz2, View.ld_unit_zero (S := S1024x1024) hz2, View.ld_unit_zero (S := S1x1024) hz2, View.ld_unit_zero (S := S1x1024x256) hz3, shapeCast_self]

theorem out_B_6 (hc : ¬cond0_0 i)
    (x0 : Vec Ideal S256x1024 .bf16) (x1 : Vec Ideal S1x1024x256 .bf16) (x2 x3 : Vec Ideal S1024x1024 .f32) (x4 : Vec Ideal S1x1024 .f32) (xo7 xo8 : Vec Ideal S1x1024 .f32) :
    out0_B_6 c i a0 w0 a1 w1 a2 w2 a3 w3 a4 w4 a5 w5 a6 w6 a7 w7 a8 w8 hc x0 x1 x2 x3 x4 xo7 xo8 = k0_pay1 (F := Ideal) (k0_pay9 (F := Ideal) x0 x1 x2 x3 x4) := by
  unfold out0_B_6
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S256x1024) hz2, View.ld_unit_zero (S := S1024x1024) hz2, View.ld_unit_zero (S := S1x1024) hz2, View.ld_unit_zero (S := S1x1024x256) hz3, shapeCast_self]

theorem out_B_7 (hc : ¬cond0_0 i)
    (x0 : Vec Ideal S256x1024 .bf16) (x1 : Vec Ideal S1x1024x256 .bf16) (x2 x3 : Vec Ideal S1024x1024 .f32) (x4 : Vec Ideal S1x1024 .f32) (xo7 xo8 : Vec Ideal S1x1024 .f32) :
    out0_B_7 c i a0 w0 a1 w1 a2 w2 a3 w3 a4 w4 a5 w5 a6 w6 a7 w7 a8 w8 hc x0 x1 x2 x3 x4 xo7 xo8 = k0_pay4 (F := Ideal) (k0_pay10 (F := Ideal) x0 x1 x2) xo7 := by
  unfold out0_B_7
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S256x1024) hz2, View.ld_unit_zero (S := S1024x1024) hz2, View.ld_unit_zero (S := S1x1024) hz2, View.ld_unit_zero (S := S1x1024x256) hz3, shapeCast_self]

theorem out_B_8 (hc : ¬cond0_0 i)
    (x0 : Vec Ideal S256x1024 .bf16) (x1 : Vec Ideal S1x1024x256 .bf16) (x2 x3 : Vec Ideal S1024x1024 .f32) (x4 : Vec Ideal S1x1024 .f32) (xo7 xo8 : Vec Ideal S1x1024 .f32) :
    out0_B_8 c i a0 w0 a1 w1 a2 w2 a3 w3 a4 w4 a5 w5 a6 w6 a7 w7 a8 w8 hc x0 x1 x2 x3 x4 xo7 xo8 = k0_pay5 (F := Ideal) (k0_pay11 (F := Ideal) x0 x1 x2 x3 x4) xo8 := by
  unfold out0_B_8
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S256x1024) hz2, View.ld_unit_zero (S := S1024x1024) hz2, View.ld_unit_zero (S := S1x1024) hz2, View.ld_unit_zero (S := S1x1024x256) hz3, shapeCast_self]

end

variable (m : (ℓ : Loc nD τ sig) → Buf (Elt Ideal) ℓ) (ρ : Dev nD → PrngReg)

/-- The place in the whole array of row `r` of the block of point `t`. -/
def row (t : Fin cfg0.N) (r : Fin 1024) : Fin 4096 :=
  ⟨t.val * 1024 + r.val, by have hN : t.val < 4 := lt_of_lt_of_eq t.isLt (show cfg0.N = 4 from N_0); omega⟩

theorem idx_facts : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem blk0 (c : Dev nD) (t : Fin cfg0.N) (r : Fin 1024) (k : Fin 256) : iblk m c 0 t (ix2 k r) = V m c main_arg0 (ix2 k (row t r)) := by
  obtain ⟨f00, f01, f10, f11, f12, f20, f21, f30, f31, f40, f41, f50, f51, f60, f61, f70, f71, f80, f81⟩ := idx_facts t
  show V m c main_arg0 (((cfg0.win 0).blk t).view.emb (ix2 k r)) = V m c main_arg0 _
  congr 1; funext a; apply Fin.ext
  match a with
  | ⟨0, _⟩ => show win0_0.index t (0 : Fin 2) * 256 + 1 * k.val = k.val; omega
  | ⟨1, _⟩ => show win0_0.index t (1 : Fin 2) * 1024 + 1 * r.val = t.val * 1024 + r.val; omega

theorem blk1 (c : Dev nD) (t : Fin cfg0.N) (l : Fin 1024) (k : Fin 256) : iblk m c 1 t (ix3 0 l k) = V m c main_arg1 (ix3 0 l k) := by
  obtain ⟨f00, f01, f10, f11, f12, f20, f21, f30, f31, f40, f41, f50, f51, f60, f61, f70, f71, f80, f81⟩ := idx_facts t
  show V m c main_arg1 (((cfg0.win 1).blk t).view.emb (ix3 0 l k)) = V m c main_arg1 _
  congr 1; funext a; apply Fin.ext
  match a with
  | ⟨0, _⟩ => show win0_1.index t (0 : Fin 3) * 1 + 1 * 0 = 0; omega
  | ⟨1, _⟩ => show win0_1.index t (1 : Fin 3) * 1024 + 1 * l.val = l.val; omega
  | ⟨2, _⟩ => show win0_1.index t (2 : Fin 3) * 256 + 1 * k.val = k.val; omega

theorem blk2 (c : Dev nD) (t : Fin cfg0.N) (r : Fin 1024) (l : Fin 1024) : iblk m c 2 t (ix2 r l) = V m c main_arg2 (ix2 (row t r) l) := by
  obtain ⟨f00, f01, f10, f11, f12, f20, f21, f30, f31, f40, f41, f50, f51, f60, f61, f70, f71, f80, f81⟩ := idx_facts t
  show V m c main_arg2 (((cfg0.win 2).blk t).view.emb (ix2 r l)) = V m c main_arg2 _
  congr 1; funext a; apply Fin.ext
  match a with
  | ⟨0, _⟩ => show win0_2.index t (0 : Fin 2) * 1024 + 1 * r.val = t.val * 1024 + r.val; omega
  | ⟨1, _⟩ => show win0_2.index t (1 : Fin 2) * 1024 + 1 * l.val = l.val; omega

theorem blk3 (c : Dev nD) (t : Fin cfg0.N) (r : Fin 1024) (l : Fin 1024) : iblk m c 3 t (ix2 r l) = V m c main_arg3 (ix2 (row t r) l) := by
  obtain ⟨f00, f01, f10, f11, f12, f20, f21, f30, f31, f40, f41, f50, f51, f60, f61, f70, f71, f80, f81⟩ := idx_facts t
  show V m c main_arg3 (((cfg0.win 3).blk t).view.emb (ix2 r l)) = V m c main_arg3 _
  congr 1; funext a; apply Fin.ext
  match a with
  | ⟨0, _⟩ => show win0_3.index t (0 : Fin 2) * 1024 + 1 * r.val = t.val * 1024 + r.val; omega
  | ⟨1, _⟩ => show win0_3.index t (1 : Fin 2) * 1024 + 1 * l.val = l.val; omega

theorem blk4 (c : Dev nD) (t : Fin cfg0.N) (l : Fin 1024) : iblk m c 4 t (ix2 0 l) = V m c main_arg4 (ix2 0 l) := by
  obtain ⟨f00, f01, f10, f11, f12, f20, f21, f30, f31, f40, f41, f50, f51, f60, f61, f70, f71, f80, f81⟩ := idx_facts t
  show V m c main_arg4 (((cfg0.win 4).blk t).view.emb (ix2 0 l)) = V m c main_arg4 _
  congr 1; funext a; apply Fin.ext
  match a with
  | ⟨0, _⟩ => show win0_4.index t (0 : Fin 2) * 1 + 1 * 0 = 0; omega
  | ⟨1, _⟩ => show win0_4.index t (1 : Fin 2) * 1024 + 1 * l.val = l.val; omega

theorem at5 (c : Dev nD) (t : Fin cfg0.N) : (outsAt0 m c t.val t.isLt).1 = k0_pay9 (F := Ideal) (iblk m c 0 t) (iblk m c 1 t) (iblk m c 2 t) (iblk m c 3 t) (iblk m c 4 t) := by
  by_cases h0 : t.val % 4 = 0
  · rw [outsAt0_A m c t h0]; dsimp only; rw [out_A_5]
  · rw [outsAt0_B m c t h0]; dsimp only; rw [out_B_5]

/-- What a point writes back is its block of the reference's result. -/
theorem flushed_eq5 (c : Dev nD) (t : Fin cfg0.N) :
    (dats m 0 c).flushed 5 t = ((cfg0.win 5).blk t).view.read (Elt Ideal) (val_main_v44 (F := Ideal) (V m c main_arg0) (V m c main_arg1) (V m c main_arg2) (V m c main_arg3) (V m c main_arg4)) := by
  rw [flushed5, at5]
  obtain ⟨f00, f01, f10, f11, f12, f20, f21, f30, f31, f40, f41, f50, f51, f60, f61, f70, f71, f80, f81⟩ := idx_facts t
  funext j
  refine (congrArg (k0_pay9 (F := Ideal) (iblk m c 0 t) (iblk m c 1 t) (iblk m c 2 t) (iblk m c 3 t) (iblk m c 4 t)) (eq_ix2 (n0 := 1024) (n1 := 1024) j)).trans
    (Eq.trans ?_ (congrArg (val_main_v44 (F := Ideal) (V m c main_arg0) (V m c main_arg1) (V m c main_arg2) (V m c main_arg3) (V m c main_arg4)) (?_ : ix2 (row t (j 0)) (j 1) = (((cfg0.win 5).blk t).view.emb j))))
  · exact pure5 _ _ _ _ _ _ _ _ _ _ (row t) (blk0 m c t) (blk1 m c t) (blk2 m c t) (blk3 m c t) (blk4 m c t) (j 0) (j 1)
  · funext a; apply Fin.ext
    match a with
    | ⟨0, _⟩ => show t.val * 1024 + (j 0).val = win0_5.index t (0 : Fin 2) * 1024 + 1 * (j 0).val; omega
    | ⟨1, _⟩ => show (j 1).val = win0_5.index t (1 : Fin 2) * 1024 + 1 * (j 1).val; omega

theorem onto5 : ∀ p0 : Fin 4, ∃ t : Fin cfg0.N, win0_5.index t = ![p0.val, 0] :=
  (by decide +kernel : ∀ p0 : Fin 4, ∃ t : Fin grid0.N, win0_5.index t = ![p0.val, 0])

/-- Every place of the result is in some point's block. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ := onto5 ⟨(i 0).val / 1024, by omega⟩
  have q0 : win0_5.index t (0 : Fin 2) = (i 0).val / 1024 := congrFun ht 0
  have q1 : win0_5.index t (1 : Fin 2) = 0 := congrFun ht 1
  refine ⟨t, flush0_5 _, ?_⟩
  show i ∈ ((View.whole main_v0_0).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

theorem final5 (c : Dev nD) : (dats m 0 c).arrAt 5 cfg0.N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (val_main_v44 (F := Ideal) (V m c main_arg0) (V m c main_arg1) (V m c main_arg2) (V m c main_arg3) (V m c main_arg4)) (fun t _ => flushed_eq5 m c t) cover5

theorem at6 (c : Dev nD) (t : Fin cfg0.N) : (outsAt0 m c t.val t.isLt).2.1 = k0_pay1 (F := Ideal) (k0_pay9 (F := Ideal) (iblk m c 0 t) (iblk m c 1 t) (iblk m c 2 t) (iblk m c 3 t) (iblk m c 4 t)) := by
  by_cases h0 : t.val % 4 = 0
  · rw [outsAt0_A m c t h0]; dsimp only; rw [out_A_6]
  · rw [outsAt0_B m c t h0]; dsimp only; rw [out_B_6]

/-- What a point writes back is its block of the reference's result. -/
theorem flushed_eq6 (c : Dev nD) (t : Fin cfg0.N) :
    (dats m 0 c).flushed 6 t = ((cfg0.win 6).blk t).view.read (Elt Ideal) (val_main_v45 (F := Ideal) (V m c main_arg0) (V m c main_arg1) (V m c main_arg2) (V m c main_arg3) (V m c main_arg4)) := by
  rw [flushed6, at6]
  obtain ⟨f00, f01, f10, f11, f12, f20, f21, f30, f31, f40, f41, f50, f51, f60, f61, f70, f71, f80, f81⟩ := idx_facts t
  funext j
  refine (congrArg (k0_pay1 (F := Ideal) (k0_pay9 (F := Ideal) (iblk m c 0 t) (iblk m c 1 t) (iblk m c 2 t) (iblk m c 3 t) (iblk m c 4 t))) (eq_ix2 (n0 := 1024) (n1 := 1024) j)).trans
    (Eq.trans ?_ (congrArg (val_main_v45 (F := Ideal) (V m c main_arg0) (V m c main_arg1) (V m c main_arg2) (V m c main_arg3) (V m c main_arg4)) (?_ : ix2 (row t (j 0)) (j 1) = (((cfg0.win 6).blk t).view.emb j))))
  · exact pure5 _ _ _ _ _ _ _ _ _ _ (row t) (blk0 m c t) (blk1 m c t) (blk2 m c t) (blk3 m c t) (blk4 m c t) (j 0) (j 1)
  · funext a; apply Fin.ext
    match a with
    | ⟨0, _⟩ => show t.val * 1024 + (j 0).val = win0_6.index t (0 : Fin 2) * 1024 + 1 * (j 0).val; omega
    | ⟨1, _⟩ => show (j 1).val = win0_6.index t (1 : Fin 2) * 1024 + 1 * (j 1).val; omega

theorem onto6 : ∀ p0 : Fin 4, ∃ t : Fin cfg0.N, win0_6.index t = ![p0.val, 0] :=
  (by decide +kernel : ∀ p0 : Fin 4, ∃ t : Fin grid0.N, win0_6.index t = ![p0.val, 0])

/-- Every place of the result is in some point's block. -/
theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ht⟩ := onto6 ⟨(i 0).val / 1024, by omega⟩
  have q0 : win0_6.index t (0 : Fin 2) = (i 0).val / 1024 := congrFun ht 0
  have q1 : win0_6.index t (1 : Fin 2) = 0 := congrFun ht 1
  refine ⟨t, flush0_6 _, ?_⟩
  show i ∈ ((View.whole main_v0_1).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

theorem final6 (c : Dev nD) : (dats m 0 c).arrAt 6 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (val_main_v45 (F := Ideal) (V m c main_arg0) (V m c main_arg1) (V m c main_arg2) (V m c main_arg3) (V m c main_arg4)) (fun t _ => flushed_eq6 m c t) cover6

/-- A row block's part of a sum over all rows; nothing past the last block. -/
def part (f : Fin 4096 → EReal) (n : ℕ) : EReal := if h : n < cfg0.N then ∑ r : Fin 1024, f (row ⟨n, h⟩ r) else 0

theorem sum_parts (f : Fin 4096 → EReal) : ∑ n ∈ Finset.range 4, part f n = ∑ i : Fin 4096, f i := by
  rw [Fin.sum_univ_tiles 4 1024 rfl f, Finset.sum_range]
  refine Finset.sum_congr rfl fun n _ => ?_
  unfold part
  rw [dif_pos (lt_of_lt_of_eq n.isLt (show 4 = cfg0.N from N_0.symm))]
  rfl

/-- After point `n` the carried row holds the sum over the row blocks up to it. -/
theorem at7 (c : Dev nD) (j : Fin 1024) : ∀ (n : ℕ) (h : n < cfg0.N),
    (outsAt0 m c n h).2.2.1 (ix2 0 j) = ∑ k ∈ Finset.range (n + 1), part (fun i => gainTerm (V m c main_arg0) (V m c main_arg1) (V m c main_arg2) i j) k
  | 0, h => by
    rw [outsAt0_A m c ⟨0, h⟩ rfl]
    dsimp only
    rw [out_A_7, add4, zero2, zero_add, Finset.sum_range_one, part, dif_pos h]
    have t : Fin cfg0.N := ⟨0, h⟩
    exact pure7 _ _ _ _ _ _ _ _ _ _ (row ⟨0, h⟩) (blk0 m c ⟨0, h⟩) (blk1 m c ⟨0, h⟩) (blk2 m c ⟨0, h⟩) (blk3 m c ⟨0, h⟩) (blk4 m c ⟨0, h⟩) j
  | n + 1, h => by
    have hN : cfg0.N = 4 := N_0
    have hB : ¬(⟨n + 1, h⟩ : Fin cfg0.N).val % 4 = 0 := by dsimp only; omega
    rw [outsAt0_B m c ⟨n + 1, h⟩ hB]
    dsimp only
    rw [out_B_7, add4, Finset.sum_range_succ, part, dif_pos h]
    refine congrArg₂ (· + ·) (at7 c j n _) ?_
    exact pure7 _ _ _ _ _ _ _ _ _ _ (row ⟨n + 1, h⟩) (blk0 m c ⟨n + 1, h⟩) (blk1 m c ⟨n + 1, h⟩) (blk2 m c ⟨n + 1, h⟩) (blk3 m c ⟨n + 1, h⟩) (blk4 m c ⟨n + 1, h⟩) j

theorem flushed_eq7 (c : Dev nD) (t : Fin cfg0.N) (hf : (cfg0.win 7).flush t = true) :
    (dats m 0 c).flushed 7 t = ((cfg0.win 7).blk t).view.read (Elt Ideal) (val_main_v43 (F := Ideal) (V m c main_arg0) (V m c main_arg1) (V m c main_arg2)) := by
  have hN : cfg0.N = 4 := N_0
  have h7 : t.val = 3 := by have := (flush0_7 t).mp hf; have := t.isLt; omega
  rw [flushed7]
  obtain ⟨f00, f01, f10, f11, f12, f20, f21, f30, f31, f40, f41, f50, f51, f60, f61, f70, f71, f80, f81⟩ := idx_facts t
  funext j
  refine (congrArg ((outsAt0 m c t.val t.isLt).2.2.1) (?_ : j = ix2 0 (j 1))).trans
    (Eq.trans ?_ (congrArg (val_main_v43 (F := Ideal) (V m c main_arg0) (V m c main_arg1) (V m c main_arg2)) (?_ : ix2 0 (j 1) = (((cfg0.win 7).blk t).view.emb j))))
  · have h0 : (j 0).val < 1 := (j 0).isLt
    funext a; apply Fin.ext
    match a with
    | ⟨0, _⟩ => show (j 0).val = 0; omega
    | ⟨1, _⟩ => rfl
  · have e : ∀ k : Fin 1024, (outsAt0 m c t.val t.isLt).2.2.1 (ix2 0 k) = val_main_v43 (F := Ideal) (V m c main_arg0) (V m c main_arg1) (V m c main_arg2) (ix2 0 k) := fun k => by
      rw [at7, ref7 _ _ _ (V m c main_arg3) (V m c main_arg4), ← sum_parts, h7]
    exact e (j 1)
  · have h0 : (j 0).val < 1 := (j 0).isLt
    funext a; apply Fin.ext
    match a with
    | ⟨0, _⟩ => show 0 = win0_7.index t (0 : Fin 2) * 1 + 1 * (j 0).val; omega
    | ⟨1, _⟩ => show (j 1).val = win0_7.index t (1 : Fin 2) * 1024 + 1 * (j 1).val; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨f00, f01, f10, f11, f12, f20, f21, f30, f31, f40, f41, f50, f51, f60, f61, f70, f71, f80, f81⟩ := idx_facts t0_3
  refine ⟨t0_3, (flush0_7 t0_3).mpr rfl, ?_⟩
  show i ∈ ((View.whole main_v0_2).slice (win0_7.rect t0_3)).set
  rw [View.set_slice_whole, Rect.mem_set_unit]
  intro a
  match a with
  | ⟨0, _⟩ => show win0_7.index t0_3 (0 : Fin 2) * 1 ≤ (i 0).val ∧ (i 0).val < win0_7.index t0_3 (0 : Fin 2) * 1 + 1; omega
  | ⟨1, _⟩ => show win0_7.index t0_3 (1 : Fin 2) * 1024 ≤ (i 1).val ∧ (i 1).val < win0_7.index t0_3 (1 : Fin 2) * 1024 + 1024; omega

theorem final7 (c : Dev nD) : (dats m 0 c).arrAt 7 cfg0.N = val_main_v43 (F := Ideal) (m ((c : Thread nD τ).loc main_arg0)) (m ((c : Thread nD τ).loc main_arg1)) (m ((c : Thread nD τ).loc main_arg2)) :=
  (dats m 0 c).arrAt_eq_of_cover 7 (val_main_v43 (F := Ideal) (V m c main_arg0) (V m c main_arg1) (V m c main_arg2)) (fun t hf => flushed_eq7 m c t hf) cover7

/-- After point `n` the carried row holds the sum over the row blocks up to it. -/
theorem at8 (c : Dev nD) (j : Fin 1024) : ∀ (n : ℕ) (h : n < cfg0.N),
    (outsAt0 m c n h).2.2.2 (ix2 0 j) = ∑ k ∈ Finset.range (n + 1), part (fun i => val_main_v44 (F := Ideal) (V m c main_arg0) (V m c main_arg1) (V m c main_arg2) (V m c main_arg3) (V m c main_arg4) (ix2 i j)) k
  | 0, h => by
    rw [outsAt0_A m c ⟨0, h⟩ rfl]
    dsimp only
    rw [out_A_8, add5, zero3, zero_add, Finset.sum_range_one, part, dif_pos h]
    have t : Fin cfg0.N := ⟨0, h⟩
    exact pure8 _ _ _ _ _ _ _ _ _ _ (row ⟨0, h⟩) (blk0 m c ⟨0, h⟩) (blk1 m c ⟨0, h⟩) (blk2 m c ⟨0, h⟩) (blk3 m c ⟨0, h⟩) (blk4 m c ⟨0, h⟩) j
  | n + 1, h => by
    have hN : cfg0.N = 4 := N_0
    have hB : ¬(⟨n + 1, h⟩ : Fin cfg0.N).val % 4 = 0 := by dsimp only; omega
    rw [outsAt0_B m c ⟨n + 1, h⟩ hB]
    dsimp only
    rw [out_B_8, add5, Finset.sum_range_succ, part, dif_pos h]
    refine congrArg₂ (· + ·) (at8 c j n _) ?_
    exact pure8 _ _ _ _ _ _ _ _ _ _ (row ⟨n + 1, h⟩) (blk0 m c ⟨n + 1, h⟩) (blk1 m c ⟨n + 1, h⟩) (blk2 m c ⟨n + 1, h⟩) (blk3 m c ⟨n + 1, h⟩) (blk4 m c ⟨n + 1, h⟩) j

theorem flushed_eq8 (c : Dev nD) (t : Fin cfg0.N) (hf : (cfg0.win 8).flush t = true) :
    (dats m 0 c).flushed 8 t = ((cfg0.win 8).blk t).view.read (Elt Ideal) (val_main_v47 (F := Ideal) (V m c main_arg0) (V m c main_arg1) (V m c main_arg2) (V m c main_arg3) (V m c main_arg4)) := by
  have hN : cfg0.N = 4 := N_0
  have h7 : t.val = 3 := by have := (flush0_8 t).mp hf; have := t.isLt; omega
  rw [flushed8]
  obtain ⟨f00, f01, f10, f11, f12, f20, f21, f30, f31, f40, f41, f50, f51, f60, f61, f70, f71, f80, f81⟩ := idx_facts t
  funext j
  refine (congrArg ((outsAt0 m c t.val t.isLt).2.2.2) (?_ : j = ix2 0 (j 1))).trans
    (Eq.trans ?_ (congrArg (val_main_v47 (F := Ideal) (V m c main_arg0) (V m c main_arg1) (V m c main_arg2) (V m c main_arg3) (V m c main_arg4)) (?_ : ix2 0 (j 1) = (((cfg0.win 8).blk t).view.emb j))))
  · have h0 : (j 0).val < 1 := (j 0).isLt
    funext a; apply Fin.ext
    match a with
    | ⟨0, _⟩ => show (j 0).val = 0; omega
    | ⟨1, _⟩ => rfl
  · have e : ∀ k : Fin 1024, (outsAt0 m c t.val t.isLt).2.2.2 (ix2 0 k) = val_main_v47 (F := Ideal) (V m c main_arg0) (V m c main_arg1) (V m c main_arg2) (V m c main_arg3) (V m c main_arg4) (ix2 0 k) := fun k => by
      rw [at8, ref8, ← sum_parts, h7]
    exact e (j 1)
  · have h0 : (j 0).val < 1 := (j 0).isLt
    funext a; apply Fin.ext
    match a with
    | ⟨0, _⟩ => show 0 = win0_8.index t (0 : Fin 2) * 1 + 1 * (j 0).val; omega
    | ⟨1, _⟩ => show (j 1).val = win0_8.index t (1 : Fin 2) * 1024 + 1 * (j 1).val; omega

theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  obtain ⟨f00, f01, f10, f11, f12, f20, f21, f30, f31, f40, f41, f50, f51, f60, f61, f70, f71, f80, f81⟩ := idx_facts t0_3
  refine ⟨t0_3, (flush0_8 t0_3).mpr rfl, ?_⟩
  show i ∈ ((View.whole main_v0_3).slice (win0_8.rect t0_3)).set
  rw [View.set_slice_whole, Rect.mem_set_unit]
  intro a
  match a with
  | ⟨0, _⟩ => show win0_8.index t0_3 (0 : Fin 2) * 1 ≤ (i 0).val ∧ (i 0).val < win0_8.index t0_3 (0 : Fin 2) * 1 + 1; omega
  | ⟨1, _⟩ => show win0_8.index t0_3 (1 : Fin 2) * 1024 ≤ (i 1).val ∧ (i 1).val < win0_8.index t0_3 (1 : Fin 2) * 1024 + 1024; omega

theorem final8 (c : Dev nD) : (dats m 0 c).arrAt 8 cfg0.N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 8 (val_main_v47 (F := Ideal) (V m c main_arg0) (V m c main_arg1) (V m c main_arg2) (V m c main_arg3) (V m c main_arg4)) (fun t hf => flushed_eq8 m c t hf) cover8

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0_0) = val_main_v44 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_v0_1) = val_main_v45 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_v0_2) = val_main_v43 (F := Ideal) (m (((c.tc : Thread nD τ)).loc main_arg0)) (m (((c.tc : Thread nD τ)).loc main_arg1)) (m (((c.tc : Thread nD τ)).loc main_arg2))
      ∧ r.2.mem ((c : Thread nD τ).loc main_v0_3) = val_main_v47 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final5 m c), ((h c).2.1).trans (final6 m c), ((h c).2.2.1).trans (final7 m c), ((h c).2.2.2.1).trans (final8 m c), (h c).2.2.2.2⟩) (run_blocks m ρ)

end Cert.KvDxIdeal.Value

namespace Cert.Proof.KvDx

open Cert.KvDxRefIdeal.Read

theorem frame : Cert.quiescent_KvDx := fun m ρ _ => Cert.KvDx.Gen.frame m ρ
theorem frame_ideal : Cert.quiescent_KvDxIdeal := fun m ρ _ => Cert.KvDxIdeal.Gen.frame m ρ
theorem frame_ref : Cert.quiescent_KvDxRefIdeal := fun m ρ _ =>
  (θ_run Cert.KvDxRefIdeal.defs _ _).mono (fun r h => ⟨fun c => (h c).2.2.2.2, Idealize.ShloMosaic.sem_eq_zero_of_no_sems (by decide) r.2⟩)
    (Cert.KvDxRefIdeal.Value.run (F := Ideal) m ρ)

/-- Over the reals the kernel's results are the reference's. -/
theorem algebraic : Cert.algebraic_KvDxIdeal_KvDxRefIdeal := by
  intro m ρ m' ρ' _ hagree
  refine ⟨fun c => val_main_v44 (F := Ideal) (m (((c.tc : Thread Cert.KvDxIdeal.nD Cert.KvDxIdeal.τ)).loc Cert.KvDxIdeal.main_arg0)) (m (((c.tc : Thread Cert.KvDxIdeal.nD Cert.KvDxIdeal.τ)).loc Cert.KvDxIdeal.main_arg1)) (m (((c.tc : Thread Cert.KvDxIdeal.nD Cert.KvDxIdeal.τ)).loc Cert.KvDxIdeal.main_arg2)) (m (((c.tc : Thread Cert.KvDxIdeal.nD Cert.KvDxIdeal.τ)).loc Cert.KvDxIdeal.main_arg3)) (m (((c.tc : Thread Cert.KvDxIdeal.nD Cert.KvDxIdeal.τ)).loc Cert.KvDxIdeal.main_arg4)), fun c => val_main_v45 (F := Ideal) (m (((c.tc : Thread Cert.KvDxIdeal.nD Cert.KvDxIdeal.τ)).loc Cert.KvDxIdeal.main_arg0)) (m (((c.tc : Thread Cert.KvDxIdeal.nD Cert.KvDxIdeal.τ)).loc Cert.KvDxIdeal.main_arg1)) (m (((c.tc : Thread Cert.KvDxIdeal.nD Cert.KvDxIdeal.τ)).loc Cert.KvDxIdeal.main_arg2)) (m (((c.tc : Thread Cert.KvDxIdeal.nD Cert.KvDxIdeal.τ)).loc Cert.KvDxIdeal.main_arg3)) (m (((c.tc : Thread Cert.KvDxIdeal.nD Cert.KvDxIdeal.τ)).loc Cert.KvDxIdeal.main_arg4)), fun c => val_main_v43 (F := Ideal) (m (((c.tc : Thread Cert.KvDxIdeal.nD Cert.KvDxIdeal.τ)).loc Cert.KvDxIdeal.main_arg0)) (m (((c.tc : Thread Cert.KvDxIdeal.nD Cert.KvDxIdeal.τ)).loc Cert.KvDxIdeal.main_arg1)) (m (((c.tc : Thread Cert.KvDxIdeal.nD Cert.KvDxIdeal.τ)).loc Cert.KvDxIdeal.main_arg2)), fun c => val_main_v47 (F := Ideal) (m (((c.tc : Thread Cert.KvDxIdeal.nD Cert.KvDxIdeal.τ)).loc Cert.KvDxIdeal.main_arg0)) (m (((c.tc : Thread Cert.KvDxIdeal.nD Cert.KvDxIdeal.τ)).loc Cert.KvDxIdeal.main_arg1)) (m (((c.tc : Thread Cert.KvDxIdeal.nD Cert.KvDxIdeal.τ)).loc Cert.KvDxIdeal.main_arg2)) (m (((c.tc : Thread Cert.KvDxIdeal.nD Cert.KvDxIdeal.τ)).loc Cert.KvDxIdeal.main_arg3)) (m (((c.tc : Thread Cert.KvDxIdeal.nD Cert.KvDxIdeal.τ)).loc Cert.KvDxIdeal.main_arg4)),
    Cert.KvDxIdeal.Value.run m ρ, ?_⟩
  exact (θ_run Cert.KvDxRefIdeal.defs _ _).mono (fun _ h c => ⟨((h c).1).trans ((val_main_v44_eq (F := Ideal) m' c).trans (by rw [(hagree c).1, (hagree c).2.1, (hagree c).2.2.1, (hagree c).2.2.2.1, (hagree c).2.2.2.2])),
      ((h c).2.1).trans ((val_main_v45_eq (F := Ideal) m' c).trans (by rw [(hagree c).1, (hagree c).2.1, (hagree c).2.2.1, (hagree c).2.2.2.1, (hagree c).2.2.2.2])),
      ((h c).2.2.1).trans ((val_main_v43_eq (F := Ideal) _ _ _).trans (by rw [(hagree c).1, (hagree c).2.1, (hagree c).2.2.1])),
      ((h c).2.2.2.1).trans ((val_main_v47_eq (F := Ideal) m' c).trans (by rw [(hagree c).1, (hagree c).2.1, (hagree c).2.2.1, (hagree c).2.2.2.1, (hagree c).2.2.2.2])),
      (h c).2.2.2.2⟩)
    (Cert.KvDxRefIdeal.Value.run (F := Ideal) m' ρ')

end Cert.Proof.KvDx

end
-- ==== Proof.KvDw.lean ====
module

public import proofs.«01_k».proof.Defs
public import proofs.«01_k».proof.Proof.Gen.KvDw
public import proofs.«01_k».proof.Proof.Gen.KvDw.Frame
public import proofs.«01_k».proof.Proof.Gen.KvDwIdeal.Value
public import proofs.«01_k».proof.Proof.Gen.KvDwRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The gradient of the shared k, v projection. -/

namespace Cert.KvDwIdeal.Value

open Cert.KvDwIdeal Cert.KvDwIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure2 (x0 : Vec Ideal S4096x512 .bf16) (x1 : Vec Ideal S256x4096 .bf16)
    (X0 : Vec Ideal S4096x1024 .bf16) (X1 : Vec Ideal S256x4096 .bf16)
    (j0 : Fin 1) (j1 : Fin 512) (j2 : Fin 256) (i0 : Fin 1) (i1 : Fin 1024) (i2 : Fin 256)
    (h0 : ∀ (k : Fin 4096), x0 (ix2 k j1) = X0 (ix2 k i1)) (h1 : ∀ (k : Fin 4096), x1 (ix2 j2 k) = X1 (ix2 i2 k)) :
    k0_pay1 (F := Ideal) x0 x1 (ix3 j0 j1 j2)
      = Cert.KvDwRefIdeal.Read.val_main_v9 (F := Ideal) X0 X1 (ix3 i0 i1 i2) := by
  pointwise [k0_pay1, Cert.KvDwRefIdeal.Read.val_main_v0, Cert.KvDwRefIdeal.Read.val_main_v1, Cert.KvDwRefIdeal.Read.val_main_cst, Cert.KvDwRefIdeal.Read.val_main_v2, Cert.KvDwRefIdeal.Read.val_main_v3, Cert.KvDwRefIdeal.Read.val_main_v4, Cert.KvDwRefIdeal.Read.val_main_v5, Cert.KvDwRefIdeal.Read.val_main_v6, Cert.KvDwRefIdeal.Read.val_main_v7, Cert.KvDwRefIdeal.Read.val_main_v8, Cert.KvDwRefIdeal.Read.val_main_v9]
  simp only [h0, h1, mul_comm]

variable (m : (ℓ : Loc nD τ sig) → Buf (Elt Ideal) ℓ) (ρ : Dev nD → PrngReg)

theorem idx_facts2 : ∀ t : Fin cfg0.N,
    win0_0.index t (0 : Fin 2) = 0
    ∧ win0_0.index t (1 : Fin 2) = win0_2.index t (1 : Fin 3)
    ∧ win0_1.index t (0 : Fin 2) = win0_2.index t (2 : Fin 3)
    ∧ win0_1.index t (1 : Fin 2) = 0
    ∧ win0_2.index t (0 : Fin 3) = 0 :=
  (by decide +kernel : ∀ t : Fin grid0.N, _)

/-- What a point writes back is its block of the reference's result. -/
theorem flushed_eq2 (c : Dev nD) (t : Fin cfg0.N) :
    (dats m 0 c).flushed 2 t = ((cfg0.win 2).blk t).view.read (Elt Ideal) (Cert.KvDwRefIdeal.Read.val_main_v9 (F := Ideal) (V m c main_arg0) (V m c main_arg1)) := by
  rw [flushed2]; unfold out0_2
  rw [View.canon_unit_zero hz3, View.ld_unit_zero hz2, View.ld_unit_zero hz2]
  obtain ⟨f0, f1, f2, f3, f4⟩ := idx_facts2 t
  funext j
  refine (congrArg (k0_pay1 (F := Ideal) (iblk m c 0 t) (iblk m c 1 t)) (eq_ix3 (n0 := 1) (n1 := 512) (n2 := 256) j)).trans
    (Eq.trans ?_ (congrArg (Cert.KvDwRefIdeal.Read.val_main_v9 (F := Ideal) (V m c main_arg0) (V m c main_arg1)) (eq_ix3 (n0 := 1) (n1 := 1024) (n2 := 256) (((cfg0.win 2).blk t).view.emb j)).symm))
  refine pure2 _ _ _ _ _ _ _ _ _ _ ?_ ?_
  · intro k
    show V m c main_arg0 (((cfg0.win 0).blk t).view.emb (ix2 k (j 1))) = V m c main_arg0 _
    congr 1; funext a; apply Fin.ext
    match a with
    | ⟨0, _⟩ => show win0_0.index t (0 : Fin 2) * 4096 + 1 * k.val = k.val; omega
    | ⟨1, _⟩ => show win0_0.index t (1 : Fin 2) * 512 + 1 * (j 1).val = win0_2.index t (1 : Fin 3) * 512 + 1 * (j 1).val; omega
  · intro k
    show V m c main_arg1 (((cfg0.win 1).blk t).view.emb (ix2 (j 2) k)) = V m c main_arg1 _
    congr 1; funext a; apply Fin.ext
    match a with
    | ⟨0, _⟩ => show win0_1.index t (0 : Fin 2) * 256 + 1 * (j 2).val = win0_2.index t (2 : Fin 3) * 256 + 1 * (j 2).val; omega
    | ⟨1, _⟩ => show win0_1.index t (1 : Fin 2) * 4096 + 1 * k.val = k.val; omega

theorem onto2 : ∀ (p0 : Fin 1) (p1 : Fin 2) (p2 : Fin 1), ∃ t : Fin cfg0.N, win0_2.index t = ![p0.val, p1.val, p2.val] :=
  (by decide +kernel : ∀ (p0 : Fin 1) (p1 : Fin 2) (p2 : Fin 1), ∃ t : Fin grid0.N, win0_2.index t = ![p0.val, p1.val, p2.val])

/-- Every place of the result is in some point's block. -/
theorem cover2 (i : S1x1024x256.Idx) : ∃ t : Fin cfg0.N, (cfg0.win 2).flush t = true ∧ i ∈ ((cfg0.win 2).blk t).view.set := by
  have h0 : (i 0).val < 1 := (i 0).isLt
  have h1 : (i 1).val < 1024 := (i 1).isLt
  have h2 : (i 2).val < 256 := (i 2).isLt
  obtain ⟨t, ht⟩ := onto2 ⟨(i 0).val / 1, by omega⟩ ⟨(i 1).val / 512, by omega⟩ ⟨(i 2).val / 256, by omega⟩
  have q0 : win0_2.index t (0 : Fin 3) = (i 0).val / 1 := congrFun ht 0
  have q1 : win0_2.index t (1 : Fin 3) = (i 1).val / 512 := congrFun ht 1
  have q2 : win0_2.index t (2 : Fin 3) = (i 2).val / 256 := congrFun ht 2
  refine ⟨t, flush0_2 _, ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

theorem final2 (c : Dev nD) : (dats m 0 c).arrAt 2 cfg0.N = Cert.KvDwRefIdeal.Read.val_main_v9 (F := Ideal) (m ((c : Thread nD τ).loc main_arg0)) (m ((c : Thread nD τ).loc main_arg1)) :=
  (dats m 0 c).arrAt_eq_of_cover 2 (Cert.KvDwRefIdeal.Read.val_main_v9 (F := Ideal) (V m c main_arg0) (V m c main_arg1)) (fun t _ => flushed_eq2 m c t) cover2

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.KvDwRefIdeal.Read.val_main_v9 (F := Ideal) (m (((c.tc : Thread nD τ)).loc main_arg0)) (m (((c.tc : Thread nD τ)).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), (h c).2⟩) (run_blocks m ρ)

end Cert.KvDwIdeal.Value

namespace Cert.Proof.KvDw

theorem frame : Cert.quiescent_KvDw := fun m ρ _ => Cert.KvDw.Gen.frame m ρ
theorem frame_ideal : Cert.quiescent_KvDwIdeal := fun m ρ _ => Cert.KvDwIdeal.Gen.frame m ρ
theorem frame_ref : Cert.quiescent_KvDwRefIdeal := fun m ρ _ =>
  (θ_run Cert.KvDwRefIdeal.defs _ _).mono (fun r h => ⟨fun c => (h c).2, Idealize.ShloMosaic.sem_eq_zero_of_no_sems (by decide) r.2⟩)
    (Cert.KvDwRefIdeal.Value.run (F := Ideal) m ρ)

/-- Over the reals the kernel's results are the reference's. -/
theorem algebraic : Cert.algebraic_KvDwIdeal_KvDwRefIdeal := by
  intro m ρ m' ρ' _ hagree
  refine ⟨fun c => Cert.KvDwRefIdeal.Read.val_main_v9 (F := Ideal) (m (((c.tc : Thread Cert.KvDwIdeal.nD Cert.KvDwIdeal.τ)).loc Cert.KvDwIdeal.main_arg0)) (m (((c.tc : Thread Cert.KvDwIdeal.nD Cert.KvDwIdeal.τ)).loc Cert.KvDwIdeal.main_arg1)),
    Cert.KvDwIdeal.Value.run m ρ, ?_⟩
  exact (θ_run Cert.KvDwRefIdeal.defs _ _).mono (fun _ h c => ⟨((h c).1).trans ((Cert.KvDwRefIdeal.Read.val_main_v9_eq (F := Ideal) _ _).trans (by rw [(hagree c).1, (hagree c).2])),
      (h c).2⟩)
    (Cert.KvDwRefIdeal.Value.run (F := Ideal) m' ρ')

end Cert.Proof.KvDw

end
-- ==== Proof.BQFwd.lean ====
module

public import proofs.«01_k».proof.Defs
public import proofs.«01_k».proof.Proof.Gen.BQFwd
public import proofs.«01_k».proof.Proof.Gen.BQFwd.Frame
public import proofs.«01_k».proof.Proof.Gen.BQFwdIdeal.Value
public import proofs.«01_k».proof.Proof.Gen.BQFwdRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The windowed attention's q projection with its bias, written transposed. -/

namespace Cert.BQFwdIdeal.Value

open Cert.BQFwdIdeal Cert.BQFwdIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure3 (x1 : Vec Ideal S1x1024x1024 .bf16) (x0 : Vec Ideal S2048x1024 .bf16) (x2 : Vec Ideal S1024x1 .f32)
    (X1 : Vec Ideal S2x1024x1024 .bf16) (X0 : Vec Ideal S4096x1024 .bf16) (X2 : Vec Ideal S1024x1 .f32)
    (j0 : Fin 1024) (j1 : Fin 2048) (i0 : Fin 1024) (i1 : Fin 4096)
    (h1 : ∀ (k : Fin 1024), x1 (ix3 0 k j0) = X1 (ix3 0 k i0)) (h0 : ∀ (k : Fin 1024), x0 (ix2 j1 k) = X0 (ix2 i1 k)) (h2 : x2 (ix2 j0 0) = X2 (ix2 i0 0)) :
    k0_pay1 (F := Ideal) x1 x0 x2 (ix2 j0 j1)
      = Cert.BQFwdRefIdeal.Read.val_main_v10 (F := Ideal) X0 X1 X2 (ix2 i0 i1) := by
  pointwise [k0_pay1, Cert.BQFwdRefIdeal.Read.val_main_v0, Cert.BQFwdRefIdeal.Read.val_main_v1, Cert.BQFwdRefIdeal.Read.val_main_v2, Cert.BQFwdRefIdeal.Read.val_main_v3, Cert.BQFwdRefIdeal.Read.val_main_v4, Cert.BQFwdRefIdeal.Read.val_main_v5, Cert.BQFwdRefIdeal.Read.val_main_v6, Cert.BQFwdRefIdeal.Read.val_main_v7, Cert.BQFwdRefIdeal.Read.val_main_v8, Cert.BQFwdRefIdeal.Read.val_main_v9, Cert.BQFwdRefIdeal.Read.val_main_v10]
  simp only [h0, h1, h2, mul_comm, add_comm]

variable (m : (ℓ : Loc nD τ sig) → Buf (Elt Ideal) ℓ) (ρ : Dev nD → PrngReg)

theorem idx_facts3 : ∀ t : Fin cfg0.N,
    win0_1.index t (0 : Fin 3) = 0
    ∧ win0_1.index t (1 : Fin 3) = 0
    ∧ win0_1.index t (2 : Fin 3) = win0_3.index t (0 : Fin 2)
    ∧ win0_0.index t (0 : Fin 2) = win0_3.index t (1 : Fin 2)
    ∧ win0_0.index t (1 : Fin 2) = 0
    ∧ win0_2.index t (0 : Fin 2) = win0_3.index t (0 : Fin 2)
    ∧ win0_2.index t (1 : Fin 2) = 0 :=
  (by decide +kernel : ∀ t : Fin grid0.N, _)

/-- What a point writes back is its block of the reference's result. -/
theorem flushed_eq3 (c : Dev nD) (t : Fin cfg0.N) :
    (dats m 0 c).flushed 3 t = ((cfg0.win 3).blk t).view.read (Elt Ideal) (Cert.BQFwdRefIdeal.Read.val_main_v10 (F := Ideal) (V m c main_arg0) (V m c main_arg1) (V m c main_arg2)) := by
  rw [flushed3]; unfold out0_3
  rw [View.canon_unit_zero hz2, View.ld_unit_zero hz3, View.ld_unit_zero hz2, View.ld_unit_zero hz2]
  obtain ⟨f0, f1, f2, f3, f4, f5, f6⟩ := idx_facts3 t
  funext j
  refine (congrArg (k0_pay1 (F := Ideal) (iblk m c 1 t) (iblk m c 0 t) (iblk m c 2 t)) (eq_ix2 (n0 := 1024) (n1 := 2048) j)).trans
    (Eq.trans ?_ (congrArg (Cert.BQFwdRefIdeal.Read.val_main_v10 (F := Ideal) (V m c main_arg0) (V m c main_arg1) (V m c main_arg2)) (eq_ix2 (n0 := 1024) (n1 := 4096) (((cfg0.win 3).blk t).view.emb j)).symm))
  refine pure3 _ _ _ _ _ _ _ _ _ _ ?_ ?_ ?_
  · intro k
    show V m c main_arg1 (((cfg0.win 1).blk t).view.emb (ix3 0 k (j 0))) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 1024 + 1 * (j 0).val = win0_3.index t (0 : Fin 2) * 1024 + 1 * (j 0).val; omega
  · intro k
    show V m c main_arg0 (((cfg0.win 0).blk t).view.emb (ix2 (j 1) k)) = V m c main_arg0 _
    congr 1; funext a; apply Fin.ext
    match a with
    | ⟨0, _⟩ => show win0_0.index t (0 : Fin 2) * 2048 + 1 * (j 1).val = win0_3.index t (1 : Fin 2) * 2048 + 1 * (j 1).val; omega
    | ⟨1, _⟩ => show win0_0.index t (1 : Fin 2) * 1024 + 1 * k.val = k.val; omega
  · skip
    show V m c main_arg2 (((cfg0.win 2).blk t).view.emb (ix2 (j 0) 0)) = V m c main_arg2 _
    congr 1; funext a; apply Fin.ext
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 1 + 1 * 0 = 0; omega

theorem onto3 : ∀ (p0 : Fin 1) (p1 : Fin 2), ∃ t : Fin cfg0.N, win0_3.index t = ![p0.val, p1.val] :=
  (by decide +kernel : ∀ (p0 : Fin 1) (p1 : Fin 2), ∃ t : Fin grid0.N, win0_3.index t = ![p0.val, p1.val])

/-- Every place of the result is in some point's block. -/
theorem cover3 (i : S1024x4096.Idx) : ∃ t : Fin cfg0.N, (cfg0.win 3).flush t = true ∧ i ∈ ((cfg0.win 3).blk t).view.set := by
  have h0 : (i 0).val < 1024 := (i 0).isLt
  have h1 : (i 1).val < 4096 := (i 1).isLt
  obtain ⟨t, ht⟩ := onto3 ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 _, ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

theorem final3 (c : Dev nD) : (dats m 0 c).arrAt 3 cfg0.N = Cert.BQFwdRefIdeal.Read.val_main_v10 (F := Ideal) (m ((c : Thread nD τ).loc main_arg0)) (m ((c : Thread nD τ).loc main_arg1)) (m ((c : Thread nD τ).loc main_arg2)) :=
  (dats m 0 c).arrAt_eq_of_cover 3 (Cert.BQFwdRefIdeal.Read.val_main_v10 (F := Ideal) (V m c main_arg0) (V m c main_arg1) (V m c main_arg2)) (fun t _ => flushed_eq3 m c t) cover3

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0) = Cert.BQFwdRefIdeal.Read.val_main_v10 (F := Ideal) (m (((c.tc : Thread nD τ)).loc main_arg0)) (m (((c.tc : Thread nD τ)).loc main_arg1)) (m (((c.tc : Thread nD τ)).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final3 m c), (h c).2⟩) (run_blocks m ρ)

end Cert.BQFwdIdeal.Value

namespace Cert.Proof.BQFwd

theorem frame : Cert.quiescent_BQFwd := fun m ρ _ => Cert.BQFwd.Gen.frame m ρ
theorem frame_ideal : Cert.quiescent_BQFwdIdeal := fun m ρ _ => Cert.BQFwdIdeal.Gen.frame m ρ
theorem frame_ref : Cert.quiescent_BQFwdRefIdeal := fun m ρ _ =>
  (θ_run Cert.BQFwdRefIdeal.defs _ _).mono (fun r h => ⟨fun c => (h c).2, Idealize.ShloMosaic.sem_eq_zero_of_no_sems (by decide) r.2⟩)
    (Cert.BQFwdRefIdeal.Value.run (F := Ideal) m ρ)

/-- Over the reals the kernel's results are the reference's. -/
theorem algebraic : Cert.algebraic_BQFwdIdeal_BQFwdRefIdeal := by
  intro m ρ m' ρ' _ hagree
  refine ⟨fun c => Cert.BQFwdRefIdeal.Read.val_main_v10 (F := Ideal) (m (((c.tc : Thread Cert.BQFwdIdeal.nD Cert.BQFwdIdeal.τ)).loc Cert.BQFwdIdeal.main_arg0)) (m (((c.tc : Thread Cert.BQFwdIdeal.nD Cert.BQFwdIdeal.τ)).loc Cert.BQFwdIdeal.main_arg1)) (m (((c.tc : Thread Cert.BQFwdIdeal.nD Cert.BQFwdIdeal.τ)).loc Cert.BQFwdIdeal.main_arg2)),
    Cert.BQFwdIdeal.Value.run m ρ, ?_⟩
  exact (θ_run Cert.BQFwdRefIdeal.defs _ _).mono (fun _ h c => ⟨((h c).1).trans ((Cert.BQFwdRefIdeal.Read.val_main_v10_eq (F := Ideal) _ _ _).trans (by rw [(hagree c).1, (hagree c).2.1, (hagree c).2.2])),
      (h c).2⟩)
    (Cert.BQFwdRefIdeal.Value.run (F := Ideal) m' ρ')

end Cert.Proof.BQFwd

end
-- ==== Proof.BQDx.lean ====
module

public import proofs.«01_k».proof.Defs
public import proofs.«01_k».proof.Proof.Gen.BQDx
public import proofs.«01_k».proof.Proof.Gen.BQDx.Frame
public import proofs.«01_k».proof.Proof.Gen.BQDxIdeal.Value
public import proofs.«01_k».proof.Proof.Gen.BQDxRefIdeal.Read
public import Idealize.ShloMosaic.Lib.Pointwise
public import Idealize.ShloMosaic.Lib.Quiescent
public import proofs.«01_k».proof.Proof.Norm
public import Idealize.ShloMosaic.Lib.Tactic

@[expose] public section

set_option maxRecDepth 16384

noncomputable section

open Idealize.ShloMosaic Idealize.ShloMosaic.TcCoe Idealize.SL.Sem

/-! The cotangent of the windowed attention's q projection through its norm. The rows come in 4 blocks of 1024; the gain's gradient and the column sums are carried from block to block. -/

namespace Cert.BQDxIdeal.Value

open Cert.BQDxIdeal Cert.BQDxIdeal.Gen Cert.BQDxRefIdeal.Read

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- A block's row of the cotangent is the reference's at the row's place `q` in the whole array. -/
theorem pure5 (x0 : Vec Ideal S1024x1024 .bf16) (x1 : Vec Ideal S1x1024x1024 .bf16) (x2 x3 : Vec Ideal S1024x1024 .f32) (x4 : Vec Ideal S1x1024 .f32)
    (X0 : Vec Ideal S1024x4096 .bf16) (X1 : Vec Ideal S2x1024x1024 .bf16) (X2 X3 : Vec Ideal S4096x1024 .f32) (X4 : Vec Ideal S1x1024 .f32) (q : Fin 1024 → Fin 4096)
    (h0 : ∀ (r : Fin 1024) (k : Fin 1024), x0 (ix2 k r) = X0 (ix2 k (q r))) (h1 : ∀ (l : Fin 1024) (k : Fin 1024), x1 (ix3 0 l k) = X1 (ix3 0 l k))
    (h2 : ∀ (r : Fin 1024) (l : Fin 1024), x2 (ix2 r l) = X2 (ix2 (q r) l)) (h3 : ∀ (r : Fin 1024) (l : Fin 1024), x3 (ix2 r l) = X3 (ix2 (q r) l))
    (h4 : ∀ l : Fin 1024, x4 (ix2 0 l) = X4 (ix2 0 l)) (r : Fin 1024) (j : Fin 1024) :
    k0_pay9 (F := Ideal) x0 x1 x2 x3 x4 (ix2 r j) = val_main_v45 (F := Ideal) X0 X1 X2 X3 X4 (ix2 (q r) j) := by
  pointwise [k0_pay1, k0_pay2, k0_pay3, k0_pay4, k0_pay5, k0_pay6, k0_pay7, k0_pay8, k0_pay9, k0_pay10, k0_pay11, val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_cst_6, val_main_v36, val_main_v37, val_main_cst_7, val_main_v38, val_main_v39, val_main_v40, val_main_v41, val_main_v42, val_main_v43, val_main_v44, val_main_v45, val_main_v46, val_main_cst_8, val_main_v47, val_main_v48]
  simp only [h0, h1, h2, h3, h4]
  rw [Cert.Proof.Norm.norm_bwd (fun k => X2 (ix2 (q r) k)) (fun k => (∑ x, X0 (ix2 x (q r)) * X1 (ix3 0 k x)) * X4 (ix2 0 k)) _ _ _ _ rfl
    (Cert.Proof.Norm.mean_pos fun k => X2 (ix2 (q r) k))]

/-- One row's part of the gain's gradient. -/
def gainTerm (X0 : Vec Ideal S1024x4096 .bf16) (X1 : Vec Ideal S2x1024x1024 .bf16) (X2 : Vec Ideal S4096x1024 .f32) (i : Fin 4096) (j : Fin 1024) : EReal :=
  (∑ k : Fin 1024, X0 (ix2 k i) * X1 (ix3 0 j k)) *
    (X2 (ix2 i j) * Ideal.rsqrt (Ideal.div (∑ x : Fin 1024, X2 (ix2 i x) * X2 (ix2 i x)) (Ideal.ofBits FTy.f32 1149239296#32) + Ideal.ofBits FTy.f32 925353388#32))

theorem pure7 (x0 : Vec Ideal S1024x1024 .bf16) (x1 : Vec Ideal S1x1024x1024 .bf16) (x2 x3 : Vec Ideal S1024x1024 .f32) (x4 : Vec Ideal S1x1024 .f32)
    (X0 : Vec Ideal S1024x4096 .bf16) (X1 : Vec Ideal S2x1024x1024 .bf16) (X2 X3 : Vec Ideal S4096x1024 .f32) (X4 : Vec Ideal S1x1024 .f32) (q : Fin 1024 → Fin 4096)
    (h0 : ∀ (r : Fin 1024) (k : Fin 1024), x0 (ix2 k r) = X0 (ix2 k (q r))) (h1 : ∀ (l : Fin 1024) (k : Fin 1024), x1 (ix3 0 l k) = X1 (ix3 0 l k))
    (h2 : ∀ (r : Fin 1024) (l : Fin 1024), x2 (ix2 r l) = X2 (ix2 (q r) l)) (h3 : ∀ (r : Fin 1024) (l : Fin 1024), x3 (ix2 r l) = X3 (ix2 (q r) l))
    (h4 : ∀ l : Fin 1024, x4 (ix2 0 l) = X4 (ix2 0 l)) (j : Fin 1024) :
    k0_pay10 (F := Ideal) x0 x1 x2 (ix2 0 j) = ∑ r : Fin 1024, gainTerm X0 X1 X2 (q r) j := by
  pointwise [k0_pay1, k0_pay2, k0_pay3, k0_pay4, k0_pay5, k0_pay6, k0_pay7, k0_pay8, k0_pay9, k0_pay10, k0_pay11]
  simp only [h0, h1, h2, gainTerm]

theorem ref7 (X0 : Vec Ideal S1024x4096 .bf16) (X1 : Vec Ideal S2x1024x1024 .bf16) (X2 X3 : Vec Ideal S4096x1024 .f32) (X4 : Vec Ideal S1x1024 .f32) (j : Fin 1024) :
    val_main_v44 (F := Ideal) X0 X1 X2 (ix2 0 j) = ∑ i : Fin 4096, gainTerm X0 X1 X2 i j := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_cst_6, val_main_v36, val_main_v37, val_main_cst_7, val_main_v38, val_main_v39, val_main_v40, val_main_v41, val_main_v42, val_main_v43, val_main_v44, val_main_v45, val_main_v46, val_main_cst_8, val_main_v47, val_main_v48]
  simp only [gainTerm, Finset.univ_unique, Finset.sum_const, Finset.card_singleton, one_smul]
  exact Finset.sum_congr rfl fun i _ => mul_comm _ _

theorem pure8 (x0 : Vec Ideal S1024x1024 .bf16) (x1 : Vec Ideal S1x1024x1024 .bf16) (x2 x3 : Vec Ideal S1024x1024 .f32) (x4 : Vec Ideal S1x1024 .f32)
    (X0 : Vec Ideal S1024x4096 .bf16) (X1 : Vec Ideal S2x1024x1024 .bf16) (X2 X3 : Vec Ideal S4096x1024 .f32) (X4 : Vec Ideal S1x1024 .f32) (q : Fin 1024 → Fin 4096)
    (h0 : ∀ (r : Fin 1024) (k : Fin 1024), x0 (ix2 k r) = X0 (ix2 k (q r))) (h1 : ∀ (l : Fin 1024) (k : Fin 1024), x1 (ix3 0 l k) = X1 (ix3 0 l k))
    (h2 : ∀ (r : Fin 1024) (l : Fin 1024), x2 (ix2 r l) = X2 (ix2 (q r) l)) (h3 : ∀ (r : Fin 1024) (l : Fin 1024), x3 (ix2 r l) = X3 (ix2 (q r) l))
    (h4 : ∀ l : Fin 1024, x4 (ix2 0 l) = X4 (ix2 0 l)) (j : Fin 1024) :
    k0_pay11 (F := Ideal) x0 x1 x2 x3 x4 (ix2 0 j)
      = ∑ r : Fin 1024, val_main_v45 (F := Ideal) X0 X1 X2 X3 X4 (ix2 (q r) j) := by
  have e : k0_pay11 (F := Ideal) x0 x1 x2 x3 x4 (ix2 0 j) = ∑ r : Fin 1024, k0_pay9 (F := Ideal) x0 x1 x2 x3 x4 (ix2 r j) := by
    pointwise [k0_pay1, k0_pay2, k0_pay3, k0_pay4, k0_pay5, k0_pay6, k0_pay7, k0_pay8, k0_pay9, k0_pay10, k0_pay11]
  rw [e]
  exact Finset.sum_congr rfl fun r _ => pure5 x0 x1 x2 x3 x4 X0 X1 X2 X3 X4 q h0 h1 h2 h3 h4 r j

theorem ref8 (X0 : Vec Ideal S1024x4096 .bf16) (X1 : Vec Ideal S2x1024x1024 .bf16) (X2 X3 : Vec Ideal S4096x1024 .f32) (X4 : Vec Ideal S1x1024 .f32) (j : Fin 1024) :
    val_main_v48 (F := Ideal) X0 X1 X2 X3 X4 (ix2 0 j) = ∑ i : Fin 4096, val_main_v45 (F := Ideal) X0 X1 X2 X3 X4 (ix2 i j) := by
  pointwise [val_main_cst_8, val_main_v47, val_main_v48]

theorem add4 (a o : Vec Ideal S1x1024 .f32) (j : Fin 1024) : k0_pay4 (F := Ideal) a o (ix2 0 j) = o (ix2 0 j) + a (ix2 0 j) := by
  pointwise [k0_pay4]
theorem add5 (a o : Vec Ideal S1x1024 .f32) (j : Fin 1024) : k0_pay5 (F := Ideal) a o (ix2 0 j) = o (ix2 0 j) + a (ix2 0 j) := by
  pointwise [k0_pay5]
theorem zero2 (j : Fin 1024) : k0_pay2 (F := Ideal) (ix2 0 j) = 0 := by pointwise [k0_pay2]
theorem zero3 (j : Fin 1024) : k0_pay3 (F := Ideal) (ix2 0 j) = 0 := by pointwise [k0_pay3]
theorem trunc1 (a : Vec Ideal S1024x1024 .f32) : k0_pay1 (F := Ideal) a = a := rfl

section
variable (c : Dev nD) (i : grid0.Coords) (a0 : Memref sig .tc .vmem S1024x1024 .bf16) (w0 : a0.IsWhole) (a1 : Memref sig .tc .vmem S1x1024x1024 .bf16) (w1 : a1.IsWhole) (a2 : Memref sig .tc .vmem S1024x1024 .f32) (w2 : a2.IsWhole) (a3 : Memref sig .tc .vmem S1024x1024 .f32) (w3 : a3.IsWhole) (a4 : Memref sig .tc .vmem S1x1024 .f32) (w4 : a4.IsWhole) (a5 : Memref sig .tc .vmem S1024x1024 .f32) (w5 : a5.IsWhole) (a6 : Memref sig .tc .vmem S1024x1024 .bf16) (w6 : a6.IsWhole) (a7 : Memref sig .tc .vmem S1x1024 .f32) (w7 : a7.IsWhole) (a8 : Memref sig .tc .vmem S1x1024 .f32) (w8 : a8.IsWhole)

theorem out_A_5 (hc : cond0_0 i)
    (x0 : Vec Ideal S1024x1024 .bf16) (x1 : Vec Ideal S1x1024x1024 .bf16) (x2 x3 : Vec Ideal S1024x1024 .f32) (x4 : Vec Ideal S1x1024 .f32) :
    out0_A_5 c i a0 w0 a1 w1 a2 w2 a3 w3 a4 w4 a5 w5 a6 w6 a7 w7 a8 w8 hc x0 x1 x2 x3 x4 = k0_pay9 (F := Ideal) x0 x1 x2 x3 x4 := by
  unfold out0_A_5
  rw [View.read_writes_junk_eq_canon]
  unfold kernelRun0_A
  dsimp only
  sl_unfold_words
  rw [View.canon_unit_zero hz2]
  simp only [View.readAt_eq_ld, w0.read_unread, w1.read_unread, w2.read_unread, w3.read_unread, w4.read_unread, w7.read_unread, w8.read_unread, View.ld_unit_zero (S := S1024x1024) hz2, View.ld_unit_zero (S := S1x1024) hz2, View.ld_unit_zero (S := S1x1024x1024) hz3, shapeCast_self]

theorem out_A_6 (hc : cond0_0 i)
    (x0 : Vec Ideal S1024x1024 .bf16) (x1 : Vec Ideal S1x1024x1024 .bf16) (x2 x3 : Vec Ideal S1024x1024 .f32) (x4 : Vec Ideal S1x1024 .f32) :
    out0_A_6 c i a0 w0 a1 w1 a2 w2 a3 w3 a4 w4 a5 w5 a6 w6 a7 w7 a8 w8 hc x0 x1 x2 x3 x4 = k0_pay1 (F := Ideal) (k0_pay9 (F := Ideal) x0 x1 x2 x3 x4) := by
  unfold out0_A_6
  rw [View.read_writes_junk_eq_canon]
  unfold kernelRun0_A
  dsimp only
  sl_unfold_words
  rw [View.canon_unit_zero hz2]
  simp only [View.readAt_eq_ld, w0.read_unread, w1.read_unread, w2.read_unread, w3.read_unread, w4.read_unread, w7.read_unread, w8.read_unread, View.ld_unit_zero (S := S1024x1024) hz2, View.ld_unit_zero (S := S1x1024) hz2, View.ld_unit_zero (S := S1x1024x1024) hz3, shapeCast_self]

theorem out_A_7 (hc : cond0_0 i)
    (x0 : Vec Ideal S1024x1024 .bf16) (x1 : Vec Ideal S1x1024x1024 .bf16) (x2 x3 : Vec Ideal S1024x1024 .f32) (x4 : Vec Ideal S1x1024 .f32) :
    out0_A_7 c i a0 w0 a1 w1 a2 w2 a3 w3 a4 w4 a5 w5 a6 w6 a7 w7 a8 w8 hc x0 x1 x2 x3 x4 = k0_pay4 (F := Ideal) (k0_pay10 (F := Ideal) x0 x1 x2) (k0_pay2 (F := Ideal)) := by
  unfold out0_A_7
  rw [View.read_writes_junk_eq_canon]
  unfold kernelRun0_A
  dsimp only
  sl_unfold_words
  rw [View.canon_cons_unit_zero (S := S1x1024) hz2]
  simp only [View.readCov_unit_zero (S := S1x1024) _ hz2]
  simp only [View.readAt_eq_ld, w0.read_unread, w1.read_unread, w2.read_unread, w3.read_unread, w4.read_unread, w7.read_unread, w8.read_unread, View.ld_unit_zero (S := S1024x1024) hz2, View.ld_unit_zero (S := S1x1024) hz2, View.ld_unit_zero (S := S1x1024x1024) hz3, shapeCast_self]

theorem out_A_8 (hc : cond0_0 i)
    (x0 : Vec Ideal S1024x1024 .bf16) (x1 : Vec Ideal S1x1024x1024 .bf16) (x2 x3 : Vec Ideal S1024x1024 .f32) (x4 : Vec Ideal S1x1024 .f32) :
    out0_A_8 c i a0 w0 a1 w1 a2 w2 a3 w3 a4 w4 a5 w5 a6 w6 a7 w7 a8 w8 hc x0 x1 x2 x3 x4 = k0_pay5 (F := Ideal) (k0_pay11 (F := Ideal) x0 x1 x2 x3 x4) (k0_pay3 (F := Ideal)) := by
  unfold out0_A_8
  rw [View.read_writes_junk_eq_canon]
  unfold kernelRun0_A
  dsimp only
  sl_unfold_words
  rw [View.canon_cons_unit_zero (S := S1x1024) hz2]
  simp only [View.readCov_unit_zero (S := S1x1024) _ hz2]
  simp only [View.readAt_eq_ld, w0.read_unread, w1.read_unread, w2.read_unread, w3.read_unread, w4.read_unread, w7.read_unread, w8.read_unread, View.ld_unit_zero (S := S1024x1024) hz2, View.ld_unit_zero (S := S1x1024) hz2, View.ld_unit_zero (S := S1x1024x1024) hz3, shapeCast_self]

theorem out_B_5 (hc : ¬cond0_0 i)
    (x0 : Vec Ideal S1024x1024 .bf16) (x1 : Vec Ideal S1x1024x1024 .bf16) (x2 x3 : Vec Ideal S1024x1024 .f32) (x4 : Vec Ideal S1x1024 .f32) (xo7 xo8 : Vec Ideal S1x1024 .f32) :
    out0_B_5 c i a0 w0 a1 w1 a2 w2 a3 w3 a4 w4 a5 w5 a6 w6 a7 w7 a8 w8 hc x0 x1 x2 x3 x4 xo7 xo8 = k0_pay9 (F := Ideal) x0 x1 x2 x3 x4 := by
  unfold out0_B_5
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S1024x1024) hz2, View.ld_unit_zero (S := S1x1024) hz2, View.ld_unit_zero (S := S1x1024x1024) hz3, shapeCast_self]

theorem out_B_6 (hc : ¬cond0_0 i)
    (x0 : Vec Ideal S1024x1024 .bf16) (x1 : Vec Ideal S1x1024x1024 .bf16) (x2 x3 : Vec Ideal S1024x1024 .f32) (x4 : Vec Ideal S1x1024 .f32) (xo7 xo8 : Vec Ideal S1x1024 .f32) :
    out0_B_6 c i a0 w0 a1 w1 a2 w2 a3 w3 a4 w4 a5 w5 a6 w6 a7 w7 a8 w8 hc x0 x1 x2 x3 x4 xo7 xo8 = k0_pay1 (F := Ideal) (k0_pay9 (F := Ideal) x0 x1 x2 x3 x4) := by
  unfold out0_B_6
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S1024x1024) hz2, View.ld_unit_zero (S := S1x1024) hz2, View.ld_unit_zero (S := S1x1024x1024) hz3, shapeCast_self]

theorem out_B_7 (hc : ¬cond0_0 i)
    (x0 : Vec Ideal S1024x1024 .bf16) (x1 : Vec Ideal S1x1024x1024 .bf16) (x2 x3 : Vec Ideal S1024x1024 .f32) (x4 : Vec Ideal S1x1024 .f32) (xo7 xo8 : Vec Ideal S1x1024 .f32) :
    out0_B_7 c i a0 w0 a1 w1 a2 w2 a3 w3 a4 w4 a5 w5 a6 w6 a7 w7 a8 w8 hc x0 x1 x2 x3 x4 xo7 xo8 = k0_pay4 (F := Ideal) (k0_pay10 (F := Ideal) x0 x1 x2) xo7 := by
  unfold out0_B_7
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S1024x1024) hz2, View.ld_unit_zero (S := S1x1024) hz2, View.ld_unit_zero (S := S1x1024x1024) hz3, shapeCast_self]

theorem out_B_8 (hc : ¬cond0_0 i)
    (x0 : Vec Ideal S1024x1024 .bf16) (x1 : Vec Ideal S1x1024x1024 .bf16) (x2 x3 : Vec Ideal S1024x1024 .f32) (x4 : Vec Ideal S1x1024 .f32) (xo7 xo8 : Vec Ideal S1x1024 .f32) :
    out0_B_8 c i a0 w0 a1 w1 a2 w2 a3 w3 a4 w4 a5 w5 a6 w6 a7 w7 a8 w8 hc x0 x1 x2 x3 x4 xo7 xo8 = k0_pay5 (F := Ideal) (k0_pay11 (F := Ideal) x0 x1 x2 x3 x4) xo8 := by
  unfold out0_B_8
  rw [View.read_writes_junk_eq_canon]
  unfold kernelRun0_B
  dsimp only
  sl_unfold_words
  rw [View.canon_unit_zero hz2]
  simp only [View.readAt_eq_ld, w0.read_unread, w1.read_unread, w2.read_unread, w3.read_unread, w4.read_unread, w7.read_unread, w8.read_unread, View.ld_unit_zero (S := S1024x1024) hz2, View.ld_unit_zero (S := S1x1024) hz2, View.ld_unit_zero (S := S1x1024x1024) hz3, shapeCast_self]

end

variable (m : (ℓ : Loc nD τ sig) → Buf (Elt Ideal) ℓ) (ρ : Dev nD → PrngReg)

/-- The place in the whole array of row `r` of the block of point `t`. -/
def row (t : Fin cfg0.N) (r : Fin 1024) : Fin 4096 :=
  ⟨t.val * 1024 + r.val, by have hN : t.val < 4 := lt_of_lt_of_eq t.isLt (show cfg0.N = 4 from N_0); omega⟩

theorem idx_facts : ∀ t : Fin cfg0.N, win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem blk0 (c : Dev nD) (t : Fin cfg0.N) (r : Fin 1024) (k : Fin 1024) : iblk m c 0 t (ix2 k r) = V m c main_arg0 (ix2 k (row t r)) := by
  obtain ⟨f00, f01, f10, f11, f12, f20, f21, f30, f31, f40, f41, f50, f51, f60, f61, f70, f71, f80, f81⟩ := idx_facts t
  show V m c main_arg0 (((cfg0.win 0).blk t).view.emb (ix2 k r)) = V m c main_arg0 _
  congr 1; funext a; apply Fin.ext
  match a with
  | ⟨0, _⟩ => show win0_0.index t (0 : Fin 2) * 1024 + 1 * k.val = k.val; omega
  | ⟨1, _⟩ => show win0_0.index t (1 : Fin 2) * 1024 + 1 * r.val = t.val * 1024 + r.val; omega

theorem blk1 (c : Dev nD) (t : Fin cfg0.N) (l : Fin 1024) (k : Fin 1024) : iblk m c 1 t (ix3 0 l k) = V m c main_arg1 (ix3 0 l k) := by
  obtain ⟨f00, f01, f10, f11, f12, f20, f21, f30, f31, f40, f41, f50, f51, f60, f61, f70, f71, f80, f81⟩ := idx_facts t
  show V m c main_arg1 (((cfg0.win 1).blk t).view.emb (ix3 0 l k)) = V m c main_arg1 _
  congr 1; funext a; apply Fin.ext
  match a with
  | ⟨0, _⟩ => show win0_1.index t (0 : Fin 3) * 1 + 1 * 0 = 0; omega
  | ⟨1, _⟩ => show win0_1.index t (1 : Fin 3) * 1024 + 1 * l.val = l.val; omega
  | ⟨2, _⟩ => show win0_1.index t (2 : Fin 3) * 1024 + 1 * k.val = k.val; omega

theorem blk2 (c : Dev nD) (t : Fin cfg0.N) (r : Fin 1024) (l : Fin 1024) : iblk m c 2 t (ix2 r l) = V m c main_arg2 (ix2 (row t r) l) := by
  obtain ⟨f00, f01, f10, f11, f12, f20, f21, f30, f31, f40, f41, f50, f51, f60, f61, f70, f71, f80, f81⟩ := idx_facts t
  show V m c main_arg2 (((cfg0.win 2).blk t).view.emb (ix2 r l)) = V m c main_arg2 _
  congr 1; funext a; apply Fin.ext
  match a with
  | ⟨0, _⟩ => show win0_2.index t (0 : Fin 2) * 1024 + 1 * r.val = t.val * 1024 + r.val; omega
  | ⟨1, _⟩ => show win0_2.index t (1 : Fin 2) * 1024 + 1 * l.val = l.val; omega

theorem blk3 (c : Dev nD) (t : Fin cfg0.N) (r : Fin 1024) (l : Fin 1024) : iblk m c 3 t (ix2 r l) = V m c main_arg3 (ix2 (row t r) l) := by
  obtain ⟨f00, f01, f10, f11, f12, f20, f21, f30, f31, f40, f41, f50, f51, f60, f61, f70, f71, f80, f81⟩ := idx_facts t
  show V m c main_arg3 (((cfg0.win 3).blk t).view.emb (ix2 r l)) = V m c main_arg3 _
  congr 1; funext a; apply Fin.ext
  match a with
  | ⟨0, _⟩ => show win0_3.index t (0 : Fin 2) * 1024 + 1 * r.val = t.val * 1024 + r.val; omega
  | ⟨1, _⟩ => show win0_3.index t (1 : Fin 2) * 1024 + 1 * l.val = l.val; omega

theorem blk4 (c : Dev nD) (t : Fin cfg0.N) (l : Fin 1024) : iblk m c 4 t (ix2 0 l) = V m c main_arg4 (ix2 0 l) := by
  obtain ⟨f00, f01, f10, f11, f12, f20, f21, f30, f31, f40, f41, f50, f51, f60, f61, f70, f71, f80, f81⟩ := idx_facts t
  show V m c main_arg4 (((cfg0.win 4).blk t).view.emb (ix2 0 l)) = V m c main_arg4 _
  congr 1; funext a; apply Fin.ext
  match a with
  | ⟨0, _⟩ => show win0_4.index t (0 : Fin 2) * 1 + 1 * 0 = 0; omega
  | ⟨1, _⟩ => show win0_4.index t (1 : Fin 2) * 1024 + 1 * l.val = l.val; omega

theorem at5 (c : Dev nD) (t : Fin cfg0.N) : (outsAt0 m c t.val t.isLt).1 = k0_pay9 (F := Ideal) (iblk m c 0 t) (iblk m c 1 t) (iblk m c 2 t) (iblk m c 3 t) (iblk m c 4 t) := by
  by_cases h0 : t.val % 4 = 0
  · rw [outsAt0_A m c t h0]; dsimp only; rw [out_A_5]
  · rw [outsAt0_B m c t h0]; dsimp only; rw [out_B_5]

/-- What a point writes back is its block of the reference's result. -/
theorem flushed_eq5 (c : Dev nD) (t : Fin cfg0.N) :
    (dats m 0 c).flushed 5 t = ((cfg0.win 5).blk t).view.read (Elt Ideal) (val_main_v45 (F := Ideal) (V m c main_arg0) (V m c main_arg1) (V m c main_arg2) (V m c main_arg3) (V m c main_arg4)) := by
  rw [flushed5, at5]
  obtain ⟨f00, f01, f10, f11, f12, f20, f21, f30, f31, f40, f41, f50, f51, f60, f61, f70, f71, f80, f81⟩ := idx_facts t
  funext j
  refine (congrArg (k0_pay9 (F := Ideal) (iblk m c 0 t) (iblk m c 1 t) (iblk m c 2 t) (iblk m c 3 t) (iblk m c 4 t)) (eq_ix2 (n0 := 1024) (n1 := 1024) j)).trans
    (Eq.trans ?_ (congrArg (val_main_v45 (F := Ideal) (V m c main_arg0) (V m c main_arg1) (V m c main_arg2) (V m c main_arg3) (V m c main_arg4)) (?_ : ix2 (row t (j 0)) (j 1) = (((cfg0.win 5).blk t).view.emb j))))
  · exact pure5 _ _ _ _ _ _ _ _ _ _ (row t) (blk0 m c t) (blk1 m c t) (blk2 m c t) (blk3 m c t) (blk4 m c t) (j 0) (j 1)
  · funext a; apply Fin.ext
    match a with
    | ⟨0, _⟩ => show t.val * 1024 + (j 0).val = win0_5.index t (0 : Fin 2) * 1024 + 1 * (j 0).val; omega
    | ⟨1, _⟩ => show (j 1).val = win0_5.index t (1 : Fin 2) * 1024 + 1 * (j 1).val; omega

theorem onto5 : ∀ p0 : Fin 4, ∃ t : Fin cfg0.N, win0_5.index t = ![p0.val, 0] :=
  (by decide +kernel : ∀ p0 : Fin 4, ∃ t : Fin grid0.N, win0_5.index t = ![p0.val, 0])

/-- Every place of the result is in some point's block. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ := onto5 ⟨(i 0).val / 1024, by omega⟩
  have q0 : win0_5.index t (0 : Fin 2) = (i 0).val / 1024 := congrFun ht 0
  have q1 : win0_5.index t (1 : Fin 2) = 0 := congrFun ht 1
  refine ⟨t, flush0_5 _, ?_⟩
  show i ∈ ((View.whole main_v0_0).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

theorem final5 (c : Dev nD) : (dats m 0 c).arrAt 5 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (val_main_v45 (F := Ideal) (V m c main_arg0) (V m c main_arg1) (V m c main_arg2) (V m c main_arg3) (V m c main_arg4)) (fun t _ => flushed_eq5 m c t) cover5

theorem at6 (c : Dev nD) (t : Fin cfg0.N) : (outsAt0 m c t.val t.isLt).2.1 = k0_pay1 (F := Ideal) (k0_pay9 (F := Ideal) (iblk m c 0 t) (iblk m c 1 t) (iblk m c 2 t) (iblk m c 3 t) (iblk m c 4 t)) := by
  by_cases h0 : t.val % 4 = 0
  · rw [outsAt0_A m c t h0]; dsimp only; rw [out_A_6]
  · rw [outsAt0_B m c t h0]; dsimp only; rw [out_B_6]

/-- What a point writes back is its block of the reference's result. -/
theorem flushed_eq6 (c : Dev nD) (t : Fin cfg0.N) :
    (dats m 0 c).flushed 6 t = ((cfg0.win 6).blk t).view.read (Elt Ideal) (val_main_v46 (F := Ideal) (V m c main_arg0) (V m c main_arg1) (V m c main_arg2) (V m c main_arg3) (V m c main_arg4)) := by
  rw [flushed6, at6]
  obtain ⟨f00, f01, f10, f11, f12, f20, f21, f30, f31, f40, f41, f50, f51, f60, f61, f70, f71, f80, f81⟩ := idx_facts t
  funext j
  refine (congrArg (k0_pay1 (F := Ideal) (k0_pay9 (F := Ideal) (iblk m c 0 t) (iblk m c 1 t) (iblk m c 2 t) (iblk m c 3 t) (iblk m c 4 t))) (eq_ix2 (n0 := 1024) (n1 := 1024) j)).trans
    (Eq.trans ?_ (congrArg (val_main_v46 (F := Ideal) (V m c main_arg0) (V m c main_arg1) (V m c main_arg2) (V m c main_arg3) (V m c main_arg4)) (?_ : ix2 (row t (j 0)) (j 1) = (((cfg0.win 6).blk t).view.emb j))))
  · exact pure5 _ _ _ _ _ _ _ _ _ _ (row t) (blk0 m c t) (blk1 m c t) (blk2 m c t) (blk3 m c t) (blk4 m c t) (j 0) (j 1)
  · funext a; apply Fin.ext
    match a with
    | ⟨0, _⟩ => show t.val * 1024 + (j 0).val = win0_6.index t (0 : Fin 2) * 1024 + 1 * (j 0).val; omega
    | ⟨1, _⟩ => show (j 1).val = win0_6.index t (1 : Fin 2) * 1024 + 1 * (j 1).val; omega

theorem onto6 : ∀ p0 : Fin 4, ∃ t : Fin cfg0.N, win0_6.index t = ![p0.val, 0] :=
  (by decide +kernel : ∀ p0 : Fin 4, ∃ t : Fin grid0.N, win0_6.index t = ![p0.val, 0])

/-- Every place of the result is in some point's block. -/
theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ht⟩ := onto6 ⟨(i 0).val / 1024, by omega⟩
  have q0 : win0_6.index t (0 : Fin 2) = (i 0).val / 1024 := congrFun ht 0
  have q1 : win0_6.index t (1 : Fin 2) = 0 := congrFun ht 1
  refine ⟨t, flush0_6 _, ?_⟩
  show i ∈ ((View.whole main_v0_1).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

theorem final6 (c : Dev nD) : (dats m 0 c).arrAt 6 cfg0.N = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (val_main_v46 (F := Ideal) (V m c main_arg0) (V m c main_arg1) (V m c main_arg2) (V m c main_arg3) (V m c main_arg4)) (fun t _ => flushed_eq6 m c t) cover6

/-- A row block's part of a sum over all rows; nothing past the last block. -/
def part (f : Fin 4096 → EReal) (n : ℕ) : EReal := if h : n < cfg0.N then ∑ r : Fin 1024, f (row ⟨n, h⟩ r) else 0

theorem sum_parts (f : Fin 4096 → EReal) : ∑ n ∈ Finset.range 4, part f n = ∑ i : Fin 4096, f i := by
  rw [Fin.sum_univ_tiles 4 1024 rfl f, Finset.sum_range]
  refine Finset.sum_congr rfl fun n _ => ?_
  unfold part
  rw [dif_pos (lt_of_lt_of_eq n.isLt (show 4 = cfg0.N from N_0.symm))]
  rfl

/-- After point `n` the carried row holds the sum over the row blocks up to it. -/
theorem at7 (c : Dev nD) (j : Fin 1024) : ∀ (n : ℕ) (h : n < cfg0.N),
    (outsAt0 m c n h).2.2.1 (ix2 0 j) = ∑ k ∈ Finset.range (n + 1), part (fun i => gainTerm (V m c main_arg0) (V m c main_arg1) (V m c main_arg2) i j) k
  | 0, h => by
    rw [outsAt0_A m c ⟨0, h⟩ rfl]
    dsimp only
    rw [out_A_7, add4, zero2, zero_add, Finset.sum_range_one, part, dif_pos h]
    have t : Fin cfg0.N := ⟨0, h⟩
    exact pure7 _ _ _ _ _ _ _ _ _ _ (row ⟨0, h⟩) (blk0 m c ⟨0, h⟩) (blk1 m c ⟨0, h⟩) (blk2 m c ⟨0, h⟩) (blk3 m c ⟨0, h⟩) (blk4 m c ⟨0, h⟩) j
  | n + 1, h => by
    have hN : cfg0.N = 4 := N_0
    have hB : ¬(⟨n + 1, h⟩ : Fin cfg0.N).val % 4 = 0 := by dsimp only; omega
    rw [outsAt0_B m c ⟨n + 1, h⟩ hB]
    dsimp only
    rw [out_B_7, add4, Finset.sum_range_succ, part, dif_pos h]
    refine congrArg₂ (· + ·) (at7 c j n _) ?_
    exact pure7 _ _ _ _ _ _ _ _ _ _ (row ⟨n + 1, h⟩) (blk0 m c ⟨n + 1, h⟩) (blk1 m c ⟨n + 1, h⟩) (blk2 m c ⟨n + 1, h⟩) (blk3 m c ⟨n + 1, h⟩) (blk4 m c ⟨n + 1, h⟩) j

theorem flushed_eq7 (c : Dev nD) (t : Fin cfg0.N) (hf : (cfg0.win 7).flush t = true) :
    (dats m 0 c).flushed 7 t = ((cfg0.win 7).blk t).view.read (Elt Ideal) (val_main_v44 (F := Ideal) (V m c main_arg0) (V m c main_arg1) (V m c main_arg2)) := by
  have hN : cfg0.N = 4 := N_0
  have h7 : t.val = 3 := by have := (flush0_7 t).mp hf; have := t.isLt; omega
  rw [flushed7]
  obtain ⟨f00, f01, f10, f11, f12, f20, f21, f30, f31, f40, f41, f50, f51, f60, f61, f70, f71, f80, f81⟩ := idx_facts t
  funext j
  refine (congrArg ((outsAt0 m c t.val t.isLt).2.2.1) (?_ : j = ix2 0 (j 1))).trans
    (Eq.trans ?_ (congrArg (val_main_v44 (F := Ideal) (V m c main_arg0) (V m c main_arg1) (V m c main_arg2)) (?_ : ix2 0 (j 1) = (((cfg0.win 7).blk t).view.emb j))))
  · have h0 : (j 0).val < 1 := (j 0).isLt
    funext a; apply Fin.ext
    match a with
    | ⟨0, _⟩ => show (j 0).val = 0; omega
    | ⟨1, _⟩ => rfl
  · have e : ∀ k : Fin 1024, (outsAt0 m c t.val t.isLt).2.2.1 (ix2 0 k) = val_main_v44 (F := Ideal) (V m c main_arg0) (V m c main_arg1) (V m c main_arg2) (ix2 0 k) := fun k => by
      rw [at7, ref7 _ _ _ (V m c main_arg3) (V m c main_arg4), ← sum_parts, h7]
    exact e (j 1)
  · have h0 : (j 0).val < 1 := (j 0).isLt
    funext a; apply Fin.ext
    match a with
    | ⟨0, _⟩ => show 0 = win0_7.index t (0 : Fin 2) * 1 + 1 * (j 0).val; omega
    | ⟨1, _⟩ => show (j 1).val = win0_7.index t (1 : Fin 2) * 1024 + 1 * (j 1).val; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨f00, f01, f10, f11, f12, f20, f21, f30, f31, f40, f41, f50, f51, f60, f61, f70, f71, f80, f81⟩ := idx_facts t0_3
  refine ⟨t0_3, (flush0_7 t0_3).mpr rfl, ?_⟩
  show i ∈ ((View.whole main_v0_2).slice (win0_7.rect t0_3)).set
  rw [View.set_slice_whole, Rect.mem_set_unit]
  intro a
  match a with
  | ⟨0, _⟩ => show win0_7.index t0_3 (0 : Fin 2) * 1 ≤ (i 0).val ∧ (i 0).val < win0_7.index t0_3 (0 : Fin 2) * 1 + 1; omega
  | ⟨1, _⟩ => show win0_7.index t0_3 (1 : Fin 2) * 1024 ≤ (i 1).val ∧ (i 1).val < win0_7.index t0_3 (1 : Fin 2) * 1024 + 1024; omega

theorem final7 (c : Dev nD) : (dats m 0 c).arrAt 7 cfg0.N = val_main_v44 (F := Ideal) (m ((c : Thread nD τ).loc main_arg0)) (m ((c : Thread nD τ).loc main_arg1)) (m ((c : Thread nD τ).loc main_arg2)) :=
  (dats m 0 c).arrAt_eq_of_cover 7 (val_main_v44 (F := Ideal) (V m c main_arg0) (V m c main_arg1) (V m c main_arg2)) (fun t hf => flushed_eq7 m c t hf) cover7

/-- After point `n` the carried row holds the sum over the row blocks up to it. -/
theorem at8 (c : Dev nD) (j : Fin 1024) : ∀ (n : ℕ) (h : n < cfg0.N),
    (outsAt0 m c n h).2.2.2 (ix2 0 j) = ∑ k ∈ Finset.range (n + 1), part (fun i => val_main_v45 (F := Ideal) (V m c main_arg0) (V m c main_arg1) (V m c main_arg2) (V m c main_arg3) (V m c main_arg4) (ix2 i j)) k
  | 0, h => by
    rw [outsAt0_A m c ⟨0, h⟩ rfl]
    dsimp only
    rw [out_A_8, add5, zero3, zero_add, Finset.sum_range_one, part, dif_pos h]
    have t : Fin cfg0.N := ⟨0, h⟩
    exact pure8 _ _ _ _ _ _ _ _ _ _ (row ⟨0, h⟩) (blk0 m c ⟨0, h⟩) (blk1 m c ⟨0, h⟩) (blk2 m c ⟨0, h⟩) (blk3 m c ⟨0, h⟩) (blk4 m c ⟨0, h⟩) j
  | n + 1, h => by
    have hN : cfg0.N = 4 := N_0
    have hB : ¬(⟨n + 1, h⟩ : Fin cfg0.N).val % 4 = 0 := by dsimp only; omega
    rw [outsAt0_B m c ⟨n + 1, h⟩ hB]
    dsimp only
    rw [out_B_8, add5, Finset.sum_range_succ, part, dif_pos h]
    refine congrArg₂ (· + ·) (at8 c j n _) ?_
    exact pure8 _ _ _ _ _ _ _ _ _ _ (row ⟨n + 1, h⟩) (blk0 m c ⟨n + 1, h⟩) (blk1 m c ⟨n + 1, h⟩) (blk2 m c ⟨n + 1, h⟩) (blk3 m c ⟨n + 1, h⟩) (blk4 m c ⟨n + 1, h⟩) j

theorem flushed_eq8 (c : Dev nD) (t : Fin cfg0.N) (hf : (cfg0.win 8).flush t = true) :
    (dats m 0 c).flushed 8 t = ((cfg0.win 8).blk t).view.read (Elt Ideal) (val_main_v48 (F := Ideal) (V m c main_arg0) (V m c main_arg1) (V m c main_arg2) (V m c main_arg3) (V m c main_arg4)) := by
  have hN : cfg0.N = 4 := N_0
  have h7 : t.val = 3 := by have := (flush0_8 t).mp hf; have := t.isLt; omega
  rw [flushed8]
  obtain ⟨f00, f01, f10, f11, f12, f20, f21, f30, f31, f40, f41, f50, f51, f60, f61, f70, f71, f80, f81⟩ := idx_facts t
  funext j
  refine (congrArg ((outsAt0 m c t.val t.isLt).2.2.2) (?_ : j = ix2 0 (j 1))).trans
    (Eq.trans ?_ (congrArg (val_main_v48 (F := Ideal) (V m c main_arg0) (V m c main_arg1) (V m c main_arg2) (V m c main_arg3) (V m c main_arg4)) (?_ : ix2 0 (j 1) = (((cfg0.win 8).blk t).view.emb j))))
  · have h0 : (j 0).val < 1 := (j 0).isLt
    funext a; apply Fin.ext
    match a with
    | ⟨0, _⟩ => show (j 0).val = 0; omega
    | ⟨1, _⟩ => rfl
  · have e : ∀ k : Fin 1024, (outsAt0 m c t.val t.isLt).2.2.2 (ix2 0 k) = val_main_v48 (F := Ideal) (V m c main_arg0) (V m c main_arg1) (V m c main_arg2) (V m c main_arg3) (V m c main_arg4) (ix2 0 k) := fun k => by
      rw [at8, ref8, ← sum_parts, h7]
    exact e (j 1)
  · have h0 : (j 0).val < 1 := (j 0).isLt
    funext a; apply Fin.ext
    match a with
    | ⟨0, _⟩ => show 0 = win0_8.index t (0 : Fin 2) * 1 + 1 * (j 0).val; omega
    | ⟨1, _⟩ => show (j 1).val = win0_8.index t (1 : Fin 2) * 1024 + 1 * (j 1).val; omega

theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  obtain ⟨f00, f01, f10, f11, f12, f20, f21, f30, f31, f40, f41, f50, f51, f60, f61, f70, f71, f80, f81⟩ := idx_facts t0_3
  refine ⟨t0_3, (flush0_8 t0_3).mpr rfl, ?_⟩
  show i ∈ ((View.whole main_v0_3).slice (win0_8.rect t0_3)).set
  rw [View.set_slice_whole, Rect.mem_set_unit]
  intro a
  match a with
  | ⟨0, _⟩ => show win0_8.index t0_3 (0 : Fin 2) * 1 ≤ (i 0).val ∧ (i 0).val < win0_8.index t0_3 (0 : Fin 2) * 1 + 1; omega
  | ⟨1, _⟩ => show win0_8.index t0_3 (1 : Fin 2) * 1024 ≤ (i 1).val ∧ (i 1).val < win0_8.index t0_3 (1 : Fin 2) * 1024 + 1024; omega

theorem final8 (c : Dev nD) : (dats m 0 c).arrAt 8 cfg0.N = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 8 (val_main_v48 (F := Ideal) (V m c main_arg0) (V m c main_arg1) (V m c main_arg2) (V m c main_arg3) (V m c main_arg4)) (fun t hf => flushed_eq8 m c t hf) cover8

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0_0) = val_main_v45 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_v0_1) = val_main_v46 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_v0_2) = val_main_v44 (F := Ideal) (m (((c.tc : Thread nD τ)).loc main_arg0)) (m (((c.tc : Thread nD τ)).loc main_arg1)) (m (((c.tc : Thread nD τ)).loc main_arg2))
      ∧ r.2.mem ((c : Thread nD τ).loc main_v0_3) = val_main_v48 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final5 m c), ((h c).2.1).trans (final6 m c), ((h c).2.2.1).trans (final7 m c), ((h c).2.2.2.1).trans (final8 m c), (h c).2.2.2.2⟩) (run_blocks m ρ)

end Cert.BQDxIdeal.Value

namespace Cert.Proof.BQDx

open Cert.BQDxRefIdeal.Read

theorem frame : Cert.quiescent_BQDx := fun m ρ _ => Cert.BQDx.Gen.frame m ρ
theorem frame_ideal : Cert.quiescent_BQDxIdeal := fun m ρ _ => Cert.BQDxIdeal.Gen.frame m ρ
theorem frame_ref : Cert.quiescent_BQDxRefIdeal := fun m ρ _ =>
  (θ_run Cert.BQDxRefIdeal.defs _ _).mono (fun r h => ⟨fun c => (h c).2.2.2.2, Idealize.ShloMosaic.sem_eq_zero_of_no_sems (by decide) r.2⟩)
    (Cert.BQDxRefIdeal.Value.run (F := Ideal) m ρ)

/-- Over the reals the kernel's results are the reference's. -/
theorem algebraic : Cert.algebraic_BQDxIdeal_BQDxRefIdeal := by
  intro m ρ m' ρ' _ hagree
  refine ⟨fun c => val_main_v45 (F := Ideal) (m (((c.tc : Thread Cert.BQDxIdeal.nD Cert.BQDxIdeal.τ)).loc Cert.BQDxIdeal.main_arg0)) (m (((c.tc : Thread Cert.BQDxIdeal.nD Cert.BQDxIdeal.τ)).loc Cert.BQDxIdeal.main_arg1)) (m (((c.tc : Thread Cert.BQDxIdeal.nD Cert.BQDxIdeal.τ)).loc Cert.BQDxIdeal.main_arg2)) (m (((c.tc : Thread Cert.BQDxIdeal.nD Cert.BQDxIdeal.τ)).loc Cert.BQDxIdeal.main_arg3)) (m (((c.tc : Thread Cert.BQDxIdeal.nD Cert.BQDxIdeal.τ)).loc Cert.BQDxIdeal.main_arg4)), fun c => val_main_v46 (F := Ideal) (m (((c.tc : Thread Cert.BQDxIdeal.nD Cert.BQDxIdeal.τ)).loc Cert.BQDxIdeal.main_arg0)) (m (((c.tc : Thread Cert.BQDxIdeal.nD Cert.BQDxIdeal.τ)).loc Cert.BQDxIdeal.main_arg1)) (m (((c.tc : Thread Cert.BQDxIdeal.nD Cert.BQDxIdeal.τ)).loc Cert.BQDxIdeal.main_arg2)) (m (((c.tc : Thread Cert.BQDxIdeal.nD Cert.BQDxIdeal.τ)).loc Cert.BQDxIdeal.main_arg3)) (m (((c.tc : Thread Cert.BQDxIdeal.nD Cert.BQDxIdeal.τ)).loc Cert.BQDxIdeal.main_arg4)), fun c => val_main_v44 (F := Ideal) (m (((c.tc : Thread Cert.BQDxIdeal.nD Cert.BQDxIdeal.τ)).loc Cert.BQDxIdeal.main_arg0)) (m (((c.tc : Thread Cert.BQDxIdeal.nD Cert.BQDxIdeal.τ)).loc Cert.BQDxIdeal.main_arg1)) (m (((c.tc : Thread Cert.BQDxIdeal.nD Cert.BQDxIdeal.τ)).loc Cert.BQDxIdeal.main_arg2)), fun c => val_main_v48 (F := Ideal) (m (((c.tc : Thread Cert.BQDxIdeal.nD Cert.BQDxIdeal.τ)).loc Cert.BQDxIdeal.main_arg0)) (m (((c.tc : Thread Cert.BQDxIdeal.nD Cert.BQDxIdeal.τ)).loc Cert.BQDxIdeal.main_arg1)) (m (((c.tc : Thread Cert.BQDxIdeal.nD Cert.BQDxIdeal.τ)).loc Cert.BQDxIdeal.main_arg2)) (m (((c.tc : Thread Cert.BQDxIdeal.nD Cert.BQDxIdeal.τ)).loc Cert.BQDxIdeal.main_arg3)) (m (((c.tc : Thread Cert.BQDxIdeal.nD Cert.BQDxIdeal.τ)).loc Cert.BQDxIdeal.main_arg4)),
    Cert.BQDxIdeal.Value.run m ρ, ?_⟩
  exact (θ_run Cert.BQDxRefIdeal.defs _ _).mono (fun _ h c => ⟨((h c).1).trans ((val_main_v45_eq (F := Ideal) m' c).trans (by rw [(hagree c).1, (hagree c).2.1, (hagree c).2.2.1, (hagree c).2.2.2.1, (hagree c).2.2.2.2])),
      ((h c).2.1).trans ((val_main_v46_eq (F := Ideal) m' c).trans (by rw [(hagree c).1, (hagree c).2.1, (hagree c).2.2.1, (hagree c).2.2.2.1, (hagree c).2.2.2.2])),
      ((h c).2.2.1).trans ((val_main_v44_eq (F := Ideal) _ _ _).trans (by rw [(hagree c).1, (hagree c).2.1, (hagree c).2.2.1])),
      ((h c).2.2.2.1).trans ((val_main_v48_eq (F := Ideal) m' c).trans (by rw [(hagree c).1, (hagree c).2.1, (hagree c).2.2.1, (hagree c).2.2.2.1, (hagree c).2.2.2.2])),
      (h c).2.2.2.2⟩)
    (Cert.BQDxRefIdeal.Value.run (F := Ideal) m' ρ')

end Cert.Proof.BQDx

end
-- ==== Proof.BWoFwd.lean ====
module

public import proofs.«01_k».proof.Defs
public import proofs.«01_k».proof.Proof.Gen.BWoFwd
public import proofs.«01_k».proof.Proof.Gen.BWoFwd.Frame
public import proofs.«01_k».proof.Proof.Gen.BWoFwdIdeal.Value
public import proofs.«01_k».proof.Proof.Gen.BWoFwdRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The attention's output projection with the residual and the next norm. -/

namespace Cert.BWoFwdIdeal.Value

open Cert.BWoFwdIdeal Cert.BWoFwdIdeal.Gen

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- Element by element: a block's result is the reference's at the matching place, wherever the blocks read are the arrays there. -/
theorem pure5 (x0 : Vec Ideal S1024x1024 .bf16) (x1 : Vec Ideal S1x1024x1024 .bf16) (x2 : Vec Ideal S1024x1024 .f32) (x3 : Vec Ideal S1x1024 .f32)
    (X0 : Vec Ideal S1024x4096 .bf16) (X1 : Vec Ideal S2x1024x1024 .bf16) (X2 : Vec Ideal S4096x1024 .f32) (X3 : Vec Ideal S1x1024 .f32)
    (j0 : Fin 1024) (j1 : Fin 1024) (i0 : Fin 4096) (i1 : Fin 1024)
    (h0 : ∀ (k : Fin 1024), x0 (ix2 k j0) = X0 (ix2 k i0)) (h1 : ∀ (k : Fin 1024), x1 (ix3 0 k j1) = X1 (ix3 0 k i1)) (h2 : x2 (ix2 j0 j1) = X2 (ix2 i0 i1)) (h3 : x3 (ix2 0 j1) = X3 (ix2 0 i1)) :
    k0_pay1 (F := Ideal) x0 x1 x2 x3 (ix2 j0 j1)
      = Cert.BWoFwdRefIdeal.Read.val_main_v8 (F := Ideal) X0 X1 X2 X3 (ix2 i0 i1) := by
  pointwise [k0_pay1, Cert.BWoFwdRefIdeal.Read.val_main_v0, Cert.BWoFwdRefIdeal.Read.val_main_v1, Cert.BWoFwdRefIdeal.Read.val_main_v2, Cert.BWoFwdRefIdeal.Read.val_main_v3, Cert.BWoFwdRefIdeal.Read.val_main_v4, Cert.BWoFwdRefIdeal.Read.val_main_v5, Cert.BWoFwdRefIdeal.Read.val_main_v6, Cert.BWoFwdRefIdeal.Read.val_main_v7, Cert.BWoFwdRefIdeal.Read.val_main_v8, Cert.BWoFwdRefIdeal.Read.val_main_v9, Cert.BWoFwdRefIdeal.Read.val_main_cst, Cert.BWoFwdRefIdeal.Read.val_main_v10, Cert.BWoFwdRefIdeal.Read.val_main_v11, Cert.BWoFwdRefIdeal.Read.val_main_cst_0, Cert.BWoFwdRefIdeal.Read.val_main_v12, Cert.BWoFwdRefIdeal.Read.val_main_v13, Cert.BWoFwdRefIdeal.Read.val_main_cst_1, Cert.BWoFwdRefIdeal.Read.val_main_v14, Cert.BWoFwdRefIdeal.Read.val_main_v15, Cert.BWoFwdRefIdeal.Read.val_main_v16, Cert.BWoFwdRefIdeal.Read.val_main_v17, Cert.BWoFwdRefIdeal.Read.val_main_v18, Cert.BWoFwdRefIdeal.Read.val_main_v19, Cert.BWoFwdRefIdeal.Read.val_main_v20, Cert.BWoFwdRefIdeal.Read.val_main_v21]
  simp only [h0, h1, h2, h3, mul_comm, add_comm, add_left_comm, add_assoc]

/-- Element by element: a block's result is the reference's at the matching place, wherever the blocks read are the arrays there. -/
theorem pure6 (x0 : Vec Ideal S1024x1024 .bf16) (x1 : Vec Ideal S1x1024x1024 .bf16) (x2 : Vec Ideal S1024x1024 .f32) (x3 : Vec Ideal S1x1024 .f32) (x4 : Vec Ideal S1x1024 .f32)
    (X0 : Vec Ideal S1024x4096 .bf16) (X1 : Vec Ideal S2x1024x1024 .bf16) (X2 : Vec Ideal S4096x1024 .f32) (X3 : Vec Ideal S1x1024 .f32) (X4 : Vec Ideal S1x1024 .f32)
    (j0 : Fin 1024) (j1 : Fin 1024) (i0 : Fin 4096) (i1 : Fin 1024)
    (h0 : ∀ (k : Fin 1024), x0 (ix2 k j0) = X0 (ix2 k i0)) (h1 : ∀ (k : Fin 1024) (l : Fin 1024), x1 (ix3 0 k l) = X1 (ix3 0 k l)) (h2 : ∀ (l : Fin 1024), x2 (ix2 j0 l) = X2 (ix2 i0 l)) (h3 : ∀ (l : Fin 1024), x3 (ix2 0 l) = X3 (ix2 0 l)) (h4 : ∀ (l : Fin 1024), x4 (ix2 0 l) = X4 (ix2 0 l)) (e1 : i1 = j1) :
    k0_pay2 (F := Ideal) x0 x1 x2 x3 x4 (ix2 j0 j1)
      = Cert.BWoFwdRefIdeal.Read.val_main_v21 (F := Ideal) X0 X1 X2 X3 X4 (ix2 i0 i1) := by
  subst e1
  pointwise [k0_pay1, k0_pay2, Cert.BWoFwdRefIdeal.Read.val_main_v0, Cert.BWoFwdRefIdeal.Read.val_main_v1, Cert.BWoFwdRefIdeal.Read.val_main_v2, Cert.BWoFwdRefIdeal.Read.val_main_v3, Cert.BWoFwdRefIdeal.Read.val_main_v4, Cert.BWoFwdRefIdeal.Read.val_main_v5, Cert.BWoFwdRefIdeal.Read.val_main_v6, Cert.BWoFwdRefIdeal.Read.val_main_v7, Cert.BWoFwdRefIdeal.Read.val_main_v8, Cert.BWoFwdRefIdeal.Read.val_main_v9, Cert.BWoFwdRefIdeal.Read.val_main_cst, Cert.BWoFwdRefIdeal.Read.val_main_v10, Cert.BWoFwdRefIdeal.Read.val_main_v11, Cert.BWoFwdRefIdeal.Read.val_main_cst_0, Cert.BWoFwdRefIdeal.Read.val_main_v12, Cert.BWoFwdRefIdeal.Read.val_main_v13, Cert.BWoFwdRefIdeal.Read.val_main_cst_1, Cert.BWoFwdRefIdeal.Read.val_main_v14, Cert.BWoFwdRefIdeal.Read.val_main_v15, Cert.BWoFwdRefIdeal.Read.val_main_v16, Cert.BWoFwdRefIdeal.Read.val_main_v17, Cert.BWoFwdRefIdeal.Read.val_main_v18, Cert.BWoFwdRefIdeal.Read.val_main_v19, Cert.BWoFwdRefIdeal.Read.val_main_v20, Cert.BWoFwdRefIdeal.Read.val_main_v21]
  simp only [h0, h1, h2, h3, h4, show ∀ a b c : EReal, a + b + c = b + (a + c) from fun a b c => by rw [add_comm a b, add_assoc]]

variable (m : (ℓ : Loc nD τ sig) → Buf (Elt Ideal) ℓ) (ρ : Dev nD → PrngReg)

theorem idx_facts5 : ∀ t : Fin cfg0.N,
    win0_0.index t (0 : Fin 2) = 0
    ∧ win0_0.index t (1 : Fin 2) = win0_5.index t (0 : Fin 2)
    ∧ win0_1.index t (0 : Fin 3) = 0
    ∧ win0_1.index t (1 : Fin 3) = 0
    ∧ win0_1.index t (2 : Fin 3) = win0_5.index t (1 : Fin 2)
    ∧ win0_2.index t (0 : Fin 2) = win0_5.index t (0 : Fin 2)
    ∧ win0_2.index t (1 : Fin 2) = win0_5.index t (1 : Fin 2)
    ∧ win0_3.index t (0 : Fin 2) = 0
    ∧ win0_3.index t (1 : Fin 2) = win0_5.index t (1 : Fin 2) :=
  (by decide +kernel : ∀ t : Fin grid0.N, _)

/-- What a point writes back is its block of the reference's result. -/
theorem flushed_eq5 (c : Dev nD) (t : Fin cfg0.N) :
    (dats m 0 c).flushed 5 t = ((cfg0.win 5).blk t).view.read (Elt Ideal) (Cert.BWoFwdRefIdeal.Read.val_main_v8 (F := Ideal) (V m c main_arg0) (V m c main_arg1) (V m c main_arg2) (V m c main_arg3)) := by
  rw [flushed5]; unfold out0_5
  rw [View.canon_unit_zero hz2, View.ld_unit_zero hz2, View.ld_unit_zero hz3, View.ld_unit_zero hz2, View.ld_unit_zero hz2]
  obtain ⟨f0, f1, f2, f3, f4, f5, f6, f7, f8⟩ := idx_facts5 t
  funext j
  refine (congrArg (k0_pay1 (F := Ideal) (iblk m c 0 t) (iblk m c 1 t) (iblk m c 2 t) (iblk m c 3 t)) (eq_ix2 (n0 := 1024) (n1 := 1024) j)).trans
    (Eq.trans ?_ (congrArg (Cert.BWoFwdRefIdeal.Read.val_main_v8 (F := Ideal) (V m c main_arg0) (V m c main_arg1) (V m c main_arg2) (V m c main_arg3)) (eq_ix2 (n0 := 4096) (n1 := 1024) (((cfg0.win 5).blk t).view.emb j)).symm))
  refine pure5 _ _ _ _ _ _ _ _ _ _ _ _ ?_ ?_ ?_ ?_
  · intro k
    show V m c main_arg0 (((cfg0.win 0).blk t).view.emb (ix2 k (j 0))) = V m c main_arg0 _
    congr 1; funext a; apply Fin.ext
    match a with
    | ⟨0, _⟩ => show win0_0.index t (0 : Fin 2) * 1024 + 1 * k.val = k.val; omega
    | ⟨1, _⟩ => show win0_0.index t (1 : Fin 2) * 1024 + 1 * (j 0).val = win0_5.index t (0 : Fin 2) * 1024 + 1 * (j 0).val; omega
  · intro k
    show V m c main_arg1 (((cfg0.win 1).blk t).view.emb (ix3 0 k (j 1))) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 1024 + 1 * (j 1).val = win0_5.index t (1 : Fin 2) * 1024 + 1 * (j 1).val; omega
  · skip
    show V m c main_arg2 (((cfg0.win 2).blk t).view.emb (ix2 (j 0) (j 1))) = V m c main_arg2 _
    congr 1; funext a; apply Fin.ext
    match a with
    | ⟨0, _⟩ => show win0_2.index t (0 : Fin 2) * 1024 + 1 * (j 0).val = win0_5.index t (0 : Fin 2) * 1024 + 1 * (j 0).val; omega
    | ⟨1, _⟩ => show win0_2.index t (1 : Fin 2) * 1024 + 1 * (j 1).val = win0_5.index t (1 : Fin 2) * 1024 + 1 * (j 1).val; omega
  · skip
    show V m c main_arg3 (((cfg0.win 3).blk t).view.emb (ix2 0 (j 1))) = V m c main_arg3 _
    congr 1; funext a; apply Fin.ext
    match a with
    | ⟨0, _⟩ => show win0_3.index t (0 : Fin 2) * 1 + 1 * 0 = 0; omega
    | ⟨1, _⟩ => show win0_3.index t (1 : Fin 2) * 1024 + 1 * (j 1).val = win0_5.index t (1 : Fin 2) * 1024 + 1 * (j 1).val; omega

theorem onto5 : ∀ (p0 : Fin 4) (p1 : Fin 1), ∃ t : Fin cfg0.N, win0_5.index t = ![p0.val, p1.val] :=
  (by decide +kernel : ∀ (p0 : Fin 4) (p1 : Fin 1), ∃ t : Fin grid0.N, win0_5.index t = ![p0.val, p1.val])

/-- Every place of the result is in some point's block. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ := onto5 ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 _, ?_⟩
  show i ∈ ((View.whole main_v0_0).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

theorem final5 (c : Dev nD) : (dats m 0 c).arrAt 5 cfg0.N = Cert.BWoFwdRefIdeal.Read.val_main_v8 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 5 (Cert.BWoFwdRefIdeal.Read.val_main_v8 (F := Ideal) (V m c main_arg0) (V m c main_arg1) (V m c main_arg2) (V m c main_arg3)) (fun t _ => flushed_eq5 m c t) cover5

theorem idx_facts6 : ∀ t : Fin cfg0.N,
    win0_0.index t (0 : Fin 2) = 0
    ∧ win0_0.index t (1 : Fin 2) = win0_6.index t (0 : Fin 2)
    ∧ win0_1.index t (0 : Fin 3) = 0
    ∧ win0_1.index t (1 : Fin 3) = 0
    ∧ win0_1.index t (2 : Fin 3) = 0
    ∧ win0_2.index t (0 : Fin 2) = win0_6.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_6.index t (1 : Fin 2) = 0 :=
  (by decide +kernel : ∀ t : Fin grid0.N, _)

/-- What a point writes back is its block of the reference's result. -/
theorem flushed_eq6 (c : Dev nD) (t : Fin cfg0.N) :
    (dats m 0 c).flushed 6 t = ((cfg0.win 6).blk t).view.read (Elt Ideal) (Cert.BWoFwdRefIdeal.Read.val_main_v21 (F := Ideal) (V m c main_arg0) (V m c main_arg1) (V m c main_arg2) (V m c main_arg3) (V m c main_arg4)) := by
  rw [flushed6]; unfold out0_6
  rw [View.canon_unit_zero hz2, View.ld_unit_zero hz2, View.ld_unit_zero hz3, View.ld_unit_zero hz2, View.ld_unit_zero hz2, View.ld_unit_zero hz2]
  obtain ⟨f0, f1, f2, f3, f4, f5, f6, f7, f8, f9, f10, f11⟩ := idx_facts6 t
  funext j
  refine (congrArg (k0_pay2 (F := Ideal) (iblk m c 0 t) (iblk m c 1 t) (iblk m c 2 t) (iblk m c 3 t) (iblk m c 4 t)) (eq_ix2 (n0 := 1024) (n1 := 1024) j)).trans
    (Eq.trans ?_ (congrArg (Cert.BWoFwdRefIdeal.Read.val_main_v21 (F := Ideal) (V m c main_arg0) (V m c main_arg1) (V m c main_arg2) (V m c main_arg3) (V m c main_arg4)) (eq_ix2 (n0 := 4096) (n1 := 1024) (((cfg0.win 6).blk t).view.emb j)).symm))
  refine pure6 _ _ _ _ _ _ _ _ _ _ _ _ _ _ ?_ ?_ ?_ ?_ ?_ ?_
  · intro k
    show V m c main_arg0 (((cfg0.win 0).blk t).view.emb (ix2 k (j 0))) = V m c main_arg0 _
    congr 1; funext a; apply Fin.ext
    match a with
    | ⟨0, _⟩ => show win0_0.index t (0 : Fin 2) * 1024 + 1 * k.val = k.val; omega
    | ⟨1, _⟩ => show win0_0.index t (1 : Fin 2) * 1024 + 1 * (j 0).val = win0_6.index t (0 : Fin 2) * 1024 + 1 * (j 0).val; omega
  · intro k l
    show V m c main_arg1 (((cfg0.win 1).blk t).view.emb (ix3 0 k l)) = V m c main_arg1 _
    congr 1; funext a; apply Fin.ext
    match a with
    | ⟨0, _⟩ => show win0_1.index t (0 : Fin 3) * 1 + 1 * 0 = 0; omega
    | ⟨1, _⟩ => show win0_1.index t (1 : Fin 3) * 1024 + 1 * k.val = k.val; omega
    | ⟨2, _⟩ => show win0_1.index t (2 : Fin 3) * 1024 + 1 * l.val = l.val; omega
  · intro l
    show V m c main_arg2 (((cfg0.win 2).blk t).view.emb (ix2 (j 0) l)) = V m c main_arg2 _
    congr 1; funext a; apply Fin.ext
    match a with
    | ⟨0, _⟩ => show win0_2.index t (0 : Fin 2) * 1024 + 1 * (j 0).val = win0_6.index t (0 : Fin 2) * 1024 + 1 * (j 0).val; omega
    | ⟨1, _⟩ => show win0_2.index t (1 : Fin 2) * 1024 + 1 * l.val = l.val; omega
  · intro l
    show V m c main_arg3 (((cfg0.win 3).blk t).view.emb (ix2 0 l)) = V m c main_arg3 _
    congr 1; funext a; apply Fin.ext
    match a with
    | ⟨0, _⟩ => show win0_3.index t (0 : Fin 2) * 1 + 1 * 0 = 0; omega
    | ⟨1, _⟩ => show win0_3.index t (1 : Fin 2) * 1024 + 1 * l.val = l.val; omega
  · intro l
    show V m c main_arg4 (((cfg0.win 4).blk t).view.emb (ix2 0 l)) = V m c main_arg4 _
    congr 1; funext a; apply Fin.ext
    match a with
    | ⟨0, _⟩ => show win0_4.index t (0 : Fin 2) * 1 + 1 * 0 = 0; omega
    | ⟨1, _⟩ => show win0_4.index t (1 : Fin 2) * 1024 + 1 * l.val = l.val; omega
  · apply Fin.ext
    show win0_6.index t (1 : Fin 2) * 1024 + 1 * (j 1).val = (j 1).val; omega

theorem onto6 : ∀ (p0 : Fin 4) (p1 : Fin 1), ∃ t : Fin cfg0.N, win0_6.index t = ![p0.val, p1.val] :=
  (by decide +kernel : ∀ (p0 : Fin 4) (p1 : Fin 1), ∃ t : Fin grid0.N, win0_6.index t = ![p0.val, p1.val])

/-- Every place of the result is in some point's block. -/
theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ht⟩ := onto6 ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 _, ?_⟩
  show i ∈ ((View.whole main_v0_1).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

theorem final6 (c : Dev nD) : (dats m 0 c).arrAt 6 cfg0.N = Cert.BWoFwdRefIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (Cert.BWoFwdRefIdeal.Read.val_main_v21 (F := Ideal) (V m c main_arg0) (V m c main_arg1) (V m c main_arg2) (V m c main_arg3) (V m c main_arg4)) (fun t _ => flushed_eq6 m c t) cover6

/-- The run: every result is the reference's function of the arguments, and the arguments end unchanged. -/
theorem run : θ_run defs (onTc (τ := τ) (main (F := Ideal))) ⟨m, fun _ => 0, ρ⟩ fun r => ∀ c : Dev nD,
      r.2.mem ((c : Thread nD τ).loc main_v0_0) = Cert.BWoFwdRefIdeal.Read.val_main_v8 (F := Ideal) (m (((c.tc : Thread nD τ)).loc main_arg0)) (m (((c.tc : Thread nD τ)).loc main_arg1)) (m (((c.tc : Thread nD τ)).loc main_arg2)) (m (((c.tc : Thread nD τ)).loc main_arg3))
      ∧ r.2.mem ((c : Thread nD τ).loc main_v0_1) = Cert.BWoFwdRefIdeal.Read.val_main_v21 (F := Ideal) (m (((c.tc : Thread nD τ)).loc main_arg0)) (m (((c.tc : Thread nD τ)).loc main_arg1)) (m (((c.tc : Thread nD τ)).loc main_arg2)) (m (((c.tc : Thread nD τ)).loc main_arg3)) (m (((c.tc : Thread nD τ)).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final5 m c), ((h c).2.1).trans (final6 m c), (h c).2.2⟩) (run_blocks m ρ)

end Cert.BWoFwdIdeal.Value

namespace Cert.Proof.BWoFwd

theorem frame : Cert.quiescent_BWoFwd := fun m ρ _ => Cert.BWoFwd.Gen.frame m ρ
theorem frame_ideal : Cert.quiescent_BWoFwdIdeal := fun m ρ _ => Cert.BWoFwdIdeal.Gen.frame m ρ
theorem frame_ref : Cert.quiescent_BWoFwdRefIdeal := fun m ρ _ =>
  (θ_run Cert.BWoFwdRefIdeal.defs _ _).mono (fun r h => ⟨fun c => (h c).2.2, Idealize.ShloMosaic.sem_eq_zero_of_no_sems (by decide) r.2⟩)
    (Cert.BWoFwdRefIdeal.Value.run (F := Ideal) m ρ)

/-- Over the reals the kernel's results are the reference's. -/
theorem algebraic : Cert.algebraic_BWoFwdIdeal_BWoFwdRefIdeal := by
  intro m ρ m' ρ' _ hagree
  refine ⟨fun c => Cert.BWoFwdRefIdeal.Read.val_main_v8 (F := Ideal) (m (((c.tc : Thread Cert.BWoFwdIdeal.nD Cert.BWoFwdIdeal.τ)).loc Cert.BWoFwdIdeal.main_arg0)) (m (((c.tc : Thread Cert.BWoFwdIdeal.nD Cert.BWoFwdIdeal.τ)).loc Cert.BWoFwdIdeal.main_arg1)) (m (((c.tc : Thread Cert.BWoFwdIdeal.nD Cert.BWoFwdIdeal.τ)).loc Cert.BWoFwdIdeal.main_arg2)) (m (((c.tc : Thread Cert.BWoFwdIdeal.nD Cert.BWoFwdIdeal.τ)).loc Cert.BWoFwdIdeal.main_arg3)), fun c => Cert.BWoFwdRefIdeal.Read.val_main_v21 (F := Ideal) (m (((c.tc : Thread Cert.BWoFwdIdeal.nD Cert.BWoFwdIdeal.τ)).loc Cert.BWoFwdIdeal.main_arg0)) (m (((c.tc : Thread Cert.BWoFwdIdeal.nD Cert.BWoFwdIdeal.τ)).loc Cert.BWoFwdIdeal.main_arg1)) (m (((c.tc : Thread Cert.BWoFwdIdeal.nD Cert.BWoFwdIdeal.τ)).loc Cert.BWoFwdIdeal.main_arg2)) (m (((c.tc : Thread Cert.BWoFwdIdeal.nD Cert.BWoFwdIdeal.τ)).loc Cert.BWoFwdIdeal.main_arg3)) (m (((c.tc : Thread Cert.BWoFwdIdeal.nD Cert.BWoFwdIdeal.τ)).loc Cert.BWoFwdIdeal.main_arg4)),
    Cert.BWoFwdIdeal.Value.run m ρ, ?_⟩
  exact (θ_run Cert.BWoFwdRefIdeal.defs _ _).mono (fun _ h c => ⟨((h c).1).trans ((Cert.BWoFwdRefIdeal.Read.val_main_v8_eq (F := Ideal) _ _ _ _).trans (by rw [(hagree c).1, (hagree c).2.1, (hagree c).2.2.1, (hagree c).2.2.2.1])),
      ((h c).2.1).trans ((Cert.BWoFwdRefIdeal.Read.val_main_v21_eq (F := Ideal) _ _ _ _ _).trans (by rw [(hagree c).1, (hagree c).2.1, (hagree c).2.2.1, (hagree c).2.2.2.1, (hagree c).2.2.2.2])),
      (h c).2.2⟩)
    (Cert.BWoFwdRefIdeal.Value.run (F := Ideal) m' ρ')

end Cert.Proof.BWoFwd

end
-- ==== Proof.AdamwANorm.lean ====
module

public import proofs.«01_k».proof.Defs
public import proofs.«01_k».proof.Proof.Gen.AdamwANorm
public import proofs.«01_k».proof.Proof.Gen.AdamwANorm.Frame
public import proofs.«01_k».proof.Proof.Gen.AdamwANormIdeal.Value
public import proofs.«01_k».proof.Proof.Gen.AdamwANormRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The first norm's gain: the sum of its gradient over the devices, and its step of AdamW. -/

namespace Cert.AdamwANormIdeal.Value

open Cert.AdamwANormIdeal Cert.AdamwANormIdeal.Gen
open Cert.AdamwANormRefIdeal.Read (val_main_v0 val_main_v5 val_main_v11 val_main_v24)

variable (a0 : Vec Ideal S8x8x128 .f32) (a1 a2 a3 : Vec Ideal S8x128 .f32)

/-- The eight devices' gradients added one after the other are their sum. -/
theorem grad_eq : G4 (F := Ideal) a0 a1 a2 a3 = val_main_v0 a0 := by
  funext j
  rw [eq_ix2 (n0 := 8) (n1 := 128) j]
  pointwise [G4, k0_pay6, k0_pay4, Cert.AdamwANormRefIdeal.Read.val_main_v0, Cert.AdamwANormRefIdeal.Read.val_main_cst]
  rw [Fin.sum_univ_eight]

/-- The three moving quantities, element by element, over the gradient. -/
theorem moments_eq : G5 (F := Ideal) a0 a1 a2 a3 = val_main_v24 a0 a1 a2 a3 ∧ G6 (F := Ideal) a0 a1 a2 a3 = val_main_v5 a0 a2
    ∧ G7 (F := Ideal) a0 a1 a2 a3 = val_main_v11 a0 a3 := by
  have hg := grad_eq a0 a1 a2 a3
  unfold G5 G6 G7
  unfold G4 at hg
  rw [hg]
  refine ⟨?_, ?_, ?_⟩ <;> funext j <;>
    pointwise [k0_pay1, k0_pay2, k0_pay3, k0_pay5, k0_pay7, Cert.AdamwANormRefIdeal.Read.val_main_cst, Cert.AdamwANormRefIdeal.Read.val_main_cst_0, Cert.AdamwANormRefIdeal.Read.val_main_v1, Cert.AdamwANormRefIdeal.Read.val_main_v2, Cert.AdamwANormRefIdeal.Read.val_main_cst_1, Cert.AdamwANormRefIdeal.Read.val_main_v3, Cert.AdamwANormRefIdeal.Read.val_main_v4, Cert.AdamwANormRefIdeal.Read.val_main_v5, Cert.AdamwANormRefIdeal.Read.val_main_cst_2, Cert.AdamwANormRefIdeal.Read.val_main_v6, Cert.AdamwANormRefIdeal.Read.val_main_v7, Cert.AdamwANormRefIdeal.Read.val_main_v8, Cert.AdamwANormRefIdeal.Read.val_main_cst_3, Cert.AdamwANormRefIdeal.Read.val_main_v9, Cert.AdamwANormRefIdeal.Read.val_main_v10, Cert.AdamwANormRefIdeal.Read.val_main_v11, Cert.AdamwANormRefIdeal.Read.val_main_cst_4, Cert.AdamwANormRefIdeal.Read.val_main_v12, Cert.AdamwANormRefIdeal.Read.val_main_v13, Cert.AdamwANormRefIdeal.Read.val_main_cst_5, Cert.AdamwANormRefIdeal.Read.val_main_v14, Cert.AdamwANormRefIdeal.Read.val_main_v15, Cert.AdamwANormRefIdeal.Read.val_main_v16, Cert.AdamwANormRefIdeal.Read.val_main_cst_6, Cert.AdamwANormRefIdeal.Read.val_main_v17, Cert.AdamwANormRefIdeal.Read.val_main_v18, Cert.AdamwANormRefIdeal.Read.val_main_v19, Cert.AdamwANormRefIdeal.Read.val_main_cst_7, Cert.AdamwANormRefIdeal.Read.val_main_v20, Cert.AdamwANormRefIdeal.Read.val_main_v21, Cert.AdamwANormRefIdeal.Read.val_main_v22, Cert.AdamwANormRefIdeal.Read.val_main_cst_8, Cert.AdamwANormRefIdeal.Read.val_main_v23, Cert.AdamwANormRefIdeal.Read.val_main_v24]

end Cert.AdamwANormIdeal.Value

namespace Cert.Proof.AdamwANorm

theorem frame : Cert.quiescent_AdamwANorm := fun m ρ _ => Cert.AdamwANorm.Gen.frame m ρ
theorem frame_ideal : Cert.quiescent_AdamwANormIdeal := fun m ρ _ => Cert.AdamwANormIdeal.Gen.frame m ρ
theorem frame_ref : Cert.quiescent_AdamwANormRefIdeal := fun m ρ _ =>
  (θ_run Cert.AdamwANormRefIdeal.defs _ _).mono (fun r h => ⟨fun c => (h c).2.2.2.2, Idealize.ShloMosaic.sem_eq_zero_of_no_sems (by decide) r.2⟩)
    (Cert.AdamwANormRefIdeal.Value.run (F := Ideal) m ρ)

open Cert.AdamwANormIdeal.Value in
/-- Over the reals the kernel's results are the reference's. -/
theorem algebraic : Cert.algebraic_AdamwANormIdeal_AdamwANormRefIdeal := by
  intro m ρ m' ρ' _ hagree
  refine ⟨fun c => Cert.AdamwANormRefIdeal.Read.val_main_v0 (F := Ideal) (m (((c.tc : Thread Cert.AdamwANormIdeal.nD Cert.AdamwANormIdeal.τ)).loc Cert.AdamwANormIdeal.main_arg0)),
    fun c => Cert.AdamwANormRefIdeal.Read.val_main_v24 (F := Ideal) (m (((c.tc : Thread Cert.AdamwANormIdeal.nD Cert.AdamwANormIdeal.τ)).loc Cert.AdamwANormIdeal.main_arg0)) (m (((c.tc : Thread Cert.AdamwANormIdeal.nD Cert.AdamwANormIdeal.τ)).loc Cert.AdamwANormIdeal.main_arg1)) (m (((c.tc : Thread Cert.AdamwANormIdeal.nD Cert.AdamwANormIdeal.τ)).loc Cert.AdamwANormIdeal.main_arg2)) (m (((c.tc : Thread Cert.AdamwANormIdeal.nD Cert.AdamwANormIdeal.τ)).loc Cert.AdamwANormIdeal.main_arg3)),
    fun c => Cert.AdamwANormRefIdeal.Read.val_main_v5 (F := Ideal) (m (((c.tc : Thread Cert.AdamwANormIdeal.nD Cert.AdamwANormIdeal.τ)).loc Cert.AdamwANormIdeal.main_arg0)) (m (((c.tc : Thread Cert.AdamwANormIdeal.nD Cert.AdamwANormIdeal.τ)).loc Cert.AdamwANormIdeal.main_arg2)),
    fun c => Cert.AdamwANormRefIdeal.Read.val_main_v11 (F := Ideal) (m (((c.tc : Thread Cert.AdamwANormIdeal.nD Cert.AdamwANormIdeal.τ)).loc Cert.AdamwANormIdeal.main_arg0)) (m (((c.tc : Thread Cert.AdamwANormIdeal.nD Cert.AdamwANormIdeal.τ)).loc Cert.AdamwANormIdeal.main_arg3)),
    (θ_run Cert.AdamwANormIdeal.defs _ _).mono (fun _ h c => ⟨(h c).1.trans (grad_eq _ _ _ _), (h c).2.1.trans (moments_eq _ _ _ _).1,
      (h c).2.2.1.trans (moments_eq _ _ _ _).2.1, (h c).2.2.2.1.trans (moments_eq _ _ _ _).2.2, (h c).2.2.2.2⟩)
      (Cert.AdamwANormIdeal.Value.run (F := Ideal) m ρ), ?_⟩
  exact (θ_run Cert.AdamwANormRefIdeal.defs _ _).mono (fun _ h c => by
      obtain ⟨e0, e1, e2, e3⟩ := hagree c
      refine ⟨(h c).1.trans ?_, (h c).2.1.trans ?_, (h c).2.2.1.trans ?_, (h c).2.2.2.1.trans ?_, (h c).2.2.2.2⟩
      · exact (Cert.AdamwANormRefIdeal.Read.val_main_v0_eq (F := Ideal) _).trans (by rw [e0])
      · exact (Cert.AdamwANormRefIdeal.Read.val_main_v24_eq (F := Ideal) _ _ _ _).trans (by rw [e0, e1, e2, e3])
      · exact (Cert.AdamwANormRefIdeal.Read.val_main_v5_eq (F := Ideal) _ _).trans (by rw [e0, e2])
      · exact (Cert.AdamwANormRefIdeal.Read.val_main_v11_eq (F := Ideal) _ _).trans (by rw [e0, e3]))
    (Cert.AdamwANormRefIdeal.Value.run (F := Ideal) m' ρ')

end Cert.Proof.AdamwANorm

end
-- ==== Proof.Shard.lean ====
module

public import Idealize.ShloMosaic.PureOps.Ideal
public import Idealize.ShloMosaic.Lib.StableHlo.Predicate

@[expose] public section

noncomputable section

/-! The number of a chip, from zero to three. -/

namespace Cert.Proof.Shard

open Idealize.ShloMosaic

theorem chip_lt {x : BitVec 32} (h : IntOp.andi (IntOp.cmpi .sge x 0#32) (IntOp.cmpi .slt x 4#32) = 1#1) : x.toNat < 4 := by
  have andi_one (a b : BitVec 1) : IntOp.andi a b = 1#1 ↔ a = 1#1 ∧ b = 1#1 := by revert a b; decide
  rw [andi_one] at h
  obtain ⟨h0, h1⟩ := h
  simp only [IntOp.cmpi, StableHlo.Predicate.ofBool_eq_one_iff, BitVec.sle, BitVec.slt, decide_eq_true_eq, BitVec.toInt] at h0 h1
  have := x.isLt
  norm_num at h0 h1
  split at h1 <;> omega

/-- A sum over the chips of what one of them holds and zero for the others. -/
theorem sum_pick (x : BitVec 32) (hx : x.toNat < 4) (f : Fin 4 → EReal) :
    ∑ d : Fin 4, Scalar.select (IntOp.cmpi .eq (BitVec.ofNat 32 d.val) x) (f d) (FloatOps.sitofp (F := Ideal) .f32 0#32) = f ⟨x.toNat, hx⟩ := by
  have h0 : FloatOps.sitofp (F := Ideal) .f32 0#32 = (0 : EReal) := by simp [FloatOps.sitofp]
  rw [h0, Fin.sum_univ_four]
  obtain ⟨n, rfl⟩ : ∃ n : Fin 4, x = BitVec.ofNat 32 n.val := ⟨⟨x.toNat, hx⟩, by simp⟩
  fin_cases n <;> simp [IntOp.cmpi, Scalar.select]

/-- In the first block the place is the offset. -/
theorem at0 {x n k : Nat} (h : x = 0) : x * n + k = k := by
  rw [h, Nat.zero_mul, Nat.zero_add]

end Cert.Proof.Shard
-- ==== Proof.AdamwBW.lean ====
module

public import proofs.«01_k».proof.Defs
public import proofs.«01_k».proof.Proof.Gen.Pre_chip_b_w
public import proofs.«01_k».proof.Proof.Shard
public import proofs.«01_k».proof.Proof.Gen.AdamwBW.Frame
public import proofs.«01_k».proof.Proof.Gen.AdamwBWIdeal.Frame
public import proofs.«01_k».proof.Proof.Gen.AdamwBWRefIdeal.Read
public import Idealize.ShloMosaic.Lib.Pointwise
public import Idealize.ShloMosaic.Lib.Quiescent
public import Idealize.ShloMosaic.Lib.Pipeline.ValueKit
public import Idealize.ShloMosaic.Lib.StableHlo.Predicate

@[expose] public section

set_option maxRecDepth 16384

noncomputable section

open Idealize.ShloMosaic Idealize.ShloMosaic.TcCoe Idealize.SL.Sem

namespace Cert.AdamwBWIdeal.Value

open Cert.AdamwBWIdeal Cert.AdamwBWIdeal.Gen

variable (m : (ℓ : Loc nD τ sig) → Buf (Elt Ideal) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwBWIdeal m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwBWIdeal m) : Ok (F := Ideal) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

/-! The arguments. -/

abbrev a0 (c : Dev nD) : Vec Ideal Cert.AdamwBWRefIdeal.S_ .i32 := m ((c.tc : Thread nD τ).loc main_arg0)
abbrev a1 (c : Dev nD) : Vec Ideal S4x2x128x1024 .bf16 := m ((c.tc : Thread nD τ).loc main_arg1)
abbrev a2 (c : Dev nD) : Vec Ideal S3x2x128x1024 .bf16 := m ((c.tc : Thread nD τ).loc main_arg2)
abbrev a3 (c : Dev nD) : Vec Ideal S2x128x1024 .f32 := m ((c.tc : Thread nD τ).loc main_arg3)
abbrev a4 (c : Dev nD) : Vec Ideal S2x128x1024 .f32 := m ((c.tc : Thread nD τ).loc main_arg4)
abbrev a5 (c : Dev nD) : Vec Ideal S2x128x1024 .f32 := m ((c.tc : Thread nD τ).loc main_arg5)

open Cert.AdamwBWRefIdeal.Read
open Cert.Proof.Shard (at0)

/-! The blocks of the stacked arrays, which are the same for each of them. -/

theorem at3 : ∀ t : Fin grid0.N, cc0_transform_2 (grid0.coords t) = ![(grid0.coords t 0).val, (grid0.coords t 1).val, 0] := by decide +kernel

theorem reached : ∀ β : (a : Fin 3) → Fin ((S2x128x1024.size a + S1x128x1024.size a - 1) / S1x128x1024.size a), ∃ t : Fin grid0.N, ∀ a, cc0_transform_2 (grid0.coords t) a = β a := by
  decide +kernel

theorem pos : ∀ a, 0 < S1x128x1024.size a := by decide

/-! ## The blocks the point `t` reads, out of the arguments -/

theorem idx0 (hO : Ok m) (t : Fin (cfgM m hO).N) : (pcfg0.win (adm m hO) 0).index t = ![(chip m).toNat, (grid0.coords t 0).val, (grid0.coords t 1).val, 0] := index0 m _ _ _

/-- The layer of the point. -/
abbrev lay (t : Fin grid0.N) : Fin 2 := ⟨(grid0.coords t 0).val, (by decide +kernel : ∀ t : Fin grid0.N, (grid0.coords t 0).val < 2) t⟩

/-- The row of the array that is row `r` of the point's block. -/
abbrev row (t : Fin grid0.N) (r : Fin 128) : Fin 128 := ⟨(grid0.coords t 1).val * 128 + r.val, by
  have := (by decide +kernel : ∀ t : Fin grid0.N, (grid0.coords t 1).val * 128 + 128 ≤ 128) t
  omega⟩

theorem blk0 (hO : Ok m) (hc : (chip m).toNat < 4) (c : Dev nD) (t : Fin (cfgM m hO).N) (r : Fin 128) (k : Fin 1024) :
    (iblk m hO c 0 t : Vec Ideal S1x1x128x1024 .bf16) (ix4 0 0 r k) = a1 m c (ix4 ⟨(chip m).toNat, hc⟩ (lay t) (row t r) k) := by
  have e := idx0 m hO t
  blk_ext [iblk, V_main_arg1]
  exacts [congrArg (· + 0) (congrFun e 0), congrArg (· + 0) (congrFun e 1), congrArg (· * 128 + r.val) (congrFun e 2), at0 (congrFun e 3)]

theorem blk1 (hO : Ok m) (c : Dev nD) (t : Fin (cfgM m hO).N) (d : Fin 3) (r : Fin 128) (k : Fin 1024) :
    (iblk m hO c 1 t : Vec Ideal S3x1x128x1024 .bf16) (ix4 d 0 r k) = a2 m c (ix4 d (lay t) (row t r) k) := by
  have e : (pcfg0.win (adm m hO) 1).index t = ![0, (grid0.coords t 0).val, (grid0.coords t 1).val, 0] := (by decide +kernel : ∀ t : Fin grid0.N, cc0_transform_1 (grid0.coords t) = ![0, (grid0.coords t 0).val, (grid0.coords t 1).val, 0]) t
  blk_ext [iblk, V_main_arg2]
  exacts [at0 (congrFun e 0), congrArg (· + 0) (congrFun e 1), congrArg (· * 128 + r.val) (congrFun e 2), at0 (congrFun e 3)]

theorem blk2 (hO : Ok m) (c : Dev nD) (t : Fin (cfgM m hO).N) (r : Fin 128) (k : Fin 1024) :
    (iblk m hO c 2 t : Vec Ideal S1x128x1024 .f32) (ix3 0 r k) = a3 m c (ix3 (lay t) (row t r) k) := by
  have e : (pcfg0.win (adm m hO) 2).index t = ![(grid0.coords t 0).val, (grid0.coords t 1).val, 0] := at3 t
  blk_ext [iblk, V_main_arg3]
  exacts [congrArg (· + 0) (congrFun e 0), congrArg (· * 128 + r.val) (congrFun e 1), at0 (congrFun e 2)]

theorem blk3 (hO : Ok m) (c : Dev nD) (t : Fin (cfgM m hO).N) (r : Fin 128) (k : Fin 1024) :
    (iblk m hO c 3 t : Vec Ideal S1x128x1024 .f32) (ix3 0 r k) = a4 m c (ix3 (lay t) (row t r) k) := by
  have e : (pcfg0.win (adm m hO) 3).index t = ![(grid0.coords t 0).val, (grid0.coords t 1).val, 0] := at3 t
  blk_ext [iblk, V_main_arg4]
  exacts [congrArg (· + 0) (congrFun e 0), congrArg (· * 128 + r.val) (congrFun e 1), at0 (congrFun e 2)]

theorem blk4 (hO : Ok m) (c : Dev nD) (t : Fin (cfgM m hO).N) (r : Fin 128) (k : Fin 1024) :
    (iblk m hO c 4 t : Vec Ideal S1x128x1024 .f32) (ix3 0 r k) = a5 m c (ix3 (lay t) (row t r) k) := by
  have e : (pcfg0.win (adm m hO) 4).index t = ![(grid0.coords t 0).val, (grid0.coords t 1).val, 0] := at3 t
  blk_ext [iblk, V_main_arg5]
  exacts [congrArg (· + 0) (congrFun e 0), congrArg (· * 128 + r.val) (congrFun e 1), at0 (congrFun e 2)]

theorem emb5 (hO : Ok m) (t : Fin (cfgM m hO).N) (r : Fin 128) (k : Fin 1024) :
    (((cfgM m hO).win 5).blk t).view.emb (ix3 0 r k : S1x128x1024.Idx) = (ix3 (lay t) (row t r) k : S2x128x1024.Idx) := by
  have e : (pcfg0.win (adm m hO) 5).index t = ![(grid0.coords t 0).val, (grid0.coords t 1).val, 0] := at3 t
  blk_ext
  exacts [congrArg (· + 0) (congrFun e 0), congrArg (· * 128 + r.val) (congrFun e 1), at0 (congrFun e 2)]

theorem emb6 (hO : Ok m) (t : Fin (cfgM m hO).N) (r : Fin 128) (k : Fin 1024) :
    (((cfgM m hO).win 6).blk t).view.emb (ix3 0 r k : S1x128x1024.Idx) = (ix3 (lay t) (row t r) k : S2x128x1024.Idx) :=
  emb5 m hO t r k

theorem emb7 (hO : Ok m) (t : Fin (cfgM m hO).N) (r : Fin 128) (k : Fin 1024) :
    (((cfgM m hO).win 7).blk t).view.emb (ix3 0 r k : S1x128x1024.Idx) = (ix3 (lay t) (row t r) k : S2x128x1024.Idx) :=
  emb5 m hO t r k

theorem emb8 (hO : Ok m) (t : Fin (cfgM m hO).N) (r : Fin 128) (k : Fin 1024) :
    (((cfgM m hO).win 8).blk t).view.emb (ix3 0 r k : S1x128x1024.Idx) = (ix3 (lay t) (row t r) k : S2x128x1024.Idx) :=
  emb5 m hO t r k

/-! ## The gradient at an element -/

theorem ref_grad (x0 : Vec Ideal Cert.AdamwBWRefIdeal.S_ .i32) (x1 : Vec Ideal S4x2x128x1024 .bf16) (x2 : Vec Ideal S3x2x128x1024 .bf16) (hc : (x0 (fun a => a.elim0)).toNat < 4) (b : Fin 2) (r : Fin 128) (k : Fin 1024) :
    val_main_v9 (F := Ideal) x0 x1 x2 (ix3 b r k) = x1 (ix4 ⟨(x0 (fun a => a.elim0)).toNat, hc⟩ b r k) + ∑ d : Fin 3, x2 (ix4 d b r k) := by
  pointwise [val_main_v9, val_main_v8, val_main_v7, val_main_v6, val_main_v5, val_main_v4, val_main_v3, val_main_v2, val_main_v1, val_main_v0, val_main_cst, val_main_cst_0, val_main_c, val_main_call0_v0, val_main_call0_v1, val_main_call0_v2]
  congr 1
  exact Cert.Proof.Shard.sum_pick _ hc (fun d => x1 (ix4 d b r k))

/-- The slot `d` of what was received. -/
abbrev slot0 (b1 : Vec Ideal S3x1x128x1024 .bf16) : Vec Ideal S1x1x128x1024 .bf16 := View.ld b1 (Rect.unit ![0, 0, 0, 0] ![1, 1, 128, 1024] inb_S3x1x128x1024_S1x1x128x1024_0_0_0_0)
abbrev slot1 (b1 : Vec Ideal S3x1x128x1024 .bf16) : Vec Ideal S1x1x128x1024 .bf16 := View.ld b1 (Rect.unit ![1, 0, 0, 0] ![1, 1, 128, 1024] inb_S3x1x128x1024_S1x1x128x1024_1_0_0_0)
abbrev slot2 (b1 : Vec Ideal S3x1x128x1024 .bf16) : Vec Ideal S1x1x128x1024 .bf16 := View.ld b1 (Rect.unit ![2, 0, 0, 0] ![1, 1, 128, 1024] inb_S3x1x128x1024_S1x1x128x1024_2_0_0_0)

theorem pay_grad (b0 : Vec Ideal S1x1x128x1024 .bf16) (b1 : Vec Ideal S3x1x128x1024 .bf16) (r : Fin 128) (k : Fin 1024) :
    k0_pay6 b0 (slot0 b1) (slot1 b1) (slot2 b1) (ix2 r k) = b0 (ix4 0 0 r k) + ∑ d : Fin 3, b1 (ix4 d 0 r k) := by
  rw [Fin.sum_univ_three]
  pointwise [k0_pay6, slot0, slot1, slot2]
  simp only [add_assoc]

/-! ## What the body stores, over the blocks it reads -/

section
variable (x0 : Vec Ideal S1x1x128x1024 .bf16) (x1 : Vec Ideal S3x1x128x1024 .bf16) (x2 x3 x4 : Vec Ideal S1x128x1024 .f32)

abbrev payGrad : Vec Ideal S1x128x1024 .f32 := k0_pay2 (k0_pay6 x0 (slot0 x1) (slot1 x1) (slot2 x1))
abbrev payStep : Vec Ideal S1x128x1024 .f32 :=
  k0_pay3 (k0_pay7 x2) (k0_pay8 x0 (slot0 x1) (slot1 x1) (slot2 x1) x3) (k0_pay9 x4) (k0_pay10 x0 (slot0 x1) (slot1 x1) (slot2 x1)) (FloatOps.ofBits FTy.f32 981668463#32)
abbrev payMean : Vec Ideal S1x128x1024 .f32 := k0_pay4 (k0_pay8 x0 (slot0 x1) (slot1 x1) (slot2 x1) x3)
abbrev paySquare : Vec Ideal S1x128x1024 .f32 := k0_pay5 (k0_pay9 x4) (k0_pay10 x0 (slot0 x1) (slot1 x1) (slot2 x1)) (FloatOps.ofBits FTy.f32 981668463#32)

variable (c : Dev nD) (i : grid0.Coords) (arg3 : Memref sig .tc .vmem S1x1x128x1024 .bf16) (harg3 : arg3.IsWhole) (arg4 : Memref sig .tc .vmem S3x1x128x1024 .bf16) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x128x1024 .f32) (harg10 : arg10.IsWhole) (arg11 : Memref sig .tc .vmem S1x128x1024 .f32) (harg11 : arg11.IsWhole) (xt0 : TbBuf0 (F := Ideal) c tbM0_0)

theorem out5 : out0_A_5 (F := Ideal) c i arg3 harg3 arg4 harg4 arg5 harg5 arg6 harg6 arg7 harg7 arg8 harg8 arg9 harg9 arg10 harg10 arg11 harg11 x0 x1 x2 x3 x4 xt0 = payGrad x0 x1 := by
  frame_out

theorem out6 : out0_A_6 (F := Ideal) c i arg3 harg3 arg4 harg4 arg5 harg5 arg6 harg6 arg7 harg7 arg8 harg8 arg9 harg9 arg10 harg10 arg11 harg11 x0 x1 x2 x3 x4 xt0 = payStep x0 x1 x2 x3 x4 := by
  frame_out

theorem out7 : out0_A_7 (F := Ideal) c i arg3 harg3 arg4 harg4 arg5 harg5 arg6 harg6 arg7 harg7 arg8 harg8 arg9 harg9 arg10 harg10 arg11 harg11 x0 x1 x2 x3 x4 xt0 = payMean x0 x1 x3 := by
  frame_out

theorem out8 : out0_A_8 (F := Ideal) c i arg3 harg3 arg4 harg4 arg5 harg5 arg6 harg6 arg7 harg7 arg8 harg8 arg9 harg9 arg10 harg10 arg11 harg11 x0 x1 x2 x3 x4 xt0 = paySquare x0 x1 x4 := by
  frame_out

end

/-- Where the blocks hold the arrays' elements, what is stored is the reference's. -/
theorem elem (x0 : Vec Ideal S1x1x128x1024 .bf16) (x1 : Vec Ideal S3x1x128x1024 .bf16) (x2 x3 x4 : Vec Ideal S1x128x1024 .f32)
    (X0 : Vec Ideal Cert.AdamwBWRefIdeal.S_ .i32) (X1 : Vec Ideal S4x2x128x1024 .bf16) (X2 : Vec Ideal S3x2x128x1024 .bf16) (X3 X4 X5 : Vec Ideal S2x128x1024 .f32)
    (hc : (X0 (fun a => a.elim0)).toNat < 4) (b : Fin 2) (R : Fin 128) (r : Fin 128) (k : Fin 1024)
    (h0 : x0 (ix4 0 0 r k) = X1 (ix4 ⟨(X0 (fun a => a.elim0)).toNat, hc⟩ b R k)) (h1 : ∀ d, x1 (ix4 d 0 r k) = X2 (ix4 d b R k))
    (h2 : x2 (ix3 0 r k) = X3 (ix3 b R k)) (h3 : x3 (ix3 0 r k) = X4 (ix3 b R k)) (h4 : x4 (ix3 0 r k) = X5 (ix3 b R k)) :
    payGrad x0 x1 (ix3 0 r k) = val_main_v9 (F := Ideal) X0 X1 X2 (ix3 b R k)
    ∧ payStep x0 x1 x2 x3 x4 (ix3 0 r k) = val_main_v33 (F := Ideal) X0 X1 X2 X3 X4 X5 (ix3 b R k)
    ∧ payMean x0 x1 x3 (ix3 0 r k) = val_main_v14 (F := Ideal) X0 X1 X2 X4 (ix3 b R k)
    ∧ paySquare x0 x1 x4 (ix3 0 r k) = val_main_v20 (F := Ideal) X0 X1 X2 X5 (ix3 b R k) := by
  have hg := pay_grad x0 x1 r k
  rw [h0, Finset.sum_congr rfl fun d _ => h1 d, ← ref_grad X0 X1 X2 hc b R k] at hg
  refine ⟨?_, ?_, ?_, ?_⟩ <;>
    pointwise [payGrad, payStep, payMean, paySquare, k0_pay1, k0_pay2, k0_pay3, k0_pay4, k0_pay5, k0_pay7, k0_pay8, k0_pay9, k0_pay10, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_cst_2, val_main_cst_3, val_main_cst_4, val_main_cst_5, val_main_cst_6, val_main_cst_7, val_main_cst_8, val_main_cst_9] <;> (try rw [hg]) <;> simp only [h2, h3, h4]

theorem outs (hO : Ok m) (c : Dev nD) (t : Fin (cfgM m hO).N) : outsAt0 m hO c t =
    (payGrad (iblk m hO c 0 t) (iblk m hO c 1 t), payStep (iblk m hO c 0 t) (iblk m hO c 1 t) (iblk m hO c 2 t) (iblk m hO c 3 t) (iblk m hO c 4 t), payMean (iblk m hO c 0 t) (iblk m hO c 1 t) (iblk m hO c 3 t), paySquare (iblk m hO c 0 t) (iblk m hO c 1 t) (iblk m hO c 4 t)) := by
  unfold outsAt0
  refine Prod.ext ?_ (Prod.ext ?_ (Prod.ext ?_ ?_)) <;> dsimp only
  exacts [by apply out5, by apply out6, by apply out7, by apply out8]

abbrev new5 (c : Dev nD) : Vec Ideal S2x128x1024 .f32 := val_main_v9 (F := Ideal) (a0 m c) (a1 m c) (a2 m c)
abbrev new6 (c : Dev nD) : Vec Ideal S2x128x1024 .f32 := val_main_v33 (F := Ideal) (a0 m c) (a1 m c) (a2 m c) (a3 m c) (a4 m c) (a5 m c)
abbrev new7 (c : Dev nD) : Vec Ideal S2x128x1024 .f32 := val_main_v14 (F := Ideal) (a0 m c) (a1 m c) (a2 m c) (a4 m c)
abbrev new8 (c : Dev nD) : Vec Ideal S2x128x1024 .f32 := val_main_v20 (F := Ideal) (a0 m c) (a1 m c) (a2 m c) (a5 m c)

theorem pt (hO : Ok m) (hc : (chip m).toNat < 4) (c : Dev nD) (t : Fin (cfgM m hO).N) (r : Fin 128) (k : Fin 1024) :
    payGrad (iblk m hO c 0 t) (iblk m hO c 1 t) (ix3 0 r k) = new5 m c (ix3 (lay t) (row t r) k)
    ∧ payStep (iblk m hO c 0 t) (iblk m hO c 1 t) (iblk m hO c 2 t) (iblk m hO c 3 t) (iblk m hO c 4 t) (ix3 0 r k) = new6 m c (ix3 (lay t) (row t r) k)
    ∧ payMean (iblk m hO c 0 t) (iblk m hO c 1 t) (iblk m hO c 3 t) (ix3 0 r k) = new7 m c (ix3 (lay t) (row t r) k)
    ∧ paySquare (iblk m hO c 0 t) (iblk m hO c 1 t) (iblk m hO c 4 t) (ix3 0 r k) = new8 m c (ix3 (lay t) (row t r) k) :=
  elem (iblk m hO c 0 t) (iblk m hO c 1 t) (iblk m hO c 2 t) (iblk m hO c 3 t) (iblk m hO c 4 t) (a0 m c) (a1 m c) (a2 m c) (a3 m c) (a4 m c) (a5 m c)
    (by rw [Subsingleton.elim c 0]; exact hc) (lay t) (row t r) r k (by have := Subsingleton.elim c 0; subst this; exact blk0 m hO hc 0 t r k)
    (fun d => blk1 m hO c t d r k) (blk2 m hO c t r k) (blk3 m hO c t r k) (blk4 m hO c t r k)

theorem idx_form (y : S1x128x1024.Idx) : ∃ (r : Fin 128) (k : Fin 1024), y = ix3 0 r k :=
  ⟨y 1, y 2, (eq_ix3 (n0 := 1) (n1 := 128) (n2 := 1024) y).trans (congrArg (fun z : Fin 1 => (ix3 z (y 1) (y 2) : S1x128x1024.Idx)) (Subsingleton.elim _ _))⟩

theorem final5 (hO : Ok m) (hc : (chip m).toNat < 4) (c : Dev nD) : (dats m hO 0 c).arrAt 5 (cfgM m hO).N = new5 m c := by
  refine (dats m hO 0 c).arrAt_eq_of_covers 5 _ ⟨pos, fun β => (reached β).imp fun t ht => ⟨flush0_5 _ t, fun a => ⟨ht a, .inl rfl⟩⟩⟩ fun t hf y => ?_
  blk_simp
  rw [after0_5, outs]
  obtain ⟨r, k, rfl⟩ := idx_form y
  exact (pt m hO hc c t r k).1.trans (congrArg _ (emb5 m hO t r k).symm)

theorem final6 (hO : Ok m) (hc : (chip m).toNat < 4) (c : Dev nD) : (dats m hO 0 c).arrAt 6 (cfgM m hO).N = new6 m c := by
  refine (dats m hO 0 c).arrAt_eq_of_covers 6 _ ⟨pos, fun β => (reached β).imp fun t ht => ⟨flush0_6 _ t, fun a => ⟨ht a, .inl rfl⟩⟩⟩ fun t hf y => ?_
  blk_simp
  rw [after0_6, outs]
  obtain ⟨r, k, rfl⟩ := idx_form y
  exact (pt m hO hc c t r k).2.1.trans (congrArg _ (emb6 m hO t r k).symm)

theorem final7 (hO : Ok m) (hc : (chip m).toNat < 4) (c : Dev nD) : (dats m hO 0 c).arrAt 7 (cfgM m hO).N = new7 m c := by
  refine (dats m hO 0 c).arrAt_eq_of_covers 7 _ ⟨pos, fun β => (reached β).imp fun t ht => ⟨flush0_7 _ t, fun a => ⟨ht a, .inl rfl⟩⟩⟩ fun t hf y => ?_
  blk_simp
  rw [after0_7, outs]
  obtain ⟨r, k, rfl⟩ := idx_form y
  exact (pt m hO hc c t r k).2.2.1.trans (congrArg _ (emb7 m hO t r k).symm)

theorem final8 (hO : Ok m) (hc : (chip m).toNat < 4) (c : Dev nD) : (dats m hO 0 c).arrAt 8 (cfgM m hO).N = new8 m c := by
  refine (dats m hO 0 c).arrAt_eq_of_covers 8 _ ⟨pos, fun β => (reached β).imp fun t ht => ⟨flush0_8 _ t, fun a => ⟨ht a, .inl rfl⟩⟩⟩ fun t hf y => ?_
  blk_simp
  rw [after0_8, outs]
  obtain ⟨r, k, rfl⟩ := idx_form y
  exact (pt m hO hc c t r k).2.2.2.trans (congrArg _ (emb8 m hO t r k).symm)

end Cert.AdamwBWIdeal.Value

/-! The same of the table at the words. -/

namespace Cert.AdamwBW.Value

open Cert.AdamwBW Cert.AdamwBW.Gen

variable (m : (ℓ : Loc nD τ sig) → Buf (Elt Bits) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwBW m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwBW m) : Ok (F := Bits) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

end Cert.AdamwBW.Value

namespace Cert.Proof.AdamwBW

theorem frame : Cert.quiescent_AdamwBW := fun m ρ h => Cert.AdamwBW.Gen.frame m ρ (Cert.AdamwBW.Value.ok_of_pre m h)
theorem frame_ideal : Cert.quiescent_AdamwBWIdeal := fun m ρ h => Cert.AdamwBWIdeal.Gen.frame m ρ (Cert.AdamwBWIdeal.Value.ok_of_pre m h)
theorem frame_ref : Cert.quiescent_AdamwBWRefIdeal := fun m ρ _ =>
  (θ_run Cert.AdamwBWRefIdeal.defs _ _).mono (fun r h => ⟨fun c => (h c).2.2.2.2, Idealize.ShloMosaic.sem_eq_zero_of_no_sems (by decide) r.2⟩)
    (Cert.AdamwBWRefIdeal.Value.run (F := Ideal) m ρ)
theorem frame_ref_pre : Cert.quiescent_AdamwBWRefIdeal_pre_chip_b_w := fun m ρ _ => frame_ref m ρ trivial

open Cert.AdamwBWIdeal.Value in
/-- Over the reals the kernel's results are the reference's. -/
theorem algebraic : Cert.algebraic_AdamwBWIdeal_AdamwBWRefIdeal := by
  intro m ρ m' ρ' hpre hagree
  have hO := ok_of_pre m hpre
  have hc := chip_lt m hpre
  refine ⟨
new5 m, new6 m, new7 m, new8 m,
    (θ_run Cert.AdamwBWIdeal.defs _ _).mono (fun _ h c => ⟨(h.1.out_eq c 5).trans (final5 m hO hc c), (h.1.out_eq c 6).trans (final6 m hO hc c),
      (h.1.out_eq c 7).trans (final7 m hO hc c), (h.1.out_eq c 8).trans (final8 m hO hc c), h.2 c⟩)
      (θ_run_and (Cert.AdamwBWIdeal.Gen.run_main m ρ hO) (Cert.AdamwBWIdeal.Gen.unchanged m ρ hO)), ?_⟩
  exact (θ_run Cert.AdamwBWRefIdeal.defs _ _).mono (fun _ h c => by
      obtain ⟨e0, e1, e2, e3, e4, e5⟩ := hagree c
      refine ⟨(h c).1.trans ?_, (h c).2.1.trans ?_, (h c).2.2.1.trans ?_, (h c).2.2.2.1.trans ?_, (h c).2.2.2.2⟩
      · exact (Cert.AdamwBWRefIdeal.Read.val_main_v9_eq (F := Ideal) _ _ _ ).trans (by rw [e0, e1, e2])
      · exact (Cert.AdamwBWRefIdeal.Read.val_main_v33_eq (F := Ideal) _ _ _ _ _ _ ).trans (by rw [e0, e1, e2, e3, e4, e5])
      · exact (Cert.AdamwBWRefIdeal.Read.val_main_v14_eq (F := Ideal) _ _ _ _ ).trans (by rw [e0, e1, e2, e4])
      · exact (Cert.AdamwBWRefIdeal.Read.val_main_v20_eq (F := Ideal) _ _ _ _ ).trans (by rw [e0, e1, e2, e5]))
    (Cert.AdamwBWRefIdeal.Value.run (F := Ideal) m' ρ')

end Cert.Proof.AdamwBW

end
-- ==== Proof.AdamwKv.lean ====
module

public import proofs.«01_k».proof.Defs
public import proofs.«01_k».proof.Proof.Gen.Pre_chip_w_kv
public import proofs.«01_k».proof.Proof.Shard
public import proofs.«01_k».proof.Proof.Gen.AdamwKv.Frame
public import proofs.«01_k».proof.Proof.Gen.AdamwKvIdeal.Frame
public import proofs.«01_k».proof.Proof.Gen.AdamwKvRefIdeal.Read
public import Idealize.ShloMosaic.Lib.Pointwise
public import Idealize.ShloMosaic.Lib.Quiescent
public import Idealize.ShloMosaic.Lib.Pipeline.ValueKit
public import Idealize.ShloMosaic.Lib.StableHlo.Predicate

@[expose] public section

set_option maxRecDepth 16384

noncomputable section

open Idealize.ShloMosaic Idealize.ShloMosaic.TcCoe Idealize.SL.Sem

namespace Cert.AdamwKvIdeal.Value

open Cert.AdamwKvIdeal Cert.AdamwKvIdeal.Gen

variable (m : (ℓ : Loc nD τ sig) → Buf (Elt Ideal) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwKvIdeal m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwKvIdeal m) : Ok (F := Ideal) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

/-! The arguments. -/

abbrev a0 (c : Dev nD) : Vec Ideal Cert.AdamwKvRefIdeal.S_ .i32 := m ((c.tc : Thread nD τ).loc main_arg0)
abbrev a1 (c : Dev nD) : Vec Ideal S4x1x128x256 .bf16 := m ((c.tc : Thread nD τ).loc main_arg1)
abbrev a2 (c : Dev nD) : Vec Ideal S3x1x128x256 .bf16 := m ((c.tc : Thread nD τ).loc main_arg2)
abbrev a3 (c : Dev nD) : Vec Ideal S1x128x256 .f32 := m ((c.tc : Thread nD τ).loc main_arg3)
abbrev a4 (c : Dev nD) : Vec Ideal S1x128x256 .f32 := m ((c.tc : Thread nD τ).loc main_arg4)
abbrev a5 (c : Dev nD) : Vec Ideal S1x128x256 .f32 := m ((c.tc : Thread nD τ).loc main_arg5)

open Cert.AdamwKvRefIdeal.Read
open Cert.Proof.Shard (at0)

/-! The blocks of the stacked arrays, which are the same for each of them. -/

theorem at3 : ∀ t : Fin grid0.N, cc0_transform_2 (grid0.coords t) = ![0, (grid0.coords t 1).val, 0] := by decide +kernel

theorem reached : ∀ β : (a : Fin 3) → Fin ((S1x128x256.size a + S1x128x256.size a - 1) / S1x128x256.size a), ∃ t : Fin grid0.N, ∀ a, cc0_transform_2 (grid0.coords t) a = β a := by
  decide +kernel

theorem pos : ∀ a, 0 < S1x128x256.size a := by decide

/-! ## The blocks the point `t` reads, out of the arguments -/

theorem idx0 (hO : Ok m) (t : Fin (cfgM m hO).N) : (pcfg0.win (adm m hO) 0).index t = ![(chip m).toNat, 0, (grid0.coords t 1).val, 0] :=
  (index0 m _ _ _).trans (congrArg (fun x : Nat => ![(chip m).toNat, x, (grid0.coords t 1).val, 0]) ((by decide +kernel : ∀ t : Fin grid0.N, (grid0.coords t 0).val = 0) t))

/-- The row of the array that is row `r` of the point's block. -/
abbrev row (t : Fin grid0.N) (r : Fin 128) : Fin 128 := ⟨(grid0.coords t 1).val * 128 + r.val, by
  have := (by decide +kernel : ∀ t : Fin grid0.N, (grid0.coords t 1).val * 128 + 128 ≤ 128) t
  omega⟩

theorem blk0 (hO : Ok m) (hc : (chip m).toNat < 4) (c : Dev nD) (t : Fin (cfgM m hO).N) (r : Fin 128) (k : Fin 256) :
    (iblk m hO c 0 t : Vec Ideal S1x1x128x256 .bf16) (ix4 0 0 r k) = a1 m c (ix4 ⟨(chip m).toNat, hc⟩ 0 (row t r) k) := by
  have e := idx0 m hO t
  blk_ext [iblk, V_main_arg1]
  exacts [congrArg (· + 0) (congrFun e 0), congrArg (· + 0) (congrFun e 1), congrArg (· * 128 + r.val) (congrFun e 2), at0 (congrFun e 3)]

theorem blk1 (hO : Ok m) (c : Dev nD) (t : Fin (cfgM m hO).N) (d : Fin 3) (r : Fin 128) (k : Fin 256) :
    (iblk m hO c 1 t : Vec Ideal S3x1x128x256 .bf16) (ix4 d 0 r k) = a2 m c (ix4 d 0 (row t r) k) := by
  have e : (pcfg0.win (adm m hO) 1).index t = ![0, 0, (grid0.coords t 1).val, 0] := (by decide +kernel : ∀ t : Fin grid0.N, cc0_transform_1 (grid0.coords t) = ![0, 0, (grid0.coords t 1).val, 0]) t
  blk_ext [iblk, V_main_arg2]
  exacts [at0 (congrFun e 0), congrArg (· + 0) (congrFun e 1), congrArg (· * 128 + r.val) (congrFun e 2), at0 (congrFun e 3)]

theorem blk2 (hO : Ok m) (c : Dev nD) (t : Fin (cfgM m hO).N) (r : Fin 128) (k : Fin 256) :
    (iblk m hO c 2 t : Vec Ideal S1x128x256 .f32) (ix3 0 r k) = a3 m c (ix3 0 (row t r) k) := by
  have e : (pcfg0.win (adm m hO) 2).index t = ![0, (grid0.coords t 1).val, 0] := at3 t
  blk_ext [iblk, V_main_arg3]
  exacts [congrArg (· + 0) (congrFun e 0), congrArg (· * 128 + r.val) (congrFun e 1), at0 (congrFun e 2)]

theorem blk3 (hO : Ok m) (c : Dev nD) (t : Fin (cfgM m hO).N) (r : Fin 128) (k : Fin 256) :
    (iblk m hO c 3 t : Vec Ideal S1x128x256 .f32) (ix3 0 r k) = a4 m c (ix3 0 (row t r) k) := by
  have e : (pcfg0.win (adm m hO) 3).index t = ![0, (grid0.coords t 1).val, 0] := at3 t
  blk_ext [iblk, V_main_arg4]
  exacts [congrArg (· + 0) (congrFun e 0), congrArg (· * 128 + r.val) (congrFun e 1), at0 (congrFun e 2)]

theorem blk4 (hO : Ok m) (c : Dev nD) (t : Fin (cfgM m hO).N) (r : Fin 128) (k : Fin 256) :
    (iblk m hO c 4 t : Vec Ideal S1x128x256 .f32) (ix3 0 r k) = a5 m c (ix3 0 (row t r) k) := by
  have e : (pcfg0.win (adm m hO) 4).index t = ![0, (grid0.coords t 1).val, 0] := at3 t
  blk_ext [iblk, V_main_arg5]
  exacts [congrArg (· + 0) (congrFun e 0), congrArg (· * 128 + r.val) (congrFun e 1), at0 (congrFun e 2)]

theorem emb5 (hO : Ok m) (t : Fin (cfgM m hO).N) (r : Fin 128) (k : Fin 256) :
    (((cfgM m hO).win 5).blk t).view.emb (ix3 0 r k : S1x128x256.Idx) = (ix3 0 (row t r) k : S1x128x256.Idx) := by
  have e : (pcfg0.win (adm m hO) 5).index t = ![0, (grid0.coords t 1).val, 0] := at3 t
  blk_ext
  exacts [congrArg (· + 0) (congrFun e 0), congrArg (· * 128 + r.val) (congrFun e 1), at0 (congrFun e 2)]

theorem emb6 (hO : Ok m) (t : Fin (cfgM m hO).N) (r : Fin 128) (k : Fin 256) :
    (((cfgM m hO).win 6).blk t).view.emb (ix3 0 r k : S1x128x256.Idx) = (ix3 0 (row t r) k : S1x128x256.Idx) :=
  emb5 m hO t r k

theorem emb7 (hO : Ok m) (t : Fin (cfgM m hO).N) (r : Fin 128) (k : Fin 256) :
    (((cfgM m hO).win 7).blk t).view.emb (ix3 0 r k : S1x128x256.Idx) = (ix3 0 (row t r) k : S1x128x256.Idx) :=
  emb5 m hO t r k

theorem emb8 (hO : Ok m) (t : Fin (cfgM m hO).N) (r : Fin 128) (k : Fin 256) :
    (((cfgM m hO).win 8).blk t).view.emb (ix3 0 r k : S1x128x256.Idx) = (ix3 0 (row t r) k : S1x128x256.Idx) :=
  emb5 m hO t r k

/-! ## The gradient at an element -/

theorem ref_grad (x0 : Vec Ideal Cert.AdamwKvRefIdeal.S_ .i32) (x1 : Vec Ideal S4x1x128x256 .bf16) (x2 : Vec Ideal S3x1x128x256 .bf16) (hc : (x0 (fun a => a.elim0)).toNat < 4) (r : Fin 128) (k : Fin 256) :
    val_main_v9 (F := Ideal) x0 x1 x2 (ix3 0 r k) = x1 (ix4 ⟨(x0 (fun a => a.elim0)).toNat, hc⟩ 0 r k) + ∑ d : Fin 3, x2 (ix4 d 0 r k) := by
  pointwise [val_main_v9, val_main_v8, val_main_v7, val_main_v6, val_main_v5, val_main_v4, val_main_v3, val_main_v2, val_main_v1, val_main_v0, val_main_cst, val_main_cst_0, val_main_c, val_main_call0_v0, val_main_call0_v1, val_main_call0_v2]
  congr 1
  exact Cert.Proof.Shard.sum_pick _ hc (fun d => x1 (ix4 d 0 r k))

/-- The slot `d` of what was received. -/
abbrev slot0 (b1 : Vec Ideal S3x1x128x256 .bf16) : Vec Ideal S1x1x128x256 .bf16 := View.ld b1 (Rect.unit ![0, 0, 0, 0] ![1, 1, 128, 256] inb_S3x1x128x256_S1x1x128x256_0_0_0_0)
abbrev slot1 (b1 : Vec Ideal S3x1x128x256 .bf16) : Vec Ideal S1x1x128x256 .bf16 := View.ld b1 (Rect.unit ![1, 0, 0, 0] ![1, 1, 128, 256] inb_S3x1x128x256_S1x1x128x256_1_0_0_0)
abbrev slot2 (b1 : Vec Ideal S3x1x128x256 .bf16) : Vec Ideal S1x1x128x256 .bf16 := View.ld b1 (Rect.unit ![2, 0, 0, 0] ![1, 1, 128, 256] inb_S3x1x128x256_S1x1x128x256_2_0_0_0)

theorem pay_grad (b0 : Vec Ideal S1x1x128x256 .bf16) (b1 : Vec Ideal S3x1x128x256 .bf16) (r : Fin 128) (k : Fin 256) :
    k0_pay6 b0 (slot0 b1) (slot1 b1) (slot2 b1) (ix2 r k) = b0 (ix4 0 0 r k) + ∑ d : Fin 3, b1 (ix4 d 0 r k) := by
  rw [Fin.sum_univ_three]
  pointwise [k0_pay6, slot0, slot1, slot2]
  simp only [add_assoc]

/-! ## What the body stores, over the blocks it reads -/

section
variable (x0 : Vec Ideal S1x1x128x256 .bf16) (x1 : Vec Ideal S3x1x128x256 .bf16) (x2 x3 x4 : Vec Ideal S1x128x256 .f32)

abbrev payGrad : Vec Ideal S1x128x256 .f32 := k0_pay2 (k0_pay6 x0 (slot0 x1) (slot1 x1) (slot2 x1))
abbrev payStep : Vec Ideal S1x128x256 .f32 :=
  k0_pay3 (k0_pay7 x2) (k0_pay8 x0 (slot0 x1) (slot1 x1) (slot2 x1) x3) (k0_pay9 x4) (k0_pay10 x0 (slot0 x1) (slot1 x1) (slot2 x1)) (FloatOps.ofBits FTy.f32 981668463#32)
abbrev payMean : Vec Ideal S1x128x256 .f32 := k0_pay4 (k0_pay8 x0 (slot0 x1) (slot1 x1) (slot2 x1) x3)
abbrev paySquare : Vec Ideal S1x128x256 .f32 := k0_pay5 (k0_pay9 x4) (k0_pay10 x0 (slot0 x1) (slot1 x1) (slot2 x1)) (FloatOps.ofBits FTy.f32 981668463#32)

variable (c : Dev nD) (i : grid0.Coords) (arg3 : Memref sig .tc .vmem S1x1x128x256 .bf16) (harg3 : arg3.IsWhole) (arg4 : Memref sig .tc .vmem S3x1x128x256 .bf16) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S1x128x256 .f32) (harg9 : arg9.IsWhole) (arg10 : Memref sig .tc .vmem S1x128x256 .f32) (harg10 : arg10.IsWhole) (arg11 : Memref sig .tc .vmem S1x128x256 .f32) (harg11 : arg11.IsWhole) (xt0 : TbBuf0 (F := Ideal) c tbM0_0)

theorem out5 : out0_A_5 (F := Ideal) c i arg3 harg3 arg4 harg4 arg5 harg5 arg6 harg6 arg7 harg7 arg8 harg8 arg9 harg9 arg10 harg10 arg11 harg11 x0 x1 x2 x3 x4 xt0 = payGrad x0 x1 := by
  frame_out

theorem out6 : out0_A_6 (F := Ideal) c i arg3 harg3 arg4 harg4 arg5 harg5 arg6 harg6 arg7 harg7 arg8 harg8 arg9 harg9 arg10 harg10 arg11 harg11 x0 x1 x2 x3 x4 xt0 = payStep x0 x1 x2 x3 x4 := by
  frame_out

theorem out7 : out0_A_7 (F := Ideal) c i arg3 harg3 arg4 harg4 arg5 harg5 arg6 harg6 arg7 harg7 arg8 harg8 arg9 harg9 arg10 harg10 arg11 harg11 x0 x1 x2 x3 x4 xt0 = payMean x0 x1 x3 := by
  frame_out

theorem out8 : out0_A_8 (F := Ideal) c i arg3 harg3 arg4 harg4 arg5 harg5 arg6 harg6 arg7 harg7 arg8 harg8 arg9 harg9 arg10 harg10 arg11 harg11 x0 x1 x2 x3 x4 xt0 = paySquare x0 x1 x4 := by
  frame_out

end

/-- Where the blocks hold the arrays' elements, what is stored is the reference's. -/
theorem elem (x0 : Vec Ideal S1x1x128x256 .bf16) (x1 : Vec Ideal S3x1x128x256 .bf16) (x2 x3 x4 : Vec Ideal S1x128x256 .f32)
    (X0 : Vec Ideal Cert.AdamwKvRefIdeal.S_ .i32) (X1 : Vec Ideal S4x1x128x256 .bf16) (X2 : Vec Ideal S3x1x128x256 .bf16) (X3 X4 X5 : Vec Ideal S1x128x256 .f32)
    (hc : (X0 (fun a => a.elim0)).toNat < 4) (R : Fin 128) (r : Fin 128) (k : Fin 256)
    (h0 : x0 (ix4 0 0 r k) = X1 (ix4 ⟨(X0 (fun a => a.elim0)).toNat, hc⟩ 0 R k)) (h1 : ∀ d, x1 (ix4 d 0 r k) = X2 (ix4 d 0 R k))
    (h2 : x2 (ix3 0 r k) = X3 (ix3 0 R k)) (h3 : x3 (ix3 0 r k) = X4 (ix3 0 R k)) (h4 : x4 (ix3 0 r k) = X5 (ix3 0 R k)) :
    payGrad x0 x1 (ix3 0 r k) = val_main_v9 (F := Ideal) X0 X1 X2 (ix3 0 R k)
    ∧ payStep x0 x1 x2 x3 x4 (ix3 0 r k) = val_main_v33 (F := Ideal) X0 X1 X2 X3 X4 X5 (ix3 0 R k)
    ∧ payMean x0 x1 x3 (ix3 0 r k) = val_main_v14 (F := Ideal) X0 X1 X2 X4 (ix3 0 R k)
    ∧ paySquare x0 x1 x4 (ix3 0 r k) = val_main_v20 (F := Ideal) X0 X1 X2 X5 (ix3 0 R k) := by
  have hg := pay_grad x0 x1 r k
  rw [h0, Finset.sum_congr rfl fun d _ => h1 d, ← ref_grad X0 X1 X2 hc R k] at hg
  refine ⟨?_, ?_, ?_, ?_⟩ <;>
    pointwise [payGrad, payStep, payMean, paySquare, k0_pay1, k0_pay2, k0_pay3, k0_pay4, k0_pay5, k0_pay7, k0_pay8, k0_pay9, k0_pay10, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_cst_2, val_main_cst_3, val_main_cst_4, val_main_cst_5, val_main_cst_6, val_main_cst_7, val_main_cst_8, val_main_cst_9] <;> (try rw [hg]) <;> simp only [h2, h3, h4]

theorem outs (hO : Ok m) (c : Dev nD) (t : Fin (cfgM m hO).N) : outsAt0 m hO c t =
    (payGrad (iblk m hO c 0 t) (iblk m hO c 1 t), payStep (iblk m hO c 0 t) (iblk m hO c 1 t) (iblk m hO c 2 t) (iblk m hO c 3 t) (iblk m hO c 4 t), payMean (iblk m hO c 0 t) (iblk m hO c 1 t) (iblk m hO c 3 t), paySquare (iblk m hO c 0 t) (iblk m hO c 1 t) (iblk m hO c 4 t)) := by
  unfold outsAt0
  refine Prod.ext ?_ (Prod.ext ?_ (Prod.ext ?_ ?_)) <;> dsimp only
  exacts [by apply out5, by apply out6, by apply out7, by apply out8]

abbrev new5 (c : Dev nD) : Vec Ideal S1x128x256 .f32 := val_main_v9 (F := Ideal) (a0 m c) (a1 m c) (a2 m c)
abbrev new6 (c : Dev nD) : Vec Ideal S1x128x256 .f32 := val_main_v33 (F := Ideal) (a0 m c) (a1 m c) (a2 m c) (a3 m c) (a4 m c) (a5 m c)
abbrev new7 (c : Dev nD) : Vec Ideal S1x128x256 .f32 := val_main_v14 (F := Ideal) (a0 m c) (a1 m c) (a2 m c) (a4 m c)
abbrev new8 (c : Dev nD) : Vec Ideal S1x128x256 .f32 := val_main_v20 (F := Ideal) (a0 m c) (a1 m c) (a2 m c) (a5 m c)

theorem pt (hO : Ok m) (hc : (chip m).toNat < 4) (c : Dev nD) (t : Fin (cfgM m hO).N) (r : Fin 128) (k : Fin 256) :
    payGrad (iblk m hO c 0 t) (iblk m hO c 1 t) (ix3 0 r k) = new5 m c (ix3 0 (row t r) k)
    ∧ payStep (iblk m hO c 0 t) (iblk m hO c 1 t) (iblk m hO c 2 t) (iblk m hO c 3 t) (iblk m hO c 4 t) (ix3 0 r k) = new6 m c (ix3 0 (row t r) k)
    ∧ payMean (iblk m hO c 0 t) (iblk m hO c 1 t) (iblk m hO c 3 t) (ix3 0 r k) = new7 m c (ix3 0 (row t r) k)
    ∧ paySquare (iblk m hO c 0 t) (iblk m hO c 1 t) (iblk m hO c 4 t) (ix3 0 r k) = new8 m c (ix3 0 (row t r) k) :=
  elem (iblk m hO c 0 t) (iblk m hO c 1 t) (iblk m hO c 2 t) (iblk m hO c 3 t) (iblk m hO c 4 t) (a0 m c) (a1 m c) (a2 m c) (a3 m c) (a4 m c) (a5 m c)
    (by rw [Subsingleton.elim c 0]; exact hc) (row t r) r k (by have := Subsingleton.elim c 0; subst this; exact blk0 m hO hc 0 t r k)
    (fun d => blk1 m hO c t d r k) (blk2 m hO c t r k) (blk3 m hO c t r k) (blk4 m hO c t r k)

theorem idx_form (y : S1x128x256.Idx) : ∃ (r : Fin 128) (k : Fin 256), y = ix3 0 r k :=
  ⟨y 1, y 2, (eq_ix3 (n0 := 1) (n1 := 128) (n2 := 256) y).trans (congrArg (fun z : Fin 1 => (ix3 z (y 1) (y 2) : S1x128x256.Idx)) (Subsingleton.elim _ _))⟩

theorem final5 (hO : Ok m) (hc : (chip m).toNat < 4) (c : Dev nD) : (dats m hO 0 c).arrAt 5 (cfgM m hO).N = new5 m c := by
  refine (dats m hO 0 c).arrAt_eq_of_covers 5 _ ⟨pos, fun β => (reached β).imp fun t ht => ⟨flush0_5 _ t, fun a => ⟨ht a, .inl rfl⟩⟩⟩ fun t hf y => ?_
  blk_simp
  rw [after0_5, outs]
  obtain ⟨r, k, rfl⟩ := idx_form y
  exact (pt m hO hc c t r k).1.trans (congrArg _ (emb5 m hO t r k).symm)

theorem final6 (hO : Ok m) (hc : (chip m).toNat < 4) (c : Dev nD) : (dats m hO 0 c).arrAt 6 (cfgM m hO).N = new6 m c := by
  refine (dats m hO 0 c).arrAt_eq_of_covers 6 _ ⟨pos, fun β => (reached β).imp fun t ht => ⟨flush0_6 _ t, fun a => ⟨ht a, .inl rfl⟩⟩⟩ fun t hf y => ?_
  blk_simp
  rw [after0_6, outs]
  obtain ⟨r, k, rfl⟩ := idx_form y
  exact (pt m hO hc c t r k).2.1.trans (congrArg _ (emb6 m hO t r k).symm)

theorem final7 (hO : Ok m) (hc : (chip m).toNat < 4) (c : Dev nD) : (dats m hO 0 c).arrAt 7 (cfgM m hO).N = new7 m c := by
  refine (dats m hO 0 c).arrAt_eq_of_covers 7 _ ⟨pos, fun β => (reached β).imp fun t ht => ⟨flush0_7 _ t, fun a => ⟨ht a, .inl rfl⟩⟩⟩ fun t hf y => ?_
  blk_simp
  rw [after0_7, outs]
  obtain ⟨r, k, rfl⟩ := idx_form y
  exact (pt m hO hc c t r k).2.2.1.trans (congrArg _ (emb7 m hO t r k).symm)

theorem final8 (hO : Ok m) (hc : (chip m).toNat < 4) (c : Dev nD) : (dats m hO 0 c).arrAt 8 (cfgM m hO).N = new8 m c := by
  refine (dats m hO 0 c).arrAt_eq_of_covers 8 _ ⟨pos, fun β => (reached β).imp fun t ht => ⟨flush0_8 _ t, fun a => ⟨ht a, .inl rfl⟩⟩⟩ fun t hf y => ?_
  blk_simp
  rw [after0_8, outs]
  obtain ⟨r, k, rfl⟩ := idx_form y
  exact (pt m hO hc c t r k).2.2.2.trans (congrArg _ (emb8 m hO t r k).symm)

end Cert.AdamwKvIdeal.Value

/-! The same of the table at the words. -/

namespace Cert.AdamwKv.Value

open Cert.AdamwKv Cert.AdamwKv.Gen

variable (m : (ℓ : Loc nD τ sig) → Buf (Elt Bits) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwKv m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwKv m) : Ok (F := Bits) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

end Cert.AdamwKv.Value

namespace Cert.Proof.AdamwKv

theorem frame : Cert.quiescent_AdamwKv := fun m ρ h => Cert.AdamwKv.Gen.frame m ρ (Cert.AdamwKv.Value.ok_of_pre m h)
theorem frame_ideal : Cert.quiescent_AdamwKvIdeal := fun m ρ h => Cert.AdamwKvIdeal.Gen.frame m ρ (Cert.AdamwKvIdeal.Value.ok_of_pre m h)
theorem frame_ref : Cert.quiescent_AdamwKvRefIdeal := fun m ρ _ =>
  (θ_run Cert.AdamwKvRefIdeal.defs _ _).mono (fun r h => ⟨fun c => (h c).2.2.2.2, Idealize.ShloMosaic.sem_eq_zero_of_no_sems (by decide) r.2⟩)
    (Cert.AdamwKvRefIdeal.Value.run (F := Ideal) m ρ)
theorem frame_ref_pre : Cert.quiescent_AdamwKvRefIdeal_pre_chip_w_kv := fun m ρ _ => frame_ref m ρ trivial

open Cert.AdamwKvIdeal.Value in
/-- Over the reals the kernel's results are the reference's. -/
theorem algebraic : Cert.algebraic_AdamwKvIdeal_AdamwKvRefIdeal := by
  intro m ρ m' ρ' hpre hagree
  have hO := ok_of_pre m hpre
  have hc := chip_lt m hpre
  refine ⟨
new5 m, new6 m, new7 m, new8 m,
    (θ_run Cert.AdamwKvIdeal.defs _ _).mono (fun _ h c => ⟨(h.1.out_eq c 5).trans (final5 m hO hc c), (h.1.out_eq c 6).trans (final6 m hO hc c),
      (h.1.out_eq c 7).trans (final7 m hO hc c), (h.1.out_eq c 8).trans (final8 m hO hc c), h.2 c⟩)
      (θ_run_and (Cert.AdamwKvIdeal.Gen.run_main m ρ hO) (Cert.AdamwKvIdeal.Gen.unchanged m ρ hO)), ?_⟩
  exact (θ_run Cert.AdamwKvRefIdeal.defs _ _).mono (fun _ h c => by
      obtain ⟨e0, e1, e2, e3, e4, e5⟩ := hagree c
      refine ⟨(h c).1.trans ?_, (h c).2.1.trans ?_, (h c).2.2.1.trans ?_, (h c).2.2.2.1.trans ?_, (h c).2.2.2.2⟩
      · exact (Cert.AdamwKvRefIdeal.Read.val_main_v9_eq (F := Ideal) _ _ _ ).trans (by rw [e0, e1, e2])
      · exact (Cert.AdamwKvRefIdeal.Read.val_main_v33_eq (F := Ideal) _ _ _ _ _ _ ).trans (by rw [e0, e1, e2, e3, e4, e5])
      · exact (Cert.AdamwKvRefIdeal.Read.val_main_v14_eq (F := Ideal) _ _ _ _ ).trans (by rw [e0, e1, e2, e4])
      · exact (Cert.AdamwKvRefIdeal.Read.val_main_v20_eq (F := Ideal) _ _ _ _ ).trans (by rw [e0, e1, e2, e5]))
    (Cert.AdamwKvRefIdeal.Value.run (F := Ideal) m' ρ')

end Cert.Proof.AdamwKv

end
-- ==== Proof.AdamwUp.lean ====
module

public import proofs.«01_k».proof.Defs
public import proofs.«01_k».proof.Proof.Gen.Pre_chip_mlp_up
public import proofs.«01_k».proof.Proof.Shard
public import proofs.«01_k».proof.Proof.Gen.AdamwUp.Frame
public import proofs.«01_k».proof.Proof.Gen.AdamwUpIdeal.Frame
public import proofs.«01_k».proof.Proof.Gen.AdamwUpRefIdeal.Read
public import Idealize.ShloMosaic.Lib.Pointwise
public import Idealize.ShloMosaic.Lib.Quiescent
public import Idealize.ShloMosaic.Lib.Pipeline.ValueKit
public import Idealize.ShloMosaic.Lib.StableHlo.Predicate

@[expose] public section

set_option maxRecDepth 16384

noncomputable section

open Idealize.ShloMosaic Idealize.ShloMosaic.TcCoe Idealize.SL.Sem

namespace Cert.AdamwUpIdeal.Value

open Cert.AdamwUpIdeal Cert.AdamwUpIdeal.Gen

variable (m : (ℓ : Loc nD τ sig) → Buf (Elt Ideal) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwUpIdeal m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwUpIdeal m) : Ok (F := Ideal) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

/-! The arguments. -/

abbrev a0 (c : Dev nD) : Vec Ideal Cert.AdamwUpRefIdeal.S_ .i32 := m ((c.tc : Thread nD τ).loc main_arg0)
abbrev a1 (c : Dev nD) : Vec Ideal S4x1x1024x512 .bf16 := m ((c.tc : Thread nD τ).loc main_arg1)
abbrev a2 (c : Dev nD) : Vec Ideal S3x1x1024x512 .bf16 := m ((c.tc : Thread nD τ).loc main_arg2)
abbrev a3 (c : Dev nD) : Vec Ideal S4x1024x512 .f32 := m ((c.tc : Thread nD τ).loc main_arg3)
abbrev a4 (c : Dev nD) : Vec Ideal S4x1024x512 .f32 := m ((c.tc : Thread nD τ).loc main_arg4)
abbrev a5 (c : Dev nD) : Vec Ideal S4x1024x512 .f32 := m ((c.tc : Thread nD τ).loc main_arg5)
abbrev a6 (c : Dev nD) : Vec Ideal S4x1024x512 .f32 := m ((c.tc : Thread nD τ).loc main_arg6)
abbrev a7 (c : Dev nD) : Vec Ideal S4x1024x512 .f32 := m ((c.tc : Thread nD τ).loc main_arg7)
abbrev a8 (c : Dev nD) : Vec Ideal S4x1024x512 .f32 := m ((c.tc : Thread nD τ).loc main_arg8)
abbrev a9 (c : Dev nD) : Vec Ideal S4x1024x512 .f32 := m ((c.tc : Thread nD τ).loc main_arg9)

open Cert.AdamwUpRefIdeal.Read
open Cert.Proof.Shard (at0)

/-! The blocks of the stacked arrays, which are the same for each of them. -/

theorem at3 : ∀ t : Fin grid0.N, cc0_transform_2 (grid0.coords t) = ![0, (grid0.coords t 1).val, 0] := by decide +kernel

theorem reached : ∀ β : (a : Fin 3) → Fin ((S4x1024x512.size a + S1x512x512.size a - 1) / S1x512x512.size a), (β 0).val = 0 → ∃ t : Fin grid0.N, ∀ a, cc0_transform_2 (grid0.coords t) a = β a := by
  decide +kernel

theorem pos : ∀ a, 0 < S1x512x512.size a := by decide

/-! ## The blocks the point `t` reads, out of the arguments -/

theorem idx0 (hO : Ok m) (t : Fin (cfgM m hO).N) : (pcfg0.win (adm m hO) 0).index t = ![(chip m).toNat, 0, (grid0.coords t 1).val, 0] :=
  (index0 m _ _ _).trans (congrArg (fun x : Nat => ![(chip m).toNat, x, (grid0.coords t 1).val, 0]) ((by decide +kernel : ∀ t : Fin grid0.N, (grid0.coords t 0).val = 0) t))

/-- The row of the array that is row `r` of the point's block. -/
abbrev row (t : Fin grid0.N) (r : Fin 512) : Fin 1024 := ⟨(grid0.coords t 1).val * 512 + r.val, by
  have := (by decide +kernel : ∀ t : Fin grid0.N, (grid0.coords t 1).val * 512 + 512 ≤ 1024) t
  omega⟩

theorem blk0 (hO : Ok m) (hc : (chip m).toNat < 4) (c : Dev nD) (t : Fin (cfgM m hO).N) (r : Fin 512) (k : Fin 512) :
    (iblk m hO c 0 t : Vec Ideal S1x1x512x512 .bf16) (ix4 0 0 r k) = a1 m c (ix4 ⟨(chip m).toNat, hc⟩ 0 (row t r) k) := by
  have e := idx0 m hO t
  blk_ext [iblk, V_main_arg1]
  exacts [congrArg (· + 0) (congrFun e 0), congrArg (· + 0) (congrFun e 1), congrArg (· * 512 + r.val) (congrFun e 2), at0 (congrFun e 3)]

theorem blk1 (hO : Ok m) (c : Dev nD) (t : Fin (cfgM m hO).N) (d : Fin 3) (r : Fin 512) (k : Fin 512) :
    (iblk m hO c 1 t : Vec Ideal S3x1x512x512 .bf16) (ix4 d 0 r k) = a2 m c (ix4 d 0 (row t r) k) := by
  have e : (pcfg0.win (adm m hO) 1).index t = ![0, 0, (grid0.coords t 1).val, 0] := (by decide +kernel : ∀ t : Fin grid0.N, cc0_transform_1 (grid0.coords t) = ![0, 0, (grid0.coords t 1).val, 0]) t
  blk_ext [iblk, V_main_arg2]
  exacts [at0 (congrFun e 0), congrArg (· + 0) (congrFun e 1), congrArg (· * 512 + r.val) (congrFun e 2), at0 (congrFun e 3)]

theorem blk2 (hO : Ok m) (c : Dev nD) (t : Fin (cfgM m hO).N) (r : Fin 512) (k : Fin 512) :
    (iblk m hO c 2 t : Vec Ideal S1x512x512 .f32) (ix3 0 r k) = a3 m c (ix3 0 (row t r) k) := by
  have e : (pcfg0.win (adm m hO) 2).index t = ![0, (grid0.coords t 1).val, 0] := at3 t
  blk_ext [iblk, V_main_arg3]
  exacts [congrArg (· + 0) (congrFun e 0), congrArg (· * 512 + r.val) (congrFun e 1), at0 (congrFun e 2)]

theorem blk3 (hO : Ok m) (c : Dev nD) (t : Fin (cfgM m hO).N) (r : Fin 512) (k : Fin 512) :
    (iblk m hO c 3 t : Vec Ideal S1x512x512 .f32) (ix3 0 r k) = a4 m c (ix3 0 (row t r) k) := by
  have e : (pcfg0.win (adm m hO) 3).index t = ![0, (grid0.coords t 1).val, 0] := at3 t
  blk_ext [iblk, V_main_arg4]
  exacts [congrArg (· + 0) (congrFun e 0), congrArg (· * 512 + r.val) (congrFun e 1), at0 (congrFun e 2)]

theorem blk4 (hO : Ok m) (c : Dev nD) (t : Fin (cfgM m hO).N) (r : Fin 512) (k : Fin 512) :
    (iblk m hO c 4 t : Vec Ideal S1x512x512 .f32) (ix3 0 r k) = a5 m c (ix3 0 (row t r) k) := by
  have e : (pcfg0.win (adm m hO) 4).index t = ![0, (grid0.coords t 1).val, 0] := at3 t
  blk_ext [iblk, V_main_arg5]
  exacts [congrArg (· + 0) (congrFun e 0), congrArg (· * 512 + r.val) (congrFun e 1), at0 (congrFun e 2)]

theorem emb5 (hO : Ok m) (t : Fin (cfgM m hO).N) (r : Fin 512) (k : Fin 512) :
    (((cfgM m hO).win 5).blk t).view.emb (ix3 0 r k : S1x512x512.Idx) = (ix3 0 (row t r) k : S4x1024x512.Idx) := by
  have e : (pcfg0.win (adm m hO) 5).index t = ![0, (grid0.coords t 1).val, 0] := at3 t
  blk_ext
  exacts [congrArg (· + 0) (congrFun e 0), congrArg (· * 512 + r.val) (congrFun e 1), at0 (congrFun e 2)]

theorem emb6 (hO : Ok m) (t : Fin (cfgM m hO).N) (r : Fin 512) (k : Fin 512) :
    (((cfgM m hO).win 6).blk t).view.emb (ix3 0 r k : S1x512x512.Idx) = (ix3 0 (row t r) k : S4x1024x512.Idx) :=
  emb5 m hO t r k

theorem emb7 (hO : Ok m) (t : Fin (cfgM m hO).N) (r : Fin 512) (k : Fin 512) :
    (((cfgM m hO).win 7).blk t).view.emb (ix3 0 r k : S1x512x512.Idx) = (ix3 0 (row t r) k : S4x1024x512.Idx) :=
  emb5 m hO t r k

theorem emb8 (hO : Ok m) (t : Fin (cfgM m hO).N) (r : Fin 512) (k : Fin 512) :
    (((cfgM m hO).win 8).blk t).view.emb (ix3 0 r k : S1x512x512.Idx) = (ix3 0 (row t r) k : S4x1024x512.Idx) :=
  emb5 m hO t r k

/-! ## The gradient at an element -/

theorem ref_grad (x0 : Vec Ideal Cert.AdamwUpRefIdeal.S_ .i32) (x1 : Vec Ideal S4x1x1024x512 .bf16) (x2 : Vec Ideal S3x1x1024x512 .bf16) (hc : (x0 (fun a => a.elim0)).toNat < 4) (r : Fin 1024) (k : Fin 512) :
    val_main_v12 (F := Ideal) x0 x1 x2 (ix3 0 r k) = x1 (ix4 ⟨(x0 (fun a => a.elim0)).toNat, hc⟩ 0 r k) + ∑ d : Fin 3, x2 (ix4 d 0 r k) := by
  pointwise [val_main_v12, val_main_v11, val_main_v10, val_main_v9, val_main_v8, val_main_v7, val_main_v6, val_main_v5, val_main_v4, val_main_v3, val_main_v2, val_main_v1, val_main_v0, val_main_cst, val_main_cst_0, val_main_c, val_main_call0_v0, val_main_call0_v1, val_main_call0_v2]
  congr 1
  exact Cert.Proof.Shard.sum_pick _ hc (fun d => x1 (ix4 d 0 r k))

/-- The slot `d` of what was received. -/
abbrev slot0 (b1 : Vec Ideal S3x1x512x512 .bf16) : Vec Ideal S1x1x512x512 .bf16 := View.ld b1 (Rect.unit ![0, 0, 0, 0] ![1, 1, 512, 512] inb_S3x1x512x512_S1x1x512x512_0_0_0_0)
abbrev slot1 (b1 : Vec Ideal S3x1x512x512 .bf16) : Vec Ideal S1x1x512x512 .bf16 := View.ld b1 (Rect.unit ![1, 0, 0, 0] ![1, 1, 512, 512] inb_S3x1x512x512_S1x1x512x512_1_0_0_0)
abbrev slot2 (b1 : Vec Ideal S3x1x512x512 .bf16) : Vec Ideal S1x1x512x512 .bf16 := View.ld b1 (Rect.unit ![2, 0, 0, 0] ![1, 1, 512, 512] inb_S3x1x512x512_S1x1x512x512_2_0_0_0)

theorem pay_grad (b0 : Vec Ideal S1x1x512x512 .bf16) (b1 : Vec Ideal S3x1x512x512 .bf16) (r : Fin 512) (k : Fin 512) :
    k0_pay6 b0 (slot0 b1) (slot1 b1) (slot2 b1) (ix2 r k) = b0 (ix4 0 0 r k) + ∑ d : Fin 3, b1 (ix4 d 0 r k) := by
  rw [Fin.sum_univ_three]
  pointwise [k0_pay6, slot0, slot1, slot2]
  simp only [add_assoc]

/-! ## What the body stores, over the blocks it reads -/

section
variable (x0 : Vec Ideal S1x1x512x512 .bf16) (x1 : Vec Ideal S3x1x512x512 .bf16) (x2 x3 x4 : Vec Ideal S1x512x512 .f32)

abbrev payGrad : Vec Ideal S1x512x512 .f32 := k0_pay2 (k0_pay6 x0 (slot0 x1) (slot1 x1) (slot2 x1))
abbrev payStep : Vec Ideal S1x512x512 .f32 :=
  k0_pay3 (k0_pay7 x2) (k0_pay8 x0 (slot0 x1) (slot1 x1) (slot2 x1) x3) (k0_pay9 x4) (k0_pay10 x0 (slot0 x1) (slot1 x1) (slot2 x1)) (FloatOps.ofBits FTy.f32 981668463#32)
abbrev payMean : Vec Ideal S1x512x512 .f32 := k0_pay4 (k0_pay8 x0 (slot0 x1) (slot1 x1) (slot2 x1) x3)
abbrev paySquare : Vec Ideal S1x512x512 .f32 := k0_pay5 (k0_pay9 x4) (k0_pay10 x0 (slot0 x1) (slot1 x1) (slot2 x1)) (FloatOps.ofBits FTy.f32 981668463#32)

variable (c : Dev nD) (i : grid0.Coords) (arg3 : Memref sig .tc .vmem S1x1x512x512 .bf16) (harg3 : arg3.IsWhole) (arg4 : Memref sig .tc .vmem S3x1x512x512 .bf16) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x512x512 .f32) (harg10 : arg10.IsWhole) (arg11 : Memref sig .tc .vmem S1x512x512 .f32) (harg11 : arg11.IsWhole) (xt0 : TbBuf0 (F := Ideal) c tbM0_0)

theorem out5 : out0_A_5 (F := Ideal) c i arg3 harg3 arg4 harg4 arg5 harg5 arg6 harg6 arg7 harg7 arg8 harg8 arg9 harg9 arg10 harg10 arg11 harg11 x0 x1 x2 x3 x4 xt0 = payGrad x0 x1 := by
  frame_out

theorem out6 : out0_A_6 (F := Ideal) c i arg3 harg3 arg4 harg4 arg5 harg5 arg6 harg6 arg7 harg7 arg8 harg8 arg9 harg9 arg10 harg10 arg11 harg11 x0 x1 x2 x3 x4 xt0 = payStep x0 x1 x2 x3 x4 := by
  frame_out

theorem out7 : out0_A_7 (F := Ideal) c i arg3 harg3 arg4 harg4 arg5 harg5 arg6 harg6 arg7 harg7 arg8 harg8 arg9 harg9 arg10 harg10 arg11 harg11 x0 x1 x2 x3 x4 xt0 = payMean x0 x1 x3 := by
  frame_out

theorem out8 : out0_A_8 (F := Ideal) c i arg3 harg3 arg4 harg4 arg5 harg5 arg6 harg6 arg7 harg7 arg8 harg8 arg9 harg9 arg10 harg10 arg11 harg11 x0 x1 x2 x3 x4 xt0 = paySquare x0 x1 x4 := by
  frame_out

end

/-- Where the blocks hold the arrays' elements, what is stored is the reference's. -/
theorem elem (x0 : Vec Ideal S1x1x512x512 .bf16) (x1 : Vec Ideal S3x1x512x512 .bf16) (x2 x3 x4 : Vec Ideal S1x512x512 .f32)
    (X0 : Vec Ideal Cert.AdamwUpRefIdeal.S_ .i32) (X1 : Vec Ideal S4x1x1024x512 .bf16) (X2 : Vec Ideal S3x1x1024x512 .bf16) (X3 X4 X5 : Vec Ideal S4x1024x512 .f32)
    (hc : (X0 (fun a => a.elim0)).toNat < 4) (R : Fin 1024) (r : Fin 512) (k : Fin 512)
    (h0 : x0 (ix4 0 0 r k) = X1 (ix4 ⟨(X0 (fun a => a.elim0)).toNat, hc⟩ 0 R k)) (h1 : ∀ d, x1 (ix4 d 0 r k) = X2 (ix4 d 0 R k))
    (h2 : x2 (ix3 0 r k) = X3 (ix3 0 R k)) (h3 : x3 (ix3 0 r k) = X4 (ix3 0 R k)) (h4 : x4 (ix3 0 r k) = X5 (ix3 0 R k)) :
    payGrad x0 x1 (ix3 0 r k) = val_main_v12 (F := Ideal) X0 X1 X2 (ix3 0 R k)
    ∧ payStep x0 x1 x2 x3 x4 (ix3 0 r k) = val_main_v36 (F := Ideal) X0 X1 X2 X3 X4 X5 (ix3 0 R k)
    ∧ payMean x0 x1 x3 (ix3 0 r k) = val_main_v17 (F := Ideal) X0 X1 X2 X4 (ix3 0 R k)
    ∧ paySquare x0 x1 x4 (ix3 0 r k) = val_main_v23 (F := Ideal) X0 X1 X2 X5 (ix3 0 R k) := by
  have hg := pay_grad x0 x1 r k
  rw [h0, Finset.sum_congr rfl fun d _ => h1 d, ← ref_grad X0 X1 X2 hc R k] at hg
  refine ⟨?_, ?_, ?_, ?_⟩ <;>
    pointwise [payGrad, payStep, payMean, paySquare, k0_pay1, k0_pay2, k0_pay3, k0_pay4, k0_pay5, k0_pay7, k0_pay8, k0_pay9, k0_pay10, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_1, val_main_cst_2, val_main_cst_3, val_main_cst_4, val_main_cst_5, val_main_cst_6, val_main_cst_7, val_main_cst_8, val_main_cst_9, val_main_v0, val_main_v1, val_main_v2] <;> (try rw [hg]) <;> simp only [h2, h3, h4]

theorem outs (hO : Ok m) (c : Dev nD) (t : Fin (cfgM m hO).N) : outsAt0 m hO c t =
    (payGrad (iblk m hO c 0 t) (iblk m hO c 1 t), payStep (iblk m hO c 0 t) (iblk m hO c 1 t) (iblk m hO c 2 t) (iblk m hO c 3 t) (iblk m hO c 4 t), payMean (iblk m hO c 0 t) (iblk m hO c 1 t) (iblk m hO c 3 t), paySquare (iblk m hO c 0 t) (iblk m hO c 1 t) (iblk m hO c 4 t)) := by
  unfold outsAt0
  refine Prod.ext ?_ (Prod.ext ?_ (Prod.ext ?_ ?_)) <;> dsimp only
  exacts [by apply out5, by apply out6, by apply out7, by apply out8]

abbrev new5 (c : Dev nD) : Vec Ideal Cert.AdamwUpRefIdeal.S1x1024x512 .f32 := val_main_v12 (F := Ideal) (a0 m c) (a1 m c) (a2 m c)
abbrev new6 (c : Dev nD) : Vec Ideal Cert.AdamwUpRefIdeal.S1x1024x512 .f32 := val_main_v36 (F := Ideal) (a0 m c) (a1 m c) (a2 m c) (a3 m c) (a4 m c) (a5 m c)
abbrev new7 (c : Dev nD) : Vec Ideal Cert.AdamwUpRefIdeal.S1x1024x512 .f32 := val_main_v17 (F := Ideal) (a0 m c) (a1 m c) (a2 m c) (a4 m c)
abbrev new8 (c : Dev nD) : Vec Ideal Cert.AdamwUpRefIdeal.S1x1024x512 .f32 := val_main_v23 (F := Ideal) (a0 m c) (a1 m c) (a2 m c) (a5 m c)

theorem pt (hO : Ok m) (hc : (chip m).toNat < 4) (c : Dev nD) (t : Fin (cfgM m hO).N) (r : Fin 512) (k : Fin 512) :
    payGrad (iblk m hO c 0 t) (iblk m hO c 1 t) (ix3 0 r k) = new5 m c (ix3 0 (row t r) k)
    ∧ payStep (iblk m hO c 0 t) (iblk m hO c 1 t) (iblk m hO c 2 t) (iblk m hO c 3 t) (iblk m hO c 4 t) (ix3 0 r k) = new6 m c (ix3 0 (row t r) k)
    ∧ payMean (iblk m hO c 0 t) (iblk m hO c 1 t) (iblk m hO c 3 t) (ix3 0 r k) = new7 m c (ix3 0 (row t r) k)
    ∧ paySquare (iblk m hO c 0 t) (iblk m hO c 1 t) (iblk m hO c 4 t) (ix3 0 r k) = new8 m c (ix3 0 (row t r) k) :=
  elem (iblk m hO c 0 t) (iblk m hO c 1 t) (iblk m hO c 2 t) (iblk m hO c 3 t) (iblk m hO c 4 t) (a0 m c) (a1 m c) (a2 m c) (a3 m c) (a4 m c) (a5 m c)
    (by rw [Subsingleton.elim c 0]; exact hc) (row t r) r k (by have := Subsingleton.elim c 0; subst this; exact blk0 m hO hc 0 t r k)
    (fun d => blk1 m hO c t d r k) (blk2 m hO c t r k) (blk3 m hO c t r k) (blk4 m hO c t r k)

theorem idx_form (y : S1x512x512.Idx) : ∃ (r : Fin 512) (k : Fin 512), y = ix3 0 r k :=
  ⟨y 1, y 2, (eq_ix3 (n0 := 1) (n1 := 512) (n2 := 512) y).trans (congrArg (fun z : Fin 1 => (ix3 z (y 1) (y 2) : S1x512x512.Idx)) (Subsingleton.elim _ _))⟩

/-! ## The other layers: what was there before -/

theorem idx_all (i : S4x1024x512.Idx) : ∃ (l : Fin 4) (R : Fin 1024) (k : Fin 512), i = ix3 l R k :=
  ⟨i 0, i 1, i 2, eq_ix3 (n0 := 4) (n1 := 1024) (n2 := 512) i⟩

/-- What was there before stays in the other layers. -/
theorem earlier {A P F : Vec Ideal S4x1024x512 .f32} {G : Vec Ideal Cert.AdamwUpRefIdeal.S1x1024x512 .f32} (h : A = P)
    (hs : ∀ l R k, F (ix3 l R k) = if l.val = 0 then G (ix3 0 R k) else P (ix3 l R k)) (i : S4x1024x512.Idx) :
    (if (i 0).val / 1 = 0 then F i else A i) = F i := by
  obtain ⟨l, R, k, rfl⟩ := idx_all i
  subst h
  by_cases h : l.val = 0
  · exact if_pos ((Nat.div_one _).trans h)
  · exact (if_neg fun e => h ((Nat.div_one _).symm.trans e)).trans ((hs l R k).trans (if_neg h)).symm

theorem first_layer (l : Fin 4) : (val_main_v40 (F := Ideal)) (ix3 l 0 0) = if l.val = 0 then 1 else 0 := by
  pointwise [val_main_v40, val_main_v39, val_main_v38, val_main_v37, val_main_c_10]
  fin_cases l <;> rfl

abbrev ref5 (c : Dev nD) : Vec Ideal S4x1024x512 .f32 := val_main_v41 (F := Ideal) (a0 m c) (a1 m c) (a2 m c) (a6 m c)
abbrev ref6 (c : Dev nD) : Vec Ideal S4x1024x512 .f32 := val_main_v42 (F := Ideal) (a0 m c) (a1 m c) (a2 m c) (a3 m c) (a4 m c) (a5 m c) (a7 m c)
abbrev ref7 (c : Dev nD) : Vec Ideal S4x1024x512 .f32 := val_main_v43 (F := Ideal) (a0 m c) (a1 m c) (a2 m c) (a4 m c) (a8 m c)
abbrev ref8 (c : Dev nD) : Vec Ideal S4x1024x512 .f32 := val_main_v44 (F := Ideal) (a0 m c) (a1 m c) (a2 m c) (a5 m c) (a9 m c)

theorem sel5 (c : Dev nD) (l : Fin 4) (R : Fin 1024) (k : Fin 512) :
    ref5 m c (ix3 l R k) = if l.val = 0 then new5 m c (ix3 0 R k) else a6 m c (ix3 l R k) := by
  have h := first_layer l
  pointwise [val_main_v41, val_main_call1_v0, val_main_call1_v1]
  rw [h]
  split <;> rfl

theorem sel6 (c : Dev nD) (l : Fin 4) (R : Fin 1024) (k : Fin 512) :
    ref6 m c (ix3 l R k) = if l.val = 0 then new6 m c (ix3 0 R k) else a7 m c (ix3 l R k) := by
  have h := first_layer l
  pointwise [val_main_v42, val_main_call2_v0, val_main_call2_v1]
  rw [h]
  split <;> rfl

theorem sel7 (c : Dev nD) (l : Fin 4) (R : Fin 1024) (k : Fin 512) :
    ref7 m c (ix3 l R k) = if l.val = 0 then new7 m c (ix3 0 R k) else a8 m c (ix3 l R k) := by
  have h := first_layer l
  pointwise [val_main_v43, val_main_call3_v0, val_main_call3_v1]
  rw [h]
  split <;> rfl

theorem sel8 (c : Dev nD) (l : Fin 4) (R : Fin 1024) (k : Fin 512) :
    ref8 m c (ix3 l R k) = if l.val = 0 then new8 m c (ix3 0 R k) else a9 m c (ix3 l R k) := by
  have h := first_layer l
  pointwise [val_main_v44, val_main_call4_v0, val_main_call4_v1]
  rw [h]
  split <;> rfl

theorem prev5 (c : Dev nD) : V m c main_v1_0 = a6 m c := by
  simp only [V, hostOps0]
  after_results_simp
  rfl

theorem final5 (hO : Ok m) (hc : (chip m).toNat < 4) (c : Dev nD) : (dats m hO 0 c).arrAt 5 (cfgM m hO).N = ref5 m c := by
  refine ((dats m hO 0 c).arrAt_eq_of_coversWhere 5 (ref5 m c) (P := fun i : S4x1024x512.Idx => (i 0).val / 1 = 0) (fun β => β (0 : Fin 3) = 0)
    ⟨pos, fun t _ => ⟨congrFun (at3 t) 0, fun a => .inl rfl⟩, fun β hβ => (reached β hβ).imp fun t ht => ⟨ht, flush0_5 _ t⟩⟩
    (fun t hf y => ?_) (fun j => Iff.rfl)).trans (funext fun i => ?_)
  · blk_simp
    rw [after0_5, outs]
    obtain ⟨r, k, rfl⟩ := idx_form y
    exact ((pt m hO hc c t r k).1.trans (sel5 m c 0 (row t r) k).symm).trans (congrArg _ (emb5 m hO t r k).symm)
  · exact earlier ((A_eq m hO c 5).trans (prev5 m c)) (sel5 m c) i

theorem prev6 (c : Dev nD) : V m c main_v1_1 = a7 m c := by
  simp only [V, hostOps0]
  after_results_simp
  rfl

theorem final6 (hO : Ok m) (hc : (chip m).toNat < 4) (c : Dev nD) : (dats m hO 0 c).arrAt 6 (cfgM m hO).N = ref6 m c := by
  refine ((dats m hO 0 c).arrAt_eq_of_coversWhere 6 (ref6 m c) (P := fun i : S4x1024x512.Idx => (i 0).val / 1 = 0) (fun β => β (0 : Fin 3) = 0)
    ⟨pos, fun t _ => ⟨congrFun (at3 t) 0, fun a => .inl rfl⟩, fun β hβ => (reached β hβ).imp fun t ht => ⟨ht, flush0_6 _ t⟩⟩
    (fun t hf y => ?_) (fun j => Iff.rfl)).trans (funext fun i => ?_)
  · blk_simp
    rw [after0_6, outs]
    obtain ⟨r, k, rfl⟩ := idx_form y
    exact ((pt m hO hc c t r k).2.1.trans (sel6 m c 0 (row t r) k).symm).trans (congrArg _ (emb6 m hO t r k).symm)
  · exact earlier ((A_eq m hO c 6).trans (prev6 m c)) (sel6 m c) i

theorem prev7 (c : Dev nD) : V m c main_v1_2 = a8 m c := by
  simp only [V, hostOps0]
  after_results_simp
  rfl

theorem final7 (hO : Ok m) (hc : (chip m).toNat < 4) (c : Dev nD) : (dats m hO 0 c).arrAt 7 (cfgM m hO).N = ref7 m c := by
  refine ((dats m hO 0 c).arrAt_eq_of_coversWhere 7 (ref7 m c) (P := fun i : S4x1024x512.Idx => (i 0).val / 1 = 0) (fun β => β (0 : Fin 3) = 0)
    ⟨pos, fun t _ => ⟨congrFun (at3 t) 0, fun a => .inl rfl⟩, fun β hβ => (reached β hβ).imp fun t ht => ⟨ht, flush0_7 _ t⟩⟩
    (fun t hf y => ?_) (fun j => Iff.rfl)).trans (funext fun i => ?_)
  · blk_simp
    rw [after0_7, outs]
    obtain ⟨r, k, rfl⟩ := idx_form y
    exact ((pt m hO hc c t r k).2.2.1.trans (sel7 m c 0 (row t r) k).symm).trans (congrArg _ (emb7 m hO t r k).symm)
  · exact earlier ((A_eq m hO c 7).trans (prev7 m c)) (sel7 m c) i

theorem prev8 (c : Dev nD) : V m c main_v1_3 = a9 m c := by
  simp only [V, hostOps0]
  after_results_simp
  rfl

theorem final8 (hO : Ok m) (hc : (chip m).toNat < 4) (c : Dev nD) : (dats m hO 0 c).arrAt 8 (cfgM m hO).N = ref8 m c := by
  refine ((dats m hO 0 c).arrAt_eq_of_coversWhere 8 (ref8 m c) (P := fun i : S4x1024x512.Idx => (i 0).val / 1 = 0) (fun β => β (0 : Fin 3) = 0)
    ⟨pos, fun t _ => ⟨congrFun (at3 t) 0, fun a => .inl rfl⟩, fun β hβ => (reached β hβ).imp fun t ht => ⟨ht, flush0_8 _ t⟩⟩
    (fun t hf y => ?_) (fun j => Iff.rfl)).trans (funext fun i => ?_)
  · blk_simp
    rw [after0_8, outs]
    obtain ⟨r, k, rfl⟩ := idx_form y
    exact ((pt m hO hc c t r k).2.2.2.trans (sel8 m c 0 (row t r) k).symm).trans (congrArg _ (emb8 m hO t r k).symm)
  · exact earlier ((A_eq m hO c 8).trans (prev8 m c)) (sel8 m c) i

end Cert.AdamwUpIdeal.Value

/-! The same of the table at the words. -/

namespace Cert.AdamwUp.Value

open Cert.AdamwUp Cert.AdamwUp.Gen

variable (m : (ℓ : Loc nD τ sig) → Buf (Elt Bits) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwUp m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwUp m) : Ok (F := Bits) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

end Cert.AdamwUp.Value

namespace Cert.Proof.AdamwUp

theorem frame : Cert.quiescent_AdamwUp := fun m ρ h => Cert.AdamwUp.Gen.frame m ρ (Cert.AdamwUp.Value.ok_of_pre m h)
theorem frame_ideal : Cert.quiescent_AdamwUpIdeal := fun m ρ h => Cert.AdamwUpIdeal.Gen.frame m ρ (Cert.AdamwUpIdeal.Value.ok_of_pre m h)
theorem frame_ref : Cert.quiescent_AdamwUpRefIdeal := fun m ρ _ =>
  (θ_run Cert.AdamwUpRefIdeal.defs _ _).mono (fun r h => ⟨fun c => (h c).2.2.2.2, Idealize.ShloMosaic.sem_eq_zero_of_no_sems (by decide) r.2⟩)
    (Cert.AdamwUpRefIdeal.Value.run (F := Ideal) m ρ)
theorem frame_ref_pre : Cert.quiescent_AdamwUpRefIdeal_pre_chip_mlp_up := fun m ρ _ => frame_ref m ρ trivial

open Cert.AdamwUpIdeal.Value in
/-- Over the reals the kernel's results are the reference's. -/
theorem algebraic : Cert.algebraic_AdamwUpIdeal_AdamwUpRefIdeal := by
  intro m ρ m' ρ' hpre hagree
  have hO := ok_of_pre m hpre
  have hc := chip_lt m hpre
  refine ⟨
ref5 m, ref6 m, ref7 m, ref8 m,
    (θ_run Cert.AdamwUpIdeal.defs _ _).mono (fun _ h c => ⟨(h.1.out_eq c 5).trans (final5 m hO hc c), (h.1.out_eq c 6).trans (final6 m hO hc c),
      (h.1.out_eq c 7).trans (final7 m hO hc c), (h.1.out_eq c 8).trans (final8 m hO hc c), h.2 c⟩)
      (θ_run_and (Cert.AdamwUpIdeal.Gen.run_main m ρ hO) (Cert.AdamwUpIdeal.Gen.unchanged m ρ hO)), ?_⟩
  exact (θ_run Cert.AdamwUpRefIdeal.defs _ _).mono (fun _ h c => by
      obtain ⟨e0, e1, e2, e3, e4, e5, e6, e7, e8, e9⟩ := hagree c
      refine ⟨(h c).1.trans ?_, (h c).2.1.trans ?_, (h c).2.2.1.trans ?_, (h c).2.2.2.1.trans ?_, (h c).2.2.2.2⟩
      · exact (Cert.AdamwUpRefIdeal.Read.val_main_v41_eq (F := Ideal) _ _ _ _ ).trans (by rw [e0, e1, e2, e6])
      · exact (Cert.AdamwUpRefIdeal.Read.val_main_v42_eq (F := Ideal) _ _ _ _ _ _ _ ).trans (by rw [e0, e1, e2, e3, e4, e5, e7])
      · exact (Cert.AdamwUpRefIdeal.Read.val_main_v43_eq (F := Ideal) _ _ _ _ _ ).trans (by rw [e0, e1, e2, e4, e8])
      · exact (Cert.AdamwUpRefIdeal.Read.val_main_v44_eq (F := Ideal) _ _ _ _ _ ).trans (by rw [e0, e1, e2, e5, e9]))
    (Cert.AdamwUpRefIdeal.Value.run (F := Ideal) m' ρ')

end Cert.Proof.AdamwUp

end
-- ==== Proof.AdamwDown.lean ====
module

public import proofs.«01_k».proof.Defs
public import proofs.«01_k».proof.Proof.Gen.Pre_chip_mlp_down
public import proofs.«01_k».proof.Proof.Shard
public import proofs.«01_k».proof.Proof.Gen.AdamwDown.Frame
public import proofs.«01_k».proof.Proof.Gen.AdamwDownIdeal.Frame
public import proofs.«01_k».proof.Proof.Gen.AdamwDownRefIdeal.Read
public import Idealize.ShloMosaic.Lib.Pointwise
public import Idealize.ShloMosaic.Lib.Quiescent
public import Idealize.ShloMosaic.Lib.Pipeline.ValueKit
public import Idealize.ShloMosaic.Lib.StableHlo.Predicate

@[expose] public section

set_option maxRecDepth 16384

noncomputable section

open Idealize.ShloMosaic Idealize.ShloMosaic.TcCoe Idealize.SL.Sem

namespace Cert.AdamwDownIdeal.Value

open Cert.AdamwDownIdeal Cert.AdamwDownIdeal.Gen

variable (m : (ℓ : Loc nD τ sig) → Buf (Elt Ideal) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwDownIdeal m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwDownIdeal m) : Ok (F := Ideal) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

/-! The arguments. -/

abbrev a0 (c : Dev nD) : Vec Ideal Cert.AdamwDownRefIdeal.S_ .i32 := m ((c.tc : Thread nD τ).loc main_arg0)
abbrev a1 (c : Dev nD) : Vec Ideal S4x1x512x1024 .bf16 := m ((c.tc : Thread nD τ).loc main_arg1)
abbrev a2 (c : Dev nD) : Vec Ideal S3x1x512x1024 .bf16 := m ((c.tc : Thread nD τ).loc main_arg2)
abbrev a3 (c : Dev nD) : Vec Ideal S4x512x1024 .f32 := m ((c.tc : Thread nD τ).loc main_arg3)
abbrev a4 (c : Dev nD) : Vec Ideal S4x512x1024 .f32 := m ((c.tc : Thread nD τ).loc main_arg4)
abbrev a5 (c : Dev nD) : Vec Ideal S4x512x1024 .f32 := m ((c.tc : Thread nD τ).loc main_arg5)
abbrev a6 (c : Dev nD) : Vec Ideal S4x512x1024 .f32 := m ((c.tc : Thread nD τ).loc main_arg6)
abbrev a7 (c : Dev nD) : Vec Ideal S4x512x1024 .f32 := m ((c.tc : Thread nD τ).loc main_arg7)
abbrev a8 (c : Dev nD) : Vec Ideal S4x512x1024 .f32 := m ((c.tc : Thread nD τ).loc main_arg8)
abbrev a9 (c : Dev nD) : Vec Ideal S4x512x1024 .f32 := m ((c.tc : Thread nD τ).loc main_arg9)

open Cert.AdamwDownRefIdeal.Read
open Cert.Proof.Shard (at0)

/-! The blocks of the stacked arrays, which are the same for each of them. -/

theorem at3 : ∀ t : Fin grid0.N, cc0_transform_2 (grid0.coords t) = ![0, (grid0.coords t 1).val, 0] := by decide +kernel

theorem reached : ∀ β : (a : Fin 3) → Fin ((S4x512x1024.size a + S1x512x1024.size a - 1) / S1x512x1024.size a), (β 0).val = 0 → ∃ t : Fin grid0.N, ∀ a, cc0_transform_2 (grid0.coords t) a = β a := by
  decide +kernel

theorem pos : ∀ a, 0 < S1x512x1024.size a := by decide

/-! ## The blocks the point `t` reads, out of the arguments -/

theorem idx0 (hO : Ok m) (t : Fin (cfgM m hO).N) : (pcfg0.win (adm m hO) 0).index t = ![(chip m).toNat, 0, (grid0.coords t 1).val, 0] :=
  (index0 m _ _ _).trans (congrArg (fun x : Nat => ![(chip m).toNat, x, (grid0.coords t 1).val, 0]) ((by decide +kernel : ∀ t : Fin grid0.N, (grid0.coords t 0).val = 0) t))

/-- The row of the array that is row `r` of the point's block. -/
abbrev row (t : Fin grid0.N) (r : Fin 512) : Fin 512 := ⟨(grid0.coords t 1).val * 512 + r.val, by
  have := (by decide +kernel : ∀ t : Fin grid0.N, (grid0.coords t 1).val * 512 + 512 ≤ 512) t
  omega⟩

theorem blk0 (hO : Ok m) (hc : (chip m).toNat < 4) (c : Dev nD) (t : Fin (cfgM m hO).N) (r : Fin 512) (k : Fin 1024) :
    (iblk m hO c 0 t : Vec Ideal S1x1x512x1024 .bf16) (ix4 0 0 r k) = a1 m c (ix4 ⟨(chip m).toNat, hc⟩ 0 (row t r) k) := by
  have e := idx0 m hO t
  blk_ext [iblk, V_main_arg1]
  exacts [congrArg (· + 0) (congrFun e 0), congrArg (· + 0) (congrFun e 1), congrArg (· * 512 + r.val) (congrFun e 2), at0 (congrFun e 3)]

theorem blk1 (hO : Ok m) (c : Dev nD) (t : Fin (cfgM m hO).N) (d : Fin 3) (r : Fin 512) (k : Fin 1024) :
    (iblk m hO c 1 t : Vec Ideal S3x1x512x1024 .bf16) (ix4 d 0 r k) = a2 m c (ix4 d 0 (row t r) k) := by
  have e : (pcfg0.win (adm m hO) 1).index t = ![0, 0, (grid0.coords t 1).val, 0] := (by decide +kernel : ∀ t : Fin grid0.N, cc0_transform_1 (grid0.coords t) = ![0, 0, (grid0.coords t 1).val, 0]) t
  blk_ext [iblk, V_main_arg2]
  exacts [at0 (congrFun e 0), congrArg (· + 0) (congrFun e 1), congrArg (· * 512 + r.val) (congrFun e 2), at0 (congrFun e 3)]

theorem blk2 (hO : Ok m) (c : Dev nD) (t : Fin (cfgM m hO).N) (r : Fin 512) (k : Fin 1024) :
    (iblk m hO c 2 t : Vec Ideal S1x512x1024 .f32) (ix3 0 r k) = a3 m c (ix3 0 (row t r) k) := by
  have e : (pcfg0.win (adm m hO) 2).index t = ![0, (grid0.coords t 1).val, 0] := at3 t
  blk_ext [iblk, V_main_arg3]
  exacts [congrArg (· + 0) (congrFun e 0), congrArg (· * 512 + r.val) (congrFun e 1), at0 (congrFun e 2)]

theorem blk3 (hO : Ok m) (c : Dev nD) (t : Fin (cfgM m hO).N) (r : Fin 512) (k : Fin 1024) :
    (iblk m hO c 3 t : Vec Ideal S1x512x1024 .f32) (ix3 0 r k) = a4 m c (ix3 0 (row t r) k) := by
  have e : (pcfg0.win (adm m hO) 3).index t = ![0, (grid0.coords t 1).val, 0] := at3 t
  blk_ext [iblk, V_main_arg4]
  exacts [congrArg (· + 0) (congrFun e 0), congrArg (· * 512 + r.val) (congrFun e 1), at0 (congrFun e 2)]

theorem blk4 (hO : Ok m) (c : Dev nD) (t : Fin (cfgM m hO).N) (r : Fin 512) (k : Fin 1024) :
    (iblk m hO c 4 t : Vec Ideal S1x512x1024 .f32) (ix3 0 r k) = a5 m c (ix3 0 (row t r) k) := by
  have e : (pcfg0.win (adm m hO) 4).index t = ![0, (grid0.coords t 1).val, 0] := at3 t
  blk_ext [iblk, V_main_arg5]
  exacts [congrArg (· + 0) (congrFun e 0), congrArg (· * 512 + r.val) (congrFun e 1), at0 (congrFun e 2)]

theorem emb5 (hO : Ok m) (t : Fin (cfgM m hO).N) (r : Fin 512) (k : Fin 1024) :
    (((cfgM m hO).win 5).blk t).view.emb (ix3 0 r k : S1x512x1024.Idx) = (ix3 0 (row t r) k : S4x512x1024.Idx) := by
  have e : (pcfg0.win (adm m hO) 5).index t = ![0, (grid0.coords t 1).val, 0] := at3 t
  blk_ext
  exacts [congrArg (· + 0) (congrFun e 0), congrArg (· * 512 + r.val) (congrFun e 1), at0 (congrFun e 2)]

theorem emb6 (hO : Ok m) (t : Fin (cfgM m hO).N) (r : Fin 512) (k : Fin 1024) :
    (((cfgM m hO).win 6).blk t).view.emb (ix3 0 r k : S1x512x1024.Idx) = (ix3 0 (row t r) k : S4x512x1024.Idx) :=
  emb5 m hO t r k

theorem emb7 (hO : Ok m) (t : Fin (cfgM m hO).N) (r : Fin 512) (k : Fin 1024) :
    (((cfgM m hO).win 7).blk t).view.emb (ix3 0 r k : S1x512x1024.Idx) = (ix3 0 (row t r) k : S4x512x1024.Idx) :=
  emb5 m hO t r k

theorem emb8 (hO : Ok m) (t : Fin (cfgM m hO).N) (r : Fin 512) (k : Fin 1024) :
    (((cfgM m hO).win 8).blk t).view.emb (ix3 0 r k : S1x512x1024.Idx) = (ix3 0 (row t r) k : S4x512x1024.Idx) :=
  emb5 m hO t r k

/-! ## The gradient at an element -/

theorem ref_grad (x0 : Vec Ideal Cert.AdamwDownRefIdeal.S_ .i32) (x1 : Vec Ideal S4x1x512x1024 .bf16) (x2 : Vec Ideal S3x1x512x1024 .bf16) (hc : (x0 (fun a => a.elim0)).toNat < 4) (r : Fin 512) (k : Fin 1024) :
    val_main_v12 (F := Ideal) x0 x1 x2 (ix3 0 r k) = x1 (ix4 ⟨(x0 (fun a => a.elim0)).toNat, hc⟩ 0 r k) + ∑ d : Fin 3, x2 (ix4 d 0 r k) := by
  pointwise [val_main_v12, val_main_v11, val_main_v10, val_main_v9, val_main_v8, val_main_v7, val_main_v6, val_main_v5, val_main_v4, val_main_v3, val_main_v2, val_main_v1, val_main_v0, val_main_cst, val_main_cst_0, val_main_c, val_main_call0_v0, val_main_call0_v1, val_main_call0_v2]
  congr 1
  exact Cert.Proof.Shard.sum_pick _ hc (fun d => x1 (ix4 d 0 r k))

/-- The slot `d` of what was received. -/
abbrev slot0 (b1 : Vec Ideal S3x1x512x1024 .bf16) : Vec Ideal S1x1x512x1024 .bf16 := View.ld b1 (Rect.unit ![0, 0, 0, 0] ![1, 1, 512, 1024] inb_S3x1x512x1024_S1x1x512x1024_0_0_0_0)
abbrev slot1 (b1 : Vec Ideal S3x1x512x1024 .bf16) : Vec Ideal S1x1x512x1024 .bf16 := View.ld b1 (Rect.unit ![1, 0, 0, 0] ![1, 1, 512, 1024] inb_S3x1x512x1024_S1x1x512x1024_1_0_0_0)
abbrev slot2 (b1 : Vec Ideal S3x1x512x1024 .bf16) : Vec Ideal S1x1x512x1024 .bf16 := View.ld b1 (Rect.unit ![2, 0, 0, 0] ![1, 1, 512, 1024] inb_S3x1x512x1024_S1x1x512x1024_2_0_0_0)

theorem pay_grad (b0 : Vec Ideal S1x1x512x1024 .bf16) (b1 : Vec Ideal S3x1x512x1024 .bf16) (r : Fin 512) (k : Fin 1024) :
    k0_pay6 b0 (slot0 b1) (slot1 b1) (slot2 b1) (ix2 r k) = b0 (ix4 0 0 r k) + ∑ d : Fin 3, b1 (ix4 d 0 r k) := by
  rw [Fin.sum_univ_three]
  pointwise [k0_pay6, slot0, slot1, slot2]
  simp only [add_assoc]

/-! ## What the body stores, over the blocks it reads -/

section
variable (x0 : Vec Ideal S1x1x512x1024 .bf16) (x1 : Vec Ideal S3x1x512x1024 .bf16) (x2 x3 x4 : Vec Ideal S1x512x1024 .f32)

abbrev payGrad : Vec Ideal S1x512x1024 .f32 := k0_pay2 (k0_pay6 x0 (slot0 x1) (slot1 x1) (slot2 x1))
abbrev payStep : Vec Ideal S1x512x1024 .f32 :=
  k0_pay3 (k0_pay7 x2) (k0_pay8 x0 (slot0 x1) (slot1 x1) (slot2 x1) x3) (k0_pay9 x4) (k0_pay10 x0 (slot0 x1) (slot1 x1) (slot2 x1)) (FloatOps.ofBits FTy.f32 981668463#32)
abbrev payMean : Vec Ideal S1x512x1024 .f32 := k0_pay4 (k0_pay8 x0 (slot0 x1) (slot1 x1) (slot2 x1) x3)
abbrev paySquare : Vec Ideal S1x512x1024 .f32 := k0_pay5 (k0_pay9 x4) (k0_pay10 x0 (slot0 x1) (slot1 x1) (slot2 x1)) (FloatOps.ofBits FTy.f32 981668463#32)

variable (c : Dev nD) (i : grid0.Coords) (arg3 : Memref sig .tc .vmem S1x1x512x1024 .bf16) (harg3 : arg3.IsWhole) (arg4 : Memref sig .tc .vmem S3x1x512x1024 .bf16) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x512x1024 .f32) (harg11 : arg11.IsWhole) (xt0 : TbBuf0 (F := Ideal) c tbM0_0)

theorem out5 : out0_A_5 (F := Ideal) c i arg3 harg3 arg4 harg4 arg5 harg5 arg6 harg6 arg7 harg7 arg8 harg8 arg9 harg9 arg10 harg10 arg11 harg11 x0 x1 x2 x3 x4 xt0 = payGrad x0 x1 := by
  frame_out

theorem out6 : out0_A_6 (F := Ideal) c i arg3 harg3 arg4 harg4 arg5 harg5 arg6 harg6 arg7 harg7 arg8 harg8 arg9 harg9 arg10 harg10 arg11 harg11 x0 x1 x2 x3 x4 xt0 = payStep x0 x1 x2 x3 x4 := by
  frame_out

theorem out7 : out0_A_7 (F := Ideal) c i arg3 harg3 arg4 harg4 arg5 harg5 arg6 harg6 arg7 harg7 arg8 harg8 arg9 harg9 arg10 harg10 arg11 harg11 x0 x1 x2 x3 x4 xt0 = payMean x0 x1 x3 := by
  frame_out

theorem out8 : out0_A_8 (F := Ideal) c i arg3 harg3 arg4 harg4 arg5 harg5 arg6 harg6 arg7 harg7 arg8 harg8 arg9 harg9 arg10 harg10 arg11 harg11 x0 x1 x2 x3 x4 xt0 = paySquare x0 x1 x4 := by
  frame_out

end

/-- Where the blocks hold the arrays' elements, what is stored is the reference's. -/
theorem elem (x0 : Vec Ideal S1x1x512x1024 .bf16) (x1 : Vec Ideal S3x1x512x1024 .bf16) (x2 x3 x4 : Vec Ideal S1x512x1024 .f32)
    (X0 : Vec Ideal Cert.AdamwDownRefIdeal.S_ .i32) (X1 : Vec Ideal S4x1x512x1024 .bf16) (X2 : Vec Ideal S3x1x512x1024 .bf16) (X3 X4 X5 : Vec Ideal S4x512x1024 .f32)
    (hc : (X0 (fun a => a.elim0)).toNat < 4) (R : Fin 512) (r : Fin 512) (k : Fin 1024)
    (h0 : x0 (ix4 0 0 r k) = X1 (ix4 ⟨(X0 (fun a => a.elim0)).toNat, hc⟩ 0 R k)) (h1 : ∀ d, x1 (ix4 d 0 r k) = X2 (ix4 d 0 R k))
    (h2 : x2 (ix3 0 r k) = X3 (ix3 0 R k)) (h3 : x3 (ix3 0 r k) = X4 (ix3 0 R k)) (h4 : x4 (ix3 0 r k) = X5 (ix3 0 R k)) :
    payGrad x0 x1 (ix3 0 r k) = val_main_v12 (F := Ideal) X0 X1 X2 (ix3 0 R k)
    ∧ payStep x0 x1 x2 x3 x4 (ix3 0 r k) = val_main_v36 (F := Ideal) X0 X1 X2 X3 X4 X5 (ix3 0 R k)
    ∧ payMean x0 x1 x3 (ix3 0 r k) = val_main_v17 (F := Ideal) X0 X1 X2 X4 (ix3 0 R k)
    ∧ paySquare x0 x1 x4 (ix3 0 r k) = val_main_v23 (F := Ideal) X0 X1 X2 X5 (ix3 0 R k) := by
  have hg := pay_grad x0 x1 r k
  rw [h0, Finset.sum_congr rfl fun d _ => h1 d, ← ref_grad X0 X1 X2 hc R k] at hg
  refine ⟨?_, ?_, ?_, ?_⟩ <;>
    pointwise [payGrad, payStep, payMean, paySquare, k0_pay1, k0_pay2, k0_pay3, k0_pay4, k0_pay5, k0_pay7, k0_pay8, k0_pay9, k0_pay10, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_1, val_main_cst_2, val_main_cst_3, val_main_cst_4, val_main_cst_5, val_main_cst_6, val_main_cst_7, val_main_cst_8, val_main_cst_9, val_main_v0, val_main_v1, val_main_v2] <;> (try rw [hg]) <;> simp only [h2, h3, h4]

theorem outs (hO : Ok m) (c : Dev nD) (t : Fin (cfgM m hO).N) : outsAt0 m hO c t =
    (payGrad (iblk m hO c 0 t) (iblk m hO c 1 t), payStep (iblk m hO c 0 t) (iblk m hO c 1 t) (iblk m hO c 2 t) (iblk m hO c 3 t) (iblk m hO c 4 t), payMean (iblk m hO c 0 t) (iblk m hO c 1 t) (iblk m hO c 3 t), paySquare (iblk m hO c 0 t) (iblk m hO c 1 t) (iblk m hO c 4 t)) := by
  unfold outsAt0
  refine Prod.ext ?_ (Prod.ext ?_ (Prod.ext ?_ ?_)) <;> dsimp only
  exacts [by apply out5, by apply out6, by apply out7, by apply out8]

abbrev new5 (c : Dev nD) : Vec Ideal Cert.AdamwDownRefIdeal.S1x512x1024 .f32 := val_main_v12 (F := Ideal) (a0 m c) (a1 m c) (a2 m c)
abbrev new6 (c : Dev nD) : Vec Ideal Cert.AdamwDownRefIdeal.S1x512x1024 .f32 := val_main_v36 (F := Ideal) (a0 m c) (a1 m c) (a2 m c) (a3 m c) (a4 m c) (a5 m c)
abbrev new7 (c : Dev nD) : Vec Ideal Cert.AdamwDownRefIdeal.S1x512x1024 .f32 := val_main_v17 (F := Ideal) (a0 m c) (a1 m c) (a2 m c) (a4 m c)
abbrev new8 (c : Dev nD) : Vec Ideal Cert.AdamwDownRefIdeal.S1x512x1024 .f32 := val_main_v23 (F := Ideal) (a0 m c) (a1 m c) (a2 m c) (a5 m c)

theorem pt (hO : Ok m) (hc : (chip m).toNat < 4) (c : Dev nD) (t : Fin (cfgM m hO).N) (r : Fin 512) (k : Fin 1024) :
    payGrad (iblk m hO c 0 t) (iblk m hO c 1 t) (ix3 0 r k) = new5 m c (ix3 0 (row t r) k)
    ∧ payStep (iblk m hO c 0 t) (iblk m hO c 1 t) (iblk m hO c 2 t) (iblk m hO c 3 t) (iblk m hO c 4 t) (ix3 0 r k) = new6 m c (ix3 0 (row t r) k)
    ∧ payMean (iblk m hO c 0 t) (iblk m hO c 1 t) (iblk m hO c 3 t) (ix3 0 r k) = new7 m c (ix3 0 (row t r) k)
    ∧ paySquare (iblk m hO c 0 t) (iblk m hO c 1 t) (iblk m hO c 4 t) (ix3 0 r k) = new8 m c (ix3 0 (row t r) k) :=
  elem (iblk m hO c 0 t) (iblk m hO c 1 t) (iblk m hO c 2 t) (iblk m hO c 3 t) (iblk m hO c 4 t) (a0 m c) (a1 m c) (a2 m c) (a3 m c) (a4 m c) (a5 m c)
    (by rw [Subsingleton.elim c 0]; exact hc) (row t r) r k (by have := Subsingleton.elim c 0; subst this; exact blk0 m hO hc 0 t r k)
    (fun d => blk1 m hO c t d r k) (blk2 m hO c t r k) (blk3 m hO c t r k) (blk4 m hO c t r k)

theorem idx_form (y : S1x512x1024.Idx) : ∃ (r : Fin 512) (k : Fin 1024), y = ix3 0 r k :=
  ⟨y 1, y 2, (eq_ix3 (n0 := 1) (n1 := 512) (n2 := 1024) y).trans (congrArg (fun z : Fin 1 => (ix3 z (y 1) (y 2) : S1x512x1024.Idx)) (Subsingleton.elim _ _))⟩

/-! ## The other layers: what was there before -/

theorem idx_all (i : S4x512x1024.Idx) : ∃ (l : Fin 4) (R : Fin 512) (k : Fin 1024), i = ix3 l R k :=
  ⟨i 0, i 1, i 2, eq_ix3 (n0 := 4) (n1 := 512) (n2 := 1024) i⟩

/-- What was there before stays in the other layers. -/
theorem earlier {A P F : Vec Ideal S4x512x1024 .f32} {G : Vec Ideal Cert.AdamwDownRefIdeal.S1x512x1024 .f32} (h : A = P)
    (hs : ∀ l R k, F (ix3 l R k) = if l.val = 0 then G (ix3 0 R k) else P (ix3 l R k)) (i : S4x512x1024.Idx) :
    (if (i 0).val / 1 = 0 then F i else A i) = F i := by
  obtain ⟨l, R, k, rfl⟩ := idx_all i
  subst h
  by_cases h : l.val = 0
  · exact if_pos ((Nat.div_one _).trans h)
  · exact (if_neg fun e => h ((Nat.div_one _).symm.trans e)).trans ((hs l R k).trans (if_neg h)).symm

theorem first_layer (l : Fin 4) : (val_main_v40 (F := Ideal)) (ix3 l 0 0) = if l.val = 0 then 1 else 0 := by
  pointwise [val_main_v40, val_main_v39, val_main_v38, val_main_v37, val_main_c_10]
  fin_cases l <;> rfl

abbrev ref5 (c : Dev nD) : Vec Ideal S4x512x1024 .f32 := val_main_v41 (F := Ideal) (a0 m c) (a1 m c) (a2 m c) (a6 m c)
abbrev ref6 (c : Dev nD) : Vec Ideal S4x512x1024 .f32 := val_main_v42 (F := Ideal) (a0 m c) (a1 m c) (a2 m c) (a3 m c) (a4 m c) (a5 m c) (a7 m c)
abbrev ref7 (c : Dev nD) : Vec Ideal S4x512x1024 .f32 := val_main_v43 (F := Ideal) (a0 m c) (a1 m c) (a2 m c) (a4 m c) (a8 m c)
abbrev ref8 (c : Dev nD) : Vec Ideal S4x512x1024 .f32 := val_main_v44 (F := Ideal) (a0 m c) (a1 m c) (a2 m c) (a5 m c) (a9 m c)

theorem sel5 (c : Dev nD) (l : Fin 4) (R : Fin 512) (k : Fin 1024) :
    ref5 m c (ix3 l R k) = if l.val = 0 then new5 m c (ix3 0 R k) else a6 m c (ix3 l R k) := by
  have h := first_layer l
  pointwise [val_main_v41, val_main_call1_v0, val_main_call1_v1]
  rw [h]
  split <;> rfl

theorem sel6 (c : Dev nD) (l : Fin 4) (R : Fin 512) (k : Fin 1024) :
    ref6 m c (ix3 l R k) = if l.val = 0 then new6 m c (ix3 0 R k) else a7 m c (ix3 l R k) := by
  have h := first_layer l
  pointwise [val_main_v42, val_main_call2_v0, val_main_call2_v1]
  rw [h]
  split <;> rfl

theorem sel7 (c : Dev nD) (l : Fin 4) (R : Fin 512) (k : Fin 1024) :
    ref7 m c (ix3 l R k) = if l.val = 0 then new7 m c (ix3 0 R k) else a8 m c (ix3 l R k) := by
  have h := first_layer l
  pointwise [val_main_v43, val_main_call3_v0, val_main_call3_v1]
  rw [h]
  split <;> rfl

theorem sel8 (c : Dev nD) (l : Fin 4) (R : Fin 512) (k : Fin 1024) :
    ref8 m c (ix3 l R k) = if l.val = 0 then new8 m c (ix3 0 R k) else a9 m c (ix3 l R k) := by
  have h := first_layer l
  pointwise [val_main_v44, val_main_call4_v0, val_main_call4_v1]
  rw [h]
  split <;> rfl

theorem prev5 (c : Dev nD) : V m c main_v1_0 = a6 m c := by
  simp only [V, hostOps0]
  after_results_simp
  rfl

theorem final5 (hO : Ok m) (hc : (chip m).toNat < 4) (c : Dev nD) : (dats m hO 0 c).arrAt 5 (cfgM m hO).N = ref5 m c := by
  refine ((dats m hO 0 c).arrAt_eq_of_coversWhere 5 (ref5 m c) (P := fun i : S4x512x1024.Idx => (i 0).val / 1 = 0) (fun β => β (0 : Fin 3) = 0)
    ⟨pos, fun t _ => ⟨congrFun (at3 t) 0, fun a => .inl rfl⟩, fun β hβ => (reached β hβ).imp fun t ht => ⟨ht, flush0_5 _ t⟩⟩
    (fun t hf y => ?_) (fun j => Iff.rfl)).trans (funext fun i => ?_)
  · blk_simp
    rw [after0_5, outs]
    obtain ⟨r, k, rfl⟩ := idx_form y
    exact ((pt m hO hc c t r k).1.trans (sel5 m c 0 (row t r) k).symm).trans (congrArg _ (emb5 m hO t r k).symm)
  · exact earlier ((A_eq m hO c 5).trans (prev5 m c)) (sel5 m c) i

theorem prev6 (c : Dev nD) : V m c main_v1_1 = a7 m c := by
  simp only [V, hostOps0]
  after_results_simp
  rfl

theorem final6 (hO : Ok m) (hc : (chip m).toNat < 4) (c : Dev nD) : (dats m hO 0 c).arrAt 6 (cfgM m hO).N = ref6 m c := by
  refine ((dats m hO 0 c).arrAt_eq_of_coversWhere 6 (ref6 m c) (P := fun i : S4x512x1024.Idx => (i 0).val / 1 = 0) (fun β => β (0 : Fin 3) = 0)
    ⟨pos, fun t _ => ⟨congrFun (at3 t) 0, fun a => .inl rfl⟩, fun β hβ => (reached β hβ).imp fun t ht => ⟨ht, flush0_6 _ t⟩⟩
    (fun t hf y => ?_) (fun j => Iff.rfl)).trans (funext fun i => ?_)
  · blk_simp
    rw [after0_6, outs]
    obtain ⟨r, k, rfl⟩ := idx_form y
    exact ((pt m hO hc c t r k).2.1.trans (sel6 m c 0 (row t r) k).symm).trans (congrArg _ (emb6 m hO t r k).symm)
  · exact earlier ((A_eq m hO c 6).trans (prev6 m c)) (sel6 m c) i

theorem prev7 (c : Dev nD) : V m c main_v1_2 = a8 m c := by
  simp only [V, hostOps0]
  after_results_simp
  rfl

theorem final7 (hO : Ok m) (hc : (chip m).toNat < 4) (c : Dev nD) : (dats m hO 0 c).arrAt 7 (cfgM m hO).N = ref7 m c := by
  refine ((dats m hO 0 c).arrAt_eq_of_coversWhere 7 (ref7 m c) (P := fun i : S4x512x1024.Idx => (i 0).val / 1 = 0) (fun β => β (0 : Fin 3) = 0)
    ⟨pos, fun t _ => ⟨congrFun (at3 t) 0, fun a => .inl rfl⟩, fun β hβ => (reached β hβ).imp fun t ht => ⟨ht, flush0_7 _ t⟩⟩
    (fun t hf y => ?_) (fun j => Iff.rfl)).trans (funext fun i => ?_)
  · blk_simp
    rw [after0_7, outs]
    obtain ⟨r, k, rfl⟩ := idx_form y
    exact ((pt m hO hc c t r k).2.2.1.trans (sel7 m c 0 (row t r) k).symm).trans (congrArg _ (emb7 m hO t r k).symm)
  · exact earlier ((A_eq m hO c 7).trans (prev7 m c)) (sel7 m c) i

theorem prev8 (c : Dev nD) : V m c main_v1_3 = a9 m c := by
  simp only [V, hostOps0]
  after_results_simp
  rfl

theorem final8 (hO : Ok m) (hc : (chip m).toNat < 4) (c : Dev nD) : (dats m hO 0 c).arrAt 8 (cfgM m hO).N = ref8 m c := by
  refine ((dats m hO 0 c).arrAt_eq_of_coversWhere 8 (ref8 m c) (P := fun i : S4x512x1024.Idx => (i 0).val / 1 = 0) (fun β => β (0 : Fin 3) = 0)
    ⟨pos, fun t _ => ⟨congrFun (at3 t) 0, fun a => .inl rfl⟩, fun β hβ => (reached β hβ).imp fun t ht => ⟨ht, flush0_8 _ t⟩⟩
    (fun t hf y => ?_) (fun j => Iff.rfl)).trans (funext fun i => ?_)
  · blk_simp
    rw [after0_8, outs]
    obtain ⟨r, k, rfl⟩ := idx_form y
    exact ((pt m hO hc c t r k).2.2.2.trans (sel8 m c 0 (row t r) k).symm).trans (congrArg _ (emb8 m hO t r k).symm)
  · exact earlier ((A_eq m hO c 8).trans (prev8 m c)) (sel8 m c) i

end Cert.AdamwDownIdeal.Value

/-! The same of the table at the words. -/

namespace Cert.AdamwDown.Value

open Cert.AdamwDown Cert.AdamwDown.Gen

variable (m : (ℓ : Loc nD τ sig) → Buf (Elt Bits) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwDown m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwDown m) : Ok (F := Bits) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

end Cert.AdamwDown.Value

namespace Cert.Proof.AdamwDown

theorem frame : Cert.quiescent_AdamwDown := fun m ρ h => Cert.AdamwDown.Gen.frame m ρ (Cert.AdamwDown.Value.ok_of_pre m h)
theorem frame_ideal : Cert.quiescent_AdamwDownIdeal := fun m ρ h => Cert.AdamwDownIdeal.Gen.frame m ρ (Cert.AdamwDownIdeal.Value.ok_of_pre m h)
theorem frame_ref : Cert.quiescent_AdamwDownRefIdeal := fun m ρ _ =>
  (θ_run Cert.AdamwDownRefIdeal.defs _ _).mono (fun r h => ⟨fun c => (h c).2.2.2.2, Idealize.ShloMosaic.sem_eq_zero_of_no_sems (by decide) r.2⟩)
    (Cert.AdamwDownRefIdeal.Value.run (F := Ideal) m ρ)
theorem frame_ref_pre : Cert.quiescent_AdamwDownRefIdeal_pre_chip_mlp_down := fun m ρ _ => frame_ref m ρ trivial

open Cert.AdamwDownIdeal.Value in
/-- Over the reals the kernel's results are the reference's. -/
theorem algebraic : Cert.algebraic_AdamwDownIdeal_AdamwDownRefIdeal := by
  intro m ρ m' ρ' hpre hagree
  have hO := ok_of_pre m hpre
  have hc := chip_lt m hpre
  refine ⟨
ref5 m, ref6 m, ref7 m, ref8 m,
    (θ_run Cert.AdamwDownIdeal.defs _ _).mono (fun _ h c => ⟨(h.1.out_eq c 5).trans (final5 m hO hc c), (h.1.out_eq c 6).trans (final6 m hO hc c),
      (h.1.out_eq c 7).trans (final7 m hO hc c), (h.1.out_eq c 8).trans (final8 m hO hc c), h.2 c⟩)
      (θ_run_and (Cert.AdamwDownIdeal.Gen.run_main m ρ hO) (Cert.AdamwDownIdeal.Gen.unchanged m ρ hO)), ?_⟩
  exact (θ_run Cert.AdamwDownRefIdeal.defs _ _).mono (fun _ h c => by
      obtain ⟨e0, e1, e2, e3, e4, e5, e6, e7, e8, e9⟩ := hagree c
      refine ⟨(h c).1.trans ?_, (h c).2.1.trans ?_, (h c).2.2.1.trans ?_, (h c).2.2.2.1.trans ?_, (h c).2.2.2.2⟩
      · exact (Cert.AdamwDownRefIdeal.Read.val_main_v41_eq (F := Ideal) _ _ _ _ ).trans (by rw [e0, e1, e2, e6])
      · exact (Cert.AdamwDownRefIdeal.Read.val_main_v42_eq (F := Ideal) _ _ _ _ _ _ _ ).trans (by rw [e0, e1, e2, e3, e4, e5, e7])
      · exact (Cert.AdamwDownRefIdeal.Read.val_main_v43_eq (F := Ideal) _ _ _ _ _ ).trans (by rw [e0, e1, e2, e4, e8])
      · exact (Cert.AdamwDownRefIdeal.Read.val_main_v44_eq (F := Ideal) _ _ _ _ _ ).trans (by rw [e0, e1, e2, e5, e9]))
    (Cert.AdamwDownRefIdeal.Value.run (F := Ideal) m' ρ')

end Cert.Proof.AdamwDown

end
-- ==== Proof.AdamwAWo.lean ====
module

public import proofs.«01_k».proof.Defs
public import proofs.«01_k».proof.Proof.Gen.Pre_chip_a_wo
public import proofs.«01_k».proof.Proof.Shard
public import proofs.«01_k».proof.Proof.Gen.AdamwAWo.Frame
public import proofs.«01_k».proof.Proof.Gen.AdamwAWoIdeal.Frame
public import proofs.«01_k».proof.Proof.Gen.AdamwAWoRefIdeal.Read
public import Idealize.ShloMosaic.Lib.Pointwise
public import Idealize.ShloMosaic.Lib.Quiescent
public import Idealize.ShloMosaic.Lib.Pipeline.ValueKit
public import Idealize.ShloMosaic.Lib.StableHlo.Predicate

@[expose] public section

set_option maxRecDepth 16384

noncomputable section

open Idealize.ShloMosaic Idealize.ShloMosaic.TcCoe Idealize.SL.Sem

namespace Cert.AdamwAWoIdeal.Value

open Cert.AdamwAWoIdeal Cert.AdamwAWoIdeal.Gen

variable (m : (ℓ : Loc nD τ sig) → Buf (Elt Ideal) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwAWoIdeal m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwAWoIdeal m) : Ok (F := Ideal) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

/-! The arguments. -/

abbrev a0 (c : Dev nD) : Vec Ideal Cert.AdamwAWoRefIdeal.S_ .i32 := m ((c.tc : Thread nD τ).loc main_arg0)
abbrev a1 (c : Dev nD) : Vec Ideal S4x1x128x1024 .bf16 := m ((c.tc : Thread nD τ).loc main_arg1)
abbrev a2 (c : Dev nD) : Vec Ideal S3x1x128x1024 .bf16 := m ((c.tc : Thread nD τ).loc main_arg2)
abbrev a3 (c : Dev nD) : Vec Ideal S2x128x1024 .f32 := m ((c.tc : Thread nD τ).loc main_arg3)
abbrev a4 (c : Dev nD) : Vec Ideal S2x128x1024 .f32 := m ((c.tc : Thread nD τ).loc main_arg4)
abbrev a5 (c : Dev nD) : Vec Ideal S2x128x1024 .f32 := m ((c.tc : Thread nD τ).loc main_arg5)
abbrev a6 (c : Dev nD) : Vec Ideal S2x128x1024 .f32 := m ((c.tc : Thread nD τ).loc main_arg6)
abbrev a7 (c : Dev nD) : Vec Ideal S2x128x1024 .f32 := m ((c.tc : Thread nD τ).loc main_arg7)
abbrev a8 (c : Dev nD) : Vec Ideal S2x128x1024 .f32 := m ((c.tc : Thread nD τ).loc main_arg8)
abbrev a9 (c : Dev nD) : Vec Ideal S2x128x1024 .f32 := m ((c.tc : Thread nD τ).loc main_arg9)

open Cert.AdamwAWoRefIdeal.Read
open Cert.Proof.Shard (at0)

/-! The blocks of the stacked arrays, which are the same for each of them. -/

theorem at3 : ∀ t : Fin grid0.N, cc0_transform_2 (grid0.coords t) = ![0, (grid0.coords t 1).val, 0] := by decide +kernel

theorem reached : ∀ β : (a : Fin 3) → Fin ((S2x128x1024.size a + S1x128x1024.size a - 1) / S1x128x1024.size a), (β 0).val = 0 → ∃ t : Fin grid0.N, ∀ a, cc0_transform_2 (grid0.coords t) a = β a := by
  decide +kernel

theorem pos : ∀ a, 0 < S1x128x1024.size a := by decide

/-! ## The blocks the point `t` reads, out of the arguments -/

theorem idx0 (hO : Ok m) (t : Fin (cfgM m hO).N) : (pcfg0.win (adm m hO) 0).index t = ![(chip m).toNat, 0, (grid0.coords t 1).val, 0] :=
  (index0 m _ _ _).trans (congrArg (fun x : Nat => ![(chip m).toNat, x, (grid0.coords t 1).val, 0]) ((by decide +kernel : ∀ t : Fin grid0.N, (grid0.coords t 0).val = 0) t))

/-- The row of the array that is row `r` of the point's block. -/
abbrev row (t : Fin grid0.N) (r : Fin 128) : Fin 128 := ⟨(grid0.coords t 1).val * 128 + r.val, by
  have := (by decide +kernel : ∀ t : Fin grid0.N, (grid0.coords t 1).val * 128 + 128 ≤ 128) t
  omega⟩

theorem blk0 (hO : Ok m) (hc : (chip m).toNat < 4) (c : Dev nD) (t : Fin (cfgM m hO).N) (r : Fin 128) (k : Fin 1024) :
    (iblk m hO c 0 t : Vec Ideal S1x1x128x1024 .bf16) (ix4 0 0 r k) = a1 m c (ix4 ⟨(chip m).toNat, hc⟩ 0 (row t r) k) := by
  have e := idx0 m hO t
  blk_ext [iblk, V_main_arg1]
  exacts [congrArg (· + 0) (congrFun e 0), congrArg (· + 0) (congrFun e 1), congrArg (· * 128 + r.val) (congrFun e 2), at0 (congrFun e 3)]

theorem blk1 (hO : Ok m) (c : Dev nD) (t : Fin (cfgM m hO).N) (d : Fin 3) (r : Fin 128) (k : Fin 1024) :
    (iblk m hO c 1 t : Vec Ideal S3x1x128x1024 .bf16) (ix4 d 0 r k) = a2 m c (ix4 d 0 (row t r) k) := by
  have e : (pcfg0.win (adm m hO) 1).index t = ![0, 0, (grid0.coords t 1).val, 0] := (by decide +kernel : ∀ t : Fin grid0.N, cc0_transform_1 (grid0.coords t) = ![0, 0, (grid0.coords t 1).val, 0]) t
  blk_ext [iblk, V_main_arg2]
  exacts [at0 (congrFun e 0), congrArg (· + 0) (congrFun e 1), congrArg (· * 128 + r.val) (congrFun e 2), at0 (congrFun e 3)]

theorem blk2 (hO : Ok m) (c : Dev nD) (t : Fin (cfgM m hO).N) (r : Fin 128) (k : Fin 1024) :
    (iblk m hO c 2 t : Vec Ideal S1x128x1024 .f32) (ix3 0 r k) = a3 m c (ix3 0 (row t r) k) := by
  have e : (pcfg0.win (adm m hO) 2).index t = ![0, (grid0.coords t 1).val, 0] := at3 t
  blk_ext [iblk, V_main_arg3]
  exacts [congrArg (· + 0) (congrFun e 0), congrArg (· * 128 + r.val) (congrFun e 1), at0 (congrFun e 2)]

theorem blk3 (hO : Ok m) (c : Dev nD) (t : Fin (cfgM m hO).N) (r : Fin 128) (k : Fin 1024) :
    (iblk m hO c 3 t : Vec Ideal S1x128x1024 .f32) (ix3 0 r k) = a4 m c (ix3 0 (row t r) k) := by
  have e : (pcfg0.win (adm m hO) 3).index t = ![0, (grid0.coords t 1).val, 0] := at3 t
  blk_ext [iblk, V_main_arg4]
  exacts [congrArg (· + 0) (congrFun e 0), congrArg (· * 128 + r.val) (congrFun e 1), at0 (congrFun e 2)]

theorem blk4 (hO : Ok m) (c : Dev nD) (t : Fin (cfgM m hO).N) (r : Fin 128) (k : Fin 1024) :
    (iblk m hO c 4 t : Vec Ideal S1x128x1024 .f32) (ix3 0 r k) = a5 m c (ix3 0 (row t r) k) := by
  have e : (pcfg0.win (adm m hO) 4).index t = ![0, (grid0.coords t 1).val, 0] := at3 t
  blk_ext [iblk, V_main_arg5]
  exacts [congrArg (· + 0) (congrFun e 0), congrArg (· * 128 + r.val) (congrFun e 1), at0 (congrFun e 2)]

theorem emb5 (hO : Ok m) (t : Fin (cfgM m hO).N) (r : Fin 128) (k : Fin 1024) :
    (((cfgM m hO).win 5).blk t).view.emb (ix3 0 r k : S1x128x1024.Idx) = (ix3 0 (row t r) k : S2x128x1024.Idx) := by
  have e : (pcfg0.win (adm m hO) 5).index t = ![0, (grid0.coords t 1).val, 0] := at3 t
  blk_ext
  exacts [congrArg (· + 0) (congrFun e 0), congrArg (· * 128 + r.val) (congrFun e 1), at0 (congrFun e 2)]

theorem emb6 (hO : Ok m) (t : Fin (cfgM m hO).N) (r : Fin 128) (k : Fin 1024) :
    (((cfgM m hO).win 6).blk t).view.emb (ix3 0 r k : S1x128x1024.Idx) = (ix3 0 (row t r) k : S2x128x1024.Idx) :=
  emb5 m hO t r k

theorem emb7 (hO : Ok m) (t : Fin (cfgM m hO).N) (r : Fin 128) (k : Fin 1024) :
    (((cfgM m hO).win 7).blk t).view.emb (ix3 0 r k : S1x128x1024.Idx) = (ix3 0 (row t r) k : S2x128x1024.Idx) :=
  emb5 m hO t r k

theorem emb8 (hO : Ok m) (t : Fin (cfgM m hO).N) (r : Fin 128) (k : Fin 1024) :
    (((cfgM m hO).win 8).blk t).view.emb (ix3 0 r k : S1x128x1024.Idx) = (ix3 0 (row t r) k : S2x128x1024.Idx) :=
  emb5 m hO t r k

/-! ## The gradient at an element -/

theorem ref_grad (x0 : Vec Ideal Cert.AdamwAWoRefIdeal.S_ .i32) (x1 : Vec Ideal S4x1x128x1024 .bf16) (x2 : Vec Ideal S3x1x128x1024 .bf16) (hc : (x0 (fun a => a.elim0)).toNat < 4) (r : Fin 128) (k : Fin 1024) :
    val_main_v12 (F := Ideal) x0 x1 x2 (ix3 0 r k) = x1 (ix4 ⟨(x0 (fun a => a.elim0)).toNat, hc⟩ 0 r k) + ∑ d : Fin 3, x2 (ix4 d 0 r k) := by
  pointwise [val_main_v12, val_main_v11, val_main_v10, val_main_v9, val_main_v8, val_main_v7, val_main_v6, val_main_v5, val_main_v4, val_main_v3, val_main_v2, val_main_v1, val_main_v0, val_main_cst, val_main_cst_0, val_main_c, val_main_call0_v0, val_main_call0_v1, val_main_call0_v2]
  congr 1
  exact Cert.Proof.Shard.sum_pick _ hc (fun d => x1 (ix4 d 0 r k))

/-- The slot `d` of what was received. -/
abbrev slot0 (b1 : Vec Ideal S3x1x128x1024 .bf16) : Vec Ideal S1x1x128x1024 .bf16 := View.ld b1 (Rect.unit ![0, 0, 0, 0] ![1, 1, 128, 1024] inb_S3x1x128x1024_S1x1x128x1024_0_0_0_0)
abbrev slot1 (b1 : Vec Ideal S3x1x128x1024 .bf16) : Vec Ideal S1x1x128x1024 .bf16 := View.ld b1 (Rect.unit ![1, 0, 0, 0] ![1, 1, 128, 1024] inb_S3x1x128x1024_S1x1x128x1024_1_0_0_0)
abbrev slot2 (b1 : Vec Ideal S3x1x128x1024 .bf16) : Vec Ideal S1x1x128x1024 .bf16 := View.ld b1 (Rect.unit ![2, 0, 0, 0] ![1, 1, 128, 1024] inb_S3x1x128x1024_S1x1x128x1024_2_0_0_0)

theorem pay_grad (b0 : Vec Ideal S1x1x128x1024 .bf16) (b1 : Vec Ideal S3x1x128x1024 .bf16) (r : Fin 128) (k : Fin 1024) :
    k0_pay6 b0 (slot0 b1) (slot1 b1) (slot2 b1) (ix2 r k) = b0 (ix4 0 0 r k) + ∑ d : Fin 3, b1 (ix4 d 0 r k) := by
  rw [Fin.sum_univ_three]
  pointwise [k0_pay6, slot0, slot1, slot2]
  simp only [add_assoc]

/-! ## What the body stores, over the blocks it reads -/

section
variable (x0 : Vec Ideal S1x1x128x1024 .bf16) (x1 : Vec Ideal S3x1x128x1024 .bf16) (x2 x3 x4 : Vec Ideal S1x128x1024 .f32)

abbrev payGrad : Vec Ideal S1x128x1024 .f32 := k0_pay2 (k0_pay6 x0 (slot0 x1) (slot1 x1) (slot2 x1))
abbrev payStep : Vec Ideal S1x128x1024 .f32 :=
  k0_pay3 (k0_pay7 x2) (k0_pay8 x0 (slot0 x1) (slot1 x1) (slot2 x1) x3) (k0_pay9 x4) (k0_pay10 x0 (slot0 x1) (slot1 x1) (slot2 x1)) (FloatOps.ofBits FTy.f32 981668463#32)
abbrev payMean : Vec Ideal S1x128x1024 .f32 := k0_pay4 (k0_pay8 x0 (slot0 x1) (slot1 x1) (slot2 x1) x3)
abbrev paySquare : Vec Ideal S1x128x1024 .f32 := k0_pay5 (k0_pay9 x4) (k0_pay10 x0 (slot0 x1) (slot1 x1) (slot2 x1)) (FloatOps.ofBits FTy.f32 981668463#32)

variable (c : Dev nD) (i : grid0.Coords) (arg3 : Memref sig .tc .vmem S1x1x128x1024 .bf16) (harg3 : arg3.IsWhole) (arg4 : Memref sig .tc .vmem S3x1x128x1024 .bf16) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x128x1024 .f32) (harg10 : arg10.IsWhole) (arg11 : Memref sig .tc .vmem S1x128x1024 .f32) (harg11 : arg11.IsWhole) (xt0 : TbBuf0 (F := Ideal) c tbM0_0)

theorem out5 : out0_A_5 (F := Ideal) c i arg3 harg3 arg4 harg4 arg5 harg5 arg6 harg6 arg7 harg7 arg8 harg8 arg9 harg9 arg10 harg10 arg11 harg11 x0 x1 x2 x3 x4 xt0 = payGrad x0 x1 := by
  frame_out

theorem out6 : out0_A_6 (F := Ideal) c i arg3 harg3 arg4 harg4 arg5 harg5 arg6 harg6 arg7 harg7 arg8 harg8 arg9 harg9 arg10 harg10 arg11 harg11 x0 x1 x2 x3 x4 xt0 = payStep x0 x1 x2 x3 x4 := by
  frame_out

theorem out7 : out0_A_7 (F := Ideal) c i arg3 harg3 arg4 harg4 arg5 harg5 arg6 harg6 arg7 harg7 arg8 harg8 arg9 harg9 arg10 harg10 arg11 harg11 x0 x1 x2 x3 x4 xt0 = payMean x0 x1 x3 := by
  frame_out

theorem out8 : out0_A_8 (F := Ideal) c i arg3 harg3 arg4 harg4 arg5 harg5 arg6 harg6 arg7 harg7 arg8 harg8 arg9 harg9 arg10 harg10 arg11 harg11 x0 x1 x2 x3 x4 xt0 = paySquare x0 x1 x4 := by
  frame_out

end

/-- Where the blocks hold the arrays' elements, what is stored is the reference's. -/
theorem elem (x0 : Vec Ideal S1x1x128x1024 .bf16) (x1 : Vec Ideal S3x1x128x1024 .bf16) (x2 x3 x4 : Vec Ideal S1x128x1024 .f32)
    (X0 : Vec Ideal Cert.AdamwAWoRefIdeal.S_ .i32) (X1 : Vec Ideal S4x1x128x1024 .bf16) (X2 : Vec Ideal S3x1x128x1024 .bf16) (X3 X4 X5 : Vec Ideal S2x128x1024 .f32)
    (hc : (X0 (fun a => a.elim0)).toNat < 4) (R : Fin 128) (r : Fin 128) (k : Fin 1024)
    (h0 : x0 (ix4 0 0 r k) = X1 (ix4 ⟨(X0 (fun a => a.elim0)).toNat, hc⟩ 0 R k)) (h1 : ∀ d, x1 (ix4 d 0 r k) = X2 (ix4 d 0 R k))
    (h2 : x2 (ix3 0 r k) = X3 (ix3 0 R k)) (h3 : x3 (ix3 0 r k) = X4 (ix3 0 R k)) (h4 : x4 (ix3 0 r k) = X5 (ix3 0 R k)) :
    payGrad x0 x1 (ix3 0 r k) = val_main_v12 (F := Ideal) X0 X1 X2 (ix3 0 R k)
    ∧ payStep x0 x1 x2 x3 x4 (ix3 0 r k) = val_main_v36 (F := Ideal) X0 X1 X2 X3 X4 X5 (ix3 0 R k)
    ∧ payMean x0 x1 x3 (ix3 0 r k) = val_main_v17 (F := Ideal) X0 X1 X2 X4 (ix3 0 R k)
    ∧ paySquare x0 x1 x4 (ix3 0 r k) = val_main_v23 (F := Ideal) X0 X1 X2 X5 (ix3 0 R k) := by
  have hg := pay_grad x0 x1 r k
  rw [h0, Finset.sum_congr rfl fun d _ => h1 d, ← ref_grad X0 X1 X2 hc R k] at hg
  refine ⟨?_, ?_, ?_, ?_⟩ <;>
    pointwise [payGrad, payStep, payMean, paySquare, k0_pay1, k0_pay2, k0_pay3, k0_pay4, k0_pay5, k0_pay7, k0_pay8, k0_pay9, k0_pay10, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_1, val_main_cst_2, val_main_cst_3, val_main_cst_4, val_main_cst_5, val_main_cst_6, val_main_cst_7, val_main_cst_8, val_main_cst_9, val_main_v0, val_main_v1, val_main_v2] <;> (try rw [hg]) <;> simp only [h2, h3, h4]

theorem outs (hO : Ok m) (c : Dev nD) (t : Fin (cfgM m hO).N) : outsAt0 m hO c t =
    (payGrad (iblk m hO c 0 t) (iblk m hO c 1 t), payStep (iblk m hO c 0 t) (iblk m hO c 1 t) (iblk m hO c 2 t) (iblk m hO c 3 t) (iblk m hO c 4 t), payMean (iblk m hO c 0 t) (iblk m hO c 1 t) (iblk m hO c 3 t), paySquare (iblk m hO c 0 t) (iblk m hO c 1 t) (iblk m hO c 4 t)) := by
  unfold outsAt0
  refine Prod.ext ?_ (Prod.ext ?_ (Prod.ext ?_ ?_)) <;> dsimp only
  exacts [by apply out5, by apply out6, by apply out7, by apply out8]

abbrev new5 (c : Dev nD) : Vec Ideal Cert.AdamwAWoRefIdeal.S1x128x1024 .f32 := val_main_v12 (F := Ideal) (a0 m c) (a1 m c) (a2 m c)
abbrev new6 (c : Dev nD) : Vec Ideal Cert.AdamwAWoRefIdeal.S1x128x1024 .f32 := val_main_v36 (F := Ideal) (a0 m c) (a1 m c) (a2 m c) (a3 m c) (a4 m c) (a5 m c)
abbrev new7 (c : Dev nD) : Vec Ideal Cert.AdamwAWoRefIdeal.S1x128x1024 .f32 := val_main_v17 (F := Ideal) (a0 m c) (a1 m c) (a2 m c) (a4 m c)
abbrev new8 (c : Dev nD) : Vec Ideal Cert.AdamwAWoRefIdeal.S1x128x1024 .f32 := val_main_v23 (F := Ideal) (a0 m c) (a1 m c) (a2 m c) (a5 m c)

theorem pt (hO : Ok m) (hc : (chip m).toNat < 4) (c : Dev nD) (t : Fin (cfgM m hO).N) (r : Fin 128) (k : Fin 1024) :
    payGrad (iblk m hO c 0 t) (iblk m hO c 1 t) (ix3 0 r k) = new5 m c (ix3 0 (row t r) k)
    ∧ payStep (iblk m hO c 0 t) (iblk m hO c 1 t) (iblk m hO c 2 t) (iblk m hO c 3 t) (iblk m hO c 4 t) (ix3 0 r k) = new6 m c (ix3 0 (row t r) k)
    ∧ payMean (iblk m hO c 0 t) (iblk m hO c 1 t) (iblk m hO c 3 t) (ix3 0 r k) = new7 m c (ix3 0 (row t r) k)
    ∧ paySquare (iblk m hO c 0 t) (iblk m hO c 1 t) (iblk m hO c 4 t) (ix3 0 r k) = new8 m c (ix3 0 (row t r) k) :=
  elem (iblk m hO c 0 t) (iblk m hO c 1 t) (iblk m hO c 2 t) (iblk m hO c 3 t) (iblk m hO c 4 t) (a0 m c) (a1 m c) (a2 m c) (a3 m c) (a4 m c) (a5 m c)
    (by rw [Subsingleton.elim c 0]; exact hc) (row t r) r k (by have := Subsingleton.elim c 0; subst this; exact blk0 m hO hc 0 t r k)
    (fun d => blk1 m hO c t d r k) (blk2 m hO c t r k) (blk3 m hO c t r k) (blk4 m hO c t r k)

theorem idx_form (y : S1x128x1024.Idx) : ∃ (r : Fin 128) (k : Fin 1024), y = ix3 0 r k :=
  ⟨y 1, y 2, (eq_ix3 (n0 := 1) (n1 := 128) (n2 := 1024) y).trans (congrArg (fun z : Fin 1 => (ix3 z (y 1) (y 2) : S1x128x1024.Idx)) (Subsingleton.elim _ _))⟩

/-! ## The other layers: what was there before -/

theorem idx_all (i : S2x128x1024.Idx) : ∃ (l : Fin 2) (R : Fin 128) (k : Fin 1024), i = ix3 l R k :=
  ⟨i 0, i 1, i 2, eq_ix3 (n0 := 2) (n1 := 128) (n2 := 1024) i⟩

/-- What was there before stays in the other layers. -/
theorem earlier {A P F : Vec Ideal S2x128x1024 .f32} {G : Vec Ideal Cert.AdamwAWoRefIdeal.S1x128x1024 .f32} (h : A = P)
    (hs : ∀ l R k, F (ix3 l R k) = if l.val = 0 then G (ix3 0 R k) else P (ix3 l R k)) (i : S2x128x1024.Idx) :
    (if (i 0).val / 1 = 0 then F i else A i) = F i := by
  obtain ⟨l, R, k, rfl⟩ := idx_all i
  subst h
  by_cases h : l.val = 0
  · exact if_pos ((Nat.div_one _).trans h)
  · exact (if_neg fun e => h ((Nat.div_one _).symm.trans e)).trans ((hs l R k).trans (if_neg h)).symm

theorem first_layer (l : Fin 2) : (val_main_v40 (F := Ideal)) (ix3 l 0 0) = if l.val = 0 then 1 else 0 := by
  pointwise [val_main_v40, val_main_v39, val_main_v38, val_main_v37, val_main_c_10]
  fin_cases l <;> rfl

abbrev ref5 (c : Dev nD) : Vec Ideal S2x128x1024 .f32 := val_main_v41 (F := Ideal) (a0 m c) (a1 m c) (a2 m c) (a6 m c)
abbrev ref6 (c : Dev nD) : Vec Ideal S2x128x1024 .f32 := val_main_v42 (F := Ideal) (a0 m c) (a1 m c) (a2 m c) (a3 m c) (a4 m c) (a5 m c) (a7 m c)
abbrev ref7 (c : Dev nD) : Vec Ideal S2x128x1024 .f32 := val_main_v43 (F := Ideal) (a0 m c) (a1 m c) (a2 m c) (a4 m c) (a8 m c)
abbrev ref8 (c : Dev nD) : Vec Ideal S2x128x1024 .f32 := val_main_v44 (F := Ideal) (a0 m c) (a1 m c) (a2 m c) (a5 m c) (a9 m c)

theorem sel5 (c : Dev nD) (l : Fin 2) (R : Fin 128) (k : Fin 1024) :
    ref5 m c (ix3 l R k) = if l.val = 0 then new5 m c (ix3 0 R k) else a6 m c (ix3 l R k) := by
  have h := first_layer l
  pointwise [val_main_v41, val_main_call1_v0, val_main_call1_v1]
  rw [h]
  split <;> rfl

theorem sel6 (c : Dev nD) (l : Fin 2) (R : Fin 128) (k : Fin 1024) :
    ref6 m c (ix3 l R k) = if l.val = 0 then new6 m c (ix3 0 R k) else a7 m c (ix3 l R k) := by
  have h := first_layer l
  pointwise [val_main_v42, val_main_call2_v0, val_main_call2_v1]
  rw [h]
  split <;> rfl

theorem sel7 (c : Dev nD) (l : Fin 2) (R : Fin 128) (k : Fin 1024) :
    ref7 m c (ix3 l R k) = if l.val = 0 then new7 m c (ix3 0 R k) else a8 m c (ix3 l R k) := by
  have h := first_layer l
  pointwise [val_main_v43, val_main_call3_v0, val_main_call3_v1]
  rw [h]
  split <;> rfl

theorem sel8 (c : Dev nD) (l : Fin 2) (R : Fin 128) (k : Fin 1024) :
    ref8 m c (ix3 l R k) = if l.val = 0 then new8 m c (ix3 0 R k) else a9 m c (ix3 l R k) := by
  have h := first_layer l
  pointwise [val_main_v44, val_main_call4_v0, val_main_call4_v1]
  rw [h]
  split <;> rfl

theorem prev5 (c : Dev nD) : V m c main_v1_0 = a6 m c := by
  simp only [V, hostOps0]
  after_results_simp
  rfl

theorem final5 (hO : Ok m) (hc : (chip m).toNat < 4) (c : Dev nD) : (dats m hO 0 c).arrAt 5 (cfgM m hO).N = ref5 m c := by
  refine ((dats m hO 0 c).arrAt_eq_of_coversWhere 5 (ref5 m c) (P := fun i : S2x128x1024.Idx => (i 0).val / 1 = 0) (fun β => β (0 : Fin 3) = 0)
    ⟨pos, fun t _ => ⟨congrFun (at3 t) 0, fun a => .inl rfl⟩, fun β hβ => (reached β hβ).imp fun t ht => ⟨ht, flush0_5 _ t⟩⟩
    (fun t hf y => ?_) (fun j => Iff.rfl)).trans (funext fun i => ?_)
  · blk_simp
    rw [after0_5, outs]
    obtain ⟨r, k, rfl⟩ := idx_form y
    exact ((pt m hO hc c t r k).1.trans (sel5 m c 0 (row t r) k).symm).trans (congrArg _ (emb5 m hO t r k).symm)
  · exact earlier ((A_eq m hO c 5).trans (prev5 m c)) (sel5 m c) i

theorem prev6 (c : Dev nD) : V m c main_v1_1 = a7 m c := by
  simp only [V, hostOps0]
  after_results_simp
  rfl

theorem final6 (hO : Ok m) (hc : (chip m).toNat < 4) (c : Dev nD) : (dats m hO 0 c).arrAt 6 (cfgM m hO).N = ref6 m c := by
  refine ((dats m hO 0 c).arrAt_eq_of_coversWhere 6 (ref6 m c) (P := fun i : S2x128x1024.Idx => (i 0).val / 1 = 0) (fun β => β (0 : Fin 3) = 0)
    ⟨pos, fun t _ => ⟨congrFun (at3 t) 0, fun a => .inl rfl⟩, fun β hβ => (reached β hβ).imp fun t ht => ⟨ht, flush0_6 _ t⟩⟩
    (fun t hf y => ?_) (fun j => Iff.rfl)).trans (funext fun i => ?_)
  · blk_simp
    rw [after0_6, outs]
    obtain ⟨r, k, rfl⟩ := idx_form y
    exact ((pt m hO hc c t r k).2.1.trans (sel6 m c 0 (row t r) k).symm).trans (congrArg _ (emb6 m hO t r k).symm)
  · exact earlier ((A_eq m hO c 6).trans (prev6 m c)) (sel6 m c) i

theorem prev7 (c : Dev nD) : V m c main_v1_2 = a8 m c := by
  simp only [V, hostOps0]
  after_results_simp
  rfl

theorem final7 (hO : Ok m) (hc : (chip m).toNat < 4) (c : Dev nD) : (dats m hO 0 c).arrAt 7 (cfgM m hO).N = ref7 m c := by
  refine ((dats m hO 0 c).arrAt_eq_of_coversWhere 7 (ref7 m c) (P := fun i : S2x128x1024.Idx => (i 0).val / 1 = 0) (fun β => β (0 : Fin 3) = 0)
    ⟨pos, fun t _ => ⟨congrFun (at3 t) 0, fun a => .inl rfl⟩, fun β hβ => (reached β hβ).imp fun t ht => ⟨ht, flush0_7 _ t⟩⟩
    (fun t hf y => ?_) (fun j => Iff.rfl)).trans (funext fun i => ?_)
  · blk_simp
    rw [after0_7, outs]
    obtain ⟨r, k, rfl⟩ := idx_form y
    exact ((pt m hO hc c t r k).2.2.1.trans (sel7 m c 0 (row t r) k).symm).trans (congrArg _ (emb7 m hO t r k).symm)
  · exact earlier ((A_eq m hO c 7).trans (prev7 m c)) (sel7 m c) i

theorem prev8 (c : Dev nD) : V m c main_v1_3 = a9 m c := by
  simp only [V, hostOps0]
  after_results_simp
  rfl

theorem final8 (hO : Ok m) (hc : (chip m).toNat < 4) (c : Dev nD) : (dats m hO 0 c).arrAt 8 (cfgM m hO).N = ref8 m c := by
  refine ((dats m hO 0 c).arrAt_eq_of_coversWhere 8 (ref8 m c) (P := fun i : S2x128x1024.Idx => (i 0).val / 1 = 0) (fun β => β (0 : Fin 3) = 0)
    ⟨pos, fun t _ => ⟨congrFun (at3 t) 0, fun a => .inl rfl⟩, fun β hβ => (reached β hβ).imp fun t ht => ⟨ht, flush0_8 _ t⟩⟩
    (fun t hf y => ?_) (fun j => Iff.rfl)).trans (funext fun i => ?_)
  · blk_simp
    rw [after0_8, outs]
    obtain ⟨r, k, rfl⟩ := idx_form y
    exact ((pt m hO hc c t r k).2.2.2.trans (sel8 m c 0 (row t r) k).symm).trans (congrArg _ (emb8 m hO t r k).symm)
  · exact earlier ((A_eq m hO c 8).trans (prev8 m c)) (sel8 m c) i

end Cert.AdamwAWoIdeal.Value

/-! The same of the table at the words. -/

namespace Cert.AdamwAWo.Value

open Cert.AdamwAWo Cert.AdamwAWo.Gen

variable (m : (ℓ : Loc nD τ sig) → Buf (Elt Bits) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwAWo m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwAWo m) : Ok (F := Bits) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

end Cert.AdamwAWo.Value

namespace Cert.Proof.AdamwAWo

theorem frame : Cert.quiescent_AdamwAWo := fun m ρ h => Cert.AdamwAWo.Gen.frame m ρ (Cert.AdamwAWo.Value.ok_of_pre m h)
theorem frame_ideal : Cert.quiescent_AdamwAWoIdeal := fun m ρ h => Cert.AdamwAWoIdeal.Gen.frame m ρ (Cert.AdamwAWoIdeal.Value.ok_of_pre m h)
theorem frame_ref : Cert.quiescent_AdamwAWoRefIdeal := fun m ρ _ =>
  (θ_run Cert.AdamwAWoRefIdeal.defs _ _).mono (fun r h => ⟨fun c => (h c).2.2.2.2, Idealize.ShloMosaic.sem_eq_zero_of_no_sems (by decide) r.2⟩)
    (Cert.AdamwAWoRefIdeal.Value.run (F := Ideal) m ρ)
theorem frame_ref_pre : Cert.quiescent_AdamwAWoRefIdeal_pre_chip_a_wo := fun m ρ _ => frame_ref m ρ trivial

open Cert.AdamwAWoIdeal.Value in
/-- Over the reals the kernel's results are the reference's. -/
theorem algebraic : Cert.algebraic_AdamwAWoIdeal_AdamwAWoRefIdeal := by
  intro m ρ m' ρ' hpre hagree
  have hO := ok_of_pre m hpre
  have hc := chip_lt m hpre
  refine ⟨
ref5 m, ref6 m, ref7 m, ref8 m,
    (θ_run Cert.AdamwAWoIdeal.defs _ _).mono (fun _ h c => ⟨(h.1.out_eq c 5).trans (final5 m hO hc c), (h.1.out_eq c 6).trans (final6 m hO hc c),
      (h.1.out_eq c 7).trans (final7 m hO hc c), (h.1.out_eq c 8).trans (final8 m hO hc c), h.2 c⟩)
      (θ_run_and (Cert.AdamwAWoIdeal.Gen.run_main m ρ hO) (Cert.AdamwAWoIdeal.Gen.unchanged m ρ hO)), ?_⟩
  exact (θ_run Cert.AdamwAWoRefIdeal.defs _ _).mono (fun _ h c => by
      obtain ⟨e0, e1, e2, e3, e4, e5, e6, e7, e8, e9⟩ := hagree c
      refine ⟨(h c).1.trans ?_, (h c).2.1.trans ?_, (h c).2.2.1.trans ?_, (h c).2.2.2.1.trans ?_, (h c).2.2.2.2⟩
      · exact (Cert.AdamwAWoRefIdeal.Read.val_main_v41_eq (F := Ideal) _ _ _ _ ).trans (by rw [e0, e1, e2, e6])
      · exact (Cert.AdamwAWoRefIdeal.Read.val_main_v42_eq (F := Ideal) _ _ _ _ _ _ _ ).trans (by rw [e0, e1, e2, e3, e4, e5, e7])
      · exact (Cert.AdamwAWoRefIdeal.Read.val_main_v43_eq (F := Ideal) _ _ _ _ _ ).trans (by rw [e0, e1, e2, e4, e8])
      · exact (Cert.AdamwAWoRefIdeal.Read.val_main_v44_eq (F := Ideal) _ _ _ _ _ ).trans (by rw [e0, e1, e2, e5, e9]))
    (Cert.AdamwAWoRefIdeal.Value.run (F := Ideal) m' ρ')

end Cert.Proof.AdamwAWo

end
-- ==== Proof.AdamwQkv.lean ====
module

public import proofs.«01_k».proof.Defs
public import proofs.«01_k».proof.Proof.Gen.Pre_chip_a_wqkv
public import proofs.«01_k».proof.Proof.Shard
public import proofs.«01_k».proof.Proof.Gen.AdamwQkv.Frame
public import proofs.«01_k».proof.Proof.Gen.AdamwQkvIdeal.Frame
public import proofs.«01_k».proof.Proof.Gen.AdamwQkvRefIdeal.Read
public import Idealize.ShloMosaic.Lib.Pointwise
public import Idealize.ShloMosaic.Lib.Quiescent
public import Idealize.ShloMosaic.Lib.Pipeline.ValueKit
public import Idealize.ShloMosaic.Lib.StableHlo.Predicate

@[expose] public section

set_option maxRecDepth 16384

noncomputable section

open Idealize.ShloMosaic Idealize.ShloMosaic.TcCoe Idealize.SL.Sem

namespace Cert.AdamwQkvIdeal.Value

open Cert.AdamwQkvIdeal Cert.AdamwQkvIdeal.Gen

variable (m : (ℓ : Loc nD τ sig) → Buf (Elt Ideal) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwQkvIdeal m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwQkvIdeal m) : Ok (F := Ideal) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

/-! The arguments. -/

abbrev a0 (c : Dev nD) : Vec Ideal Cert.AdamwQkvRefIdeal.S_ .i32 := m ((c.tc : Thread nD τ).loc main_arg0)
abbrev a1 (c : Dev nD) : Vec Ideal S4x1x1024x384 .bf16 := m ((c.tc : Thread nD τ).loc main_arg1)
abbrev a2 (c : Dev nD) : Vec Ideal S3x1x1024x384 .bf16 := m ((c.tc : Thread nD τ).loc main_arg2)
abbrev a3 (c : Dev nD) : Vec Ideal S2x1024x384 .f32 := m ((c.tc : Thread nD τ).loc main_arg3)
abbrev a4 (c : Dev nD) : Vec Ideal S2x1024x384 .f32 := m ((c.tc : Thread nD τ).loc main_arg4)
abbrev a5 (c : Dev nD) : Vec Ideal S2x1024x384 .f32 := m ((c.tc : Thread nD τ).loc main_arg5)
abbrev a6 (c : Dev nD) : Vec Ideal S2x1024x384 .f32 := m ((c.tc : Thread nD τ).loc main_arg6)
abbrev a7 (c : Dev nD) : Vec Ideal S2x1024x384 .f32 := m ((c.tc : Thread nD τ).loc main_arg7)
abbrev a8 (c : Dev nD) : Vec Ideal S2x1024x384 .f32 := m ((c.tc : Thread nD τ).loc main_arg8)
abbrev a9 (c : Dev nD) : Vec Ideal S2x1024x384 .f32 := m ((c.tc : Thread nD τ).loc main_arg9)

open Cert.AdamwQkvRefIdeal.Read
open Cert.Proof.Shard (at0)

/-! The blocks of the stacked arrays, which are the same for each of them. -/

theorem at3 : ∀ t : Fin grid0.N, cc0_transform_2 (grid0.coords t) = ![0, (grid0.coords t 1).val, 0] := by decide +kernel

theorem reached : ∀ β : (a : Fin 3) → Fin ((S2x1024x384.size a + S1x512x384.size a - 1) / S1x512x384.size a), (β 0).val = 0 → ∃ t : Fin grid0.N, ∀ a, cc0_transform_2 (grid0.coords t) a = β a := by
  decide +kernel

theorem pos : ∀ a, 0 < S1x512x384.size a := by decide

/-! ## The blocks the point `t` reads, out of the arguments -/

theorem idx0 (hO : Ok m) (t : Fin (cfgM m hO).N) : (pcfg0.win (adm m hO) 0).index t = ![(chip m).toNat, 0, (grid0.coords t 1).val, 0] :=
  (index0 m _ _ _).trans (congrArg (fun x : Nat => ![(chip m).toNat, x, (grid0.coords t 1).val, 0]) ((by decide +kernel : ∀ t : Fin grid0.N, (grid0.coords t 0).val = 0) t))

/-- The row of the array that is row `r` of the point's block. -/
abbrev row (t : Fin grid0.N) (r : Fin 512) : Fin 1024 := ⟨(grid0.coords t 1).val * 512 + r.val, by
  have := (by decide +kernel : ∀ t : Fin grid0.N, (grid0.coords t 1).val * 512 + 512 ≤ 1024) t
  omega⟩

theorem blk0 (hO : Ok m) (hc : (chip m).toNat < 4) (c : Dev nD) (t : Fin (cfgM m hO).N) (r : Fin 512) (k : Fin 384) :
    (iblk m hO c 0 t : Vec Ideal S1x1x512x384 .bf16) (ix4 0 0 r k) = a1 m c (ix4 ⟨(chip m).toNat, hc⟩ 0 (row t r) k) := by
  have e := idx0 m hO t
  blk_ext [iblk, V_main_arg1]
  exacts [congrArg (· + 0) (congrFun e 0), congrArg (· + 0) (congrFun e 1), congrArg (· * 512 + r.val) (congrFun e 2), at0 (congrFun e 3)]

theorem blk1 (hO : Ok m) (c : Dev nD) (t : Fin (cfgM m hO).N) (d : Fin 3) (r : Fin 512) (k : Fin 384) :
    (iblk m hO c 1 t : Vec Ideal S3x1x512x384 .bf16) (ix4 d 0 r k) = a2 m c (ix4 d 0 (row t r) k) := by
  have e : (pcfg0.win (adm m hO) 1).index t = ![0, 0, (grid0.coords t 1).val, 0] := (by decide +kernel : ∀ t : Fin grid0.N, cc0_transform_1 (grid0.coords t) = ![0, 0, (grid0.coords t 1).val, 0]) t
  blk_ext [iblk, V_main_arg2]
  exacts [at0 (congrFun e 0), congrArg (· + 0) (congrFun e 1), congrArg (· * 512 + r.val) (congrFun e 2), at0 (congrFun e 3)]

theorem blk2 (hO : Ok m) (c : Dev nD) (t : Fin (cfgM m hO).N) (r : Fin 512) (k : Fin 384) :
    (iblk m hO c 2 t : Vec Ideal S1x512x384 .f32) (ix3 0 r k) = a3 m c (ix3 0 (row t r) k) := by
  have e : (pcfg0.win (adm m hO) 2).index t = ![0, (grid0.coords t 1).val, 0] := at3 t
  blk_ext [iblk, V_main_arg3]
  exacts [congrArg (· + 0) (congrFun e 0), congrArg (· * 512 + r.val) (congrFun e 1), at0 (congrFun e 2)]

theorem blk3 (hO : Ok m) (c : Dev nD) (t : Fin (cfgM m hO).N) (r : Fin 512) (k : Fin 384) :
    (iblk m hO c 3 t : Vec Ideal S1x512x384 .f32) (ix3 0 r k) = a4 m c (ix3 0 (row t r) k) := by
  have e : (pcfg0.win (adm m hO) 3).index t = ![0, (grid0.coords t 1).val, 0] := at3 t
  blk_ext [iblk, V_main_arg4]
  exacts [congrArg (· + 0) (congrFun e 0), congrArg (· * 512 + r.val) (congrFun e 1), at0 (congrFun e 2)]

theorem blk4 (hO : Ok m) (c : Dev nD) (t : Fin (cfgM m hO).N) (r : Fin 512) (k : Fin 384) :
    (iblk m hO c 4 t : Vec Ideal S1x512x384 .f32) (ix3 0 r k) = a5 m c (ix3 0 (row t r) k) := by
  have e : (pcfg0.win (adm m hO) 4).index t = ![0, (grid0.coords t 1).val, 0] := at3 t
  blk_ext [iblk, V_main_arg5]
  exacts [congrArg (· + 0) (congrFun e 0), congrArg (· * 512 + r.val) (congrFun e 1), at0 (congrFun e 2)]

theorem emb5 (hO : Ok m) (t : Fin (cfgM m hO).N) (r : Fin 512) (k : Fin 384) :
    (((cfgM m hO).win 5).blk t).view.emb (ix3 0 r k : S1x512x384.Idx) = (ix3 0 (row t r) k : S2x1024x384.Idx) := by
  have e : (pcfg0.win (adm m hO) 5).index t = ![0, (grid0.coords t 1).val, 0] := at3 t
  blk_ext
  exacts [congrArg (· + 0) (congrFun e 0), congrArg (· * 512 + r.val) (congrFun e 1), at0 (congrFun e 2)]

theorem emb6 (hO : Ok m) (t : Fin (cfgM m hO).N) (r : Fin 512) (k : Fin 384) :
    (((cfgM m hO).win 6).blk t).view.emb (ix3 0 r k : S1x512x384.Idx) = (ix3 0 (row t r) k : S2x1024x384.Idx) :=
  emb5 m hO t r k

theorem emb7 (hO : Ok m) (t : Fin (cfgM m hO).N) (r : Fin 512) (k : Fin 384) :
    (((cfgM m hO).win 7).blk t).view.emb (ix3 0 r k : S1x512x384.Idx) = (ix3 0 (row t r) k : S2x1024x384.Idx) :=
  emb5 m hO t r k

theorem emb8 (hO : Ok m) (t : Fin (cfgM m hO).N) (r : Fin 512) (k : Fin 384) :
    (((cfgM m hO).win 8).blk t).view.emb (ix3 0 r k : S1x512x384.Idx) = (ix3 0 (row t r) k : S2x1024x384.Idx) :=
  emb5 m hO t r k

/-! ## The gradient at an element -/

theorem ref_grad (x0 : Vec Ideal Cert.AdamwQkvRefIdeal.S_ .i32) (x1 : Vec Ideal S4x1x1024x384 .bf16) (x2 : Vec Ideal S3x1x1024x384 .bf16) (hc : (x0 (fun a => a.elim0)).toNat < 4) (r : Fin 1024) (k : Fin 384) :
    val_main_v12 (F := Ideal) x0 x1 x2 (ix3 0 r k) = x1 (ix4 ⟨(x0 (fun a => a.elim0)).toNat, hc⟩ 0 r k) + ∑ d : Fin 3, x2 (ix4 d 0 r k) := by
  pointwise [val_main_v12, val_main_v11, val_main_v10, val_main_v9, val_main_v8, val_main_v7, val_main_v6, val_main_v5, val_main_v4, val_main_v3, val_main_v2, val_main_v1, val_main_v0, val_main_cst, val_main_cst_0, val_main_c, val_main_call0_v0, val_main_call0_v1, val_main_call0_v2]
  congr 1
  exact Cert.Proof.Shard.sum_pick _ hc (fun d => x1 (ix4 d 0 r k))

/-- The slot `d` of what was received. -/
abbrev slot0 (b1 : Vec Ideal S3x1x512x384 .bf16) : Vec Ideal S1x1x512x384 .bf16 := View.ld b1 (Rect.unit ![0, 0, 0, 0] ![1, 1, 512, 384] inb_S3x1x512x384_S1x1x512x384_0_0_0_0)
abbrev slot1 (b1 : Vec Ideal S3x1x512x384 .bf16) : Vec Ideal S1x1x512x384 .bf16 := View.ld b1 (Rect.unit ![1, 0, 0, 0] ![1, 1, 512, 384] inb_S3x1x512x384_S1x1x512x384_1_0_0_0)
abbrev slot2 (b1 : Vec Ideal S3x1x512x384 .bf16) : Vec Ideal S1x1x512x384 .bf16 := View.ld b1 (Rect.unit ![2, 0, 0, 0] ![1, 1, 512, 384] inb_S3x1x512x384_S1x1x512x384_2_0_0_0)

theorem pay_grad (b0 : Vec Ideal S1x1x512x384 .bf16) (b1 : Vec Ideal S3x1x512x384 .bf16) (r : Fin 512) (k : Fin 384) :
    k0_pay6 b0 (slot0 b1) (slot1 b1) (slot2 b1) (ix2 r k) = b0 (ix4 0 0 r k) + ∑ d : Fin 3, b1 (ix4 d 0 r k) := by
  rw [Fin.sum_univ_three]
  pointwise [k0_pay6, slot0, slot1, slot2]
  simp only [add_assoc]

/-! ## What the body stores, over the blocks it reads -/

section
variable (x0 : Vec Ideal S1x1x512x384 .bf16) (x1 : Vec Ideal S3x1x512x384 .bf16) (x2 x3 x4 : Vec Ideal S1x512x384 .f32)

abbrev payGrad : Vec Ideal S1x512x384 .f32 := k0_pay2 (k0_pay6 x0 (slot0 x1) (slot1 x1) (slot2 x1))
abbrev payStep : Vec Ideal S1x512x384 .f32 :=
  k0_pay3 (k0_pay7 x2) (k0_pay8 x0 (slot0 x1) (slot1 x1) (slot2 x1) x3) (k0_pay9 x4) (k0_pay10 x0 (slot0 x1) (slot1 x1) (slot2 x1)) (FloatOps.ofBits FTy.f32 981668463#32)
abbrev payMean : Vec Ideal S1x512x384 .f32 := k0_pay4 (k0_pay8 x0 (slot0 x1) (slot1 x1) (slot2 x1) x3)
abbrev paySquare : Vec Ideal S1x512x384 .f32 := k0_pay5 (k0_pay9 x4) (k0_pay10 x0 (slot0 x1) (slot1 x1) (slot2 x1)) (FloatOps.ofBits FTy.f32 981668463#32)

variable (c : Dev nD) (i : grid0.Coords) (arg3 : Memref sig .tc .vmem S1x1x512x384 .bf16) (harg3 : arg3.IsWhole) (arg4 : Memref sig .tc .vmem S3x1x512x384 .bf16) (harg4 : arg4.IsWhole) (arg5 : Memref sig .tc .vmem S1x512x384 .f32) (harg5 : arg5.IsWhole) (arg6 : Memref sig .tc .vmem S1x512x384 .f32) (harg6 : arg6.IsWhole) (arg7 : Memref sig .tc .vmem S1x512x384 .f32) (harg7 : arg7.IsWhole) (arg8 : Memref sig .tc .vmem S1x512x384 .f32) (harg8 : arg8.IsWhole) (arg9 : Memref sig .tc .vmem S1x512x384 .f32) (harg9 : arg9.IsWhole) (arg10 : Memref sig .tc .vmem S1x512x384 .f32) (harg10 : arg10.IsWhole) (arg11 : Memref sig .tc .vmem S1x512x384 .f32) (harg11 : arg11.IsWhole) (xt0 : TbBuf0 (F := Ideal) c tbM0_0)

theorem out5 : out0_A_5 (F := Ideal) c i arg3 harg3 arg4 harg4 arg5 harg5 arg6 harg6 arg7 harg7 arg8 harg8 arg9 harg9 arg10 harg10 arg11 harg11 x0 x1 x2 x3 x4 xt0 = payGrad x0 x1 := by
  frame_out

theorem out6 : out0_A_6 (F := Ideal) c i arg3 harg3 arg4 harg4 arg5 harg5 arg6 harg6 arg7 harg7 arg8 harg8 arg9 harg9 arg10 harg10 arg11 harg11 x0 x1 x2 x3 x4 xt0 = payStep x0 x1 x2 x3 x4 := by
  frame_out

theorem out7 : out0_A_7 (F := Ideal) c i arg3 harg3 arg4 harg4 arg5 harg5 arg6 harg6 arg7 harg7 arg8 harg8 arg9 harg9 arg10 harg10 arg11 harg11 x0 x1 x2 x3 x4 xt0 = payMean x0 x1 x3 := by
  frame_out

theorem out8 : out0_A_8 (F := Ideal) c i arg3 harg3 arg4 harg4 arg5 harg5 arg6 harg6 arg7 harg7 arg8 harg8 arg9 harg9 arg10 harg10 arg11 harg11 x0 x1 x2 x3 x4 xt0 = paySquare x0 x1 x4 := by
  frame_out

end

/-- Where the blocks hold the arrays' elements, what is stored is the reference's. -/
theorem elem (x0 : Vec Ideal S1x1x512x384 .bf16) (x1 : Vec Ideal S3x1x512x384 .bf16) (x2 x3 x4 : Vec Ideal S1x512x384 .f32)
    (X0 : Vec Ideal Cert.AdamwQkvRefIdeal.S_ .i32) (X1 : Vec Ideal S4x1x1024x384 .bf16) (X2 : Vec Ideal S3x1x1024x384 .bf16) (X3 X4 X5 : Vec Ideal S2x1024x384 .f32)
    (hc : (X0 (fun a => a.elim0)).toNat < 4) (R : Fin 1024) (r : Fin 512) (k : Fin 384)
    (h0 : x0 (ix4 0 0 r k) = X1 (ix4 ⟨(X0 (fun a => a.elim0)).toNat, hc⟩ 0 R k)) (h1 : ∀ d, x1 (ix4 d 0 r k) = X2 (ix4 d 0 R k))
    (h2 : x2 (ix3 0 r k) = X3 (ix3 0 R k)) (h3 : x3 (ix3 0 r k) = X4 (ix3 0 R k)) (h4 : x4 (ix3 0 r k) = X5 (ix3 0 R k)) :
    payGrad x0 x1 (ix3 0 r k) = val_main_v12 (F := Ideal) X0 X1 X2 (ix3 0 R k)
    ∧ payStep x0 x1 x2 x3 x4 (ix3 0 r k) = val_main_v36 (F := Ideal) X0 X1 X2 X3 X4 X5 (ix3 0 R k)
    ∧ payMean x0 x1 x3 (ix3 0 r k) = val_main_v17 (F := Ideal) X0 X1 X2 X4 (ix3 0 R k)
    ∧ paySquare x0 x1 x4 (ix3 0 r k) = val_main_v23 (F := Ideal) X0 X1 X2 X5 (ix3 0 R k) := by
  have hg := pay_grad x0 x1 r k
  rw [h0, Finset.sum_congr rfl fun d _ => h1 d, ← ref_grad X0 X1 X2 hc R k] at hg
  refine ⟨?_, ?_, ?_, ?_⟩ <;>
    pointwise [payGrad, payStep, payMean, paySquare, k0_pay1, k0_pay2, k0_pay3, k0_pay4, k0_pay5, k0_pay7, k0_pay8, k0_pay9, k0_pay10, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_1, val_main_cst_2, val_main_cst_3, val_main_cst_4, val_main_cst_5, val_main_cst_6, val_main_cst_7, val_main_cst_8, val_main_cst_9, val_main_v0, val_main_v1, val_main_v2] <;> (try rw [hg]) <;> simp only [h2, h3, h4]

theorem outs (hO : Ok m) (c : Dev nD) (t : Fin (cfgM m hO).N) : outsAt0 m hO c t =
    (payGrad (iblk m hO c 0 t) (iblk m hO c 1 t), payStep (iblk m hO c 0 t) (iblk m hO c 1 t) (iblk m hO c 2 t) (iblk m hO c 3 t) (iblk m hO c 4 t), payMean (iblk m hO c 0 t) (iblk m hO c 1 t) (iblk m hO c 3 t), paySquare (iblk m hO c 0 t) (iblk m hO c 1 t) (iblk m hO c 4 t)) := by
  unfold outsAt0
  refine Prod.ext ?_ (Prod.ext ?_ (Prod.ext ?_ ?_)) <;> dsimp only
  exacts [by apply out5, by apply out6, by apply out7, by apply out8]

abbrev new5 (c : Dev nD) : Vec Ideal Cert.AdamwQkvRefIdeal.S1x1024x384 .f32 := val_main_v12 (F := Ideal) (a0 m c) (a1 m c) (a2 m c)
abbrev new6 (c : Dev nD) : Vec Ideal Cert.AdamwQkvRefIdeal.S1x1024x384 .f32 := val_main_v36 (F := Ideal) (a0 m c) (a1 m c) (a2 m c) (a3 m c) (a4 m c) (a5 m c)
abbrev new7 (c : Dev nD) : Vec Ideal Cert.AdamwQkvRefIdeal.S1x1024x384 .f32 := val_main_v17 (F := Ideal) (a0 m c) (a1 m c) (a2 m c) (a4 m c)
abbrev new8 (c : Dev nD) : Vec Ideal Cert.AdamwQkvRefIdeal.S1x1024x384 .f32 := val_main_v23 (F := Ideal) (a0 m c) (a1 m c) (a2 m c) (a5 m c)

theorem pt (hO : Ok m) (hc : (chip m).toNat < 4) (c : Dev nD) (t : Fin (cfgM m hO).N) (r : Fin 512) (k : Fin 384) :
    payGrad (iblk m hO c 0 t) (iblk m hO c 1 t) (ix3 0 r k) = new5 m c (ix3 0 (row t r) k)
    ∧ payStep (iblk m hO c 0 t) (iblk m hO c 1 t) (iblk m hO c 2 t) (iblk m hO c 3 t) (iblk m hO c 4 t) (ix3 0 r k) = new6 m c (ix3 0 (row t r) k)
    ∧ payMean (iblk m hO c 0 t) (iblk m hO c 1 t) (iblk m hO c 3 t) (ix3 0 r k) = new7 m c (ix3 0 (row t r) k)
    ∧ paySquare (iblk m hO c 0 t) (iblk m hO c 1 t) (iblk m hO c 4 t) (ix3 0 r k) = new8 m c (ix3 0 (row t r) k) :=
  elem (iblk m hO c 0 t) (iblk m hO c 1 t) (iblk m hO c 2 t) (iblk m hO c 3 t) (iblk m hO c 4 t) (a0 m c) (a1 m c) (a2 m c) (a3 m c) (a4 m c) (a5 m c)
    (by rw [Subsingleton.elim c 0]; exact hc) (row t r) r k (by have := Subsingleton.elim c 0; subst this; exact blk0 m hO hc 0 t r k)
    (fun d => blk1 m hO c t d r k) (blk2 m hO c t r k) (blk3 m hO c t r k) (blk4 m hO c t r k)

theorem idx_form (y : S1x512x384.Idx) : ∃ (r : Fin 512) (k : Fin 384), y = ix3 0 r k :=
  ⟨y 1, y 2, (eq_ix3 (n0 := 1) (n1 := 512) (n2 := 384) y).trans (congrArg (fun z : Fin 1 => (ix3 z (y 1) (y 2) : S1x512x384.Idx)) (Subsingleton.elim _ _))⟩

/-! ## The other layers: what was there before -/

theorem idx_all (i : S2x1024x384.Idx) : ∃ (l : Fin 2) (R : Fin 1024) (k : Fin 384), i = ix3 l R k :=
  ⟨i 0, i 1, i 2, eq_ix3 (n0 := 2) (n1 := 1024) (n2 := 384) i⟩

/-- What was there before stays in the other layers. -/
theorem earlier {A P F : Vec Ideal S2x1024x384 .f32} {G : Vec Ideal Cert.AdamwQkvRefIdeal.S1x1024x384 .f32} (h : A = P)
    (hs : ∀ l R k, F (ix3 l R k) = if l.val = 0 then G (ix3 0 R k) else P (ix3 l R k)) (i : S2x1024x384.Idx) :
    (if (i 0).val / 1 = 0 then F i else A i) = F i := by
  obtain ⟨l, R, k, rfl⟩ := idx_all i
  subst h
  by_cases h : l.val = 0
  · exact if_pos ((Nat.div_one _).trans h)
  · exact (if_neg fun e => h ((Nat.div_one _).symm.trans e)).trans ((hs l R k).trans (if_neg h)).symm

theorem first_layer (l : Fin 2) : (val_main_v40 (F := Ideal)) (ix3 l 0 0) = if l.val = 0 then 1 else 0 := by
  pointwise [val_main_v40, val_main_v39, val_main_v38, val_main_v37, val_main_c_10]
  fin_cases l <;> rfl

abbrev ref5 (c : Dev nD) : Vec Ideal S2x1024x384 .f32 := val_main_v41 (F := Ideal) (a0 m c) (a1 m c) (a2 m c) (a6 m c)
abbrev ref6 (c : Dev nD) : Vec Ideal S2x1024x384 .f32 := val_main_v42 (F := Ideal) (a0 m c) (a1 m c) (a2 m c) (a3 m c) (a4 m c) (a5 m c) (a7 m c)
abbrev ref7 (c : Dev nD) : Vec Ideal S2x1024x384 .f32 := val_main_v43 (F := Ideal) (a0 m c) (a1 m c) (a2 m c) (a4 m c) (a8 m c)
abbrev ref8 (c : Dev nD) : Vec Ideal S2x1024x384 .f32 := val_main_v44 (F := Ideal) (a0 m c) (a1 m c) (a2 m c) (a5 m c) (a9 m c)

theorem sel5 (c : Dev nD) (l : Fin 2) (R : Fin 1024) (k : Fin 384) :
    ref5 m c (ix3 l R k) = if l.val = 0 then new5 m c (ix3 0 R k) else a6 m c (ix3 l R k) := by
  have h := first_layer l
  pointwise [val_main_v41, val_main_call1_v0, val_main_call1_v1]
  rw [h]
  split <;> rfl

theorem sel6 (c : Dev nD) (l : Fin 2) (R : Fin 1024) (k : Fin 384) :
    ref6 m c (ix3 l R k) = if l.val = 0 then new6 m c (ix3 0 R k) else a7 m c (ix3 l R k) := by
  have h := first_layer l
  pointwise [val_main_v42, val_main_call2_v0, val_main_call2_v1]
  rw [h]
  split <;> rfl

theorem sel7 (c : Dev nD) (l : Fin 2) (R : Fin 1024) (k : Fin 384) :
    ref7 m c (ix3 l R k) = if l.val = 0 then new7 m c (ix3 0 R k) else a8 m c (ix3 l R k) := by
  have h := first_layer l
  pointwise [val_main_v43, val_main_call3_v0, val_main_call3_v1]
  rw [h]
  split <;> rfl

theorem sel8 (c : Dev nD) (l : Fin 2) (R : Fin 1024) (k : Fin 384) :
    ref8 m c (ix3 l R k) = if l.val = 0 then new8 m c (ix3 0 R k) else a9 m c (ix3 l R k) := by
  have h := first_layer l
  pointwise [val_main_v44, val_main_call4_v0, val_main_call4_v1]
  rw [h]
  split <;> rfl

theorem prev5 (c : Dev nD) : V m c main_v1_0 = a6 m c := by
  simp only [V, hostOps0]
  after_results_simp
  rfl

theorem final5 (hO : Ok m) (hc : (chip m).toNat < 4) (c : Dev nD) : (dats m hO 0 c).arrAt 5 (cfgM m hO).N = ref5 m c := by
  refine ((dats m hO 0 c).arrAt_eq_of_coversWhere 5 (ref5 m c) (P := fun i : S2x1024x384.Idx => (i 0).val / 1 = 0) (fun β => β (0 : Fin 3) = 0)
    ⟨pos, fun t _ => ⟨congrFun (at3 t) 0, fun a => .inl rfl⟩, fun β hβ => (reached β hβ).imp fun t ht => ⟨ht, flush0_5 _ t⟩⟩
    (fun t hf y => ?_) (fun j => Iff.rfl)).trans (funext fun i => ?_)
  · blk_simp
    rw [after0_5, outs]
    obtain ⟨r, k, rfl⟩ := idx_form y
    exact ((pt m hO hc c t r k).1.trans (sel5 m c 0 (row t r) k).symm).trans (congrArg _ (emb5 m hO t r k).symm)
  · exact earlier ((A_eq m hO c 5).trans (prev5 m c)) (sel5 m c) i

theorem prev6 (c : Dev nD) : V m c main_v1_1 = a7 m c := by
  simp only [V, hostOps0]
  after_results_simp
  rfl

theorem final6 (hO : Ok m) (hc : (chip m).toNat < 4) (c : Dev nD) : (dats m hO 0 c).arrAt 6 (cfgM m hO).N = ref6 m c := by
  refine ((dats m hO 0 c).arrAt_eq_of_coversWhere 6 (ref6 m c) (P := fun i : S2x1024x384.Idx => (i 0).val / 1 = 0) (fun β => β (0 : Fin 3) = 0)
    ⟨pos, fun t _ => ⟨congrFun (at3 t) 0, fun a => .inl rfl⟩, fun β hβ => (reached β hβ).imp fun t ht => ⟨ht, flush0_6 _ t⟩⟩
    (fun t hf y => ?_) (fun j => Iff.rfl)).trans (funext fun i => ?_)
  · blk_simp
    rw [after0_6, outs]
    obtain ⟨r, k, rfl⟩ := idx_form y
    exact ((pt m hO hc c t r k).2.1.trans (sel6 m c 0 (row t r) k).symm).trans (congrArg _ (emb6 m hO t r k).symm)
  · exact earlier ((A_eq m hO c 6).trans (prev6 m c)) (sel6 m c) i

theorem prev7 (c : Dev nD) : V m c main_v1_2 = a8 m c := by
  simp only [V, hostOps0]
  after_results_simp
  rfl

theorem final7 (hO : Ok m) (hc : (chip m).toNat < 4) (c : Dev nD) : (dats m hO 0 c).arrAt 7 (cfgM m hO).N = ref7 m c := by
  refine ((dats m hO 0 c).arrAt_eq_of_coversWhere 7 (ref7 m c) (P := fun i : S2x1024x384.Idx => (i 0).val / 1 = 0) (fun β => β (0 : Fin 3) = 0)
    ⟨pos, fun t _ => ⟨congrFun (at3 t) 0, fun a => .inl rfl⟩, fun β hβ => (reached β hβ).imp fun t ht => ⟨ht, flush0_7 _ t⟩⟩
    (fun t hf y => ?_) (fun j => Iff.rfl)).trans (funext fun i => ?_)
  · blk_simp
    rw [after0_7, outs]
    obtain ⟨r, k, rfl⟩ := idx_form y
    exact ((pt m hO hc c t r k).2.2.1.trans (sel7 m c 0 (row t r) k).symm).trans (congrArg _ (emb7 m hO t r k).symm)
  · exact earlier ((A_eq m hO c 7).trans (prev7 m c)) (sel7 m c) i

theorem prev8 (c : Dev nD) : V m c main_v1_3 = a9 m c := by
  simp only [V, hostOps0]
  after_results_simp
  rfl

theorem final8 (hO : Ok m) (hc : (chip m).toNat < 4) (c : Dev nD) : (dats m hO 0 c).arrAt 8 (cfgM m hO).N = ref8 m c := by
  refine ((dats m hO 0 c).arrAt_eq_of_coversWhere 8 (ref8 m c) (P := fun i : S2x1024x384.Idx => (i 0).val / 1 = 0) (fun β => β (0 : Fin 3) = 0)
    ⟨pos, fun t _ => ⟨congrFun (at3 t) 0, fun a => .inl rfl⟩, fun β hβ => (reached β hβ).imp fun t ht => ⟨ht, flush0_8 _ t⟩⟩
    (fun t hf y => ?_) (fun j => Iff.rfl)).trans (funext fun i => ?_)
  · blk_simp
    rw [after0_8, outs]
    obtain ⟨r, k, rfl⟩ := idx_form y
    exact ((pt m hO hc c t r k).2.2.2.trans (sel8 m c 0 (row t r) k).symm).trans (congrArg _ (emb8 m hO t r k).symm)
  · exact earlier ((A_eq m hO c 8).trans (prev8 m c)) (sel8 m c) i

end Cert.AdamwQkvIdeal.Value

/-! The same of the table at the words. -/

namespace Cert.AdamwQkv.Value

open Cert.AdamwQkv Cert.AdamwQkv.Gen

variable (m : (ℓ : Loc nD τ sig) → Buf (Elt Bits) ℓ)

/-- The chip's number. -/
abbrev chip : BitVec 32 := m (((0 : Dev nD).tc : Thread nD τ).loc main_arg0) (fun a => a.elim0)

/-- The table's word is the chip's number. -/
theorem word_eq (inb n1) : (tbl m).at 0 (Rect.unit (s := S1) ![0] S1.size inb) n1 = chip m := by
  show V m 0 main_v0 _ = _
  simp only [V, hostOps0]
  after_results_simp
  rfl

/-- The precondition says the chip's number is below four. -/
theorem chip_lt (h : Cert.Pre_AdamwQkv m) : (chip m).toNat < 4 :=
  Cert.Proof.Shard.chip_lt (congrFun (h 0) (fun a => a.elim0))

theorem index0 (inb n1) (i : grid0.Coords) : cc0_transform_0 inb n1 (tbl m) i = ![(chip m).toNat, (i 0).val, (i 1).val, 0] := by
  have h0 : (i 0).val < 4294967296 := lt_of_lt_of_le (i 0).isLt (by decide)
  have h1 : (i 1).val < 4294967296 := lt_of_lt_of_le (i 1).isLt (by decide)
  unfold cc0_transform_0
  rw [word_eq m inb n1]
  funext a
  fin_cases a <;> simp [Nat.mod_eq_of_lt h0, Nat.mod_eq_of_lt h1]

theorem ok_of_pre (h : Cert.Pre_AdamwQkv m) : Ok (F := Bits) m := by
  unfold Ok ok0
  intro i
  have hc := chip_lt m h
  refine ⟨?_, .inr (Affine.block_words_dvd (of_decide_eq_true rfl) (by decide))⟩
  rw [index0]
  have h0 : (i 0).val < _ := (i 0).isLt
  have h1 : (i 1).val < _ := (i 1).isLt
  intro a
  fin_cases a <;> simp at * <;> omega

end Cert.AdamwQkv.Value

namespace Cert.Proof.AdamwQkv

theorem frame : Cert.quiescent_AdamwQkv := fun m ρ h => Cert.AdamwQkv.Gen.frame m ρ (Cert.AdamwQkv.Value.ok_of_pre m h)
theorem frame_ideal : Cert.quiescent_AdamwQkvIdeal := fun m ρ h => Cert.AdamwQkvIdeal.Gen.frame m ρ (Cert.AdamwQkvIdeal.Value.ok_of_pre m h)
theorem frame_ref : Cert.quiescent_AdamwQkvRefIdeal := fun m ρ _ =>
  (θ_run Cert.AdamwQkvRefIdeal.defs _ _).mono (fun r h => ⟨fun c => (h c).2.2.2.2, Idealize.ShloMosaic.sem_eq_zero_of_no_sems (by decide) r.2⟩)
    (Cert.AdamwQkvRefIdeal.Value.run (F := Ideal) m ρ)
theorem frame_ref_pre : Cert.quiescent_AdamwQkvRefIdeal_pre_chip_a_wqkv := fun m ρ _ => frame_ref m ρ trivial

open Cert.AdamwQkvIdeal.Value in
/-- Over the reals the kernel's results are the reference's. -/
theorem algebraic : Cert.algebraic_AdamwQkvIdeal_AdamwQkvRefIdeal := by
  intro m ρ m' ρ' hpre hagree
  have hO := ok_of_pre m hpre
  have hc := chip_lt m hpre
  refine ⟨
ref5 m, ref6 m, ref7 m, ref8 m,
    (θ_run Cert.AdamwQkvIdeal.defs _ _).mono (fun _ h c => ⟨(h.1.out_eq c 5).trans (final5 m hO hc c), (h.1.out_eq c 6).trans (final6 m hO hc c),
      (h.1.out_eq c 7).trans (final7 m hO hc c), (h.1.out_eq c 8).trans (final8 m hO hc c), h.2 c⟩)
      (θ_run_and (Cert.AdamwQkvIdeal.Gen.run_main m ρ hO) (Cert.AdamwQkvIdeal.Gen.unchanged m ρ hO)), ?_⟩
  exact (θ_run Cert.AdamwQkvRefIdeal.defs _ _).mono (fun _ h c => by
      obtain ⟨e0, e1, e2, e3, e4, e5, e6, e7, e8, e9⟩ := hagree c
      refine ⟨(h c).1.trans ?_, (h c).2.1.trans ?_, (h c).2.2.1.trans ?_, (h c).2.2.2.1.trans ?_, (h c).2.2.2.2⟩
      · exact (Cert.AdamwQkvRefIdeal.Read.val_main_v41_eq (F := Ideal) _ _ _ _ ).trans (by rw [e0, e1, e2, e6])
      · exact (Cert.AdamwQkvRefIdeal.Read.val_main_v42_eq (F := Ideal) _ _ _ _ _ _ _ ).trans (by rw [e0, e1, e2, e3, e4, e5, e7])
      · exact (Cert.AdamwQkvRefIdeal.Read.val_main_v43_eq (F := Ideal) _ _ _ _ _ ).trans (by rw [e0, e1, e2, e4, e8])
      · exact (Cert.AdamwQkvRefIdeal.Read.val_main_v44_eq (F := Ideal) _ _ _ _ _ ).trans (by rw [e0, e1, e2, e5, e9]))
    (Cert.AdamwQkvRefIdeal.Value.run (F := Ideal) m' ρ')

end Cert.Proof.AdamwQkv

end
-- ==== Proof.lean ====
/-
  The certificate: the training step's products with what is fused into them, forward and backward, compute over the
  reals what the reference's lines compute, and the stick-breaking attention's backward call runs and leaves its
  arguments alone.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Run
public import proofs.«01_k».proof.Proof.WordRun
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.Gen.UpFwdRefIdeal.Read
public import proofs.«01_k».proof.Proof.UpFwd
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.DownFwd
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.DownDx
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.DownDw
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.UpDx
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.UpDw
public import proofs.«01_k».proof.Proof.Gen.AQkvFwd
public import proofs.«01_k».proof.Proof.Gen.AQkvFwd.Skeleton
public import proofs.«01_k».proof.Proof.Gen.AQkvFwd.Launch
public import proofs.«01_k».proof.Proof.Gen.AQkvFwd.Points
public import proofs.«01_k».proof.Proof.Gen.AQkvFwd.Frame
public import proofs.«01_k».proof.Proof.Gen.AQkvFwdIdeal
public import proofs.«01_k».proof.Proof.Gen.AQkvFwdIdeal.Frame
public import proofs.«01_k».proof.Proof.Gen.AQkvFwdIdeal.Value
public import proofs.«01_k».proof.Proof.Gen.AQkvFwdRefIdeal
public import proofs.«01_k».proof.Proof.Gen.AQkvFwdRefIdeal.Run
public import proofs.«01_k».proof.Proof.Gen.AQkvFwdRefIdeal.Read
public import proofs.«01_k».proof.Proof.AQkvFwd
public import proofs.«01_k».proof.Proof.Gen.AWoFwd
public import proofs.«01_k».proof.Proof.Gen.AWoFwd.Skeleton
public import proofs.«01_k».proof.Proof.Gen.AWoFwd.Launch
public import proofs.«01_k».proof.Proof.Gen.AWoFwd.Points
public import proofs.«01_k».proof.Proof.Gen.AWoFwd.Frame
public import proofs.«01_k».proof.Proof.Gen.AWoFwdIdeal
public import proofs.«01_k».proof.Proof.Gen.AWoFwdIdeal.Frame
public import proofs.«01_k».proof.Proof.Gen.AWoFwdIdeal.Value
public import proofs.«01_k».proof.Proof.Gen.AWoFwdRefIdeal
public import proofs.«01_k».proof.Proof.Gen.AWoFwdRefIdeal.Run
public import proofs.«01_k».proof.Proof.Gen.AWoFwdRefIdeal.Read
public import proofs.«01_k».proof.Proof.AWoFwd
public import proofs.«01_k».proof.Proof.Gen.AWoDx
public import proofs.«01_k».proof.Proof.Gen.AWoDx.Skeleton
public import proofs.«01_k».proof.Proof.Gen.AWoDx.Launch
public import proofs.«01_k».proof.Proof.Gen.AWoDx.Points
public import proofs.«01_k».proof.Proof.Gen.AWoDx.Frame
public import proofs.«01_k».proof.Proof.Gen.AWoDxIdeal
public import proofs.«01_k».proof.Proof.Gen.AWoDxIdeal.Frame
public import proofs.«01_k».proof.Proof.Gen.AWoDxIdeal.Value
public import proofs.«01_k».proof.Proof.Gen.AWoDxRefIdeal
public import proofs.«01_k».proof.Proof.Gen.AWoDxRefIdeal.Run
public import proofs.«01_k».proof.Proof.Gen.AWoDxRefIdeal.Read
public import proofs.«01_k».proof.Proof.AWoDx
public import proofs.«01_k».proof.Proof.Gen.AWoDw
public import proofs.«01_k».proof.Proof.Gen.AWoDw.Skeleton
public import proofs.«01_k».proof.Proof.Gen.AWoDw.Launch
public import proofs.«01_k».proof.Proof.Gen.AWoDw.Points
public import proofs.«01_k».proof.Proof.Gen.AWoDw.Frame
public import proofs.«01_k».proof.Proof.Gen.AWoDwIdeal
public import proofs.«01_k».proof.Proof.Gen.AWoDwIdeal.Frame
public import proofs.«01_k».proof.Proof.Gen.AWoDwIdeal.Value
public import proofs.«01_k».proof.Proof.Gen.AWoDwRefIdeal
public import proofs.«01_k».proof.Proof.Gen.AWoDwRefIdeal.Run
public import proofs.«01_k».proof.Proof.Gen.AWoDwRefIdeal.Read
public import proofs.«01_k».proof.Proof.AWoDw
public import proofs.«01_k».proof.Proof.Gen.AQkvDx
public import proofs.«01_k».proof.Proof.Gen.AQkvDx.Skeleton
public import proofs.«01_k».proof.Proof.Gen.AQkvDx.Launch
public import proofs.«01_k».proof.Proof.Gen.AQkvDx.Points
public import proofs.«01_k».proof.Proof.Gen.AQkvDx.Frame
public import proofs.«01_k».proof.Proof.Gen.AQkvDxIdeal
public import proofs.«01_k».proof.Proof.Gen.AQkvDxIdeal.Frame
public import proofs.«01_k».proof.Proof.Gen.AQkvDxIdeal.Value
public import proofs.«01_k».proof.Proof.Gen.AQkvDxRefIdeal
public import proofs.«01_k».proof.Proof.Gen.AQkvDxRefIdeal.Run
public import proofs.«01_k».proof.Proof.Gen.AQkvDxRefIdeal.Read
public import proofs.«01_k».proof.Proof.AQkvDx
public import proofs.«01_k».proof.Proof.Gen.AQkvDw
public import proofs.«01_k».proof.Proof.Gen.AQkvDw.Skeleton
public import proofs.«01_k».proof.Proof.Gen.AQkvDw.Launch
public import proofs.«01_k».proof.Proof.Gen.AQkvDw.Points
public import proofs.«01_k».proof.Proof.Gen.AQkvDw.Frame
public import proofs.«01_k».proof.Proof.Gen.AQkvDwIdeal
public import proofs.«01_k».proof.Proof.Gen.AQkvDwIdeal.Frame
public import proofs.«01_k».proof.Proof.Gen.AQkvDwIdeal.Value
public import proofs.«01_k».proof.Proof.Gen.AQkvDwRefIdeal
public import proofs.«01_k».proof.Proof.Gen.AQkvDwRefIdeal.Run
public import proofs.«01_k».proof.Proof.Gen.AQkvDwRefIdeal.Read
public import proofs.«01_k».proof.Proof.AQkvDw
public import proofs.«01_k».proof.Proof.Gen.KvFwd
public import proofs.«01_k».proof.Proof.Gen.KvFwd.Skeleton
public import proofs.«01_k».proof.Proof.Gen.KvFwd.Launch
public import proofs.«01_k».proof.Proof.Gen.KvFwd.Points
public import proofs.«01_k».proof.Proof.Gen.KvFwd.Frame
public import proofs.«01_k».proof.Proof.Gen.KvFwdIdeal
public import proofs.«01_k».proof.Proof.Gen.KvFwdIdeal.Frame
public import proofs.«01_k».proof.Proof.Gen.KvFwdIdeal.Value
public import proofs.«01_k».proof.Proof.Gen.KvFwdRefIdeal
public import proofs.«01_k».proof.Proof.Gen.KvFwdRefIdeal.Run
public import proofs.«01_k».proof.Proof.Gen.KvFwdRefIdeal.Read
public import proofs.«01_k».proof.Proof.KvFwd
public import proofs.«01_k».proof.Proof.Gen.KvDx
public import proofs.«01_k».proof.Proof.Gen.KvDx.Skeleton
public import proofs.«01_k».proof.Proof.Gen.KvDx.Launch
public import proofs.«01_k».proof.Proof.Gen.KvDx.Points
public import proofs.«01_k».proof.Proof.Gen.KvDx.Frame
public import proofs.«01_k».proof.Proof.Gen.KvDxIdeal
public import proofs.«01_k».proof.Proof.Gen.KvDxIdeal.Frame
public import proofs.«01_k».proof.Proof.Gen.KvDxIdeal.Value
public import proofs.«01_k».proof.Proof.Gen.KvDxRefIdeal
public import proofs.«01_k».proof.Proof.Gen.KvDxRefIdeal.Run
public import proofs.«01_k».proof.Proof.Gen.KvDxRefIdeal.Read
public import proofs.«01_k».proof.Proof.KvDx
public import proofs.«01_k».proof.Proof.Gen.KvDw
public import proofs.«01_k».proof.Proof.Gen.KvDw.Skeleton
public import proofs.«01_k».proof.Proof.Gen.KvDw.Launch
public import proofs.«01_k».proof.Proof.Gen.KvDw.Points
public import proofs.«01_k».proof.Proof.Gen.KvDw.Frame
public import proofs.«01_k».proof.Proof.Gen.KvDwIdeal
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.KvDwRefIdeal.Read
public import proofs.«01_k».proof.Proof.KvDw
public import proofs.«01_k».proof.Proof.Gen.BQFwd
public import proofs.«01_k».proof.Proof.Gen.BQFwd.Skeleton
public import proofs.«01_k».proof.Proof.Gen.BQFwd.Launch
public import proofs.«01_k».proof.Proof.Gen.BQFwd.Points
public import proofs.«01_k».proof.Proof.Gen.BQFwd.Frame
public import proofs.«01_k».proof.Proof.Gen.BQFwdIdeal
public import proofs.«01_k».proof.Proof.Gen.BQFwdIdeal.Frame
public import proofs.«01_k».proof.Proof.Gen.BQFwdIdeal.Value
public import proofs.«01_k».proof.Proof.Gen.BQFwdRefIdeal
public import proofs.«01_k».proof.Proof.Gen.BQFwdRefIdeal.Run
public import proofs.«01_k».proof.Proof.Gen.BQFwdRefIdeal.Read
public import proofs.«01_k».proof.Proof.BQFwd
public import proofs.«01_k».proof.Proof.Gen.BQDx
public import proofs.«01_k».proof.Proof.Gen.BQDx.Skeleton
public import proofs.«01_k».proof.Proof.Gen.BQDx.Launch
public import proofs.«01_k».proof.Proof.Gen.BQDx.Points
public import proofs.«01_k».proof.Proof.Gen.BQDx.Frame
public import proofs.«01_k».proof.Proof.Gen.BQDxIdeal
public import proofs.«01_k».proof.Proof.Gen.BQDxIdeal.Frame
public import proofs.«01_k».proof.Proof.Gen.BQDxIdeal.Value
public import proofs.«01_k».proof.Proof.Gen.BQDxRefIdeal
public import proofs.«01_k».proof.Proof.Gen.BQDxRefIdeal.Run
public import proofs.«01_k».proof.Proof.Gen.BQDxRefIdeal.Read
public import proofs.«01_k».proof.Proof.BQDx
public import proofs.«01_k».proof.Proof.Gen.BWoFwd
public import proofs.«01_k».proof.Proof.Gen.BWoFwd.Skeleton
public import proofs.«01_k».proof.Proof.Gen.BWoFwd.Launch
public import proofs.«01_k».proof.Proof.Gen.BWoFwd.Points
public import proofs.«01_k».proof.Proof.Gen.BWoFwd.Frame
public import proofs.«01_k».proof.Proof.Gen.BWoFwdIdeal
public import proofs.«01_k».proof.Proof.Gen.BWoFwdIdeal.Frame
public import proofs.«01_k».proof.Proof.Gen.BWoFwdIdeal.Value
public import proofs.«01_k».proof.Proof.Gen.BWoFwdRefIdeal
public import proofs.«01_k».proof.Proof.Gen.BWoFwdRefIdeal.Run
public import proofs.«01_k».proof.Proof.Gen.BWoFwdRefIdeal.Read
public import proofs.«01_k».proof.Proof.BWoFwd
public import proofs.«01_k».proof.Proof.Gen.AdamwANorm
public import proofs.«01_k».proof.Proof.Gen.AdamwANorm.Skeleton
public import proofs.«01_k».proof.Proof.Gen.AdamwANorm.Launch
public import proofs.«01_k».proof.Proof.Gen.AdamwANorm.Points
public import proofs.«01_k».proof.Proof.Gen.AdamwANorm.Frame
public import proofs.«01_k».proof.Proof.Gen.AdamwANormIdeal
public import proofs.«01_k».proof.Proof.Gen.AdamwANormIdeal.Frame
public import proofs.«01_k».proof.Proof.Gen.AdamwANormIdeal.Value
public import proofs.«01_k».proof.Proof.Gen.AdamwANormRefIdeal
public import proofs.«01_k».proof.Proof.Gen.AdamwANormRefIdeal.Run
public import proofs.«01_k».proof.Proof.Gen.AdamwANormRefIdeal.Read
public import proofs.«01_k».proof.Proof.AdamwANorm
public import proofs.«01_k».proof.Proof.Gen.Pre_chip_b_w
public import proofs.«01_k».proof.Proof.Gen.AdamwBW
public import proofs.«01_k».proof.Proof.Gen.AdamwBW.Skeleton
public import proofs.«01_k».proof.Proof.Gen.AdamwBW.Launch
public import proofs.«01_k».proof.Proof.Gen.AdamwBW.Points
public import proofs.«01_k».proof.Proof.Gen.AdamwBW.Frame
public import proofs.«01_k».proof.Proof.Gen.AdamwBWIdeal
public import proofs.«01_k».proof.Proof.Gen.AdamwBWIdeal.Frame
public import proofs.«01_k».proof.Proof.Gen.AdamwBWRefIdeal
public import proofs.«01_k».proof.Proof.Gen.AdamwBWRefIdeal.Run
public import proofs.«01_k».proof.Proof.Gen.AdamwBWRefIdeal.Read
public import proofs.«01_k».proof.Proof.AdamwBW
public import proofs.«01_k».proof.Proof.Gen.Pre_chip_w_kv
public import proofs.«01_k».proof.Proof.Gen.AdamwKv
public import proofs.«01_k».proof.Proof.Gen.AdamwKv.Skeleton
public import proofs.«01_k».proof.Proof.Gen.AdamwKv.Launch
public import proofs.«01_k».proof.Proof.Gen.AdamwKv.Points
public import proofs.«01_k».proof.Proof.Gen.AdamwKv.Frame
public import proofs.«01_k».proof.Proof.Gen.AdamwKvIdeal
public import proofs.«01_k».proof.Proof.Gen.AdamwKvIdeal.Frame
public import proofs.«01_k».proof.Proof.Gen.AdamwKvRefIdeal
public import proofs.«01_k».proof.Proof.Gen.AdamwKvRefIdeal.Run
public import proofs.«01_k».proof.Proof.Gen.AdamwKvRefIdeal.Read
public import proofs.«01_k».proof.Proof.AdamwKv
public import proofs.«01_k».proof.Proof.Gen.Pre_chip_mlp_up
public import proofs.«01_k».proof.Proof.Gen.AdamwUp
public import proofs.«01_k».proof.Proof.Gen.AdamwUp.Skeleton
public import proofs.«01_k».proof.Proof.Gen.AdamwUp.Launch
public import proofs.«01_k».proof.Proof.Gen.AdamwUp.Points
public import proofs.«01_k».proof.Proof.Gen.AdamwUp.Frame
public import proofs.«01_k».proof.Proof.Gen.AdamwUpIdeal
public import proofs.«01_k».proof.Proof.Gen.AdamwUpIdeal.Frame
public import proofs.«01_k».proof.Proof.Gen.AdamwUpRefIdeal
public import proofs.«01_k».proof.Proof.Gen.AdamwUpRefIdeal.Run
public import proofs.«01_k».proof.Proof.Gen.AdamwUpRefIdeal.Read
public import proofs.«01_k».proof.Proof.AdamwUp
public import proofs.«01_k».proof.Proof.Gen.Pre_chip_mlp_down
public import proofs.«01_k».proof.Proof.Gen.AdamwDown
public import proofs.«01_k».proof.Proof.Gen.AdamwDown.Skeleton
public import proofs.«01_k».proof.Proof.Gen.AdamwDown.Launch
public import proofs.«01_k».proof.Proof.Gen.AdamwDown.Points
public import proofs.«01_k».proof.Proof.Gen.AdamwDown.Frame
public import proofs.«01_k».proof.Proof.Gen.AdamwDownIdeal
public import proofs.«01_k».proof.Proof.Gen.AdamwDownIdeal.Frame
public import proofs.«01_k».proof.Proof.Gen.AdamwDownRefIdeal
public import proofs.«01_k».proof.Proof.Gen.AdamwDownRefIdeal.Run
public import proofs.«01_k».proof.Proof.Gen.AdamwDownRefIdeal.Read
public import proofs.«01_k».proof.Proof.AdamwDown
public import proofs.«01_k».proof.Proof.Gen.Pre_chip_a_wo
public import proofs.«01_k».proof.Proof.Gen.AdamwAWo
public import proofs.«01_k».proof.Proof.Gen.AdamwAWo.Skeleton
public import proofs.«01_k».proof.Proof.Gen.AdamwAWo.Launch
public import proofs.«01_k».proof.Proof.Gen.AdamwAWo.Points
public import proofs.«01_k».proof.Proof.Gen.AdamwAWo.Frame
public import proofs.«01_k».proof.Proof.Gen.AdamwAWoIdeal
public import proofs.«01_k».proof.Proof.Gen.AdamwAWoIdeal.Frame
public import proofs.«01_k».proof.Proof.Gen.AdamwAWoRefIdeal
public import proofs.«01_k».proof.Proof.Gen.AdamwAWoRefIdeal.Run
public import proofs.«01_k».proof.Proof.Gen.AdamwAWoRefIdeal.Read
public import proofs.«01_k».proof.Proof.AdamwAWo
public import proofs.«01_k».proof.Proof.Gen.Pre_chip_a_wqkv
public import proofs.«01_k».proof.Proof.Gen.AdamwQkv
public import proofs.«01_k».proof.Proof.Gen.AdamwQkv.Skeleton
public import proofs.«01_k».proof.Proof.Gen.AdamwQkv.Launch
public import proofs.«01_k».proof.Proof.Gen.AdamwQkv.Points
public import proofs.«01_k».proof.Proof.Gen.AdamwQkv.Frame
public import proofs.«01_k».proof.Proof.Gen.AdamwQkvIdeal
public import proofs.«01_k».proof.Proof.Gen.AdamwQkvIdeal.Frame
public import proofs.«01_k».proof.Proof.Gen.AdamwQkvRefIdeal
public import proofs.«01_k».proof.Proof.Gen.AdamwQkvRefIdeal.Run
public import proofs.«01_k».proof.Proof.Gen.AdamwQkvRefIdeal.Read
public import proofs.«01_k».proof.Proof.AdamwQkv

@[expose] public section

noncomputable section

namespace Cert.Proof

open Idealize.ShloMosaic Idealize.ShloMosaic.TcCoe Idealize.SL.Sem

theorem frame_kernel : Cert.quiescent_Kernel (hKernel := Cert.Kernel.Gen.facts) := fun m ρ _ =>
  WordRun.frame (F := Bits) m ρ

theorem frame_ideal : Cert.quiescent_KernelIdeal (hKernelIdeal := Cert.KernelIdeal.Gen.facts) := fun m ρ _ =>
  Run.frame (F := Ideal) m ρ

theorem claim : Cert.Claim :=
  ⟨Cert.Kernel.Gen.facts,
    Cert.KernelIdeal.Gen.facts,
    Cert.UpFwd.Gen.facts,
    Cert.UpFwdIdeal.Gen.facts,
    Cert.UpFwdRefIdeal.Gen.facts,
    Cert.DownFwd.Gen.facts,
    Cert.DownFwdIdeal.Gen.facts,
    Cert.DownFwdRefIdeal.Gen.facts,
    Cert.DownDx.Gen.facts,
    Cert.DownDxIdeal.Gen.facts,
    Cert.DownDxRefIdeal.Gen.facts,
    Cert.DownDw.Gen.facts,
    Cert.DownDwIdeal.Gen.facts,
    Cert.DownDwRefIdeal.Gen.facts,
    Cert.UpDx.Gen.facts,
    Cert.UpDxIdeal.Gen.facts,
    Cert.UpDxRefIdeal.Gen.facts,
    Cert.UpDw.Gen.facts,
    Cert.UpDwIdeal.Gen.facts,
    Cert.UpDwRefIdeal.Gen.facts,
    Cert.AQkvFwd.Gen.facts,
    Cert.AQkvFwdIdeal.Gen.facts,
    Cert.AQkvFwdRefIdeal.Gen.facts,
    Cert.AWoFwd.Gen.facts,
    Cert.AWoFwdIdeal.Gen.facts,
    Cert.AWoFwdRefIdeal.Gen.facts,
    Cert.AWoDx.Gen.facts,
    Cert.AWoDxIdeal.Gen.facts,
    Cert.AWoDxRefIdeal.Gen.facts,
    Cert.AWoDw.Gen.facts,
    Cert.AWoDwIdeal.Gen.facts,
    Cert.AWoDwRefIdeal.Gen.facts,
    Cert.AQkvDx.Gen.facts,
    Cert.AQkvDxIdeal.Gen.facts,
    Cert.AQkvDxRefIdeal.Gen.facts,
    Cert.AQkvDw.Gen.facts,
    Cert.AQkvDwIdeal.Gen.facts,
    Cert.AQkvDwRefIdeal.Gen.facts,
    Cert.KvFwd.Gen.facts,
    Cert.KvFwdIdeal.Gen.facts,
    Cert.KvFwdRefIdeal.Gen.facts,
    Cert.KvDx.Gen.facts,
    Cert.KvDxIdeal.Gen.facts,
    Cert.KvDxRefIdeal.Gen.facts,
    Cert.KvDw.Gen.facts,
    Cert.KvDwIdeal.Gen.facts,
    Cert.KvDwRefIdeal.Gen.facts,
    Cert.BQFwd.Gen.facts,
    Cert.BQFwdIdeal.Gen.facts,
    Cert.BQFwdRefIdeal.Gen.facts,
    Cert.BQDx.Gen.facts,
    Cert.BQDxIdeal.Gen.facts,
    Cert.BQDxRefIdeal.Gen.facts,
    Cert.BWoFwd.Gen.facts,
    Cert.BWoFwdIdeal.Gen.facts,
    Cert.BWoFwdRefIdeal.Gen.facts,
    Cert.AdamwANorm.Gen.facts,
    Cert.AdamwANormIdeal.Gen.facts,
    Cert.AdamwANormRefIdeal.Gen.facts,
    Cert.AdamwBW.Gen.facts,
    Cert.AdamwBWIdeal.Gen.facts,
    Cert.AdamwBWRefIdeal.Gen.facts,
    Cert.AdamwKv.Gen.facts,
    Cert.AdamwKvIdeal.Gen.facts,
    Cert.AdamwKvRefIdeal.Gen.facts,
    Cert.AdamwUp.Gen.facts,
    Cert.AdamwUpIdeal.Gen.facts,
    Cert.AdamwUpRefIdeal.Gen.facts,
    Cert.AdamwDown.Gen.facts,
    Cert.AdamwDownIdeal.Gen.facts,
    Cert.AdamwDownRefIdeal.Gen.facts,
    Cert.AdamwAWo.Gen.facts,
    Cert.AdamwAWoIdeal.Gen.facts,
    Cert.AdamwAWoRefIdeal.Gen.facts,
    Cert.AdamwQkv.Gen.facts,
    Cert.AdamwQkvIdeal.Gen.facts,
    Cert.AdamwQkvRefIdeal.Gen.facts,
    Cert.Pre_chip_b_w.Gen.facts,
    Cert.Pre_chip_w_kv.Gen.facts,
    Cert.Pre_chip_mlp_up.Gen.facts,
    Cert.Pre_chip_mlp_down.Gen.facts,
    Cert.Pre_chip_a_wo.Gen.facts,
    Cert.Pre_chip_a_wqkv.Gen.facts,
    frame_kernel,
    frame_ideal,
    UpFwd.frame,
    UpFwd.frame_ideal,
    UpFwd.frame_ref,
    DownFwd.frame,
    DownFwd.frame_ideal,
    DownFwd.frame_ref,
    DownDx.frame,
    DownDx.frame_ideal,
    DownDx.frame_ref,
    DownDw.frame,
    DownDw.frame_ideal,
    DownDw.frame_ref,
    UpDx.frame,
    UpDx.frame_ideal,
    UpDx.frame_ref,
    UpDw.frame,
    UpDw.frame_ideal,
    UpDw.frame_ref,
    AQkvFwd.frame,
    AQkvFwd.frame_ideal,
    AQkvFwd.frame_ref,
    AWoFwd.frame,
    AWoFwd.frame_ideal,
    AWoFwd.frame_ref,
    AWoDx.frame,
    AWoDx.frame_ideal,
    AWoDx.frame_ref,
    AWoDw.frame,
    AWoDw.frame_ideal,
    AWoDw.frame_ref,
    AQkvDx.frame,
    AQkvDx.frame_ideal,
    AQkvDx.frame_ref,
    AQkvDw.frame,
    AQkvDw.frame_ideal,
    AQkvDw.frame_ref,
    KvFwd.frame,
    KvFwd.frame_ideal,
    KvFwd.frame_ref,
    KvDx.frame,
    KvDx.frame_ideal,
    KvDx.frame_ref,
    KvDw.frame,
    KvDw.frame_ideal,
    KvDw.frame_ref,
    BQFwd.frame,
    BQFwd.frame_ideal,
    BQFwd.frame_ref,
    BQDx.frame,
    BQDx.frame_ideal,
    BQDx.frame_ref,
    BWoFwd.frame,
    BWoFwd.frame_ideal,
    BWoFwd.frame_ref,
    AdamwANorm.frame,
    AdamwANorm.frame_ideal,
    AdamwANorm.frame_ref,
    AdamwBW.frame,
    AdamwBW.frame_ideal,
    AdamwBW.frame_ref,
    AdamwBW.frame_ref_pre,
    AdamwKv.frame,
    AdamwKv.frame_ideal,
    AdamwKv.frame_ref,
    AdamwKv.frame_ref_pre,
    AdamwUp.frame,
    AdamwUp.frame_ideal,
    AdamwUp.frame_ref,
    AdamwUp.frame_ref_pre,
    AdamwDown.frame,
    AdamwDown.frame_ideal,
    AdamwDown.frame_ref,
    AdamwDown.frame_ref_pre,
    AdamwAWo.frame,
    AdamwAWo.frame_ideal,
    AdamwAWo.frame_ref,
    AdamwAWo.frame_ref_pre,
    AdamwQkv.frame,
    AdamwQkv.frame_ideal,
    AdamwQkv.frame_ref,
    AdamwQkv.frame_ref_pre,
    trivial,
    trivial,
    UpFwd.algebraic,
    trivial,
    DownFwd.algebraic,
    trivial,
    DownDx.algebraic,
    trivial,
    DownDw.algebraic,
    trivial,
    UpDx.algebraic,
    trivial,
    UpDw.algebraic,
    trivial,
    AQkvFwd.algebraic,
    trivial,
    AWoFwd.algebraic,
    trivial,
    AWoDx.algebraic,
    trivial,
    AWoDw.algebraic,
    trivial,
    AQkvDx.algebraic,
    trivial,
    AQkvDw.algebraic,
    trivial,
    KvFwd.algebraic,
    trivial,
    KvDx.algebraic,
    trivial,
    KvDw.algebraic,
    trivial,
    BQFwd.algebraic,
    trivial,
    BQDx.algebraic,
    trivial,
    BWoFwd.algebraic,
    trivial,
    AdamwANorm.algebraic,
    trivial,
    AdamwBW.algebraic,
    trivial,
    AdamwKv.algebraic,
    trivial,
    AdamwUp.algebraic,
    trivial,
    AdamwDown.algebraic,
    trivial,
    AdamwAWo.algebraic,
    trivial,
    AdamwQkv.algebraic⟩

end Cert.Proof
